-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel26 [hPre_owner_is_a_device26 : Cert.Pre_owner_is_a_device26.Facts] (m : (ℓ : Loc Cert.Kernel26.nD Cert.Kernel26.τ Cert.Kernel26.sig) → Buf (Elt Bits) ℓ) : Prop :=
  ∀ c : Dev Cert.Kernel26.nD,
    (Cert.Pre_owner_is_a_device26.fn (F := Bits) (m ((c.tc : Thread Cert.Kernel26.nD Cert.Kernel26.τ).loc Cert.Kernel26.main_arg0)) (m ((c.tc : Thread Cert.Kernel26.nD Cert.Kernel26.τ).loc Cert.Kernel26.main_arg1)) (m ((c.tc : Thread Cert.Kernel26.nD Cert.Kernel26.τ).loc Cert.Kernel26.main_arg2)) (m ((c.tc : Thread Cert.Kernel26.nD Cert.Kernel26.τ).loc Cert.Kernel26.main_arg3)) (m ((c.tc : Thread Cert.Kernel26.nD Cert.Kernel26.τ).loc Cert.Kernel26.main_arg4)) (m ((c.tc : Thread Cert.Kernel26.nD Cert.Kernel26.τ).loc Cert.Kernel26.main_arg5))) = (fun _ => 1#1)

def Pre_Kernel26Ideal [hPre_owner_is_a_device26 : Cert.Pre_owner_is_a_device26.Facts] (m : (ℓ : Loc Cert.Kernel26Ideal.nD Cert.Kernel26Ideal.τ Cert.Kernel26Ideal.sig) → Buf (Elt Ideal) ℓ) : Prop :=
  ∀ c : Dev Cert.Kernel26Ideal.nD,
    (Cert.Pre_owner_is_a_device26.fn (F := Ideal) (m ((c.tc : Thread Cert.Kernel26Ideal.nD Cert.Kernel26Ideal.τ).loc Cert.Kernel26Ideal.main_arg0)) (m ((c.tc : Thread Cert.Kernel26Ideal.nD Cert.Kernel26Ideal.τ).loc Cert.Kernel26Ideal.main_arg1)) (m ((c.tc : Thread Cert.Kernel26Ideal.nD Cert.Kernel26Ideal.τ).loc Cert.Kernel26Ideal.main_arg2)) (m ((c.tc : Thread Cert.Kernel26Ideal.nD Cert.Kernel26Ideal.τ).loc Cert.Kernel26Ideal.main_arg3)) (m ((c.tc : Thread Cert.Kernel26Ideal.nD Cert.Kernel26Ideal.τ).loc Cert.Kernel26Ideal.main_arg4)) (m ((c.tc : Thread Cert.Kernel26Ideal.nD Cert.Kernel26Ideal.τ).loc Cert.Kernel26Ideal.main_arg5))) = (fun _ => 1#1)

def Pre_Reference26Ideal (m : (ℓ : Loc Cert.Reference26Ideal.nD Cert.Reference26Ideal.τ Cert.Reference26Ideal.sig) → Buf (Elt Ideal) ℓ) : Prop :=
  True

def Pre_Reference26Ideal_owner_is_a_device26 [hPre_owner_is_a_device26 : Cert.Pre_owner_is_a_device26.Facts] (m : (ℓ : Loc Cert.Reference26Ideal.nD Cert.Reference26Ideal.τ Cert.Reference26Ideal.sig) → Buf (Elt Ideal) ℓ) : Prop :=
  ∀ c : Dev Cert.Reference26Ideal.nD,
    (Cert.Pre_owner_is_a_device26.fn (F := Ideal) (m ((c.tc : Thread Cert.Reference26Ideal.nD Cert.Reference26Ideal.τ).loc Cert.Reference26Ideal.main_arg0)) (m ((c.tc : Thread Cert.Reference26Ideal.nD Cert.Reference26Ideal.τ).loc Cert.Reference26Ideal.main_arg1)) (m ((c.tc : Thread Cert.Reference26Ideal.nD Cert.Reference26Ideal.τ).loc Cert.Reference26Ideal.main_arg2)) (m ((c.tc : Thread Cert.Reference26Ideal.nD Cert.Reference26Ideal.τ).loc Cert.Reference26Ideal.main_arg3)) (m ((c.tc : Thread Cert.Reference26Ideal.nD Cert.Reference26Ideal.τ).loc Cert.Reference26Ideal.main_arg4)) (m ((c.tc : Thread Cert.Reference26Ideal.nD Cert.Reference26Ideal.τ).loc Cert.Reference26Ideal.main_arg5))) = (fun _ => 1#1)

def Pre_Kernel27 [hPre_owner_is_a_device27 : Cert.Pre_owner_is_a_device27.Facts] (m : (ℓ : Loc Cert.Kernel27.nD Cert.Kernel27.τ Cert.Kernel27.sig) → Buf (Elt Bits) ℓ) : Prop :=
  ∀ c : Dev Cert.Kernel27.nD,
    (Cert.Pre_owner_is_a_device27.fn (F := Bits) (m ((c.tc : Thread Cert.Kernel27.nD Cert.Kernel27.τ).loc Cert.Kernel27.main_arg0)) (m ((c.tc : Thread Cert.Kernel27.nD Cert.Kernel27.τ).loc Cert.Kernel27.main_arg1)) (m ((c.tc : Thread Cert.Kernel27.nD Cert.Kernel27.τ).loc Cert.Kernel27.main_arg2)) (m ((c.tc : Thread Cert.Kernel27.nD Cert.Kernel27.τ).loc Cert.Kernel27.main_arg3)) (m ((c.tc : Thread Cert.Kernel27.nD Cert.Kernel27.τ).loc Cert.Kernel27.main_arg4)) (m ((c.tc : Thread Cert.Kernel27.nD Cert.Kernel27.τ).loc Cert.Kernel27.main_arg5))) = (fun _ => 1#1)

def Pre_Kernel27Ideal [hPre_owner_is_a_device27 : Cert.Pre_owner_is_a_device27.Facts] (m : (ℓ : Loc Cert.Kernel27Ideal.nD Cert.Kernel27Ideal.τ Cert.Kernel27Ideal.sig) → Buf (Elt Ideal) ℓ) : Prop :=
  ∀ c : Dev Cert.Kernel27Ideal.nD,
    (Cert.Pre_owner_is_a_device27.fn (F := Ideal) (m ((c.tc : Thread Cert.Kernel27Ideal.nD Cert.Kernel27Ideal.τ).loc Cert.Kernel27Ideal.main_arg0)) (m ((c.tc : Thread Cert.Kernel27Ideal.nD Cert.Kernel27Ideal.τ).loc Cert.Kernel27Ideal.main_arg1)) (m ((c.tc : Thread Cert.Kernel27Ideal.nD Cert.Kernel27Ideal.τ).loc Cert.Kernel27Ideal.main_arg2)) (m ((c.tc : Thread Cert.Kernel27Ideal.nD Cert.Kernel27Ideal.τ).loc Cert.Kernel27Ideal.main_arg3)) (m ((c.tc : Thread Cert.Kernel27Ideal.nD Cert.Kernel27Ideal.τ).loc Cert.Kernel27Ideal.main_arg4)) (m ((c.tc : Thread Cert.Kernel27Ideal.nD Cert.Kernel27Ideal.τ).loc Cert.Kernel27Ideal.main_arg5))) = (fun _ => 1#1)

def Pre_Reference27Ideal (m : (ℓ : Loc Cert.Reference27Ideal.nD Cert.Reference27Ideal.τ Cert.Reference27Ideal.sig) → Buf (Elt Ideal) ℓ) : Prop :=
  True

def Pre_Reference27Ideal_owner_is_a_device27 [hPre_owner_is_a_device27 : Cert.Pre_owner_is_a_device27.Facts] (m : (ℓ : Loc Cert.Reference27Ideal.nD Cert.Reference27Ideal.τ Cert.Reference27Ideal.sig) → Buf (Elt Ideal) ℓ) : Prop :=
  ∀ c : Dev Cert.Reference27Ideal.nD,
    (Cert.Pre_owner_is_a_device27.fn (F := Ideal) (m ((c.tc : Thread Cert.Reference27Ideal.nD Cert.Reference27Ideal.τ).loc Cert.Reference27Ideal.main_arg0)) (m ((c.tc : Thread Cert.Reference27Ideal.nD Cert.Reference27Ideal.τ).loc Cert.Reference27Ideal.main_arg1)) (m ((c.tc : Thread Cert.Reference27Ideal.nD Cert.Reference27Ideal.τ).loc Cert.Reference27Ideal.main_arg2)) (m ((c.tc : Thread Cert.Reference27Ideal.nD Cert.Reference27Ideal.τ).loc Cert.Reference27Ideal.main_arg3)) (m ((c.tc : Thread Cert.Reference27Ideal.nD Cert.Reference27Ideal.τ).loc Cert.Reference27Ideal.main_arg4)) (m ((c.tc : Thread Cert.Reference27Ideal.nD Cert.Reference27Ideal.τ).loc Cert.Reference27Ideal.main_arg5))) = (fun _ => 1#1)

def Pre_Kernel28 [hPre_owner_is_a_device28 : Cert.Pre_owner_is_a_device28.Facts] (m : (ℓ : Loc Cert.Kernel28.nD Cert.Kernel28.τ Cert.Kernel28.sig) → Buf (Elt Bits) ℓ) : Prop :=
  ∀ c : Dev Cert.Kernel28.nD,
    (Cert.Pre_owner_is_a_device28.fn (F := Bits) (m ((c.tc : Thread Cert.Kernel28.nD Cert.Kernel28.τ).loc Cert.Kernel28.main_arg0)) (m ((c.tc : Thread Cert.Kernel28.nD Cert.Kernel28.τ).loc Cert.Kernel28.main_arg1)) (m ((c.tc : Thread Cert.Kernel28.nD Cert.Kernel28.τ).loc Cert.Kernel28.main_arg2)) (m ((c.tc : Thread Cert.Kernel28.nD Cert.Kernel28.τ).loc Cert.Kernel28.main_arg3)) (m ((c.tc : Thread Cert.Kernel28.nD Cert.Kernel28.τ).loc Cert.Kernel28.main_arg4)) (m ((c.tc : Thread Cert.Kernel28.nD Cert.Kernel28.τ).loc Cert.Kernel28.main_arg5))) = (fun _ => 1#1)

def Pre_Kernel28Ideal [hPre_owner_is_a_device28 : Cert.Pre_owner_is_a_device28.Facts] (m : (ℓ : Loc Cert.Kernel28Ideal.nD Cert.Kernel28Ideal.τ Cert.Kernel28Ideal.sig) → Buf (Elt Ideal) ℓ) : Prop :=
  ∀ c : Dev Cert.Kernel28Ideal.nD,
    (Cert.Pre_owner_is_a_device28.fn (F := Ideal) (m ((c.tc : Thread Cert.Kernel28Ideal.nD Cert.Kernel28Ideal.τ).loc Cert.Kernel28Ideal.main_arg0)) (m ((c.tc : Thread Cert.Kernel28Ideal.nD Cert.Kernel28Ideal.τ).loc Cert.Kernel28Ideal.main_arg1)) (m ((c.tc : Thread Cert.Kernel28Ideal.nD Cert.Kernel28Ideal.τ).loc Cert.Kernel28Ideal.main_arg2)) (m ((c.tc : Thread Cert.Kernel28Ideal.nD Cert.Kernel28Ideal.τ).loc Cert.Kernel28Ideal.main_arg3)) (m ((c.tc : Thread Cert.Kernel28Ideal.nD Cert.Kernel28Ideal.τ).loc Cert.Kernel28Ideal.main_arg4)) (m ((c.tc : Thread Cert.Kernel28Ideal.nD Cert.Kernel28Ideal.τ).loc Cert.Kernel28Ideal.main_arg5))) = (fun _ => 1#1)

def Pre_Reference28Ideal (m : (ℓ : Loc Cert.Reference28Ideal.nD Cert.Reference28Ideal.τ Cert.Reference28Ideal.sig) → Buf (Elt Ideal) ℓ) : Prop :=
  True

def Pre_Reference28Ideal_owner_is_a_device28 [hPre_owner_is_a_device28 : Cert.Pre_owner_is_a_device28.Facts] (m : (ℓ : Loc Cert.Reference28Ideal.nD Cert.Reference28Ideal.τ Cert.Reference28Ideal.sig) → Buf (Elt Ideal) ℓ) : Prop :=
  ∀ c : Dev Cert.Reference28Ideal.nD,
    (Cert.Pre_owner_is_a_device28.fn (F := Ideal) (m ((c.tc : Thread Cert.Reference28Ideal.nD Cert.Reference28Ideal.τ).loc Cert.Reference28Ideal.main_arg0)) (m ((c.tc : Thread Cert.Reference28Ideal.nD Cert.Reference28Ideal.τ).loc Cert.Reference28Ideal.main_arg1)) (m ((c.tc : Thread Cert.Reference28Ideal.nD Cert.Reference28Ideal.τ).loc Cert.Reference28Ideal.main_arg2)) (m ((c.tc : Thread Cert.Reference28Ideal.nD Cert.Reference28Ideal.τ).loc Cert.Reference28Ideal.main_arg3)) (m ((c.tc : Thread Cert.Reference28Ideal.nD Cert.Reference28Ideal.τ).loc Cert.Reference28Ideal.main_arg4)) (m ((c.tc : Thread Cert.Reference28Ideal.nD Cert.Reference28Ideal.τ).loc Cert.Reference28Ideal.main_arg5))) = (fun _ => 1#1)

def Pre_Kernel29 [hPre_owner_is_a_device29 : Cert.Pre_owner_is_a_device29.Facts] (m : (ℓ : Loc Cert.Kernel29.nD Cert.Kernel29.τ Cert.Kernel29.sig) → Buf (Elt Bits) ℓ) : Prop :=
  ∀ c : Dev Cert.Kernel29.nD,
    (Cert.Pre_owner_is_a_device29.fn (F := Bits) (m ((c.tc : Thread Cert.Kernel29.nD Cert.Kernel29.τ).loc Cert.Kernel29.main_arg0)) (m ((c.tc : Thread Cert.Kernel29.nD Cert.Kernel29.τ).loc Cert.Kernel29.main_arg1)) (m ((c.tc : Thread Cert.Kernel29.nD Cert.Kernel29.τ).loc Cert.Kernel29.main_arg2)) (m ((c.tc : Thread Cert.Kernel29.nD Cert.Kernel29.τ).loc Cert.Kernel29.main_arg3)) (m ((c.tc : Thread Cert.Kernel29.nD Cert.Kernel29.τ).loc Cert.Kernel29.main_arg4)) (m ((c.tc : Thread Cert.Kernel29.nD Cert.Kernel29.τ).loc Cert.Kernel29.main_arg5))) = (fun _ => 1#1)

def Pre_Kernel29Ideal [hPre_owner_is_a_device29 : Cert.Pre_owner_is_a_device29.Facts] (m : (ℓ : Loc Cert.Kernel29Ideal.nD Cert.Kernel29Ideal.τ Cert.Kernel29Ideal.sig) → Buf (Elt Ideal) ℓ) : Prop :=
  ∀ c : Dev Cert.Kernel29Ideal.nD,
    (Cert.Pre_owner_is_a_device29.fn (F := Ideal) (m ((c.tc : Thread Cert.Kernel29Ideal.nD Cert.Kernel29Ideal.τ).loc Cert.Kernel29Ideal.main_arg0)) (m ((c.tc : Thread Cert.Kernel29Ideal.nD Cert.Kernel29Ideal.τ).loc Cert.Kernel29Ideal.main_arg1)) (m ((c.tc : Thread Cert.Kernel29Ideal.nD Cert.Kernel29Ideal.τ).loc Cert.Kernel29Ideal.main_arg2)) (m ((c.tc : Thread Cert.Kernel29Ideal.nD Cert.Kernel29Ideal.τ).loc Cert.Kernel29Ideal.main_arg3)) (m ((c.tc : Thread Cert.Kernel29Ideal.nD Cert.Kernel29Ideal.τ).loc Cert.Kernel29Ideal.main_arg4)) (m ((c.tc : Thread Cert.Kernel29Ideal.nD Cert.Kernel29Ideal.τ).loc Cert.Kernel29Ideal.main_arg5))) = (fun _ => 1#1)

def Pre_Reference29Ideal (m : (ℓ : Loc Cert.Reference29Ideal.nD Cert.Reference29Ideal.τ Cert.Reference29Ideal.sig) → Buf (Elt Ideal) ℓ) : Prop :=
  True

def Pre_Reference29Ideal_owner_is_a_device29 [hPre_owner_is_a_device29 : Cert.Pre_owner_is_a_device29.Facts] (m : (ℓ : Loc Cert.Reference29Ideal.nD Cert.Reference29Ideal.τ Cert.Reference29Ideal.sig) → Buf (Elt Ideal) ℓ) : Prop :=
  ∀ c : Dev Cert.Reference29Ideal.nD,
    (Cert.Pre_owner_is_a_device29.fn (F := Ideal) (m ((c.tc : Thread Cert.Reference29Ideal.nD Cert.Reference29Ideal.τ).loc Cert.Reference29Ideal.main_arg0)) (m ((c.tc : Thread Cert.Reference29Ideal.nD Cert.Reference29Ideal.τ).loc Cert.Reference29Ideal.main_arg1)) (m ((c.tc : Thread Cert.Reference29Ideal.nD Cert.Reference29Ideal.τ).loc Cert.Reference29Ideal.main_arg2)) (m ((c.tc : Thread Cert.Reference29Ideal.nD Cert.Reference29Ideal.τ).loc Cert.Reference29Ideal.main_arg3)) (m ((c.tc : Thread Cert.Reference29Ideal.nD Cert.Reference29Ideal.τ).loc Cert.Reference29Ideal.main_arg4)) (m ((c.tc : Thread Cert.Reference29Ideal.nD Cert.Reference29Ideal.τ).loc Cert.Reference29Ideal.main_arg5))) = (fun _ => 1#1)

def Pre_Kernel30 [hPre_owner_is_a_device30 : Cert.Pre_owner_is_a_device30.Facts] (m : (ℓ : Loc Cert.Kernel30.nD Cert.Kernel30.τ Cert.Kernel30.sig) → Buf (Elt Bits) ℓ) : Prop :=
  ∀ c : Dev Cert.Kernel30.nD,
    (Cert.Pre_owner_is_a_device30.fn (F := Bits) (m ((c.tc : Thread Cert.Kernel30.nD Cert.Kernel30.τ).loc Cert.Kernel30.main_arg0)) (m ((c.tc : Thread Cert.Kernel30.nD Cert.Kernel30.τ).loc Cert.Kernel30.main_arg1)) (m ((c.tc : Thread Cert.Kernel30.nD Cert.Kernel30.τ).loc Cert.Kernel30.main_arg2)) (m ((c.tc : Thread Cert.Kernel30.nD Cert.Kernel30.τ).loc Cert.Kernel30.main_arg3)) (m ((c.tc : Thread Cert.Kernel30.nD Cert.Kernel30.τ).loc Cert.Kernel30.main_arg4)) (m ((c.tc : Thread Cert.Kernel30.nD Cert.Kernel30.τ).loc Cert.Kernel30.main_arg5))) = (fun _ => 1#1)

def Pre_Kernel30Ideal [hPre_owner_is_a_device30 : Cert.Pre_owner_is_a_device30.Facts] (m : (ℓ : Loc Cert.Kernel30Ideal.nD Cert.Kernel30Ideal.τ Cert.Kernel30Ideal.sig) → Buf (Elt Ideal) ℓ) : Prop :=
  ∀ c : Dev Cert.Kernel30Ideal.nD,
    (Cert.Pre_owner_is_a_device30.fn (F := Ideal) (m ((c.tc : Thread Cert.Kernel30Ideal.nD Cert.Kernel30Ideal.τ).loc Cert.Kernel30Ideal.main_arg0)) (m ((c.tc : Thread Cert.Kernel30Ideal.nD Cert.Kernel30Ideal.τ).loc Cert.Kernel30Ideal.main_arg1)) (m ((c.tc : Thread Cert.Kernel30Ideal.nD Cert.Kernel30Ideal.τ).loc Cert.Kernel30Ideal.main_arg2)) (m ((c.tc : Thread Cert.Kernel30Ideal.nD Cert.Kernel30Ideal.τ).loc Cert.Kernel30Ideal.main_arg3)) (m ((c.tc : Thread Cert.Kernel30Ideal.nD Cert.Kernel30Ideal.τ).loc Cert.Kernel30Ideal.main_arg4)) (m ((c.tc : Thread Cert.Kernel30Ideal.nD Cert.Kernel30Ideal.τ).loc Cert.Kernel30Ideal.main_arg5))) = (fun _ => 1#1)

def Pre_Reference30Ideal (m : (ℓ : Loc Cert.Reference30Ideal.nD Cert.Reference30Ideal.τ Cert.Reference30Ideal.sig) → Buf (Elt Ideal) ℓ) : Prop :=
  True

def Pre_Reference30Ideal_owner_is_a_device30 [hPre_owner_is_a_device30 : Cert.Pre_owner_is_a_device30.Facts] (m : (ℓ : Loc Cert.Reference30Ideal.nD Cert.Reference30Ideal.τ Cert.Reference30Ideal.sig) → Buf (Elt Ideal) ℓ) : Prop :=
  ∀ c : Dev Cert.Reference30Ideal.nD,
    (Cert.Pre_owner_is_a_device30.fn (F := Ideal) (m ((c.tc : Thread Cert.Reference30Ideal.nD Cert.Reference30Ideal.τ).loc Cert.Reference30Ideal.main_arg0)) (m ((c.tc : Thread Cert.Reference30Ideal.nD Cert.Reference30Ideal.τ).loc Cert.Reference30Ideal.main_arg1)) (m ((c.tc : Thread Cert.Reference30Ideal.nD Cert.Reference30Ideal.τ).loc Cert.Reference30Ideal.main_arg2)) (m ((c.tc : Thread Cert.Reference30Ideal.nD Cert.Reference30Ideal.τ).loc Cert.Reference30Ideal.main_arg3)) (m ((c.tc : Thread Cert.Reference30Ideal.nD Cert.Reference30Ideal.τ).loc Cert.Reference30Ideal.main_arg4)) (m ((c.tc : Thread Cert.Reference30Ideal.nD Cert.Reference30Ideal.τ).loc Cert.Reference30Ideal.main_arg5))) = (fun _ => 1#1)

def Pre_Kernel34 (m : (ℓ : Loc Cert.Kernel34.nD Cert.Kernel34.τ Cert.Kernel34.sig) → Buf (Elt Bits) ℓ) : Prop :=
  True

def Pre_Kernel34Ideal (m : (ℓ : Loc Cert.Kernel34Ideal.nD Cert.Kernel34Ideal.τ Cert.Kernel34Ideal.sig) → Buf (Elt Ideal) ℓ) : Prop :=
  True

def Pre_Reference34Ideal (m : (ℓ : Loc Cert.Reference34Ideal.nD Cert.Reference34Ideal.τ Cert.Reference34Ideal.sig) → Buf (Elt Ideal) ℓ) : Prop :=
  True

def Pre_Kernel36 (m : (ℓ : Loc Cert.Kernel36.nD Cert.Kernel36.τ Cert.Kernel36.sig) → Buf (Elt Bits) ℓ) : Prop :=
  True

def Pre_Kernel36Ideal (m : (ℓ : Loc Cert.Kernel36Ideal.nD Cert.Kernel36Ideal.τ Cert.Kernel36Ideal.sig) → Buf (Elt Ideal) ℓ) : Prop :=
  True

def Pre_Reference36Ideal (m : (ℓ : Loc Cert.Reference36Ideal.nD Cert.Reference36Ideal.τ Cert.Reference36Ideal.sig) → Buf (Elt Ideal) ℓ) : Prop :=
  True

def Pre_Kernel37 (m : (ℓ : Loc Cert.Kernel37.nD Cert.Kernel37.τ Cert.Kernel37.sig) → Buf (Elt Bits) ℓ) : Prop :=
  True

def Pre_Kernel37Ideal (m : (ℓ : Loc Cert.Kernel37Ideal.nD Cert.Kernel37Ideal.τ Cert.Kernel37Ideal.sig) → Buf (Elt Ideal) ℓ) : Prop :=
  True

def Pre_Reference37Ideal (m : (ℓ : Loc Cert.Reference37Ideal.nD Cert.Reference37Ideal.τ Cert.Reference37Ideal.sig) → Buf (Elt Ideal) ℓ) : Prop :=
  True

def Pre_Kernel38 (m : (ℓ : Loc Cert.Kernel38.nD Cert.Kernel38.τ Cert.Kernel38.sig) → Buf (Elt Bits) ℓ) : Prop :=
  True

def Pre_Kernel38Ideal (m : (ℓ : Loc Cert.Kernel38Ideal.nD Cert.Kernel38Ideal.τ Cert.Kernel38Ideal.sig) → Buf (Elt Ideal) ℓ) : Prop :=
  True

def Pre_Reference38Ideal (m : (ℓ : Loc Cert.Reference38Ideal.nD Cert.Reference38Ideal.τ Cert.Reference38Ideal.sig) → Buf (Elt Ideal) ℓ) : Prop :=
  True

def Pre_Kernel39 (m : (ℓ : Loc Cert.Kernel39.nD Cert.Kernel39.τ Cert.Kernel39.sig) → Buf (Elt Bits) ℓ) : Prop :=
  True

def Pre_Kernel39Ideal (m : (ℓ : Loc Cert.Kernel39Ideal.nD Cert.Kernel39Ideal.τ Cert.Kernel39Ideal.sig) → Buf (Elt Ideal) ℓ) : Prop :=
  True

def Pre_Reference39Ideal (m : (ℓ : Loc Cert.Reference39Ideal.nD Cert.Reference39Ideal.τ Cert.Reference39Ideal.sig) → Buf (Elt Ideal) ℓ) : Prop :=
  True

def Pre_Kernel40 (m : (ℓ : Loc Cert.Kernel40.nD Cert.Kernel40.τ Cert.Kernel40.sig) → Buf (Elt Bits) ℓ) : Prop :=
  True

def Pre_Kernel40Ideal (m : (ℓ : Loc Cert.Kernel40Ideal.nD Cert.Kernel40Ideal.τ Cert.Kernel40Ideal.sig) → Buf (Elt Ideal) ℓ) : Prop :=
  True

def Pre_Reference40Ideal (m : (ℓ : Loc Cert.Reference40Ideal.nD Cert.Reference40Ideal.τ Cert.Reference40Ideal.sig) → Buf (Elt Ideal) ℓ) : Prop :=
  True

def Pre_Kernel41 (m : (ℓ : Loc Cert.Kernel41.nD Cert.Kernel41.τ Cert.Kernel41.sig) → Buf (Elt Bits) ℓ) : Prop :=
  True

def Pre_Kernel41Ideal (m : (ℓ : Loc Cert.Kernel41Ideal.nD Cert.Kernel41Ideal.τ Cert.Kernel41Ideal.sig) → Buf (Elt Ideal) ℓ) : Prop :=
  True

def Pre_Reference41Ideal (m : (ℓ : Loc Cert.Reference41Ideal.nD Cert.Reference41Ideal.τ Cert.Reference41Ideal.sig) → Buf (Elt Ideal) ℓ) : Prop :=
  True

def Pre_Kernel42 (m : (ℓ : Loc Cert.Kernel42.nD Cert.Kernel42.τ Cert.Kernel42.sig) → Buf (Elt Bits) ℓ) : Prop :=
  True

def Pre_Kernel42Ideal (m : (ℓ : Loc Cert.Kernel42Ideal.nD Cert.Kernel42Ideal.τ Cert.Kernel42Ideal.sig) → Buf (Elt Ideal) ℓ) : Prop :=
  True

def Pre_Reference42Ideal (m : (ℓ : Loc Cert.Reference42Ideal.nD Cert.Reference42Ideal.τ Cert.Reference42Ideal.sig) → Buf (Elt Ideal) ℓ) : Prop :=
  True

def Pre_Kernel43 (m : (ℓ : Loc Cert.Kernel43.nD Cert.Kernel43.τ Cert.Kernel43.sig) → Buf (Elt Bits) ℓ) : Prop :=
  True

def Pre_Kernel43Ideal (m : (ℓ : Loc Cert.Kernel43Ideal.nD Cert.Kernel43Ideal.τ Cert.Kernel43Ideal.sig) → Buf (Elt Ideal) ℓ) : Prop :=
  True

def Pre_Reference43Ideal (m : (ℓ : Loc Cert.Reference43Ideal.nD Cert.Reference43Ideal.τ Cert.Reference43Ideal.sig) → Buf (Elt Ideal) ℓ) : Prop :=
  True

def Pre_Kernel44 (m : (ℓ : Loc Cert.Kernel44.nD Cert.Kernel44.τ Cert.Kernel44.sig) → Buf (Elt Bits) ℓ) : Prop :=
  True

def Pre_Kernel44Ideal (m : (ℓ : Loc Cert.Kernel44Ideal.nD Cert.Kernel44Ideal.τ Cert.Kernel44Ideal.sig) → Buf (Elt Ideal) ℓ) : Prop :=
  True

def Pre_Reference44Ideal (m : (ℓ : Loc Cert.Reference44Ideal.nD Cert.Reference44Ideal.τ Cert.Reference44Ideal.sig) → Buf (Elt Ideal) ℓ) : Prop :=
  True

def Pre_Kernel45 (m : (ℓ : Loc Cert.Kernel45.nD Cert.Kernel45.τ Cert.Kernel45.sig) → Buf (Elt Bits) ℓ) : Prop :=
  True

def Pre_Kernel45Ideal (m : (ℓ : Loc Cert.Kernel45Ideal.nD Cert.Kernel45Ideal.τ Cert.Kernel45Ideal.sig) → Buf (Elt Ideal) ℓ) : Prop :=
  True

def Pre_Reference45Ideal (m : (ℓ : Loc Cert.Reference45Ideal.nD Cert.Reference45Ideal.τ Cert.Reference45Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3))
      ∧ r.2.sem = fun _ => 0)

def quiescent_Kernel26 [hKernel26 : Cert.Kernel26.Facts] [hPre_owner_is_a_device26 : Cert.Pre_owner_is_a_device26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2)
      ∧ r.2.mem ((c.tc : Thread Cert.Kernel26.nD Cert.Kernel26.τ).loc Cert.Kernel26.main_arg3) = m ((c.tc : Thread Cert.Kernel26.nD Cert.Kernel26.τ).loc Cert.Kernel26.main_arg3)
      ∧ r.2.mem ((c.tc : Thread Cert.Kernel26.nD Cert.Kernel26.τ).loc Cert.Kernel26.main_arg4) = m ((c.tc : Thread Cert.Kernel26.nD Cert.Kernel26.τ).loc Cert.Kernel26.main_arg4)
      ∧ r.2.mem ((c.tc : Thread Cert.Kernel26.nD Cert.Kernel26.τ).loc Cert.Kernel26.main_arg5) = m ((c.tc : Thread Cert.Kernel26.nD Cert.Kernel26.τ).loc Cert.Kernel26.main_arg5))
      ∧ r.2.sem = fun _ => 0)

def quiescent_Kernel26Ideal [hKernel26Ideal : Cert.Kernel26Ideal.Facts] [hPre_owner_is_a_device26 : Cert.Pre_owner_is_a_device26.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3)
      ∧ r.2.mem ((c.tc : Thread Cert.Kernel26Ideal.nD Cert.Kernel26Ideal.τ).loc Cert.Kernel26Ideal.main_arg4) = m ((c.tc : Thread Cert.Kernel26Ideal.nD Cert.Kernel26Ideal.τ).loc Cert.Kernel26Ideal.main_arg4)
      ∧ r.2.mem ((c.tc : Thread Cert.Kernel26Ideal.nD Cert.Kernel26Ideal.τ).loc Cert.Kernel26Ideal.main_arg5) = m ((c.tc : Thread Cert.Kernel26Ideal.nD Cert.Kernel26Ideal.τ).loc Cert.Kernel26Ideal.main_arg5))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3)
      ∧ r.2.mem ((c.tc : Thread Cert.Reference26Ideal.nD Cert.Reference26Ideal.τ).loc Cert.Reference26Ideal.main_arg4) = m ((c.tc : Thread Cert.Reference26Ideal.nD Cert.Reference26Ideal.τ).loc Cert.Reference26Ideal.main_arg4)
      ∧ r.2.mem ((c.tc : Thread Cert.Reference26Ideal.nD Cert.Reference26Ideal.τ).loc Cert.Reference26Ideal.main_arg5) = m ((c.tc : Thread Cert.Reference26Ideal.nD Cert.Reference26Ideal.τ).loc Cert.Reference26Ideal.main_arg5))
      ∧ r.2.sem = fun _ => 0)

def quiescent_Reference26Ideal_pre_owner_is_a_device26 [hReference26Ideal : Cert.Reference26Ideal.Facts] [hPre_owner_is_a_device26 : Cert.Pre_owner_is_a_device26.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal_owner_is_a_device26 m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3)
      ∧ r.2.mem ((c.tc : Thread Cert.Reference26Ideal.nD Cert.Reference26Ideal.τ).loc Cert.Reference26Ideal.main_arg4) = m ((c.tc : Thread Cert.Reference26Ideal.nD Cert.Reference26Ideal.τ).loc Cert.Reference26Ideal.main_arg4)
      ∧ r.2.mem ((c.tc : Thread Cert.Reference26Ideal.nD Cert.Reference26Ideal.τ).loc Cert.Reference26Ideal.main_arg5) = m ((c.tc : Thread Cert.Reference26Ideal.nD Cert.Reference26Ideal.τ).loc Cert.Reference26Ideal.main_arg5))
      ∧ r.2.sem = fun _ => 0)

def quiescent_Kernel27 [hKernel27 : Cert.Kernel27.Facts] [hPre_owner_is_a_device27 : Cert.Pre_owner_is_a_device27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2)
      ∧ r.2.mem ((c.tc : Thread Cert.Kernel27.nD Cert.Kernel27.τ).loc Cert.Kernel27.main_arg3) = m ((c.tc : Thread Cert.Kernel27.nD Cert.Kernel27.τ).loc Cert.Kernel27.main_arg3)
      ∧ r.2.mem ((c.tc : Thread Cert.Kernel27.nD Cert.Kernel27.τ).loc Cert.Kernel27.main_arg4) = m ((c.tc : Thread Cert.Kernel27.nD Cert.Kernel27.τ).loc Cert.Kernel27.main_arg4)
      ∧ r.2.mem ((c.tc : Thread Cert.Kernel27.nD Cert.Kernel27.τ).loc Cert.Kernel27.main_arg5) = m ((c.tc : Thread Cert.Kernel27.nD Cert.Kernel27.τ).loc Cert.Kernel27.main_arg5))
      ∧ r.2.sem = fun _ => 0)

def quiescent_Kernel27Ideal [hKernel27Ideal : Cert.Kernel27Ideal.Facts] [hPre_owner_is_a_device27 : Cert.Pre_owner_is_a_device27.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
      ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3)
      ∧ r.2.mem ((c.tc : Thread Cert.Kernel27Ideal.nD Cert.Kernel27Ideal.τ).loc Cert.Kernel27Ideal.main_arg4) = m ((c.tc : Thread Cert.Kernel27Ideal.nD Cert.Kernel27Ideal.τ).loc Cert.Kernel27Ideal.main_arg4)
      ∧ r.2.mem ((c.tc : Thread Cert.Kernel27Ideal.nD Cert.Kernel27Ideal.τ).loc Cert.Kernel27Ideal.main_arg5) = m ((c.tc : Thread Cert.Kernel27Ideal.nD Cert.Kernel27Ideal.τ).loc Cert.Kernel27Ideal.main_arg5))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2)
      ∧ r.2.mem ((c.tc : Thread Cert.Reference27Ideal.nD Cert.Reference27Ideal.τ).loc Cert.Reference27Ideal.main_arg3) = m ((c.tc : Thread Cert.Reference27Ideal.nD Cert.Reference27Ideal.τ).loc Cert.Reference27Ideal.main_arg3)
      ∧ r.2.mem ((c.tc : Thread Cert.Reference27Ideal.nD Cert.Reference27Ideal.τ).loc Cert.Reference27Ideal.main_arg4) = m ((c.tc : Thread Cert.Reference27Ideal.nD Cert.Reference27Ideal.τ).loc Cert.Reference27Ideal.main_arg4)
      ∧ r.2.mem ((c.tc : Thread Cert.Reference27Ideal.nD Cert.Reference27Ideal.τ).loc Cert.Reference27Ideal.main_arg5) = m ((c.tc : Thread Cert.Reference27Ideal.nD Cert.Reference27Ideal.τ).loc Cert.Reference27Ideal.main_arg5))
      ∧ r.2.sem = fun _ => 0)

def quiescent_Reference27Ideal_pre_owner_is_a_device27 [hReference27Ideal : Cert.Reference27Ideal.Facts] [hPre_owner_is_a_device27 : Cert.Pre_owner_is_a_device27.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal_owner_is_a_device27 m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2)
      ∧ r.2.mem ((c.tc : Thread Cert.Reference27Ideal.nD Cert.Reference27Ideal.τ).loc Cert.Reference27Ideal.main_arg3) = m ((c.tc : Thread Cert.Reference27Ideal.nD Cert.Reference27Ideal.τ).loc Cert.Reference27Ideal.main_arg3)
      ∧ r.2.mem ((c.tc : Thread Cert.Reference27Ideal.nD Cert.Reference27Ideal.τ).loc Cert.Reference27Ideal.main_arg4) = m ((c.tc : Thread Cert.Reference27Ideal.nD Cert.Reference27Ideal.τ).loc Cert.Reference27Ideal.main_arg4)
      ∧ r.2.mem ((c.tc : Thread Cert.Reference27Ideal.nD Cert.Reference27Ideal.τ).loc Cert.Reference27Ideal.main_arg5) = m ((c.tc : Thread Cert.Reference27Ideal.nD Cert.Reference27Ideal.τ).loc Cert.Reference27Ideal.main_arg5))
      ∧ r.2.sem = fun _ => 0)

def quiescent_Kernel28 [hKernel28 : Cert.Kernel28.Facts] [hPre_owner_is_a_device28 : Cert.Pre_owner_is_a_device28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2)
      ∧ r.2.mem ((c.tc : Thread Cert.Kernel28.nD Cert.Kernel28.τ).loc Cert.Kernel28.main_arg3) = m ((c.tc : Thread Cert.Kernel28.nD Cert.Kernel28.τ).loc Cert.Kernel28.main_arg3)
      ∧ r.2.mem ((c.tc : Thread Cert.Kernel28.nD Cert.Kernel28.τ).loc Cert.Kernel28.main_arg4) = m ((c.tc : Thread Cert.Kernel28.nD Cert.Kernel28.τ).loc Cert.Kernel28.main_arg4)
      ∧ r.2.mem ((c.tc : Thread Cert.Kernel28.nD Cert.Kernel28.τ).loc Cert.Kernel28.main_arg5) = m ((c.tc : Thread Cert.Kernel28.nD Cert.Kernel28.τ).loc Cert.Kernel28.main_arg5))
      ∧ r.2.sem = fun _ => 0)

def quiescent_Kernel28Ideal [hKernel28Ideal : Cert.Kernel28Ideal.Facts] [hPre_owner_is_a_device28 : Cert.Pre_owner_is_a_device28.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
      ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3)
      ∧ r.2.mem ((c.tc : Thread Cert.Kernel28Ideal.nD Cert.Kernel28Ideal.τ).loc Cert.Kernel28Ideal.main_arg4) = m ((c.tc : Thread Cert.Kernel28Ideal.nD Cert.Kernel28Ideal.τ).loc Cert.Kernel28Ideal.main_arg4)
      ∧ r.2.mem ((c.tc : Thread Cert.Kernel28Ideal.nD Cert.Kernel28Ideal.τ).loc Cert.Kernel28Ideal.main_arg5) = m ((c.tc : Thread Cert.Kernel28Ideal.nD Cert.Kernel28Ideal.τ).loc Cert.Kernel28Ideal.main_arg5))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2)
      ∧ r.2.mem ((c.tc : Thread Cert.Reference28Ideal.nD Cert.Reference28Ideal.τ).loc Cert.Reference28Ideal.main_arg3) = m ((c.tc : Thread Cert.Reference28Ideal.nD Cert.Reference28Ideal.τ).loc Cert.Reference28Ideal.main_arg3)
      ∧ r.2.mem ((c.tc : Thread Cert.Reference28Ideal.nD Cert.Reference28Ideal.τ).loc Cert.Reference28Ideal.main_arg4) = m ((c.tc : Thread Cert.Reference28Ideal.nD Cert.Reference28Ideal.τ).loc Cert.Reference28Ideal.main_arg4)
      ∧ r.2.mem ((c.tc : Thread Cert.Reference28Ideal.nD Cert.Reference28Ideal.τ).loc Cert.Reference28Ideal.main_arg5) = m ((c.tc : Thread Cert.Reference28Ideal.nD Cert.Reference28Ideal.τ).loc Cert.Reference28Ideal.main_arg5))
      ∧ r.2.sem = fun _ => 0)

def quiescent_Reference28Ideal_pre_owner_is_a_device28 [hReference28Ideal : Cert.Reference28Ideal.Facts] [hPre_owner_is_a_device28 : Cert.Pre_owner_is_a_device28.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal_owner_is_a_device28 m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2)
      ∧ r.2.mem ((c.tc : Thread Cert.Reference28Ideal.nD Cert.Reference28Ideal.τ).loc Cert.Reference28Ideal.main_arg3) = m ((c.tc : Thread Cert.Reference28Ideal.nD Cert.Reference28Ideal.τ).loc Cert.Reference28Ideal.main_arg3)
      ∧ r.2.mem ((c.tc : Thread Cert.Reference28Ideal.nD Cert.Reference28Ideal.τ).loc Cert.Reference28Ideal.main_arg4) = m ((c.tc : Thread Cert.Reference28Ideal.nD Cert.Reference28Ideal.τ).loc Cert.Reference28Ideal.main_arg4)
      ∧ r.2.mem ((c.tc : Thread Cert.Reference28Ideal.nD Cert.Reference28Ideal.τ).loc Cert.Reference28Ideal.main_arg5) = m ((c.tc : Thread Cert.Reference28Ideal.nD Cert.Reference28Ideal.τ).loc Cert.Reference28Ideal.main_arg5))
      ∧ r.2.sem = fun _ => 0)

def quiescent_Kernel29 [hKernel29 : Cert.Kernel29.Facts] [hPre_owner_is_a_device29 : Cert.Pre_owner_is_a_device29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1)
      ∧ r.2.mem ((c.tc : Thread Cert.Kernel29.nD Cert.Kernel29.τ).loc Cert.Kernel29.main_arg2) = m ((c.tc : Thread Cert.Kernel29.nD Cert.Kernel29.τ).loc Cert.Kernel29.main_arg2)
      ∧ r.2.mem ((c.tc : Thread Cert.Kernel29.nD Cert.Kernel29.τ).loc Cert.Kernel29.main_arg3) = m ((c.tc : Thread Cert.Kernel29.nD Cert.Kernel29.τ).loc Cert.Kernel29.main_arg3)
      ∧ r.2.mem ((c.tc : Thread Cert.Kernel29.nD Cert.Kernel29.τ).loc Cert.Kernel29.main_arg4) = m ((c.tc : Thread Cert.Kernel29.nD Cert.Kernel29.τ).loc Cert.Kernel29.main_arg4)
      ∧ r.2.mem ((c.tc : Thread Cert.Kernel29.nD Cert.Kernel29.τ).loc Cert.Kernel29.main_arg5) = m ((c.tc : Thread Cert.Kernel29.nD Cert.Kernel29.τ).loc Cert.Kernel29.main_arg5))
      ∧ r.2.sem = fun _ => 0)

def quiescent_Kernel29Ideal [hKernel29Ideal : Cert.Kernel29Ideal.Facts] [hPre_owner_is_a_device29 : Cert.Pre_owner_is_a_device29.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
      ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3)
      ∧ r.2.mem ((c.tc : Thread Cert.Kernel29Ideal.nD Cert.Kernel29Ideal.τ).loc Cert.Kernel29Ideal.main_arg4) = m ((c.tc : Thread Cert.Kernel29Ideal.nD Cert.Kernel29Ideal.τ).loc Cert.Kernel29Ideal.main_arg4)
      ∧ r.2.mem ((c.tc : Thread Cert.Kernel29Ideal.nD Cert.Kernel29Ideal.τ).loc Cert.Kernel29Ideal.main_arg5) = m ((c.tc : Thread Cert.Kernel29Ideal.nD Cert.Kernel29Ideal.τ).loc Cert.Kernel29Ideal.main_arg5))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2)
      ∧ r.2.mem ((c.tc : Thread Cert.Reference29Ideal.nD Cert.Reference29Ideal.τ).loc Cert.Reference29Ideal.main_arg3) = m ((c.tc : Thread Cert.Reference29Ideal.nD Cert.Reference29Ideal.τ).loc Cert.Reference29Ideal.main_arg3)
      ∧ r.2.mem ((c.tc : Thread Cert.Reference29Ideal.nD Cert.Reference29Ideal.τ).loc Cert.Reference29Ideal.main_arg4) = m ((c.tc : Thread Cert.Reference29Ideal.nD Cert.Reference29Ideal.τ).loc Cert.Reference29Ideal.main_arg4)
      ∧ r.2.mem ((c.tc : Thread Cert.Reference29Ideal.nD Cert.Reference29Ideal.τ).loc Cert.Reference29Ideal.main_arg5) = m ((c.tc : Thread Cert.Reference29Ideal.nD Cert.Reference29Ideal.τ).loc Cert.Reference29Ideal.main_arg5))
      ∧ r.2.sem = fun _ => 0)

def quiescent_Reference29Ideal_pre_owner_is_a_device29 [hReference29Ideal : Cert.Reference29Ideal.Facts] [hPre_owner_is_a_device29 : Cert.Pre_owner_is_a_device29.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal_owner_is_a_device29 m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2)
      ∧ r.2.mem ((c.tc : Thread Cert.Reference29Ideal.nD Cert.Reference29Ideal.τ).loc Cert.Reference29Ideal.main_arg3) = m ((c.tc : Thread Cert.Reference29Ideal.nD Cert.Reference29Ideal.τ).loc Cert.Reference29Ideal.main_arg3)
      ∧ r.2.mem ((c.tc : Thread Cert.Reference29Ideal.nD Cert.Reference29Ideal.τ).loc Cert.Reference29Ideal.main_arg4) = m ((c.tc : Thread Cert.Reference29Ideal.nD Cert.Reference29Ideal.τ).loc Cert.Reference29Ideal.main_arg4)
      ∧ r.2.mem ((c.tc : Thread Cert.Reference29Ideal.nD Cert.Reference29Ideal.τ).loc Cert.Reference29Ideal.main_arg5) = m ((c.tc : Thread Cert.Reference29Ideal.nD Cert.Reference29Ideal.τ).loc Cert.Reference29Ideal.main_arg5))
      ∧ r.2.sem = fun _ => 0)

def quiescent_Kernel30 [hKernel30 : Cert.Kernel30.Facts] [hPre_owner_is_a_device30 : Cert.Pre_owner_is_a_device30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1)
      ∧ r.2.mem ((c.tc : Thread Cert.Kernel30.nD Cert.Kernel30.τ).loc Cert.Kernel30.main_arg2) = m ((c.tc : Thread Cert.Kernel30.nD Cert.Kernel30.τ).loc Cert.Kernel30.main_arg2)
      ∧ r.2.mem ((c.tc : Thread Cert.Kernel30.nD Cert.Kernel30.τ).loc Cert.Kernel30.main_arg3) = m ((c.tc : Thread Cert.Kernel30.nD Cert.Kernel30.τ).loc Cert.Kernel30.main_arg3)
      ∧ r.2.mem ((c.tc : Thread Cert.Kernel30.nD Cert.Kernel30.τ).loc Cert.Kernel30.main_arg4) = m ((c.tc : Thread Cert.Kernel30.nD Cert.Kernel30.τ).loc Cert.Kernel30.main_arg4)
      ∧ r.2.mem ((c.tc : Thread Cert.Kernel30.nD Cert.Kernel30.τ).loc Cert.Kernel30.main_arg5) = m ((c.tc : Thread Cert.Kernel30.nD Cert.Kernel30.τ).loc Cert.Kernel30.main_arg5))
      ∧ r.2.sem = fun _ => 0)

def quiescent_Kernel30Ideal [hKernel30Ideal : Cert.Kernel30Ideal.Facts] [hPre_owner_is_a_device30 : Cert.Pre_owner_is_a_device30.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
      ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
      ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3)
      ∧ r.2.mem ((c.tc : Thread Cert.Kernel30Ideal.nD Cert.Kernel30Ideal.τ).loc Cert.Kernel30Ideal.main_arg4) = m ((c.tc : Thread Cert.Kernel30Ideal.nD Cert.Kernel30Ideal.τ).loc Cert.Kernel30Ideal.main_arg4)
      ∧ r.2.mem ((c.tc : Thread Cert.Kernel30Ideal.nD Cert.Kernel30Ideal.τ).loc Cert.Kernel30Ideal.main_arg5) = m ((c.tc : Thread Cert.Kernel30Ideal.nD Cert.Kernel30Ideal.τ).loc Cert.Kernel30Ideal.main_arg5))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1)
      ∧ r.2.mem ((c.tc : Thread Cert.Reference30Ideal.nD Cert.Reference30Ideal.τ).loc Cert.Reference30Ideal.main_arg2) = m ((c.tc : Thread Cert.Reference30Ideal.nD Cert.Reference30Ideal.τ).loc Cert.Reference30Ideal.main_arg2)
      ∧ r.2.mem ((c.tc : Thread Cert.Reference30Ideal.nD Cert.Reference30Ideal.τ).loc Cert.Reference30Ideal.main_arg3) = m ((c.tc : Thread Cert.Reference30Ideal.nD Cert.Reference30Ideal.τ).loc Cert.Reference30Ideal.main_arg3)
      ∧ r.2.mem ((c.tc : Thread Cert.Reference30Ideal.nD Cert.Reference30Ideal.τ).loc Cert.Reference30Ideal.main_arg4) = m ((c.tc : Thread Cert.Reference30Ideal.nD Cert.Reference30Ideal.τ).loc Cert.Reference30Ideal.main_arg4)
      ∧ r.2.mem ((c.tc : Thread Cert.Reference30Ideal.nD Cert.Reference30Ideal.τ).loc Cert.Reference30Ideal.main_arg5) = m ((c.tc : Thread Cert.Reference30Ideal.nD Cert.Reference30Ideal.τ).loc Cert.Reference30Ideal.main_arg5))
      ∧ r.2.sem = fun _ => 0)

def quiescent_Reference30Ideal_pre_owner_is_a_device30 [hReference30Ideal : Cert.Reference30Ideal.Facts] [hPre_owner_is_a_device30 : Cert.Pre_owner_is_a_device30.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal_owner_is_a_device30 m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1)
      ∧ r.2.mem ((c.tc : Thread Cert.Reference30Ideal.nD Cert.Reference30Ideal.τ).loc Cert.Reference30Ideal.main_arg2) = m ((c.tc : Thread Cert.Reference30Ideal.nD Cert.Reference30Ideal.τ).loc Cert.Reference30Ideal.main_arg2)
      ∧ r.2.mem ((c.tc : Thread Cert.Reference30Ideal.nD Cert.Reference30Ideal.τ).loc Cert.Reference30Ideal.main_arg3) = m ((c.tc : Thread Cert.Reference30Ideal.nD Cert.Reference30Ideal.τ).loc Cert.Reference30Ideal.main_arg3)
      ∧ r.2.mem ((c.tc : Thread Cert.Reference30Ideal.nD Cert.Reference30Ideal.τ).loc Cert.Reference30Ideal.main_arg4) = m ((c.tc : Thread Cert.Reference30Ideal.nD Cert.Reference30Ideal.τ).loc Cert.Reference30Ideal.main_arg4)
      ∧ r.2.mem ((c.tc : Thread Cert.Reference30Ideal.nD Cert.Reference30Ideal.τ).loc Cert.Reference30Ideal.main_arg5) = m ((c.tc : Thread Cert.Reference30Ideal.nD Cert.Reference30Ideal.τ).loc Cert.Reference30Ideal.main_arg5))
      ∧ r.2.sem = fun _ => 0)

def quiescent_Kernel34 [hKernel34 : Cert.Kernel34.Facts] : Prop :=
  ∀ (m : (ℓ : Loc Cert.Kernel34.nD Cert.Kernel34.τ Cert.Kernel34.sig) → Buf (Elt Bits) ℓ) (g : Dev Cert.Kernel34.nD → PrngReg), Pre_Kernel34 m →
    θ_run (Cert.Kernel34.defs (F := Bits)) (onTc (τ := Cert.Kernel34.τ) (Cert.Kernel34.main (F := Bits))) ⟨m, fun _ => 0, g⟩ (fun r => (∀ c : Dev Cert.Kernel34.nD,
      r.2.mem ((c.tc : Thread Cert.Kernel34.nD Cert.Kernel34.τ).loc Cert.Kernel34.main_arg0) = m ((c.tc : Thread Cert.Kernel34.nD Cert.Kernel34.τ).loc Cert.Kernel34.main_arg0)
      ∧ r.2.mem ((c.tc : Thread Cert.Kernel34.nD Cert.Kernel34.τ).loc Cert.Kernel34.main_arg1) = m ((c.tc : Thread Cert.Kernel34.nD Cert.Kernel34.τ).loc Cert.Kernel34.main_arg1)
      ∧ r.2.mem ((c.tc : Thread Cert.Kernel34.nD Cert.Kernel34.τ).loc Cert.Kernel34.main_arg2) = m ((c.tc : Thread Cert.Kernel34.nD Cert.Kernel34.τ).loc Cert.Kernel34.main_arg2)
      ∧ r.2.mem ((c.tc : Thread Cert.Kernel34.nD Cert.Kernel34.τ).loc Cert.Kernel34.main_arg3) = m ((c.tc : Thread Cert.Kernel34.nD Cert.Kernel34.τ).loc Cert.Kernel34.main_arg3))
      ∧ r.2.sem = fun _ => 0)

def quiescent_Kernel34Ideal [hKernel34Ideal : Cert.Kernel34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg), Pre_Kernel34Ideal m →
    θ_run (Cert.Kernel34Ideal.defs (F := Ideal)) (onTc (τ := Cert.Kernel34Ideal.τ) (Cert.Kernel34Ideal.main (F := Ideal))) ⟨m, fun _ => 0, g⟩ (fun r => (∀ c : Dev Cert.Kernel34Ideal.nD,
      r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
      ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
      ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2)
      ∧ r.2.mem ((c.tc : Thread Cert.Kernel34Ideal.nD Cert.Kernel34Ideal.τ).loc Cert.Kernel34Ideal.main_arg3) = m ((c.tc : Thread Cert.Kernel34Ideal.nD Cert.Kernel34Ideal.τ).loc Cert.Kernel34Ideal.main_arg3))
      ∧ r.2.sem = fun _ => 0)

def quiescent_Reference34Ideal [hReference34Ideal : Cert.Reference34Ideal.Facts] : Prop :=
  ∀ (m : (ℓ : Loc Cert.Reference34Ideal.nD Cert.Reference34Ideal.τ Cert.Reference34Ideal.sig) → Buf (Elt Ideal) ℓ) (g : Dev Cert.Reference34Ideal.nD → PrngReg), Pre_Reference34Ideal m →
    θ_run (Cert.Reference34Ideal.defs (F := Ideal)) (onTc (τ := Cert.Reference34Ideal.τ) (Cert.Reference34Ideal.main (F := Ideal))) ⟨m, fun _ => 0, g⟩ (fun r => (∀ c : Dev Cert.Reference34Ideal.nD,
      r.2.mem ((c.tc : Thread Cert.Reference34Ideal.nD Cert.Reference34Ideal.τ).loc Cert.Reference34Ideal.main_arg0) = m ((c.tc : Thread Cert.Reference34Ideal.nD Cert.Reference34Ideal.τ).loc Cert.Reference34Ideal.main_arg0)
      ∧ r.2.mem ((c.tc : Thread Cert.Reference34Ideal.nD Cert.Reference34Ideal.τ).loc Cert.Reference34Ideal.main_arg1) = m ((c.tc : Thread Cert.Reference34Ideal.nD Cert.Reference34Ideal.τ).loc Cert.Reference34Ideal.main_arg1)
      ∧ r.2.mem ((c.tc : Thread Cert.Reference34Ideal.nD Cert.Reference34Ideal.τ).loc Cert.Reference34Ideal.main_arg2) = m ((c.tc : Thread Cert.Reference34Ideal.nD Cert.Reference34Ideal.τ).loc Cert.Reference34Ideal.main_arg2)
      ∧ r.2.mem ((c.tc : Thread Cert.Reference34Ideal.nD Cert.Reference34Ideal.τ).loc Cert.Reference34Ideal.main_arg3) = m ((c.tc : Thread Cert.Reference34Ideal.nD Cert.Reference34Ideal.τ).loc Cert.Reference34Ideal.main_arg3))
      ∧ r.2.sem = fun _ => 0)

def quiescent_Kernel36 [hKernel36 : Cert.Kernel36.Facts] : Prop :=
  ∀ (m : (ℓ : Loc Cert.Kernel36.nD Cert.Kernel36.τ Cert.Kernel36.sig) → Buf (Elt Bits) ℓ) (g : Dev Cert.Kernel36.nD → PrngReg), Pre_Kernel36 m →
    θ_run (Cert.Kernel36.defs (F := Bits)) (onTc (τ := Cert.Kernel36.τ) (Cert.Kernel36.main (F := Bits))) ⟨m, fun _ => 0, g⟩ (fun r => (∀ c : Dev Cert.Kernel36.nD,
      r.2.mem ((c.tc : Thread Cert.Kernel36.nD Cert.Kernel36.τ).loc Cert.Kernel36.main_arg0) = m ((c.tc : Thread Cert.Kernel36.nD Cert.Kernel36.τ).loc Cert.Kernel36.main_arg0)
      ∧ r.2.mem ((c.tc : Thread Cert.Kernel36.nD Cert.Kernel36.τ).loc Cert.Kernel36.main_arg1) = m ((c.tc : Thread Cert.Kernel36.nD Cert.Kernel36.τ).loc Cert.Kernel36.main_arg1)
      ∧ r.2.mem ((c.tc : Thread Cert.Kernel36.nD Cert.Kernel36.τ).loc Cert.Kernel36.main_arg2) = m ((c.tc : Thread Cert.Kernel36.nD Cert.Kernel36.τ).loc Cert.Kernel36.main_arg2))
      ∧ r.2.sem = fun _ => 0)

def quiescent_Kernel36Ideal [hKernel36Ideal : Cert.Kernel36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg), Pre_Kernel36Ideal m →
    θ_run (Cert.Kernel36Ideal.defs (F := Ideal)) (onTc (τ := Cert.Kernel36Ideal.τ) (Cert.Kernel36Ideal.main (F := Ideal))) ⟨m, fun _ => 0, g⟩ (fun r => (∀ c : Dev Cert.Kernel36Ideal.nD,
      r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
      ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1)
      ∧ r.2.mem ((c.tc : Thread Cert.Kernel36Ideal.nD Cert.Kernel36Ideal.τ).loc Cert.Kernel36Ideal.main_arg2) = m ((c.tc : Thread Cert.Kernel36Ideal.nD Cert.Kernel36Ideal.τ).loc Cert.Kernel36Ideal.main_arg2))
      ∧ r.2.sem = fun _ => 0)

def quiescent_Reference36Ideal [hReference36Ideal : Cert.Reference36Ideal.Facts] : Prop :=
  ∀ (m : (ℓ : Loc Cert.Reference36Ideal.nD Cert.Reference36Ideal.τ Cert.Reference36Ideal.sig) → Buf (Elt Ideal) ℓ) (g : Dev Cert.Reference36Ideal.nD → PrngReg), Pre_Reference36Ideal m →
    θ_run (Cert.Reference36Ideal.defs (F := Ideal)) (onTc (τ := Cert.Reference36Ideal.τ) (Cert.Reference36Ideal.main (F := Ideal))) ⟨m, fun _ => 0, g⟩ (fun r => (∀ c : Dev Cert.Reference36Ideal.nD,
      r.2.mem ((c.tc : Thread Cert.Reference36Ideal.nD Cert.Reference36Ideal.τ).loc Cert.Reference36Ideal.main_arg0) = m ((c.tc : Thread Cert.Reference36Ideal.nD Cert.Reference36Ideal.τ).loc Cert.Reference36Ideal.main_arg0)
      ∧ r.2.mem ((c.tc : Thread Cert.Reference36Ideal.nD Cert.Reference36Ideal.τ).loc Cert.Reference36Ideal.main_arg1) = m ((c.tc : Thread Cert.Reference36Ideal.nD Cert.Reference36Ideal.τ).loc Cert.Reference36Ideal.main_arg1)
      ∧ r.2.mem ((c.tc : Thread Cert.Reference36Ideal.nD Cert.Reference36Ideal.τ).loc Cert.Reference36Ideal.main_arg2) = m ((c.tc : Thread Cert.Reference36Ideal.nD Cert.Reference36Ideal.τ).loc Cert.Reference36Ideal.main_arg2))
      ∧ r.2.sem = fun _ => 0)

def quiescent_Kernel37 [hKernel37 : Cert.Kernel37.Facts] : Prop :=
  ∀ (m : (ℓ : Loc Cert.Kernel37.nD Cert.Kernel37.τ Cert.Kernel37.sig) → Buf (Elt Bits) ℓ) (g : Dev Cert.Kernel37.nD → PrngReg), Pre_Kernel37 m →
    θ_run (Cert.Kernel37.defs (F := Bits)) (onTc (τ := Cert.Kernel37.τ) (Cert.Kernel37.main (F := Bits))) ⟨m, fun _ => 0, g⟩ (fun r => (∀ c : Dev Cert.Kernel37.nD,
      r.2.mem ((c.tc : Thread Cert.Kernel37.nD Cert.Kernel37.τ).loc Cert.Kernel37.main_arg0) = m ((c.tc : Thread Cert.Kernel37.nD Cert.Kernel37.τ).loc Cert.Kernel37.main_arg0)
      ∧ r.2.mem ((c.tc : Thread Cert.Kernel37.nD Cert.Kernel37.τ).loc Cert.Kernel37.main_arg1) = m ((c.tc : Thread Cert.Kernel37.nD Cert.Kernel37.τ).loc Cert.Kernel37.main_arg1))
      ∧ r.2.sem = fun _ => 0)

def quiescent_Kernel37Ideal [hKernel37Ideal : Cert.Kernel37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg), Pre_Kernel37Ideal m →
    θ_run (Cert.Kernel37Ideal.defs (F := Ideal)) (onTc (τ := Cert.Kernel37Ideal.τ) (Cert.Kernel37Ideal.main (F := Ideal))) ⟨m, fun _ => 0, g⟩ (fun r => (∀ c : Dev Cert.Kernel37Ideal.nD,
      r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
      ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1))
      ∧ r.2.sem = fun _ => 0)

def quiescent_Reference37Ideal [hReference37Ideal : Cert.Reference37Ideal.Facts] : Prop :=
  ∀ (m : (ℓ : Loc Cert.Reference37Ideal.nD Cert.Reference37Ideal.τ Cert.Reference37Ideal.sig) → Buf (Elt Ideal) ℓ) (g : Dev Cert.Reference37Ideal.nD → PrngReg), Pre_Reference37Ideal m →
    θ_run (Cert.Reference37Ideal.defs (F := Ideal)) (onTc (τ := Cert.Reference37Ideal.τ) (Cert.Reference37Ideal.main (F := Ideal))) ⟨m, fun _ => 0, g⟩ (fun r => (∀ c : Dev Cert.Reference37Ideal.nD,
      r.2.mem ((c.tc : Thread Cert.Reference37Ideal.nD Cert.Reference37Ideal.τ).loc Cert.Reference37Ideal.main_arg0) = m ((c.tc : Thread Cert.Reference37Ideal.nD Cert.Reference37Ideal.τ).loc Cert.Reference37Ideal.main_arg0)
      ∧ r.2.mem ((c.tc : Thread Cert.Reference37Ideal.nD Cert.Reference37Ideal.τ).loc Cert.Reference37Ideal.main_arg1) = m ((c.tc : Thread Cert.Reference37Ideal.nD Cert.Reference37Ideal.τ).loc Cert.Reference37Ideal.main_arg1))
      ∧ r.2.sem = fun _ => 0)

def quiescent_Kernel38 [hKernel38 : Cert.Kernel38.Facts] : Prop :=
  ∀ (m : (ℓ : Loc Cert.Kernel38.nD Cert.Kernel38.τ Cert.Kernel38.sig) → Buf (Elt Bits) ℓ) (g : Dev Cert.Kernel38.nD → PrngReg), Pre_Kernel38 m →
    θ_run (Cert.Kernel38.defs (F := Bits)) (onTc (τ := Cert.Kernel38.τ) (Cert.Kernel38.main (F := Bits))) ⟨m, fun _ => 0, g⟩ (fun r => (∀ c : Dev Cert.Kernel38.nD,
      r.2.mem ((c.tc : Thread Cert.Kernel38.nD Cert.Kernel38.τ).loc Cert.Kernel38.main_arg0) = m ((c.tc : Thread Cert.Kernel38.nD Cert.Kernel38.τ).loc Cert.Kernel38.main_arg0)
      ∧ r.2.mem ((c.tc : Thread Cert.Kernel38.nD Cert.Kernel38.τ).loc Cert.Kernel38.main_arg1) = m ((c.tc : Thread Cert.Kernel38.nD Cert.Kernel38.τ).loc Cert.Kernel38.main_arg1))
      ∧ r.2.sem = fun _ => 0)

def quiescent_Kernel38Ideal [hKernel38Ideal : Cert.Kernel38Ideal.Facts] : Prop :=
  ∀ (m : (ℓ : Loc Cert.Kernel38Ideal.nD Cert.Kernel38Ideal.τ Cert.Kernel38Ideal.sig) → Buf (Elt Ideal) ℓ) (g : Dev Cert.Kernel38Ideal.nD → PrngReg), Pre_Kernel38Ideal m →
    θ_run (Cert.Kernel38Ideal.defs (F := Ideal)) (onTc (τ := Cert.Kernel38Ideal.τ) (Cert.Kernel38Ideal.main (F := Ideal))) ⟨m, fun _ => 0, g⟩ (fun r => (∀ c : Dev Cert.Kernel38Ideal.nD,
      r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0)
      ∧ r.2.mem ((c.tc : Thread Cert.Kernel38Ideal.nD Cert.Kernel38Ideal.τ).loc Cert.Kernel38Ideal.main_arg1) = m ((c.tc : Thread Cert.Kernel38Ideal.nD Cert.Kernel38Ideal.τ).loc Cert.Kernel38Ideal.main_arg1))
      ∧ r.2.sem = fun _ => 0)

def quiescent_Reference38Ideal [hReference38Ideal : Cert.Reference38Ideal.Facts] : Prop :=
  ∀ (m : (ℓ : Loc Cert.Reference38Ideal.nD Cert.Reference38Ideal.τ Cert.Reference38Ideal.sig) → Buf (Elt Ideal) ℓ) (g : Dev Cert.Reference38Ideal.nD → PrngReg), Pre_Reference38Ideal m →
    θ_run (Cert.Reference38Ideal.defs (F := Ideal)) (onTc (τ := Cert.Reference38Ideal.τ) (Cert.Reference38Ideal.main (F := Ideal))) ⟨m, fun _ => 0, g⟩ (fun r => (∀ c : Dev Cert.Reference38Ideal.nD,
      r.2.mem ((c.tc : Thread Cert.Reference38Ideal.nD Cert.Reference38Ideal.τ).loc Cert.Reference38Ideal.main_arg0) = m ((c.tc : Thread Cert.Reference38Ideal.nD Cert.Reference38Ideal.τ).loc Cert.Reference38Ideal.main_arg0)
      ∧ r.2.mem ((c.tc : Thread Cert.Reference38Ideal.nD Cert.Reference38Ideal.τ).loc Cert.Reference38Ideal.main_arg1) = m ((c.tc : Thread Cert.Reference38Ideal.nD Cert.Reference38Ideal.τ).loc Cert.Reference38Ideal.main_arg1))
      ∧ r.2.sem = fun _ => 0)

def quiescent_Kernel39 [hKernel39 : Cert.Kernel39.Facts] : Prop :=
  ∀ (m : (ℓ : Loc Cert.Kernel39.nD Cert.Kernel39.τ Cert.Kernel39.sig) → Buf (Elt Bits) ℓ) (g : Dev Cert.Kernel39.nD → PrngReg), Pre_Kernel39 m →
    θ_run (Cert.Kernel39.defs (F := Bits)) (onTc (τ := Cert.Kernel39.τ) (Cert.Kernel39.main (F := Bits))) ⟨m, fun _ => 0, g⟩ (fun r => (∀ c : Dev Cert.Kernel39.nD,
      r.2.mem ((c.tc : Thread Cert.Kernel39.nD Cert.Kernel39.τ).loc Cert.Kernel39.main_arg0) = m ((c.tc : Thread Cert.Kernel39.nD Cert.Kernel39.τ).loc Cert.Kernel39.main_arg0)
      ∧ r.2.mem ((c.tc : Thread Cert.Kernel39.nD Cert.Kernel39.τ).loc Cert.Kernel39.main_arg1) = m ((c.tc : Thread Cert.Kernel39.nD Cert.Kernel39.τ).loc Cert.Kernel39.main_arg1))
      ∧ r.2.sem = fun _ => 0)

def quiescent_Kernel39Ideal [hKernel39Ideal : Cert.Kernel39Ideal.Facts] : Prop :=
  ∀ (m : (ℓ : Loc Cert.Kernel39Ideal.nD Cert.Kernel39Ideal.τ Cert.Kernel39Ideal.sig) → Buf (Elt Ideal) ℓ) (g : Dev Cert.Kernel39Ideal.nD → PrngReg), Pre_Kernel39Ideal m →
    θ_run (Cert.Kernel39Ideal.defs (F := Ideal)) (onTc (τ := Cert.Kernel39Ideal.τ) (Cert.Kernel39Ideal.main (F := Ideal))) ⟨m, fun _ => 0, g⟩ (fun r => (∀ c : Dev Cert.Kernel39Ideal.nD,
      r.2.mem ((c.tc : Thread Cert.Kernel39Ideal.nD Cert.Kernel39Ideal.τ).loc Cert.Kernel39Ideal.main_arg0) = m ((c.tc : Thread Cert.Kernel39Ideal.nD Cert.Kernel39Ideal.τ).loc Cert.Kernel39Ideal.main_arg0)
      ∧ r.2.mem ((c.tc : Thread Cert.Kernel39Ideal.nD Cert.Kernel39Ideal.τ).loc Cert.Kernel39Ideal.main_arg1) = m ((c.tc : Thread Cert.Kernel39Ideal.nD Cert.Kernel39Ideal.τ).loc Cert.Kernel39Ideal.main_arg1))
      ∧ r.2.sem = fun _ => 0)

def quiescent_Reference39Ideal [hReference39Ideal : Cert.Reference39Ideal.Facts] : Prop :=
  ∀ (m : (ℓ : Loc Cert.Reference39Ideal.nD Cert.Reference39Ideal.τ Cert.Reference39Ideal.sig) → Buf (Elt Ideal) ℓ) (g : Dev Cert.Reference39Ideal.nD → PrngReg), Pre_Reference39Ideal m →
    θ_run (Cert.Reference39Ideal.defs (F := Ideal)) (onTc (τ := Cert.Reference39Ideal.τ) (Cert.Reference39Ideal.main (F := Ideal))) ⟨m, fun _ => 0, g⟩ (fun r => (∀ c : Dev Cert.Reference39Ideal.nD,
      r.2.mem ((c.tc : Thread Cert.Reference39Ideal.nD Cert.Reference39Ideal.τ).loc Cert.Reference39Ideal.main_arg0) = m ((c.tc : Thread Cert.Reference39Ideal.nD Cert.Reference39Ideal.τ).loc Cert.Reference39Ideal.main_arg0)
      ∧ r.2.mem ((c.tc : Thread Cert.Reference39Ideal.nD Cert.Reference39Ideal.τ).loc Cert.Reference39Ideal.main_arg1) = m ((c.tc : Thread Cert.Reference39Ideal.nD Cert.Reference39Ideal.τ).loc Cert.Reference39Ideal.main_arg1))
      ∧ r.2.sem = fun _ => 0)

def quiescent_Kernel40 [hKernel40 : Cert.Kernel40.Facts] : Prop :=
  ∀ (m : (ℓ : Loc Cert.Kernel40.nD Cert.Kernel40.τ Cert.Kernel40.sig) → Buf (Elt Bits) ℓ) (g : Dev Cert.Kernel40.nD → PrngReg), Pre_Kernel40 m →
    θ_run (Cert.Kernel40.defs (F := Bits)) (onTc (τ := Cert.Kernel40.τ) (Cert.Kernel40.main (F := Bits))) ⟨m, fun _ => 0, g⟩ (fun r => (∀ c : Dev Cert.Kernel40.nD,
      r.2.mem ((c.tc : Thread Cert.Kernel40.nD Cert.Kernel40.τ).loc Cert.Kernel40.main_arg0) = m ((c.tc : Thread Cert.Kernel40.nD Cert.Kernel40.τ).loc Cert.Kernel40.main_arg0)
      ∧ r.2.mem ((c.tc : Thread Cert.Kernel40.nD Cert.Kernel40.τ).loc Cert.Kernel40.main_arg1) = m ((c.tc : Thread Cert.Kernel40.nD Cert.Kernel40.τ).loc Cert.Kernel40.main_arg1)
      ∧ r.2.mem ((c.tc : Thread Cert.Kernel40.nD Cert.Kernel40.τ).loc Cert.Kernel40.main_arg2) = m ((c.tc : Thread Cert.Kernel40.nD Cert.Kernel40.τ).loc Cert.Kernel40.main_arg2)
      ∧ r.2.mem ((c.tc : Thread Cert.Kernel40.nD Cert.Kernel40.τ).loc Cert.Kernel40.main_arg3) = m ((c.tc : Thread Cert.Kernel40.nD Cert.Kernel40.τ).loc Cert.Kernel40.main_arg3))
      ∧ r.2.sem = fun _ => 0)

def quiescent_Kernel40Ideal [hKernel40Ideal : Cert.Kernel40Ideal.Facts] : Prop :=
  ∀ (m : (ℓ : Loc Cert.Kernel40Ideal.nD Cert.Kernel40Ideal.τ Cert.Kernel40Ideal.sig) → Buf (Elt Ideal) ℓ) (g : Dev Cert.Kernel40Ideal.nD → PrngReg), Pre_Kernel40Ideal m →
    θ_run (Cert.Kernel40Ideal.defs (F := Ideal)) (onTc (τ := Cert.Kernel40Ideal.τ) (Cert.Kernel40Ideal.main (F := Ideal))) ⟨m, fun _ => 0, g⟩ (fun r => (∀ c : Dev Cert.Kernel40Ideal.nD,
      r.2.mem ((c.tc : Thread Cert.Kernel40Ideal.nD Cert.Kernel40Ideal.τ).loc Cert.Kernel40Ideal.main_arg0) = m ((c.tc : Thread Cert.Kernel40Ideal.nD Cert.Kernel40Ideal.τ).loc Cert.Kernel40Ideal.main_arg0)
      ∧ r.2.mem ((c.tc : Thread Cert.Kernel40Ideal.nD Cert.Kernel40Ideal.τ).loc Cert.Kernel40Ideal.main_arg1) = m ((c.tc : Thread Cert.Kernel40Ideal.nD Cert.Kernel40Ideal.τ).loc Cert.Kernel40Ideal.main_arg1)
      ∧ r.2.mem ((c.tc : Thread Cert.Kernel40Ideal.nD Cert.Kernel40Ideal.τ).loc Cert.Kernel40Ideal.main_arg2) = m ((c.tc : Thread Cert.Kernel40Ideal.nD Cert.Kernel40Ideal.τ).loc Cert.Kernel40Ideal.main_arg2)
      ∧ r.2.mem ((c.tc : Thread Cert.Kernel40Ideal.nD Cert.Kernel40Ideal.τ).loc Cert.Kernel40Ideal.main_arg3) = m ((c.tc : Thread Cert.Kernel40Ideal.nD Cert.Kernel40Ideal.τ).loc Cert.Kernel40Ideal.main_arg3))
      ∧ r.2.sem = fun _ => 0)

def quiescent_Reference40Ideal [hReference40Ideal : Cert.Reference40Ideal.Facts] : Prop :=
  ∀ (m : (ℓ : Loc Cert.Reference40Ideal.nD Cert.Reference40Ideal.τ Cert.Reference40Ideal.sig) → Buf (Elt Ideal) ℓ) (g : Dev Cert.Reference40Ideal.nD → PrngReg), Pre_Reference40Ideal m →
    θ_run (Cert.Reference40Ideal.defs (F := Ideal)) (onTc (τ := Cert.Reference40Ideal.τ) (Cert.Reference40Ideal.main (F := Ideal))) ⟨m, fun _ => 0, g⟩ (fun r => (∀ c : Dev Cert.Reference40Ideal.nD,
      r.2.mem ((c.tc : Thread Cert.Reference40Ideal.nD Cert.Reference40Ideal.τ).loc Cert.Reference40Ideal.main_arg0) = m ((c.tc : Thread Cert.Reference40Ideal.nD Cert.Reference40Ideal.τ).loc Cert.Reference40Ideal.main_arg0)
      ∧ r.2.mem ((c.tc : Thread Cert.Reference40Ideal.nD Cert.Reference40Ideal.τ).loc Cert.Reference40Ideal.main_arg1) = m ((c.tc : Thread Cert.Reference40Ideal.nD Cert.Reference40Ideal.τ).loc Cert.Reference40Ideal.main_arg1)
      ∧ r.2.mem ((c.tc : Thread Cert.Reference40Ideal.nD Cert.Reference40Ideal.τ).loc Cert.Reference40Ideal.main_arg2) = m ((c.tc : Thread Cert.Reference40Ideal.nD Cert.Reference40Ideal.τ).loc Cert.Reference40Ideal.main_arg2)
      ∧ r.2.mem ((c.tc : Thread Cert.Reference40Ideal.nD Cert.Reference40Ideal.τ).loc Cert.Reference40Ideal.main_arg3) = m ((c.tc : Thread Cert.Reference40Ideal.nD Cert.Reference40Ideal.τ).loc Cert.Reference40Ideal.main_arg3))
      ∧ r.2.sem = fun _ => 0)

def quiescent_Kernel41 [hKernel41 : Cert.Kernel41.Facts] : Prop :=
  ∀ (m : (ℓ : Loc Cert.Kernel41.nD Cert.Kernel41.τ Cert.Kernel41.sig) → Buf (Elt Bits) ℓ) (g : Dev Cert.Kernel41.nD → PrngReg), Pre_Kernel41 m →
    θ_run (Cert.Kernel41.defs (F := Bits)) (onTc (τ := Cert.Kernel41.τ) (Cert.Kernel41.main (F := Bits))) ⟨m, fun _ => 0, g⟩ (fun r => (∀ c : Dev Cert.Kernel41.nD,
      r.2.mem ((c.tc : Thread Cert.Kernel41.nD Cert.Kernel41.τ).loc Cert.Kernel41.main_arg0) = m ((c.tc : Thread Cert.Kernel41.nD Cert.Kernel41.τ).loc Cert.Kernel41.main_arg0)
      ∧ r.2.mem ((c.tc : Thread Cert.Kernel41.nD Cert.Kernel41.τ).loc Cert.Kernel41.main_arg1) = m ((c.tc : Thread Cert.Kernel41.nD Cert.Kernel41.τ).loc Cert.Kernel41.main_arg1))
      ∧ r.2.sem = fun _ => 0)

def quiescent_Kernel41Ideal [hKernel41Ideal : Cert.Kernel41Ideal.Facts] : Prop :=
  ∀ (m : (ℓ : Loc Cert.Kernel41Ideal.nD Cert.Kernel41Ideal.τ Cert.Kernel41Ideal.sig) → Buf (Elt Ideal) ℓ) (g : Dev Cert.Kernel41Ideal.nD → PrngReg), Pre_Kernel41Ideal m →
    θ_run (Cert.Kernel41Ideal.defs (F := Ideal)) (onTc (τ := Cert.Kernel41Ideal.τ) (Cert.Kernel41Ideal.main (F := Ideal))) ⟨m, fun _ => 0, g⟩ (fun r => (∀ c : Dev Cert.Kernel41Ideal.nD,
      r.2.mem ((c.tc : Thread Cert.Kernel41Ideal.nD Cert.Kernel41Ideal.τ).loc Cert.Kernel41Ideal.main_arg0) = m ((c.tc : Thread Cert.Kernel41Ideal.nD Cert.Kernel41Ideal.τ).loc Cert.Kernel41Ideal.main_arg0)
      ∧ r.2.mem ((c.tc : Thread Cert.Kernel41Ideal.nD Cert.Kernel41Ideal.τ).loc Cert.Kernel41Ideal.main_arg1) = m ((c.tc : Thread Cert.Kernel41Ideal.nD Cert.Kernel41Ideal.τ).loc Cert.Kernel41Ideal.main_arg1))
      ∧ r.2.sem = fun _ => 0)

def quiescent_Reference41Ideal [hReference41Ideal : Cert.Reference41Ideal.Facts] : Prop :=
  ∀ (m : (ℓ : Loc Cert.Reference41Ideal.nD Cert.Reference41Ideal.τ Cert.Reference41Ideal.sig) → Buf (Elt Ideal) ℓ) (g : Dev Cert.Reference41Ideal.nD → PrngReg), Pre_Reference41Ideal m →
    θ_run (Cert.Reference41Ideal.defs (F := Ideal)) (onTc (τ := Cert.Reference41Ideal.τ) (Cert.Reference41Ideal.main (F := Ideal))) ⟨m, fun _ => 0, g⟩ (fun r => (∀ c : Dev Cert.Reference41Ideal.nD,
      r.2.mem ((c.tc : Thread Cert.Reference41Ideal.nD Cert.Reference41Ideal.τ).loc Cert.Reference41Ideal.main_arg0) = m ((c.tc : Thread Cert.Reference41Ideal.nD Cert.Reference41Ideal.τ).loc Cert.Reference41Ideal.main_arg0)
      ∧ r.2.mem ((c.tc : Thread Cert.Reference41Ideal.nD Cert.Reference41Ideal.τ).loc Cert.Reference41Ideal.main_arg1) = m ((c.tc : Thread Cert.Reference41Ideal.nD Cert.Reference41Ideal.τ).loc Cert.Reference41Ideal.main_arg1))
      ∧ r.2.sem = fun _ => 0)

def quiescent_Kernel42 [hKernel42 : Cert.Kernel42.Facts] : Prop :=
  ∀ (m : (ℓ : Loc Cert.Kernel42.nD Cert.Kernel42.τ Cert.Kernel42.sig) → Buf (Elt Bits) ℓ) (g : Dev Cert.Kernel42.nD → PrngReg), Pre_Kernel42 m →
    θ_run (Cert.Kernel42.defs (F := Bits)) (onTc (τ := Cert.Kernel42.τ) (Cert.Kernel42.main (F := Bits))) ⟨m, fun _ => 0, g⟩ (fun r => (∀ c : Dev Cert.Kernel42.nD,
      r.2.mem ((c.tc : Thread Cert.Kernel42.nD Cert.Kernel42.τ).loc Cert.Kernel42.main_arg0) = m ((c.tc : Thread Cert.Kernel42.nD Cert.Kernel42.τ).loc Cert.Kernel42.main_arg0)
      ∧ r.2.mem ((c.tc : Thread Cert.Kernel42.nD Cert.Kernel42.τ).loc Cert.Kernel42.main_arg1) = m ((c.tc : Thread Cert.Kernel42.nD Cert.Kernel42.τ).loc Cert.Kernel42.main_arg1)
      ∧ r.2.mem ((c.tc : Thread Cert.Kernel42.nD Cert.Kernel42.τ).loc Cert.Kernel42.main_arg2) = m ((c.tc : Thread Cert.Kernel42.nD Cert.Kernel42.τ).loc Cert.Kernel42.main_arg2))
      ∧ r.2.sem = fun _ => 0)

def quiescent_Kernel42Ideal [hKernel42Ideal : Cert.Kernel42Ideal.Facts] : Prop :=
  ∀ (m : (ℓ : Loc Cert.Kernel42Ideal.nD Cert.Kernel42Ideal.τ Cert.Kernel42Ideal.sig) → Buf (Elt Ideal) ℓ) (g : Dev Cert.Kernel42Ideal.nD → PrngReg), Pre_Kernel42Ideal m →
    θ_run (Cert.Kernel42Ideal.defs (F := Ideal)) (onTc (τ := Cert.Kernel42Ideal.τ) (Cert.Kernel42Ideal.main (F := Ideal))) ⟨m, fun _ => 0, g⟩ (fun r => (∀ c : Dev Cert.Kernel42Ideal.nD,
      r.2.mem ((c.tc : Thread Cert.Kernel42Ideal.nD Cert.Kernel42Ideal.τ).loc Cert.Kernel42Ideal.main_arg0) = m ((c.tc : Thread Cert.Kernel42Ideal.nD Cert.Kernel42Ideal.τ).loc Cert.Kernel42Ideal.main_arg0)
      ∧ r.2.mem ((c.tc : Thread Cert.Kernel42Ideal.nD Cert.Kernel42Ideal.τ).loc Cert.Kernel42Ideal.main_arg1) = m ((c.tc : Thread Cert.Kernel42Ideal.nD Cert.Kernel42Ideal.τ).loc Cert.Kernel42Ideal.main_arg1)
      ∧ r.2.mem ((c.tc : Thread Cert.Kernel42Ideal.nD Cert.Kernel42Ideal.τ).loc Cert.Kernel42Ideal.main_arg2) = m ((c.tc : Thread Cert.Kernel42Ideal.nD Cert.Kernel42Ideal.τ).loc Cert.Kernel42Ideal.main_arg2))
      ∧ r.2.sem = fun _ => 0)

def quiescent_Reference42Ideal [hReference42Ideal : Cert.Reference42Ideal.Facts] : Prop :=
  ∀ (m : (ℓ : Loc Cert.Reference42Ideal.nD Cert.Reference42Ideal.τ Cert.Reference42Ideal.sig) → Buf (Elt Ideal) ℓ) (g : Dev Cert.Reference42Ideal.nD → PrngReg), Pre_Reference42Ideal m →
    θ_run (Cert.Reference42Ideal.defs (F := Ideal)) (onTc (τ := Cert.Reference42Ideal.τ) (Cert.Reference42Ideal.main (F := Ideal))) ⟨m, fun _ => 0, g⟩ (fun r => (∀ c : Dev Cert.Reference42Ideal.nD,
      r.2.mem ((c.tc : Thread Cert.Reference42Ideal.nD Cert.Reference42Ideal.τ).loc Cert.Reference42Ideal.main_arg0) = m ((c.tc : Thread Cert.Reference42Ideal.nD Cert.Reference42Ideal.τ).loc Cert.Reference42Ideal.main_arg0)
      ∧ r.2.mem ((c.tc : Thread Cert.Reference42Ideal.nD Cert.Reference42Ideal.τ).loc Cert.Reference42Ideal.main_arg1) = m ((c.tc : Thread Cert.Reference42Ideal.nD Cert.Reference42Ideal.τ).loc Cert.Reference42Ideal.main_arg1)
      ∧ r.2.mem ((c.tc : Thread Cert.Reference42Ideal.nD Cert.Reference42Ideal.τ).loc Cert.Reference42Ideal.main_arg2) = m ((c.tc : Thread Cert.Reference42Ideal.nD Cert.Reference42Ideal.τ).loc Cert.Reference42Ideal.main_arg2))
      ∧ r.2.sem = fun _ => 0)

def quiescent_Kernel43 [hKernel43 : Cert.Kernel43.Facts] : Prop :=
  ∀ (m : (ℓ : Loc Cert.Kernel43.nD Cert.Kernel43.τ Cert.Kernel43.sig) → Buf (Elt Bits) ℓ) (g : Dev Cert.Kernel43.nD → PrngReg), Pre_Kernel43 m →
    θ_run (Cert.Kernel43.defs (F := Bits)) (onTc (τ := Cert.Kernel43.τ) (Cert.Kernel43.main (F := Bits))) ⟨m, fun _ => 0, g⟩ (fun r => (∀ c : Dev Cert.Kernel43.nD,
      r.2.mem ((c.tc : Thread Cert.Kernel43.nD Cert.Kernel43.τ).loc Cert.Kernel43.main_arg0) = m ((c.tc : Thread Cert.Kernel43.nD Cert.Kernel43.τ).loc Cert.Kernel43.main_arg0)
      ∧ r.2.mem ((c.tc : Thread Cert.Kernel43.nD Cert.Kernel43.τ).loc Cert.Kernel43.main_arg1) = m ((c.tc : Thread Cert.Kernel43.nD Cert.Kernel43.τ).loc Cert.Kernel43.main_arg1)
      ∧ r.2.mem ((c.tc : Thread Cert.Kernel43.nD Cert.Kernel43.τ).loc Cert.Kernel43.main_arg2) = m ((c.tc : Thread Cert.Kernel43.nD Cert.Kernel43.τ).loc Cert.Kernel43.main_arg2))
      ∧ r.2.sem = fun _ => 0)

def quiescent_Kernel43Ideal [hKernel43Ideal : Cert.Kernel43Ideal.Facts] : Prop :=
  ∀ (m : (ℓ : Loc Cert.Kernel43Ideal.nD Cert.Kernel43Ideal.τ Cert.Kernel43Ideal.sig) → Buf (Elt Ideal) ℓ) (g : Dev Cert.Kernel43Ideal.nD → PrngReg), Pre_Kernel43Ideal m →
    θ_run (Cert.Kernel43Ideal.defs (F := Ideal)) (onTc (τ := Cert.Kernel43Ideal.τ) (Cert.Kernel43Ideal.main (F := Ideal))) ⟨m, fun _ => 0, g⟩ (fun r => (∀ c : Dev Cert.Kernel43Ideal.nD,
      r.2.mem ((c.tc : Thread Cert.Kernel43Ideal.nD Cert.Kernel43Ideal.τ).loc Cert.Kernel43Ideal.main_arg0) = m ((c.tc : Thread Cert.Kernel43Ideal.nD Cert.Kernel43Ideal.τ).loc Cert.Kernel43Ideal.main_arg0)
      ∧ r.2.mem ((c.tc : Thread Cert.Kernel43Ideal.nD Cert.Kernel43Ideal.τ).loc Cert.Kernel43Ideal.main_arg1) = m ((c.tc : Thread Cert.Kernel43Ideal.nD Cert.Kernel43Ideal.τ).loc Cert.Kernel43Ideal.main_arg1)
      ∧ r.2.mem ((c.tc : Thread Cert.Kernel43Ideal.nD Cert.Kernel43Ideal.τ).loc Cert.Kernel43Ideal.main_arg2) = m ((c.tc : Thread Cert.Kernel43Ideal.nD Cert.Kernel43Ideal.τ).loc Cert.Kernel43Ideal.main_arg2))
      ∧ r.2.sem = fun _ => 0)

def quiescent_Reference43Ideal [hReference43Ideal : Cert.Reference43Ideal.Facts] : Prop :=
  ∀ (m : (ℓ : Loc Cert.Reference43Ideal.nD Cert.Reference43Ideal.τ Cert.Reference43Ideal.sig) → Buf (Elt Ideal) ℓ) (g : Dev Cert.Reference43Ideal.nD → PrngReg), Pre_Reference43Ideal m →
    θ_run (Cert.Reference43Ideal.defs (F := Ideal)) (onTc (τ := Cert.Reference43Ideal.τ) (Cert.Reference43Ideal.main (F := Ideal))) ⟨m, fun _ => 0, g⟩ (fun r => (∀ c : Dev Cert.Reference43Ideal.nD,
      r.2.mem ((c.tc : Thread Cert.Reference43Ideal.nD Cert.Reference43Ideal.τ).loc Cert.Reference43Ideal.main_arg0) = m ((c.tc : Thread Cert.Reference43Ideal.nD Cert.Reference43Ideal.τ).loc Cert.Reference43Ideal.main_arg0)
      ∧ r.2.mem ((c.tc : Thread Cert.Reference43Ideal.nD Cert.Reference43Ideal.τ).loc Cert.Reference43Ideal.main_arg1) = m ((c.tc : Thread Cert.Reference43Ideal.nD Cert.Reference43Ideal.τ).loc Cert.Reference43Ideal.main_arg1)
      ∧ r.2.mem ((c.tc : Thread Cert.Reference43Ideal.nD Cert.Reference43Ideal.τ).loc Cert.Reference43Ideal.main_arg2) = m ((c.tc : Thread Cert.Reference43Ideal.nD Cert.Reference43Ideal.τ).loc Cert.Reference43Ideal.main_arg2))
      ∧ r.2.sem = fun _ => 0)

def quiescent_Kernel44 [hKernel44 : Cert.Kernel44.Facts] : Prop :=
  ∀ (m : (ℓ : Loc Cert.Kernel44.nD Cert.Kernel44.τ Cert.Kernel44.sig) → Buf (Elt Bits) ℓ) (g : Dev Cert.Kernel44.nD → PrngReg), Pre_Kernel44 m →
    θ_run (Cert.Kernel44.defs (F := Bits)) (onTc (τ := Cert.Kernel44.τ) (Cert.Kernel44.main (F := Bits))) ⟨m, fun _ => 0, g⟩ (fun r => (∀ c : Dev Cert.Kernel44.nD,
      r.2.mem ((c.tc : Thread Cert.Kernel44.nD Cert.Kernel44.τ).loc Cert.Kernel44.main_arg0) = m ((c.tc : Thread Cert.Kernel44.nD Cert.Kernel44.τ).loc Cert.Kernel44.main_arg0)
      ∧ r.2.mem ((c.tc : Thread Cert.Kernel44.nD Cert.Kernel44.τ).loc Cert.Kernel44.main_arg1) = m ((c.tc : Thread Cert.Kernel44.nD Cert.Kernel44.τ).loc Cert.Kernel44.main_arg1))
      ∧ r.2.sem = fun _ => 0)

def quiescent_Kernel44Ideal [hKernel44Ideal : Cert.Kernel44Ideal.Facts] : Prop :=
  ∀ (m : (ℓ : Loc Cert.Kernel44Ideal.nD Cert.Kernel44Ideal.τ Cert.Kernel44Ideal.sig) → Buf (Elt Ideal) ℓ) (g : Dev Cert.Kernel44Ideal.nD → PrngReg), Pre_Kernel44Ideal m →
    θ_run (Cert.Kernel44Ideal.defs (F := Ideal)) (onTc (τ := Cert.Kernel44Ideal.τ) (Cert.Kernel44Ideal.main (F := Ideal))) ⟨m, fun _ => 0, g⟩ (fun r => (∀ c : Dev Cert.Kernel44Ideal.nD,
      r.2.mem ((c.tc : Thread Cert.Kernel44Ideal.nD Cert.Kernel44Ideal.τ).loc Cert.Kernel44Ideal.main_arg0) = m ((c.tc : Thread Cert.Kernel44Ideal.nD Cert.Kernel44Ideal.τ).loc Cert.Kernel44Ideal.main_arg0)
      ∧ r.2.mem ((c.tc : Thread Cert.Kernel44Ideal.nD Cert.Kernel44Ideal.τ).loc Cert.Kernel44Ideal.main_arg1) = m ((c.tc : Thread Cert.Kernel44Ideal.nD Cert.Kernel44Ideal.τ).loc Cert.Kernel44Ideal.main_arg1))
      ∧ r.2.sem = fun _ => 0)

def quiescent_Reference44Ideal [hReference44Ideal : Cert.Reference44Ideal.Facts] : Prop :=
  ∀ (m : (ℓ : Loc Cert.Reference44Ideal.nD Cert.Reference44Ideal.τ Cert.Reference44Ideal.sig) → Buf (Elt Ideal) ℓ) (g : Dev Cert.Reference44Ideal.nD → PrngReg), Pre_Reference44Ideal m →
    θ_run (Cert.Reference44Ideal.defs (F := Ideal)) (onTc (τ := Cert.Reference44Ideal.τ) (Cert.Reference44Ideal.main (F := Ideal))) ⟨m, fun _ => 0, g⟩ (fun r => (∀ c : Dev Cert.Reference44Ideal.nD,
      r.2.mem ((c.tc : Thread Cert.Reference44Ideal.nD Cert.Reference44Ideal.τ).loc Cert.Reference44Ideal.main_arg0) = m ((c.tc : Thread Cert.Reference44Ideal.nD Cert.Reference44Ideal.τ).loc Cert.Reference44Ideal.main_arg0)
      ∧ r.2.mem ((c.tc : Thread Cert.Reference44Ideal.nD Cert.Reference44Ideal.τ).loc Cert.Reference44Ideal.main_arg1) = m ((c.tc : Thread Cert.Reference44Ideal.nD Cert.Reference44Ideal.τ).loc Cert.Reference44Ideal.main_arg1))
      ∧ r.2.sem = fun _ => 0)

def quiescent_Kernel45 [hKernel45 : Cert.Kernel45.Facts] : Prop :=
  ∀ (m : (ℓ : Loc Cert.Kernel45.nD Cert.Kernel45.τ Cert.Kernel45.sig) → Buf (Elt Bits) ℓ) (g : Dev Cert.Kernel45.nD → PrngReg), Pre_Kernel45 m →
    θ_run (Cert.Kernel45.defs (F := Bits)) (onTc (τ := Cert.Kernel45.τ) (Cert.Kernel45.main (F := Bits))) ⟨m, fun _ => 0, g⟩ (fun r => (∀ c : Dev Cert.Kernel45.nD,
      r.2.mem ((c.tc : Thread Cert.Kernel45.nD Cert.Kernel45.τ).loc Cert.Kernel45.main_arg0) = m ((c.tc : Thread Cert.Kernel45.nD Cert.Kernel45.τ).loc Cert.Kernel45.main_arg0)
      ∧ r.2.mem ((c.tc : Thread Cert.Kernel45.nD Cert.Kernel45.τ).loc Cert.Kernel45.main_arg1) = m ((c.tc : Thread Cert.Kernel45.nD Cert.Kernel45.τ).loc Cert.Kernel45.main_arg1)
      ∧ r.2.mem ((c.tc : Thread Cert.Kernel45.nD Cert.Kernel45.τ).loc Cert.Kernel45.main_arg2) = m ((c.tc : Thread Cert.Kernel45.nD Cert.Kernel45.τ).loc Cert.Kernel45.main_arg2))
      ∧ r.2.sem = fun _ => 0)

def quiescent_Kernel45Ideal [hKernel45Ideal : Cert.Kernel45Ideal.Facts] : Prop :=
  ∀ (m : (ℓ : Loc Cert.Kernel45Ideal.nD Cert.Kernel45Ideal.τ Cert.Kernel45Ideal.sig) → Buf (Elt Ideal) ℓ) (g : Dev Cert.Kernel45Ideal.nD → PrngReg), Pre_Kernel45Ideal m →
    θ_run (Cert.Kernel45Ideal.defs (F := Ideal)) (onTc (τ := Cert.Kernel45Ideal.τ) (Cert.Kernel45Ideal.main (F := Ideal))) ⟨m, fun _ => 0, g⟩ (fun r => (∀ c : Dev Cert.Kernel45Ideal.nD,
      r.2.mem ((c.tc : Thread Cert.Kernel45Ideal.nD Cert.Kernel45Ideal.τ).loc Cert.Kernel45Ideal.main_arg0) = m ((c.tc : Thread Cert.Kernel45Ideal.nD Cert.Kernel45Ideal.τ).loc Cert.Kernel45Ideal.main_arg0)
      ∧ r.2.mem ((c.tc : Thread Cert.Kernel45Ideal.nD Cert.Kernel45Ideal.τ).loc Cert.Kernel45Ideal.main_arg1) = m ((c.tc : Thread Cert.Kernel45Ideal.nD Cert.Kernel45Ideal.τ).loc Cert.Kernel45Ideal.main_arg1)
      ∧ r.2.mem ((c.tc : Thread Cert.Kernel45Ideal.nD Cert.Kernel45Ideal.τ).loc Cert.Kernel45Ideal.main_arg2) = m ((c.tc : Thread Cert.Kernel45Ideal.nD Cert.Kernel45Ideal.τ).loc Cert.Kernel45Ideal.main_arg2))
      ∧ r.2.sem = fun _ => 0)

def quiescent_Reference45Ideal [hReference45Ideal : Cert.Reference45Ideal.Facts] : Prop :=
  ∀ (m : (ℓ : Loc Cert.Reference45Ideal.nD Cert.Reference45Ideal.τ Cert.Reference45Ideal.sig) → Buf (Elt Ideal) ℓ) (g : Dev Cert.Reference45Ideal.nD → PrngReg), Pre_Reference45Ideal m →
    θ_run (Cert.Reference45Ideal.defs (F := Ideal)) (onTc (τ := Cert.Reference45Ideal.τ) (Cert.Reference45Ideal.main (F := Ideal))) ⟨m, fun _ => 0, g⟩ (fun r => (∀ c : Dev Cert.Reference45Ideal.nD,
      r.2.mem ((c.tc : Thread Cert.Reference45Ideal.nD Cert.Reference45Ideal.τ).loc Cert.Reference45Ideal.main_arg0) = m ((c.tc : Thread Cert.Reference45Ideal.nD Cert.Reference45Ideal.τ).loc Cert.Reference45Ideal.main_arg0)
      ∧ r.2.mem ((c.tc : Thread Cert.Reference45Ideal.nD Cert.Reference45Ideal.τ).loc Cert.Reference45Ideal.main_arg1) = m ((c.tc : Thread Cert.Reference45Ideal.nD Cert.Reference45Ideal.τ).loc Cert.Reference45Ideal.main_arg1)
      ∧ r.2.mem ((c.tc : Thread Cert.Reference45Ideal.nD Cert.Reference45Ideal.τ).loc Cert.Reference45Ideal.main_arg2) = m ((c.tc : Thread Cert.Reference45Ideal.nD Cert.Reference45Ideal.τ).loc Cert.Reference45Ideal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_v64) = v1 c
          ∧ r.2.mem ((c.tc : Thread Cert.ReferenceIdeal.nD Cert.ReferenceIdeal.τ).loc Cert.ReferenceIdeal.main_v63) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)) (v2 : (c : Dev Cert.Kernel2Ideal.nD) → Buf (Elt Ideal) ((c.tc : Thread Cert.Kernel2Ideal.nD Cert.Kernel2Ideal.τ).loc Cert.Kernel2Ideal.main_v0_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_v0_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v13) = v0 c
          ∧ r.2.mem ((c.tc : Thread Cert.Reference2Ideal.nD Cert.Reference2Ideal.τ).loc Cert.Reference2Ideal.main_v14) = v1 c
          ∧ r.2.mem ((c.tc : Thread Cert.Reference2Ideal.nD Cert.Reference2Ideal.τ).loc Cert.Reference2Ideal.main_v15) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)) (v2 : (c : Dev Cert.Kernel3Ideal.nD) → Buf (Elt Ideal) ((c.tc : Thread Cert.Kernel3Ideal.nD Cert.Kernel3Ideal.τ).loc Cert.Kernel3Ideal.main_v0_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_v0_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v9) = v0 c
          ∧ r.2.mem ((c.tc : Thread Cert.Reference3Ideal.nD Cert.Reference3Ideal.τ).loc Cert.Reference3Ideal.main_v10) = v1 c
          ∧ r.2.mem ((c.tc : Thread Cert.Reference3Ideal.nD Cert.Reference3Ideal.τ).loc Cert.Reference3Ideal.main_v11) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v8) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v2_0)) (v1 : (c : Dev Cert.Kernel5Ideal.nD) → Buf (Elt Ideal) ((c.tc : Thread Cert.Kernel5Ideal.nD Cert.Kernel5Ideal.τ).loc Cert.Kernel5Ideal.main_v2_1)) (v2 : (c : Dev Cert.Kernel5Ideal.nD) → Buf (Elt Ideal) ((c.tc : Thread Cert.Kernel5Ideal.nD Cert.Kernel5Ideal.τ).loc Cert.Kernel5Ideal.main_v2_2)) (v3 : (c : Dev Cert.Kernel5Ideal.nD) → Buf (Elt Ideal) ((c.tc : Thread Cert.Kernel5Ideal.nD Cert.Kernel5Ideal.τ).loc Cert.Kernel5Ideal.main_v2_3)) (v4 : (c : Dev Cert.Kernel5Ideal.nD) → Buf (Elt Ideal) ((c.tc : Thread Cert.Kernel5Ideal.nD Cert.Kernel5Ideal.τ).loc Cert.Kernel5Ideal.main_v2_4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2_0) = v0 c
          ∧ r.2.mem ((c.tc : Thread Cert.Kernel5Ideal.nD Cert.Kernel5Ideal.τ).loc Cert.Kernel5Ideal.main_v2_1) = v1 c
          ∧ r.2.mem ((c.tc : Thread Cert.Kernel5Ideal.nD Cert.Kernel5Ideal.τ).loc Cert.Kernel5Ideal.main_v2_2) = v2 c
          ∧ r.2.mem ((c.tc : Thread Cert.Kernel5Ideal.nD Cert.Kernel5Ideal.τ).loc Cert.Kernel5Ideal.main_v2_3) = v3 c
          ∧ r.2.mem ((c.tc : Thread Cert.Kernel5Ideal.nD Cert.Kernel5Ideal.τ).loc Cert.Kernel5Ideal.main_v2_4) = v4 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v10) = v0 c
          ∧ r.2.mem ((c.tc : Thread Cert.Reference5Ideal.nD Cert.Reference5Ideal.τ).loc Cert.Reference5Ideal.main_v11) = v1 c
          ∧ r.2.mem ((c.tc : Thread Cert.Reference5Ideal.nD Cert.Reference5Ideal.τ).loc Cert.Reference5Ideal.main_v12) = v2 c
          ∧ r.2.mem ((c.tc : Thread Cert.Reference5Ideal.nD Cert.Reference5Ideal.τ).loc Cert.Reference5Ideal.main_v13) = v3 c
          ∧ r.2.mem ((c.tc : Thread Cert.Reference5Ideal.nD Cert.Reference5Ideal.τ).loc Cert.Reference5Ideal.main_v14) = v4 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)) (v2 : (c : Dev Cert.Kernel6Ideal.nD) → Buf (Elt Ideal) ((c.tc : Thread Cert.Kernel6Ideal.nD Cert.Kernel6Ideal.τ).loc Cert.Kernel6Ideal.main_v0_2)) (v3 : (c : Dev Cert.Kernel6Ideal.nD) → Buf (Elt Ideal) ((c.tc : Thread Cert.Kernel6Ideal.nD Cert.Kernel6Ideal.τ).loc Cert.Kernel6Ideal.main_v0_3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_v0_2) = v2 c
          ∧ r.2.mem ((c.tc : Thread Cert.Kernel6Ideal.nD Cert.Kernel6Ideal.τ).loc Cert.Kernel6Ideal.main_v0_3) = v3 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_v7) = v1 c
          ∧ r.2.mem ((c.tc : Thread Cert.Reference6Ideal.nD Cert.Reference6Ideal.τ).loc Cert.Reference6Ideal.main_v11) = v2 c
          ∧ r.2.mem ((c.tc : Thread Cert.Reference6Ideal.nD Cert.Reference6Ideal.τ).loc Cert.Reference6Ideal.main_v15) = v3 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v4) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v4) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v5) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v6) = v0 c
          ∧ r.2.mem ((c.tc : Thread Cert.Reference10Ideal.nD Cert.Reference10Ideal.τ).loc Cert.Reference10Ideal.main_v7) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v5) = v0 c
          ∧ r.2.mem ((c.tc : Thread Cert.Reference11Ideal.nD Cert.Reference11Ideal.τ).loc Cert.Reference11Ideal.main_v8) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v4) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v6) = v0 c
          ∧ r.2.mem ((c.tc : Thread Cert.Reference13Ideal.nD Cert.Reference13Ideal.τ).loc Cert.Reference13Ideal.main_v19) = v1 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v4) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v4) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v3) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v5) = v0 c
          ∧ r.2.mem ((c.tc : Thread Cert.Reference17Ideal.nD Cert.Reference17Ideal.τ).loc Cert.Reference17Ideal.main_v18) = v1 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v0) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v36) = v0 c
          ∧ r.2.mem ((c.tc : Thread Cert.Reference19Ideal.nD Cert.Reference19Ideal.τ).loc Cert.Reference19Ideal.main_v18) = v1 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v1_0)) (v1 : (c : Dev Cert.Kernel20Ideal.nD) → Buf (Elt Ideal) ((c.tc : Thread Cert.Kernel20Ideal.nD Cert.Kernel20Ideal.τ).loc Cert.Kernel20Ideal.main_v1_1)) (v2 : (c : Dev Cert.Kernel20Ideal.nD) → Buf (Elt Ideal) ((c.tc : Thread Cert.Kernel20Ideal.nD Cert.Kernel20Ideal.τ).loc Cert.Kernel20Ideal.main_v1_2)) (v3 : (c : Dev Cert.Kernel20Ideal.nD) → Buf (Elt Ideal) ((c.tc : Thread Cert.Kernel20Ideal.nD Cert.Kernel20Ideal.τ).loc Cert.Kernel20Ideal.main_v1_3)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v1_0) = v0 c
          ∧ r.2.mem ((c.tc : Thread Cert.Kernel20Ideal.nD Cert.Kernel20Ideal.τ).loc Cert.Kernel20Ideal.main_v1_1) = v1 c
          ∧ r.2.mem ((c.tc : Thread Cert.Kernel20Ideal.nD Cert.Kernel20Ideal.τ).loc Cert.Kernel20Ideal.main_v1_2) = v2 c
          ∧ r.2.mem ((c.tc : Thread Cert.Kernel20Ideal.nD Cert.Kernel20Ideal.τ).loc Cert.Kernel20Ideal.main_v1_3) = v3 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_arg0) = v0 c
          ∧ r.2.mem ((c.tc : Thread Cert.Reference20Ideal.nD Cert.Reference20Ideal.τ).loc Cert.Reference20Ideal.main_v23) = v1 c
          ∧ r.2.mem ((c.tc : Thread Cert.Reference20Ideal.nD Cert.Reference20Ideal.τ).loc Cert.Reference20Ideal.main_v4) = v2 c
          ∧ r.2.mem ((c.tc : Thread Cert.Reference20Ideal.nD Cert.Reference20Ideal.τ).loc Cert.Reference20Ideal.main_v10) = v3 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)) →
    ∃ (v0 : (c : Dev Cert.Kernel21Ideal.nD) → Buf (Elt Ideal) ((c.tc : Thread Cert.Kernel21Ideal.nD Cert.Kernel21Ideal.τ).loc Cert.Kernel21Ideal.main_v1_0)) (v1 : (c : Dev Cert.Kernel21Ideal.nD) → Buf (Elt Ideal) ((c.tc : Thread Cert.Kernel21Ideal.nD Cert.Kernel21Ideal.τ).loc Cert.Kernel21Ideal.main_v1_1)) (v2 : (c : Dev Cert.Kernel21Ideal.nD) → Buf (Elt Ideal) ((c.tc : Thread Cert.Kernel21Ideal.nD Cert.Kernel21Ideal.τ).loc Cert.Kernel21Ideal.main_v1_2)) (v3 : (c : Dev Cert.Kernel21Ideal.nD) → Buf (Elt Ideal) ((c.tc : Thread Cert.Kernel21Ideal.nD Cert.Kernel21Ideal.τ).loc Cert.Kernel21Ideal.main_v1_3)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v1_0) = v0 c
          ∧ r.2.mem ((c.tc : Thread Cert.Kernel21Ideal.nD Cert.Kernel21Ideal.τ).loc Cert.Kernel21Ideal.main_v1_1) = v1 c
          ∧ r.2.mem ((c.tc : Thread Cert.Kernel21Ideal.nD Cert.Kernel21Ideal.τ).loc Cert.Kernel21Ideal.main_v1_2) = v2 c
          ∧ r.2.mem ((c.tc : Thread Cert.Kernel21Ideal.nD Cert.Kernel21Ideal.τ).loc Cert.Kernel21Ideal.main_v1_3) = v3 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_arg0) = v0 c
          ∧ r.2.mem ((c.tc : Thread Cert.Reference21Ideal.nD Cert.Reference21Ideal.τ).loc Cert.Reference21Ideal.main_v23) = v1 c
          ∧ r.2.mem ((c.tc : Thread Cert.Reference21Ideal.nD Cert.Reference21Ideal.τ).loc Cert.Reference21Ideal.main_v4) = v2 c
          ∧ r.2.mem ((c.tc : Thread Cert.Reference21Ideal.nD Cert.Reference21Ideal.τ).loc Cert.Reference21Ideal.main_v10) = v3 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3))

def preserves_Kernel26_Kernel26Ideal : Prop :=
  True

def algebraic_Kernel26Ideal_Reference26Ideal [hKernel26Ideal : Cert.Kernel26Ideal.Facts] [hReference26Ideal : Cert.Reference26Ideal.Facts] [hPre_owner_is_a_device26 : Cert.Pre_owner_is_a_device26.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)
      ∧ m' ((c.tc : Thread Cert.Reference26Ideal.nD Cert.Reference26Ideal.τ).loc Cert.Reference26Ideal.main_arg3) = m ((c.tc : Thread Cert.Kernel26Ideal.nD Cert.Kernel26Ideal.τ).loc Cert.Kernel26Ideal.main_arg3)
      ∧ m' ((c.tc : Thread Cert.Reference26Ideal.nD Cert.Reference26Ideal.τ).loc Cert.Reference26Ideal.main_arg4) = m ((c.tc : Thread Cert.Kernel26Ideal.nD Cert.Kernel26Ideal.τ).loc Cert.Kernel26Ideal.main_arg4)
      ∧ m' ((c.tc : Thread Cert.Reference26Ideal.nD Cert.Reference26Ideal.τ).loc Cert.Reference26Ideal.main_arg5) = m ((c.tc : Thread Cert.Kernel26Ideal.nD Cert.Kernel26Ideal.τ).loc Cert.Kernel26Ideal.main_arg5)) →
    ∃ (v0 : (c : Dev Cert.Kernel26Ideal.nD) → Buf (Elt Ideal) ((c.tc : Thread Cert.Kernel26Ideal.nD Cert.Kernel26Ideal.τ).loc Cert.Kernel26Ideal.main_v1_0)) (v1 : (c : Dev Cert.Kernel26Ideal.nD) → Buf (Elt Ideal) ((c.tc : Thread Cert.Kernel26Ideal.nD Cert.Kernel26Ideal.τ).loc Cert.Kernel26Ideal.main_v1_1)) (v2 : (c : Dev Cert.Kernel26Ideal.nD) → Buf (Elt Ideal) ((c.tc : Thread Cert.Kernel26Ideal.nD Cert.Kernel26Ideal.τ).loc Cert.Kernel26Ideal.main_v1_2)) (v3 : (c : Dev Cert.Kernel26Ideal.nD) → Buf (Elt Ideal) ((c.tc : Thread Cert.Kernel26Ideal.nD Cert.Kernel26Ideal.τ).loc Cert.Kernel26Ideal.main_v1_3)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v1_0) = v0 c
          ∧ r.2.mem ((c.tc : Thread Cert.Kernel26Ideal.nD Cert.Kernel26Ideal.τ).loc Cert.Kernel26Ideal.main_v1_1) = v1 c
          ∧ r.2.mem ((c.tc : Thread Cert.Kernel26Ideal.nD Cert.Kernel26Ideal.τ).loc Cert.Kernel26Ideal.main_v1_2) = v2 c
          ∧ r.2.mem ((c.tc : Thread Cert.Kernel26Ideal.nD Cert.Kernel26Ideal.τ).loc Cert.Kernel26Ideal.main_v1_3) = v3 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
          ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3)
          ∧ r.2.mem ((c.tc : Thread Cert.Kernel26Ideal.nD Cert.Kernel26Ideal.τ).loc Cert.Kernel26Ideal.main_arg4) = m ((c.tc : Thread Cert.Kernel26Ideal.nD Cert.Kernel26Ideal.τ).loc Cert.Kernel26Ideal.main_arg4)
          ∧ r.2.mem ((c.tc : Thread Cert.Kernel26Ideal.nD Cert.Kernel26Ideal.τ).loc Cert.Kernel26Ideal.main_arg5) = m ((c.tc : Thread Cert.Kernel26Ideal.nD Cert.Kernel26Ideal.τ).loc Cert.Kernel26Ideal.main_arg5))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v7) = v0 c
          ∧ r.2.mem ((c.tc : Thread Cert.Reference26Ideal.nD Cert.Reference26Ideal.τ).loc Cert.Reference26Ideal.main_v31) = v1 c
          ∧ r.2.mem ((c.tc : Thread Cert.Reference26Ideal.nD Cert.Reference26Ideal.τ).loc Cert.Reference26Ideal.main_v12) = v2 c
          ∧ r.2.mem ((c.tc : Thread Cert.Reference26Ideal.nD Cert.Reference26Ideal.τ).loc Cert.Reference26Ideal.main_v18) = v3 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2)
          ∧ r.2.mem ((c.tc : Thread Cert.Reference26Ideal.nD Cert.Reference26Ideal.τ).loc Cert.Reference26Ideal.main_arg3) = m' ((c.tc : Thread Cert.Reference26Ideal.nD Cert.Reference26Ideal.τ).loc Cert.Reference26Ideal.main_arg3)
          ∧ r.2.mem ((c.tc : Thread Cert.Reference26Ideal.nD Cert.Reference26Ideal.τ).loc Cert.Reference26Ideal.main_arg4) = m' ((c.tc : Thread Cert.Reference26Ideal.nD Cert.Reference26Ideal.τ).loc Cert.Reference26Ideal.main_arg4)
          ∧ r.2.mem ((c.tc : Thread Cert.Reference26Ideal.nD Cert.Reference26Ideal.τ).loc Cert.Reference26Ideal.main_arg5) = m' ((c.tc : Thread Cert.Reference26Ideal.nD Cert.Reference26Ideal.τ).loc Cert.Reference26Ideal.main_arg5))

def preserves_Kernel27_Kernel27Ideal : Prop :=
  True

def algebraic_Kernel27Ideal_Reference27Ideal [hKernel27Ideal : Cert.Kernel27Ideal.Facts] [hReference27Ideal : Cert.Reference27Ideal.Facts] [hPre_owner_is_a_device27 : Cert.Pre_owner_is_a_device27.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)
      ∧ m' ((c.tc : Thread Cert.Reference27Ideal.nD Cert.Reference27Ideal.τ).loc Cert.Reference27Ideal.main_arg3) = m ((c.tc : Thread Cert.Kernel27Ideal.nD Cert.Kernel27Ideal.τ).loc Cert.Kernel27Ideal.main_arg3)
      ∧ m' ((c.tc : Thread Cert.Reference27Ideal.nD Cert.Reference27Ideal.τ).loc Cert.Reference27Ideal.main_arg4) = m ((c.tc : Thread Cert.Kernel27Ideal.nD Cert.Kernel27Ideal.τ).loc Cert.Kernel27Ideal.main_arg4)
      ∧ m' ((c.tc : Thread Cert.Reference27Ideal.nD Cert.Reference27Ideal.τ).loc Cert.Reference27Ideal.main_arg5) = m ((c.tc : Thread Cert.Kernel27Ideal.nD Cert.Kernel27Ideal.τ).loc Cert.Kernel27Ideal.main_arg5)) →
    ∃ (v0 : (c : Dev Cert.Kernel27Ideal.nD) → Buf (Elt Ideal) ((c.tc : Thread Cert.Kernel27Ideal.nD Cert.Kernel27Ideal.τ).loc Cert.Kernel27Ideal.main_v1_0)) (v1 : (c : Dev Cert.Kernel27Ideal.nD) → Buf (Elt Ideal) ((c.tc : Thread Cert.Kernel27Ideal.nD Cert.Kernel27Ideal.τ).loc Cert.Kernel27Ideal.main_v1_1)) (v2 : (c : Dev Cert.Kernel27Ideal.nD) → Buf (Elt Ideal) ((c.tc : Thread Cert.Kernel27Ideal.nD Cert.Kernel27Ideal.τ).loc Cert.Kernel27Ideal.main_v1_2)) (v3 : (c : Dev Cert.Kernel27Ideal.nD) → Buf (Elt Ideal) ((c.tc : Thread Cert.Kernel27Ideal.nD Cert.Kernel27Ideal.τ).loc Cert.Kernel27Ideal.main_v1_3)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v1_0) = v0 c
          ∧ r.2.mem ((c.tc : Thread Cert.Kernel27Ideal.nD Cert.Kernel27Ideal.τ).loc Cert.Kernel27Ideal.main_v1_1) = v1 c
          ∧ r.2.mem ((c.tc : Thread Cert.Kernel27Ideal.nD Cert.Kernel27Ideal.τ).loc Cert.Kernel27Ideal.main_v1_2) = v2 c
          ∧ r.2.mem ((c.tc : Thread Cert.Kernel27Ideal.nD Cert.Kernel27Ideal.τ).loc Cert.Kernel27Ideal.main_v1_3) = v3 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
          ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3)
          ∧ r.2.mem ((c.tc : Thread Cert.Kernel27Ideal.nD Cert.Kernel27Ideal.τ).loc Cert.Kernel27Ideal.main_arg4) = m ((c.tc : Thread Cert.Kernel27Ideal.nD Cert.Kernel27Ideal.τ).loc Cert.Kernel27Ideal.main_arg4)
          ∧ r.2.mem ((c.tc : Thread Cert.Kernel27Ideal.nD Cert.Kernel27Ideal.τ).loc Cert.Kernel27Ideal.main_arg5) = m ((c.tc : Thread Cert.Kernel27Ideal.nD Cert.Kernel27Ideal.τ).loc Cert.Kernel27Ideal.main_arg5))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v7) = v0 c
          ∧ r.2.mem ((c.tc : Thread Cert.Reference27Ideal.nD Cert.Reference27Ideal.τ).loc Cert.Reference27Ideal.main_v31) = v1 c
          ∧ r.2.mem ((c.tc : Thread Cert.Reference27Ideal.nD Cert.Reference27Ideal.τ).loc Cert.Reference27Ideal.main_v12) = v2 c
          ∧ r.2.mem ((c.tc : Thread Cert.Reference27Ideal.nD Cert.Reference27Ideal.τ).loc Cert.Reference27Ideal.main_v18) = v3 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2)
          ∧ r.2.mem ((c.tc : Thread Cert.Reference27Ideal.nD Cert.Reference27Ideal.τ).loc Cert.Reference27Ideal.main_arg3) = m' ((c.tc : Thread Cert.Reference27Ideal.nD Cert.Reference27Ideal.τ).loc Cert.Reference27Ideal.main_arg3)
          ∧ r.2.mem ((c.tc : Thread Cert.Reference27Ideal.nD Cert.Reference27Ideal.τ).loc Cert.Reference27Ideal.main_arg4) = m' ((c.tc : Thread Cert.Reference27Ideal.nD Cert.Reference27Ideal.τ).loc Cert.Reference27Ideal.main_arg4)
          ∧ r.2.mem ((c.tc : Thread Cert.Reference27Ideal.nD Cert.Reference27Ideal.τ).loc Cert.Reference27Ideal.main_arg5) = m' ((c.tc : Thread Cert.Reference27Ideal.nD Cert.Reference27Ideal.τ).loc Cert.Reference27Ideal.main_arg5))

def preserves_Kernel28_Kernel28Ideal : Prop :=
  True

def algebraic_Kernel28Ideal_Reference28Ideal [hKernel28Ideal : Cert.Kernel28Ideal.Facts] [hReference28Ideal : Cert.Reference28Ideal.Facts] [hPre_owner_is_a_device28 : Cert.Pre_owner_is_a_device28.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)
      ∧ m' ((c.tc : Thread Cert.Reference28Ideal.nD Cert.Reference28Ideal.τ).loc Cert.Reference28Ideal.main_arg3) = m ((c.tc : Thread Cert.Kernel28Ideal.nD Cert.Kernel28Ideal.τ).loc Cert.Kernel28Ideal.main_arg3)
      ∧ m' ((c.tc : Thread Cert.Reference28Ideal.nD Cert.Reference28Ideal.τ).loc Cert.Reference28Ideal.main_arg4) = m ((c.tc : Thread Cert.Kernel28Ideal.nD Cert.Kernel28Ideal.τ).loc Cert.Kernel28Ideal.main_arg4)
      ∧ m' ((c.tc : Thread Cert.Reference28Ideal.nD Cert.Reference28Ideal.τ).loc Cert.Reference28Ideal.main_arg5) = m ((c.tc : Thread Cert.Kernel28Ideal.nD Cert.Kernel28Ideal.τ).loc Cert.Kernel28Ideal.main_arg5)) →
    ∃ (v0 : (c : Dev Cert.Kernel28Ideal.nD) → Buf (Elt Ideal) ((c.tc : Thread Cert.Kernel28Ideal.nD Cert.Kernel28Ideal.τ).loc Cert.Kernel28Ideal.main_v1_0)) (v1 : (c : Dev Cert.Kernel28Ideal.nD) → Buf (Elt Ideal) ((c.tc : Thread Cert.Kernel28Ideal.nD Cert.Kernel28Ideal.τ).loc Cert.Kernel28Ideal.main_v1_1)) (v2 : (c : Dev Cert.Kernel28Ideal.nD) → Buf (Elt Ideal) ((c.tc : Thread Cert.Kernel28Ideal.nD Cert.Kernel28Ideal.τ).loc Cert.Kernel28Ideal.main_v1_2)) (v3 : (c : Dev Cert.Kernel28Ideal.nD) → Buf (Elt Ideal) ((c.tc : Thread Cert.Kernel28Ideal.nD Cert.Kernel28Ideal.τ).loc Cert.Kernel28Ideal.main_v1_3)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v1_0) = v0 c
          ∧ r.2.mem ((c.tc : Thread Cert.Kernel28Ideal.nD Cert.Kernel28Ideal.τ).loc Cert.Kernel28Ideal.main_v1_1) = v1 c
          ∧ r.2.mem ((c.tc : Thread Cert.Kernel28Ideal.nD Cert.Kernel28Ideal.τ).loc Cert.Kernel28Ideal.main_v1_2) = v2 c
          ∧ r.2.mem ((c.tc : Thread Cert.Kernel28Ideal.nD Cert.Kernel28Ideal.τ).loc Cert.Kernel28Ideal.main_v1_3) = v3 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
          ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3)
          ∧ r.2.mem ((c.tc : Thread Cert.Kernel28Ideal.nD Cert.Kernel28Ideal.τ).loc Cert.Kernel28Ideal.main_arg4) = m ((c.tc : Thread Cert.Kernel28Ideal.nD Cert.Kernel28Ideal.τ).loc Cert.Kernel28Ideal.main_arg4)
          ∧ r.2.mem ((c.tc : Thread Cert.Kernel28Ideal.nD Cert.Kernel28Ideal.τ).loc Cert.Kernel28Ideal.main_arg5) = m ((c.tc : Thread Cert.Kernel28Ideal.nD Cert.Kernel28Ideal.τ).loc Cert.Kernel28Ideal.main_arg5))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v7) = v0 c
          ∧ r.2.mem ((c.tc : Thread Cert.Reference28Ideal.nD Cert.Reference28Ideal.τ).loc Cert.Reference28Ideal.main_v31) = v1 c
          ∧ r.2.mem ((c.tc : Thread Cert.Reference28Ideal.nD Cert.Reference28Ideal.τ).loc Cert.Reference28Ideal.main_v12) = v2 c
          ∧ r.2.mem ((c.tc : Thread Cert.Reference28Ideal.nD Cert.Reference28Ideal.τ).loc Cert.Reference28Ideal.main_v18) = v3 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2)
          ∧ r.2.mem ((c.tc : Thread Cert.Reference28Ideal.nD Cert.Reference28Ideal.τ).loc Cert.Reference28Ideal.main_arg3) = m' ((c.tc : Thread Cert.Reference28Ideal.nD Cert.Reference28Ideal.τ).loc Cert.Reference28Ideal.main_arg3)
          ∧ r.2.mem ((c.tc : Thread Cert.Reference28Ideal.nD Cert.Reference28Ideal.τ).loc Cert.Reference28Ideal.main_arg4) = m' ((c.tc : Thread Cert.Reference28Ideal.nD Cert.Reference28Ideal.τ).loc Cert.Reference28Ideal.main_arg4)
          ∧ r.2.mem ((c.tc : Thread Cert.Reference28Ideal.nD Cert.Reference28Ideal.τ).loc Cert.Reference28Ideal.main_arg5) = m' ((c.tc : Thread Cert.Reference28Ideal.nD Cert.Reference28Ideal.τ).loc Cert.Reference28Ideal.main_arg5))

def preserves_Kernel29_Kernel29Ideal : Prop :=
  True

def algebraic_Kernel29Ideal_Reference29Ideal [hKernel29Ideal : Cert.Kernel29Ideal.Facts] [hReference29Ideal : Cert.Reference29Ideal.Facts] [hPre_owner_is_a_device29 : Cert.Pre_owner_is_a_device29.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)
      ∧ m' ((c.tc : Thread Cert.Reference29Ideal.nD Cert.Reference29Ideal.τ).loc Cert.Reference29Ideal.main_arg2) = m ((c.tc : Thread Cert.Kernel29Ideal.nD Cert.Kernel29Ideal.τ).loc Cert.Kernel29Ideal.main_arg2)
      ∧ m' ((c.tc : Thread Cert.Reference29Ideal.nD Cert.Reference29Ideal.τ).loc Cert.Reference29Ideal.main_arg3) = m ((c.tc : Thread Cert.Kernel29Ideal.nD Cert.Kernel29Ideal.τ).loc Cert.Kernel29Ideal.main_arg3)
      ∧ m' ((c.tc : Thread Cert.Reference29Ideal.nD Cert.Reference29Ideal.τ).loc Cert.Reference29Ideal.main_arg4) = m ((c.tc : Thread Cert.Kernel29Ideal.nD Cert.Kernel29Ideal.τ).loc Cert.Kernel29Ideal.main_arg4)
      ∧ m' ((c.tc : Thread Cert.Reference29Ideal.nD Cert.Reference29Ideal.τ).loc Cert.Reference29Ideal.main_arg5) = m ((c.tc : Thread Cert.Kernel29Ideal.nD Cert.Kernel29Ideal.τ).loc Cert.Kernel29Ideal.main_arg5)) →
    ∃ (v0 : (c : Dev Cert.Kernel29Ideal.nD) → Buf (Elt Ideal) ((c.tc : Thread Cert.Kernel29Ideal.nD Cert.Kernel29Ideal.τ).loc Cert.Kernel29Ideal.main_v1_0)) (v1 : (c : Dev Cert.Kernel29Ideal.nD) → Buf (Elt Ideal) ((c.tc : Thread Cert.Kernel29Ideal.nD Cert.Kernel29Ideal.τ).loc Cert.Kernel29Ideal.main_v1_1)) (v2 : (c : Dev Cert.Kernel29Ideal.nD) → Buf (Elt Ideal) ((c.tc : Thread Cert.Kernel29Ideal.nD Cert.Kernel29Ideal.τ).loc Cert.Kernel29Ideal.main_v1_2)) (v3 : (c : Dev Cert.Kernel29Ideal.nD) → Buf (Elt Ideal) ((c.tc : Thread Cert.Kernel29Ideal.nD Cert.Kernel29Ideal.τ).loc Cert.Kernel29Ideal.main_v1_3)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v1_0) = v0 c
          ∧ r.2.mem ((c.tc : Thread Cert.Kernel29Ideal.nD Cert.Kernel29Ideal.τ).loc Cert.Kernel29Ideal.main_v1_1) = v1 c
          ∧ r.2.mem ((c.tc : Thread Cert.Kernel29Ideal.nD Cert.Kernel29Ideal.τ).loc Cert.Kernel29Ideal.main_v1_2) = v2 c
          ∧ r.2.mem ((c.tc : Thread Cert.Kernel29Ideal.nD Cert.Kernel29Ideal.τ).loc Cert.Kernel29Ideal.main_v1_3) = v3 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
          ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
          ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3)
          ∧ r.2.mem ((c.tc : Thread Cert.Kernel29Ideal.nD Cert.Kernel29Ideal.τ).loc Cert.Kernel29Ideal.main_arg4) = m ((c.tc : Thread Cert.Kernel29Ideal.nD Cert.Kernel29Ideal.τ).loc Cert.Kernel29Ideal.main_arg4)
          ∧ r.2.mem ((c.tc : Thread Cert.Kernel29Ideal.nD Cert.Kernel29Ideal.τ).loc Cert.Kernel29Ideal.main_arg5) = m ((c.tc : Thread Cert.Kernel29Ideal.nD Cert.Kernel29Ideal.τ).loc Cert.Kernel29Ideal.main_arg5))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v7) = v0 c
          ∧ r.2.mem ((c.tc : Thread Cert.Reference29Ideal.nD Cert.Reference29Ideal.τ).loc Cert.Reference29Ideal.main_v31) = v1 c
          ∧ r.2.mem ((c.tc : Thread Cert.Reference29Ideal.nD Cert.Reference29Ideal.τ).loc Cert.Reference29Ideal.main_v12) = v2 c
          ∧ r.2.mem ((c.tc : Thread Cert.Reference29Ideal.nD Cert.Reference29Ideal.τ).loc Cert.Reference29Ideal.main_v18) = v3 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1)
          ∧ r.2.mem ((c.tc : Thread Cert.Reference29Ideal.nD Cert.Reference29Ideal.τ).loc Cert.Reference29Ideal.main_arg2) = m' ((c.tc : Thread Cert.Reference29Ideal.nD Cert.Reference29Ideal.τ).loc Cert.Reference29Ideal.main_arg2)
          ∧ r.2.mem ((c.tc : Thread Cert.Reference29Ideal.nD Cert.Reference29Ideal.τ).loc Cert.Reference29Ideal.main_arg3) = m' ((c.tc : Thread Cert.Reference29Ideal.nD Cert.Reference29Ideal.τ).loc Cert.Reference29Ideal.main_arg3)
          ∧ r.2.mem ((c.tc : Thread Cert.Reference29Ideal.nD Cert.Reference29Ideal.τ).loc Cert.Reference29Ideal.main_arg4) = m' ((c.tc : Thread Cert.Reference29Ideal.nD Cert.Reference29Ideal.τ).loc Cert.Reference29Ideal.main_arg4)
          ∧ r.2.mem ((c.tc : Thread Cert.Reference29Ideal.nD Cert.Reference29Ideal.τ).loc Cert.Reference29Ideal.main_arg5) = m' ((c.tc : Thread Cert.Reference29Ideal.nD Cert.Reference29Ideal.τ).loc Cert.Reference29Ideal.main_arg5))

def preserves_Kernel30_Kernel30Ideal : Prop :=
  True

def algebraic_Kernel30Ideal_Reference30Ideal [hKernel30Ideal : Cert.Kernel30Ideal.Facts] [hReference30Ideal : Cert.Reference30Ideal.Facts] [hPre_owner_is_a_device30 : Cert.Pre_owner_is_a_device30.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)
      ∧ m' ((c.tc : Thread Cert.Reference30Ideal.nD Cert.Reference30Ideal.τ).loc Cert.Reference30Ideal.main_arg2) = m ((c.tc : Thread Cert.Kernel30Ideal.nD Cert.Kernel30Ideal.τ).loc Cert.Kernel30Ideal.main_arg2)
      ∧ m' ((c.tc : Thread Cert.Reference30Ideal.nD Cert.Reference30Ideal.τ).loc Cert.Reference30Ideal.main_arg3) = m ((c.tc : Thread Cert.Kernel30Ideal.nD Cert.Kernel30Ideal.τ).loc Cert.Kernel30Ideal.main_arg3)
      ∧ m' ((c.tc : Thread Cert.Reference30Ideal.nD Cert.Reference30Ideal.τ).loc Cert.Reference30Ideal.main_arg4) = m ((c.tc : Thread Cert.Kernel30Ideal.nD Cert.Kernel30Ideal.τ).loc Cert.Kernel30Ideal.main_arg4)
      ∧ m' ((c.tc : Thread Cert.Reference30Ideal.nD Cert.Reference30Ideal.τ).loc Cert.Reference30Ideal.main_arg5) = m ((c.tc : Thread Cert.Kernel30Ideal.nD Cert.Kernel30Ideal.τ).loc Cert.Kernel30Ideal.main_arg5)) →
    ∃ (v0 : (c : Dev Cert.Kernel30Ideal.nD) → Buf (Elt Ideal) ((c.tc : Thread Cert.Kernel30Ideal.nD Cert.Kernel30Ideal.τ).loc Cert.Kernel30Ideal.main_v1_0)) (v1 : (c : Dev Cert.Kernel30Ideal.nD) → Buf (Elt Ideal) ((c.tc : Thread Cert.Kernel30Ideal.nD Cert.Kernel30Ideal.τ).loc Cert.Kernel30Ideal.main_v1_1)) (v2 : (c : Dev Cert.Kernel30Ideal.nD) → Buf (Elt Ideal) ((c.tc : Thread Cert.Kernel30Ideal.nD Cert.Kernel30Ideal.τ).loc Cert.Kernel30Ideal.main_v1_2)) (v3 : (c : Dev Cert.Kernel30Ideal.nD) → Buf (Elt Ideal) ((c.tc : Thread Cert.Kernel30Ideal.nD Cert.Kernel30Ideal.τ).loc Cert.Kernel30Ideal.main_v1_3)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v1_0) = v0 c
          ∧ r.2.mem ((c.tc : Thread Cert.Kernel30Ideal.nD Cert.Kernel30Ideal.τ).loc Cert.Kernel30Ideal.main_v1_1) = v1 c
          ∧ r.2.mem ((c.tc : Thread Cert.Kernel30Ideal.nD Cert.Kernel30Ideal.τ).loc Cert.Kernel30Ideal.main_v1_2) = v2 c
          ∧ r.2.mem ((c.tc : Thread Cert.Kernel30Ideal.nD Cert.Kernel30Ideal.τ).loc Cert.Kernel30Ideal.main_v1_3) = v3 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
          ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
          ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3)
          ∧ r.2.mem ((c.tc : Thread Cert.Kernel30Ideal.nD Cert.Kernel30Ideal.τ).loc Cert.Kernel30Ideal.main_arg4) = m ((c.tc : Thread Cert.Kernel30Ideal.nD Cert.Kernel30Ideal.τ).loc Cert.Kernel30Ideal.main_arg4)
          ∧ r.2.mem ((c.tc : Thread Cert.Kernel30Ideal.nD Cert.Kernel30Ideal.τ).loc Cert.Kernel30Ideal.main_arg5) = m ((c.tc : Thread Cert.Kernel30Ideal.nD Cert.Kernel30Ideal.τ).loc Cert.Kernel30Ideal.main_arg5))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v7) = v0 c
          ∧ r.2.mem ((c.tc : Thread Cert.Reference30Ideal.nD Cert.Reference30Ideal.τ).loc Cert.Reference30Ideal.main_v31) = v1 c
          ∧ r.2.mem ((c.tc : Thread Cert.Reference30Ideal.nD Cert.Reference30Ideal.τ).loc Cert.Reference30Ideal.main_v12) = v2 c
          ∧ r.2.mem ((c.tc : Thread Cert.Reference30Ideal.nD Cert.Reference30Ideal.τ).loc Cert.Reference30Ideal.main_v18) = v3 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1)
          ∧ r.2.mem ((c.tc : Thread Cert.Reference30Ideal.nD Cert.Reference30Ideal.τ).loc Cert.Reference30Ideal.main_arg2) = m' ((c.tc : Thread Cert.Reference30Ideal.nD Cert.Reference30Ideal.τ).loc Cert.Reference30Ideal.main_arg2)
          ∧ r.2.mem ((c.tc : Thread Cert.Reference30Ideal.nD Cert.Reference30Ideal.τ).loc Cert.Reference30Ideal.main_arg3) = m' ((c.tc : Thread Cert.Reference30Ideal.nD Cert.Reference30Ideal.τ).loc Cert.Reference30Ideal.main_arg3)
          ∧ r.2.mem ((c.tc : Thread Cert.Reference30Ideal.nD Cert.Reference30Ideal.τ).loc Cert.Reference30Ideal.main_arg4) = m' ((c.tc : Thread Cert.Reference30Ideal.nD Cert.Reference30Ideal.τ).loc Cert.Reference30Ideal.main_arg4)
          ∧ r.2.mem ((c.tc : Thread Cert.Reference30Ideal.nD Cert.Reference30Ideal.τ).loc Cert.Reference30Ideal.main_arg5) = m' ((c.tc : Thread Cert.Reference30Ideal.nD Cert.Reference30Ideal.τ).loc Cert.Reference30Ideal.main_arg5))

def preserves_Kernel34_Kernel34Ideal : Prop :=
  True

def algebraic_Kernel34Ideal_Reference34Ideal [hKernel34Ideal : Cert.Kernel34Ideal.Facts] [hReference34Ideal : Cert.Reference34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg)
    (m' : (ℓ : Loc Cert.Reference34Ideal.nD Cert.Reference34Ideal.τ Cert.Reference34Ideal.sig) → Buf (Elt Ideal) ℓ) (g' : Dev Cert.Reference34Ideal.nD → PrngReg), Pre_Kernel34Ideal m →
    (∀ c : Dev Cert.Kernel34Ideal.nD,
      m' ((c.tc : Thread Cert.Reference34Ideal.nD Cert.Reference34Ideal.τ).loc Cert.Reference34Ideal.main_arg0) = m ((c.tc : Thread Cert.Kernel34Ideal.nD Cert.Kernel34Ideal.τ).loc Cert.Kernel34Ideal.main_arg0)
      ∧ m' ((c.tc : Thread Cert.Reference34Ideal.nD Cert.Reference34Ideal.τ).loc Cert.Reference34Ideal.main_arg1) = m ((c.tc : Thread Cert.Kernel34Ideal.nD Cert.Kernel34Ideal.τ).loc Cert.Kernel34Ideal.main_arg1)
      ∧ m' ((c.tc : Thread Cert.Reference34Ideal.nD Cert.Reference34Ideal.τ).loc Cert.Reference34Ideal.main_arg2) = m ((c.tc : Thread Cert.Kernel34Ideal.nD Cert.Kernel34Ideal.τ).loc Cert.Kernel34Ideal.main_arg2)
      ∧ m' ((c.tc : Thread Cert.Reference34Ideal.nD Cert.Reference34Ideal.τ).loc Cert.Reference34Ideal.main_arg3) = m ((c.tc : Thread Cert.Kernel34Ideal.nD Cert.Kernel34Ideal.τ).loc Cert.Kernel34Ideal.main_arg3)) →
    ∃ (v0 : (c : Dev Cert.Kernel34Ideal.nD) → Buf (Elt Ideal) ((c.tc : Thread Cert.Kernel34Ideal.nD Cert.Kernel34Ideal.τ).loc Cert.Kernel34Ideal.main_v0_0)) (v1 : (c : Dev Cert.Kernel34Ideal.nD) → Buf (Elt Ideal) ((c.tc : Thread Cert.Kernel34Ideal.nD Cert.Kernel34Ideal.τ).loc Cert.Kernel34Ideal.main_v0_1)),
      θ_run (Cert.Kernel34Ideal.defs (F := Ideal)) (onTc (τ := Cert.Kernel34Ideal.τ) (Cert.Kernel34Ideal.main (F := Ideal))) ⟨m, fun _ => 0, g⟩ (fun r => ∀ c : Dev Cert.Kernel34Ideal.nD,
          r.2.mem ((c.tc : Thread Cert.Kernel34Ideal.nD Cert.Kernel34Ideal.τ).loc Cert.Kernel34Ideal.main_v0_0) = v0 c
          ∧ r.2.mem ((c.tc : Thread Cert.Kernel34Ideal.nD Cert.Kernel34Ideal.τ).loc Cert.Kernel34Ideal.main_v0_1) = v1 c
          ∧ r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
          ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
          ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2)
          ∧ r.2.mem ((c.tc : Thread Cert.Kernel34Ideal.nD Cert.Kernel34Ideal.τ).loc Cert.Kernel34Ideal.main_arg3) = m ((c.tc : Thread Cert.Kernel34Ideal.nD Cert.Kernel34Ideal.τ).loc Cert.Kernel34Ideal.main_arg3))
      ∧ θ_run (Cert.Reference34Ideal.defs (F := Ideal)) (onTc (τ := Cert.Reference34Ideal.τ) (Cert.Reference34Ideal.main (F := Ideal))) ⟨m', fun _ => 0, g'⟩ (fun r => ∀ c : Dev Cert.Reference34Ideal.nD,
          r.2.mem ((c.tc : Thread Cert.Reference34Ideal.nD Cert.Reference34Ideal.τ).loc Cert.Reference34Ideal.main_v38) = v0 c
          ∧ r.2.mem ((c.tc : Thread Cert.Reference34Ideal.nD Cert.Reference34Ideal.τ).loc Cert.Reference34Ideal.main_v19) = v1 c
          ∧ r.2.mem ((c.tc : Thread Cert.Reference34Ideal.nD Cert.Reference34Ideal.τ).loc Cert.Reference34Ideal.main_arg0) = m' ((c.tc : Thread Cert.Reference34Ideal.nD Cert.Reference34Ideal.τ).loc Cert.Reference34Ideal.main_arg0)
          ∧ r.2.mem ((c.tc : Thread Cert.Reference34Ideal.nD Cert.Reference34Ideal.τ).loc Cert.Reference34Ideal.main_arg1) = m' ((c.tc : Thread Cert.Reference34Ideal.nD Cert.Reference34Ideal.τ).loc Cert.Reference34Ideal.main_arg1)
          ∧ r.2.mem ((c.tc : Thread Cert.Reference34Ideal.nD Cert.Reference34Ideal.τ).loc Cert.Reference34Ideal.main_arg2) = m' ((c.tc : Thread Cert.Reference34Ideal.nD Cert.Reference34Ideal.τ).loc Cert.Reference34Ideal.main_arg2)
          ∧ r.2.mem ((c.tc : Thread Cert.Reference34Ideal.nD Cert.Reference34Ideal.τ).loc Cert.Reference34Ideal.main_arg3) = m' ((c.tc : Thread Cert.Reference34Ideal.nD Cert.Reference34Ideal.τ).loc Cert.Reference34Ideal.main_arg3))

def preserves_Kernel36_Kernel36Ideal : Prop :=
  True

def algebraic_Kernel36Ideal_Reference36Ideal [hKernel36Ideal : Cert.Kernel36Ideal.Facts] [hReference36Ideal : Cert.Reference36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg)
    (m' : (ℓ : Loc Cert.Reference36Ideal.nD Cert.Reference36Ideal.τ Cert.Reference36Ideal.sig) → Buf (Elt Ideal) ℓ) (g' : Dev Cert.Reference36Ideal.nD → PrngReg), Pre_Kernel36Ideal m →
    (∀ c : Dev Cert.Kernel36Ideal.nD,
      m' ((c.tc : Thread Cert.Reference36Ideal.nD Cert.Reference36Ideal.τ).loc Cert.Reference36Ideal.main_arg0) = m ((c.tc : Thread Cert.Kernel36Ideal.nD Cert.Kernel36Ideal.τ).loc Cert.Kernel36Ideal.main_arg0)
      ∧ m' ((c.tc : Thread Cert.Reference36Ideal.nD Cert.Reference36Ideal.τ).loc Cert.Reference36Ideal.main_arg1) = m ((c.tc : Thread Cert.Kernel36Ideal.nD Cert.Kernel36Ideal.τ).loc Cert.Kernel36Ideal.main_arg1)
      ∧ m' ((c.tc : Thread Cert.Reference36Ideal.nD Cert.Reference36Ideal.τ).loc Cert.Reference36Ideal.main_arg2) = m ((c.tc : Thread Cert.Kernel36Ideal.nD Cert.Kernel36Ideal.τ).loc Cert.Kernel36Ideal.main_arg2)) →
    ∃ (v0 : (c : Dev Cert.Kernel36Ideal.nD) → Buf (Elt Ideal) ((c.tc : Thread Cert.Kernel36Ideal.nD Cert.Kernel36Ideal.τ).loc Cert.Kernel36Ideal.main_v0)),
      θ_run (Cert.Kernel36Ideal.defs (F := Ideal)) (onTc (τ := Cert.Kernel36Ideal.τ) (Cert.Kernel36Ideal.main (F := Ideal))) ⟨m, fun _ => 0, g⟩ (fun r => ∀ c : Dev Cert.Kernel36Ideal.nD,
          r.2.mem ((c.tc : Thread Cert.Kernel36Ideal.nD Cert.Kernel36Ideal.τ).loc Cert.Kernel36Ideal.main_v0) = v0 c
          ∧ r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
          ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1)
          ∧ r.2.mem ((c.tc : Thread Cert.Kernel36Ideal.nD Cert.Kernel36Ideal.τ).loc Cert.Kernel36Ideal.main_arg2) = m ((c.tc : Thread Cert.Kernel36Ideal.nD Cert.Kernel36Ideal.τ).loc Cert.Kernel36Ideal.main_arg2))
      ∧ θ_run (Cert.Reference36Ideal.defs (F := Ideal)) (onTc (τ := Cert.Reference36Ideal.τ) (Cert.Reference36Ideal.main (F := Ideal))) ⟨m', fun _ => 0, g'⟩ (fun r => ∀ c : Dev Cert.Reference36Ideal.nD,
          r.2.mem ((c.tc : Thread Cert.Reference36Ideal.nD Cert.Reference36Ideal.τ).loc Cert.Reference36Ideal.main_v14) = v0 c
          ∧ r.2.mem ((c.tc : Thread Cert.Reference36Ideal.nD Cert.Reference36Ideal.τ).loc Cert.Reference36Ideal.main_arg0) = m' ((c.tc : Thread Cert.Reference36Ideal.nD Cert.Reference36Ideal.τ).loc Cert.Reference36Ideal.main_arg0)
          ∧ r.2.mem ((c.tc : Thread Cert.Reference36Ideal.nD Cert.Reference36Ideal.τ).loc Cert.Reference36Ideal.main_arg1) = m' ((c.tc : Thread Cert.Reference36Ideal.nD Cert.Reference36Ideal.τ).loc Cert.Reference36Ideal.main_arg1)
          ∧ r.2.mem ((c.tc : Thread Cert.Reference36Ideal.nD Cert.Reference36Ideal.τ).loc Cert.Reference36Ideal.main_arg2) = m' ((c.tc : Thread Cert.Reference36Ideal.nD Cert.Reference36Ideal.τ).loc Cert.Reference36Ideal.main_arg2))

def preserves_Kernel37_Kernel37Ideal : Prop :=
  True

def algebraic_Kernel37Ideal_Reference37Ideal [hKernel37Ideal : Cert.Kernel37Ideal.Facts] [hReference37Ideal : Cert.Reference37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg)
    (m' : (ℓ : Loc Cert.Reference37Ideal.nD Cert.Reference37Ideal.τ Cert.Reference37Ideal.sig) → Buf (Elt Ideal) ℓ) (g' : Dev Cert.Reference37Ideal.nD → PrngReg), Pre_Kernel37Ideal m →
    (∀ c : Dev Cert.Kernel37Ideal.nD,
      m' ((c.tc : Thread Cert.Reference37Ideal.nD Cert.Reference37Ideal.τ).loc Cert.Reference37Ideal.main_arg0) = m ((c.tc : Thread Cert.Kernel37Ideal.nD Cert.Kernel37Ideal.τ).loc Cert.Kernel37Ideal.main_arg0)
      ∧ m' ((c.tc : Thread Cert.Reference37Ideal.nD Cert.Reference37Ideal.τ).loc Cert.Reference37Ideal.main_arg1) = m ((c.tc : Thread Cert.Kernel37Ideal.nD Cert.Kernel37Ideal.τ).loc Cert.Kernel37Ideal.main_arg1)) →
    ∃ (v0 : (c : Dev Cert.Kernel37Ideal.nD) → Buf (Elt Ideal) ((c.tc : Thread Cert.Kernel37Ideal.nD Cert.Kernel37Ideal.τ).loc Cert.Kernel37Ideal.main_v0)),
      θ_run (Cert.Kernel37Ideal.defs (F := Ideal)) (onTc (τ := Cert.Kernel37Ideal.τ) (Cert.Kernel37Ideal.main (F := Ideal))) ⟨m, fun _ => 0, g⟩ (fun r => ∀ c : Dev Cert.Kernel37Ideal.nD,
          r.2.mem ((c.tc : Thread Cert.Kernel37Ideal.nD Cert.Kernel37Ideal.τ).loc Cert.Kernel37Ideal.main_v0) = v0 c
          ∧ r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
          ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1))
      ∧ θ_run (Cert.Reference37Ideal.defs (F := Ideal)) (onTc (τ := Cert.Reference37Ideal.τ) (Cert.Reference37Ideal.main (F := Ideal))) ⟨m', fun _ => 0, g'⟩ (fun r => ∀ c : Dev Cert.Reference37Ideal.nD,
          r.2.mem ((c.tc : Thread Cert.Reference37Ideal.nD Cert.Reference37Ideal.τ).loc Cert.Reference37Ideal.main_v2) = v0 c
          ∧ r.2.mem ((c.tc : Thread Cert.Reference37Ideal.nD Cert.Reference37Ideal.τ).loc Cert.Reference37Ideal.main_arg0) = m' ((c.tc : Thread Cert.Reference37Ideal.nD Cert.Reference37Ideal.τ).loc Cert.Reference37Ideal.main_arg0)
          ∧ r.2.mem ((c.tc : Thread Cert.Reference37Ideal.nD Cert.Reference37Ideal.τ).loc Cert.Reference37Ideal.main_arg1) = m' ((c.tc : Thread Cert.Reference37Ideal.nD Cert.Reference37Ideal.τ).loc Cert.Reference37Ideal.main_arg1))

def preserves_Kernel38_Kernel38Ideal : Prop :=
  True

def algebraic_Kernel38Ideal_Reference38Ideal [hKernel38Ideal : Cert.Kernel38Ideal.Facts] [hReference38Ideal : Cert.Reference38Ideal.Facts] : Prop :=
  ∀ (m : (ℓ : Loc Cert.Kernel38Ideal.nD Cert.Kernel38Ideal.τ Cert.Kernel38Ideal.sig) → Buf (Elt Ideal) ℓ) (g : Dev Cert.Kernel38Ideal.nD → PrngReg)
    (m' : (ℓ : Loc Cert.Reference38Ideal.nD Cert.Reference38Ideal.τ Cert.Reference38Ideal.sig) → Buf (Elt Ideal) ℓ) (g' : Dev Cert.Reference38Ideal.nD → PrngReg), Pre_Kernel38Ideal m →
    (∀ c : Dev Cert.Kernel38Ideal.nD,
      m' ((c.tc : Thread Cert.Reference38Ideal.nD Cert.Reference38Ideal.τ).loc Cert.Reference38Ideal.main_arg0) = m ((c.tc : Thread Cert.Kernel38Ideal.nD Cert.Kernel38Ideal.τ).loc Cert.Kernel38Ideal.main_arg0)
      ∧ m' ((c.tc : Thread Cert.Reference38Ideal.nD Cert.Reference38Ideal.τ).loc Cert.Reference38Ideal.main_arg1) = m ((c.tc : Thread Cert.Kernel38Ideal.nD Cert.Kernel38Ideal.τ).loc Cert.Kernel38Ideal.main_arg1)) →
    ∃ (v0 : (c : Dev Cert.Kernel38Ideal.nD) → Buf (Elt Ideal) ((c.tc : Thread Cert.Kernel38Ideal.nD Cert.Kernel38Ideal.τ).loc Cert.Kernel38Ideal.main_v0)),
      θ_run (Cert.Kernel38Ideal.defs (F := Ideal)) (onTc (τ := Cert.Kernel38Ideal.τ) (Cert.Kernel38Ideal.main (F := Ideal))) ⟨m, fun _ => 0, g⟩ (fun r => ∀ c : Dev Cert.Kernel38Ideal.nD,
          r.2.mem ((c.tc : Thread Cert.Kernel38Ideal.nD Cert.Kernel38Ideal.τ).loc Cert.Kernel38Ideal.main_v0) = v0 c
          ∧ r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0)
          ∧ r.2.mem ((c.tc : Thread Cert.Kernel38Ideal.nD Cert.Kernel38Ideal.τ).loc Cert.Kernel38Ideal.main_arg1) = m ((c.tc : Thread Cert.Kernel38Ideal.nD Cert.Kernel38Ideal.τ).loc Cert.Kernel38Ideal.main_arg1))
      ∧ θ_run (Cert.Reference38Ideal.defs (F := Ideal)) (onTc (τ := Cert.Reference38Ideal.τ) (Cert.Reference38Ideal.main (F := Ideal))) ⟨m', fun _ => 0, g'⟩ (fun r => ∀ c : Dev Cert.Reference38Ideal.nD,
          r.2.mem ((c.tc : Thread Cert.Reference38Ideal.nD Cert.Reference38Ideal.τ).loc Cert.Reference38Ideal.main_v2) = v0 c
          ∧ r.2.mem ((c.tc : Thread Cert.Reference38Ideal.nD Cert.Reference38Ideal.τ).loc Cert.Reference38Ideal.main_arg0) = m' ((c.tc : Thread Cert.Reference38Ideal.nD Cert.Reference38Ideal.τ).loc Cert.Reference38Ideal.main_arg0)
          ∧ r.2.mem ((c.tc : Thread Cert.Reference38Ideal.nD Cert.Reference38Ideal.τ).loc Cert.Reference38Ideal.main_arg1) = m' ((c.tc : Thread Cert.Reference38Ideal.nD Cert.Reference38Ideal.τ).loc Cert.Reference38Ideal.main_arg1))

def preserves_Kernel39_Kernel39Ideal : Prop :=
  True

def algebraic_Kernel39Ideal_Reference39Ideal [hKernel39Ideal : Cert.Kernel39Ideal.Facts] [hReference39Ideal : Cert.Reference39Ideal.Facts] : Prop :=
  ∀ (m : (ℓ : Loc Cert.Kernel39Ideal.nD Cert.Kernel39Ideal.τ Cert.Kernel39Ideal.sig) → Buf (Elt Ideal) ℓ) (g : Dev Cert.Kernel39Ideal.nD → PrngReg)
    (m' : (ℓ : Loc Cert.Reference39Ideal.nD Cert.Reference39Ideal.τ Cert.Reference39Ideal.sig) → Buf (Elt Ideal) ℓ) (g' : Dev Cert.Reference39Ideal.nD → PrngReg), Pre_Kernel39Ideal m →
    (∀ c : Dev Cert.Kernel39Ideal.nD,
      m' ((c.tc : Thread Cert.Reference39Ideal.nD Cert.Reference39Ideal.τ).loc Cert.Reference39Ideal.main_arg0) = m ((c.tc : Thread Cert.Kernel39Ideal.nD Cert.Kernel39Ideal.τ).loc Cert.Kernel39Ideal.main_arg0)
      ∧ m' ((c.tc : Thread Cert.Reference39Ideal.nD Cert.Reference39Ideal.τ).loc Cert.Reference39Ideal.main_arg1) = m ((c.tc : Thread Cert.Kernel39Ideal.nD Cert.Kernel39Ideal.τ).loc Cert.Kernel39Ideal.main_arg1)) →
    ∃ (v0 : (c : Dev Cert.Kernel39Ideal.nD) → Buf (Elt Ideal) ((c.tc : Thread Cert.Kernel39Ideal.nD Cert.Kernel39Ideal.τ).loc Cert.Kernel39Ideal.main_v0)),
      θ_run (Cert.Kernel39Ideal.defs (F := Ideal)) (onTc (τ := Cert.Kernel39Ideal.τ) (Cert.Kernel39Ideal.main (F := Ideal))) ⟨m, fun _ => 0, g⟩ (fun r => ∀ c : Dev Cert.Kernel39Ideal.nD,
          r.2.mem ((c.tc : Thread Cert.Kernel39Ideal.nD Cert.Kernel39Ideal.τ).loc Cert.Kernel39Ideal.main_v0) = v0 c
          ∧ r.2.mem ((c.tc : Thread Cert.Kernel39Ideal.nD Cert.Kernel39Ideal.τ).loc Cert.Kernel39Ideal.main_arg0) = m ((c.tc : Thread Cert.Kernel39Ideal.nD Cert.Kernel39Ideal.τ).loc Cert.Kernel39Ideal.main_arg0)
          ∧ r.2.mem ((c.tc : Thread Cert.Kernel39Ideal.nD Cert.Kernel39Ideal.τ).loc Cert.Kernel39Ideal.main_arg1) = m ((c.tc : Thread Cert.Kernel39Ideal.nD Cert.Kernel39Ideal.τ).loc Cert.Kernel39Ideal.main_arg1))
      ∧ θ_run (Cert.Reference39Ideal.defs (F := Ideal)) (onTc (τ := Cert.Reference39Ideal.τ) (Cert.Reference39Ideal.main (F := Ideal))) ⟨m', fun _ => 0, g'⟩ (fun r => ∀ c : Dev Cert.Reference39Ideal.nD,
          r.2.mem ((c.tc : Thread Cert.Reference39Ideal.nD Cert.Reference39Ideal.τ).loc Cert.Reference39Ideal.main_v5) = v0 c
          ∧ r.2.mem ((c.tc : Thread Cert.Reference39Ideal.nD Cert.Reference39Ideal.τ).loc Cert.Reference39Ideal.main_arg0) = m' ((c.tc : Thread Cert.Reference39Ideal.nD Cert.Reference39Ideal.τ).loc Cert.Reference39Ideal.main_arg0)
          ∧ r.2.mem ((c.tc : Thread Cert.Reference39Ideal.nD Cert.Reference39Ideal.τ).loc Cert.Reference39Ideal.main_arg1) = m' ((c.tc : Thread Cert.Reference39Ideal.nD Cert.Reference39Ideal.τ).loc Cert.Reference39Ideal.main_arg1))

def preserves_Kernel40_Kernel40Ideal : Prop :=
  True

def algebraic_Kernel40Ideal_Reference40Ideal [hKernel40Ideal : Cert.Kernel40Ideal.Facts] [hReference40Ideal : Cert.Reference40Ideal.Facts] : Prop :=
  ∀ (m : (ℓ : Loc Cert.Kernel40Ideal.nD Cert.Kernel40Ideal.τ Cert.Kernel40Ideal.sig) → Buf (Elt Ideal) ℓ) (g : Dev Cert.Kernel40Ideal.nD → PrngReg)
    (m' : (ℓ : Loc Cert.Reference40Ideal.nD Cert.Reference40Ideal.τ Cert.Reference40Ideal.sig) → Buf (Elt Ideal) ℓ) (g' : Dev Cert.Reference40Ideal.nD → PrngReg), Pre_Kernel40Ideal m →
    (∀ c : Dev Cert.Kernel40Ideal.nD,
      m' ((c.tc : Thread Cert.Reference40Ideal.nD Cert.Reference40Ideal.τ).loc Cert.Reference40Ideal.main_arg0) = m ((c.tc : Thread Cert.Kernel40Ideal.nD Cert.Kernel40Ideal.τ).loc Cert.Kernel40Ideal.main_arg0)
      ∧ m' ((c.tc : Thread Cert.Reference40Ideal.nD Cert.Reference40Ideal.τ).loc Cert.Reference40Ideal.main_arg1) = m ((c.tc : Thread Cert.Kernel40Ideal.nD Cert.Kernel40Ideal.τ).loc Cert.Kernel40Ideal.main_arg1)
      ∧ m' ((c.tc : Thread Cert.Reference40Ideal.nD Cert.Reference40Ideal.τ).loc Cert.Reference40Ideal.main_arg2) = m ((c.tc : Thread Cert.Kernel40Ideal.nD Cert.Kernel40Ideal.τ).loc Cert.Kernel40Ideal.main_arg2)
      ∧ m' ((c.tc : Thread Cert.Reference40Ideal.nD Cert.Reference40Ideal.τ).loc Cert.Reference40Ideal.main_arg3) = m ((c.tc : Thread Cert.Kernel40Ideal.nD Cert.Kernel40Ideal.τ).loc Cert.Kernel40Ideal.main_arg3)) →
    ∃ (v0 : (c : Dev Cert.Kernel40Ideal.nD) → Buf (Elt Ideal) ((c.tc : Thread Cert.Kernel40Ideal.nD Cert.Kernel40Ideal.τ).loc Cert.Kernel40Ideal.main_v0_0)) (v1 : (c : Dev Cert.Kernel40Ideal.nD) → Buf (Elt Ideal) ((c.tc : Thread Cert.Kernel40Ideal.nD Cert.Kernel40Ideal.τ).loc Cert.Kernel40Ideal.main_v0_1)) (v2 : (c : Dev Cert.Kernel40Ideal.nD) → Buf (Elt Ideal) ((c.tc : Thread Cert.Kernel40Ideal.nD Cert.Kernel40Ideal.τ).loc Cert.Kernel40Ideal.main_v0_2)),
      θ_run (Cert.Kernel40Ideal.defs (F := Ideal)) (onTc (τ := Cert.Kernel40Ideal.τ) (Cert.Kernel40Ideal.main (F := Ideal))) ⟨m, fun _ => 0, g⟩ (fun r => ∀ c : Dev Cert.Kernel40Ideal.nD,
          r.2.mem ((c.tc : Thread Cert.Kernel40Ideal.nD Cert.Kernel40Ideal.τ).loc Cert.Kernel40Ideal.main_v0_0) = v0 c
          ∧ r.2.mem ((c.tc : Thread Cert.Kernel40Ideal.nD Cert.Kernel40Ideal.τ).loc Cert.Kernel40Ideal.main_v0_1) = v1 c
          ∧ r.2.mem ((c.tc : Thread Cert.Kernel40Ideal.nD Cert.Kernel40Ideal.τ).loc Cert.Kernel40Ideal.main_v0_2) = v2 c
          ∧ r.2.mem ((c.tc : Thread Cert.Kernel40Ideal.nD Cert.Kernel40Ideal.τ).loc Cert.Kernel40Ideal.main_arg0) = m ((c.tc : Thread Cert.Kernel40Ideal.nD Cert.Kernel40Ideal.τ).loc Cert.Kernel40Ideal.main_arg0)
          ∧ r.2.mem ((c.tc : Thread Cert.Kernel40Ideal.nD Cert.Kernel40Ideal.τ).loc Cert.Kernel40Ideal.main_arg1) = m ((c.tc : Thread Cert.Kernel40Ideal.nD Cert.Kernel40Ideal.τ).loc Cert.Kernel40Ideal.main_arg1)
          ∧ r.2.mem ((c.tc : Thread Cert.Kernel40Ideal.nD Cert.Kernel40Ideal.τ).loc Cert.Kernel40Ideal.main_arg2) = m ((c.tc : Thread Cert.Kernel40Ideal.nD Cert.Kernel40Ideal.τ).loc Cert.Kernel40Ideal.main_arg2)
          ∧ r.2.mem ((c.tc : Thread Cert.Kernel40Ideal.nD Cert.Kernel40Ideal.τ).loc Cert.Kernel40Ideal.main_arg3) = m ((c.tc : Thread Cert.Kernel40Ideal.nD Cert.Kernel40Ideal.τ).loc Cert.Kernel40Ideal.main_arg3))
      ∧ θ_run (Cert.Reference40Ideal.defs (F := Ideal)) (onTc (τ := Cert.Reference40Ideal.τ) (Cert.Reference40Ideal.main (F := Ideal))) ⟨m', fun _ => 0, g'⟩ (fun r => ∀ c : Dev Cert.Reference40Ideal.nD,
          r.2.mem ((c.tc : Thread Cert.Reference40Ideal.nD Cert.Reference40Ideal.τ).loc Cert.Reference40Ideal.main_v62) = v0 c
          ∧ r.2.mem ((c.tc : Thread Cert.Reference40Ideal.nD Cert.Reference40Ideal.τ).loc Cert.Reference40Ideal.main_v35) = v1 c
          ∧ r.2.mem ((c.tc : Thread Cert.Reference40Ideal.nD Cert.Reference40Ideal.τ).loc Cert.Reference40Ideal.main_v32) = v2 c
          ∧ r.2.mem ((c.tc : Thread Cert.Reference40Ideal.nD Cert.Reference40Ideal.τ).loc Cert.Reference40Ideal.main_arg0) = m' ((c.tc : Thread Cert.Reference40Ideal.nD Cert.Reference40Ideal.τ).loc Cert.Reference40Ideal.main_arg0)
          ∧ r.2.mem ((c.tc : Thread Cert.Reference40Ideal.nD Cert.Reference40Ideal.τ).loc Cert.Reference40Ideal.main_arg1) = m' ((c.tc : Thread Cert.Reference40Ideal.nD Cert.Reference40Ideal.τ).loc Cert.Reference40Ideal.main_arg1)
          ∧ r.2.mem ((c.tc : Thread Cert.Reference40Ideal.nD Cert.Reference40Ideal.τ).loc Cert.Reference40Ideal.main_arg2) = m' ((c.tc : Thread Cert.Reference40Ideal.nD Cert.Reference40Ideal.τ).loc Cert.Reference40Ideal.main_arg2)
          ∧ r.2.mem ((c.tc : Thread Cert.Reference40Ideal.nD Cert.Reference40Ideal.τ).loc Cert.Reference40Ideal.main_arg3) = m' ((c.tc : Thread Cert.Reference40Ideal.nD Cert.Reference40Ideal.τ).loc Cert.Reference40Ideal.main_arg3))

def preserves_Kernel41_Kernel41Ideal : Prop :=
  True

def algebraic_Kernel41Ideal_Reference41Ideal [hKernel41Ideal : Cert.Kernel41Ideal.Facts] [hReference41Ideal : Cert.Reference41Ideal.Facts] : Prop :=
  ∀ (m : (ℓ : Loc Cert.Kernel41Ideal.nD Cert.Kernel41Ideal.τ Cert.Kernel41Ideal.sig) → Buf (Elt Ideal) ℓ) (g : Dev Cert.Kernel41Ideal.nD → PrngReg)
    (m' : (ℓ : Loc Cert.Reference41Ideal.nD Cert.Reference41Ideal.τ Cert.Reference41Ideal.sig) → Buf (Elt Ideal) ℓ) (g' : Dev Cert.Reference41Ideal.nD → PrngReg), Pre_Kernel41Ideal m →
    (∀ c : Dev Cert.Kernel41Ideal.nD,
      m' ((c.tc : Thread Cert.Reference41Ideal.nD Cert.Reference41Ideal.τ).loc Cert.Reference41Ideal.main_arg0) = m ((c.tc : Thread Cert.Kernel41Ideal.nD Cert.Kernel41Ideal.τ).loc Cert.Kernel41Ideal.main_arg0)
      ∧ m' ((c.tc : Thread Cert.Reference41Ideal.nD Cert.Reference41Ideal.τ).loc Cert.Reference41Ideal.main_arg1) = m ((c.tc : Thread Cert.Kernel41Ideal.nD Cert.Kernel41Ideal.τ).loc Cert.Kernel41Ideal.main_arg1)) →
    ∃ (v0 : (c : Dev Cert.Kernel41Ideal.nD) → Buf (Elt Ideal) ((c.tc : Thread Cert.Kernel41Ideal.nD Cert.Kernel41Ideal.τ).loc Cert.Kernel41Ideal.main_v0)),
      θ_run (Cert.Kernel41Ideal.defs (F := Ideal)) (onTc (τ := Cert.Kernel41Ideal.τ) (Cert.Kernel41Ideal.main (F := Ideal))) ⟨m, fun _ => 0, g⟩ (fun r => ∀ c : Dev Cert.Kernel41Ideal.nD,
          r.2.mem ((c.tc : Thread Cert.Kernel41Ideal.nD Cert.Kernel41Ideal.τ).loc Cert.Kernel41Ideal.main_v0) = v0 c
          ∧ r.2.mem ((c.tc : Thread Cert.Kernel41Ideal.nD Cert.Kernel41Ideal.τ).loc Cert.Kernel41Ideal.main_arg0) = m ((c.tc : Thread Cert.Kernel41Ideal.nD Cert.Kernel41Ideal.τ).loc Cert.Kernel41Ideal.main_arg0)
          ∧ r.2.mem ((c.tc : Thread Cert.Kernel41Ideal.nD Cert.Kernel41Ideal.τ).loc Cert.Kernel41Ideal.main_arg1) = m ((c.tc : Thread Cert.Kernel41Ideal.nD Cert.Kernel41Ideal.τ).loc Cert.Kernel41Ideal.main_arg1))
      ∧ θ_run (Cert.Reference41Ideal.defs (F := Ideal)) (onTc (τ := Cert.Reference41Ideal.τ) (Cert.Reference41Ideal.main (F := Ideal))) ⟨m', fun _ => 0, g'⟩ (fun r => ∀ c : Dev Cert.Reference41Ideal.nD,
          r.2.mem ((c.tc : Thread Cert.Reference41Ideal.nD Cert.Reference41Ideal.τ).loc Cert.Reference41Ideal.main_v12) = v0 c
          ∧ r.2.mem ((c.tc : Thread Cert.Reference41Ideal.nD Cert.Reference41Ideal.τ).loc Cert.Reference41Ideal.main_arg0) = m' ((c.tc : Thread Cert.Reference41Ideal.nD Cert.Reference41Ideal.τ).loc Cert.Reference41Ideal.main_arg0)
          ∧ r.2.mem ((c.tc : Thread Cert.Reference41Ideal.nD Cert.Reference41Ideal.τ).loc Cert.Reference41Ideal.main_arg1) = m' ((c.tc : Thread Cert.Reference41Ideal.nD Cert.Reference41Ideal.τ).loc Cert.Reference41Ideal.main_arg1))

def preserves_Kernel42_Kernel42Ideal : Prop :=
  True

def algebraic_Kernel42Ideal_Reference42Ideal [hKernel42Ideal : Cert.Kernel42Ideal.Facts] [hReference42Ideal : Cert.Reference42Ideal.Facts] : Prop :=
  ∀ (m : (ℓ : Loc Cert.Kernel42Ideal.nD Cert.Kernel42Ideal.τ Cert.Kernel42Ideal.sig) → Buf (Elt Ideal) ℓ) (g : Dev Cert.Kernel42Ideal.nD → PrngReg)
    (m' : (ℓ : Loc Cert.Reference42Ideal.nD Cert.Reference42Ideal.τ Cert.Reference42Ideal.sig) → Buf (Elt Ideal) ℓ) (g' : Dev Cert.Reference42Ideal.nD → PrngReg), Pre_Kernel42Ideal m →
    (∀ c : Dev Cert.Kernel42Ideal.nD,
      m' ((c.tc : Thread Cert.Reference42Ideal.nD Cert.Reference42Ideal.τ).loc Cert.Reference42Ideal.main_arg0) = m ((c.tc : Thread Cert.Kernel42Ideal.nD Cert.Kernel42Ideal.τ).loc Cert.Kernel42Ideal.main_arg0)
      ∧ m' ((c.tc : Thread Cert.Reference42Ideal.nD Cert.Reference42Ideal.τ).loc Cert.Reference42Ideal.main_arg1) = m ((c.tc : Thread Cert.Kernel42Ideal.nD Cert.Kernel42Ideal.τ).loc Cert.Kernel42Ideal.main_arg1)
      ∧ m' ((c.tc : Thread Cert.Reference42Ideal.nD Cert.Reference42Ideal.τ).loc Cert.Reference42Ideal.main_arg2) = m ((c.tc : Thread Cert.Kernel42Ideal.nD Cert.Kernel42Ideal.τ).loc Cert.Kernel42Ideal.main_arg2)) →
    ∃ (v0 : (c : Dev Cert.Kernel42Ideal.nD) → Buf (Elt Ideal) ((c.tc : Thread Cert.Kernel42Ideal.nD Cert.Kernel42Ideal.τ).loc Cert.Kernel42Ideal.main_v0)),
      θ_run (Cert.Kernel42Ideal.defs (F := Ideal)) (onTc (τ := Cert.Kernel42Ideal.τ) (Cert.Kernel42Ideal.main (F := Ideal))) ⟨m, fun _ => 0, g⟩ (fun r => ∀ c : Dev Cert.Kernel42Ideal.nD,
          r.2.mem ((c.tc : Thread Cert.Kernel42Ideal.nD Cert.Kernel42Ideal.τ).loc Cert.Kernel42Ideal.main_v0) = v0 c
          ∧ r.2.mem ((c.tc : Thread Cert.Kernel42Ideal.nD Cert.Kernel42Ideal.τ).loc Cert.Kernel42Ideal.main_arg0) = m ((c.tc : Thread Cert.Kernel42Ideal.nD Cert.Kernel42Ideal.τ).loc Cert.Kernel42Ideal.main_arg0)
          ∧ r.2.mem ((c.tc : Thread Cert.Kernel42Ideal.nD Cert.Kernel42Ideal.τ).loc Cert.Kernel42Ideal.main_arg1) = m ((c.tc : Thread Cert.Kernel42Ideal.nD Cert.Kernel42Ideal.τ).loc Cert.Kernel42Ideal.main_arg1)
          ∧ r.2.mem ((c.tc : Thread Cert.Kernel42Ideal.nD Cert.Kernel42Ideal.τ).loc Cert.Kernel42Ideal.main_arg2) = m ((c.tc : Thread Cert.Kernel42Ideal.nD Cert.Kernel42Ideal.τ).loc Cert.Kernel42Ideal.main_arg2))
      ∧ θ_run (Cert.Reference42Ideal.defs (F := Ideal)) (onTc (τ := Cert.Reference42Ideal.τ) (Cert.Reference42Ideal.main (F := Ideal))) ⟨m', fun _ => 0, g'⟩ (fun r => ∀ c : Dev Cert.Reference42Ideal.nD,
          r.2.mem ((c.tc : Thread Cert.Reference42Ideal.nD Cert.Reference42Ideal.τ).loc Cert.Reference42Ideal.main_v24) = v0 c
          ∧ r.2.mem ((c.tc : Thread Cert.Reference42Ideal.nD Cert.Reference42Ideal.τ).loc Cert.Reference42Ideal.main_arg0) = m' ((c.tc : Thread Cert.Reference42Ideal.nD Cert.Reference42Ideal.τ).loc Cert.Reference42Ideal.main_arg0)
          ∧ r.2.mem ((c.tc : Thread Cert.Reference42Ideal.nD Cert.Reference42Ideal.τ).loc Cert.Reference42Ideal.main_arg1) = m' ((c.tc : Thread Cert.Reference42Ideal.nD Cert.Reference42Ideal.τ).loc Cert.Reference42Ideal.main_arg1)
          ∧ r.2.mem ((c.tc : Thread Cert.Reference42Ideal.nD Cert.Reference42Ideal.τ).loc Cert.Reference42Ideal.main_arg2) = m' ((c.tc : Thread Cert.Reference42Ideal.nD Cert.Reference42Ideal.τ).loc Cert.Reference42Ideal.main_arg2))

def preserves_Kernel43_Kernel43Ideal : Prop :=
  True

def algebraic_Kernel43Ideal_Reference43Ideal [hKernel43Ideal : Cert.Kernel43Ideal.Facts] [hReference43Ideal : Cert.Reference43Ideal.Facts] : Prop :=
  ∀ (m : (ℓ : Loc Cert.Kernel43Ideal.nD Cert.Kernel43Ideal.τ Cert.Kernel43Ideal.sig) → Buf (Elt Ideal) ℓ) (g : Dev Cert.Kernel43Ideal.nD → PrngReg)
    (m' : (ℓ : Loc Cert.Reference43Ideal.nD Cert.Reference43Ideal.τ Cert.Reference43Ideal.sig) → Buf (Elt Ideal) ℓ) (g' : Dev Cert.Reference43Ideal.nD → PrngReg), Pre_Kernel43Ideal m →
    (∀ c : Dev Cert.Kernel43Ideal.nD,
      m' ((c.tc : Thread Cert.Reference43Ideal.nD Cert.Reference43Ideal.τ).loc Cert.Reference43Ideal.main_arg0) = m ((c.tc : Thread Cert.Kernel43Ideal.nD Cert.Kernel43Ideal.τ).loc Cert.Kernel43Ideal.main_arg0)
      ∧ m' ((c.tc : Thread Cert.Reference43Ideal.nD Cert.Reference43Ideal.τ).loc Cert.Reference43Ideal.main_arg1) = m ((c.tc : Thread Cert.Kernel43Ideal.nD Cert.Kernel43Ideal.τ).loc Cert.Kernel43Ideal.main_arg1)
      ∧ m' ((c.tc : Thread Cert.Reference43Ideal.nD Cert.Reference43Ideal.τ).loc Cert.Reference43Ideal.main_arg2) = m ((c.tc : Thread Cert.Kernel43Ideal.nD Cert.Kernel43Ideal.τ).loc Cert.Kernel43Ideal.main_arg2)) →
    ∃ (v0 : (c : Dev Cert.Kernel43Ideal.nD) → Buf (Elt Ideal) ((c.tc : Thread Cert.Kernel43Ideal.nD Cert.Kernel43Ideal.τ).loc Cert.Kernel43Ideal.main_v0_0)) (v1 : (c : Dev Cert.Kernel43Ideal.nD) → Buf (Elt Ideal) ((c.tc : Thread Cert.Kernel43Ideal.nD Cert.Kernel43Ideal.τ).loc Cert.Kernel43Ideal.main_v0_1)) (v2 : (c : Dev Cert.Kernel43Ideal.nD) → Buf (Elt Ideal) ((c.tc : Thread Cert.Kernel43Ideal.nD Cert.Kernel43Ideal.τ).loc Cert.Kernel43Ideal.main_v0_2)),
      θ_run (Cert.Kernel43Ideal.defs (F := Ideal)) (onTc (τ := Cert.Kernel43Ideal.τ) (Cert.Kernel43Ideal.main (F := Ideal))) ⟨m, fun _ => 0, g⟩ (fun r => ∀ c : Dev Cert.Kernel43Ideal.nD,
          r.2.mem ((c.tc : Thread Cert.Kernel43Ideal.nD Cert.Kernel43Ideal.τ).loc Cert.Kernel43Ideal.main_v0_0) = v0 c
          ∧ r.2.mem ((c.tc : Thread Cert.Kernel43Ideal.nD Cert.Kernel43Ideal.τ).loc Cert.Kernel43Ideal.main_v0_1) = v1 c
          ∧ r.2.mem ((c.tc : Thread Cert.Kernel43Ideal.nD Cert.Kernel43Ideal.τ).loc Cert.Kernel43Ideal.main_v0_2) = v2 c
          ∧ r.2.mem ((c.tc : Thread Cert.Kernel43Ideal.nD Cert.Kernel43Ideal.τ).loc Cert.Kernel43Ideal.main_arg0) = m ((c.tc : Thread Cert.Kernel43Ideal.nD Cert.Kernel43Ideal.τ).loc Cert.Kernel43Ideal.main_arg0)
          ∧ r.2.mem ((c.tc : Thread Cert.Kernel43Ideal.nD Cert.Kernel43Ideal.τ).loc Cert.Kernel43Ideal.main_arg1) = m ((c.tc : Thread Cert.Kernel43Ideal.nD Cert.Kernel43Ideal.τ).loc Cert.Kernel43Ideal.main_arg1)
          ∧ r.2.mem ((c.tc : Thread Cert.Kernel43Ideal.nD Cert.Kernel43Ideal.τ).loc Cert.Kernel43Ideal.main_arg2) = m ((c.tc : Thread Cert.Kernel43Ideal.nD Cert.Kernel43Ideal.τ).loc Cert.Kernel43Ideal.main_arg2))
      ∧ θ_run (Cert.Reference43Ideal.defs (F := Ideal)) (onTc (τ := Cert.Reference43Ideal.τ) (Cert.Reference43Ideal.main (F := Ideal))) ⟨m', fun _ => 0, g'⟩ (fun r => ∀ c : Dev Cert.Reference43Ideal.nD,
          r.2.mem ((c.tc : Thread Cert.Reference43Ideal.nD Cert.Reference43Ideal.τ).loc Cert.Reference43Ideal.main_v50) = v0 c
          ∧ r.2.mem ((c.tc : Thread Cert.Reference43Ideal.nD Cert.Reference43Ideal.τ).loc Cert.Reference43Ideal.main_v33) = v1 c
          ∧ r.2.mem ((c.tc : Thread Cert.Reference43Ideal.nD Cert.Reference43Ideal.τ).loc Cert.Reference43Ideal.main_v51) = v2 c
          ∧ r.2.mem ((c.tc : Thread Cert.Reference43Ideal.nD Cert.Reference43Ideal.τ).loc Cert.Reference43Ideal.main_arg0) = m' ((c.tc : Thread Cert.Reference43Ideal.nD Cert.Reference43Ideal.τ).loc Cert.Reference43Ideal.main_arg0)
          ∧ r.2.mem ((c.tc : Thread Cert.Reference43Ideal.nD Cert.Reference43Ideal.τ).loc Cert.Reference43Ideal.main_arg1) = m' ((c.tc : Thread Cert.Reference43Ideal.nD Cert.Reference43Ideal.τ).loc Cert.Reference43Ideal.main_arg1)
          ∧ r.2.mem ((c.tc : Thread Cert.Reference43Ideal.nD Cert.Reference43Ideal.τ).loc Cert.Reference43Ideal.main_arg2) = m' ((c.tc : Thread Cert.Reference43Ideal.nD Cert.Reference43Ideal.τ).loc Cert.Reference43Ideal.main_arg2))

def preserves_Kernel44_Kernel44Ideal : Prop :=
  True

def algebraic_Kernel44Ideal_Reference44Ideal [hKernel44Ideal : Cert.Kernel44Ideal.Facts] [hReference44Ideal : Cert.Reference44Ideal.Facts] : Prop :=
  ∀ (m : (ℓ : Loc Cert.Kernel44Ideal.nD Cert.Kernel44Ideal.τ Cert.Kernel44Ideal.sig) → Buf (Elt Ideal) ℓ) (g : Dev Cert.Kernel44Ideal.nD → PrngReg)
    (m' : (ℓ : Loc Cert.Reference44Ideal.nD Cert.Reference44Ideal.τ Cert.Reference44Ideal.sig) → Buf (Elt Ideal) ℓ) (g' : Dev Cert.Reference44Ideal.nD → PrngReg), Pre_Kernel44Ideal m →
    (∀ c : Dev Cert.Kernel44Ideal.nD,
      m' ((c.tc : Thread Cert.Reference44Ideal.nD Cert.Reference44Ideal.τ).loc Cert.Reference44Ideal.main_arg0) = m ((c.tc : Thread Cert.Kernel44Ideal.nD Cert.Kernel44Ideal.τ).loc Cert.Kernel44Ideal.main_arg0)
      ∧ m' ((c.tc : Thread Cert.Reference44Ideal.nD Cert.Reference44Ideal.τ).loc Cert.Reference44Ideal.main_arg1) = m ((c.tc : Thread Cert.Kernel44Ideal.nD Cert.Kernel44Ideal.τ).loc Cert.Kernel44Ideal.main_arg1)) →
    ∃ (v0 : (c : Dev Cert.Kernel44Ideal.nD) → Buf (Elt Ideal) ((c.tc : Thread Cert.Kernel44Ideal.nD Cert.Kernel44Ideal.τ).loc Cert.Kernel44Ideal.main_v0)),
      θ_run (Cert.Kernel44Ideal.defs (F := Ideal)) (onTc (τ := Cert.Kernel44Ideal.τ) (Cert.Kernel44Ideal.main (F := Ideal))) ⟨m, fun _ => 0, g⟩ (fun r => ∀ c : Dev Cert.Kernel44Ideal.nD,
          r.2.mem ((c.tc : Thread Cert.Kernel44Ideal.nD Cert.Kernel44Ideal.τ).loc Cert.Kernel44Ideal.main_v0) = v0 c
          ∧ r.2.mem ((c.tc : Thread Cert.Kernel44Ideal.nD Cert.Kernel44Ideal.τ).loc Cert.Kernel44Ideal.main_arg0) = m ((c.tc : Thread Cert.Kernel44Ideal.nD Cert.Kernel44Ideal.τ).loc Cert.Kernel44Ideal.main_arg0)
          ∧ r.2.mem ((c.tc : Thread Cert.Kernel44Ideal.nD Cert.Kernel44Ideal.τ).loc Cert.Kernel44Ideal.main_arg1) = m ((c.tc : Thread Cert.Kernel44Ideal.nD Cert.Kernel44Ideal.τ).loc Cert.Kernel44Ideal.main_arg1))
      ∧ θ_run (Cert.Reference44Ideal.defs (F := Ideal)) (onTc (τ := Cert.Reference44Ideal.τ) (Cert.Reference44Ideal.main (F := Ideal))) ⟨m', fun _ => 0, g'⟩ (fun r => ∀ c : Dev Cert.Reference44Ideal.nD,
          r.2.mem ((c.tc : Thread Cert.Reference44Ideal.nD Cert.Reference44Ideal.τ).loc Cert.Reference44Ideal.main_v12) = v0 c
          ∧ r.2.mem ((c.tc : Thread Cert.Reference44Ideal.nD Cert.Reference44Ideal.τ).loc Cert.Reference44Ideal.main_arg0) = m' ((c.tc : Thread Cert.Reference44Ideal.nD Cert.Reference44Ideal.τ).loc Cert.Reference44Ideal.main_arg0)
          ∧ r.2.mem ((c.tc : Thread Cert.Reference44Ideal.nD Cert.Reference44Ideal.τ).loc Cert.Reference44Ideal.main_arg1) = m' ((c.tc : Thread Cert.Reference44Ideal.nD Cert.Reference44Ideal.τ).loc Cert.Reference44Ideal.main_arg1))

def preserves_Kernel45_Kernel45Ideal : Prop :=
  True

def algebraic_Kernel45Ideal_Reference45Ideal [hKernel45Ideal : Cert.Kernel45Ideal.Facts] [hReference45Ideal : Cert.Reference45Ideal.Facts] : Prop :=
  ∀ (m : (ℓ : Loc Cert.Kernel45Ideal.nD Cert.Kernel45Ideal.τ Cert.Kernel45Ideal.sig) → Buf (Elt Ideal) ℓ) (g : Dev Cert.Kernel45Ideal.nD → PrngReg)
    (m' : (ℓ : Loc Cert.Reference45Ideal.nD Cert.Reference45Ideal.τ Cert.Reference45Ideal.sig) → Buf (Elt Ideal) ℓ) (g' : Dev Cert.Reference45Ideal.nD → PrngReg), Pre_Kernel45Ideal m →
    (∀ c : Dev Cert.Kernel45Ideal.nD,
      m' ((c.tc : Thread Cert.Reference45Ideal.nD Cert.Reference45Ideal.τ).loc Cert.Reference45Ideal.main_arg0) = m ((c.tc : Thread Cert.Kernel45Ideal.nD Cert.Kernel45Ideal.τ).loc Cert.Kernel45Ideal.main_arg0)
      ∧ m' ((c.tc : Thread Cert.Reference45Ideal.nD Cert.Reference45Ideal.τ).loc Cert.Reference45Ideal.main_arg1) = m ((c.tc : Thread Cert.Kernel45Ideal.nD Cert.Kernel45Ideal.τ).loc Cert.Kernel45Ideal.main_arg1)
      ∧ m' ((c.tc : Thread Cert.Reference45Ideal.nD Cert.Reference45Ideal.τ).loc Cert.Reference45Ideal.main_arg2) = m ((c.tc : Thread Cert.Kernel45Ideal.nD Cert.Kernel45Ideal.τ).loc Cert.Kernel45Ideal.main_arg2)) →
    ∃ (v0 : (c : Dev Cert.Kernel45Ideal.nD) → Buf (Elt Ideal) ((c.tc : Thread Cert.Kernel45Ideal.nD Cert.Kernel45Ideal.τ).loc Cert.Kernel45Ideal.main_v0)),
      θ_run (Cert.Kernel45Ideal.defs (F := Ideal)) (onTc (τ := Cert.Kernel45Ideal.τ) (Cert.Kernel45Ideal.main (F := Ideal))) ⟨m, fun _ => 0, g⟩ (fun r => ∀ c : Dev Cert.Kernel45Ideal.nD,
          r.2.mem ((c.tc : Thread Cert.Kernel45Ideal.nD Cert.Kernel45Ideal.τ).loc Cert.Kernel45Ideal.main_v0) = v0 c
          ∧ r.2.mem ((c.tc : Thread Cert.Kernel45Ideal.nD Cert.Kernel45Ideal.τ).loc Cert.Kernel45Ideal.main_arg0) = m ((c.tc : Thread Cert.Kernel45Ideal.nD Cert.Kernel45Ideal.τ).loc Cert.Kernel45Ideal.main_arg0)
          ∧ r.2.mem ((c.tc : Thread Cert.Kernel45Ideal.nD Cert.Kernel45Ideal.τ).loc Cert.Kernel45Ideal.main_arg1) = m ((c.tc : Thread Cert.Kernel45Ideal.nD Cert.Kernel45Ideal.τ).loc Cert.Kernel45Ideal.main_arg1)
          ∧ r.2.mem ((c.tc : Thread Cert.Kernel45Ideal.nD Cert.Kernel45Ideal.τ).loc Cert.Kernel45Ideal.main_arg2) = m ((c.tc : Thread Cert.Kernel45Ideal.nD Cert.Kernel45Ideal.τ).loc Cert.Kernel45Ideal.main_arg2))
      ∧ θ_run (Cert.Reference45Ideal.defs (F := Ideal)) (onTc (τ := Cert.Reference45Ideal.τ) (Cert.Reference45Ideal.main (F := Ideal))) ⟨m', fun _ => 0, g'⟩ (fun r => ∀ c : Dev Cert.Reference45Ideal.nD,
          r.2.mem ((c.tc : Thread Cert.Reference45Ideal.nD Cert.Reference45Ideal.τ).loc Cert.Reference45Ideal.main_v21) = v0 c
          ∧ r.2.mem ((c.tc : Thread Cert.Reference45Ideal.nD Cert.Reference45Ideal.τ).loc Cert.Reference45Ideal.main_arg0) = m' ((c.tc : Thread Cert.Reference45Ideal.nD Cert.Reference45Ideal.τ).loc Cert.Reference45Ideal.main_arg0)
          ∧ r.2.mem ((c.tc : Thread Cert.Reference45Ideal.nD Cert.Reference45Ideal.τ).loc Cert.Reference45Ideal.main_arg1) = m' ((c.tc : Thread Cert.Reference45Ideal.nD Cert.Reference45Ideal.τ).loc Cert.Reference45Ideal.main_arg1)
          ∧ r.2.mem ((c.tc : Thread Cert.Reference45Ideal.nD Cert.Reference45Ideal.τ).loc Cert.Reference45Ideal.main_arg2) = m' ((c.tc : Thread Cert.Reference45Ideal.nD Cert.Reference45Ideal.τ).loc Cert.Reference45Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel34 : Cert.Kernel34.Facts) (hKernel34Ideal : Cert.Kernel34Ideal.Facts) (hReference34Ideal : Cert.Reference34Ideal.Facts) (hKernel36 : Cert.Kernel36.Facts) (hKernel36Ideal : Cert.Kernel36Ideal.Facts) (hReference36Ideal : Cert.Reference36Ideal.Facts) (hKernel37 : Cert.Kernel37.Facts) (hKernel37Ideal : Cert.Kernel37Ideal.Facts) (hReference37Ideal : Cert.Reference37Ideal.Facts) (hKernel38 : Cert.Kernel38.Facts) (hKernel38Ideal : Cert.Kernel38Ideal.Facts) (hReference38Ideal : Cert.Reference38Ideal.Facts) (hKernel39 : Cert.Kernel39.Facts) (hKernel39Ideal : Cert.Kernel39Ideal.Facts) (hReference39Ideal : Cert.Reference39Ideal.Facts) (hKernel40 : Cert.Kernel40.Facts) (hKernel40Ideal : Cert.Kernel40Ideal.Facts) (hReference40Ideal : Cert.Reference40Ideal.Facts) (hKernel41 : Cert.Kernel41.Facts) (hKernel41Ideal : Cert.Kernel41Ideal.Facts) (hReference41Ideal : Cert.Reference41Ideal.Facts) (hKernel42 : Cert.Kernel42.Facts) (hKernel42Ideal : Cert.Kernel42Ideal.Facts) (hReference42Ideal : Cert.Reference42Ideal.Facts) (hKernel43 : Cert.Kernel43.Facts) (hKernel43Ideal : Cert.Kernel43Ideal.Facts) (hReference43Ideal : Cert.Reference43Ideal.Facts) (hKernel44 : Cert.Kernel44.Facts) (hKernel44Ideal : Cert.Kernel44Ideal.Facts) (hReference44Ideal : Cert.Reference44Ideal.Facts) (hKernel45 : Cert.Kernel45.Facts) (hKernel45Ideal : Cert.Kernel45Ideal.Facts) (hReference45Ideal : Cert.Reference45Ideal.Facts) (hPre_owner_is_a_device26 : Cert.Pre_owner_is_a_device26.Facts) (hPre_owner_is_a_device27 : Cert.Pre_owner_is_a_device27.Facts) (hPre_owner_is_a_device28 : Cert.Pre_owner_is_a_device28.Facts) (hPre_owner_is_a_device29 : Cert.Pre_owner_is_a_device29.Facts) (hPre_owner_is_a_device30 : Cert.Pre_owner_is_a_device30.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel26 (hKernel26 := hKernel26) (hPre_owner_is_a_device26 := hPre_owner_is_a_device26)
    ∧ quiescent_Kernel26Ideal (hKernel26Ideal := hKernel26Ideal) (hPre_owner_is_a_device26 := hPre_owner_is_a_device26)
    ∧ quiescent_Reference26Ideal (hReference26Ideal := hReference26Ideal)
    ∧ quiescent_Reference26Ideal_pre_owner_is_a_device26 (hReference26Ideal := hReference26Ideal) (hPre_owner_is_a_device26 := hPre_owner_is_a_device26)
    ∧ quiescent_Kernel27 (hKernel27 := hKernel27) (hPre_owner_is_a_device27 := hPre_owner_is_a_device27)
    ∧ quiescent_Kernel27Ideal (hKernel27Ideal := hKernel27Ideal) (hPre_owner_is_a_device27 := hPre_owner_is_a_device27)
    ∧ quiescent_Reference27Ideal (hReference27Ideal := hReference27Ideal)
    ∧ quiescent_Reference27Ideal_pre_owner_is_a_device27 (hReference27Ideal := hReference27Ideal) (hPre_owner_is_a_device27 := hPre_owner_is_a_device27)
    ∧ quiescent_Kernel28 (hKernel28 := hKernel28) (hPre_owner_is_a_device28 := hPre_owner_is_a_device28)
    ∧ quiescent_Kernel28Ideal (hKernel28Ideal := hKernel28Ideal) (hPre_owner_is_a_device28 := hPre_owner_is_a_device28)
    ∧ quiescent_Reference28Ideal (hReference28Ideal := hReference28Ideal)
    ∧ quiescent_Reference28Ideal_pre_owner_is_a_device28 (hReference28Ideal := hReference28Ideal) (hPre_owner_is_a_device28 := hPre_owner_is_a_device28)
    ∧ quiescent_Kernel29 (hKernel29 := hKernel29) (hPre_owner_is_a_device29 := hPre_owner_is_a_device29)
    ∧ quiescent_Kernel29Ideal (hKernel29Ideal := hKernel29Ideal) (hPre_owner_is_a_device29 := hPre_owner_is_a_device29)
    ∧ quiescent_Reference29Ideal (hReference29Ideal := hReference29Ideal)
    ∧ quiescent_Reference29Ideal_pre_owner_is_a_device29 (hReference29Ideal := hReference29Ideal) (hPre_owner_is_a_device29 := hPre_owner_is_a_device29)
    ∧ quiescent_Kernel30 (hKernel30 := hKernel30) (hPre_owner_is_a_device30 := hPre_owner_is_a_device30)
    ∧ quiescent_Kernel30Ideal (hKernel30Ideal := hKernel30Ideal) (hPre_owner_is_a_device30 := hPre_owner_is_a_device30)
    ∧ quiescent_Reference30Ideal (hReference30Ideal := hReference30Ideal)
    ∧ quiescent_Reference30Ideal_pre_owner_is_a_device30 (hReference30Ideal := hReference30Ideal) (hPre_owner_is_a_device30 := hPre_owner_is_a_device30)
    ∧ quiescent_Kernel34 (hKernel34 := hKernel34)
    ∧ quiescent_Kernel34Ideal (hKernel34Ideal := hKernel34Ideal)
    ∧ quiescent_Reference34Ideal (hReference34Ideal := hReference34Ideal)
    ∧ quiescent_Kernel36 (hKernel36 := hKernel36)
    ∧ quiescent_Kernel36Ideal (hKernel36Ideal := hKernel36Ideal)
    ∧ quiescent_Reference36Ideal (hReference36Ideal := hReference36Ideal)
    ∧ quiescent_Kernel37 (hKernel37 := hKernel37)
    ∧ quiescent_Kernel37Ideal (hKernel37Ideal := hKernel37Ideal)
    ∧ quiescent_Reference37Ideal (hReference37Ideal := hReference37Ideal)
    ∧ quiescent_Kernel38 (hKernel38 := hKernel38)
    ∧ quiescent_Kernel38Ideal (hKernel38Ideal := hKernel38Ideal)
    ∧ quiescent_Reference38Ideal (hReference38Ideal := hReference38Ideal)
    ∧ quiescent_Kernel39 (hKernel39 := hKernel39)
    ∧ quiescent_Kernel39Ideal (hKernel39Ideal := hKernel39Ideal)
    ∧ quiescent_Reference39Ideal (hReference39Ideal := hReference39Ideal)
    ∧ quiescent_Kernel40 (hKernel40 := hKernel40)
    ∧ quiescent_Kernel40Ideal (hKernel40Ideal := hKernel40Ideal)
    ∧ quiescent_Reference40Ideal (hReference40Ideal := hReference40Ideal)
    ∧ quiescent_Kernel41 (hKernel41 := hKernel41)
    ∧ quiescent_Kernel41Ideal (hKernel41Ideal := hKernel41Ideal)
    ∧ quiescent_Reference41Ideal (hReference41Ideal := hReference41Ideal)
    ∧ quiescent_Kernel42 (hKernel42 := hKernel42)
    ∧ quiescent_Kernel42Ideal (hKernel42Ideal := hKernel42Ideal)
    ∧ quiescent_Reference42Ideal (hReference42Ideal := hReference42Ideal)
    ∧ quiescent_Kernel43 (hKernel43 := hKernel43)
    ∧ quiescent_Kernel43Ideal (hKernel43Ideal := hKernel43Ideal)
    ∧ quiescent_Reference43Ideal (hReference43Ideal := hReference43Ideal)
    ∧ quiescent_Kernel44 (hKernel44 := hKernel44)
    ∧ quiescent_Kernel44Ideal (hKernel44Ideal := hKernel44Ideal)
    ∧ quiescent_Reference44Ideal (hReference44Ideal := hReference44Ideal)
    ∧ quiescent_Kernel45 (hKernel45 := hKernel45)
    ∧ quiescent_Kernel45Ideal (hKernel45Ideal := hKernel45Ideal)
    ∧ quiescent_Reference45Ideal (hReference45Ideal := hReference45Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel26_Kernel26Ideal
    ∧ algebraic_Kernel26Ideal_Reference26Ideal (hKernel26Ideal := hKernel26Ideal) (hReference26Ideal := hReference26Ideal) (hPre_owner_is_a_device26 := hPre_owner_is_a_device26)
    ∧ preserves_Kernel27_Kernel27Ideal
    ∧ algebraic_Kernel27Ideal_Reference27Ideal (hKernel27Ideal := hKernel27Ideal) (hReference27Ideal := hReference27Ideal) (hPre_owner_is_a_device27 := hPre_owner_is_a_device27)
    ∧ preserves_Kernel28_Kernel28Ideal
    ∧ algebraic_Kernel28Ideal_Reference28Ideal (hKernel28Ideal := hKernel28Ideal) (hReference28Ideal := hReference28Ideal) (hPre_owner_is_a_device28 := hPre_owner_is_a_device28)
    ∧ preserves_Kernel29_Kernel29Ideal
    ∧ algebraic_Kernel29Ideal_Reference29Ideal (hKernel29Ideal := hKernel29Ideal) (hReference29Ideal := hReference29Ideal) (hPre_owner_is_a_device29 := hPre_owner_is_a_device29)
    ∧ preserves_Kernel30_Kernel30Ideal
    ∧ algebraic_Kernel30Ideal_Reference30Ideal (hKernel30Ideal := hKernel30Ideal) (hReference30Ideal := hReference30Ideal) (hPre_owner_is_a_device30 := hPre_owner_is_a_device30)
    ∧ preserves_Kernel34_Kernel34Ideal
    ∧ algebraic_Kernel34Ideal_Reference34Ideal (hKernel34Ideal := hKernel34Ideal) (hReference34Ideal := hReference34Ideal)
    ∧ preserves_Kernel36_Kernel36Ideal
    ∧ algebraic_Kernel36Ideal_Reference36Ideal (hKernel36Ideal := hKernel36Ideal) (hReference36Ideal := hReference36Ideal)
    ∧ preserves_Kernel37_Kernel37Ideal
    ∧ algebraic_Kernel37Ideal_Reference37Ideal (hKernel37Ideal := hKernel37Ideal) (hReference37Ideal := hReference37Ideal)
    ∧ preserves_Kernel38_Kernel38Ideal
    ∧ algebraic_Kernel38Ideal_Reference38Ideal (hKernel38Ideal := hKernel38Ideal) (hReference38Ideal := hReference38Ideal)
    ∧ preserves_Kernel39_Kernel39Ideal
    ∧ algebraic_Kernel39Ideal_Reference39Ideal (hKernel39Ideal := hKernel39Ideal) (hReference39Ideal := hReference39Ideal)
    ∧ preserves_Kernel40_Kernel40Ideal
    ∧ algebraic_Kernel40Ideal_Reference40Ideal (hKernel40Ideal := hKernel40Ideal) (hReference40Ideal := hReference40Ideal)
    ∧ preserves_Kernel41_Kernel41Ideal
    ∧ algebraic_Kernel41Ideal_Reference41Ideal (hKernel41Ideal := hKernel41Ideal) (hReference41Ideal := hReference41Ideal)
    ∧ preserves_Kernel42_Kernel42Ideal
    ∧ algebraic_Kernel42Ideal_Reference42Ideal (hKernel42Ideal := hKernel42Ideal) (hReference42Ideal := hReference42Ideal)
    ∧ preserves_Kernel43_Kernel43Ideal
    ∧ algebraic_Kernel43Ideal_Reference43Ideal (hKernel43Ideal := hKernel43Ideal) (hReference43Ideal := hReference43Ideal)
    ∧ preserves_Kernel44_Kernel44Ideal
    ∧ algebraic_Kernel44Ideal_Reference44Ideal (hKernel44Ideal := hKernel44Ideal) (hReference44Ideal := hReference44Ideal)
    ∧ preserves_Kernel45_Kernel45Ideal
    ∧ algebraic_Kernel45Ideal_Reference45Ideal (hKernel45Ideal := hKernel45Ideal) (hReference45Ideal := hReference45Ideal)
-- ==== Pre_owner_is_a_device26.lean ====
abbrev S_ : Shape := ⟨0, ![]⟩
abbrev S8x256x1024 : Shape := ⟨3, ![8, 256, 1024]⟩
abbrev S256x1024 : Shape := ⟨2, ![256, 1024]⟩

class Facts : Prop where

variable [Facts]

def fn {F : FTy → Type} [FloatOps F] (main_arg0 : IVec S_ 32) (main_arg1 : FVec F S8x256x1024 .bf16) (main_arg2 : FVec F S8x256x1024 .bf16) (main_arg3 : FVec F S256x1024 .f32) (main_arg4 : FVec F S256x1024 .f32) (main_arg5 : FVec F S256x1024 .f32) : IVec S_ 1 :=
  let main_c : IVec S_ 32 := constantI S_ 32 0#32
  let main_v0 : IVec S_ 1 := cmpi .sge main_arg0 main_c
  let main_c_0 : IVec S_ 32 := constantI S_ 32 8#32
  let main_v1 : IVec S_ 1 := cmpi .slt main_arg0 main_c_0
  let main_v2 : IVec S_ 1 := andi main_v0 main_v1
  main_v2
-- ==== Pre_owner_is_a_device27.lean ====
abbrev S_ : Shape := ⟨0, ![]⟩
abbrev S8x578x1024 : Shape := ⟨3, ![8, 578, 1024]⟩
abbrev S578x1024 : Shape := ⟨2, ![578, 1024]⟩

class Facts : Prop where

variable [Facts]

def fn {F : FTy → Type} [FloatOps F] (main_arg0 : IVec S_ 32) (main_arg1 : FVec F S8x578x1024 .bf16) (main_arg2 : FVec F S8x578x1024 .bf16) (main_arg3 : FVec F S578x1024 .f32) (main_arg4 : FVec F S578x1024 .f32) (main_arg5 : FVec F S578x1024 .f32) : IVec S_ 1 :=
  let main_c : IVec S_ 32 := constantI S_ 32 0#32
  let main_v0 : IVec S_ 1 := cmpi .sge main_arg0 main_c
  let main_c_0 : IVec S_ 32 := constantI S_ 32 8#32
  let main_v1 : IVec S_ 1 := cmpi .slt main_arg0 main_c_0
  let main_v2 : IVec S_ 1 := andi main_v0 main_v1
  main_v2
-- ==== Pre_owner_is_a_device28.lean ====
abbrev S_ : Shape := ⟨0, ![]⟩
abbrev S8x128x1024 : Shape := ⟨3, ![8, 128, 1024]⟩
abbrev S128x1024 : Shape := ⟨2, ![128, 1024]⟩

class Facts : Prop where

variable [Facts]

def fn {F : FTy → Type} [FloatOps F] (main_arg0 : IVec S_ 32) (main_arg1 : FVec F S8x128x1024 .bf16) (main_arg2 : FVec F S8x128x1024 .bf16) (main_arg3 : FVec F S128x1024 .f32) (main_arg4 : FVec F S128x1024 .f32) (main_arg5 : FVec F S128x1024 .f32) : IVec S_ 1 :=
  let main_c : IVec S_ 32 := constantI S_ 32 0#32
  let main_v0 : IVec S_ 1 := cmpi .sge main_arg0 main_c
  let main_c_0 : IVec S_ 32 := constantI S_ 32 8#32
  let main_v1 : IVec S_ 1 := cmpi .slt main_arg0 main_c_0
  let main_v2 : IVec S_ 1 := andi main_v0 main_v1
  main_v2
-- ==== Pre_owner_is_a_device29.lean ====
abbrev S_ : Shape := ⟨0, ![]⟩
abbrev S8x1024x256 : Shape := ⟨3, ![8, 1024, 256]⟩
abbrev S1024x256 : Shape := ⟨2, ![1024, 256]⟩

class Facts : Prop where

variable [Facts]

def fn {F : FTy → Type} [FloatOps F] (main_arg0 : IVec S_ 32) (main_arg1 : FVec F S8x1024x256 .bf16) (main_arg2 : FVec F S8x1024x256 .bf16) (main_arg3 : FVec F S1024x256 .f32) (main_arg4 : FVec F S1024x256 .f32) (main_arg5 : FVec F S1024x256 .f32) : IVec S_ 1 :=
  let main_c : IVec S_ 32 := constantI S_ 32 0#32
  let main_v0 : IVec S_ 1 := cmpi .sge main_arg0 main_c
  let main_c_0 : IVec S_ 32 := constantI S_ 32 8#32
  let main_v1 : IVec S_ 1 := cmpi .slt main_arg0 main_c_0
  let main_v2 : IVec S_ 1 := andi main_v0 main_v1
  main_v2
-- ==== Pre_owner_is_a_device30.lean ====
abbrev S_ : Shape := ⟨0, ![]⟩
abbrev S8x352x1024 : Shape := ⟨3, ![8, 352, 1024]⟩
abbrev S352x1024 : Shape := ⟨2, ![352, 1024]⟩

class Facts : Prop where

variable [Facts]

def fn {F : FTy → Type} [FloatOps F] (main_arg0 : IVec S_ 32) (main_arg1 : FVec F S8x352x1024 .bf16) (main_arg2 : FVec F S8x352x1024 .bf16) (main_arg3 : FVec F S352x1024 .f32) (main_arg4 : FVec F S352x1024 .f32) (main_arg5 : FVec F S352x1024 .f32) : IVec S_ 1 :=
  let main_c : IVec S_ 32 := constantI S_ 32 0#32
  let main_v0 : IVec S_ 1 := cmpi .sge main_arg0 main_c
  let main_c_0 : IVec S_ 32 := constantI S_ 32 8#32
  let main_v1 : IVec S_ 1 := cmpi .slt main_arg0 main_c_0
  let main_v2 : IVec S_ 1 := andi main_v0 main_v1
  main_v2
-- ==== Kernel.lean ====
abbrev S4096x1024 : Shape := ⟨2, ![4096, 1024]⟩
abbrev S256x1024 : Shape := ⟨2, ![256, 1024]⟩
abbrev S512x1024 : Shape := ⟨2, ![512, 1024]⟩
abbrev S512x256 : Shape := ⟨2, ![512, 256]⟩
abbrev S256x256 : Shape := ⟨2, ![256, 256]⟩
abbrev S512 : Shape := ⟨1, ![512]⟩
abbrev S512x1 : Shape := ⟨2, ![512, 1]⟩
abbrev S256x768 : Shape := ⟨2, ![256, 768]⟩
abbrev S512x768 : Shape := ⟨2, ![512, 768]⟩
abbrev S256x512 : Shape := ⟨2, ![256, 512]⟩
abbrev S512x512 : Shape := ⟨2, ![512, 512]⟩

abbrev nBuf : Space → Nat
  | .hbm => 7
  | .vmem => 10
  | .smem => 0
  | _ => 0

abbrev bufTy : (tb : Table) → Fin (tcTables nBuf tb) → BufTy
  | .hbm, ⟨0, _⟩ => ⟨S4096x1024, .bf16⟩
  | .hbm, ⟨1, _⟩ => ⟨S256x1024, .f32⟩
  | .hbm, ⟨2, _⟩ => ⟨S256x1024, .f32⟩
  | .hbm, ⟨3, _⟩ => ⟨S4096x1024, .bf16⟩
  | .hbm, ⟨4, _⟩ => ⟨S4096x1024, .bf16⟩
  | .hbm, ⟨5, _⟩ => ⟨S256x1024, .f32⟩
  | .hbm, ⟨6, _⟩ => ⟨S256x1024, .f32⟩
  | .local _ .vmem, ⟨0, _⟩ => ⟨S512x1024, .bf16⟩
  | .local _ .vmem, ⟨1, _⟩ => ⟨S512x1024, .bf16⟩
  | .local _ .vmem, ⟨2, _⟩ => ⟨S256x1024, .f32⟩
  | .local _ .vmem, ⟨3, _⟩ => ⟨S256x1024, .f32⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S256x1024, .f32⟩
  | .local _ .vmem, ⟨9, _⟩ => ⟨S256x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S4096x1024 : Shape := ⟨2, ![4096, 1024]⟩
abbrev S256x1024 : Shape := ⟨2, ![256, 1024]⟩
abbrev S1x4096x4x256 : Shape := ⟨4, ![1, 4096, 4, 256]⟩
abbrev S1x256x4x256 : Shape := ⟨4, ![1, 256, 4, 256]⟩
abbrev S1x4x4096x256 : Shape := ⟨4, ![1, 4, 4096, 256]⟩
abbrev S_ : Shape := ⟨0, ![]⟩
abbrev S1x4x4096 : Shape := ⟨3, ![1, 4, 4096]⟩
abbrev S1x4x4096x1 : Shape := ⟨4, ![1, 4, 4096, 1]⟩
abbrev S1x4x256x4096 : Shape := ⟨4, ![1, 4, 256, 4096]⟩
abbrev S1x4x256x256 : Shape := ⟨4, ![1, 4, 256, 256]⟩
abbrev S4x4096 : Shape := ⟨2, ![4, 4096]⟩

abbrev nBuf : Space → Nat
  | .hbm => 85
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S256x1024, .f32⟩
  | .hbm, ⟨2, _⟩ => ⟨S256x1024, .f32⟩
  | .hbm, ⟨3, _⟩ => ⟨S4096x1024, .bf16⟩
  | .hbm, ⟨4, _⟩ => ⟨S4096x1024, .f32⟩
  | .hbm, ⟨5, _⟩ => ⟨S1x4096x4x256, .f32⟩
  | .hbm, ⟨6, _⟩ => ⟨S1x256x4x256, .f32⟩
  | .hbm, ⟨7, _⟩ => ⟨S1x256x4x256, .f32⟩
  | .hbm, ⟨8, _⟩ => ⟨S1x4x4096x256, .f32⟩
  | .hbm, ⟨9, _⟩ => ⟨S_, .f32⟩
  | .hbm, ⟨10, _⟩ => ⟨S1x4x4096x256, .f32⟩
  | .hbm, ⟨11, _⟩ => ⟨S1x4x4096x256, .f32⟩
  | .hbm, ⟨12, _⟩ => ⟨S_, .f32⟩
  | .hbm, ⟨13, _⟩ => ⟨S1x4x4096, .f32⟩
  | .hbm, ⟨14, _⟩ => ⟨S1x4x4096x1, .f32⟩
  | .hbm, ⟨15, _⟩ => ⟨S1x4x4096x256, .f32⟩
  | .hbm, ⟨16, _⟩ => ⟨S1x4x4096x256, .i1⟩
  | .hbm, ⟨17, _⟩ => ⟨S1x4x4096x256, .f32⟩
  | .hbm, ⟨18, _⟩ => ⟨S_, .f32⟩
  | .hbm, ⟨19, _⟩ => ⟨S1x4x4096, .f32⟩
  | .hbm, ⟨20, _⟩ => ⟨S_, .f32⟩
  | .hbm, ⟨21, _⟩ => ⟨S1x4x4096, .f32⟩
  | .hbm, ⟨22, _⟩ => ⟨S1x4x4096, .f32⟩
  | .hbm, ⟨23, _⟩ => ⟨S_, .f32⟩
  | .hbm, ⟨24, _⟩ => ⟨S1x4x4096, .f32⟩
  | .hbm, ⟨25, _⟩ => ⟨S1x4x4096, .i1⟩
  | .hbm, ⟨26, _⟩ => ⟨S_, .f32⟩
  | .hbm, ⟨27, _⟩ => ⟨S1x4x4096, .f32⟩
  | .hbm, ⟨28, _⟩ => ⟨S1x4x4096, .i1⟩
  | .hbm, ⟨29, _⟩ => ⟨S_, .f32⟩
  | .hbm, ⟨30, _⟩ => ⟨S1x4x4096, .f32⟩
  | .hbm, ⟨31, _⟩ => ⟨S_, .f32⟩
  | .hbm, ⟨32, _⟩ => ⟨S1x4x4096, .f32⟩
  | .hbm, ⟨33, _⟩ => ⟨S_, .f32⟩
  | .hbm, ⟨34, _⟩ => ⟨S1x4x4096, .f32⟩
  | .hbm, ⟨35, _⟩ => ⟨S1x4x4096, .f32⟩
  | .hbm, ⟨36, _⟩ => ⟨S1x4x4096, .f32⟩
  | .hbm, ⟨37, _⟩ => ⟨S1x4x4096x1, .f32⟩
  | .hbm, ⟨38, _⟩ => ⟨S1x4x4096x256, .f32⟩
  | .hbm, ⟨39, _⟩ => ⟨S1x4x4096x256, .f32⟩
  | .hbm, ⟨40, _⟩ => ⟨S1x4x4096x256, .f32⟩
  | .hbm, ⟨41, _⟩ => ⟨S_, .f32⟩
  | .hbm, ⟨42, _⟩ => ⟨S1x4x4096, .f32⟩
  | .hbm, ⟨43, _⟩ => ⟨S1x4x4096x1, .f32⟩
  | .hbm, ⟨44, _⟩ => ⟨S1x4x4096x256, .f32⟩
  | .hbm, ⟨45, _⟩ => ⟨S1x4x4096x256, .f32⟩
  | .hbm, ⟨46, _⟩ => ⟨S1x4x4096x1, .f32⟩
  | .hbm, ⟨47, _⟩ => ⟨S_, .f32⟩
  | .hbm, ⟨48, _⟩ => ⟨S1x4x4096x1, .f32⟩
  | .hbm, ⟨49, _⟩ => ⟨S1x4x4096x1, .f32⟩
  | .hbm, ⟨50, _⟩ => ⟨S1x4x256x4096, .f32⟩
  | .hbm, ⟨51, _⟩ => ⟨S1x4096x4x256, .f32⟩
  | .hbm, ⟨52, _⟩ => ⟨S4096x1024, .f32⟩
  | .hbm, ⟨53, _⟩ => ⟨S4096x1024, .f32⟩
  | .hbm, ⟨54, _⟩ => ⟨S1x4096x4x256, .f32⟩
  | .hbm, ⟨55, _⟩ => ⟨S1x4x256x4096, .f32⟩
  | .hbm, ⟨56, _⟩ => ⟨S1x4x4096x256, .f32⟩
  | .hbm, ⟨57, _⟩ => ⟨S1x4x256x256, .f32⟩
  | .hbm, ⟨58, _⟩ => ⟨S1x256x4x256, .f32⟩
  | .hbm, ⟨59, _⟩ => ⟨S1x4x4096x256, .f32⟩
  | .hbm, ⟨60, _⟩ => ⟨S1x4x4096x256, .f32⟩
  | .hbm, ⟨61, _⟩ => ⟨S1x4x4096x256, .f32⟩
  | .hbm, ⟨62, _⟩ => ⟨S_, .f32⟩
  | .hbm, ⟨63, _⟩ => ⟨S1x4x4096, .f32⟩
  | .hbm, ⟨64, _⟩ => ⟨S1x4x4096x1, .f32⟩
  | .hbm, ⟨65, _⟩ => ⟨S1x4x4096x1, .f32⟩
  | .hbm, ⟨66, _⟩ => ⟨S1x4x4096x256, .f32⟩
  | .hbm, ⟨67, _⟩ => ⟨S1x4x4096x256, .f32⟩
  | .hbm, ⟨68, _⟩ => ⟨S_, .f32⟩
  | .hbm, ⟨69, _⟩ => ⟨S4x4096, .f32⟩
  | .hbm, ⟨70, _⟩ => ⟨S1x4x4096, .f32⟩
  | .hbm, ⟨71, _⟩ => ⟨S1x4x4096x256, .f32⟩
  | .hbm, ⟨72, _⟩ => ⟨S1x4x4096x256, .f32⟩
  | .hbm, ⟨73, _⟩ => ⟨S1x4x4096x256, .f32⟩
  | .hbm, ⟨74, _⟩ => ⟨S_, .f32⟩
  | .hbm, ⟨75, _⟩ => ⟨S1x4x4096x256, .f32⟩
  | .hbm, ⟨76, _⟩ => ⟨S1x4x4096x256, .f32⟩
  | .hbm, ⟨77, _⟩ => ⟨S1x4x256x256, .f32⟩
  | .hbm, ⟨78, _⟩ => ⟨S1x256x4x256, .f32⟩
  | .hbm, ⟨79, _⟩ => ⟨S1x4x4096x256, .f32⟩
  | .hbm, ⟨80, _⟩ => ⟨S1x4096x4x256, .f32⟩
  | .hbm, ⟨81, _⟩ => ⟨S256x1024, .f32⟩
  | .hbm, ⟨82, _⟩ => ⟨S256x1024, .f32⟩
  | .hbm, ⟨83, _⟩ => ⟨S4096x1024, .f32⟩
  | .hbm, ⟨84, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_8 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_9 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_cst_10 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_cst_11 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_cst_12 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩

abbrev nD : Nat := 1
abbrev τ : Topo := Topo.v7x

variable {F : FTy → Type} [FloatOps F]
-- ==== Kernel2.lean ====
abbrev S4096x2816 : Shape := ⟨2, ![4096, 2816]⟩
abbrev S2816x1024 : Shape := ⟨2, ![2816, 1024]⟩
abbrev S4096x1024 : Shape := ⟨2, ![4096, 1024]⟩
abbrev S256x2816 : Shape := ⟨2, ![256, 2816]⟩
abbrev S256x1024 : Shape := ⟨2, ![256, 1024]⟩

abbrev nBuf : Space → Nat
  | .hbm => 8
  | .vmem => 14
  | .smem => 0
  | _ => 0

abbrev bufTy : (tb : Table) → Fin (tcTables nBuf tb) → BufTy
  | .hbm, ⟨0, _⟩ => ⟨S4096x2816, .bf16⟩
  | .hbm, ⟨1, _⟩ => ⟨S4096x2816, .bf16⟩
  | .hbm, ⟨2, _⟩ => ⟨S4096x2816, .bf16⟩
  | .hbm, ⟨3, _⟩ => ⟨S2816x1024, .bf16⟩
  | .hbm, ⟨4, _⟩ => ⟨S2816x1024, .bf16⟩
  | .hbm, ⟨5, _⟩ => ⟨S4096x1024, .bf16⟩
  | .hbm, ⟨6, _⟩ => ⟨S4096x2816, .bf16⟩
  | .hbm, ⟨7, _⟩ => ⟨S4096x2816, .bf16⟩
  | .local _ .vmem, ⟨0, _⟩ => ⟨S256x2816, .bf16⟩
  | .local _ .vmem, ⟨1, _⟩ => ⟨S256x2816, .bf16⟩
  | .local _ .vmem, ⟨2, _⟩ => ⟨S256x2816, .bf16⟩
  | .local _ .vmem, ⟨3, _⟩ => ⟨S256x2816, .bf16⟩
  | .local _ .vmem, ⟨4, _⟩ => ⟨S256x2816, .bf16⟩
  | .local _ .vmem, ⟨5, _⟩ => ⟨S256x2816, .bf16⟩
  | .local _ .vmem, ⟨6, _⟩ => ⟨S2816x1024, .bf16⟩
  | .local _ .vmem, ⟨7, _⟩ => ⟨S2816x1024, .bf16⟩
  | .local _ .vmem, ⟨8, _⟩ => ⟨S256x1024, .bf16⟩
  | .local _ .vmem, ⟨9, _⟩ => ⟨S256x1024, .bf16⟩
  | .local _ .vmem, ⟨10, _⟩ => ⟨S256x2816, .bf16⟩
  | .local _ .vmem, ⟨11, _⟩ => ⟨S256x2816, .bf16⟩
  | .local _ .vmem, ⟨12, _⟩ => ⟨S256x2816, .bf16⟩
  | .local _ .vmem, ⟨13, _⟩ => ⟨S256x2816, .bf16⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference2Ideal.lean ====
abbrev S4096x2816 : Shape := ⟨2, ![4096, 2816]⟩
abbrev S2816x1024 : Shape := ⟨2, ![2816, 1024]⟩
abbrev S_ : Shape := ⟨0, ![]⟩
abbrev S4096x1024 : Shape := ⟨2, ![4096, 1024]⟩

abbrev nBuf : Space → Nat
  | .hbm => 36
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x2816, .bf16⟩
  | .hbm, ⟨2, _⟩ => ⟨S4096x2816, .bf16⟩
  | .hbm, ⟨3, _⟩ => ⟨S2816x1024, .bf16⟩
  | .hbm, ⟨4, _⟩ => ⟨S2816x1024, .bf16⟩
  | .hbm, ⟨5, _⟩ => ⟨S4096x2816, .f32⟩
  | .hbm, ⟨6, _⟩ => ⟨S4096x2816, .f32⟩
  | .hbm, ⟨7, _⟩ => ⟨S4096x2816, .f32⟩
  | .hbm, ⟨8, _⟩ => ⟨S2816x1024, .f32⟩
  | .hbm, ⟨9, _⟩ => ⟨S2816x1024, .f32⟩
  | .hbm, ⟨10, _⟩ => ⟨S4096x2816, .f32⟩
  | .hbm, ⟨11, _⟩ => ⟨S4096x2816, .f32⟩
  | .hbm, ⟨12, _⟩ => ⟨S_, .f32⟩
  | .hbm, ⟨13, _⟩ => ⟨S4096x2816, .f32⟩
  | .hbm, ⟨14, _⟩ => ⟨S4096x2816, .f32⟩
  | .hbm, ⟨15, _⟩ => ⟨S_, .f32⟩
  | .hbm, ⟨16, _⟩ => ⟨S4096x2816, .f32⟩
  | .hbm, ⟨17, _⟩ => ⟨S4096x2816, .f32⟩
  | .hbm, ⟨18, _⟩ => ⟨S_, .f32⟩
  | .hbm, ⟨19, _⟩ => ⟨S4096x2816, .f32⟩
  | .hbm, ⟨20, _⟩ => ⟨S4096x2816, .f32⟩
  | .hbm, ⟨21, _⟩ => ⟨S4096x2816, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S4096x2816, .f32⟩
  | .hbm, ⟨27, _⟩ => ⟨S4096x2816, .f32⟩
  | .hbm, ⟨28, _⟩ => ⟨S4096x2816, .f32⟩
  | .hbm, ⟨29, _⟩ => ⟨S4096x2816, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .bf16⟩
  | .hbm, ⟨34, _⟩ => ⟨S4096x2816, .bf16⟩
  | .hbm, ⟨35, _⟩ => ⟨S4096x2816, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_v5_2 : Ref sig .tc := ⟨.hbm, 17, rfl⟩
abbrev main_call0_cst_1 : Ref sig .tc := ⟨.hbm, 18, rfl⟩
abbrev main_call0_v6 : Ref sig .tc := ⟨.hbm, 19, rfl⟩
abbrev main_call0_v7 : Ref sig .tc := ⟨.hbm, 20, rfl⟩
abbrev main_v5_1 : Ref sig .tc := ⟨.hbm, 21, rfl⟩
abbrev main_v5_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩

abbrev nD : Nat := 1
abbrev τ : Topo := Topo.v7x

variable {F : FTy → Type} [FloatOps F]
-- ==== Kernel3.lean ====
abbrev S4096x1024 : Shape := ⟨2, ![4096, 1024]⟩
abbrev S2816x1024 : Shape := ⟨2, ![2816, 1024]⟩
abbrev S4096x2816 : Shape := ⟨2, ![4096, 2816]⟩
abbrev S256x1024 : Shape := ⟨2, ![256, 1024]⟩
abbrev S256x2816 : Shape := ⟨2, ![256, 2816]⟩

abbrev nBuf : Space → Nat
  | .hbm => 6
  | .vmem => 10
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S2816x1024, .bf16⟩
  | .hbm, ⟨3, _⟩ => ⟨S4096x2816, .bf16⟩
  | .hbm, ⟨4, _⟩ => ⟨S4096x2816, .bf16⟩
  | .hbm, ⟨5, _⟩ => ⟨S4096x2816, .bf16⟩
  | .local _ .vmem, ⟨0, _⟩ => ⟨S256x1024, .bf16⟩
  | .local _ .vmem, ⟨1, _⟩ => ⟨S256x1024, .bf16⟩
  | .local _ .vmem, ⟨2, _⟩ => ⟨S2816x1024, .bf16⟩
  | .local _ .vmem, ⟨3, _⟩ => ⟨S2816x1024, .bf16⟩
  | .local _ .vmem, ⟨4, _⟩ => ⟨S256x2816, .bf16⟩
  | .local _ .vmem, ⟨5, _⟩ => ⟨S256x2816, .bf16⟩
  | .local _ .vmem, ⟨6, _⟩ => ⟨S256x2816, .bf16⟩
  | .local _ .vmem, ⟨7, _⟩ => ⟨S256x2816, .bf16⟩
  | .local _ .vmem, ⟨8, _⟩ => ⟨S256x2816, .bf16⟩
  | .local _ .vmem, ⟨9, _⟩ => ⟨S256x2816, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference3Ideal.lean ====
abbrev S4096x1024 : Shape := ⟨2, ![4096, 1024]⟩
abbrev S2816x1024 : Shape := ⟨2, ![2816, 1024]⟩
abbrev S1024x2816 : Shape := ⟨2, ![1024, 2816]⟩
abbrev S4096x2816 : Shape := ⟨2, ![4096, 2816]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S2816x1024, .bf16⟩
  | .hbm, ⟨3, _⟩ => ⟨S4096x1024, .f32⟩
  | .hbm, ⟨4, _⟩ => ⟨S2816x1024, .f32⟩
  | .hbm, ⟨5, _⟩ => ⟨S2816x1024, .f32⟩
  | .hbm, ⟨6, _⟩ => ⟨S1024x2816, .f32⟩
  | .hbm, ⟨7, _⟩ => ⟨S4096x2816, .f32⟩
  | .hbm, ⟨8, _⟩ => ⟨S1024x2816, .f32⟩
  | .hbm, ⟨9, _⟩ => ⟨S4096x2816, .f32⟩
  | .hbm, ⟨10, _⟩ => ⟨S4096x2816, .f32⟩
  | .hbm, ⟨11, _⟩ => ⟨S4096x2816, .f32⟩
  | .hbm, ⟨12, _⟩ => ⟨S_, .f32⟩
  | .hbm, ⟨13, _⟩ => ⟨S4096x2816, .f32⟩
  | .hbm, ⟨14, _⟩ => ⟨S4096x2816, .f32⟩
  | .hbm, ⟨15, _⟩ => ⟨S_, .f32⟩
  | .hbm, ⟨16, _⟩ => ⟨S4096x2816, .f32⟩
  | .hbm, ⟨17, _⟩ => ⟨S4096x2816, .f32⟩
  | .hbm, ⟨18, _⟩ => ⟨S4096x2816, .f32⟩
  | .hbm, ⟨19, _⟩ => ⟨S4096x2816, .f32⟩
  | .hbm, ⟨20, _⟩ => ⟨S4096x2816, .bf16⟩
  | .hbm, ⟨21, _⟩ => ⟨S4096x2816, .bf16⟩
  | .hbm, ⟨22, _⟩ => ⟨S4096x2816, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩

abbrev nD : Nat := 1
abbrev τ : Topo := Topo.v7x

variable {F : FTy → Type} [FloatOps F]
-- ==== Kernel4.lean ====
abbrev S4096x1024 : Shape := ⟨2, ![4096, 1024]⟩
abbrev S4096x1536 : Shape := ⟨2, ![4096, 1536]⟩
abbrev S4096x128 : Shape := ⟨2, ![4096, 128]⟩
abbrev S4624x1024 : Shape := ⟨2, ![4624, 1024]⟩
abbrev S16x1024 : Shape := ⟨2, ![16, 1024]⟩
abbrev S_ : Shape := ⟨0, ![]⟩
abbrev S128x1024 : Shape := ⟨2, ![128, 1024]⟩
abbrev S512x1024 : Shape := ⟨2, ![512, 1024]⟩
abbrev S512x1536 : Shape := ⟨2, ![512, 1536]⟩
abbrev S512x128 : Shape := ⟨2, ![512, 128]⟩
abbrev S1024x1024 : Shape := ⟨2, ![1024, 1024]⟩
abbrev S1536x1024 : Shape := ⟨2, ![1536, 1024]⟩

abbrev nBuf : Space → Nat
  | .hbm => 11
  | .vmem => 14
  | .smem => 0
  | _ => 0

abbrev bufTy : (tb : Table) → Fin (tcTables nBuf tb) → BufTy
  | .hbm, ⟨0, _⟩ => ⟨S4096x1024, .bf16⟩
  | .hbm, ⟨1, _⟩ => ⟨S4096x1536, .bf16⟩
  | .hbm, ⟨2, _⟩ => ⟨S4096x128, .f32⟩
  | .hbm, ⟨3, _⟩ => ⟨S4096x1024, .bf16⟩
  | .hbm, ⟨4, _⟩ => ⟨S4096x1024, .bf16⟩
  | .hbm, ⟨5, _⟩ => ⟨S4624x1024, .bf16⟩
  | .hbm, ⟨6, _⟩ => ⟨S16x1024, .bf16⟩
  | .hbm, ⟨7, _⟩ => ⟨S_, .i32⟩
  | .hbm, ⟨8, _⟩ => ⟨S_, .bf16⟩
  | .hbm, ⟨9, _⟩ => ⟨S128x1024, .bf16⟩
  | .hbm, ⟨10, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1536, .bf16⟩
  | .local _ .vmem, ⟨3, _⟩ => ⟨S512x1536, .bf16⟩
  | .local _ .vmem, ⟨4, _⟩ => ⟨S512x128, .f32⟩
  | .local _ .vmem, ⟨5, _⟩ => ⟨S512x128, .f32⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S4624x1024, .bf16⟩
  | .local _ .vmem, ⟨11, _⟩ => ⟨S128x1024, .bf16⟩
  | .local _ .vmem, ⟨12, _⟩ => ⟨S512x1024, .bf16⟩
  | .local _ .vmem, ⟨13, _⟩ => ⟨S512x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_v1 : Ref sig .tc := ⟨.hbm, 9, rfl⟩
abbrev main_v2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4624x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference4Ideal.lean ====
abbrev S4096x1024 : Shape := ⟨2, ![4096, 1024]⟩
abbrev S4096x1536 : Shape := ⟨2, ![4096, 1536]⟩
abbrev S4096x128 : Shape := ⟨2, ![4096, 128]⟩
abbrev S4624x1024 : Shape := ⟨2, ![4624, 1024]⟩
abbrev S4096x16 : Shape := ⟨2, ![4096, 16]⟩
abbrev S4096x4624 : Shape := ⟨2, ![4096, 4624]⟩

abbrev nBuf : Space → Nat
  | .hbm => 15
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1536, .bf16⟩
  | .hbm, ⟨2, _⟩ => ⟨S4096x128, .f32⟩
  | .hbm, ⟨3, _⟩ => ⟨S4096x1024, .bf16⟩
  | .hbm, ⟨4, _⟩ => ⟨S4096x1024, .bf16⟩
  | .hbm, ⟨5, _⟩ => ⟨S4624x1024, .bf16⟩
  | .hbm, ⟨6, _⟩ => ⟨S4096x16, .f32⟩
  | .hbm, ⟨7, _⟩ => ⟨S4096x1024, .f32⟩
  | .hbm, ⟨8, _⟩ => ⟨S4096x1536, .f32⟩
  | .hbm, ⟨9, _⟩ => ⟨S4096x1024, .f32⟩
  | .hbm, ⟨10, _⟩ => ⟨S4096x1024, .f32⟩
  | .hbm, ⟨11, _⟩ => ⟨S4096x4624, .f32⟩
  | .hbm, ⟨12, _⟩ => ⟨S4624x1024, .f32⟩
  | .hbm, ⟨13, _⟩ => ⟨S4096x1024, .f32⟩
  | .hbm, ⟨14, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]
-- ==== Kernel5.lean ====
abbrev S4096x1024 : Shape := ⟨2, ![4096, 1024]⟩
abbrev S4624x1024 : Shape := ⟨2, ![4624, 1024]⟩
abbrev S16x1024 : Shape := ⟨2, ![16, 1024]⟩
abbrev S_ : Shape := ⟨0, ![]⟩
abbrev S128x1024 : Shape := ⟨2, ![128, 1024]⟩
abbrev S4096x1536 : Shape := ⟨2, ![4096, 1536]⟩
abbrev S4096x128 : Shape := ⟨2, ![4096, 128]⟩
abbrev S512x1024 : Shape := ⟨2, ![512, 1024]⟩
abbrev S512x1536 : Shape := ⟨2, ![512, 1536]⟩
abbrev S512x128 : Shape := ⟨2, ![512, 128]⟩
abbrev S1024x1024 : Shape := ⟨2, ![1024, 1024]⟩
abbrev S1536x1024 : Shape := ⟨2, ![1536, 1024]⟩

abbrev nBuf : Space → Nat
  | .hbm => 11
  | .vmem => 14
  | .smem => 0
  | _ => 0

abbrev bufTy : (tb : Table) → Fin (tcTables nBuf tb) → BufTy
  | .hbm, ⟨0, _⟩ => ⟨S4096x1024, .bf16⟩
  | .hbm, ⟨1, _⟩ => ⟨S4624x1024, .bf16⟩
  | .hbm, ⟨2, _⟩ => ⟨S16x1024, .bf16⟩
  | .hbm, ⟨3, _⟩ => ⟨S_, .i32⟩
  | .hbm, ⟨4, _⟩ => ⟨S_, .bf16⟩
  | .hbm, ⟨5, _⟩ => ⟨S128x1024, .bf16⟩
  | .hbm, ⟨6, _⟩ => ⟨S4096x1024, .bf16⟩
  | .hbm, ⟨7, _⟩ => ⟨S4096x1536, .bf16⟩
  | .hbm, ⟨8, _⟩ => ⟨S4096x128, .f32⟩
  | .hbm, ⟨9, _⟩ => ⟨S4096x1024, .bf16⟩
  | .hbm, ⟨10, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S4624x1024, .bf16⟩
  | .local _ .vmem, ⟨3, _⟩ => ⟨S128x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1536, .bf16⟩
  | .local _ .vmem, ⟨7, _⟩ => ⟨S512x1536, .bf16⟩
  | .local _ .vmem, ⟨8, _⟩ => ⟨S512x128, .f32⟩
  | .local _ .vmem, ⟨9, _⟩ => ⟨S512x128, .f32⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v2_3 : Ref sig .tc := ⟨.hbm, 9, rfl⟩
abbrev main_v2_4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4624x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1536 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference5Ideal.lean ====
abbrev S4096x1024 : Shape := ⟨2, ![4096, 1024]⟩
abbrev S4624x1024 : Shape := ⟨2, ![4624, 1024]⟩
abbrev S1024x4624 : Shape := ⟨2, ![1024, 4624]⟩
abbrev S4096x4624 : Shape := ⟨2, ![4096, 4624]⟩
abbrev S4096x1536 : Shape := ⟨2, ![4096, 1536]⟩
abbrev S4096x16 : Shape := ⟨2, ![4096, 16]⟩
abbrev S4096x2048 : Shape := ⟨2, ![4096, 2048]⟩
abbrev S_ : Shape := ⟨0, ![]⟩
abbrev S4096x128 : Shape := ⟨2, ![4096, 128]⟩

abbrev nBuf : Space → Nat
  | .hbm => 19
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4624x1024, .bf16⟩
  | .hbm, ⟨2, _⟩ => ⟨S4096x1024, .f32⟩
  | .hbm, ⟨3, _⟩ => ⟨S4624x1024, .f32⟩
  | .hbm, ⟨4, _⟩ => ⟨S1024x4624, .f32⟩
  | .hbm, ⟨5, _⟩ => ⟨S4096x4624, .f32⟩
  | .hbm, ⟨6, _⟩ => ⟨S4096x1024, .f32⟩
  | .hbm, ⟨7, _⟩ => ⟨S4096x1536, .f32⟩
  | .hbm, ⟨8, _⟩ => ⟨S4096x16, .f32⟩
  | .hbm, ⟨9, _⟩ => ⟨S4096x2048, .f32⟩
  | .hbm, ⟨10, _⟩ => ⟨S4096x1024, .f32⟩
  | .hbm, ⟨11, _⟩ => ⟨S4096x1024, .f32⟩
  | .hbm, ⟨12, _⟩ => ⟨S4096x1024, .bf16⟩
  | .hbm, ⟨13, _⟩ => ⟨S4096x1536, .bf16⟩
  | .hbm, ⟨14, _⟩ => ⟨S_, .i32⟩
  | .hbm, ⟨15, _⟩ => ⟨S_, .f32⟩
  | .hbm, ⟨16, _⟩ => ⟨S4096x128, .f32⟩
  | .hbm, ⟨17, _⟩ => ⟨S4096x1024, .bf16⟩
  | .hbm, ⟨18, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_c : Ref sig .tc := ⟨.hbm, 14, rfl⟩
abbrev main_call0_v0 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩

abbrev nD : Nat := 1
abbrev τ : Topo := Topo.v7x

variable {F : FTy → Type} [FloatOps F]
-- ==== Kernel6.lean ====
abbrev S4096x1024 : Shape := ⟨2, ![4096, 1024]⟩
abbrev S4096x128 : Shape := ⟨2, ![4096, 128]⟩
abbrev S1024x1024 : Shape := ⟨2, ![1024, 1024]⟩
abbrev S128x1024 : Shape := ⟨2, ![128, 1024]⟩
abbrev S1024x128 : Shape := ⟨2, ![1024, 128]⟩

abbrev nBuf : Space → Nat
  | .hbm => 9
  | .vmem => 18
  | .smem => 0
  | _ => 0

abbrev bufTy : (tb : Table) → Fin (tcTables nBuf tb) → BufTy
  | .hbm, ⟨0, _⟩ => ⟨S4096x1024, .bf16⟩
  | .hbm, ⟨1, _⟩ => ⟨S4096x128, .f32⟩
  | .hbm, ⟨2, _⟩ => ⟨S4096x1024, .bf16⟩
  | .hbm, ⟨3, _⟩ => ⟨S4096x1024, .bf16⟩
  | .hbm, ⟨4, _⟩ => ⟨S4096x1024, .bf16⟩
  | .hbm, ⟨5, _⟩ => ⟨S1024x1024, .bf16⟩
  | .hbm, ⟨6, _⟩ => ⟨S128x1024, .bf16⟩
  | .hbm, ⟨7, _⟩ => ⟨S1024x1024, .bf16⟩
  | .hbm, ⟨8, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x128, .f32⟩
  | .local _ .vmem, ⟨3, _⟩ => ⟨S1024x128, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S128x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1024x1024, .f32⟩
  | .local _ .vmem, ⟨15, _⟩ => ⟨S128x1024, .f32⟩
  | .local _ .vmem, ⟨16, _⟩ => ⟨S1024x1024, .f32⟩
  | .local _ .vmem, ⟨17, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![4], ![false]⟩

def k0_cond3 (i : grid0.Coords) : BitVec 1 :=
  let arg0 : BitVec 32 := BitVec.ofNat 32 (i 0).val
  let c3_i32 : BitVec 32 := 3#32
  let v9 : BitVec 1 := Scalar.cmpi .eq arg0 c3_i32
  let v10 : BitVec 32 := Scalar.extui v9
  let c0_i32_6 : BitVec 32 := 0#32
  let v11 : BitVec 1 := Scalar.cmpi .ne v10 c0_i32_6
  v11

def k0_cond6 (i : grid0.Coords) : BitVec 1 :=
  let arg0 : BitVec 32 := BitVec.ofNat 32 (i 0).val
  let c3_i32_14 : BitVec 32 := 3#32
  let v21 : BitVec 1 := Scalar.cmpi .eq arg0 c3_i32_14
  let v22 : BitVec 32 := Scalar.extui v21
  let c0_i32_15 : BitVec 32 := 0#32
  let v23 : BitVec 1 := Scalar.cmpi .ne v22 c0_i32_15
  v23

def k0_cond9 (i : grid0.Coords) : BitVec 1 :=
  let arg0 : BitVec 32 := BitVec.ofNat 32 (i 0).val
  let c3_i32_23 : BitVec 32 := 3#32
  let v32 : BitVec 1 := Scalar.cmpi .eq arg0 c3_i32_23
  let v33 : BitVec 32 := Scalar.extui v32
  let c0_i32_24 : BitVec 32 := 0#32
  let v34 : BitVec 1 := Scalar.cmpi .ne v33 c0_i32_24
  v34

def k0_cond12 (i : grid0.Coords) : BitVec 1 :=
  let arg0 : BitVec 32 := BitVec.ofNat 32 (i 0).val
  let c3_i32_32 : BitVec 32 := 3#32
  let v43 : BitVec 1 := Scalar.cmpi .eq arg0 c3_i32_32
  let v44 : BitVec 32 := Scalar.extui v43
  let c0_i32_33 : BitVec 32 := 0#32
  let v45 : BitVec 1 := Scalar.cmpi .ne v44 c0_i32_33
  v45

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference6Ideal.lean ====
abbrev S4096x1024 : Shape := ⟨2, ![4096, 1024]⟩
abbrev S4096x128 : Shape := ⟨2, ![4096, 128]⟩
abbrev S1024x4096 : Shape := ⟨2, ![1024, 4096]⟩
abbrev S1024x1024 : Shape := ⟨2, ![1024, 1024]⟩
abbrev S128x4096 : Shape := ⟨2, ![128, 4096]⟩
abbrev S128x1024 : Shape := ⟨2, ![128, 1024]⟩

abbrev nBuf : Space → Nat
  | .hbm => 21
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x128, .f32⟩
  | .hbm, ⟨2, _⟩ => ⟨S4096x1024, .bf16⟩
  | .hbm, ⟨3, _⟩ => ⟨S4096x1024, .bf16⟩
  | .hbm, ⟨4, _⟩ => ⟨S4096x1024, .bf16⟩
  | .hbm, ⟨5, _⟩ => ⟨S4096x1024, .f32⟩
  | .hbm, ⟨6, _⟩ => ⟨S4096x1024, .f32⟩
  | .hbm, ⟨7, _⟩ => ⟨S1024x4096, .f32⟩
  | .hbm, ⟨8, _⟩ => ⟨S1024x1024, .f32⟩
  | .hbm, ⟨9, _⟩ => ⟨S1024x1024, .bf16⟩
  | .hbm, ⟨10, _⟩ => ⟨S128x4096, .f32⟩
  | .hbm, ⟨11, _⟩ => ⟨S128x1024, .f32⟩
  | .hbm, ⟨12, _⟩ => ⟨S128x1024, .bf16⟩
  | .hbm, ⟨13, _⟩ => ⟨S4096x1024, .f32⟩
  | .hbm, ⟨14, _⟩ => ⟨S1024x4096, .f32⟩
  | .hbm, ⟨15, _⟩ => ⟨S1024x1024, .f32⟩
  | .hbm, ⟨16, _⟩ => ⟨S1024x1024, .bf16⟩
  | .hbm, ⟨17, _⟩ => ⟨S4096x1024, .f32⟩
  | .hbm, ⟨18, _⟩ => ⟨S1024x4096, .f32⟩
  | .hbm, ⟨19, _⟩ => ⟨S1024x1024, .f32⟩
  | .hbm, ⟨20, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]
-- ==== Kernel7.lean ====
abbrev S4096x2816 : Shape := ⟨2, ![4096, 2816]⟩
abbrev S4096x1024 : Shape := ⟨2, ![4096, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S4096x2816 : Shape := ⟨2, ![4096, 2816]⟩
abbrev S4096x1024 : Shape := ⟨2, ![4096, 1024]⟩
abbrev S2816x4096 : Shape := ⟨2, ![2816, 4096]⟩
abbrev S2816x1024 : Shape := ⟨2, ![2816, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S4096x2816, .f32⟩
  | .hbm, ⟨3, _⟩ => ⟨S4096x1024, .f32⟩
  | .hbm, ⟨4, _⟩ => ⟨S2816x4096, .f32⟩
  | .hbm, ⟨5, _⟩ => ⟨S2816x1024, .f32⟩
  | .hbm, ⟨6, _⟩ => ⟨S2816x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel8.lean ====
abbrev S4096x1024 : Shape := ⟨2, ![4096, 1024]⟩
abbrev S2816x1024 : Shape := ⟨2, ![2816, 1024]⟩
abbrev S4096x2816 : Shape := ⟨2, ![4096, 2816]⟩
abbrev S512x1024 : Shape := ⟨2, ![512, 1024]⟩
abbrev S512x2816 : Shape := ⟨2, ![512, 2816]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S4096x2816, .bf16⟩
  | .local _ .vmem, ⟨0, _⟩ => ⟨S512x1024, .bf16⟩
  | .local _ .vmem, ⟨1, _⟩ => ⟨S512x1024, .bf16⟩
  | .local _ .vmem, ⟨2, _⟩ => ⟨S2816x1024, .bf16⟩
  | .local _ .vmem, ⟨3, _⟩ => ⟨S512x2816, .bf16⟩
  | .local _ .vmem, ⟨4, _⟩ => ⟨S512x2816, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S4096x1024 : Shape := ⟨2, ![4096, 1024]⟩
abbrev S2816x1024 : Shape := ⟨2, ![2816, 1024]⟩
abbrev S1024x2816 : Shape := ⟨2, ![1024, 2816]⟩
abbrev S4096x2816 : Shape := ⟨2, ![4096, 2816]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S4096x1024, .f32⟩
  | .hbm, ⟨3, _⟩ => ⟨S2816x1024, .f32⟩
  | .hbm, ⟨4, _⟩ => ⟨S1024x2816, .f32⟩
  | .hbm, ⟨5, _⟩ => ⟨S4096x2816, .f32⟩
  | .hbm, ⟨6, _⟩ => ⟨S4096x2816, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel9.lean ====
abbrev S4096x2816 : Shape := ⟨2, ![4096, 2816]⟩
abbrev S2816x1024 : Shape := ⟨2, ![2816, 1024]⟩
abbrev S4096x1024 : Shape := ⟨2, ![4096, 1024]⟩
abbrev S512x2816 : Shape := ⟨2, ![512, 2816]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .bf16⟩
  | .hbm, ⟨3, _⟩ => ⟨S4096x1024, .bf16⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference9Ideal.lean ====
abbrev S4096x2816 : Shape := ⟨2, ![4096, 2816]⟩
abbrev S2816x1024 : Shape := ⟨2, ![2816, 1024]⟩
abbrev S4096x1024 : Shape := ⟨2, ![4096, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .bf16⟩
  | .hbm, ⟨3, _⟩ => ⟨S4096x2816, .f32⟩
  | .hbm, ⟨4, _⟩ => ⟨S2816x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel10.lean ====
abbrev S4096x1024 : Shape := ⟨2, ![4096, 1024]⟩
abbrev S2048x1024 : Shape := ⟨2, ![2048, 1024]⟩
abbrev S512x1024 : Shape := ⟨2, ![512, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S2048x1024, .bf16⟩
  | .hbm, ⟨2, _⟩ => ⟨S4096x1024, .bf16⟩
  | .hbm, ⟨3, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S2048x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference10Ideal.lean ====
abbrev S4096x1024 : Shape := ⟨2, ![4096, 1024]⟩
abbrev S2048x1024 : Shape := ⟨2, ![2048, 1024]⟩
abbrev S1024x2048 : Shape := ⟨2, ![1024, 2048]⟩
abbrev S4096x2048 : Shape := ⟨2, ![4096, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2048x1024, .bf16⟩
  | .hbm, ⟨2, _⟩ => ⟨S4096x1024, .f32⟩
  | .hbm, ⟨3, _⟩ => ⟨S2048x1024, .f32⟩
  | .hbm, ⟨4, _⟩ => ⟨S1024x2048, .f32⟩
  | .hbm, ⟨5, _⟩ => ⟨S4096x2048, .f32⟩
  | .hbm, ⟨6, _⟩ => ⟨S4096x1024, .f32⟩
  | .hbm, ⟨7, _⟩ => ⟨S4096x1024, .f32⟩
  | .hbm, ⟨8, _⟩ => ⟨S4096x1024, .bf16⟩
  | .hbm, ⟨9, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩

abbrev nD : Nat := 1
abbrev τ : Topo := Topo.v7x

variable {F : FTy → Type} [FloatOps F]
-- ==== Kernel11.lean ====
abbrev S4096x1024 : Shape := ⟨2, ![4096, 1024]⟩
abbrev S1024x1024 : Shape := ⟨2, ![1024, 1024]⟩

abbrev nBuf : Space → Nat
  | .hbm => 5
  | .vmem => 10
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .bf16⟩
  | .hbm, ⟨3, _⟩ => ⟨S1024x1024, .bf16⟩
  | .hbm, ⟨4, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | .local _ .vmem, ⟨9, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7

abbrev nD : Nat := 1
abbrev τ : Topo := Topo.v7x

variable {F : FTy → Type} [FloatOps F]

abbrev grid0 : Pipeline.Grid := ⟨1, ![4], ![false]⟩

def k0_cond3 (i : grid0.Coords) : BitVec 1 :=
  let arg0 : BitVec 32 := BitVec.ofNat 32 (i 0).val
  let c3_i32 : BitVec 32 := 3#32
  let v9 : BitVec 1 := Scalar.cmpi .eq arg0 c3_i32
  let v10 : BitVec 32 := Scalar.extui v9
  let c0_i32_6 : BitVec 32 := 0#32
  let v11 : BitVec 1 := Scalar.cmpi .ne v10 c0_i32_6
  v11

def k0_cond6 (i : grid0.Coords) : BitVec 1 :=
  let arg0 : BitVec 32 := BitVec.ofNat 32 (i 0).val
  let c3_i32_14 : BitVec 32 := 3#32
  let v20 : BitVec 1 := Scalar.cmpi .eq arg0 c3_i32_14
  let v21 : BitVec 32 := Scalar.extui v20
  let c0_i32_15 : BitVec 32 := 0#32
  let v22 : BitVec 1 := Scalar.cmpi .ne v21 c0_i32_15
  v22

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Reference11Ideal.lean ====
abbrev S4096x1024 : Shape := ⟨2, ![4096, 1024]⟩
abbrev S1024x4096 : Shape := ⟨2, ![1024, 4096]⟩
abbrev S1024x1024 : Shape := ⟨2, ![1024, 1024]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .bf16⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S1024x4096, .f32⟩
  | .hbm, ⟨7, _⟩ => ⟨S1024x1024, .f32⟩
  | .hbm, ⟨8, _⟩ => ⟨S1024x1024, .bf16⟩
  | .hbm, ⟨9, _⟩ => ⟨S1024x4096, .f32⟩
  | .hbm, ⟨10, _⟩ => ⟨S1024x1024, .f32⟩
  | .hbm, ⟨11, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel12.lean ====
abbrev S4096x1536 : Shape := ⟨2, ![4096, 1536]⟩
abbrev S4096x1024 : Shape := ⟨2, ![4096, 1024]⟩
abbrev S1536x1024 : Shape := ⟨2, ![1536, 1024]⟩
abbrev S2048x512 : Shape := ⟨2, ![2048, 512]⟩
abbrev S2048x1024 : Shape := ⟨2, ![2048, 1024]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x1536, .bf16⟩
  | .hbm, ⟨1, _⟩ => ⟨S4096x1024, .bf16⟩
  | .hbm, ⟨2, _⟩ => ⟨S1536x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S4096x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 1, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S4096x1536 : Shape := ⟨2, ![4096, 1536]⟩
abbrev S4096x1024 : Shape := ⟨2, ![4096, 1024]⟩
abbrev S1536x4096 : Shape := ⟨2, ![1536, 4096]⟩
abbrev S1536x1024 : Shape := ⟨2, ![1536, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1536, .bf16⟩
  | .hbm, ⟨1, _⟩ => ⟨S4096x1024, .bf16⟩
  | .hbm, ⟨2, _⟩ => ⟨S4096x1536, .f32⟩
  | .hbm, ⟨3, _⟩ => ⟨S4096x1024, .f32⟩
  | .hbm, ⟨4, _⟩ => ⟨S1536x4096, .f32⟩
  | .hbm, ⟨5, _⟩ => ⟨S1536x1024, .f32⟩
  | .hbm, ⟨6, _⟩ => ⟨S1536x1024, .bf16⟩
  | _, _ => ⟨S4096x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel13.lean ====
abbrev S4096x1024 : Shape := ⟨2, ![4096, 1024]⟩
abbrev S2048x1024 : Shape := ⟨2, ![2048, 1024]⟩
abbrev S1x1024 : Shape := ⟨2, ![1, 1024]⟩
abbrev S512x1024 : Shape := ⟨2, ![512, 1024]⟩
abbrev S1024x1024 : Shape := ⟨2, ![1024, 1024]⟩
abbrev S512 : Shape := ⟨1, ![512]⟩
abbrev S512x1 : Shape := ⟨2, ![512, 1]⟩

abbrev nBuf : Space → Nat
  | .hbm => 7
  | .vmem => 12
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S2048x1024, .bf16⟩
  | .hbm, ⟨3, _⟩ => ⟨S4096x1024, .f32⟩
  | .hbm, ⟨4, _⟩ => ⟨S1x1024, .f32⟩
  | .hbm, ⟨5, _⟩ => ⟨S4096x1024, .bf16⟩
  | .hbm, ⟨6, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S2048x1024, .bf16⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference13Ideal.lean ====
abbrev S4096x1024 : Shape := ⟨2, ![4096, 1024]⟩
abbrev S2048x1024 : Shape := ⟨2, ![2048, 1024]⟩
abbrev S1x1024 : Shape := ⟨2, ![1, 1024]⟩
abbrev S4096x2048 : Shape := ⟨2, ![4096, 2048]⟩
abbrev S_ : Shape := ⟨0, ![]⟩
abbrev S4096 : Shape := ⟨1, ![4096]⟩
abbrev S4096x1 : Shape := ⟨2, ![4096, 1]⟩

abbrev nBuf : Space → Nat
  | .hbm => 28
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S2048x1024, .bf16⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S4096x1024, .f32⟩
  | .hbm, ⟨7, _⟩ => ⟨S2048x1024, .f32⟩
  | .hbm, ⟨8, _⟩ => ⟨S4096x2048, .f32⟩
  | .hbm, ⟨9, _⟩ => ⟨S4096x1024, .f32⟩
  | .hbm, ⟨10, _⟩ => ⟨S4096x1024, .f32⟩
  | .hbm, ⟨11, _⟩ => ⟨S4096x1024, .bf16⟩
  | .hbm, ⟨12, _⟩ => ⟨S4096x1024, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]
-- ==== Kernel14.lean ====
abbrev S4096x1024 : Shape := ⟨2, ![4096, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference14Ideal.lean ====
abbrev S4096x1024 : Shape := ⟨2, ![4096, 1024]⟩
abbrev S1024x4096 : Shape := ⟨2, ![1024, 4096]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .f32⟩
  | .hbm, ⟨3, _⟩ => ⟨S4096x1024, .f32⟩
  | .hbm, ⟨4, _⟩ => ⟨S1024x4096, .f32⟩
  | .hbm, ⟨5, _⟩ => ⟨S1024x1024, .f32⟩
  | .hbm, ⟨6, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel15.lean ====
abbrev S4096x1024 : Shape := ⟨2, ![4096, 1024]⟩
abbrev S1024x1024 : Shape := ⟨2, ![1024, 1024]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .bf16⟩
  | .local _ .vmem, ⟨4, _⟩ => ⟨S512x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S4096x1024 : Shape := ⟨2, ![4096, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1024x1024, .f32⟩
  | .hbm, ⟨4, _⟩ => ⟨S1024x1024, .f32⟩
  | .hbm, ⟨5, _⟩ => ⟨S4096x1024, .f32⟩
  | .hbm, ⟨6, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel16.lean ====
abbrev S4096x1024 : Shape := ⟨2, ![4096, 1024]⟩
abbrev S1024x1024 : Shape := ⟨2, ![1024, 1024]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .bf16⟩
  | .local _ .vmem, ⟨4, _⟩ => ⟨S512x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S4096x1024 : Shape := ⟨2, ![4096, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1024x1024, .f32⟩
  | .hbm, ⟨4, _⟩ => ⟨S4096x1024, .f32⟩
  | .hbm, ⟨5, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel17.lean ====
abbrev S4096x1024 : Shape := ⟨2, ![4096, 1024]⟩
abbrev S1024x1024 : Shape := ⟨2, ![1024, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 6
  | .vmem => 10
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .bf16⟩
  | .hbm, ⟨3, _⟩ => ⟨S1x1024, .f32⟩
  | .hbm, ⟨4, _⟩ => ⟨S4096x1024, .bf16⟩
  | .hbm, ⟨5, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .bf16⟩
  | .local _ .vmem, ⟨4, _⟩ => ⟨S512x1024, .bf16⟩
  | .local _ .vmem, ⟨5, _⟩ => ⟨S1x1024, .f32⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference17Ideal.lean ====
abbrev S4096x1024 : Shape := ⟨2, ![4096, 1024]⟩
abbrev S1024x1024 : Shape := ⟨2, ![1024, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 26
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .bf16⟩
  | .hbm, ⟨3, _⟩ => ⟨S1x1024, .f32⟩
  | .hbm, ⟨4, _⟩ => ⟨S4096x1024, .f32⟩
  | .hbm, ⟨5, _⟩ => ⟨S1024x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .bf16⟩
  | .hbm, ⟨10, _⟩ => ⟨S4096x1024, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== Kernel18.lean ====
abbrev S8x384x128 : Shape := ⟨3, ![8, 384, 128]⟩
abbrev S384x128 : Shape := ⟨2, ![384, 128]⟩
abbrev S1x384x128 : Shape := ⟨3, ![1, 384, 128]⟩

abbrev nBuf : Space → Nat
  | .hbm => 2
  | .vmem => 2
  | .smem => 0
  | _ => 0

abbrev bufTy : (tb : Table) → Fin (tcTables nBuf tb) → BufTy
  | .hbm, ⟨0, _⟩ => ⟨S8x384x128, .f32⟩
  | .hbm, ⟨1, _⟩ => ⟨S384x128, .f32⟩
  | .local _ .vmem, ⟨0, _⟩ => ⟨S8x384x128, .f32⟩
  | .local _ .vmem, ⟨1, _⟩ => ⟨S384x128, .f32⟩
  | _, _ => ⟨S8x384x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8x384x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S384x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Reference18Ideal.lean ====
abbrev S8x384x128 : Shape := ⟨3, ![8, 384, 128]⟩
abbrev S_ : Shape := ⟨0, ![]⟩
abbrev S384x128 : Shape := ⟨2, ![384, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x384x128, .f32⟩
  | .hbm, ⟨1, _⟩ => ⟨S_, .f32⟩
  | .hbm, ⟨2, _⟩ => ⟨S384x128, .f32⟩
  | _, _ => ⟨S8x384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel19.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 6
  | .vmem => 10
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S4096x1024, .bf16⟩
  | .hbm, ⟨3, _⟩ => ⟨S1x1024, .f32⟩
  | .hbm, ⟨4, _⟩ => ⟨S4096x1024, .f32⟩
  | .hbm, ⟨5, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference19Ideal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 49
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S4096x1024, .bf16⟩
  | .hbm, ⟨3, _⟩ => ⟨S1x1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S1024, .f32⟩
  | .hbm, ⟨27, _⟩ => ⟨S1x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S4096, .f32⟩
  | .hbm, ⟨33, _⟩ => ⟨S4096x1, .f32⟩
  | .hbm, ⟨34, _⟩ => ⟨S4096x1024, .f32⟩
  | .hbm, ⟨35, _⟩ => ⟨S4096x1024, .f32⟩
  | .hbm, ⟨36, _⟩ => ⟨S4096x1, .f32⟩
  | .hbm, ⟨37, _⟩ => ⟨S_, .f32⟩
  | .hbm, ⟨38, _⟩ => ⟨S4096x1, .f32⟩
  | .hbm, ⟨39, _⟩ => ⟨S4096x1, .f32⟩
  | .hbm, ⟨40, _⟩ => ⟨S_, .f32⟩
  | .hbm, ⟨41, _⟩ => ⟨S4096, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩

abbrev nD : Nat := 1
abbrev τ : Topo := Topo.v7x

variable {F : FTy → Type} [FloatOps F]
-- ==== Kernel20.lean ====
abbrev S4x192 : Shape := ⟨2, ![4, 192]⟩
abbrev S1x4x192 : Shape := ⟨3, ![1, 4, 192]⟩

abbrev nBuf : Space → Nat
  | .hbm => 9
  | .vmem => 8
  | .smem => 0
  | _ => 0

abbrev bufTy : (tb : Table) → Fin (tcTables nBuf tb) → BufTy
  | .hbm, ⟨0, _⟩ => ⟨S4x192, .f32⟩
  | .hbm, ⟨1, _⟩ => ⟨S4x192, .f32⟩
  | .hbm, ⟨2, _⟩ => ⟨S4x192, .f32⟩
  | .hbm, ⟨3, _⟩ => ⟨S4x192, .f32⟩
  | .hbm, ⟨4, _⟩ => ⟨S1x4x192, .f32⟩
  | .hbm, ⟨5, _⟩ => ⟨S4x192, .f32⟩
  | .hbm, ⟨6, _⟩ => ⟨S4x192, .f32⟩
  | .hbm, ⟨7, _⟩ => ⟨S4x192, .f32⟩
  | .hbm, ⟨8, _⟩ => ⟨S4x192, .f32⟩
  | .local _ .vmem, ⟨0, _⟩ => ⟨S1x4x192, .f32⟩
  | .local _ .vmem, ⟨1, _⟩ => ⟨S4x192, .f32⟩
  | .local _ .vmem, ⟨2, _⟩ => ⟨S4x192, .f32⟩
  | .local _ .vmem, ⟨3, _⟩ => ⟨S4x192, .f32⟩
  | .local _ .vmem, ⟨4, _⟩ => ⟨S4x192, .f32⟩
  | .local _ .vmem, ⟨5, _⟩ => ⟨S4x192, .f32⟩
  | .local _ .vmem, ⟨6, _⟩ => ⟨S4x192, .f32⟩
  | .local _ .vmem, ⟨7, _⟩ => ⟨S4x192, .f32⟩
  | _, _ => ⟨S4x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x4x192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x192 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S4x192 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference20Ideal.lean ====
abbrev S4x192 : Shape := ⟨2, ![4, 192]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x192, .f32⟩
  | .hbm, ⟨1, _⟩ => ⟨S4x192, .f32⟩
  | .hbm, ⟨2, _⟩ => ⟨S4x192, .f32⟩
  | .hbm, ⟨3, _⟩ => ⟨S4x192, .f32⟩
  | .hbm, ⟨4, _⟩ => ⟨S_, .f32⟩
  | .hbm, ⟨5, _⟩ => ⟨S4x192, .f32⟩
  | .hbm, ⟨6, _⟩ => ⟨S4x192, .f32⟩
  | .hbm, ⟨7, _⟩ => ⟨S_, .f32⟩
  | .hbm, ⟨8, _⟩ => ⟨S4x192, .f32⟩
  | .hbm, ⟨9, _⟩ => ⟨S4x192, .f32⟩
  | .hbm, ⟨10, _⟩ => ⟨S4x192, .f32⟩
  | .hbm, ⟨11, _⟩ => ⟨S_, .f32⟩
  | .hbm, ⟨12, _⟩ => ⟨S4x192, .f32⟩
  | .hbm, ⟨13, _⟩ => ⟨S4x192, .f32⟩
  | .hbm, ⟨14, _⟩ => ⟨S4x192, .f32⟩
  | .hbm, ⟨15, _⟩ => ⟨S_, .f32⟩
  | .hbm, ⟨16, _⟩ => ⟨S4x192, .f32⟩
  | .hbm, ⟨17, _⟩ => ⟨S4x192, .f32⟩
  | .hbm, ⟨18, _⟩ => ⟨S4x192, .f32⟩
  | .hbm, ⟨19, _⟩ => ⟨S_, .f32⟩
  | .hbm, ⟨20, _⟩ => ⟨S4x192, .f32⟩
  | .hbm, ⟨21, _⟩ => ⟨S4x192, .f32⟩
  | .hbm, ⟨22, _⟩ => ⟨S_, .f32⟩
  | .hbm, ⟨23, _⟩ => ⟨S4x192, .f32⟩
  | .hbm, ⟨24, _⟩ => ⟨S4x192, .f32⟩
  | .hbm, ⟨25, _⟩ => ⟨S4x192, .f32⟩
  | .hbm, ⟨26, _⟩ => ⟨S_, .f32⟩
  | .hbm, ⟨27, _⟩ => ⟨S4x192, .f32⟩
  | .hbm, ⟨28, _⟩ => ⟨S4x192, .f32⟩
  | .hbm, ⟨29, _⟩ => ⟨S4x192, .f32⟩
  | .hbm, ⟨30, _⟩ => ⟨S_, .f32⟩
  | .hbm, ⟨31, _⟩ => ⟨S4x192, .f32⟩
  | .hbm, ⟨32, _⟩ => ⟨S4x192, .f32⟩
  | .hbm, ⟨33, _⟩ => ⟨S4x192, .f32⟩
  | .hbm, ⟨34, _⟩ => ⟨S_, .f32⟩
  | .hbm, ⟨35, _⟩ => ⟨S4x192, .f32⟩
  | .hbm, ⟨36, _⟩ => ⟨S4x192, .f32⟩
  | _, _ => ⟨S4x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel21.lean ====
abbrev S31x128 : Shape := ⟨2, ![31, 128]⟩
abbrev S1x31x128 : Shape := ⟨3, ![1, 31, 128]⟩

abbrev nBuf : Space → Nat
  | .hbm => 9
  | .vmem => 8
  | .smem => 0
  | _ => 0

abbrev bufTy : (tb : Table) → Fin (tcTables nBuf tb) → BufTy
  | .hbm, ⟨0, _⟩ => ⟨S31x128, .f32⟩
  | .hbm, ⟨1, _⟩ => ⟨S31x128, .f32⟩
  | .hbm, ⟨2, _⟩ => ⟨S31x128, .f32⟩
  | .hbm, ⟨3, _⟩ => ⟨S31x128, .f32⟩
  | .hbm, ⟨4, _⟩ => ⟨S1x31x128, .f32⟩
  | .hbm, ⟨5, _⟩ => ⟨S31x128, .f32⟩
  | .hbm, ⟨6, _⟩ => ⟨S31x128, .f32⟩
  | .hbm, ⟨7, _⟩ => ⟨S31x128, .f32⟩
  | .hbm, ⟨8, _⟩ => ⟨S31x128, .f32⟩
  | .local _ .vmem, ⟨0, _⟩ => ⟨S1x31x128, .f32⟩
  | .local _ .vmem, ⟨1, _⟩ => ⟨S31x128, .f32⟩
  | .local _ .vmem, ⟨2, _⟩ => ⟨S31x128, .f32⟩
  | .local _ .vmem, ⟨3, _⟩ => ⟨S31x128, .f32⟩
  | .local _ .vmem, ⟨4, _⟩ => ⟨S31x128, .f32⟩
  | .local _ .vmem, ⟨5, _⟩ => ⟨S31x128, .f32⟩
  | .local _ .vmem, ⟨6, _⟩ => ⟨S31x128, .f32⟩
  | .local _ .vmem, ⟨7, _⟩ => ⟨S31x128, .f32⟩
  | _, _ => ⟨S31x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x31x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S31x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S31x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S31x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S31x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S31x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S31x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S31x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference21Ideal.lean ====
abbrev S31x128 : Shape := ⟨2, ![31, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S31x128, .f32⟩
  | .hbm, ⟨1, _⟩ => ⟨S31x128, .f32⟩
  | .hbm, ⟨2, _⟩ => ⟨S31x128, .f32⟩
  | .hbm, ⟨3, _⟩ => ⟨S31x128, .f32⟩
  | .hbm, ⟨4, _⟩ => ⟨S_, .f32⟩
  | .hbm, ⟨5, _⟩ => ⟨S31x128, .f32⟩
  | .hbm, ⟨6, _⟩ => ⟨S31x128, .f32⟩
  | .hbm, ⟨7, _⟩ => ⟨S_, .f32⟩
  | .hbm, ⟨8, _⟩ => ⟨S31x128, .f32⟩
  | .hbm, ⟨9, _⟩ => ⟨S31x128, .f32⟩
  | .hbm, ⟨10, _⟩ => ⟨S31x128, .f32⟩
  | .hbm, ⟨11, _⟩ => ⟨S_, .f32⟩
  | .hbm, ⟨12, _⟩ => ⟨S31x128, .f32⟩
  | .hbm, ⟨13, _⟩ => ⟨S31x128, .f32⟩
  | .hbm, ⟨14, _⟩ => ⟨S31x128, .f32⟩
  | .hbm, ⟨15, _⟩ => ⟨S_, .f32⟩
  | .hbm, ⟨16, _⟩ => ⟨S31x128, .f32⟩
  | .hbm, ⟨17, _⟩ => ⟨S31x128, .f32⟩
  | .hbm, ⟨18, _⟩ => ⟨S31x128, .f32⟩
  | .hbm, ⟨19, _⟩ => ⟨S_, .f32⟩
  | .hbm, ⟨20, _⟩ => ⟨S31x128, .f32⟩
  | .hbm, ⟨21, _⟩ => ⟨S31x128, .f32⟩
  | .hbm, ⟨22, _⟩ => ⟨S_, .f32⟩
  | .hbm, ⟨23, _⟩ => ⟨S31x128, .f32⟩
  | .hbm, ⟨24, _⟩ => ⟨S31x128, .f32⟩
  | .hbm, ⟨25, _⟩ => ⟨S31x128, .f32⟩
  | .hbm, ⟨26, _⟩ => ⟨S_, .f32⟩
  | .hbm, ⟨27, _⟩ => ⟨S31x128, .f32⟩
  | .hbm, ⟨28, _⟩ => ⟨S31x128, .f32⟩
  | .hbm, ⟨29, _⟩ => ⟨S31x128, .f32⟩
  | .hbm, ⟨30, _⟩ => ⟨S_, .f32⟩
  | .hbm, ⟨31, _⟩ => ⟨S31x128, .f32⟩
  | .hbm, ⟨32, _⟩ => ⟨S31x128, .f32⟩
  | .hbm, ⟨33, _⟩ => ⟨S31x128, .f32⟩
  | .hbm, ⟨34, _⟩ => ⟨S_, .f32⟩
  | .hbm, ⟨35, _⟩ => ⟨S31x128, .f32⟩
  | .hbm, ⟨36, _⟩ => ⟨S31x128, .f32⟩
  | _, _ => ⟨S31x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel26.lean ====
abbrev S_ : Shape := ⟨0, ![]⟩
abbrev S8x256x1024 : Shape := ⟨3, ![8, 256, 1024]⟩
abbrev S256x1024 : Shape := ⟨2, ![256, 1024]⟩
abbrev S1 : Shape := ⟨1, ![1]⟩
abbrev S8x64x1024 : Shape := ⟨3, ![8, 64, 1024]⟩
abbrev S1x64x1024 : Shape := ⟨3, ![1, 64, 1024]⟩
abbrev S64x1024 : Shape := ⟨2, ![64, 1024]⟩

abbrev nBuf : Space → Nat
  | .hbm => 10
  | .vmem => 18
  | .smem => 1
  | _ => 0

abbrev bufTy : (tb : Table) → Fin (tcTables nBuf tb) → BufTy
  | .hbm, ⟨0, _⟩ => ⟨S_, .i32⟩
  | .hbm, ⟨1, _⟩ => ⟨S8x256x1024, .bf16⟩
  | .hbm, ⟨2, _⟩ => ⟨S8x256x1024, .bf16⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S256x1024, .f32⟩
  | .hbm, ⟨9, _⟩ => ⟨S256x1024, .f32⟩
  | .local _ .vmem, ⟨0, _⟩ => ⟨S8x64x1024, .bf16⟩
  | .local _ .vmem, ⟨1, _⟩ => ⟨S8x64x1024, .bf16⟩
  | .local _ .vmem, ⟨2, _⟩ => ⟨S1x64x1024, .bf16⟩
  | .local _ .vmem, ⟨3, _⟩ => ⟨S1x64x1024, .bf16⟩
  | .local _ .vmem, ⟨4, _⟩ => ⟨S64x1024, .f32⟩
  | .local _ .vmem, ⟨5, _⟩ => ⟨S64x1024, .f32⟩
  | .local _ .vmem, ⟨6, _⟩ => ⟨S64x1024, .f32⟩
  | .local _ .vmem, ⟨7, _⟩ => ⟨S64x1024, .f32⟩
  | .local _ .vmem, ⟨8, _⟩ => ⟨S64x1024, .f32⟩
  | .local _ .vmem, ⟨9, _⟩ => ⟨S64x1024, .f32⟩
  | .local _ .vmem, ⟨10, _⟩ => ⟨S64x1024, .f32⟩
  | .local _ .vmem, ⟨11, _⟩ => ⟨S64x1024, .f32⟩
  | .local _ .vmem, ⟨12, _⟩ => ⟨S64x1024, .f32⟩
  | .local _ .vmem, ⟨13, _⟩ => ⟨S64x1024, .f32⟩
  | .local _ .vmem, ⟨14, _⟩ => ⟨S64x1024, .f32⟩
  | .local _ .vmem, ⟨15, _⟩ => ⟨S64x1024, .f32⟩
  | .local _ .vmem, ⟨16, _⟩ => ⟨S64x1024, .f32⟩
  | .local _ .vmem, ⟨17, _⟩ => ⟨S64x1024, .f32⟩
  | .local _ .smem, ⟨0, _⟩ => ⟨S1, .i32⟩
  | _, _ => ⟨S_, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 1], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  ![v0.toNat, arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S8x64x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S64x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S64x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference26Ideal.lean ====
abbrev S_ : Shape := ⟨0, ![]⟩
abbrev S8x256x1024 : Shape := ⟨3, ![8, 256, 1024]⟩
abbrev S256x1024 : Shape := ⟨2, ![256, 1024]⟩
abbrev S8 : Shape := ⟨1, ![8]⟩
abbrev S8x1x1 : Shape := ⟨3, ![8, 1, 1]⟩

abbrev nBuf : Space → Nat
  | .hbm => 49
  | .vmem => 0
  | .smem => 0
  | _ => 0

abbrev bufTy : (tb : Table) → Fin (tcTables nBuf tb) → BufTy
  | .hbm, ⟨0, _⟩ => ⟨S_, .i32⟩
  | .hbm, ⟨1, _⟩ => ⟨S8x256x1024, .bf16⟩
  | .hbm, ⟨2, _⟩ => ⟨S8x256x1024, .bf16⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S8, .i32⟩
  | .hbm, ⟨7, _⟩ => ⟨S8, .i32⟩
  | .hbm, ⟨8, _⟩ => ⟨S8, .i1⟩
  | .hbm, ⟨9, _⟩ => ⟨S8x1x1, .i1⟩
  | .hbm, ⟨10, _⟩ => ⟨S8x256x1024, .f32⟩
  | .hbm, ⟨11, _⟩ => ⟨S8x256x1024, .f32⟩
  | .hbm, ⟨12, _⟩ => ⟨S8x256x1024, .i1⟩
  | .hbm, ⟨13, _⟩ => ⟨S8x256x1024, .f32⟩
  | .hbm, ⟨14, _⟩ => ⟨S_, .f32⟩
  | .hbm, ⟨15, _⟩ => ⟨S256x1024, .f32⟩
  | .hbm, ⟨16, _⟩ => ⟨S_, .f32⟩
  | .hbm, ⟨17, _⟩ => ⟨S256x1024, .f32⟩
  | .hbm, ⟨18, _⟩ => ⟨S256x1024, .f32⟩
  | .hbm, ⟨19, _⟩ => ⟨S_, .f32⟩
  | .hbm, ⟨20, _⟩ => ⟨S256x1024, .f32⟩
  | .hbm, ⟨21, _⟩ => ⟨S256x1024, .f32⟩
  | .hbm, ⟨22, _⟩ => ⟨S256x1024, .f32⟩
  | .hbm, ⟨23, _⟩ => ⟨S_, .f32⟩
  | .hbm, ⟨24, _⟩ => ⟨S256x1024, .f32⟩
  | .hbm, ⟨25, _⟩ => ⟨S256x1024, .f32⟩
  | .hbm, ⟨26, _⟩ => ⟨S256x1024, .f32⟩
  | .hbm, ⟨27, _⟩ => ⟨S_, .f32⟩
  | .hbm, ⟨28, _⟩ => ⟨S256x1024, .f32⟩
  | .hbm, ⟨29, _⟩ => ⟨S256x1024, .f32⟩
  | .hbm, ⟨30, _⟩ => ⟨S256x1024, .f32⟩
  | .hbm, ⟨31, _⟩ => ⟨S_, .f32⟩
  | .hbm, ⟨32, _⟩ => ⟨S256x1024, .f32⟩
  | .hbm, ⟨33, _⟩ => ⟨S256x1024, .f32⟩
  | .hbm, ⟨34, _⟩ => ⟨S_, .f32⟩
  | .hbm, ⟨35, _⟩ => ⟨S256x1024, .f32⟩
  | .hbm, ⟨36, _⟩ => ⟨S256x1024, .f32⟩
  | .hbm, ⟨37, _⟩ => ⟨S256x1024, .f32⟩
  | .hbm, ⟨38, _⟩ => ⟨S_, .f32⟩
  | .hbm, ⟨39, _⟩ => ⟨S256x1024, .f32⟩
  | .hbm, ⟨40, _⟩ => ⟨S256x1024, .f32⟩
  | .hbm, ⟨41, _⟩ => ⟨S256x1024, .f32⟩
  | .hbm, ⟨42, _⟩ => ⟨S_, .f32⟩
  | .hbm, ⟨43, _⟩ => ⟨S256x1024, .f32⟩
  | .hbm, ⟨44, _⟩ => ⟨S256x1024, .f32⟩
  | .hbm, ⟨45, _⟩ => ⟨S256x1024, .f32⟩
  | .hbm, ⟨46, _⟩ => ⟨S_, .f32⟩
  | .hbm, ⟨47, _⟩ => ⟨S256x1024, .f32⟩
  | .hbm, ⟨48, _⟩ => ⟨S256x1024, .f32⟩
  | _, _ => ⟨S_, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_call0_v0 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_7 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_8 : Ref sig .tc := ⟨.hbm, 46, rfl⟩
abbrev main_v30 : Ref sig .tc := ⟨.hbm, 47, rfl⟩
abbrev main_v31 : Ref sig .tc := ⟨.hbm, 48, rfl⟩

abbrev nD : Nat := 1
abbrev τ : Topo := Topo.v7x

variable {F : FTy → Type} [FloatOps F]
-- ==== Kernel27.lean ====
abbrev S_ : Shape := ⟨0, ![]⟩
abbrev S8x578x1024 : Shape := ⟨3, ![8, 578, 1024]⟩
abbrev S578x1024 : Shape := ⟨2, ![578, 1024]⟩
abbrev S1 : Shape := ⟨1, ![1]⟩
abbrev S8x578x256 : Shape := ⟨3, ![8, 578, 256]⟩
abbrev S1x578x256 : Shape := ⟨3, ![1, 578, 256]⟩
abbrev S578x256 : Shape := ⟨2, ![578, 256]⟩

abbrev nBuf : Space → Nat
  | .hbm => 10
  | .vmem => 18
  | .smem => 1
  | _ => 0

abbrev bufTy : (tb : Table) → Fin (tcTables nBuf tb) → BufTy
  | .hbm, ⟨0, _⟩ => ⟨S_, .i32⟩
  | .hbm, ⟨1, _⟩ => ⟨S8x578x1024, .bf16⟩
  | .hbm, ⟨2, _⟩ => ⟨S8x578x1024, .bf16⟩
  | .hbm, ⟨3, _⟩ => ⟨S578x1024, .f32⟩
  | .hbm, ⟨4, _⟩ => ⟨S578x1024, .f32⟩
  | .hbm, ⟨5, _⟩ => ⟨S578x1024, .f32⟩
  | .hbm, ⟨6, _⟩ => ⟨S578x1024, .f32⟩
  | .hbm, ⟨7, _⟩ => ⟨S578x1024, .f32⟩
  | .hbm, ⟨8, _⟩ => ⟨S578x1024, .f32⟩
  | .hbm, ⟨9, _⟩ => ⟨S578x1024, .f32⟩
  | .local _ .vmem, ⟨0, _⟩ => ⟨S8x578x256, .bf16⟩
  | .local _ .vmem, ⟨1, _⟩ => ⟨S8x578x256, .bf16⟩
  | .local _ .vmem, ⟨2, _⟩ => ⟨S1x578x256, .bf16⟩
  | .local _ .vmem, ⟨3, _⟩ => ⟨S1x578x256, .bf16⟩
  | .local _ .vmem, ⟨4, _⟩ => ⟨S578x256, .f32⟩
  | .local _ .vmem, ⟨5, _⟩ => ⟨S578x256, .f32⟩
  | .local _ .vmem, ⟨6, _⟩ => ⟨S578x256, .f32⟩
  | .local _ .vmem, ⟨7, _⟩ => ⟨S578x256, .f32⟩
  | .local _ .vmem, ⟨8, _⟩ => ⟨S578x256, .f32⟩
  | .local _ .vmem, ⟨9, _⟩ => ⟨S578x256, .f32⟩
  | .local _ .vmem, ⟨10, _⟩ => ⟨S578x256, .f32⟩
  | .local _ .vmem, ⟨11, _⟩ => ⟨S578x256, .f32⟩
  | .local _ .vmem, ⟨12, _⟩ => ⟨S578x256, .f32⟩
  | .local _ .vmem, ⟨13, _⟩ => ⟨S578x256, .f32⟩
  | .local _ .vmem, ⟨14, _⟩ => ⟨S578x256, .f32⟩
  | .local _ .vmem, ⟨15, _⟩ => ⟨S578x256, .f32⟩
  | .local _ .vmem, ⟨16, _⟩ => ⟨S578x256, .f32⟩
  | .local _ .vmem, ⟨17, _⟩ => ⟨S578x256, .f32⟩
  | .local _ .smem, ⟨0, _⟩ => ⟨S1, .i32⟩
  | _, _ => ⟨S_, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![1, 4], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  ![v0.toNat, arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S8x578x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x578x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S578x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S578x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S578x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S578x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S578x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S578x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S578x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference27Ideal.lean ====
abbrev S_ : Shape := ⟨0, ![]⟩
abbrev S8x578x1024 : Shape := ⟨3, ![8, 578, 1024]⟩
abbrev S578x1024 : Shape := ⟨2, ![578, 1024]⟩
abbrev S8 : Shape := ⟨1, ![8]⟩
abbrev S8x1x1 : Shape := ⟨3, ![8, 1, 1]⟩

abbrev nBuf : Space → Nat
  | .hbm => 49
  | .vmem => 0
  | .smem => 0
  | _ => 0

abbrev bufTy : (tb : Table) → Fin (tcTables nBuf tb) → BufTy
  | .hbm, ⟨0, _⟩ => ⟨S_, .i32⟩
  | .hbm, ⟨1, _⟩ => ⟨S8x578x1024, .bf16⟩
  | .hbm, ⟨2, _⟩ => ⟨S8x578x1024, .bf16⟩
  | .hbm, ⟨3, _⟩ => ⟨S578x1024, .f32⟩
  | .hbm, ⟨4, _⟩ => ⟨S578x1024, .f32⟩
  | .hbm, ⟨5, _⟩ => ⟨S578x1024, .f32⟩
  | .hbm, ⟨6, _⟩ => ⟨S8, .i32⟩
  | .hbm, ⟨7, _⟩ => ⟨S8, .i32⟩
  | .hbm, ⟨8, _⟩ => ⟨S8, .i1⟩
  | .hbm, ⟨9, _⟩ => ⟨S8x1x1, .i1⟩
  | .hbm, ⟨10, _⟩ => ⟨S8x578x1024, .f32⟩
  | .hbm, ⟨11, _⟩ => ⟨S8x578x1024, .f32⟩
  | .hbm, ⟨12, _⟩ => ⟨S8x578x1024, .i1⟩
  | .hbm, ⟨13, _⟩ => ⟨S8x578x1024, .f32⟩
  | .hbm, ⟨14, _⟩ => ⟨S_, .f32⟩
  | .hbm, ⟨15, _⟩ => ⟨S578x1024, .f32⟩
  | .hbm, ⟨16, _⟩ => ⟨S_, .f32⟩
  | .hbm, ⟨17, _⟩ => ⟨S578x1024, .f32⟩
  | .hbm, ⟨18, _⟩ => ⟨S578x1024, .f32⟩
  | .hbm, ⟨19, _⟩ => ⟨S_, .f32⟩
  | .hbm, ⟨20, _⟩ => ⟨S578x1024, .f32⟩
  | .hbm, ⟨21, _⟩ => ⟨S578x1024, .f32⟩
  | .hbm, ⟨22, _⟩ => ⟨S578x1024, .f32⟩
  | .hbm, ⟨23, _⟩ => ⟨S_, .f32⟩
  | .hbm, ⟨24, _⟩ => ⟨S578x1024, .f32⟩
  | .hbm, ⟨25, _⟩ => ⟨S578x1024, .f32⟩
  | .hbm, ⟨26, _⟩ => ⟨S578x1024, .f32⟩
  | .hbm, ⟨27, _⟩ => ⟨S_, .f32⟩
  | .hbm, ⟨28, _⟩ => ⟨S578x1024, .f32⟩
  | .hbm, ⟨29, _⟩ => ⟨S578x1024, .f32⟩
  | .hbm, ⟨30, _⟩ => ⟨S578x1024, .f32⟩
  | .hbm, ⟨31, _⟩ => ⟨S_, .f32⟩
  | .hbm, ⟨32, _⟩ => ⟨S578x1024, .f32⟩
  | .hbm, ⟨33, _⟩ => ⟨S578x1024, .f32⟩
  | .hbm, ⟨34, _⟩ => ⟨S_, .f32⟩
  | .hbm, ⟨35, _⟩ => ⟨S578x1024, .f32⟩
  | .hbm, ⟨36, _⟩ => ⟨S578x1024, .f32⟩
  | .hbm, ⟨37, _⟩ => ⟨S578x1024, .f32⟩
  | .hbm, ⟨38, _⟩ => ⟨S_, .f32⟩
  | .hbm, ⟨39, _⟩ => ⟨S578x1024, .f32⟩
  | .hbm, ⟨40, _⟩ => ⟨S578x1024, .f32⟩
  | .hbm, ⟨41, _⟩ => ⟨S578x1024, .f32⟩
  | .hbm, ⟨42, _⟩ => ⟨S_, .f32⟩
  | .hbm, ⟨43, _⟩ => ⟨S578x1024, .f32⟩
  | .hbm, ⟨44, _⟩ => ⟨S578x1024, .f32⟩
  | .hbm, ⟨45, _⟩ => ⟨S578x1024, .f32⟩
  | .hbm, ⟨46, _⟩ => ⟨S_, .f32⟩
  | .hbm, ⟨47, _⟩ => ⟨S578x1024, .f32⟩
  | .hbm, ⟨48, _⟩ => ⟨S578x1024, .f32⟩
  | _, _ => ⟨S_, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_call0_v0 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_7 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_8 : Ref sig .tc := ⟨.hbm, 46, rfl⟩
abbrev main_v30 : Ref sig .tc := ⟨.hbm, 47, rfl⟩
abbrev main_v31 : Ref sig .tc := ⟨.hbm, 48, rfl⟩

abbrev nD : Nat := 1
abbrev τ : Topo := Topo.v7x

variable {F : FTy → Type} [FloatOps F]
-- ==== Kernel28.lean ====
abbrev S_ : Shape := ⟨0, ![]⟩
abbrev S8x128x1024 : Shape := ⟨3, ![8, 128, 1024]⟩
abbrev S128x1024 : Shape := ⟨2, ![128, 1024]⟩
abbrev S1 : Shape := ⟨1, ![1]⟩
abbrev S8x32x1024 : Shape := ⟨3, ![8, 32, 1024]⟩
abbrev S1x32x1024 : Shape := ⟨3, ![1, 32, 1024]⟩
abbrev S32x1024 : Shape := ⟨2, ![32, 1024]⟩

abbrev nBuf : Space → Nat
  | .hbm => 10
  | .vmem => 18
  | .smem => 1
  | _ => 0

abbrev bufTy : (tb : Table) → Fin (tcTables nBuf tb) → BufTy
  | .hbm, ⟨0, _⟩ => ⟨S_, .i32⟩
  | .hbm, ⟨1, _⟩ => ⟨S8x128x1024, .bf16⟩
  | .hbm, ⟨2, _⟩ => ⟨S8x128x1024, .bf16⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .hbm, ⟨8, _⟩ => ⟨S128x1024, .f32⟩
  | .hbm, ⟨9, _⟩ => ⟨S128x1024, .f32⟩
  | .local _ .vmem, ⟨0, _⟩ => ⟨S8x32x1024, .bf16⟩
  | .local _ .vmem, ⟨1, _⟩ => ⟨S8x32x1024, .bf16⟩
  | .local _ .vmem, ⟨2, _⟩ => ⟨S1x32x1024, .bf16⟩
  | .local _ .vmem, ⟨3, _⟩ => ⟨S1x32x1024, .bf16⟩
  | .local _ .vmem, ⟨4, _⟩ => ⟨S32x1024, .f32⟩
  | .local _ .vmem, ⟨5, _⟩ => ⟨S32x1024, .f32⟩
  | .local _ .vmem, ⟨6, _⟩ => ⟨S32x1024, .f32⟩
  | .local _ .vmem, ⟨7, _⟩ => ⟨S32x1024, .f32⟩
  | .local _ .vmem, ⟨8, _⟩ => ⟨S32x1024, .f32⟩
  | .local _ .vmem, ⟨9, _⟩ => ⟨S32x1024, .f32⟩
  | .local _ .vmem, ⟨10, _⟩ => ⟨S32x1024, .f32⟩
  | .local _ .vmem, ⟨11, _⟩ => ⟨S32x1024, .f32⟩
  | .local _ .vmem, ⟨12, _⟩ => ⟨S32x1024, .f32⟩
  | .local _ .vmem, ⟨13, _⟩ => ⟨S32x1024, .f32⟩
  | .local _ .vmem, ⟨14, _⟩ => ⟨S32x1024, .f32⟩
  | .local _ .vmem, ⟨15, _⟩ => ⟨S32x1024, .f32⟩
  | .local _ .vmem, ⟨16, _⟩ => ⟨S32x1024, .f32⟩
  | .local _ .vmem, ⟨17, _⟩ => ⟨S32x1024, .f32⟩
  | .local _ .smem, ⟨0, _⟩ => ⟨S1, .i32⟩
  | _, _ => ⟨S_, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 1], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  ![v0.toNat, arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S8x32x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S32x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S32x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S32x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S32x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S32x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S32x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S32x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference28Ideal.lean ====
abbrev S_ : Shape := ⟨0, ![]⟩
abbrev S8x128x1024 : Shape := ⟨3, ![8, 128, 1024]⟩
abbrev S128x1024 : Shape := ⟨2, ![128, 1024]⟩
abbrev S8 : Shape := ⟨1, ![8]⟩
abbrev S8x1x1 : Shape := ⟨3, ![8, 1, 1]⟩

abbrev nBuf : Space → Nat
  | .hbm => 49
  | .vmem => 0
  | .smem => 0
  | _ => 0

abbrev bufTy : (tb : Table) → Fin (tcTables nBuf tb) → BufTy
  | .hbm, ⟨0, _⟩ => ⟨S_, .i32⟩
  | .hbm, ⟨1, _⟩ => ⟨S8x128x1024, .bf16⟩
  | .hbm, ⟨2, _⟩ => ⟨S8x128x1024, .bf16⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S8, .i32⟩
  | .hbm, ⟨7, _⟩ => ⟨S8, .i32⟩
  | .hbm, ⟨8, _⟩ => ⟨S8, .i1⟩
  | .hbm, ⟨9, _⟩ => ⟨S8x1x1, .i1⟩
  | .hbm, ⟨10, _⟩ => ⟨S8x128x1024, .f32⟩
  | .hbm, ⟨11, _⟩ => ⟨S8x128x1024, .f32⟩
  | .hbm, ⟨12, _⟩ => ⟨S8x128x1024, .i1⟩
  | .hbm, ⟨13, _⟩ => ⟨S8x128x1024, .f32⟩
  | .hbm, ⟨14, _⟩ => ⟨S_, .f32⟩
  | .hbm, ⟨15, _⟩ => ⟨S128x1024, .f32⟩
  | .hbm, ⟨16, _⟩ => ⟨S_, .f32⟩
  | .hbm, ⟨17, _⟩ => ⟨S128x1024, .f32⟩
  | .hbm, ⟨18, _⟩ => ⟨S128x1024, .f32⟩
  | .hbm, ⟨19, _⟩ => ⟨S_, .f32⟩
  | .hbm, ⟨20, _⟩ => ⟨S128x1024, .f32⟩
  | .hbm, ⟨21, _⟩ => ⟨S128x1024, .f32⟩
  | .hbm, ⟨22, _⟩ => ⟨S128x1024, .f32⟩
  | .hbm, ⟨23, _⟩ => ⟨S_, .f32⟩
  | .hbm, ⟨24, _⟩ => ⟨S128x1024, .f32⟩
  | .hbm, ⟨25, _⟩ => ⟨S128x1024, .f32⟩
  | .hbm, ⟨26, _⟩ => ⟨S128x1024, .f32⟩
  | .hbm, ⟨27, _⟩ => ⟨S_, .f32⟩
  | .hbm, ⟨28, _⟩ => ⟨S128x1024, .f32⟩
  | .hbm, ⟨29, _⟩ => ⟨S128x1024, .f32⟩
  | .hbm, ⟨30, _⟩ => ⟨S128x1024, .f32⟩
  | .hbm, ⟨31, _⟩ => ⟨S_, .f32⟩
  | .hbm, ⟨32, _⟩ => ⟨S128x1024, .f32⟩
  | .hbm, ⟨33, _⟩ => ⟨S128x1024, .f32⟩
  | .hbm, ⟨34, _⟩ => ⟨S_, .f32⟩
  | .hbm, ⟨35, _⟩ => ⟨S128x1024, .f32⟩
  | .hbm, ⟨36, _⟩ => ⟨S128x1024, .f32⟩
  | .hbm, ⟨37, _⟩ => ⟨S128x1024, .f32⟩
  | .hbm, ⟨38, _⟩ => ⟨S_, .f32⟩
  | .hbm, ⟨39, _⟩ => ⟨S128x1024, .f32⟩
  | .hbm, ⟨40, _⟩ => ⟨S128x1024, .f32⟩
  | .hbm, ⟨41, _⟩ => ⟨S128x1024, .f32⟩
  | .hbm, ⟨42, _⟩ => ⟨S_, .f32⟩
  | .hbm, ⟨43, _⟩ => ⟨S128x1024, .f32⟩
  | .hbm, ⟨44, _⟩ => ⟨S128x1024, .f32⟩
  | .hbm, ⟨45, _⟩ => ⟨S128x1024, .f32⟩
  | .hbm, ⟨46, _⟩ => ⟨S_, .f32⟩
  | .hbm, ⟨47, _⟩ => ⟨S128x1024, .f32⟩
  | .hbm, ⟨48, _⟩ => ⟨S128x1024, .f32⟩
  | _, _ => ⟨S_, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_call0_v0 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_7 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_8 : Ref sig .tc := ⟨.hbm, 46, rfl⟩
abbrev main_v30 : Ref sig .tc := ⟨.hbm, 47, rfl⟩
abbrev main_v31 : Ref sig .tc := ⟨.hbm, 48, rfl⟩

abbrev nD : Nat := 1
abbrev τ : Topo := Topo.v7x

variable {F : FTy → Type} [FloatOps F]
-- ==== Kernel29.lean ====
abbrev S_ : Shape := ⟨0, ![]⟩
abbrev S8x1024x256 : Shape := ⟨3, ![8, 1024, 256]⟩
abbrev S1024x256 : Shape := ⟨2, ![1024, 256]⟩
abbrev S1 : Shape := ⟨1, ![1]⟩
abbrev S8x256x256 : Shape := ⟨3, ![8, 256, 256]⟩
abbrev S1x256x256 : Shape := ⟨3, ![1, 256, 256]⟩
abbrev S256x256 : Shape := ⟨2, ![256, 256]⟩

abbrev nBuf : Space → Nat
  | .hbm => 10
  | .vmem => 18
  | .smem => 1
  | _ => 0

abbrev bufTy : (tb : Table) → Fin (tcTables nBuf tb) → BufTy
  | .hbm, ⟨0, _⟩ => ⟨S_, .i32⟩
  | .hbm, ⟨1, _⟩ => ⟨S8x1024x256, .bf16⟩
  | .hbm, ⟨2, _⟩ => ⟨S8x1024x256, .bf16⟩
  | .hbm, ⟨3, _⟩ => ⟨S1024x256, .f32⟩
  | .hbm, ⟨4, _⟩ => ⟨S1024x256, .f32⟩
  | .hbm, ⟨5, _⟩ => ⟨S1024x256, .f32⟩
  | .hbm, ⟨6, _⟩ => ⟨S1024x256, .f32⟩
  | .hbm, ⟨7, _⟩ => ⟨S1024x256, .f32⟩
  | .hbm, ⟨8, _⟩ => ⟨S1024x256, .f32⟩
  | .hbm, ⟨9, _⟩ => ⟨S1024x256, .f32⟩
  | .local _ .vmem, ⟨0, _⟩ => ⟨S8x256x256, .bf16⟩
  | .local _ .vmem, ⟨1, _⟩ => ⟨S8x256x256, .bf16⟩
  | .local _ .vmem, ⟨2, _⟩ => ⟨S1x256x256, .bf16⟩
  | .local _ .vmem, ⟨3, _⟩ => ⟨S1x256x256, .bf16⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | .local _ .vmem, ⟨14, _⟩ => ⟨S256x256, .f32⟩
  | .local _ .vmem, ⟨15, _⟩ => ⟨S256x256, .f32⟩
  | .local _ .vmem, ⟨16, _⟩ => ⟨S256x256, .f32⟩
  | .local _ .vmem, ⟨17, _⟩ => ⟨S256x256, .f32⟩
  | .local _ .smem, ⟨0, _⟩ => ⟨S1, .i32⟩
  | _, _ => ⟨S_, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 1], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  ![v0.toNat, arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S8x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference29Ideal.lean ====
abbrev S_ : Shape := ⟨0, ![]⟩
abbrev S8x1024x256 : Shape := ⟨3, ![8, 1024, 256]⟩
abbrev S1024x256 : Shape := ⟨2, ![1024, 256]⟩
abbrev S8 : Shape := ⟨1, ![8]⟩
abbrev S8x1x1 : Shape := ⟨3, ![8, 1, 1]⟩

abbrev nBuf : Space → Nat
  | .hbm => 49
  | .vmem => 0
  | .smem => 0
  | _ => 0

abbrev bufTy : (tb : Table) → Fin (tcTables nBuf tb) → BufTy
  | .hbm, ⟨0, _⟩ => ⟨S_, .i32⟩
  | .hbm, ⟨1, _⟩ => ⟨S8x1024x256, .bf16⟩
  | .hbm, ⟨2, _⟩ => ⟨S8x1024x256, .bf16⟩
  | .hbm, ⟨3, _⟩ => ⟨S1024x256, .f32⟩
  | .hbm, ⟨4, _⟩ => ⟨S1024x256, .f32⟩
  | .hbm, ⟨5, _⟩ => ⟨S1024x256, .f32⟩
  | .hbm, ⟨6, _⟩ => ⟨S8, .i32⟩
  | .hbm, ⟨7, _⟩ => ⟨S8, .i32⟩
  | .hbm, ⟨8, _⟩ => ⟨S8, .i1⟩
  | .hbm, ⟨9, _⟩ => ⟨S8x1x1, .i1⟩
  | .hbm, ⟨10, _⟩ => ⟨S8x1024x256, .f32⟩
  | .hbm, ⟨11, _⟩ => ⟨S8x1024x256, .f32⟩
  | .hbm, ⟨12, _⟩ => ⟨S8x1024x256, .i1⟩
  | .hbm, ⟨13, _⟩ => ⟨S8x1024x256, .f32⟩
  | .hbm, ⟨14, _⟩ => ⟨S_, .f32⟩
  | .hbm, ⟨15, _⟩ => ⟨S1024x256, .f32⟩
  | .hbm, ⟨16, _⟩ => ⟨S_, .f32⟩
  | .hbm, ⟨17, _⟩ => ⟨S1024x256, .f32⟩
  | .hbm, ⟨18, _⟩ => ⟨S1024x256, .f32⟩
  | .hbm, ⟨19, _⟩ => ⟨S_, .f32⟩
  | .hbm, ⟨20, _⟩ => ⟨S1024x256, .f32⟩
  | .hbm, ⟨21, _⟩ => ⟨S1024x256, .f32⟩
  | .hbm, ⟨22, _⟩ => ⟨S1024x256, .f32⟩
  | .hbm, ⟨23, _⟩ => ⟨S_, .f32⟩
  | .hbm, ⟨24, _⟩ => ⟨S1024x256, .f32⟩
  | .hbm, ⟨25, _⟩ => ⟨S1024x256, .f32⟩
  | .hbm, ⟨26, _⟩ => ⟨S1024x256, .f32⟩
  | .hbm, ⟨27, _⟩ => ⟨S_, .f32⟩
  | .hbm, ⟨28, _⟩ => ⟨S1024x256, .f32⟩
  | .hbm, ⟨29, _⟩ => ⟨S1024x256, .f32⟩
  | .hbm, ⟨30, _⟩ => ⟨S1024x256, .f32⟩
  | .hbm, ⟨31, _⟩ => ⟨S_, .f32⟩
  | .hbm, ⟨32, _⟩ => ⟨S1024x256, .f32⟩
  | .hbm, ⟨33, _⟩ => ⟨S1024x256, .f32⟩
  | .hbm, ⟨34, _⟩ => ⟨S_, .f32⟩
  | .hbm, ⟨35, _⟩ => ⟨S1024x256, .f32⟩
  | .hbm, ⟨36, _⟩ => ⟨S1024x256, .f32⟩
  | .hbm, ⟨37, _⟩ => ⟨S1024x256, .f32⟩
  | .hbm, ⟨38, _⟩ => ⟨S_, .f32⟩
  | .hbm, ⟨39, _⟩ => ⟨S1024x256, .f32⟩
  | .hbm, ⟨40, _⟩ => ⟨S1024x256, .f32⟩
  | .hbm, ⟨41, _⟩ => ⟨S1024x256, .f32⟩
  | .hbm, ⟨42, _⟩ => ⟨S_, .f32⟩
  | .hbm, ⟨43, _⟩ => ⟨S1024x256, .f32⟩
  | .hbm, ⟨44, _⟩ => ⟨S1024x256, .f32⟩
  | .hbm, ⟨45, _⟩ => ⟨S1024x256, .f32⟩
  | .hbm, ⟨46, _⟩ => ⟨S_, .f32⟩
  | .hbm, ⟨47, _⟩ => ⟨S1024x256, .f32⟩
  | .hbm, ⟨48, _⟩ => ⟨S1024x256, .f32⟩
  | _, _ => ⟨S_, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_call0_v0 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_7 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_8 : Ref sig .tc := ⟨.hbm, 46, rfl⟩
abbrev main_v30 : Ref sig .tc := ⟨.hbm, 47, rfl⟩
abbrev main_v31 : Ref sig .tc := ⟨.hbm, 48, rfl⟩

abbrev nD : Nat := 1
abbrev τ : Topo := Topo.v7x

variable {F : FTy → Type} [FloatOps F]
-- ==== Kernel30.lean ====
abbrev S_ : Shape := ⟨0, ![]⟩
abbrev S8x352x1024 : Shape := ⟨3, ![8, 352, 1024]⟩
abbrev S352x1024 : Shape := ⟨2, ![352, 1024]⟩
abbrev S1 : Shape := ⟨1, ![1]⟩
abbrev S8x32x1024 : Shape := ⟨3, ![8, 32, 1024]⟩
abbrev S1x32x1024 : Shape := ⟨3, ![1, 32, 1024]⟩
abbrev S32x1024 : Shape := ⟨2, ![32, 1024]⟩

abbrev nBuf : Space → Nat
  | .hbm => 10
  | .vmem => 18
  | .smem => 1
  | _ => 0

abbrev bufTy : (tb : Table) → Fin (tcTables nBuf tb) → BufTy
  | .hbm, ⟨0, _⟩ => ⟨S_, .i32⟩
  | .hbm, ⟨1, _⟩ => ⟨S8x352x1024, .bf16⟩
  | .hbm, ⟨2, _⟩ => ⟨S8x352x1024, .bf16⟩
  | .hbm, ⟨3, _⟩ => ⟨S352x1024, .f32⟩
  | .hbm, ⟨4, _⟩ => ⟨S352x1024, .f32⟩
  | .hbm, ⟨5, _⟩ => ⟨S352x1024, .f32⟩
  | .hbm, ⟨6, _⟩ => ⟨S352x1024, .f32⟩
  | .hbm, ⟨7, _⟩ => ⟨S352x1024, .f32⟩
  | .hbm, ⟨8, _⟩ => ⟨S352x1024, .f32⟩
  | .hbm, ⟨9, _⟩ => ⟨S352x1024, .f32⟩
  | .local _ .vmem, ⟨0, _⟩ => ⟨S8x32x1024, .bf16⟩
  | .local _ .vmem, ⟨1, _⟩ => ⟨S8x32x1024, .bf16⟩
  | .local _ .vmem, ⟨2, _⟩ => ⟨S1x32x1024, .bf16⟩
  | .local _ .vmem, ⟨3, _⟩ => ⟨S1x32x1024, .bf16⟩
  | .local _ .vmem, ⟨4, _⟩ => ⟨S32x1024, .f32⟩
  | .local _ .vmem, ⟨5, _⟩ => ⟨S32x1024, .f32⟩
  | .local _ .vmem, ⟨6, _⟩ => ⟨S32x1024, .f32⟩
  | .local _ .vmem, ⟨7, _⟩ => ⟨S32x1024, .f32⟩
  | .local _ .vmem, ⟨8, _⟩ => ⟨S32x1024, .f32⟩
  | .local _ .vmem, ⟨9, _⟩ => ⟨S32x1024, .f32⟩
  | .local _ .vmem, ⟨10, _⟩ => ⟨S32x1024, .f32⟩
  | .local _ .vmem, ⟨11, _⟩ => ⟨S32x1024, .f32⟩
  | .local _ .vmem, ⟨12, _⟩ => ⟨S32x1024, .f32⟩
  | .local _ .vmem, ⟨13, _⟩ => ⟨S32x1024, .f32⟩
  | .local _ .vmem, ⟨14, _⟩ => ⟨S32x1024, .f32⟩
  | .local _ .vmem, ⟨15, _⟩ => ⟨S32x1024, .f32⟩
  | .local _ .vmem, ⟨16, _⟩ => ⟨S32x1024, .f32⟩
  | .local _ .vmem, ⟨17, _⟩ => ⟨S32x1024, .f32⟩
  | .local _ .smem, ⟨0, _⟩ => ⟨S1, .i32⟩
  | _, _ => ⟨S_, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![11, 1], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  ![v0.toNat, arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S8x32x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S32x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S32x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S32x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S32x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S32x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S32x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S32x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference30Ideal.lean ====
abbrev S_ : Shape := ⟨0, ![]⟩
abbrev S8x352x1024 : Shape := ⟨3, ![8, 352, 1024]⟩
abbrev S352x1024 : Shape := ⟨2, ![352, 1024]⟩
abbrev S8 : Shape := ⟨1, ![8]⟩
abbrev S8x1x1 : Shape := ⟨3, ![8, 1, 1]⟩

abbrev nBuf : Space → Nat
  | .hbm => 49
  | .vmem => 0
  | .smem => 0
  | _ => 0

abbrev bufTy : (tb : Table) → Fin (tcTables nBuf tb) → BufTy
  | .hbm, ⟨0, _⟩ => ⟨S_, .i32⟩
  | .hbm, ⟨1, _⟩ => ⟨S8x352x1024, .bf16⟩
  | .hbm, ⟨2, _⟩ => ⟨S8x352x1024, .bf16⟩
  | .hbm, ⟨3, _⟩ => ⟨S352x1024, .f32⟩
  | .hbm, ⟨4, _⟩ => ⟨S352x1024, .f32⟩
  | .hbm, ⟨5, _⟩ => ⟨S352x1024, .f32⟩
  | .hbm, ⟨6, _⟩ => ⟨S8, .i32⟩
  | .hbm, ⟨7, _⟩ => ⟨S8, .i32⟩
  | .hbm, ⟨8, _⟩ => ⟨S8, .i1⟩
  | .hbm, ⟨9, _⟩ => ⟨S8x1x1, .i1⟩
  | .hbm, ⟨10, _⟩ => ⟨S8x352x1024, .f32⟩
  | .hbm, ⟨11, _⟩ => ⟨S8x352x1024, .f32⟩
  | .hbm, ⟨12, _⟩ => ⟨S8x352x1024, .i1⟩
  | .hbm, ⟨13, _⟩ => ⟨S8x352x1024, .f32⟩
  | .hbm, ⟨14, _⟩ => ⟨S_, .f32⟩
  | .hbm, ⟨15, _⟩ => ⟨S352x1024, .f32⟩
  | .hbm, ⟨16, _⟩ => ⟨S_, .f32⟩
  | .hbm, ⟨17, _⟩ => ⟨S352x1024, .f32⟩
  | .hbm, ⟨18, _⟩ => ⟨S352x1024, .f32⟩
  | .hbm, ⟨19, _⟩ => ⟨S_, .f32⟩
  | .hbm, ⟨20, _⟩ => ⟨S352x1024, .f32⟩
  | .hbm, ⟨21, _⟩ => ⟨S352x1024, .f32⟩
  | .hbm, ⟨22, _⟩ => ⟨S352x1024, .f32⟩
  | .hbm, ⟨23, _⟩ => ⟨S_, .f32⟩
  | .hbm, ⟨24, _⟩ => ⟨S352x1024, .f32⟩
  | .hbm, ⟨25, _⟩ => ⟨S352x1024, .f32⟩
  | .hbm, ⟨26, _⟩ => ⟨S352x1024, .f32⟩
  | .hbm, ⟨27, _⟩ => ⟨S_, .f32⟩
  | .hbm, ⟨28, _⟩ => ⟨S352x1024, .f32⟩
  | .hbm, ⟨29, _⟩ => ⟨S352x1024, .f32⟩
  | .hbm, ⟨30, _⟩ => ⟨S352x1024, .f32⟩
  | .hbm, ⟨31, _⟩ => ⟨S_, .f32⟩
  | .hbm, ⟨32, _⟩ => ⟨S352x1024, .f32⟩
  | .hbm, ⟨33, _⟩ => ⟨S352x1024, .f32⟩
  | .hbm, ⟨34, _⟩ => ⟨S_, .f32⟩
  | .hbm, ⟨35, _⟩ => ⟨S352x1024, .f32⟩
  | .hbm, ⟨36, _⟩ => ⟨S352x1024, .f32⟩
  | .hbm, ⟨37, _⟩ => ⟨S352x1024, .f32⟩
  | .hbm, ⟨38, _⟩ => ⟨S_, .f32⟩
  | .hbm, ⟨39, _⟩ => ⟨S352x1024, .f32⟩
  | .hbm, ⟨40, _⟩ => ⟨S352x1024, .f32⟩
  | .hbm, ⟨41, _⟩ => ⟨S352x1024, .f32⟩
  | .hbm, ⟨42, _⟩ => ⟨S_, .f32⟩
  | .hbm, ⟨43, _⟩ => ⟨S352x1024, .f32⟩
  | .hbm, ⟨44, _⟩ => ⟨S352x1024, .f32⟩
  | .hbm, ⟨45, _⟩ => ⟨S352x1024, .f32⟩
  | .hbm, ⟨46, _⟩ => ⟨S_, .f32⟩
  | .hbm, ⟨47, _⟩ => ⟨S352x1024, .f32⟩
  | .hbm, ⟨48, _⟩ => ⟨S352x1024, .f32⟩
  | _, _ => ⟨S_, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_call0_v0 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_7 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_8 : Ref sig .tc := ⟨.hbm, 46, rfl⟩
abbrev main_v30 : Ref sig .tc := ⟨.hbm, 47, rfl⟩
abbrev main_v31 : Ref sig .tc := ⟨.hbm, 48, rfl⟩

abbrev nD : Nat := 1
abbrev τ : Topo := Topo.v7x

variable {F : FTy → Type} [FloatOps F]
-- ==== Kernel34.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 6
  | .vmem => 10
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .bf16⟩
  | .hbm, ⟨3, _⟩ => ⟨S1x1024, .f32⟩
  | .hbm, ⟨4, _⟩ => ⟨S4096x1024, .bf16⟩
  | .hbm, ⟨5, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S1x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference34Ideal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 51
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .bf16⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S1024, .f32⟩
  | .hbm, ⟨28, _⟩ => ⟨S1x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S4096, .f32⟩
  | .hbm, ⟨34, _⟩ => ⟨S4096x1, .f32⟩
  | .hbm, ⟨35, _⟩ => ⟨S4096x1024, .f32⟩
  | .hbm, ⟨36, _⟩ => ⟨S4096x1024, .f32⟩
  | .hbm, ⟨37, _⟩ => ⟨S4096x1, .f32⟩
  | .hbm, ⟨38, _⟩ => ⟨S_, .f32⟩
  | .hbm, ⟨39, _⟩ => ⟨S4096x1, .f32⟩
  | .hbm, ⟨40, _⟩ => ⟨S4096x1, .f32⟩
  | .hbm, ⟨41, _⟩ => ⟨S_, .f32⟩
  | .hbm, ⟨42, _⟩ => ⟨S4096, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_5 : Ref sig .tc := ⟨.hbm, 38, rfl⟩
abbrev main_v28 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩

abbrev nD : Nat := 1
abbrev τ : Topo := Topo.v7x

variable {F : FTy → Type} [FloatOps F]
-- ==== Kernel36.lean ====
abbrev S256x1024 : Shape := ⟨2, ![256, 1024]⟩
abbrev S1x1024 : Shape := ⟨2, ![1, 1024]⟩
abbrev S256 : Shape := ⟨1, ![256]⟩
abbrev S256x1 : Shape := ⟨2, ![256, 1]⟩
abbrev S1024 : Shape := ⟨1, ![1024]⟩

abbrev nBuf : Space → Nat
  | .hbm => 4
  | .vmem => 4
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S1x1024, .f32⟩
  | .hbm, ⟨3, _⟩ => ⟨S1x1024, .f32⟩
  | .local _ .vmem, ⟨0, _⟩ => ⟨S256x1024, .f32⟩
  | .local _ .vmem, ⟨1, _⟩ => ⟨S1x1024, .f32⟩
  | .local _ .vmem, ⟨2, _⟩ => ⟨S256x1024, .f32⟩
  | .local _ .vmem, ⟨3, _⟩ => ⟨S1x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== Reference36Ideal.lean ====
abbrev S256x1024 : Shape := ⟨2, ![256, 1024]⟩
abbrev S1x1024 : Shape := ⟨2, ![1, 1024]⟩
abbrev S_ : Shape := ⟨0, ![]⟩
abbrev S256 : Shape := ⟨1, ![256]⟩
abbrev S256x1 : Shape := ⟨2, ![256, 1]⟩
abbrev S1024 : Shape := ⟨1, ![1024]⟩

abbrev nBuf : Space → Nat
  | .hbm => 22
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S1x1024, .f32⟩
  | .hbm, ⟨3, _⟩ => ⟨S256x1024, .f32⟩
  | .hbm, ⟨4, _⟩ => ⟨S_, .f32⟩
  | .hbm, ⟨5, _⟩ => ⟨S256, .f32⟩
  | .hbm, ⟨6, _⟩ => ⟨S256x1, .f32⟩
  | .hbm, ⟨7, _⟩ => ⟨S_, .f32⟩
  | .hbm, ⟨8, _⟩ => ⟨S256x1, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S256x1, .f32⟩
  | .hbm, ⟨14, _⟩ => ⟨S256x1024, .f32⟩
  | .hbm, ⟨15, _⟩ => ⟨S256x1024, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S_, .f32⟩
  | .hbm, ⟨20, _⟩ => ⟨S1024, .f32⟩
  | .hbm, ⟨21, _⟩ => ⟨S1x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== Kernel37.lean ====
abbrev S256x1024 : Shape := ⟨2, ![256, 1024]⟩
abbrev S1024x2048 : Shape := ⟨2, ![1024, 2048]⟩
abbrev S256x2048 : Shape := ⟨2, ![256, 2048]⟩

abbrev nBuf : Space → Nat
  | .hbm => 3
  | .vmem => 3
  | .smem => 0
  | _ => 0

abbrev bufTy : (tb : Table) → Fin (tcTables nBuf tb) → BufTy
  | .hbm, ⟨0, _⟩ => ⟨S256x1024, .bf16⟩
  | .hbm, ⟨1, _⟩ => ⟨S1024x2048, .bf16⟩
  | .hbm, ⟨2, _⟩ => ⟨S256x2048, .f32⟩
  | .local _ .vmem, ⟨0, _⟩ => ⟨S256x1024, .bf16⟩
  | .local _ .vmem, ⟨1, _⟩ => ⟨S1024x2048, .bf16⟩
  | .local _ .vmem, ⟨2, _⟩ => ⟨S256x2048, .f32⟩
  | _, _ => ⟨S256x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S256x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference37Ideal.lean ====
abbrev S256x1024 : Shape := ⟨2, ![256, 1024]⟩
abbrev S1024x2048 : Shape := ⟨2, ![1024, 2048]⟩
abbrev S256x2048 : Shape := ⟨2, ![256, 2048]⟩

abbrev nBuf : Space → Nat
  | .hbm => 5
  | .vmem => 0
  | .smem => 0
  | _ => 0

abbrev bufTy : (tb : Table) → Fin (tcTables nBuf tb) → BufTy
  | .hbm, ⟨0, _⟩ => ⟨S256x1024, .bf16⟩
  | .hbm, ⟨1, _⟩ => ⟨S1024x2048, .bf16⟩
  | .hbm, ⟨2, _⟩ => ⟨S256x1024, .f32⟩
  | .hbm, ⟨3, _⟩ => ⟨S1024x2048, .f32⟩
  | .hbm, ⟨4, _⟩ => ⟨S256x2048, .f32⟩
  | _, _ => ⟨S256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel38.lean ====
abbrev S256x2048 : Shape := ⟨2, ![256, 2048]⟩
abbrev S1024x2048 : Shape := ⟨2, ![1024, 2048]⟩
abbrev S256x1024 : Shape := ⟨2, ![256, 1024]⟩

abbrev nBuf : Space → Nat
  | .hbm => 3
  | .vmem => 3
  | .smem => 0
  | _ => 0

abbrev bufTy : (tb : Table) → Fin (tcTables nBuf tb) → BufTy
  | .hbm, ⟨0, _⟩ => ⟨S256x2048, .f32⟩
  | .hbm, ⟨1, _⟩ => ⟨S1024x2048, .bf16⟩
  | .hbm, ⟨2, _⟩ => ⟨S256x1024, .f32⟩
  | .local _ .vmem, ⟨0, _⟩ => ⟨S256x2048, .f32⟩
  | .local _ .vmem, ⟨1, _⟩ => ⟨S1024x2048, .bf16⟩
  | .local _ .vmem, ⟨2, _⟩ => ⟨S256x1024, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference38Ideal.lean ====
abbrev S256x2048 : Shape := ⟨2, ![256, 2048]⟩
abbrev S1024x2048 : Shape := ⟨2, ![1024, 2048]⟩
abbrev S2048x1024 : Shape := ⟨2, ![2048, 1024]⟩
abbrev S256x1024 : Shape := ⟨2, ![256, 1024]⟩

abbrev nBuf : Space → Nat
  | .hbm => 5
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S1024x2048, .bf16⟩
  | .hbm, ⟨2, _⟩ => ⟨S1024x2048, .f32⟩
  | .hbm, ⟨3, _⟩ => ⟨S2048x1024, .f32⟩
  | .hbm, ⟨4, _⟩ => ⟨S256x1024, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel39.lean ====
abbrev S256x1024 : Shape := ⟨2, ![256, 1024]⟩
abbrev S256x2048 : Shape := ⟨2, ![256, 2048]⟩
abbrev S8x1024x256 : Shape := ⟨3, ![8, 1024, 256]⟩
abbrev S256x256 : Shape := ⟨2, ![256, 256]⟩
abbrev S1x1024x256 : Shape := ⟨3, ![1, 1024, 256]⟩
abbrev S1024x256 : Shape := ⟨2, ![1024, 256]⟩

abbrev nBuf : Space → Nat
  | .hbm => 3
  | .vmem => 5
  | .smem => 0
  | _ => 0

abbrev bufTy : (tb : Table) → Fin (tcTables nBuf tb) → BufTy
  | .hbm, ⟨0, _⟩ => ⟨S256x1024, .bf16⟩
  | .hbm, ⟨1, _⟩ => ⟨S256x2048, .f32⟩
  | .hbm, ⟨2, _⟩ => ⟨S8x1024x256, .bf16⟩
  | .local _ .vmem, ⟨0, _⟩ => ⟨S256x1024, .bf16⟩
  | .local _ .vmem, ⟨1, _⟩ => ⟨S256x256, .f32⟩
  | .local _ .vmem, ⟨2, _⟩ => ⟨S256x256, .f32⟩
  | .local _ .vmem, ⟨3, _⟩ => ⟨S1x1024x256, .bf16⟩
  | .local _ .vmem, ⟨4, _⟩ => ⟨S1x1024x256, .bf16⟩
  | _, _ => ⟨S256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference39Ideal.lean ====
abbrev S256x1024 : Shape := ⟨2, ![256, 1024]⟩
abbrev S256x2048 : Shape := ⟨2, ![256, 2048]⟩
abbrev S1024x256 : Shape := ⟨2, ![1024, 256]⟩
abbrev S1024x2048 : Shape := ⟨2, ![1024, 2048]⟩
abbrev S1024x8x256 : Shape := ⟨3, ![1024, 8, 256]⟩
abbrev S8x1024x256 : Shape := ⟨3, ![8, 1024, 256]⟩

abbrev nBuf : Space → Nat
  | .hbm => 8
  | .vmem => 0
  | .smem => 0
  | _ => 0

abbrev bufTy : (tb : Table) → Fin (tcTables nBuf tb) → BufTy
  | .hbm, ⟨0, _⟩ => ⟨S256x1024, .bf16⟩
  | .hbm, ⟨1, _⟩ => ⟨S256x2048, .f32⟩
  | .hbm, ⟨2, _⟩ => ⟨S256x1024, .f32⟩
  | .hbm, ⟨3, _⟩ => ⟨S1024x256, .f32⟩
  | .hbm, ⟨4, _⟩ => ⟨S1024x2048, .f32⟩
  | .hbm, ⟨5, _⟩ => ⟨S1024x8x256, .f32⟩
  | .hbm, ⟨6, _⟩ => ⟨S8x1024x256, .f32⟩
  | .hbm, ⟨7, _⟩ => ⟨S8x1024x256, .bf16⟩
  | _, _ => ⟨S256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel40.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 7
  | .vmem => 10
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1x1024, .f32⟩
  | .hbm, ⟨3, _⟩ => ⟨S1x1024, .f32⟩
  | .hbm, ⟨4, _⟩ => ⟨S4096x1024, .bf16⟩
  | .hbm, ⟨5, _⟩ => ⟨S1x1024, .f32⟩
  | .hbm, ⟨6, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S1x1024, .f32⟩
  | .local _ .vmem, ⟨3, _⟩ => ⟨S1x1024, .f32⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S1x1024, .f32⟩
  | .local _ .vmem, ⟨9, _⟩ => ⟨S1x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference40Ideal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 98
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1x1024, .f32⟩
  | .hbm, ⟨3, _⟩ => ⟨S1x1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S_, .f32⟩
  | .hbm, ⟨15, _⟩ => ⟨S4096x1024, .f32⟩
  | .hbm, ⟨16, _⟩ => ⟨S4096x1024, .f32⟩
  | .hbm, ⟨17, _⟩ => ⟨S_, .f32⟩
  | .hbm, ⟨18, _⟩ => ⟨S4096, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S4096x1, .f32⟩
  | .hbm, ⟨29, _⟩ => ⟨S4096x1, .f32⟩
  | .hbm, ⟨30, _⟩ => ⟨S_, .f32⟩
  | .hbm, ⟨31, _⟩ => ⟨S4096x1, .f32⟩
  | .hbm, ⟨32, _⟩ => ⟨S4096x1, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S_, .f32⟩
  | .hbm, ⟨42, _⟩ => ⟨S4096x1024, .f32⟩
  | .hbm, ⟨43, _⟩ => ⟨S4096x1024, .f32⟩
  | .hbm, ⟨44, _⟩ => ⟨S_, .f32⟩
  | .hbm, ⟨45, _⟩ => ⟨S4096x1024, .f32⟩
  | .hbm, ⟨46, _⟩ => ⟨S4096x1024, .f32⟩
  | .hbm, ⟨47, _⟩ => ⟨S_, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S_, .f32⟩
  | .hbm, ⟨58, _⟩ => ⟨S1024, .f32⟩
  | .hbm, ⟨59, _⟩ => ⟨S1x1024, .f32⟩
  | .hbm, ⟨60, _⟩ => ⟨S4096x1024, .f32⟩
  | .hbm, ⟨61, _⟩ => ⟨S_, .f32⟩
  | .hbm, ⟨62, _⟩ => ⟨S1024, .f32⟩
  | .hbm, ⟨63, _⟩ => ⟨S1x1024, .f32⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S_, .f32⟩
  | .hbm, ⟨68, _⟩ => ⟨S4096, .f32⟩
  | .hbm, ⟨69, _⟩ => ⟨S4096x1, .f32⟩
  | .hbm, ⟨70, _⟩ => ⟨S4096x1024, .f32⟩
  | .hbm, ⟨71, _⟩ => ⟨S4096x1024, .f32⟩
  | .hbm, ⟨72, _⟩ => ⟨S4096x1, .f32⟩
  | .hbm, ⟨73, _⟩ => ⟨S4096x1024, .f32⟩
  | .hbm, ⟨74, _⟩ => ⟨S_, .f32⟩
  | .hbm, ⟨75, _⟩ => ⟨S4096, .f32⟩
  | .hbm, ⟨76, _⟩ => ⟨S4096x1, .f32⟩
  | .hbm, ⟨77, _⟩ => ⟨S_, .f32⟩
  | .hbm, ⟨78, _⟩ => ⟨S4096x1, .f32⟩
  | .hbm, ⟨79, _⟩ => ⟨S4096x1, .f32⟩
  | .hbm, ⟨80, _⟩ => ⟨S_, .f32⟩
  | .hbm, ⟨81, _⟩ => ⟨S4096, .f32⟩
  | .hbm, ⟨82, _⟩ => ⟨S4096x1024, .f32⟩
  | .hbm, ⟨83, _⟩ => ⟨S4096x1024, .f32⟩
  | .hbm, ⟨84, _⟩ => ⟨S4096x1024, .f32⟩
  | .hbm, ⟨85, _⟩ => ⟨S_, .f32⟩
  | .hbm, ⟨86, _⟩ => ⟨S4096, .f32⟩
  | .hbm, ⟨87, _⟩ => ⟨S4096x1, .f32⟩
  | .hbm, ⟨88, _⟩ => ⟨S4096x1024, .f32⟩
  | .hbm, ⟨89, _⟩ => ⟨S4096x1, .f32⟩
  | .hbm, ⟨90, _⟩ => ⟨S_, .f32⟩
  | .hbm, ⟨91, _⟩ => ⟨S4096x1, .f32⟩
  | .hbm, ⟨92, _⟩ => ⟨S4096x1, .f32⟩
  | .hbm, ⟨93, _⟩ => ⟨S_, .f32⟩
  | .hbm, ⟨94, _⟩ => ⟨S4096, .f32⟩
  | .hbm, ⟨95, _⟩ => ⟨S4096x1024, .f32⟩
  | .hbm, ⟨96, _⟩ => ⟨S4096x1024, .f32⟩
  | .hbm, ⟨97, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_v28_2 : Ref sig .tc := ⟨.hbm, 46, rfl⟩
abbrev main_call0_cst_1 : Ref sig .tc := ⟨.hbm, 47, rfl⟩
abbrev main_call0_v6 : Ref sig .tc := ⟨.hbm, 48, rfl⟩
abbrev main_call0_v7 : Ref sig .tc := ⟨.hbm, 49, rfl⟩
abbrev main_v28_1 : Ref sig .tc := ⟨.hbm, 50, rfl⟩
abbrev main_v28_0 : Ref sig .tc := ⟨.hbm, 51, rfl⟩
abbrev main_v29 : Ref sig .tc := ⟨.hbm, 52, rfl⟩
abbrev main_call1_v0 : Ref sig .tc := ⟨.hbm, 53, rfl⟩
abbrev main_call1_v1 : Ref sig .tc := ⟨.hbm, 54, rfl⟩
abbrev main_call1_v2 : Ref sig .tc := ⟨.hbm, 55, rfl⟩
abbrev main_v30 : Ref sig .tc := ⟨.hbm, 56, rfl⟩
abbrev main_cst_6 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_cst_7 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_cst_8 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_cst_9 : Ref sig .tc := ⟨.hbm, 74, rfl⟩
abbrev main_v45 : Ref sig .tc := ⟨.hbm, 75, rfl⟩
abbrev main_v46 : Ref sig .tc := ⟨.hbm, 76, rfl⟩
abbrev main_cst_10 : Ref sig .tc := ⟨.hbm, 77, rfl⟩
abbrev main_v47 : Ref sig .tc := ⟨.hbm, 78, rfl⟩
abbrev main_v48 : Ref sig .tc := ⟨.hbm, 79, rfl⟩
abbrev main_cst_11 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_cst_12 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_cst_13 : Ref sig .tc := ⟨.hbm, 90, rfl⟩
abbrev main_v57 : Ref sig .tc := ⟨.hbm, 91, rfl⟩
abbrev main_v58 : Ref sig .tc := ⟨.hbm, 92, rfl⟩
abbrev main_cst_14 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩

abbrev nD : Nat := 1
abbrev τ : Topo := Topo.v7x

variable {F : FTy → Type} [FloatOps F]
-- ==== Kernel41.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference41Ideal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 18
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel42.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 4
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1x1024, .f32⟩
  | .hbm, ⟨2, _⟩ => ⟨S1x1024, .f32⟩
  | .hbm, ⟨3, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S1x1024, .f32⟩
  | .local _ .vmem, ⟨3, _⟩ => ⟨S1x1024, .f32⟩
  | .local _ .vmem, ⟨4, _⟩ => ⟨S512x1024, .bf16⟩
  | .local _ .vmem, ⟨5, _⟩ => ⟨S512x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference42Ideal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 41
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1x1024, .f32⟩
  | .hbm, ⟨2, _⟩ => ⟨S1x1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_3 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v23 : Ref sig .tc := ⟨.hbm, 39, rfl⟩
abbrev main_v24 : Ref sig .tc := ⟨.hbm, 40, rfl⟩

abbrev nD : Nat := 1
abbrev τ : Topo := Topo.v7x

variable {F : FTy → Type} [FloatOps F]
-- ==== Kernel43.lean ====
abbrev S4096x1024 : Shape := ⟨2, ![4096, 1024]⟩
abbrev S1x1024 : Shape := ⟨2, ![1, 1024]⟩
abbrev S8x128 : Shape := ⟨2, ![8, 128]⟩
abbrev S512x1024 : Shape := ⟨2, ![512, 1024]⟩
abbrev S512 : Shape := ⟨1, ![512]⟩
abbrev S512x1 : Shape := ⟨2, ![512, 1]⟩
abbrev S1x512 : Shape := ⟨2, ![1, 512]⟩
abbrev S1 : Shape := ⟨1, ![1]⟩
abbrev S1x1 : Shape := ⟨2, ![1, 1]⟩
abbrev S1024 : Shape := ⟨1, ![1024]⟩

abbrev nBuf : Space → Nat
  | .hbm => 6
  | .vmem => 9
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S1x1024, .f32⟩
  | .hbm, ⟨3, _⟩ => ⟨S4096x1024, .bf16⟩
  | .hbm, ⟨4, _⟩ => ⟨S1x1024, .f32⟩
  | .hbm, ⟨5, _⟩ => ⟨S8x128, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .bf16⟩
  | .local _ .vmem, ⟨6, _⟩ => ⟨S512x1024, .bf16⟩
  | .local _ .vmem, ⟨7, _⟩ => ⟨S1x1024, .f32⟩
  | .local _ .vmem, ⟨8, _⟩ => ⟨S8x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference43Ideal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩
abbrev S8x128 : Shape := ⟨2, ![8, 128]⟩

abbrev nBuf : Space → Nat
  | .hbm => 71
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S1x1024, .f32⟩
  | .hbm, ⟨3, _⟩ => ⟨S4096x1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096, .f32⟩
  | .hbm, ⟨30, _⟩ => ⟨S_, .f32⟩
  | .hbm, ⟨31, _⟩ => ⟨S4096, .f32⟩
  | .hbm, ⟨32, _⟩ => ⟨S4096, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S4096, .f32⟩
  | .hbm, ⟨41, _⟩ => ⟨S_, .f32⟩
  | .hbm, ⟨42, _⟩ => ⟨S4096, .f32⟩
  | .hbm, ⟨43, _⟩ => ⟨S4096, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S_, .f32⟩
  | .hbm, ⟨54, _⟩ => ⟨S4096, .f32⟩
  | .hbm, ⟨55, _⟩ => ⟨S4096x1, .f32⟩
  | .hbm, ⟨56, _⟩ => ⟨S4096x1024, .f32⟩
  | .hbm, ⟨57, _⟩ => ⟨S4096x1024, .f32⟩
  | .hbm, ⟨58, _⟩ => ⟨S4096x1, .f32⟩
  | .hbm, ⟨59, _⟩ => ⟨S_, .f32⟩
  | .hbm, ⟨60, _⟩ => ⟨S4096x1, .f32⟩
  | .hbm, ⟨61, _⟩ => ⟨S4096x1, .f32⟩
  | .hbm, ⟨62, _⟩ => ⟨S_, .f32⟩
  | .hbm, ⟨63, _⟩ => ⟨S4096, .f32⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1024, .bf16⟩
  | .hbm, ⟨70, _⟩ => ⟨S8x128, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_12 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_13 : Ref sig .tc := ⟨.hbm, 59, rfl⟩
abbrev main_v42 : Ref sig .tc := ⟨.hbm, 60, rfl⟩
abbrev main_v43 : Ref sig .tc := ⟨.hbm, 61, rfl⟩
abbrev main_cst_14 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩

abbrev nD : Nat := 1
abbrev τ : Topo := Topo.v7x

variable {F : FTy → Type} [FloatOps F]
-- ==== Kernel44.lean ====
abbrev S256x1024 : Shape := ⟨2, ![256, 1024]⟩
abbrev S1x1024 : Shape := ⟨2, ![1, 1024]⟩
abbrev S256 : Shape := ⟨1, ![256]⟩
abbrev S256x1 : Shape := ⟨2, ![256, 1]⟩

abbrev nBuf : Space → Nat
  | .hbm => 3
  | .vmem => 3
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S256x1024, .bf16⟩
  | .local _ .vmem, ⟨0, _⟩ => ⟨S256x1024, .f32⟩
  | .local _ .vmem, ⟨1, _⟩ => ⟨S1x1024, .f32⟩
  | .local _ .vmem, ⟨2, _⟩ => ⟨S256x1024, .bf16⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== Reference44Ideal.lean ====
abbrev S256x1024 : Shape := ⟨2, ![256, 1024]⟩
abbrev S1x1024 : Shape := ⟨2, ![1, 1024]⟩
abbrev S_ : Shape := ⟨0, ![]⟩
abbrev S256 : Shape := ⟨1, ![256]⟩
abbrev S256x1 : Shape := ⟨2, ![256, 1]⟩

abbrev nBuf : Space → Nat
  | .hbm => 18
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S256x1024, .f32⟩
  | .hbm, ⟨3, _⟩ => ⟨S_, .f32⟩
  | .hbm, ⟨4, _⟩ => ⟨S256, .f32⟩
  | .hbm, ⟨5, _⟩ => ⟨S256x1, .f32⟩
  | .hbm, ⟨6, _⟩ => ⟨S_, .f32⟩
  | .hbm, ⟨7, _⟩ => ⟨S256x1, .f32⟩
  | .hbm, ⟨8, _⟩ => ⟨S256x1, .f32⟩
  | .hbm, ⟨9, _⟩ => ⟨S_, .f32⟩
  | .hbm, ⟨10, _⟩ => ⟨S256x1, .f32⟩
  | .hbm, ⟨11, _⟩ => ⟨S256x1, .f32⟩
  | .hbm, ⟨12, _⟩ => ⟨S256x1, .f32⟩
  | .hbm, ⟨13, _⟩ => ⟨S256x1024, .f32⟩
  | .hbm, ⟨14, _⟩ => ⟨S256x1024, .f32⟩
  | .hbm, ⟨15, _⟩ => ⟨S256x1024, .f32⟩
  | .hbm, ⟨16, _⟩ => ⟨S256x1024, .f32⟩
  | .hbm, ⟨17, _⟩ => ⟨S256x1024, .bf16⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel45.lean ====
abbrev S4096x1024 : Shape := ⟨2, ![4096, 1024]⟩
abbrev S256x1024 : Shape := ⟨2, ![256, 1024]⟩
abbrev S512x1024 : Shape := ⟨2, ![512, 1024]⟩
abbrev S512x256 : Shape := ⟨2, ![512, 256]⟩
abbrev S256x256 : Shape := ⟨2, ![256, 256]⟩
abbrev S512 : Shape := ⟨1, ![512]⟩
abbrev S512x1 : Shape := ⟨2, ![512, 1]⟩

abbrev nBuf : Space → Nat
  | .hbm => 4
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S256x1024, .f32⟩
  | .hbm, ⟨2, _⟩ => ⟨S256x1024, .f32⟩
  | .hbm, ⟨3, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S256x1024, .f32⟩
  | .local _ .vmem, ⟨3, _⟩ => ⟨S256x1024, .f32⟩
  | .local _ .vmem, ⟨4, _⟩ => ⟨S512x1024, .bf16⟩
  | .local _ .vmem, ⟨5, _⟩ => ⟨S512x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference45Ideal.lean ====
abbrev S4096x1024 : Shape := ⟨2, ![4096, 1024]⟩
abbrev S256x1024 : Shape := ⟨2, ![256, 1024]⟩
abbrev S1x4096x4x256 : Shape := ⟨4, ![1, 4096, 4, 256]⟩
abbrev S1x256x4x256 : Shape := ⟨4, ![1, 256, 4, 256]⟩
abbrev S1x4x4096x256 : Shape := ⟨4, ![1, 4, 4096, 256]⟩
abbrev S_ : Shape := ⟨0, ![]⟩
abbrev S1x4x4096 : Shape := ⟨3, ![1, 4, 4096]⟩
abbrev S1x4x4096x1 : Shape := ⟨4, ![1, 4, 4096, 1]⟩
abbrev S1x4x256x4096 : Shape := ⟨4, ![1, 4, 256, 4096]⟩

abbrev nBuf : Space → Nat
  | .hbm => 29
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S256x1024, .f32⟩
  | .hbm, ⟨2, _⟩ => ⟨S256x1024, .f32⟩
  | .hbm, ⟨3, _⟩ => ⟨S4096x1024, .f32⟩
  | .hbm, ⟨4, _⟩ => ⟨S1x4096x4x256, .f32⟩
  | .hbm, ⟨5, _⟩ => ⟨S1x256x4x256, .f32⟩
  | .hbm, ⟨6, _⟩ => ⟨S1x256x4x256, .f32⟩
  | .hbm, ⟨7, _⟩ => ⟨S1x4x4096x256, .f32⟩
  | .hbm, ⟨8, _⟩ => ⟨S_, .f32⟩
  | .hbm, ⟨9, _⟩ => ⟨S1x4x4096x256, .f32⟩
  | .hbm, ⟨10, _⟩ => ⟨S1x4x4096x256, .f32⟩
  | .hbm, ⟨11, _⟩ => ⟨S_, .f32⟩
  | .hbm, ⟨12, _⟩ => ⟨S1x4x4096, .f32⟩
  | .hbm, ⟨13, _⟩ => ⟨S_, .f32⟩
  | .hbm, ⟨14, _⟩ => ⟨S1x4x4096, .f32⟩
  | .hbm, ⟨15, _⟩ => ⟨S1x4x4096, .f32⟩
  | .hbm, ⟨16, _⟩ => ⟨S1x4x4096x1, .f32⟩
  | .hbm, ⟨17, _⟩ => ⟨S1x4x4096x256, .f32⟩
  | .hbm, ⟨18, _⟩ => ⟨S1x4x4096x256, .f32⟩
  | .hbm, ⟨19, _⟩ => ⟨S1x4x4096x256, .f32⟩
  | .hbm, ⟨20, _⟩ => ⟨S_, .f32⟩
  | .hbm, ⟨21, _⟩ => ⟨S1x4x4096, .f32⟩
  | .hbm, ⟨22, _⟩ => ⟨S1x4x4096x1, .f32⟩
  | .hbm, ⟨23, _⟩ => ⟨S1x4x4096x256, .f32⟩
  | .hbm, ⟨24, _⟩ => ⟨S1x4x4096x256, .f32⟩
  | .hbm, ⟨25, _⟩ => ⟨S1x4x256x4096, .f32⟩
  | .hbm, ⟨26, _⟩ => ⟨S1x4096x4x256, .f32⟩
  | .hbm, ⟨27, _⟩ => ⟨S4096x1024, .f32⟩
  | .hbm, ⟨28, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]
-- ==== Proof.AttHead.lean ====
/- The mathematics of one head of the cross attention's backward pass, and the same formulas as the kernel's blocks
   compute them: a block of 512 query rows against the 256 memory rows of one head. -/
module

public import proofs.«01_k».proof.Proof.Gen.KernelIdeal.Skeleton
public import Idealize.ShloMosaic.Lib.Pointwise
public import Idealize.ShloMosaic.PureOps.Ideal.Laws

@[expose] public section

noncomputable section

namespace Cert.Att

open Idealize.ShloMosaic Cert.KernelIdeal Cert.KernelIdeal.Gen

/-! ## One query row against one head -/

/-- The softmax scale the programs print, `256 ^ (-1/2)`. -/
abbrev scale : EReal := Ideal.ofBits .f32 0x3D800000#32

/-- The scaled score of a query row `q` (of one head) against memory row `m`. -/
def score (q : Fin 256 → EReal) (k : Fin 256 → Fin 256 → EReal) (m : Fin 256) : EReal :=
  (∑ d : Fin 256, q d * k m d) * scale

/-- The greatest score of the row. -/
def top (q : Fin 256 → EReal) (k : Fin 256 → Fin 256 → EReal) : EReal :=
  Finset.univ.fold max (Ideal.ofBits .f32 0xFF800000#32) fun m => score q k m

/-- The exponential of the score, taken below the greatest score. -/
def ex (q : Fin 256 → EReal) (k : Fin 256 → Fin 256 → EReal) (m : Fin 256) : EReal :=
  Ideal.exp (score q k m - top q k)

/-- The sum of the exponentials. -/
def norm (q : Fin 256 → EReal) (k : Fin 256 → Fin 256 → EReal) : EReal :=
  ∑ m : Fin 256, ex q k m

/-- The softmax weight of memory row `m`. -/
def weight (q : Fin 256 → EReal) (k : Fin 256 → Fin 256 → EReal) (m : Fin 256) : EReal :=
  Ideal.div (ex q k m) (norm q k)

/-- The cotangent of the weight of memory row `m`: the row's output cotangent against the value row. -/
def dweight (o : Fin 256 → EReal) (v : Fin 256 → Fin 256 → EReal) (m : Fin 256) : EReal :=
  ∑ d : Fin 256, o d * v m d

/-- The cotangent of the unscaled score. -/
def dscore (q o : Fin 256 → EReal) (k v : Fin 256 → Fin 256 → EReal) (m : Fin 256) : EReal :=
  (Ideal.div (dweight o v m) (norm q k)
    + -(∑ n : Fin 256, dweight o v n * Ideal.div 1 (norm q k * norm q k) * ex q k n)) * ex q k m * scale

/-! ## The same over a block of 512 rows -/

/-- The exponentials of one head's block. -/
def exB (x : FVec Ideal S512x256 .f32) (y : FVec Ideal S256x256 .f32) : FVec Ideal S512x256 .f32 :=
  have s := mulf (matmul dot_S512x256_S256x256_S512x256_1_1_0_0_n_n none (truncf .bf16 x bitsLt_bf16_f32)
    (truncf .bf16 y bitsLt_bf16_f32) (constant S512x256 .f32 0x00000000#32)) (broadcast S512x256 (Scalar.ofBits .f32 0x3D800000#32))
  exp (subf s (broadcastTo S512x256 (shapeCast S512x1 (multiReduction .maximumf [1] S512 s 0xFF800000#32
    reduces_S512x256_S512 (.inl rfl) rfl) shapeCasts_S512_S512x1) broadcasts_S512x1_S512x256))

/-- The row sums of one head's block. -/
def normB (e : FVec Ideal S512x256 .f32) : FVec Ideal S512x1 .f32 :=
  shapeCast S512x1 (multiReduction .add [1] S512 e 0x00000000#32 reduces_S512x256_S512 (.inl rfl) rfl) shapeCasts_S512_S512x1

/-- The reciprocals of the squared row sums. -/
def rsqB (z : FVec Ideal S512x1 .f32) : FVec Ideal S512x1 .f32 :=
  divf (broadcast S512x1 (Scalar.ofBits .f32 0x3F800000#32)) (mulf z z)

/-- The cotangents of the weights. -/
def dweightB (o : FVec Ideal S512x256 .f32) (v : FVec Ideal S256x256 .f32) : FVec Ideal S512x256 .f32 :=
  matmul dot_S512x256_S256x256_S512x256_1_1_0_0_n_n none (truncf .bf16 o bitsLt_bf16_f32)
    (truncf .bf16 v bitsLt_bf16_f32) (constant S512x256 .f32 0x00000000#32)

/-- The row sums of the weights' cotangents against the weights' derivative. -/
def innerB (e g : FVec Ideal S512x256 .f32) (r : FVec Ideal S512x1 .f32) : FVec Ideal S512x1 .f32 :=
  shapeCast S512x1 (multiReduction .add [1] S512 (mulf (mulf g (broadcastTo S512x256 r broadcasts_S512x1_S512x256)) e)
    0x00000000#32 reduces_S512x256_S512 (.inl rfl) rfl) shapeCasts_S512_S512x1

/-- The cotangents of the scores. -/
def dscoreB (e g : FVec Ideal S512x256 .f32) (z n : FVec Ideal S512x1 .f32) : FVec Ideal S512x256 .f32 :=
  mulf (mulf (addf (divf g (broadcastTo S512x256 z broadcasts_S512x1_S512x256))
    (broadcastTo S512x256 (shapeCast S512x1 (multiReduction .add [1] S512
      (subf (broadcast S512x1 (Scalar.ofBits .f32 0x00000000#32)) n) 0x00000000#32 reduces_S512x1_S512 (.inl rfl) rfl)
      shapeCasts_S512_S512x1) broadcasts_S512x1_S512x256)) e) (broadcast S512x256 (Scalar.ofBits .f32 0x3D800000#32))

/-- A block's rows against a head's memory rows, contracted over the memory rows. -/
def rowsB (s : FVec Ideal S512x256 .f32) (k : FVec Ideal S256x256 .f32) : FVec Ideal S512x256 .f32 :=
  matmul dot_S512x256_S256x256_S512x256_1_0_0_1_n_n none (truncf .bf16 s bitsLt_bf16_f32)
    (truncf .bf16 k bitsLt_bf16_f32) (constant S512x256 .f32 0x00000000#32)

/-- Two blocks contracted over the block's rows. -/
def colsB (s q : FVec Ideal S512x256 .f32) : FVec Ideal S256x256 .f32 :=
  matmul dot_S512x256_S512x256_S256x256_0_0_1_1_n_n none (truncf .bf16 s bitsLt_bf16_f32)
    (truncf .bf16 q bitsLt_bf16_f32) (constant S256x256 .f32 0x00000000#32)

theorem exB_apply (x : FVec Ideal S512x256 .f32) (y : FVec Ideal S256x256 .f32) (r : Fin 512) (m : Fin 256) :
    exB x y (ix2 r m) = ex (fun d => x (ix2 r d)) (fun m d => y (ix2 m d)) m := by
  pointwise [exB]
  rfl

theorem normB_apply (e : FVec Ideal S512x256 .f32) (r : Fin 512) (u : Fin 1) :
    normB e (ix2 r u) = ∑ m : Fin 256, e (ix2 r m) := by
  pointwise [normB]

theorem rsqB_apply (z : FVec Ideal S512x1 .f32) (r : Fin 512) (u : Fin 1) :
    rsqB z (ix2 r u) = Ideal.div 1 (z (ix2 r u) * z (ix2 r u)) := by
  pointwise [rsqB]

theorem dweightB_apply (o : FVec Ideal S512x256 .f32) (v : FVec Ideal S256x256 .f32) (r : Fin 512) (m : Fin 256) :
    dweightB o v (ix2 r m) = dweight (fun d => o (ix2 r d)) (fun m d => v (ix2 m d)) m := by
  pointwise [dweightB, dweight]

theorem innerB_apply (e g : FVec Ideal S512x256 .f32) (z : FVec Ideal S512x1 .f32) (r : Fin 512) (u : Fin 1) :
    innerB e g z (ix2 r u) = ∑ m : Fin 256, g (ix2 r m) * z (ix2 r 0) * e (ix2 r m) := by
  pointwise [innerB]

theorem dscoreB_apply (e g : FVec Ideal S512x256 .f32) (z n : FVec Ideal S512x1 .f32) (r : Fin 512) (m : Fin 256) :
    dscoreB e g z n (ix2 r m)
      = (Ideal.div (g (ix2 r m)) (z (ix2 r 0)) + -(n (ix2 r 0))) * e (ix2 r m) * scale := by
  pointwise [dscoreB]
  rw [Fin.sum_univ_one, zero_sub]

theorem rowsB_apply (s : FVec Ideal S512x256 .f32) (k : FVec Ideal S256x256 .f32) (r : Fin 512) (d : Fin 256) :
    rowsB s k (ix2 r d) = ∑ m : Fin 256, s (ix2 r m) * k (ix2 m d) := by
  pointwise [rowsB]

theorem colsB_apply (s q : FVec Ideal S512x256 .f32) (m d : Fin 256) :
    colsB s q (ix2 m d) = ∑ r : Fin 512, s (ix2 r m) * q (ix2 r d) := by
  pointwise [colsB]

end Cert.Att

end
-- ==== Proof.AttBlock.lean ====
/- What one grid point of the attention's backward kernel computes from its blocks: the three stored values in terms of
   the four heads' blocks, and each of them at an index. -/
module

public import proofs.«01_k».proof.Proof.AttHead

@[expose] public section

noncomputable section

namespace Cert.Att

open Idealize.ShloMosaic Cert.KernelIdeal Cert.KernelIdeal.Gen

/-- Column `d` of head `h` among the 1024 columns. -/
def col (h : Fin 4) (d : Fin 256) : Fin 1024 := ⟨h.val * 256 + d.val, by omega⟩

/-- Head `h`'s columns of a block of 512 rows. -/
def headQ (h : Fin 4) (x : FVec Ideal S512x1024 .bf16) : FVec Ideal S512x256 .f32 := fun i => x (ix2 (i 0) (col h (i 1)))

/-- Head `h`'s columns of the 256 memory rows. -/
def headK (h : Fin 4) (x : FVec Ideal S256x1024 .f32) : FVec Ideal S256x256 .f32 := fun i => x (ix2 (i 0) (col h (i 1)))

/-- The score cotangents of one head's block from its four operands. -/
def dsB (x : FVec Ideal S512x256 .f32) (y : FVec Ideal S256x256 .f32) (o : FVec Ideal S512x256 .f32)
    (v : FVec Ideal S256x256 .f32) : FVec Ideal S512x256 .f32 :=
  dscoreB (exB x y) (dweightB o v) (normB (exB x y)) (innerB (exB x y) (dweightB o v) (rsqB (normB (exB x y))))

/-- The weights of one head's block. -/
def pB (x : FVec Ideal S512x256 .f32) (y : FVec Ideal S256x256 .f32) : FVec Ideal S512x256 .f32 :=
  divf (exB x y) (broadcastTo S512x256 (normB (exB x y)) broadcasts_S512x1_S512x256)

theorem dsB_apply (x : FVec Ideal S512x256 .f32) (y : FVec Ideal S256x256 .f32) (o : FVec Ideal S512x256 .f32)
    (v : FVec Ideal S256x256 .f32) (r : Fin 512) (m : Fin 256) :
    dsB x y o v (ix2 r m) = dscore (fun d => x (ix2 r d)) (fun d => o (ix2 r d)) (fun m d => y (ix2 m d)) (fun m d => v (ix2 m d)) m := by
  simp only [dsB, dscoreB_apply, exB_apply, dweightB_apply, normB_apply, innerB_apply, rsqB_apply, dscore, norm]

theorem pB_apply (x : FVec Ideal S512x256 .f32) (y : FVec Ideal S256x256 .f32) (r : Fin 512) (m : Fin 256) :
    pB x y (ix2 r m) = weight (fun d => x (ix2 r d)) (fun m d => y (ix2 m d)) m := by
  pointwise [pB]
  rw [exB_apply, normB_apply]
  simp only [exB_apply, weight, norm]

/-- The four heads' blocks of 512 rows laid side by side, each padded with zeros and added up. -/
def sumQ (b3 b2 b1 b0 : FVec Ideal S512x256 .f32) : FVec Ideal S512x1024 .f32 :=
  have z : Ideal .f32 := Scalar.ofBits .f32 0x00000000#32
  addf (addf (addf
    (concatenate S512x1024 1 [⟨S512x768, broadcast S512x768 z⟩, ⟨S512x256, b3⟩] concatenates_S512x768_S512x256_S512x1024_d1)
    (concatenate S512x1024 1 [⟨S512x768, concatenate S512x768 1 [⟨S512x512, broadcast S512x512 z⟩, ⟨S512x256, b2⟩]
      concatenates_S512x512_S512x256_S512x768_d1⟩, ⟨S512x256, broadcast S512x256 z⟩] concatenates_S512x768_S512x256_S512x1024_d1))
    (concatenate S512x1024 1 [⟨S512x512, concatenate S512x512 1 [⟨S512x256, broadcast S512x256 z⟩, ⟨S512x256, b1⟩]
      concatenates_S512x256_S512x256_S512x512_d1⟩, ⟨S512x512, broadcast S512x512 z⟩] concatenates_S512x512_S512x512_S512x1024_d1))
    (concatenate S512x1024 1 [⟨S512x256, b0⟩, ⟨S512x768, broadcast S512x768 z⟩] concatenates_S512x256_S512x768_S512x1024_d1)

/-- The four heads' blocks of 256 rows laid side by side, each padded with zeros and added up. -/
def sumK (b3 b2 b1 b0 : FVec Ideal S256x256 .f32) : FVec Ideal S256x1024 .f32 :=
  have z : Ideal .f32 := Scalar.ofBits .f32 0x00000000#32
  addf (addf (addf
    (concatenate S256x1024 1 [⟨S256x768, broadcast S256x768 z⟩, ⟨S256x256, b3⟩] concatenates_S256x768_S256x256_S256x1024_d1)
    (concatenate S256x1024 1 [⟨S256x768, concatenate S256x768 1 [⟨S256x512, broadcast S256x512 z⟩, ⟨S256x256, b2⟩]
      concatenates_S256x512_S256x256_S256x768_d1⟩, ⟨S256x256, broadcast S256x256 z⟩] concatenates_S256x768_S256x256_S256x1024_d1))
    (concatenate S256x1024 1 [⟨S256x512, concatenate S256x512 1 [⟨S256x256, broadcast S256x256 z⟩, ⟨S256x256, b1⟩]
      concatenates_S256x256_S256x256_S256x512_d1⟩, ⟨S256x512, broadcast S256x512 z⟩] concatenates_S256x512_S256x512_S256x1024_d1))
    (concatenate S256x1024 1 [⟨S256x256, b0⟩, ⟨S256x768, broadcast S256x768 z⟩] concatenates_S256x256_S256x768_S256x1024_d1)

theorem sumQ_apply (b : Fin 4 → FVec Ideal S512x256 .f32) (r : Fin 512) (h : Fin 4) (d : Fin 256) :
    sumQ (b 3) (b 2) (b 1) (b 0) (ix2 r (col h d)) = b h (ix2 r d) := by
  have hd := d.isLt
  pointwise [sumQ, col]
  fin_vals h with hk
  all_goals
    simp only [hk]
    repeat' split
    all_goals first | omega | simp only [add_zero, zero_add]
    all_goals exact congr (congrArg b (Fin.ext hk.symm)) (congrArg (ix2 r) (Fin.ext (by dsimp only; omega)))

theorem sumK_apply (b : Fin 4 → FVec Ideal S256x256 .f32) (r : Fin 256) (h : Fin 4) (d : Fin 256) :
    sumK (b 3) (b 2) (b 1) (b 0) (ix2 r (col h d)) = b h (ix2 r d) := by
  have hd := d.isLt
  pointwise [sumK, col]
  fin_vals h with hk
  all_goals
    simp only [hk]
    repeat' split
    all_goals first | omega | simp only [add_zero, zero_add]
    all_goals exact congr (congrArg b (Fin.ext hk.symm)) (congrArg (ix2 r) (Fin.ext (by dsimp only; omega)))

variable (x0 x3 : Vec Ideal S512x1024 .bf16) (x1 x2 : Vec Ideal S256x1024 .f32)

/-- Head `h`'s score cotangents. -/
abbrev dsH (h : Fin 4) : FVec Ideal S512x256 .f32 := dsB (headQ h x0) (headK h x1) (headQ h x3) (headK h x2)

/-- Head `h`'s weights. -/
abbrev pH (h : Fin 4) : FVec Ideal S512x256 .f32 := pB (headQ h x0) (headK h x1)

theorem slice_q0 : k0_pay8 (F := Ideal) x0 = headQ 0 x0 := by
  funext i; idx_vars i; pointwise [k0_pay8, k0_pay7, headQ, col]
theorem slice_q1 : k0_pay15 (F := Ideal) x0 = headQ 1 x0 := by
  funext i; idx_vars i; pointwise [k0_pay15, k0_pay7, headQ, col]
theorem slice_q2 : k0_pay22 (k0_pay7 (F := Ideal) x0) = headQ 2 x0 := by
  funext i; idx_vars i; pointwise [k0_pay22, k0_pay7, headQ, col]
theorem slice_q3 : k0_pay29 (k0_pay7 (F := Ideal) x0) = headQ 3 x0 := by
  funext i; idx_vars i; pointwise [k0_pay29, k0_pay7, headQ, col]
theorem slice_o0 : k0_pay37 (F := Ideal) x3 = headQ 0 x3 := by
  funext i; idx_vars i; pointwise [k0_pay37, k0_pay36, headQ, col]
theorem slice_o1 : k0_pay38 (F := Ideal) x3 = headQ 1 x3 := by
  funext i; idx_vars i; pointwise [k0_pay38, k0_pay36, headQ, col]
theorem slice_o2 : k0_pay39 (F := Ideal) x3 = headQ 2 x3 := by
  funext i; idx_vars i; pointwise [k0_pay39, k0_pay36, headQ, col]
theorem slice_o3 : k0_pay40 (F := Ideal) x3 = headQ 3 x3 := by
  funext i; idx_vars i; pointwise [k0_pay40, k0_pay36, headQ, col]
theorem slice_k0 : k0_pay9 (F := Ideal) x1 = headK 0 x1 := by
  funext i; idx_vars i; pointwise [k0_pay9, headK, col]
theorem slice_k1 : k0_pay16 (F := Ideal) x1 = headK 1 x1 := by
  funext i; idx_vars i; pointwise [k0_pay16, headK, col]
theorem slice_k2 : k0_pay23 (F := Ideal) x1 = headK 2 x1 := by
  funext i; idx_vars i; pointwise [k0_pay23, headK, col]
theorem slice_k3 : k0_pay30 (F := Ideal) x1 = headK 3 x1 := by
  funext i; idx_vars i; pointwise [k0_pay30, headK, col]
theorem slice_v0 : k0_pay14 (F := Ideal) x2 = headK 0 x2 := by
  funext i; idx_vars i; pointwise [k0_pay14, headK, col]
theorem slice_v1 : k0_pay21 (F := Ideal) x2 = headK 1 x2 := by
  funext i; idx_vars i; pointwise [k0_pay21, headK, col]
theorem slice_v2 : k0_pay28 (F := Ideal) x2 = headK 2 x2 := by
  funext i; idx_vars i; pointwise [k0_pay28, headK, col]
theorem slice_v3 : k0_pay35 (F := Ideal) x2 = headK 3 x2 := by
  funext i; idx_vars i; pointwise [k0_pay35, headK, col]

/-- The query gradient's block. -/
def outQ : FVec Ideal S512x1024 .bf16 :=
  truncf .bf16 (sumQ (rowsB (dsH x0 x3 x1 x2 3) (headK 3 x1)) (rowsB (dsH x0 x3 x1 x2 2) (headK 2 x1))
    (rowsB (dsH x0 x3 x1 x2 1) (headK 1 x1)) (rowsB (dsH x0 x3 x1 x2 0) (headK 0 x1))) bitsLt_bf16_f32

/-- The point's addend to the key gradient. -/
def addK : FVec Ideal S256x1024 .f32 :=
  sumK (colsB (dsH x0 x3 x1 x2 3) (headQ 3 x0)) (colsB (dsH x0 x3 x1 x2 2) (headQ 2 x0))
    (colsB (dsH x0 x3 x1 x2 1) (headQ 1 x0)) (colsB (dsH x0 x3 x1 x2 0) (headQ 0 x0))

/-- The point's addend to the value gradient. -/
def addV : FVec Ideal S256x1024 .f32 :=
  sumK (colsB (pH x0 x1 3) (headQ 3 x3)) (colsB (pH x0 x1 2) (headQ 2 x3))
    (colsB (pH x0 x1 1) (headQ 1 x3)) (colsB (pH x0 x1 0) (headQ 0 x3))

/-- At row `r` and column `d` of head `h` the query gradient's block is the row's score cotangents against the keys. -/
theorem outQ_apply (r : Fin 512) (h : Fin 4) (d : Fin 256) :
    outQ x0 x3 x1 x2 (ix2 r (col h d)) = ∑ m : Fin 256,
      dscore (fun d => x0 (ix2 r (col h d))) (fun d => x3 (ix2 r (col h d))) (fun m d => x1 (ix2 m (col h d)))
        (fun m d => x2 (ix2 m (col h d))) m * x1 (ix2 m (col h d)) := by
  pointwise [outQ]
  rw [sumQ_apply (fun h => rowsB (dsH x0 x3 x1 x2 h) (headK h x1)), rowsB_apply]
  simp only [dsB_apply]
  rfl

theorem addK_apply (m : Fin 256) (h : Fin 4) (d : Fin 256) :
    addK x0 x3 x1 x2 (ix2 m (col h d)) = ∑ r : Fin 512,
      dscore (fun d => x0 (ix2 r (col h d))) (fun d => x3 (ix2 r (col h d))) (fun m d => x1 (ix2 m (col h d)))
        (fun m d => x2 (ix2 m (col h d))) m * x0 (ix2 r (col h d)) := by
  rw [addK, sumK_apply (fun h => colsB (dsH x0 x3 x1 x2 h) (headQ h x0)), colsB_apply]
  simp only [dsB_apply]
  rfl

theorem addV_apply (m : Fin 256) (h : Fin 4) (d : Fin 256) :
    addV x0 x3 x1 (ix2 m (col h d)) = ∑ r : Fin 512,
      weight (fun d => x0 (ix2 r (col h d))) (fun m d => x1 (ix2 m (col h d))) m * x3 (ix2 r (col h d)) := by
  rw [addV, sumK_apply (fun h => colsB (pH x0 x1 h) (headQ h x3)), colsB_apply]
  simp only [pB_apply]
  rfl

end Cert.Att

end
-- ==== Proof.AttPoint.lean ====
/- What the attention's backward kernel leaves in its three output buffers at one grid point, at the first point and at a
   later one. -/
module

public import proofs.«01_k».proof.Proof.AttBlock
public import proofs.«01_k».proof.Proof.Gen.KernelIdeal.Value

@[expose] public section

noncomputable section

namespace Cert.Att

open Idealize.ShloMosaic Idealize.ShloMosaic.TcCoe Cert.KernelIdeal Cert.KernelIdeal.Gen

theorem hz : (![0, 0] : Fin 2 → Nat) = fun _ => 0 := funext fun a => by fin_cases a <;> rfl

theorem pay_outQ (x0 x3 : Vec Ideal S512x1024 .bf16) (x1 x2 : Vec Ideal S256x1024 .f32) :
    k0_pay2 (k0_pay9 x1) (k0_pay10 x0 x1)
      (k0_pay57 (k0_pay16 x1) (k0_pay17 x0 x1) (k0_pay18 x0 x1)
        (k0_pay50 (k0_pay23 x1) (k0_pay24 (k0_pay7 x0) x1) (k0_pay25 (k0_pay7 x0) x1)
          (k0_pay44 (k0_pay30 x1) (k0_pay31 (k0_pay7 x0) x1) (k0_pay32 (k0_pay7 x0) x1) (k0_pay34 (k0_pay7 x0) x1)
            (k0_pay35 x2) (k0_pay41 x3))
          (k0_pay45 (k0_pay28 x2) (k0_pay39 x3)) (k0_pay47 (k0_pay27 (k0_pay7 x0) x1) (k0_pay28 x2) (k0_pay39 x3)))
        (k0_pay51 (k0_pay21 x2) (k0_pay38 x3)) (k0_pay53 (k0_pay17 x0 x1) (k0_pay20 x0 x1) (k0_pay21 x2) (k0_pay38 x3))
        k0_pay54)
      (k0_pay59 (k0_pay10 x0 x1) (k0_pay11 x0 x1) (k0_pay13 x0 x1) (k0_pay14 x2) (k0_pay37 x3)) = outQ x0 x3 x1 x2 := by
  refine Eq.trans (b := truncf .bf16 (sumQ (rowsB (dsB (k0_pay29 (k0_pay7 x0)) (k0_pay30 x1) (k0_pay40 x3) (k0_pay35 x2)) (k0_pay30 x1))
      (rowsB (dsB (k0_pay22 (k0_pay7 x0)) (k0_pay23 x1) (k0_pay39 x3) (k0_pay28 x2)) (k0_pay23 x1))
      (rowsB (dsB (k0_pay15 x0) (k0_pay16 x1) (k0_pay38 x3) (k0_pay21 x2)) (k0_pay16 x1))
      (rowsB (dsB (k0_pay8 x0) (k0_pay9 x1) (k0_pay37 x3) (k0_pay14 x2)) (k0_pay9 x1))) bitsLt_bf16_f32) (by
    unfold k0_pay2
    rfl) ?_
  simp only [slice_q0, slice_q1, slice_q2, slice_q3, slice_k0, slice_k1, slice_k2, slice_k3, slice_v0, slice_v1, slice_v2, slice_v3, slice_o0, slice_o1, slice_o2, slice_o3]
  rfl

theorem pay_addK (x0 x3 : Vec Ideal S512x1024 .bf16) (x1 x2 : Vec Ideal S256x1024 .f32) (a : Vec Ideal S256x1024 .f32) :
    k0_pay5 (k0_pay8 x0) (k0_pay10 x0 x1)
      (k0_pay56 (k0_pay15 x0) (k0_pay17 x0 x1) (k0_pay18 x0 x1)
        (k0_pay49 (k0_pay22 (k0_pay7 x0)) (k0_pay24 (k0_pay7 x0) x1) (k0_pay25 (k0_pay7 x0) x1)
          (k0_pay43 (k0_pay29 (k0_pay7 x0)) (k0_pay31 (k0_pay7 x0) x1) (k0_pay32 (k0_pay7 x0) x1)
            (k0_pay34 (k0_pay7 x0) x1) (k0_pay35 x2) (k0_pay41 x3))
          (k0_pay45 (k0_pay28 x2) (k0_pay39 x3)) (k0_pay47 (k0_pay27 (k0_pay7 x0) x1) (k0_pay28 x2) (k0_pay39 x3)))
        (k0_pay51 (k0_pay21 x2) (k0_pay38 x3)) (k0_pay53 (k0_pay17 x0 x1) (k0_pay20 x0 x1) (k0_pay21 x2) (k0_pay38 x3))
        k0_pay54)
      (k0_pay59 (k0_pay10 x0 x1) (k0_pay11 x0 x1) (k0_pay13 x0 x1) (k0_pay14 x2) (k0_pay37 x3)) a = addf a (addK x0 x3 x1 x2) := by
  refine Eq.trans (b := addf a (sumK (colsB (dsB (k0_pay29 (k0_pay7 x0)) (k0_pay30 x1) (k0_pay40 x3) (k0_pay35 x2)) (k0_pay29 (k0_pay7 x0)))
      (colsB (dsB (k0_pay22 (k0_pay7 x0)) (k0_pay23 x1) (k0_pay39 x3) (k0_pay28 x2)) (k0_pay22 (k0_pay7 x0)))
      (colsB (dsB (k0_pay15 x0) (k0_pay16 x1) (k0_pay38 x3) (k0_pay21 x2)) (k0_pay15 x0))
      (colsB (dsB (k0_pay8 x0) (k0_pay9 x1) (k0_pay37 x3) (k0_pay14 x2)) (k0_pay8 x0)))) (by
    unfold k0_pay5
    dsimp only
    rw [shapeCast_self]
    rfl) ?_
  simp only [slice_q0, slice_q1, slice_q2, slice_q3, slice_k0, slice_k1, slice_k2, slice_k3, slice_v0, slice_v1, slice_v2, slice_v3, slice_o0, slice_o1, slice_o2, slice_o3]
  rfl

theorem pay_addV (x0 x3 : Vec Ideal S512x1024 .bf16) (x1 x2 : Vec Ideal S256x1024 .f32) (a : Vec Ideal S256x1024 .f32) :
    k0_pay6
      (k0_pay58 (k0_pay12 x0 x1) (k0_pay37 x3)
        (k0_pay52 (k0_pay19 x0 x1) (k0_pay38 x3)
          (k0_pay46 (k0_pay26 (k0_pay7 x0) x1) (k0_pay33 (k0_pay7 x0) x1) (k0_pay39 x3) (k0_pay40 x3)))) a = addf a (addV x0 x3 x1) := by
  refine Eq.trans (b := addf a (sumK (colsB (pB (k0_pay29 (k0_pay7 x0)) (k0_pay30 x1)) (k0_pay40 x3))
      (colsB (pB (k0_pay22 (k0_pay7 x0)) (k0_pay23 x1)) (k0_pay39 x3))
      (colsB (pB (k0_pay15 x0) (k0_pay16 x1)) (k0_pay38 x3))
      (colsB (pB (k0_pay8 x0) (k0_pay9 x1)) (k0_pay37 x3)))) (by
    unfold k0_pay6
    dsimp only
    rw [shapeCast_self]
    rfl) ?_
  simp only [slice_q0, slice_q1, slice_q2, slice_q3, slice_k0, slice_k1, slice_k2, slice_k3, slice_v0, slice_v1, slice_v2, slice_v3, slice_o0, slice_o1, slice_o2, slice_o3]
  rfl

/-- At the first point the body leaves the query gradient's block. -/
theorem out_A_4 (c : Dev nD) (i : grid0.Coords) (a1 : Memref sig .tc .vmem S512x1024 .bf16) (h1 : a1.IsWhole)
    (a2 : Memref sig .tc .vmem S256x1024 .f32) (h2 : a2.IsWhole)
    (a3 : Memref sig .tc .vmem S256x1024 .f32) (h3 : a3.IsWhole)
    (a4 : Memref sig .tc .vmem S512x1024 .bf16) (h4 : a4.IsWhole)
    (a5 : Memref sig .tc .vmem S512x1024 .bf16) (h5 : a5.IsWhole)
    (a6 : Memref sig .tc .vmem S256x1024 .f32) (h6 : a6.IsWhole)
    (a7 : Memref sig .tc .vmem S256x1024 .f32) (h7 : a7.IsWhole)
    (hc : cond0_0 i) (x0 : Vec Ideal S512x1024 .bf16) (x1 x2 : Vec Ideal S256x1024 .f32) (x3 : Vec Ideal S512x1024 .bf16) :
    out0_A_4 c i a1 h1 a2 h2 a3 h3 a4 h4 a5 h5 a6 h6 a7 h7 hc x0 x1 x2 x3 = outQ x0 x3 x1 x2 := by
  unfold out0_A_4
  rw [View.read_writes_eq_canon _ _ _ (cover0_A_4 c i a1 h1 a2 h2 a3 h3 a4 h4 a5 h5 a6 h6 a7 h7 hc x0 x1 x2 x3)]
  unfold kernelRun0_A
  dsimp only
  sl_unfold_words
  rw [View.canon_unit_zero hz]
  simp only [View.readAt_eq_ld, h1.read_unread, h2.read_unread, h3.read_unread, h4.read_unread, View.ld_unit_zero (S := S512x1024) hz, View.ld_unit_zero (S := S256x1024) hz]
  exact pay_outQ x0 x3 x1 x2

/-- At the first point the body leaves the key gradient started at zero. -/
theorem out_A_5 (c : Dev nD) (i : grid0.Coords) (a1 : Memref sig .tc .vmem S512x1024 .bf16) (h1 : a1.IsWhole)
    (a2 : Memref sig .tc .vmem S256x1024 .f32) (h2 : a2.IsWhole)
    (a3 : Memref sig .tc .vmem S256x1024 .f32) (h3 : a3.IsWhole)
    (a4 : Memref sig .tc .vmem S512x1024 .bf16) (h4 : a4.IsWhole)
    (a5 : Memref sig .tc .vmem S512x1024 .bf16) (h5 : a5.IsWhole)
    (a6 : Memref sig .tc .vmem S256x1024 .f32) (h6 : a6.IsWhole)
    (a7 : Memref sig .tc .vmem S256x1024 .f32) (h7 : a7.IsWhole)
    (hc : cond0_0 i) (x0 : Vec Ideal S512x1024 .bf16) (x1 x2 : Vec Ideal S256x1024 .f32) (x3 : Vec Ideal S512x1024 .bf16) :
    out0_A_5 c i a1 h1 a2 h2 a3 h3 a4 h4 a5 h5 a6 h6 a7 h7 hc x0 x1 x2 x3 = addf (broadcast S256x1024 (Scalar.ofBits .f32 0x00000000#32)) (addK x0 x3 x1 x2) := by
  unfold out0_A_5
  rw [View.read_writes_eq_canon _ _ _ (cover0_A_5 c i a1 h1 a2 h2 a3 h3 a4 h4 a5 h5 a6 h6 a7 h7 hc x0 x1 x2 x3)]
  unfold kernelRun0_A
  dsimp only
  sl_unfold_words
  rw [View.canon_cons_unit_zero (S := S256x1024) hz, View.readCov_unit_zero (S := S256x1024) _ hz]
  simp only [View.readAt_eq_ld, h1.read_unread, h2.read_unread, h3.read_unread, h4.read_unread, View.ld_unit_zero (S := S512x1024) hz, View.ld_unit_zero (S := S256x1024) hz]
  rw [pay_addK x0 x3 x1 x2]
  simp only [k0_pay3, shapeCast_self]

/-- At the first point the body leaves the value gradient started at zero. -/
theorem out_A_6 (c : Dev nD) (i : grid0.Coords) (a1 : Memref sig .tc .vmem S512x1024 .bf16) (h1 : a1.IsWhole)
    (a2 : Memref sig .tc .vmem S256x1024 .f32) (h2 : a2.IsWhole)
    (a3 : Memref sig .tc .vmem S256x1024 .f32) (h3 : a3.IsWhole)
    (a4 : Memref sig .tc .vmem S512x1024 .bf16) (h4 : a4.IsWhole)
    (a5 : Memref sig .tc .vmem S512x1024 .bf16) (h5 : a5.IsWhole)
    (a6 : Memref sig .tc .vmem S256x1024 .f32) (h6 : a6.IsWhole)
    (a7 : Memref sig .tc .vmem S256x1024 .f32) (h7 : a7.IsWhole)
    (hc : cond0_0 i) (x0 : Vec Ideal S512x1024 .bf16) (x1 x2 : Vec Ideal S256x1024 .f32) (x3 : Vec Ideal S512x1024 .bf16) :
    out0_A_6 c i a1 h1 a2 h2 a3 h3 a4 h4 a5 h5 a6 h6 a7 h7 hc x0 x1 x2 x3 = addf (broadcast S256x1024 (Scalar.ofBits .f32 0x00000000#32)) (addV x0 x3 x1) := by
  unfold out0_A_6
  rw [View.read_writes_eq_canon _ _ _ (cover0_A_6 c i a1 h1 a2 h2 a3 h3 a4 h4 a5 h5 a6 h6 a7 h7 hc x0 x1 x2 x3)]
  unfold kernelRun0_A
  dsimp only
  sl_unfold_words
  rw [View.canon_cons_unit_zero (S := S256x1024) hz, View.readCov_unit_zero (S := S256x1024) _ hz]
  simp only [View.readAt_eq_ld, h1.read_unread, h2.read_unread, h3.read_unread, h4.read_unread, View.ld_unit_zero (S := S512x1024) hz, View.ld_unit_zero (S := S256x1024) hz]
  rw [pay_addV x0 x3 x1 x2]
  simp only [k0_pay4, shapeCast_self]

/-- At a later point the body leaves the query gradient's block. -/
theorem out_B_4 (c : Dev nD) (i : grid0.Coords) (a1 : Memref sig .tc .vmem S512x1024 .bf16) (h1 : a1.IsWhole)
    (a2 : Memref sig .tc .vmem S256x1024 .f32) (h2 : a2.IsWhole)
    (a3 : Memref sig .tc .vmem S256x1024 .f32) (h3 : a3.IsWhole)
    (a4 : Memref sig .tc .vmem S512x1024 .bf16) (h4 : a4.IsWhole)
    (a5 : Memref sig .tc .vmem S512x1024 .bf16) (h5 : a5.IsWhole)
    (a6 : Memref sig .tc .vmem S256x1024 .f32) (h6 : a6.IsWhole)
    (a7 : Memref sig .tc .vmem S256x1024 .f32) (h7 : a7.IsWhole)
    (hc : ¬cond0_0 i) (x0 : Vec Ideal S512x1024 .bf16) (x1 x2 : Vec Ideal S256x1024 .f32) (x3 : Vec Ideal S512x1024 .bf16) (xo5 xo6 : Vec Ideal S256x1024 .f32) :
    out0_B_4 c i a1 h1 a2 h2 a3 h3 a4 h4 a5 h5 a6 h6 a7 h7 hc x0 x1 x2 x3 xo5 xo6 = outQ x0 x3 x1 x2 := by
  unfold out0_B_4
  rw [View.read_writes_eq_canon _ _ _ (cover0_B_4 c i a1 h1 a2 h2 a3 h3 a4 h4 a5 h5 a6 h6 a7 h7 hc x0 x1 x2 x3 xo5 xo6)]
  unfold kernelRun0_B
  dsimp only
  sl_unfold_words
  rw [View.canon_unit_zero hz]
  simp only [View.readAt_eq_ld, h1.read_unread, h2.read_unread, h3.read_unread, h4.read_unread, h6.read_unread, h7.read_unread, View.ld_unit_zero (S := S512x1024) hz, View.ld_unit_zero (S := S256x1024) hz]
  exact pay_outQ x0 x3 x1 x2

/-- At a later point the body leaves the key gradient grown by the point. -/
theorem out_B_5 (c : Dev nD) (i : grid0.Coords) (a1 : Memref sig .tc .vmem S512x1024 .bf16) (h1 : a1.IsWhole)
    (a2 : Memref sig .tc .vmem S256x1024 .f32) (h2 : a2.IsWhole)
    (a3 : Memref sig .tc .vmem S256x1024 .f32) (h3 : a3.IsWhole)
    (a4 : Memref sig .tc .vmem S512x1024 .bf16) (h4 : a4.IsWhole)
    (a5 : Memref sig .tc .vmem S512x1024 .bf16) (h5 : a5.IsWhole)
    (a6 : Memref sig .tc .vmem S256x1024 .f32) (h6 : a6.IsWhole)
    (a7 : Memref sig .tc .vmem S256x1024 .f32) (h7 : a7.IsWhole)
    (hc : ¬cond0_0 i) (x0 : Vec Ideal S512x1024 .bf16) (x1 x2 : Vec Ideal S256x1024 .f32) (x3 : Vec Ideal S512x1024 .bf16) (xo5 xo6 : Vec Ideal S256x1024 .f32) :
    out0_B_5 c i a1 h1 a2 h2 a3 h3 a4 h4 a5 h5 a6 h6 a7 h7 hc x0 x1 x2 x3 xo5 xo6 = addf xo5 (addK x0 x3 x1 x2) := by
  unfold out0_B_5
  rw [View.read_writes_eq_canon _ _ _ (cover0_B_5 c i a1 h1 a2 h2 a3 h3 a4 h4 a5 h5 a6 h6 a7 h7 hc x0 x1 x2 x3 xo5 xo6)]
  unfold kernelRun0_B
  dsimp only
  sl_unfold_words
  rw [View.canon_unit_zero hz]
  simp only [View.readAt_eq_ld, h1.read_unread, h2.read_unread, h3.read_unread, h4.read_unread, h6.read_unread, h7.read_unread, View.ld_unit_zero (S := S512x1024) hz, View.ld_unit_zero (S := S256x1024) hz]
  exact pay_addK x0 x3 x1 x2 _

/-- At a later point the body leaves the value gradient grown by the point. -/
theorem out_B_6 (c : Dev nD) (i : grid0.Coords) (a1 : Memref sig .tc .vmem S512x1024 .bf16) (h1 : a1.IsWhole)
    (a2 : Memref sig .tc .vmem S256x1024 .f32) (h2 : a2.IsWhole)
    (a3 : Memref sig .tc .vmem S256x1024 .f32) (h3 : a3.IsWhole)
    (a4 : Memref sig .tc .vmem S512x1024 .bf16) (h4 : a4.IsWhole)
    (a5 : Memref sig .tc .vmem S512x1024 .bf16) (h5 : a5.IsWhole)
    (a6 : Memref sig .tc .vmem S256x1024 .f32) (h6 : a6.IsWhole)
    (a7 : Memref sig .tc .vmem S256x1024 .f32) (h7 : a7.IsWhole)
    (hc : ¬cond0_0 i) (x0 : Vec Ideal S512x1024 .bf16) (x1 x2 : Vec Ideal S256x1024 .f32) (x3 : Vec Ideal S512x1024 .bf16) (xo5 xo6 : Vec Ideal S256x1024 .f32) :
    out0_B_6 c i a1 h1 a2 h2 a3 h3 a4 h4 a5 h5 a6 h6 a7 h7 hc x0 x1 x2 x3 xo5 xo6 = addf xo6 (addV x0 x3 x1) := by
  unfold out0_B_6
  rw [View.read_writes_eq_canon _ _ _ (cover0_B_6 c i a1 h1 a2 h2 a3 h3 a4 h4 a5 h5 a6 h6 a7 h7 hc x0 x1 x2 x3 xo5 xo6)]
  unfold kernelRun0_B
  dsimp only
  sl_unfold_words
  rw [View.canon_unit_zero hz]
  simp only [View.readAt_eq_ld, h1.read_unread, h2.read_unread, h3.read_unread, h4.read_unread, h6.read_unread, h7.read_unread, View.ld_unit_zero (S := S512x1024) hz, View.ld_unit_zero (S := S256x1024) hz]
  exact pay_addV x0 x3 x1 x2 _

end Cert.Att

end
-- ==== Proof.Chain.lean ====
/- Eight partial sums added one after the other. -/
module

public import Idealize.ShloMosaic.PureOps.Ideal.Laws

@[expose] public section

namespace Cert.Att

/-- A chain that starts with the first tile's sum and adds one tile's sum per step is the sum of the rows so far. -/
theorem chain_sum {N B : ℕ} (hB : N = 8 * B) (g : Fin N → EReal) (C : (n : ℕ) → n < 8 → EReal)
    (h0 : C 0 (by omega) = ∑ r : Fin B, g ⟨r.val, by omega⟩)
    (hs : ∀ n (h : n + 1 < 8), C (n + 1) h = C n (by omega) + ∑ r : Fin B, g ⟨(n + 1) * B + r.val, by
      have := r.isLt; have : (n + 1 + 1) * B ≤ 8 * B := Nat.mul_le_mul_right _ (by omega); rw [Nat.succ_mul (n + 1)] at this; omega⟩) :
    C 7 (by omega) = ∑ r : Fin N, g r := by
  let G : ℕ → EReal := fun j => if h : j < N then g ⟨j, h⟩ else 0
  have hG : ∀ j (h : j < N), g ⟨j, h⟩ = G j := fun j h => by simp only [G, dif_pos h]
  have key : ∀ n (h : n < 8), C n h = ∑ j ∈ Finset.range ((n + 1) * B), G j := by
    intro n
    induction n with
    | zero =>
      intro h
      rw [h0, zero_add, one_mul, ← Fin.sum_univ_eq_sum_range]
      exact Finset.sum_congr rfl fun r _ => hG _ _
    | succ n ih =>
      intro h
      rw [hs n h, ih (by omega), Nat.succ_mul (n + 1), Finset.sum_range_add, ← Fin.sum_univ_eq_sum_range (fun x => G ((n + 1) * B + x))]
      congr 1
      exact Finset.sum_congr rfl fun r _ => hG _ _
  rw [key 7 (by omega), show (7 + 1) * B = N by omega, ← Fin.sum_univ_eq_sum_range]
  exact Finset.sum_congr rfl fun r _ => (hG _ _).symm

end Cert.Att

end
-- ==== Proof.Tile.lean ====
/- Where an index of an array lies among the blocks of one axis. -/
module

public import Idealize.ShloMosaic.PureOps.Ideal.Laws

@[expose] public section

namespace Cert.Tile

/-- An index within block `b` is within the block numbered by what equals `b`. -/
theorem mem (k n : Nat) {a b : Nat} (e : a = b) (h : b * k ≤ n ∧ n < b * k + k) : a * k ≤ n ∧ n < a * k + k := e ▸ h

end Cert.Tile

end
-- ==== Proof.AttArray.lean ====
/- The three arrays the attention's backward kernel ends with, each as one formula of its arguments. -/
module

public import proofs.«01_k».proof.Proof.AttPoint
public import proofs.«01_k».proof.Proof.Chain
public import Idealize.ShloMosaic.Lib.Tactic
public import proofs.«01_k».proof.Proof.Tile

@[expose] public section

noncomputable section

namespace Cert.Att

open Idealize.ShloMosaic Idealize.ShloMosaic.TcCoe Idealize.SL.Sem Cert.KernelIdeal Cert.KernelIdeal.Gen
open Idealize.ShloMosaic.Pipeline (Dat)

/-- The head a column belongs to. -/
def hd (j : Fin 1024) : Fin 4 := ⟨j.val / 256, by omega⟩

/-- A column's place within its head. -/
def dd (j : Fin 1024) : Fin 256 := ⟨j.val % 256, by omega⟩

theorem col_hd_dd (j : Fin 1024) : col (hd j) (dd j) = j := Fin.ext (by simp only [col, hd, dd]; omega)

theorem hd_col (h : Fin 4) (d : Fin 256) : hd (col h d) = h := Fin.ext (by simp only [col, hd]; omega)

/-- The score cotangent of head `h`, query row `r` and memory row `m`. -/
def dS (q : FVec Ideal S4096x1024 .bf16) (k v : FVec Ideal S256x1024 .f32) (o : FVec Ideal S4096x1024 .bf16) (h : Fin 4)
    (r : Fin 4096) (m : Fin 256) : EReal :=
  dscore (fun d => q (ix2 r (col h d))) (fun d => o (ix2 r (col h d))) (fun m d => k (ix2 m (col h d))) (fun m d => v (ix2 m (col h d))) m

/-- The weight of head `h`, query row `r` and memory row `m`. -/
def wS (q : FVec Ideal S4096x1024 .bf16) (k : FVec Ideal S256x1024 .f32) (h : Fin 4) (r : Fin 4096) (m : Fin 256) : EReal :=
  weight (fun d => q (ix2 r (col h d))) (fun m d => k (ix2 m (col h d))) m

/-- The gradient of the queries. -/
def dQ (q : FVec Ideal S4096x1024 .bf16) (k v : FVec Ideal S256x1024 .f32) (o : FVec Ideal S4096x1024 .bf16) :
    FVec Ideal S4096x1024 .bf16 := fun i => ∑ m : Fin 256, dS q k v o (hd (i 1)) (i 0) m * k (ix2 m (i 1))

/-- The gradient of the keys. -/
def dK (q : FVec Ideal S4096x1024 .bf16) (k v : FVec Ideal S256x1024 .f32) (o : FVec Ideal S4096x1024 .bf16) :
    FVec Ideal S256x1024 .f32 := fun i => ∑ r : Fin 4096, dS q k v o (hd (i 1)) r (i 0) * q (ix2 r (i 1))

/-- The gradient of the values. -/
def dV (q : FVec Ideal S4096x1024 .bf16) (k : FVec Ideal S256x1024 .f32) (o : FVec Ideal S4096x1024 .bf16) :
    FVec Ideal S256x1024 .f32 := fun i => ∑ r : Fin 4096, wS q k (hd (i 1)) r (i 0) * o (ix2 r (i 1))

variable (m : (ℓ : Loc nD τ sig) → Buf (Elt Ideal) ℓ) (c : Dev nD)

/-- The queries, keys, values and output cotangents at launch. -/
abbrev aq : FVec Ideal S4096x1024 .bf16 := m ((c : Thread nD τ).loc main_arg0)
abbrev ak : FVec Ideal S256x1024 .f32 := m ((c : Thread nD τ).loc main_arg1)
abbrev av : FVec Ideal S256x1024 .f32 := m ((c : Thread nD τ).loc main_arg2)
abbrev ao : FVec Ideal S4096x1024 .bf16 := m ((c : Thread nD τ).loc main_arg3)

/-- Row `r` of tile `t`. -/
def row (t : Fin cfg0.N) (r : Fin 512) : Fin 4096 := ⟨t.val * 512 + r.val, by
  have := t.isLt; have h : cfg0.N = 8 := N_0; omega⟩

theorem idx_row : ∀ t : Fin cfg0.N, (win0_0.index t 0 = t.val ∧ win0_0.index t 1 = 0)
    ∧ (win0_1.index t 0 = 0 ∧ win0_1.index t 1 = 0) ∧ (win0_2.index t 0 = 0 ∧ win0_2.index t 1 = 0)
    ∧ (win0_3.index t 0 = t.val ∧ win0_3.index t 1 = 0) ∧ (win0_4.index t 0 = t.val ∧ win0_4.index t 1 = 0) :=
  (by decide +kernel : ∀ t : Fin grid0.N, (win0_0.index t 0 = t.val ∧ win0_0.index t 1 = 0)
    ∧ (win0_1.index t 0 = 0 ∧ win0_1.index t 1 = 0) ∧ (win0_2.index t 0 = 0 ∧ win0_2.index t 1 = 0)
    ∧ (win0_3.index t 0 = t.val ∧ win0_3.index t 1 = 0) ∧ (win0_4.index t 0 = t.val ∧ win0_4.index t 1 = 0))

theorem iblk0 (t : Fin cfg0.N) (r : Fin 512) (j : Fin 1024) : iblk m c 0 t (ix2 r j) = aq m c (ix2 (row t r) j) := by
  have hi := (idx_row t).1
  unfold iblk
  rw [View.read_apply]
  show V m c main_arg0 _ = m (c.tc.loc main_arg0) _
  unfold V
  congr 1
  funext a
  apply Fin.ext
  match a with
  | ⟨0, _⟩ => show win0_0.index t 0 * 512 + 1 * r.val = t.val * 512 + r.val; rw [hi.1]; omega
  | ⟨1, _⟩ => show win0_0.index t 1 * 1024 + 1 * j.val = j.val; rw [hi.2]; omega

theorem iblk3 (t : Fin cfg0.N) (r : Fin 512) (j : Fin 1024) : iblk m c 3 t (ix2 r j) = ao m c (ix2 (row t r) j) := by
  have hi := (idx_row t).2.2.2.1
  unfold iblk
  rw [View.read_apply]
  show V m c main_arg3 _ = m (c.tc.loc main_arg3) _
  unfold V
  congr 1
  funext a
  apply Fin.ext
  match a with
  | ⟨0, _⟩ => show win0_3.index t 0 * 512 + 1 * r.val = t.val * 512 + r.val; rw [hi.1]; omega
  | ⟨1, _⟩ => show win0_3.index t 1 * 1024 + 1 * j.val = j.val; rw [hi.2]; omega

theorem iblk1 (t : Fin cfg0.N) (r : Fin 256) (j : Fin 1024) : iblk m c 1 t (ix2 r j) = ak m c (ix2 r j) := by
  have hi := (idx_row t).2.1
  unfold iblk
  rw [View.read_apply]
  show V m c main_arg1 _ = m (c.tc.loc main_arg1) _
  unfold V
  congr 1
  funext a
  apply Fin.ext
  match a with
  | ⟨0, _⟩ => show win0_1.index t 0 * 256 + 1 * r.val = r.val; rw [hi.1]; omega
  | ⟨1, _⟩ => show win0_1.index t 1 * 1024 + 1 * j.val = j.val; rw [hi.2]; omega

theorem iblk2 (t : Fin cfg0.N) (r : Fin 256) (j : Fin 1024) : iblk m c 2 t (ix2 r j) = av m c (ix2 r j) := by
  have hi := (idx_row t).2.2.1
  unfold iblk
  rw [View.read_apply]
  show V m c main_arg2 _ = m (c.tc.loc main_arg2) _
  unfold V
  congr 1
  funext a
  apply Fin.ext
  match a with
  | ⟨0, _⟩ => show win0_2.index t 0 * 256 + 1 * r.val = r.val; rw [hi.1]; omega
  | ⟨1, _⟩ => show win0_2.index t 1 * 1024 + 1 * j.val = j.val; rw [hi.2]; omega

/-- A point's block of the query gradient. -/
theorem outQ_iblk (t : Fin cfg0.N) (r : Fin 512) (j : Fin 1024) :
    outQ (iblk m c 0 t) (iblk m c 3 t) (iblk m c 1 t) (iblk m c 2 t) (ix2 r j)
      = dQ (aq m c) (ak m c) (av m c) (ao m c) (ix2 (row t r) j) := by
  conv_lhs => rw [← col_hd_dd j]
  rw [outQ_apply]
  simp only [iblk0, iblk1, iblk2, iblk3, dQ, dS, col_hd_dd]
  rfl

/-- A point's addend to the key gradient: the rows of its tile. -/
theorem addK_iblk (t : Fin cfg0.N) (r : Fin 256) (j : Fin 1024) :
    addK (iblk m c 0 t) (iblk m c 3 t) (iblk m c 1 t) (iblk m c 2 t) (ix2 r j)
      = ∑ x : Fin 512, dS (aq m c) (ak m c) (av m c) (ao m c) (hd j) (row t x) r * aq m c (ix2 (row t x) j) := by
  conv_lhs => rw [← col_hd_dd j]
  rw [addK_apply]
  simp only [iblk0, iblk1, iblk2, iblk3, dS, col_hd_dd]

/-- A point's addend to the value gradient: the rows of its tile. -/
theorem addV_iblk (t : Fin cfg0.N) (r : Fin 256) (j : Fin 1024) :
    addV (iblk m c 0 t) (iblk m c 3 t) (iblk m c 1 t) (ix2 r j)
      = ∑ x : Fin 512, wS (aq m c) (ak m c) (hd j) (row t x) r * ao m c (ix2 (row t x) j) := by
  conv_lhs => rw [← col_hd_dd j]
  rw [addV_apply]
  simp only [iblk0, iblk1, iblk3, wS, col_hd_dd]

/-- What a point leaves in the query gradient's buffer. -/
theorem outs_Q (t : Fin cfg0.N) : (outsAt0 m c t.val t.isLt).1 = outQ (iblk m c 0 t) (iblk m c 3 t) (iblk m c 1 t) (iblk m c 2 t) := by
  by_cases h0 : t.val % 8 = 0
  · rw [outsAt0_A m c t h0, out_A_4]
  · rw [outsAt0_B m c t h0, out_B_4]

/-- A first point leaves its addends. -/
theorem outs_first (t : Fin cfg0.N) (h0 : t.val % 8 = 0) (i : S256x1024.Idx) :
    (outsAt0 m c t.val t.isLt).2.1 i = addK (iblk m c 0 t) (iblk m c 3 t) (iblk m c 1 t) (iblk m c 2 t) i
    ∧ (outsAt0 m c t.val t.isLt).2.2 i = addV (iblk m c 0 t) (iblk m c 3 t) (iblk m c 1 t) i := by
  rw [outsAt0_A m c t h0, out_A_5, out_A_6]
  dsimp only
  rw [addf_apply, addf_apply]
  simp only [broadcast, Ideal.addf_def, Ideal.ofBits_def, Ideal.ofBits_zero_f32, zero_add]
  exact ⟨trivial, trivial⟩

/-- The first point leaves its addends. -/
theorem outs_zero (h : 0 < cfg0.N) (i : S256x1024.Idx) :
    (outsAt0 m c 0 h).2.1 i = addK (iblk m c 0 ⟨0, h⟩) (iblk m c 3 ⟨0, h⟩) (iblk m c 1 ⟨0, h⟩) (iblk m c 2 ⟨0, h⟩) i
    ∧ (outsAt0 m c 0 h).2.2 i = addV (iblk m c 0 ⟨0, h⟩) (iblk m c 3 ⟨0, h⟩) (iblk m c 1 ⟨0, h⟩) i :=
  outs_first m c ⟨0, h⟩ (Nat.zero_mod 8) i

/-- A later point adds its addends to what the point before left. -/
theorem outs_succ (n : ℕ) (h : n + 1 < cfg0.N) (i : S256x1024.Idx) :
    (outsAt0 m c (n + 1) h).2.1 i = (outsAt0 m c n (by omega)).2.1 i
      + addK (iblk m c 0 ⟨n + 1, h⟩) (iblk m c 3 ⟨n + 1, h⟩) (iblk m c 1 ⟨n + 1, h⟩) (iblk m c 2 ⟨n + 1, h⟩) i
    ∧ (outsAt0 m c (n + 1) h).2.2 i = (outsAt0 m c n (by omega)).2.2 i
      + addV (iblk m c 0 ⟨n + 1, h⟩) (iblk m c 3 ⟨n + 1, h⟩) (iblk m c 1 ⟨n + 1, h⟩) i := by
  have hN : cfg0.N = 8 := N_0
  have hB : ¬(⟨n + 1, h⟩ : Fin cfg0.N).val % 8 = 0 := by dsimp only; omega
  have e := outsAt0_B m c ⟨n + 1, h⟩ hB
  rw [out_B_4, out_B_5, out_B_6] at e
  exact ⟨congrFun (congrArg (fun p => p.2.1) e) i, congrFun (congrArg (fun p => p.2.2) e) i⟩

/-- After the last point the key gradient's buffer holds the whole sum. -/
theorem outs_K (h : 7 < cfg0.N) : (outsAt0 m c 7 h).2.1 = dK (aq m c) (ak m c) (av m c) (ao m c) := by
  have hN : cfg0.N = 8 := N_0
  funext i
  obtain ⟨r, j, rfl⟩ : ∃ r j, i = ix2 r j := ⟨i 0, i 1, by idx_vars i⟩
  refine chain_sum (N := 4096) (B := 512) rfl
    (fun x => dS (aq m c) (ak m c) (av m c) (ao m c) (hd j) x r * aq m c (ix2 x j)) (fun n h => (outsAt0 m c n (by omega)).2.1 (ix2 r j)) ?_ ?_
  · rw [(outs_zero m c _ _).1, addK_iblk]
    exact Finset.sum_congr rfl fun x _ => by simp only [row, zero_mul, zero_add]
  · intro n h
    rw [(outs_succ m c n _ _).1, addK_iblk]
    rfl

/-- After the last point the value gradient's buffer holds the whole sum. -/
theorem outs_V (h : 7 < cfg0.N) : (outsAt0 m c 7 h).2.2 = dV (aq m c) (ak m c) (ao m c) := by
  have hN : cfg0.N = 8 := N_0
  funext i
  obtain ⟨r, j, rfl⟩ : ∃ r j, i = ix2 r j := ⟨i 0, i 1, by idx_vars i⟩
  refine chain_sum (N := 4096) (B := 512) rfl
    (fun x => wS (aq m c) (ak m c) (hd j) x r * ao m c (ix2 x j)) (fun n h => (outsAt0 m c n (by omega)).2.2 (ix2 r j)) ?_ ?_
  · rw [(outs_zero m c _ _).2, addV_iblk]
    exact Finset.sum_congr rfl fun x _ => by simp only [row, zero_mul, zero_add]
  · intro n h
    rw [(outs_succ m c n _ _).2, addV_iblk]
    rfl

/-- The query gradient's array after the run. -/
theorem final_Q : (dats m 0 c).arrAt 4 cfg0.N = dQ (aq m c) (ak m c) (av m c) (ao m c) := by
  have hN : cfg0.N = 8 := N_0
  refine (dats m 0 c).arrAt_eq_of_cover 4 _ (fun t _ => ?_) fun i => ?_
  · have hi := (idx_row t).2.2.2.2
    rw [Cert.KernelIdeal.Value.flushed4, outs_Q]
    funext j
    obtain ⟨r, x, rfl⟩ : ∃ r x, j = ix2 r x := ⟨j 0, j 1, by idx_vars j⟩
    rw [View.read_apply]
    refine (outQ_iblk m c t r x).trans ?_
    congr 1
    funext a
    apply Fin.ext
    match a with
    | ⟨0, _⟩ => show t.val * 512 + r.val = win0_4.index t 0 * 512 + 1 * r.val; rw [hi.1]; omega
    | ⟨1, _⟩ => show x.val = win0_4.index t 1 * 1024 + 1 * x.val; rw [hi.2]; omega
  · have h0 : (i 0 : Nat) < 4096 := (i 0).isLt
    have h1 : (i 1 : Nat) < 1024 := (i 1).isLt
    have ht : (i 0 : Nat) / 512 < cfg0.N := by omega
    refine ⟨⟨(i 0 : Nat) / 512, ht⟩, flush0_4 _, ?_⟩
    have hi := (idx_row ⟨(i 0 : Nat) / 512, ht⟩).2.2.2.2
    show i ∈ ((View.whole main_v0_0).slice (win0_4.rect ⟨(i 0 : Nat) / 512, ht⟩)).set
    rw [View.set_slice_whole, Rect.mem_set_unit]
    intro a
    match a with
    | ⟨0, _⟩ => exact Cert.Tile.mem 512 (i 0) hi.1 (by dsimp only; omega)
    | ⟨1, _⟩ => exact Cert.Tile.mem 1024 (i 1) hi.2 (by omega)

/-- The last point's block of a window whose block never moves is the whole array. -/
theorem last_eq : ∀ t : Fin cfg0.N, t.val % 8 = 7 → t = t0_7 := fun t h => by
  have hN : cfg0.N = 8 := N_0
  have := t.isLt
  exact Fin.ext (show t.val = 7 by omega)

theorem idx_last : ∀ t : Fin cfg0.N, (win0_5.index t 0 = 0 ∧ win0_5.index t 1 = 0) ∧ (win0_6.index t 0 = 0 ∧ win0_6.index t 1 = 0) :=
  (by decide +kernel : ∀ t : Fin grid0.N, _)

/-- The key gradient's array after the run. -/
theorem final_K : (dats m 0 c).arrAt 5 cfg0.N = dK (aq m c) (ak m c) (av m c) (ao m c) := by
  have hN : cfg0.N = 8 := N_0
  refine (dats m 0 c).arrAt_eq_of_cover 5 _ (fun t hf => ?_) fun i => ?_
  · obtain rfl := last_eq t ((flush0_5 t).mp hf)
    have hi := (idx_last t0_7).1
    rw [Cert.KernelIdeal.Value.flushed5, show (outsAt0 m c t0_7.val t0_7.isLt).2.1 = _ from outs_K m c _]
    funext j
    obtain ⟨r, x, rfl⟩ : ∃ r x, j = ix2 r x := ⟨j 0, j 1, by idx_vars j⟩
    rw [View.read_apply]
    show dK _ _ _ _ _ = dK _ _ _ _ _
    congr 1
    funext a
    apply Fin.ext
    match a with
    | ⟨0, _⟩ => show r.val = win0_5.index t0_7 0 * 256 + 1 * r.val; rw [hi.1]; omega
    | ⟨1, _⟩ => show x.val = win0_5.index t0_7 1 * 1024 + 1 * x.val; rw [hi.2]; omega
  · have h0 : (i 0 : Nat) < 256 := (i 0).isLt
    have h1 : (i 1 : Nat) < 1024 := (i 1).isLt
    refine ⟨t0_7, (flush0_5 _).mpr rfl, ?_⟩
    have hi := (idx_last t0_7).1
    show i ∈ ((View.whole main_v0_1).slice (win0_5.rect t0_7)).set
    rw [View.set_slice_whole, Rect.mem_set_unit]
    intro a
    match a with
    | ⟨0, _⟩ => exact Cert.Tile.mem 256 (i 0) hi.1 (by omega)
    | ⟨1, _⟩ => exact Cert.Tile.mem 1024 (i 1) hi.2 (by omega)

/-- The value gradient's array after the run. -/
theorem final_V : (dats m 0 c).arrAt 6 cfg0.N = dV (aq m c) (ak m c) (ao m c) := by
  have hN : cfg0.N = 8 := N_0
  refine (dats m 0 c).arrAt_eq_of_cover 6 _ (fun t hf => ?_) fun i => ?_
  · obtain rfl := last_eq t ((flush0_6 t).mp hf)
    have hi := (idx_last t0_7).2
    rw [Cert.KernelIdeal.Value.flushed6, show (outsAt0 m c t0_7.val t0_7.isLt).2.2 = _ from outs_V m c _]
    funext j
    obtain ⟨r, x, rfl⟩ : ∃ r x, j = ix2 r x := ⟨j 0, j 1, by idx_vars j⟩
    rw [View.read_apply]
    show dV _ _ _ _ = dV _ _ _ _
    congr 1
    funext a
    apply Fin.ext
    match a with
    | ⟨0, _⟩ => show r.val = win0_6.index t0_7 0 * 256 + 1 * r.val; rw [hi.1]; omega
    | ⟨1, _⟩ => show x.val = win0_6.index t0_7 1 * 1024 + 1 * x.val; rw [hi.2]; omega
  · have h0 : (i 0 : Nat) < 256 := (i 0).isLt
    have h1 : (i 1 : Nat) < 1024 := (i 1).isLt
    refine ⟨t0_7, (flush0_6 _).mpr rfl, ?_⟩
    have hi := (idx_last t0_7).2
    show i ∈ ((View.whole main_v0_2).slice (win0_6.rect t0_7)).set
    rw [View.set_slice_whole, Rect.mem_set_unit]
    intro a
    match a with
    | ⟨0, _⟩ => exact Cert.Tile.mem 256 (i 0) hi.1 (by omega)
    | ⟨1, _⟩ => exact Cert.Tile.mem 1024 (i 1) hi.2 (by omega)

end Cert.Att

end
-- ==== Proof.AttRef.lean ====
/- What the attention's mathematics computes: the three gradients of the reference, at an index. -/
module

public import proofs.«01_k».proof.Proof.AttArray
public import proofs.«01_k».proof.Proof.Gen.ReferenceIdeal.Read

@[expose] public section

noncomputable section

namespace Cert.Att

open Idealize.ShloMosaic Cert.ReferenceIdeal.Read
open Cert.ReferenceIdeal (S4096x1024 S256x1024)

variable (q : FVec Ideal S4096x1024 .bf16) (k v : FVec Ideal S256x1024 .f32) (o : FVec Ideal S4096x1024 .bf16)

/-- The reference's scaled scores. -/
theorem ref_score (z : Fin 1) (h : Fin 4) (r : Fin 4096) (m : Fin 256) :
    val_main_v6 (F := Ideal) q k (ix4 z h r m) = score (fun d => q (ix2 r (col h d))) (fun m d => k (ix2 m (col h d))) m := by
  pointwise [val_main_v6, val_main_v5, val_main_cst, val_main_v4, val_main_v2, val_main_v1, val_main_v0]
  rfl

theorem reduces_mem : (Cert.ReferenceIdeal.S1x4x4096x256).Reduces [3] Cert.ReferenceIdeal.S1x4x4096 := by decide

theorem lift_mem (z : Fin 1) (h : Fin 4) (r : Fin 4096) (m : Fin 256) : reduces_mem.lift (ix3 z h r) m = ix4 z h r m := by
  funext c
  apply Fin.ext
  fin_cases c <;> rfl

/-- The reference's row maxima. -/
theorem ref_max (z : Fin 1) (h : Fin 4) (r : Fin 4096) :
    val_main_v7 (F := Ideal) q k (ix3 z h r) = top (fun d => q (ix2 r (col h d))) (fun m d => k (ix2 m (col h d))) := by
  unfold val_main_v7
  rw [Host.reduce_eq_fold_single FloatOps.maximumf _ _ _ reduces_mem]
  have e : (val_main_v6 (F := Ideal) q k ∘ reduces_mem.lift (ix3 z h r))
      = fun m : Fin 256 => score (fun d => q (ix2 r (col h d))) (fun m d => k (ix2 m (col h d))) m :=
    funext fun m => (congrArg _ (lift_mem z h r m)).trans (ref_score q k z h r m)
  rw [e]
  rfl

theorem ref_top (z : Fin 1) (h : Fin 4) (r : Fin 4096) :
    val_main_v14 (F := Ideal) q k (ix3 z h r) = top (fun d => q (ix2 r (col h d))) (fun m d => k (ix2 m (col h d))) := by
  rw [val_main_v14_apply, ref_max, val_main_v13_apply, val_main_cst_2_apply]
  simp [Ideal.ofBits, Ideal.ieee]

theorem ref_ex (z : Fin 1) (h : Fin 4) (r : Fin 4096) (m : Fin 256) :
    val_main_v27 (F := Ideal) q k (ix4 z h r m) = ex (fun d => q (ix2 r (col h d))) (fun m d => k (ix2 m (col h d))) m := by
  pointwise [val_main_v27, val_main_v26, val_main_v25, val_main_v24]
  rw [ref_score, ref_top]
  rfl

theorem ref_norm (z : Fin 1) (h : Fin 4) (r : Fin 4096) (u : Fin 1) :
    val_main_v29 (F := Ideal) q k (ix4 z h r u) = norm (fun d => q (ix2 r (col h d))) (fun m d => k (ix2 m (col h d))) := by
  pointwise [val_main_v29, val_main_v28, val_main_cst_8]
  simp only [ref_ex]
  rfl

theorem ref_weight (z : Fin 1) (h : Fin 4) (r : Fin 4096) (m : Fin 256) :
    val_main_v31 (F := Ideal) q k (ix4 z h r m) = wS q k h r m := by
  pointwise [val_main_v31, val_main_v30]
  rw [ref_ex, ref_norm]
  rfl

theorem ref_dweight (z : Fin 1) (h : Fin 4) (r : Fin 4096) (m : Fin 256) :
    val_main_v41 (F := Ideal) v o (ix4 z h r m) = dweight (fun d => o (ix2 r (col h d))) (fun m d => v (ix2 m (col h d))) m := by
  pointwise [val_main_v41, val_main_v40, val_main_v39, val_main_v38, val_main_v3]
  rfl

theorem ref_inner (z : Fin 1) (h : Fin 4) (r : Fin 4096) (u : Fin 1) :
    val_main_v49 (F := Ideal) q k v o (ix4 z h r u) = -(∑ n : Fin 256, dweight (fun d => o (ix2 r (col h d))) (fun m d => v (ix2 m (col h d))) n
      * Ideal.div 1 (norm (fun d => q (ix2 r (col h d))) (fun m d => k (ix2 m (col h d))) * norm (fun d => q (ix2 r (col h d))) (fun m d => k (ix2 m (col h d))))
      * ex (fun d => q (ix2 r (col h d))) (fun m d => k (ix2 m (col h d))) n) := by
  pointwise [val_main_v49, val_main_v48, val_main_v47, val_main_cst_10, val_main_v46, val_main_v45, val_main_v44, val_main_v34, val_main_v33, val_main_cst_9, val_main_v32]
  simp only [ref_ex, ref_dweight, ref_norm]

theorem drop_unit (z : Fin 1) (h : Fin 4) (r : Fin 4096) (u : Fin 1) :
    Cert.ReferenceIdeal.Gen.reducesTo_S1x4x4096x1_S4x4096_d0_3.drop (ix4 z h r u) = ix2 h r := by
  funext c
  apply Fin.ext
  fin_cases c <;> rfl

/-- A sum over the two unit axes is the one element there. -/
theorem sum_unit (x : Cert.ReferenceIdeal.S1x4x4096x1.Idx → EReal) (h : Fin 4) (r : Fin 4096) :
    Ideal.hostReduceAdd Cert.ReferenceIdeal.Gen.reducesTo_S1x4x4096x1_S4x4096_d0_3 x 0 (ix2 h r) = x (ix4 0 h r 0) := by
  unfold Ideal.hostReduceAdd
  rw [zero_add]
  refine Finset.sum_eq_single_of_mem _ (Finset.mem_filter.mpr ⟨Finset.mem_univ _, drop_unit 0 h r 0⟩) fun i hi hne => absurd ?_ hne
  obtain ⟨z, h', r', u, rfl⟩ : ∃ z h' r' u, i = ix4 z h' r' u := ⟨i 0, i 1, i 2, i 3, by idx_vars i⟩
  have e := (Finset.mem_filter.mp hi).2
  rw [drop_unit] at e
  have e0 : h' = h := congrFun e 0
  have e1 : r' = r := congrFun e 1
  rw [e0, e1, Subsingleton.elim z 0, Subsingleton.elim u 0]

theorem ref_dscore (z : Fin 1) (h : Fin 4) (r : Fin 4096) (m : Fin 256) :
    val_main_v58 (F := Ideal) q k v o (ix4 z h r m) = dS q k v o h r m := by
  pointwise [val_main_v58, val_main_v57, val_main_cst_12, val_main_v56, val_main_v55, val_main_v54, val_main_v53, val_main_v52, val_main_cst_11, val_main_v51, val_main_v50]
  simp only [ref_ex, ref_dweight, ref_norm, sum_unit, ref_inner]
  rfl

theorem ref_Q : val_main_v66 (F := Ideal) q k v o = dQ q k v o := by
  funext i
  obtain ⟨r, j, rfl⟩ : ∃ r j, i = ix2 r j := ⟨i 0, i 1, by idx_vars i⟩
  pointwise [val_main_v66, val_main_v65, val_main_v62, val_main_v61, val_main_v2]
  simp only [ref_dscore]
  rfl

theorem ref_K : val_main_v64 (F := Ideal) q k v o = dK q k v o := by
  funext i
  obtain ⟨r, j, rfl⟩ : ∃ r j, i = ix2 r j := ⟨i 0, i 1, by idx_vars i⟩
  pointwise [val_main_v64, val_main_v60, val_main_v59, val_main_v1, val_main_v0]
  simp only [ref_dscore]
  rfl

theorem ref_V : val_main_v63 (F := Ideal) q k o = dV q k o := by
  funext i
  obtain ⟨r, j, rfl⟩ : ∃ r j, i = ix2 r j := ⟨i 0, i 1, by idx_vars i⟩
  pointwise [val_main_v63, val_main_v43, val_main_v42, val_main_v40, val_main_v39, val_main_v38]
  simp only [ref_weight]
  exact Finset.sum_congr rfl fun x _ => mul_comm _ _

end Cert.Att

end
-- ==== Proof.AttMain.lean ====
/- The attention's backward kernel and its mathematics end with the same three gradients. -/
module

public import proofs.«01_k».proof.Defs
public import proofs.«01_k».proof.Proof.AttRef

@[expose] public section

noncomputable section

namespace Cert.Att

open Idealize.ShloMosaic Idealize.ShloMosaic.TcCoe Idealize.SL.Sem

/-- From memories that agree on the arguments, both programs end with `dQ`, `dK` and `dV` of the arguments. -/
theorem equal : Cert.algebraic_KernelIdeal_ReferenceIdeal := by
  intro m g m' g' _ hargs
  refine ⟨fun c => dQ (aq m c) (ak m c) (av m c) (ao m c), fun c => dK (aq m c) (ak m c) (av m c) (ao m c),
    fun c => dV (aq m c) (ak m c) (ao m c), ?_, ?_⟩
  · refine (θ_run _ _ _).mono (fun r h c => ?_) (Cert.KernelIdeal.Value.run_blocks (F := Ideal) m g)
    obtain ⟨h0, h1, h2, h3⟩ := h c
    exact ⟨h0.trans (final_Q m c), h1.trans (final_K m c), h2.trans (final_V m c), h3⟩
  · refine (θ_run _ _ _).mono (fun r h c => ?_) (Cert.ReferenceIdeal.Value.run (F := Ideal) m' g')
    obtain ⟨e0, e1, e2, e3⟩ := hargs c
    obtain ⟨h0, h1, h2, h3⟩ := h c
    rw [Cert.ReferenceIdeal.Read.val_main_v66_eq] at h0
    rw [Cert.ReferenceIdeal.Read.val_main_v64_eq] at h1
    rw [Cert.ReferenceIdeal.Read.val_main_v63_eq] at h2
    rw [e0, e1, e2, e3] at h0 h1
    rw [e0, e1, e3] at h2
    exact ⟨h0.trans (ref_Q ..), h1.trans (ref_K ..), h2.trans (ref_V ..), h3⟩

end Cert.Att

end
-- ==== Proof.Sig.lean ====
/- The logistic function over the extended reals, and the derivative of `v * logistic v` in the two forms it is computed. -/
module

public import Idealize.ShloMosaic.Lib.Pointwise
public import Idealize.ShloMosaic.PureOps.Ideal.Laws

@[expose] public section

noncomputable section

namespace Cert.Sig

open Idealize.ShloMosaic

/-- An exponential is infinite or a nonnegative real. -/
theorem exp_cases (v : EReal) : Ideal.exp v = ⊤ ∨ ∃ r : ℝ, 0 ≤ r ∧ Ideal.exp v = (r : EReal) := by
  induction v with
  | bot => exact Or.inr ⟨0, le_rfl, rfl⟩
  | top => exact Or.inl rfl
  | coe x => exact Or.inr ⟨Real.exp x, (Real.exp_pos x).le, rfl⟩

/-- With `s = 1 / (1 + e)`: `e / (1 + e)² = s (1 - s)`, for an exponential `e`. -/
theorem deriv_eq (v : EReal) :
    Ideal.div 1 ((1 + Ideal.exp v) * (1 + Ideal.exp v)) * Ideal.exp v
      = Ideal.div 1 (1 + Ideal.exp v) * (1 - Ideal.div 1 (1 + Ideal.exp v)) := by
  rcases exp_cases v with h | ⟨r, hr, h⟩
  · have h1 : (1 : EReal) + ⊤ = ⊤ := by exact EReal.add_top_of_ne_bot (by decide)
    have h2 : (⊤ : EReal) * ⊤ = ⊤ := by simp
    have h3 : Ideal.div 1 ⊤ = 0 := by simp [Ideal.div]
    rw [h, h1, h2, h3]; simp
  · have h1 : (1 : EReal) + (r : EReal) = ((1 + r : ℝ) : EReal) := by norm_cast
    have h0 : 1 + r ≠ 0 := by positivity
    rw [h, h1, ← EReal.coe_mul, Ideal.div_coe (mul_ne_zero h0 h0), Ideal.div_coe h0, one_mul, one_mul]
    rw [← EReal.coe_mul, ← EReal.coe_one, ← EReal.coe_sub, ← EReal.coe_mul]
    congr 1
    field_simp
    ring

/-- The derivative of `v * logistic v` against a cotangent `c`, through the reciprocal of the squared denominator and
    through `s (1 - s)`. -/
theorem dsilu (v c : EReal) :
    c * Ideal.div 1 (1 + Ideal.exp (-v))
        + -(-(v * c * Ideal.div 1 ((1 + Ideal.exp (-v)) * (1 + Ideal.exp (-v)))) * Ideal.exp (-v))
      = c * Ideal.div 1 (1 + Ideal.exp (-v))
        + v * c * (Ideal.div 1 (1 + Ideal.exp (-v)) * (1 - Ideal.div 1 (1 + Ideal.exp (-v)))) := by
  rw [← deriv_eq, EReal.neg_mul, neg_neg, mul_assoc]

end Cert.Sig

end
-- ==== Proof.Call2.lean ====
/- The feed-forward's input gradients: the gate's derivative and the two products behind it -/
module

public import proofs.«01_k».proof.Defs
public import proofs.«01_k».proof.Proof.Gen.Kernel2Ideal.Value
public import proofs.«01_k».proof.Proof.Gen.Reference2Ideal.Read
public import Idealize.ShloMosaic.Lib.Pointwise
public import Idealize.ShloMosaic.Lib.Tactic
public import Idealize.ShloMosaic.PureOps.Ideal.Laws
public import proofs.«01_k».proof.Proof.Sig
public import proofs.«01_k».proof.Proof.Tile
@[expose] public section

noncomputable section

namespace Cert.Call2

open Idealize.ShloMosaic Idealize.ShloMosaic.TcCoe Idealize.SL.Sem Cert.Kernel2Ideal Cert.Kernel2Ideal.Gen
open Cert.Reference2Ideal.Read

theorem hz : (![0, 0] : Fin 2 → Nat) = fun _ => 0 := funext fun a => by fin_cases a <;> rfl

/-- The gate's cotangent, a block of rows. -/
theorem dgate_eq (f : Fin 256 → Fin 4096) (a0 : FVec Ideal S4096x2816 .bf16) (a1 : FVec Ideal S4096x2816 .bf16) (a2 : FVec Ideal S4096x2816 .bf16) (x0 : Vec Ideal S256x2816 .bf16) (x1 : Vec Ideal S256x2816 .bf16) (x2 : Vec Ideal S256x2816 .bf16) (h0 : ∀ r k, x0 (ix2 r k) = a0 (ix2 (f r) k)) (h1 : ∀ r k, x1 (ix2 r k) = a1 (ix2 (f r) k)) (h2 : ∀ r k, x2 (ix2 r k) = a2 (ix2 (f r) k)) (r : Fin 256) (j : Fin 2816) :
    k0_pay8 x0 x1 x2 (ix2 r j) = val_main_v9 (F := Ideal) a0 a1 a2 (ix2 (f r) j) := by
  pointwise [k0_pay8, k0_pay6, k0_pay5, k0_pay4, k0_pay3, k0_pay2, val_main_v0, val_main_v1, val_main_v2, val_main_call0_v0, val_main_call0_v1, val_main_call0_cst, val_main_call0_v2, val_main_call0_v3, val_main_call0_cst_0, val_main_call0_v4, val_main_v5_2, val_main_call0_cst_1, val_main_call0_v6, val_main_call0_v7, val_main_v5_1, val_main_v5_0, val_main_v8, val_main_call1_v0, val_main_call1_v1, val_main_call1_v2, val_main_v9]
  simp only [h0, h1, h2, zero_sub, mul_one]
  exact Cert.Sig.dsilu _ _

/-- The up projection's cotangent, a block of rows. -/
theorem dup_eq (f : Fin 256 → Fin 4096) (a0 : FVec Ideal S4096x2816 .bf16) (a2 : FVec Ideal S4096x2816 .bf16) (x0 : Vec Ideal S256x2816 .bf16) (x2 : Vec Ideal S256x2816 .bf16) (h0 : ∀ r k, x0 (ix2 r k) = a0 (ix2 (f r) k)) (h2 : ∀ r k, x2 (ix2 r k) = a2 (ix2 (f r) k)) (r : Fin 256) (j : Fin 2816) :
    k0_pay7 x0 x2 (ix2 r j) = val_main_v7 (F := Ideal) a0 a2 (ix2 (f r) j) := by
  pointwise [k0_pay7, k0_pay6, k0_pay5, k0_pay4, k0_pay3, k0_pay2, val_main_v0, val_main_v2, val_main_call0_v0, val_main_call0_v1, val_main_call0_cst, val_main_call0_v2, val_main_call0_v3, val_main_call0_cst_0, val_main_call0_v4, val_main_v5_2, val_main_call0_cst_1, val_main_call0_v6, val_main_call0_v7, val_main_v5_1, val_main_v5_0, val_main_v7]
  simp only [h0, h2, zero_sub]

/-- The first result's rows. -/
theorem block_5 (f : Fin 256 → Fin 4096) (a0 : FVec Ideal S4096x2816 .bf16) (a1 : FVec Ideal S4096x2816 .bf16) (a2 : FVec Ideal S4096x2816 .bf16) (a3 : FVec Ideal S2816x1024 .bf16) (a4 : FVec Ideal S2816x1024 .bf16) (x0 : Vec Ideal S256x2816 .bf16) (x1 : Vec Ideal S256x2816 .bf16) (x2 : Vec Ideal S256x2816 .bf16) (x3 : Vec Ideal S2816x1024 .bf16) (x4 : Vec Ideal S2816x1024 .bf16) (h0 : ∀ r k, x0 (ix2 r k) = a0 (ix2 (f r) k)) (h1 : ∀ r k, x1 (ix2 r k) = a1 (ix2 (f r) k)) (h2 : ∀ r k, x2 (ix2 r k) = a2 (ix2 (f r) k)) (h3 : ∀ r k, x3 (ix2 r k) = a3 (ix2 r k)) (h4 : ∀ r k, x4 (ix2 r k) = a4 (ix2 r k)) (r : Fin 256) (j : Fin 1024) :
    k0_pay1 (k0_pay7 x0 x2) (k0_pay11 x0 x1 x2 x3) x4 (ix2 r j) = val_main_v13 (F := Ideal) a0 a1 a2 a3 a4 (ix2 (f r) j) := by
  pointwise [k0_pay1, k0_pay11, val_main_v3, val_main_v4, val_main_v10, val_main_v11, val_main_v12, val_main_v13]
  simp only [dgate_eq f a0 a1 a2 x0 x1 x2 h0 h1 h2, dup_eq f a0 a2 x0 x2 h0 h2, h3, h4]

theorem block_6 (f : Fin 256 → Fin 4096) (a0 : FVec Ideal S4096x2816 .bf16) (a1 : FVec Ideal S4096x2816 .bf16) (a2 : FVec Ideal S4096x2816 .bf16) (x0 : Vec Ideal S256x2816 .bf16) (x1 : Vec Ideal S256x2816 .bf16) (x2 : Vec Ideal S256x2816 .bf16) (h0 : ∀ r k, x0 (ix2 r k) = a0 (ix2 (f r) k)) (h1 : ∀ r k, x1 (ix2 r k) = a1 (ix2 (f r) k)) (h2 : ∀ r k, x2 (ix2 r k) = a2 (ix2 (f r) k)) (r : Fin 256) (j : Fin 2816) :
    k0_pay9 x0 x1 x2 (ix2 r j) = val_main_v14 (F := Ideal) a0 a1 a2 (ix2 (f r) j) :=
  dgate_eq f a0 a1 a2 x0 x1 x2 h0 h1 h2 r j

theorem block_7 (f : Fin 256 → Fin 4096) (a0 : FVec Ideal S4096x2816 .bf16) (a2 : FVec Ideal S4096x2816 .bf16) (x0 : Vec Ideal S256x2816 .bf16) (x2 : Vec Ideal S256x2816 .bf16) (h0 : ∀ r k, x0 (ix2 r k) = a0 (ix2 (f r) k)) (h2 : ∀ r k, x2 (ix2 r k) = a2 (ix2 (f r) k)) (r : Fin 256) (j : Fin 2816) :
    k0_pay10 x0 x2 (ix2 r j) = val_main_v15 (F := Ideal) a0 a2 (ix2 (f r) j) :=
  dup_eq f a0 a2 x0 x2 h0 h2 r j

variable (m : (ℓ : Loc nD τ sig) → Buf (Elt Ideal) ℓ) (c : Dev nD)

/-- Argument 0 at launch. -/
abbrev a0 : FVec Ideal S4096x2816 .bf16 := m ((c : Thread nD τ).loc main_arg0)

/-- Argument 1 at launch. -/
abbrev a1 : FVec Ideal S4096x2816 .bf16 := m ((c : Thread nD τ).loc main_arg1)

/-- Argument 2 at launch. -/
abbrev a2 : FVec Ideal S4096x2816 .bf16 := m ((c : Thread nD τ).loc main_arg2)

/-- Argument 3 at launch. -/
abbrev a3 : FVec Ideal S2816x1024 .bf16 := m ((c : Thread nD τ).loc main_arg3)

/-- Argument 4 at launch. -/
abbrev a4 : FVec Ideal S2816x1024 .bf16 := m ((c : Thread nD τ).loc main_arg4)

/-- Row `r` of tile `t`. -/
def row (t : Fin cfg0.N) (r : Fin 256) : Fin 4096 := ⟨t.val * 256 + r.val, by
  have := t.isLt; have h : cfg0.N = 16 := N_0; omega⟩

/-- Which block each window reads or writes at a point. -/
theorem idx_at : ∀ t : Fin cfg0.N, (win0_0.index t 0 = t.val ∧ win0_0.index t 1 = 0) ∧ (win0_1.index t 0 = t.val ∧ win0_1.index t 1 = 0) ∧ (win0_2.index t 0 = t.val ∧ win0_2.index t 1 = 0) ∧ (win0_3.index t 0 = 0 ∧ win0_3.index t 1 = 0) ∧ (win0_4.index t 0 = 0 ∧ win0_4.index t 1 = 0) ∧ (win0_5.index t 0 = t.val ∧ win0_5.index t 1 = 0) ∧ (win0_6.index t 0 = t.val ∧ win0_6.index t 1 = 0) ∧ (win0_7.index t 0 = t.val ∧ win0_7.index t 1 = 0) :=
  (by decide +kernel : ∀ t : Fin grid0.N, _)

theorem iblk0 (t : Fin cfg0.N) (r : Fin 256) (j : Fin 2816) : iblk m c 0 t (ix2 r j) = a0 m c (ix2 (row t r) j) := by
  have hi := (idx_at t).1
  unfold iblk
  rw [View.read_apply]
  show V m c main_arg0 _ = m (c.tc.loc main_arg0) _
  unfold V
  congr 1
  funext a
  apply Fin.ext
  match a with
  | ⟨0, _⟩ => show win0_0.index t 0 * 256 + 1 * r.val = t.val * 256 + r.val; rw [hi.1]; omega
  | ⟨1, _⟩ => show win0_0.index t 1 * 2816 + 1 * j.val = j.val; rw [hi.2]; omega

theorem iblk1 (t : Fin cfg0.N) (r : Fin 256) (j : Fin 2816) : iblk m c 1 t (ix2 r j) = a1 m c (ix2 (row t r) j) := by
  have hi := (idx_at t).2.1
  unfold iblk
  rw [View.read_apply]
  show V m c main_arg1 _ = m (c.tc.loc main_arg1) _
  unfold V
  congr 1
  funext a
  apply Fin.ext
  match a with
  | ⟨0, _⟩ => show win0_1.index t 0 * 256 + 1 * r.val = t.val * 256 + r.val; rw [hi.1]; omega
  | ⟨1, _⟩ => show win0_1.index t 1 * 2816 + 1 * j.val = j.val; rw [hi.2]; omega

theorem iblk2 (t : Fin cfg0.N) (r : Fin 256) (j : Fin 2816) : iblk m c 2 t (ix2 r j) = a2 m c (ix2 (row t r) j) := by
  have hi := (idx_at t).2.2.1
  unfold iblk
  rw [View.read_apply]
  show V m c main_arg2 _ = m (c.tc.loc main_arg2) _
  unfold V
  congr 1
  funext a
  apply Fin.ext
  match a with
  | ⟨0, _⟩ => show win0_2.index t 0 * 256 + 1 * r.val = t.val * 256 + r.val; rw [hi.1]; omega
  | ⟨1, _⟩ => show win0_2.index t 1 * 2816 + 1 * j.val = j.val; rw [hi.2]; omega

theorem iblk3 (t : Fin cfg0.N) (r : Fin 2816) (j : Fin 1024) : iblk m c 3 t (ix2 r j) = a3 m c (ix2 r j) := by
  have hi := (idx_at t).2.2.2.1
  unfold iblk
  rw [View.read_apply]
  show V m c main_arg3 _ = m (c.tc.loc main_arg3) _
  unfold V
  congr 1
  funext a
  apply Fin.ext
  match a with
  | ⟨0, _⟩ => show win0_3.index t 0 * 2816 + 1 * r.val = r.val; rw [hi.1]; omega
  | ⟨1, _⟩ => show win0_3.index t 1 * 1024 + 1 * j.val = j.val; rw [hi.2]; omega

theorem iblk4 (t : Fin cfg0.N) (r : Fin 2816) (j : Fin 1024) : iblk m c 4 t (ix2 r j) = a4 m c (ix2 r j) := by
  have hi := (idx_at t).2.2.2.2.1
  unfold iblk
  rw [View.read_apply]
  show V m c main_arg4 _ = m (c.tc.loc main_arg4) _
  unfold V
  congr 1
  funext a
  apply Fin.ext
  match a with
  | ⟨0, _⟩ => show win0_4.index t 0 * 2816 + 1 * r.val = r.val; rw [hi.1]; omega
  | ⟨1, _⟩ => show win0_4.index t 1 * 1024 + 1 * j.val = j.val; rw [hi.2]; omega

/-- What a point leaves in this window is the reference's rows of its tile. -/
theorem point_5 (t : Fin cfg0.N) (r : Fin 256) (j : Fin 1024) :
    out0_5 (iblk m c 0 t) (iblk m c 1 t) (iblk m c 2 t) (iblk m c 3 t) (iblk m c 4 t) (ix2 r j) = val_main_v13 (F := Ideal) (a0 m c) (a1 m c) (a2 m c) (a3 m c) (a4 m c) (ix2 (row t r) j) := by
  unfold out0_5
  rw [View.canon_unit_zero hz]
  simp only [View.ld_unit_zero (S := S256x2816) hz, View.ld_unit_zero (S := S2816x1024) hz]
  exact block_5 (row t) (a0 m c) (a1 m c) (a2 m c) (a3 m c) (a4 m c) (iblk m c 0 t) (iblk m c 1 t) (iblk m c 2 t) (iblk m c 3 t) (iblk m c 4 t) (fun r k => iblk0 m c t r k) (fun r k => iblk1 m c t r k) (fun r k => iblk2 m c t r k) (fun r k => iblk3 m c t r k) (fun r k => iblk4 m c t r k) r j

/-- The array this window ends with. -/
theorem final_5 : (dats m 0 c).arrAt 5 cfg0.N = val_main_v13 (F := Ideal) (a0 m c) (a1 m c) (a2 m c) (a3 m c) (a4 m c) := by
  have hN : cfg0.N = 16 := N_0
  refine (dats m 0 c).arrAt_eq_of_cover 5 _ (fun t _ => ?_) fun i => ?_
  · have hi := (idx_at t).2.2.2.2.2.1
    rw [Cert.Kernel2Ideal.Value.flushed5]
    funext j
    obtain ⟨r, x, rfl⟩ : ∃ r x, j = ix2 r x := ⟨j 0, j 1, by idx_vars j⟩
    rw [View.read_apply]
    refine (point_5 m c t r x).trans ?_
    congr 1
    funext a
    apply Fin.ext
    match a with
    | ⟨0, _⟩ => show t.val * 256 + r.val = win0_5.index t 0 * 256 + 1 * r.val; rw [hi.1]; omega
    | ⟨1, _⟩ => show x.val = win0_5.index t 1 * 1024 + 1 * x.val; rw [hi.2]; omega
  · have h0 : (i 0 : Nat) < 4096 := (i 0).isLt
    have h1 : (i 1 : Nat) < 1024 := (i 1).isLt
    obtain ⟨t, ht⟩ : ∃ t : Fin cfg0.N, t.val = (i 0 : Nat) / 256 := ⟨⟨(i 0 : Nat) / 256, by omega⟩, rfl⟩
    refine ⟨t, flush0_5 _, ?_⟩
    have hi := (idx_at t).2.2.2.2.2.1
    show i ∈ ((View.whole main_v0_0).slice (win0_5.rect t)).set
    rw [View.set_slice_whole, Rect.mem_set_unit]
    intro a
    match a with
    | ⟨0, _⟩ => exact Cert.Tile.mem 256 (i 0) hi.1 (by omega)
    | ⟨1, _⟩ => exact Cert.Tile.mem 1024 (i 1) hi.2 (by omega)

/-- What a point leaves in this window is the reference's rows of its tile. -/
theorem point_6 (t : Fin cfg0.N) (r : Fin 256) (j : Fin 2816) :
    out0_6 (iblk m c 0 t) (iblk m c 1 t) (iblk m c 2 t) (iblk m c 3 t) (iblk m c 4 t) (ix2 r j) = val_main_v14 (F := Ideal) (a0 m c) (a1 m c) (a2 m c) (ix2 (row t r) j) := by
  unfold out0_6
  rw [View.canon_unit_zero hz]
  simp only [View.ld_unit_zero (S := S256x2816) hz, View.ld_unit_zero (S := S2816x1024) hz]
  exact block_6 (row t) (a0 m c) (a1 m c) (a2 m c) (iblk m c 0 t) (iblk m c 1 t) (iblk m c 2 t) (fun r k => iblk0 m c t r k) (fun r k => iblk1 m c t r k) (fun r k => iblk2 m c t r k) r j

/-- The array this window ends with. -/
theorem final_6 : (dats m 0 c).arrAt 6 cfg0.N = val_main_v14 (F := Ideal) (a0 m c) (a1 m c) (a2 m c) := by
  have hN : cfg0.N = 16 := N_0
  refine (dats m 0 c).arrAt_eq_of_cover 6 _ (fun t _ => ?_) fun i => ?_
  · have hi := (idx_at t).2.2.2.2.2.2.1
    rw [Cert.Kernel2Ideal.Value.flushed6]
    funext j
    obtain ⟨r, x, rfl⟩ : ∃ r x, j = ix2 r x := ⟨j 0, j 1, by idx_vars j⟩
    rw [View.read_apply]
    refine (point_6 m c t r x).trans ?_
    congr 1
    funext a
    apply Fin.ext
    match a with
    | ⟨0, _⟩ => show t.val * 256 + r.val = win0_6.index t 0 * 256 + 1 * r.val; rw [hi.1]; omega
    | ⟨1, _⟩ => show x.val = win0_6.index t 1 * 2816 + 1 * x.val; rw [hi.2]; omega
  · have h0 : (i 0 : Nat) < 4096 := (i 0).isLt
    have h1 : (i 1 : Nat) < 2816 := (i 1).isLt
    obtain ⟨t, ht⟩ : ∃ t : Fin cfg0.N, t.val = (i 0 : Nat) / 256 := ⟨⟨(i 0 : Nat) / 256, by omega⟩, rfl⟩
    refine ⟨t, flush0_6 _, ?_⟩
    have hi := (idx_at t).2.2.2.2.2.2.1
    show i ∈ ((View.whole main_v0_1).slice (win0_6.rect t)).set
    rw [View.set_slice_whole, Rect.mem_set_unit]
    intro a
    match a with
    | ⟨0, _⟩ => exact Cert.Tile.mem 256 (i 0) hi.1 (by omega)
    | ⟨1, _⟩ => exact Cert.Tile.mem 2816 (i 1) hi.2 (by omega)

/-- What a point leaves in this window is the reference's rows of its tile. -/
theorem point_7 (t : Fin cfg0.N) (r : Fin 256) (j : Fin 2816) :
    out0_7 (iblk m c 0 t) (iblk m c 1 t) (iblk m c 2 t) (iblk m c 3 t) (iblk m c 4 t) (ix2 r j) = val_main_v15 (F := Ideal) (a0 m c) (a2 m c) (ix2 (row t r) j) := by
  unfold out0_7
  rw [View.canon_unit_zero hz]
  simp only [View.ld_unit_zero (S := S256x2816) hz, View.ld_unit_zero (S := S2816x1024) hz]
  exact block_7 (row t) (a0 m c) (a2 m c) (iblk m c 0 t) (iblk m c 2 t) (fun r k => iblk0 m c t r k) (fun r k => iblk2 m c t r k) r j

/-- The array this window ends with. -/
theorem final_7 : (dats m 0 c).arrAt 7 cfg0.N = val_main_v15 (F := Ideal) (a0 m c) (a2 m c) := by
  have hN : cfg0.N = 16 := N_0
  refine (dats m 0 c).arrAt_eq_of_cover 7 _ (fun t _ => ?_) fun i => ?_
  · have hi := (idx_at t).2.2.2.2.2.2.2
    rw [Cert.Kernel2Ideal.Value.flushed7]
    funext j
    obtain ⟨r, x, rfl⟩ : ∃ r x, j = ix2 r x := ⟨j 0, j 1, by idx_vars j⟩
    rw [View.read_apply]
    refine (point_7 m c t r x).trans ?_
    congr 1
    funext a
    apply Fin.ext
    match a with
    | ⟨0, _⟩ => show t.val * 256 + r.val = win0_7.index t 0 * 256 + 1 * r.val; rw [hi.1]; omega
    | ⟨1, _⟩ => show x.val = win0_7.index t 1 * 2816 + 1 * x.val; rw [hi.2]; omega
  · have h0 : (i 0 : Nat) < 4096 := (i 0).isLt
    have h1 : (i 1 : Nat) < 2816 := (i 1).isLt
    obtain ⟨t, ht⟩ : ∃ t : Fin cfg0.N, t.val = (i 0 : Nat) / 256 := ⟨⟨(i 0 : Nat) / 256, by omega⟩, rfl⟩
    refine ⟨t, flush0_7 _, ?_⟩
    have hi := (idx_at t).2.2.2.2.2.2.2
    show i ∈ ((View.whole main_v0_2).slice (win0_7.rect t)).set
    rw [View.set_slice_whole, Rect.mem_set_unit]
    intro a
    match a with
    | ⟨0, _⟩ => exact Cert.Tile.mem 256 (i 0) hi.1 (by omega)
    | ⟨1, _⟩ => exact Cert.Tile.mem 2816 (i 1) hi.2 (by omega)

/-- From memories that agree on the arguments, the kernel and the reference end with the same arrays. -/
theorem equal : Cert.algebraic_Kernel2Ideal_Reference2Ideal := by
  intro m g m' g' _ hargs
  refine ⟨fun c => val_main_v13 (F := Ideal) (a0 m c) (a1 m c) (a2 m c) (a3 m c) (a4 m c), fun c => val_main_v14 (F := Ideal) (a0 m c) (a1 m c) (a2 m c), fun c => val_main_v15 (F := Ideal) (a0 m c) (a2 m c), ?_, ?_⟩
  · refine (θ_run _ _ _).mono (fun r h c => ?_) (Cert.Kernel2Ideal.Value.run_blocks (F := Ideal) m g)
    obtain ⟨h0, h1, h2, h3⟩ := h c
    exact ⟨h0.trans (final_5 m c), h1.trans (final_6 m c), h2.trans (final_7 m c), h3⟩
  · refine (θ_run _ _ _).mono (fun r h c => ?_) (Cert.Reference2Ideal.Value.run (F := Ideal) m' g')
    obtain ⟨e0, e1, e2, e3, e4⟩ := hargs c
    obtain ⟨h0, h1, h2, h3⟩ := h c
    rw [val_main_v13_eq] at h0
    rw [e0, e1, e2, e3, e4] at h0
    rw [val_main_v14_eq] at h1
    rw [e0, e1, e2] at h1
    rw [val_main_v15_eq] at h2
    rw [e0, e2] at h2
    exact ⟨h0, h1, h2, h3⟩

end Cert.Call2

end
-- ==== Proof.Call3.lean ====
/- The feed-forward's gate and up projections and the gated activation -/
module

public import proofs.«01_k».proof.Defs
public import proofs.«01_k».proof.Proof.Gen.Kernel3Ideal.Value
public import proofs.«01_k».proof.Proof.Gen.Reference3Ideal.Read
public import Idealize.ShloMosaic.Lib.Pointwise
public import Idealize.ShloMosaic.Lib.Tactic
public import Idealize.ShloMosaic.PureOps.Ideal.Laws
public import proofs.«01_k».proof.Proof.Tile

@[expose] public section

noncomputable section

namespace Cert.Call3

open Idealize.ShloMosaic Idealize.ShloMosaic.TcCoe Idealize.SL.Sem Cert.Kernel3Ideal Cert.Kernel3Ideal.Gen
open Cert.Reference3Ideal.Read

theorem hz : (![0, 0] : Fin 2 → Nat) = fun _ => 0 := funext fun a => by fin_cases a <;> rfl

/-- The gate projection's rows. -/
theorem gate_eq (f : Fin 256 → Fin 4096) (a0 : FVec Ideal S4096x1024 .bf16) (a1 : FVec Ideal S2816x1024 .bf16) (x0 : Vec Ideal S256x1024 .bf16) (x1 : Vec Ideal S2816x1024 .bf16) (h0 : ∀ r k, x0 (ix2 r k) = a0 (ix2 (f r) k)) (h1 : ∀ r k, x1 (ix2 r k) = a1 (ix2 r k)) (r : Fin 256) (j : Fin 2816) :
    k0_pay1 x0 x1 (ix2 r j) = val_main_v4 (F := Ideal) a0 a1 (ix2 (f r) j) := by
  pointwise [k0_pay1, val_main_v0, val_main_v1, val_main_v3, val_main_v4]
  simp only [h0, h1]

/-- The up projection's rows. -/
theorem up_eq (f : Fin 256 → Fin 4096) (a0 : FVec Ideal S4096x1024 .bf16) (a2 : FVec Ideal S2816x1024 .bf16) (x0 : Vec Ideal S256x1024 .bf16) (x2 : Vec Ideal S2816x1024 .bf16) (h0 : ∀ r k, x0 (ix2 r k) = a0 (ix2 (f r) k)) (h2 : ∀ r k, x2 (ix2 r k) = a2 (ix2 r k)) (r : Fin 256) (j : Fin 2816) :
    k0_pay2 x0 x2 (ix2 r j) = val_main_v6 (F := Ideal) a0 a2 (ix2 (f r) j) := by
  pointwise [k0_pay2, val_main_v0, val_main_v2, val_main_v5, val_main_v6]
  simp only [h0, h2]

theorem block_3 (f : Fin 256 → Fin 4096) (a0 : FVec Ideal S4096x1024 .bf16) (a1 : FVec Ideal S2816x1024 .bf16) (x0 : Vec Ideal S256x1024 .bf16) (x1 : Vec Ideal S2816x1024 .bf16) (h0 : ∀ r k, x0 (ix2 r k) = a0 (ix2 (f r) k)) (h1 : ∀ r k, x1 (ix2 r k) = a1 (ix2 r k)) (r : Fin 256) (j : Fin 2816) :
    k0_pay3 x0 x1 (ix2 r j) = val_main_v9 (F := Ideal) a0 a1 (ix2 (f r) j) := gate_eq f a0 a1 x0 x1 h0 h1 r j

theorem block_4 (f : Fin 256 → Fin 4096) (a0 : FVec Ideal S4096x1024 .bf16) (a2 : FVec Ideal S2816x1024 .bf16) (x0 : Vec Ideal S256x1024 .bf16) (x2 : Vec Ideal S2816x1024 .bf16) (h0 : ∀ r k, x0 (ix2 r k) = a0 (ix2 (f r) k)) (h2 : ∀ r k, x2 (ix2 r k) = a2 (ix2 r k)) (r : Fin 256) (j : Fin 2816) :
    k0_pay4 x0 x2 (ix2 r j) = val_main_v10 (F := Ideal) a0 a2 (ix2 (f r) j) := up_eq f a0 a2 x0 x2 h0 h2 r j

/-- The gated activation's rows. -/
theorem block_5 (f : Fin 256 → Fin 4096) (a0 : FVec Ideal S4096x1024 .bf16) (a1 : FVec Ideal S2816x1024 .bf16) (a2 : FVec Ideal S2816x1024 .bf16) (x0 : Vec Ideal S256x1024 .bf16) (x1 : Vec Ideal S2816x1024 .bf16) (x2 : Vec Ideal S2816x1024 .bf16) (h0 : ∀ r k, x0 (ix2 r k) = a0 (ix2 (f r) k)) (h1 : ∀ r k, x1 (ix2 r k) = a1 (ix2 r k)) (h2 : ∀ r k, x2 (ix2 r k) = a2 (ix2 r k)) (r : Fin 256) (j : Fin 2816) :
    k0_pay5 x0 x1 x2 (ix2 r j) = val_main_v11 (F := Ideal) a0 a1 a2 (ix2 (f r) j) := by
  pointwise [k0_pay5, val_main_call0_v0, val_main_call0_v1, val_main_call0_cst, val_main_call0_v2, val_main_call0_v3, val_main_call0_cst_0, val_main_call0_v4, val_main_call0_v5, val_main_v7, val_main_v8, val_main_v11]
  simp only [gate_eq f a0 a1 x0 x1 h0 h1, up_eq f a0 a2 x0 x2 h0 h2, zero_sub]

variable (m : (ℓ : Loc nD τ sig) → Buf (Elt Ideal) ℓ) (c : Dev nD)

/-- Argument 0 at launch. -/
abbrev a0 : FVec Ideal S4096x1024 .bf16 := m ((c : Thread nD τ).loc main_arg0)

/-- Argument 1 at launch. -/
abbrev a1 : FVec Ideal S2816x1024 .bf16 := m ((c : Thread nD τ).loc main_arg1)

/-- Argument 2 at launch. -/
abbrev a2 : FVec Ideal S2816x1024 .bf16 := m ((c : Thread nD τ).loc main_arg2)

/-- Row `r` of tile `t`. -/
def row (t : Fin cfg0.N) (r : Fin 256) : Fin 4096 := ⟨t.val * 256 + r.val, by
  have := t.isLt; have h : cfg0.N = 16 := N_0; omega⟩

/-- Which block each window reads or writes at a point. -/
theorem idx_at : ∀ t : Fin cfg0.N, (win0_0.index t 0 = t.val ∧ win0_0.index t 1 = 0) ∧ (win0_1.index t 0 = 0 ∧ win0_1.index t 1 = 0) ∧ (win0_2.index t 0 = 0 ∧ win0_2.index t 1 = 0) ∧ (win0_3.index t 0 = t.val ∧ win0_3.index t 1 = 0) ∧ (win0_4.index t 0 = t.val ∧ win0_4.index t 1 = 0) ∧ (win0_5.index t 0 = t.val ∧ win0_5.index t 1 = 0) :=
  (by decide +kernel : ∀ t : Fin grid0.N, _)

theorem iblk0 (t : Fin cfg0.N) (r : Fin 256) (j : Fin 1024) : iblk m c 0 t (ix2 r j) = a0 m c (ix2 (row t r) j) := by
  have hi := (idx_at t).1
  unfold iblk
  rw [View.read_apply]
  show V m c main_arg0 _ = m (c.tc.loc main_arg0) _
  unfold V
  congr 1
  funext a
  apply Fin.ext
  match a with
  | ⟨0, _⟩ => show win0_0.index t 0 * 256 + 1 * r.val = t.val * 256 + r.val; rw [hi.1]; omega
  | ⟨1, _⟩ => show win0_0.index t 1 * 1024 + 1 * j.val = j.val; rw [hi.2]; omega

theorem iblk1 (t : Fin cfg0.N) (r : Fin 2816) (j : Fin 1024) : iblk m c 1 t (ix2 r j) = a1 m c (ix2 r j) := by
  have hi := (idx_at t).2.1
  unfold iblk
  rw [View.read_apply]
  show V m c main_arg1 _ = m (c.tc.loc main_arg1) _
  unfold V
  congr 1
  funext a
  apply Fin.ext
  match a with
  | ⟨0, _⟩ => show win0_1.index t 0 * 2816 + 1 * r.val = r.val; rw [hi.1]; omega
  | ⟨1, _⟩ => show win0_1.index t 1 * 1024 + 1 * j.val = j.val; rw [hi.2]; omega

theorem iblk2 (t : Fin cfg0.N) (r : Fin 2816) (j : Fin 1024) : iblk m c 2 t (ix2 r j) = a2 m c (ix2 r j) := by
  have hi := (idx_at t).2.2.1
  unfold iblk
  rw [View.read_apply]
  show V m c main_arg2 _ = m (c.tc.loc main_arg2) _
  unfold V
  congr 1
  funext a
  apply Fin.ext
  match a with
  | ⟨0, _⟩ => show win0_2.index t 0 * 2816 + 1 * r.val = r.val; rw [hi.1]; omega
  | ⟨1, _⟩ => show win0_2.index t 1 * 1024 + 1 * j.val = j.val; rw [hi.2]; omega

/-- What a point leaves in this window is the reference's rows of its tile. -/
theorem point_3 (t : Fin cfg0.N) (r : Fin 256) (j : Fin 2816) :
    out0_3 (iblk m c 0 t) (iblk m c 1 t) (iblk m c 2 t) (ix2 r j) = val_main_v9 (F := Ideal) (a0 m c) (a1 m c) (ix2 (row t r) j) := by
  unfold out0_3
  rw [View.canon_unit_zero hz]
  simp only [View.ld_unit_zero (S := S256x1024) hz, View.ld_unit_zero (S := S2816x1024) hz]
  exact block_3 (row t) (a0 m c) (a1 m c) (iblk m c 0 t) (iblk m c 1 t) (fun r k => iblk0 m c t r k) (fun r k => iblk1 m c t r k) r j

/-- The array this window ends with. -/
theorem final_3 : (dats m 0 c).arrAt 3 cfg0.N = val_main_v9 (F := Ideal) (a0 m c) (a1 m c) := by
  have hN : cfg0.N = 16 := N_0
  refine (dats m 0 c).arrAt_eq_of_cover 3 _ (fun t _ => ?_) fun i => ?_
  · have hi := (idx_at t).2.2.2.1
    rw [Cert.Kernel3Ideal.Value.flushed3]
    funext j
    obtain ⟨r, x, rfl⟩ : ∃ r x, j = ix2 r x := ⟨j 0, j 1, by idx_vars j⟩
    rw [View.read_apply]
    refine (point_3 m c t r x).trans ?_
    congr 1
    funext a
    apply Fin.ext
    match a with
    | ⟨0, _⟩ => show t.val * 256 + r.val = win0_3.index t 0 * 256 + 1 * r.val; rw [hi.1]; omega
    | ⟨1, _⟩ => show x.val = win0_3.index t 1 * 2816 + 1 * x.val; rw [hi.2]; omega
  · have h0 : (i 0 : Nat) < 4096 := (i 0).isLt
    have h1 : (i 1 : Nat) < 2816 := (i 1).isLt
    obtain ⟨t, ht⟩ : ∃ t : Fin cfg0.N, t.val = (i 0 : Nat) / 256 := ⟨⟨(i 0 : Nat) / 256, by omega⟩, rfl⟩
    refine ⟨t, flush0_3 _, ?_⟩
    have hi := (idx_at t).2.2.2.1
    show i ∈ ((View.whole main_v0_0).slice (win0_3.rect t)).set
    rw [View.set_slice_whole, Rect.mem_set_unit]
    intro a
    match a with
    | ⟨0, _⟩ => exact Cert.Tile.mem 256 (i 0) hi.1 (by omega)
    | ⟨1, _⟩ => exact Cert.Tile.mem 2816 (i 1) hi.2 (by omega)

/-- What a point leaves in this window is the reference's rows of its tile. -/
theorem point_4 (t : Fin cfg0.N) (r : Fin 256) (j : Fin 2816) :
    out0_4 (iblk m c 0 t) (iblk m c 1 t) (iblk m c 2 t) (ix2 r j) = val_main_v10 (F := Ideal) (a0 m c) (a2 m c) (ix2 (row t r) j) := by
  unfold out0_4
  rw [View.canon_unit_zero hz]
  simp only [View.ld_unit_zero (S := S256x1024) hz, View.ld_unit_zero (S := S2816x1024) hz]
  exact block_4 (row t) (a0 m c) (a2 m c) (iblk m c 0 t) (iblk m c 2 t) (fun r k => iblk0 m c t r k) (fun r k => iblk2 m c t r k) r j

/-- The array this window ends with. -/
theorem final_4 : (dats m 0 c).arrAt 4 cfg0.N = val_main_v10 (F := Ideal) (a0 m c) (a2 m c) := by
  have hN : cfg0.N = 16 := N_0
  refine (dats m 0 c).arrAt_eq_of_cover 4 _ (fun t _ => ?_) fun i => ?_
  · have hi := (idx_at t).2.2.2.2.1
    rw [Cert.Kernel3Ideal.Value.flushed4]
    funext j
    obtain ⟨r, x, rfl⟩ : ∃ r x, j = ix2 r x := ⟨j 0, j 1, by idx_vars j⟩
    rw [View.read_apply]
    refine (point_4 m c t r x).trans ?_
    congr 1
    funext a
    apply Fin.ext
    match a with
    | ⟨0, _⟩ => show t.val * 256 + r.val = win0_4.index t 0 * 256 + 1 * r.val; rw [hi.1]; omega
    | ⟨1, _⟩ => show x.val = win0_4.index t 1 * 2816 + 1 * x.val; rw [hi.2]; omega
  · have h0 : (i 0 : Nat) < 4096 := (i 0).isLt
    have h1 : (i 1 : Nat) < 2816 := (i 1).isLt
    obtain ⟨t, ht⟩ : ∃ t : Fin cfg0.N, t.val = (i 0 : Nat) / 256 := ⟨⟨(i 0 : Nat) / 256, by omega⟩, rfl⟩
    refine ⟨t, flush0_4 _, ?_⟩
    have hi := (idx_at t).2.2.2.2.1
    show i ∈ ((View.whole main_v0_1).slice (win0_4.rect t)).set
    rw [View.set_slice_whole, Rect.mem_set_unit]
    intro a
    match a with
    | ⟨0, _⟩ => exact Cert.Tile.mem 256 (i 0) hi.1 (by omega)
    | ⟨1, _⟩ => exact Cert.Tile.mem 2816 (i 1) hi.2 (by omega)

/-- What a point leaves in this window is the reference's rows of its tile. -/
theorem point_5 (t : Fin cfg0.N) (r : Fin 256) (j : Fin 2816) :
    out0_5 (iblk m c 0 t) (iblk m c 1 t) (iblk m c 2 t) (ix2 r j) = val_main_v11 (F := Ideal) (a0 m c) (a1 m c) (a2 m c) (ix2 (row t r) j) := by
  unfold out0_5
  rw [View.canon_unit_zero hz]
  simp only [View.ld_unit_zero (S := S256x1024) hz, View.ld_unit_zero (S := S2816x1024) hz]
  exact block_5 (row t) (a0 m c) (a1 m c) (a2 m c) (iblk m c 0 t) (iblk m c 1 t) (iblk m c 2 t) (fun r k => iblk0 m c t r k) (fun r k => iblk1 m c t r k) (fun r k => iblk2 m c t r k) r j

/-- The array this window ends with. -/
theorem final_5 : (dats m 0 c).arrAt 5 cfg0.N = val_main_v11 (F := Ideal) (a0 m c) (a1 m c) (a2 m c) := by
  have hN : cfg0.N = 16 := N_0
  refine (dats m 0 c).arrAt_eq_of_cover 5 _ (fun t _ => ?_) fun i => ?_
  · have hi := (idx_at t).2.2.2.2.2
    rw [Cert.Kernel3Ideal.Value.flushed5]
    funext j
    obtain ⟨r, x, rfl⟩ : ∃ r x, j = ix2 r x := ⟨j 0, j 1, by idx_vars j⟩
    rw [View.read_apply]
    refine (point_5 m c t r x).trans ?_
    congr 1
    funext a
    apply Fin.ext
    match a with
    | ⟨0, _⟩ => show t.val * 256 + r.val = win0_5.index t 0 * 256 + 1 * r.val; rw [hi.1]; omega
    | ⟨1, _⟩ => show x.val = win0_5.index t 1 * 2816 + 1 * x.val; rw [hi.2]; omega
  · have h0 : (i 0 : Nat) < 4096 := (i 0).isLt
    have h1 : (i 1 : Nat) < 2816 := (i 1).isLt
    obtain ⟨t, ht⟩ : ∃ t : Fin cfg0.N, t.val = (i 0 : Nat) / 256 := ⟨⟨(i 0 : Nat) / 256, by omega⟩, rfl⟩
    refine ⟨t, flush0_5 _, ?_⟩
    have hi := (idx_at t).2.2.2.2.2
    show i ∈ ((View.whole main_v0_2).slice (win0_5.rect t)).set
    rw [View.set_slice_whole, Rect.mem_set_unit]
    intro a
    match a with
    | ⟨0, _⟩ => exact Cert.Tile.mem 256 (i 0) hi.1 (by omega)
    | ⟨1, _⟩ => exact Cert.Tile.mem 2816 (i 1) hi.2 (by omega)

/-- From memories that agree on the arguments, the kernel and the reference end with the same arrays. -/
theorem equal : Cert.algebraic_Kernel3Ideal_Reference3Ideal := by
  intro m g m' g' _ hargs
  refine ⟨fun c => val_main_v9 (F := Ideal) (a0 m c) (a1 m c), fun c => val_main_v10 (F := Ideal) (a0 m c) (a2 m c), fun c => val_main_v11 (F := Ideal) (a0 m c) (a1 m c) (a2 m c), ?_, ?_⟩
  · refine (θ_run _ _ _).mono (fun r h c => ?_) (Cert.Kernel3Ideal.Value.run_blocks (F := Ideal) m g)
    obtain ⟨h0, h1, h2, h3⟩ := h c
    exact ⟨h0.trans (final_3 m c), h1.trans (final_4 m c), h2.trans (final_5 m c), h3⟩
  · refine (θ_run _ _ _).mono (fun r h c => ?_) (Cert.Reference3Ideal.Value.run (F := Ideal) m' g')
    obtain ⟨e0, e1, e2⟩ := hargs c
    obtain ⟨h0, h1, h2, h3⟩ := h c
    rw [val_main_v9_eq] at h0
    rw [e0, e1] at h0
    rw [val_main_v10_eq] at h1
    rw [e0, e2] at h1
    rw [val_main_v11_eq] at h2
    rw [e0, e1, e2] at h2
    exact ⟨h0, h1, h2, h3⟩

end Cert.Call3

end
-- ==== Proof.Call4.lean ====
/- The input projection's input gradient: five products added up -/
module

public import proofs.«01_k».proof.Defs
public import proofs.«01_k».proof.Proof.Gen.Kernel4Ideal.Value
public import proofs.«01_k».proof.Proof.Gen.Reference4Ideal.Read
public import Idealize.ShloMosaic.Lib.Pointwise
public import Idealize.ShloMosaic.Lib.Tactic
public import Idealize.ShloMosaic.Lib.Pipeline.ValueKit.Tiles
public import Idealize.ShloMosaic.PureOps.Ideal.Laws
public import proofs.«01_k».proof.Proof.Tile

@[expose] public section

noncomputable section

namespace Cert.Call4

open Idealize.ShloMosaic Idealize.ShloMosaic.TcCoe Idealize.SL.Sem Cert.Kernel4Ideal Cert.Kernel4Ideal.Gen
open Cert.Reference4Ideal.Read

theorem hz : (![0, 0] : Fin 2 → Nat) = fun _ => 0 := funext fun a => by fin_cases a <;> rfl

/-- A sum over 128 columns whose last 112 weights are zero is the sum over the first 16. -/
theorem sum_pad (g w : Fin 128 → EReal) (u : Fin 16 → EReal) (h : ∀ k : Fin 128, w k = if h : k.val < 16 then u ⟨k.val, h⟩ else 0) :
    (∑ k : Fin 128, g k * w k) = ∑ k : Fin 16, g ⟨k.val, by omega⟩ * u k := by
  rw [show (∑ k : Fin 128, g k * w k) = (∑ k : Fin (16 + 112), g k * w k) from rfl, Fin.sum_univ_add]
  have h1 : ∀ k : Fin 112, w (Fin.natAdd 16 k) = 0 := fun k => by
    rw [h, dif_neg]; simp
  have h2 : ∀ k : Fin 16, w (Fin.castAdd 112 k) = u k := fun k => by
    rw [h, dif_pos (show (Fin.castAdd 112 k).val < 16 from k.isLt)]; rfl
  simp only [h1, h2, mul_zero, Finset.sum_const_zero, add_zero]
  rfl

/-- A sum against a concatenation of two pieces is the sum of the two pieces' sums. -/
theorem sum_cat (p q n : Nat) (hn : n = p + q) (u : Fin p → EReal) (v : Fin q → EReal) (w : Fin n → EReal) :
    (∑ x : Fin n, (if h : x.val < p then u ⟨x.val, h⟩ else v ⟨x.val - p, by omega⟩) * w x)
      = (∑ k : Fin p, u k * w ⟨k.val, by omega⟩) + ∑ k : Fin q, v k * w ⟨p + k.val, by omega⟩ := by
  subst hn
  rw [Fin.sum_univ_add]
  congr 1
  · refine Finset.sum_congr rfl fun k _ => ?_
    rw [dif_pos (show (Fin.castAdd q k).val < p from k.isLt)]
    rfl
  · refine Finset.sum_congr rfl fun k _ => ?_
    rw [dif_neg (show ¬ (Fin.natAdd p k).val < p by simp)]
    congr 2
    exact Fin.ext (by simp)

/-- A load of 1024 rows from row 0. -/
theorem ld_3 (x : Vec Ideal S4624x1024 .bf16) (r : Fin 1024) (k : Fin 1024) :
    View.ld x r0_3 (ix2 r k) = x (ix2 ⟨0 + r.val, by omega⟩ k) :=
  View.ld_unit_apply_of x _ _ _ _ _ fun a => match a with
    | ⟨0, _⟩ => rfl
    | ⟨1, _⟩ => (Nat.zero_add _).symm

/-- A load of 1536 rows from row 1024. -/
theorem ld_4 (x : Vec Ideal S4624x1024 .bf16) (r : Fin 1536) (k : Fin 1024) :
    View.ld x r0_4 (ix2 r k) = x (ix2 ⟨1024 + r.val, by omega⟩ k) :=
  View.ld_unit_apply_of x _ _ _ _ _ fun a => match a with
    | ⟨0, _⟩ => rfl
    | ⟨1, _⟩ => (Nat.zero_add _).symm

/-- A load of 1024 rows from row 2576. -/
theorem ld_6 (x : Vec Ideal S4624x1024 .bf16) (r : Fin 1024) (k : Fin 1024) :
    View.ld x r0_6 (ix2 r k) = x (ix2 ⟨2576 + r.val, by omega⟩ k) :=
  View.ld_unit_apply_of x _ _ _ _ _ fun a => match a with
    | ⟨0, _⟩ => rfl
    | ⟨1, _⟩ => (Nat.zero_add _).symm

/-- A load of 1024 rows from row 3600. -/
theorem ld_7 (x : Vec Ideal S4624x1024 .bf16) (r : Fin 1024) (k : Fin 1024) :
    View.ld x r0_7 (ix2 r k) = x (ix2 ⟨3600 + r.val, by omega⟩ k) :=
  View.ld_unit_apply_of x _ _ _ _ _ fun a => match a with
    | ⟨0, _⟩ => rfl
    | ⟨1, _⟩ => (Nat.zero_add _).symm

/-- The rows of the sum of the five products are the rows of the one product with the whole weight. -/
theorem block_7 (f : Fin 512 → Fin 4096) (a0 : FVec Ideal S4096x1024 .bf16) (a1 : FVec Ideal S4096x1536 .bf16)
    (a2 : FVec Ideal S4096x128 .f32) (a3 a4 : FVec Ideal S4096x1024 .bf16) (a5 : FVec Ideal S4624x1024 .bf16)
    (x0 : Vec Ideal S512x1024 .bf16) (x1 : Vec Ideal S512x1536 .bf16) (x2 : Vec Ideal S512x128 .f32) (x3 x4 : Vec Ideal S512x1024 .bf16)
    (y0 : Vec Ideal S1024x1024 .bf16) (y1 : Vec Ideal S1536x1024 .bf16) (y2 : Vec Ideal S128x1024 .bf16) (y3 y4 : Vec Ideal S1024x1024 .bf16)
    (h0 : ∀ r k, x0 (ix2 r k) = a0 (ix2 (f r) k)) (h1 : ∀ r k, x1 (ix2 r k) = a1 (ix2 (f r) k)) (h2 : ∀ r k, x2 (ix2 r k) = a2 (ix2 (f r) k))
    (h3 : ∀ r k, x3 (ix2 r k) = a3 (ix2 (f r) k)) (h4 : ∀ r k, x4 (ix2 r k) = a4 (ix2 (f r) k))
    (w0 : ∀ r k, y0 (ix2 r k) = a5 (ix2 ⟨0 + r.val, by omega⟩ k)) (w1 : ∀ r k, y1 (ix2 r k) = a5 (ix2 ⟨1024 + r.val, by omega⟩ k))
    (w2 : ∀ (r : Fin 128) k, y2 (ix2 r k) = if h : r.val < 16 then a5 (ix2 ⟨2560 + r.val, by omega⟩ k) else 0)
    (w3 : ∀ r k, y3 (ix2 r k) = a5 (ix2 ⟨2576 + r.val, by omega⟩ k)) (w4 : ∀ r k, y4 (ix2 r k) = a5 (ix2 ⟨3600 + r.val, by omega⟩ k))
    (r : Fin 512) (j : Fin 1024) :
    k0_pay1 x0 x1 x2 x3 x4 y0 y1 y2 y3 y4 (ix2 r j) = val_main_v8 (F := Ideal) a0 a1 a2 a3 a4 a5 (ix2 (f r) j) := by
  pointwise [k0_pay1, val_main_v0, val_main_v1, val_main_v2, val_main_v3, val_main_v4, val_main_v5, val_main_v6, val_main_v7, val_main_v8]
  rw [sum_pad (fun k => x2 (ix2 r k)) (fun k => y2 (ix2 k j)) (fun k => a5 (ix2 ⟨2560 + k.val, by omega⟩ j)) (fun k => w2 k j)]
  simp only [h0, h1, h2, h3, h4, w0, w1, w3, w4, Nat.zero_add]
  have e1 := sum_cat 1024 3600 4624 rfl (fun k => a0 (ix2 (f r) k)) (fun x => if h : x.val < 1536 then a1 (ix2 (f r) ⟨x.val, h⟩) else
    if h : x.val - 1536 < 16 then a2 (ix2 (f r) ⟨x.val - 1536, by omega⟩) else if h : x.val - 1536 - 16 < 1024 then
    a3 (ix2 (f r) ⟨x.val - 1536 - 16, h⟩) else a4 (ix2 (f r) ⟨x.val - 1536 - 16 - 1024, by omega⟩)) (fun x => a5 (ix2 x j))
  have e2 := sum_cat 1536 2064 3600 rfl (fun k => a1 (ix2 (f r) k)) (fun x => if h : x.val < 16 then a2 (ix2 (f r) ⟨x.val, by omega⟩) else
    if h : x.val - 16 < 1024 then a3 (ix2 (f r) ⟨x.val - 16, h⟩) else a4 (ix2 (f r) ⟨x.val - 16 - 1024, by omega⟩))
    (fun x => a5 (ix2 ⟨1024 + x.val, by omega⟩ j))
  have e3 := sum_cat 16 2048 2064 rfl (fun k => a2 (ix2 (f r) ⟨k.val, by omega⟩)) (fun x => if h : x.val < 1024 then a3 (ix2 (f r) ⟨x.val, h⟩)
    else a4 (ix2 (f r) ⟨x.val - 1024, by omega⟩)) (fun x => a5 (ix2 ⟨1024 + (1536 + x.val), by omega⟩ j))
  have e4 := sum_cat 1024 1024 2048 rfl (fun k => a3 (ix2 (f r) k)) (fun k => a4 (ix2 (f r) k))
    (fun x => a5 (ix2 ⟨1024 + (1536 + (16 + x.val)), by omega⟩ j))
  refine Eq.trans ?_ (e1.trans (congrArg (_ + ·) (e2.trans (congrArg (_ + ·) (e3.trans (congrArg (_ + ·) e4)))))).symm
  simp only [← add_assoc, ← Nat.add_assoc, Nat.reduceAdd]

variable (m : (ℓ : Loc nD τ sig) → Buf (Elt Ideal) ℓ) (c : Dev nD)

/-- Argument 0 at launch. -/
abbrev a0 : FVec Ideal S4096x1024 .bf16 := m ((c : Thread nD τ).loc main_arg0)

/-- Argument 1 at launch. -/
abbrev a1 : FVec Ideal S4096x1536 .bf16 := m ((c : Thread nD τ).loc main_arg1)

/-- Argument 2 at launch. -/
abbrev a2 : FVec Ideal S4096x128 .f32 := m ((c : Thread nD τ).loc main_arg2)

/-- Argument 3 at launch. -/
abbrev a3 : FVec Ideal S4096x1024 .bf16 := m ((c : Thread nD τ).loc main_arg3)

/-- Argument 4 at launch. -/
abbrev a4 : FVec Ideal S4096x1024 .bf16 := m ((c : Thread nD τ).loc main_arg4)

/-- Argument 5 at launch. -/
abbrev a5 : FVec Ideal S4624x1024 .bf16 := m ((c : Thread nD τ).loc main_arg5)

theorem zero_fill : FloatOps.sitofp (F := Ideal) .bf16 0#32 = (0 : EReal) := by
  show (((0#32 : BitVec 32).toInt : ℝ) : EReal) = 0
  simp

/-- The host's padded weight, as the operations before the call leave it. -/
theorem V_pad : V m c main_v1 = pad S128x1024 ![0, 0] ![112, 0] ![0, 0] (extractStridedSlice S16x1024 ![2560, 0] (a5 m c)
    slices_S4624x1024_S16x1024_2560_0) (sitofp .bf16 (constantI S_ 32 0#32)) pads_S16x1024_S128x1024_01120_000 h_S_ := by
  simp only [V, List.flatten_cons, List.flatten_nil, List.append_nil, List.cons_append, List.nil_append]
  after_results
  rfl

/-- Its entries: the 16 rows of the weight from row 2560, and zero behind them. -/
theorem padded (k : Fin 128) (j : Fin 1024) :
    V m c main_v1 (ix2 k j) = if h : k.val < 16 then a5 m c (ix2 ⟨2560 + k.val, by omega⟩ j) else 0 := by
  rw [V_pad]
  pointwise
  rw [zero_fill]

/-- Row `r` of tile `t`. -/
def row (t : Fin cfg0.N) (r : Fin 512) : Fin 4096 := ⟨t.val * 512 + r.val, by
  have := t.isLt; have h : cfg0.N = 8 := N_0; omega⟩

/-- Which block each window reads or writes at a point. -/
theorem idx_at : ∀ t : Fin cfg0.N, (win0_0.index t 0 = t.val ∧ win0_0.index t 1 = 0) ∧ (win0_1.index t 0 = t.val ∧ win0_1.index t 1 = 0) ∧ (win0_2.index t 0 = t.val ∧ win0_2.index t 1 = 0) ∧ (win0_3.index t 0 = t.val ∧ win0_3.index t 1 = 0) ∧ (win0_4.index t 0 = t.val ∧ win0_4.index t 1 = 0) ∧ (win0_5.index t 0 = 0 ∧ win0_5.index t 1 = 0) ∧ (win0_6.index t 0 = 0 ∧ win0_6.index t 1 = 0) ∧ (win0_7.index t 0 = t.val ∧ win0_7.index t 1 = 0) :=
  (by decide +kernel : ∀ t : Fin grid0.N, _)

theorem iblk0 (t : Fin cfg0.N) (r : Fin 512) (j : Fin 1024) : iblk m c 0 t (ix2 r j) = a0 m c (ix2 (row t r) j) := by
  have hi := (idx_at t).1
  unfold iblk
  rw [View.read_apply]
  show V m c main_arg0 _ = m (c.tc.loc main_arg0) _
  rw [V_main_arg0]
  congr 1
  funext a
  apply Fin.ext
  match a with
  | ⟨0, _⟩ => show win0_0.index t 0 * 512 + 1 * r.val = t.val * 512 + r.val; rw [hi.1]; omega
  | ⟨1, _⟩ => show win0_0.index t 1 * 1024 + 1 * j.val = j.val; rw [hi.2]; omega

theorem iblk1 (t : Fin cfg0.N) (r : Fin 512) (j : Fin 1536) : iblk m c 1 t (ix2 r j) = a1 m c (ix2 (row t r) j) := by
  have hi := (idx_at t).2.1
  unfold iblk
  rw [View.read_apply]
  show V m c main_arg1 _ = m (c.tc.loc main_arg1) _
  rw [V_main_arg1]
  congr 1
  funext a
  apply Fin.ext
  match a with
  | ⟨0, _⟩ => show win0_1.index t 0 * 512 + 1 * r.val = t.val * 512 + r.val; rw [hi.1]; omega
  | ⟨1, _⟩ => show win0_1.index t 1 * 1536 + 1 * j.val = j.val; rw [hi.2]; omega

theorem iblk2 (t : Fin cfg0.N) (r : Fin 512) (j : Fin 128) : iblk m c 2 t (ix2 r j) = a2 m c (ix2 (row t r) j) := by
  have hi := (idx_at t).2.2.1
  unfold iblk
  rw [View.read_apply]
  show V m c main_arg2 _ = m (c.tc.loc main_arg2) _
  rw [V_main_arg2]
  congr 1
  funext a
  apply Fin.ext
  match a with
  | ⟨0, _⟩ => show win0_2.index t 0 * 512 + 1 * r.val = t.val * 512 + r.val; rw [hi.1]; omega
  | ⟨1, _⟩ => show win0_2.index t 1 * 128 + 1 * j.val = j.val; rw [hi.2]; omega

theorem iblk3 (t : Fin cfg0.N) (r : Fin 512) (j : Fin 1024) : iblk m c 3 t (ix2 r j) = a3 m c (ix2 (row t r) j) := by
  have hi := (idx_at t).2.2.2.1
  unfold iblk
  rw [View.read_apply]
  show V m c main_arg3 _ = m (c.tc.loc main_arg3) _
  rw [V_main_arg3]
  congr 1
  funext a
  apply Fin.ext
  match a with
  | ⟨0, _⟩ => show win0_3.index t 0 * 512 + 1 * r.val = t.val * 512 + r.val; rw [hi.1]; omega
  | ⟨1, _⟩ => show win0_3.index t 1 * 1024 + 1 * j.val = j.val; rw [hi.2]; omega

theorem iblk4 (t : Fin cfg0.N) (r : Fin 512) (j : Fin 1024) : iblk m c 4 t (ix2 r j) = a4 m c (ix2 (row t r) j) := by
  have hi := (idx_at t).2.2.2.2.1
  unfold iblk
  rw [View.read_apply]
  show V m c main_arg4 _ = m (c.tc.loc main_arg4) _
  rw [V_main_arg4]
  congr 1
  funext a
  apply Fin.ext
  match a with
  | ⟨0, _⟩ => show win0_4.index t 0 * 512 + 1 * r.val = t.val * 512 + r.val; rw [hi.1]; omega
  | ⟨1, _⟩ => show win0_4.index t 1 * 1024 + 1 * j.val = j.val; rw [hi.2]; omega

theorem iblk5 (t : Fin cfg0.N) (r : Fin 4624) (j : Fin 1024) : iblk m c 5 t (ix2 r j) = a5 m c (ix2 r j) := by
  have hi := (idx_at t).2.2.2.2.2.1
  unfold iblk
  rw [View.read_apply]
  show V m c main_arg5 _ = m (c.tc.loc main_arg5) _
  rw [V_main_arg5]
  congr 1
  funext a
  apply Fin.ext
  match a with
  | ⟨0, _⟩ => show win0_5.index t 0 * 4624 + 1 * r.val = r.val; rw [hi.1]; omega
  | ⟨1, _⟩ => show win0_5.index t 1 * 1024 + 1 * j.val = j.val; rw [hi.2]; omega

theorem iblk6 (t : Fin cfg0.N) (r : Fin 128) (j : Fin 1024) : iblk m c 6 t (ix2 r j) = V m c main_v1 (ix2 r j) := by
  have hi := (idx_at t).2.2.2.2.2.2.1
  unfold iblk
  rw [View.read_apply]
  show V m c main_v1 _ = V m c main_v1 _
  congr 1
  funext a
  apply Fin.ext
  match a with
  | ⟨0, _⟩ => show win0_6.index t 0 * 128 + 1 * r.val = r.val; rw [hi.1]; omega
  | ⟨1, _⟩ => show win0_6.index t 1 * 1024 + 1 * j.val = j.val; rw [hi.2]; omega

/-- What a point leaves in this window is the reference's rows of its tile. -/
theorem point_7 (t : Fin cfg0.N) (r : Fin 512) (j : Fin 1024) :
    out0_7 (iblk m c 0 t) (iblk m c 1 t) (iblk m c 2 t) (iblk m c 3 t) (iblk m c 4 t) (iblk m c 5 t) (iblk m c 6 t) (ix2 r j) = val_main_v8 (F := Ideal) (a0 m c) (a1 m c) (a2 m c) (a3 m c) (a4 m c) (a5 m c) (ix2 (row t r) j) := by
  unfold out0_7
  rw [View.canon_unit_zero hz]
  simp only [View.ld_unit_zero (S := S512x1024) hz, View.ld_unit_zero (S := S512x1536) hz, View.ld_unit_zero (S := S512x128) hz, View.ld_unit_zero (S := S4624x1024) hz, View.ld_unit_zero (S := S128x1024) hz]
  exact block_7 (row t) (a0 m c) (a1 m c) (a2 m c) (a3 m c) (a4 m c) (a5 m c) (iblk m c 0 t) (iblk m c 1 t) (iblk m c 2 t) (iblk m c 3 t) (iblk m c 4 t) (View.ld (iblk m c 5 t) r0_3) (View.ld (iblk m c 5 t) r0_4) (iblk m c 6 t) (View.ld (iblk m c 5 t) r0_6) (View.ld (iblk m c 5 t) r0_7) (fun r k => iblk0 m c t r k) (fun r k => iblk1 m c t r k) (fun r k => iblk2 m c t r k) (fun r k => iblk3 m c t r k) (fun r k => iblk4 m c t r k) (fun r k => (ld_3 (iblk m c 5 t) r k).trans (iblk5 m c t _ k)) (fun r k => (ld_4 (iblk m c 5 t) r k).trans (iblk5 m c t _ k)) (fun r k => (iblk6 m c t r k).trans (padded m c r k)) (fun r k => (ld_6 (iblk m c 5 t) r k).trans (iblk5 m c t _ k)) (fun r k => (ld_7 (iblk m c 5 t) r k).trans (iblk5 m c t _ k)) r j

/-- The array this window ends with. -/
theorem final_7 : (dats m 0 c).arrAt 7 cfg0.N = val_main_v8 (F := Ideal) (a0 m c) (a1 m c) (a2 m c) (a3 m c) (a4 m c) (a5 m c) := by
  have hN : cfg0.N = 8 := N_0
  refine (dats m 0 c).arrAt_eq_of_cover 7 _ (fun t _ => ?_) fun i => ?_
  · have hi := (idx_at t).2.2.2.2.2.2.2
    rw [Cert.Kernel4Ideal.Value.flushed7]
    funext j
    obtain ⟨r, x, rfl⟩ : ∃ r x, j = ix2 r x := ⟨j 0, j 1, by idx_vars j⟩
    rw [View.read_apply]
    refine (point_7 m c t r x).trans ?_
    congr 1
    funext a
    apply Fin.ext
    match a with
    | ⟨0, _⟩ => show t.val * 512 + r.val = win0_7.index t 0 * 512 + 1 * r.val; rw [hi.1]; omega
    | ⟨1, _⟩ => show x.val = win0_7.index t 1 * 1024 + 1 * x.val; rw [hi.2]; omega
  · have h0 : (i 0 : Nat) < 4096 := (i 0).isLt
    have h1 : (i 1 : Nat) < 1024 := (i 1).isLt
    obtain ⟨t, ht⟩ : ∃ t : Fin cfg0.N, t.val = (i 0 : Nat) / 512 := ⟨⟨(i 0 : Nat) / 512, by omega⟩, rfl⟩
    refine ⟨t, flush0_7 _, ?_⟩
    have hi := (idx_at t).2.2.2.2.2.2.2
    show i ∈ ((View.whole main_v2).slice (win0_7.rect t)).set
    rw [View.set_slice_whole, Rect.mem_set_unit]
    intro a
    match a with
    | ⟨0, _⟩ => exact Cert.Tile.mem 512 (i 0) hi.1 (by omega)
    | ⟨1, _⟩ => exact Cert.Tile.mem 1024 (i 1) hi.2 (by omega)

/-- From memories that agree on the arguments, the kernel and the reference end with the same arrays. -/
theorem equal : Cert.algebraic_Kernel4Ideal_Reference4Ideal := by
  intro m g m' g' _ hargs
  refine ⟨fun c => val_main_v8 (F := Ideal) (a0 m c) (a1 m c) (a2 m c) (a3 m c) (a4 m c) (a5 m c), ?_, ?_⟩
  · refine (θ_run _ _ _).mono (fun r h c => ?_) (Cert.Kernel4Ideal.Value.run_blocks (F := Ideal) m g)
    obtain ⟨h0, h1⟩ := h c
    exact ⟨h0.trans (final_7 m c), h1⟩
  · refine (θ_run _ _ _).mono (fun r h c => ?_) (Cert.Reference4Ideal.Value.run (F := Ideal) m' g')
    obtain ⟨e0, e1, e2, e3, e4, e5⟩ := hargs c
    obtain ⟨h0, h1⟩ := h c
    rw [val_main_v8_eq] at h0
    rw [e0, e1, e2, e3, e4, e5] at h0
    exact ⟨h0, h1⟩

end Cert.Call4

end
-- ==== Proof.Call5.lean ====
/- The input projection: the products with the slices of its weight -/
module

public import proofs.«01_k».proof.Defs
public import proofs.«01_k».proof.Proof.Gen.Kernel5Ideal.Value
public import proofs.«01_k».proof.Proof.Gen.Reference5Ideal.Read
public import Idealize.ShloMosaic.Lib.Pointwise
public import Idealize.ShloMosaic.Lib.Tactic
public import Idealize.ShloMosaic.Lib.Pipeline.ValueKit.Tiles
public import Idealize.ShloMosaic.PureOps.Ideal.Laws
public import proofs.«01_k».proof.Proof.Tile

@[expose] public section

noncomputable section

namespace Cert.Call5

open Idealize.ShloMosaic Idealize.ShloMosaic.TcCoe Idealize.SL.Sem Cert.Kernel5Ideal Cert.Kernel5Ideal.Gen
open Cert.Reference5Ideal.Read

theorem hz : (![0, 0] : Fin 2 → Nat) = fun _ => 0 := funext fun a => by fin_cases a <;> rfl

theorem zero_fill : FloatOps.sitofp (F := Ideal) .bf16 0#32 = (0 : EReal) := by
  show (((0#32 : BitVec 32).toInt : ℝ) : EReal) = 0
  simp

theorem zero_fill' : FloatOps.sitofp (F := Ideal) .f32 0#32 = (0 : EReal) := by
  show (((0#32 : BitVec 32).toInt : ℝ) : EReal) = 0
  simp

/-- The rows of the product with the padded weight: columns from 16 on are zero. -/
theorem block_5 (f : Fin 512 → Fin 4096) (a0 : FVec Ideal S4096x1024 .bf16) (a1 : FVec Ideal S4624x1024 .bf16)
    (x0 : Vec Ideal S512x1024 .bf16) (y : Vec Ideal S128x1024 .bf16) (h0 : ∀ r k, x0 (ix2 r k) = a0 (ix2 (f r) k))
    (h1 : ∀ (r : Fin 128) k, y (ix2 r k) = if h : r.val < 16 then a1 (ix2 ⟨2560 + r.val, by omega⟩ k) else 0) (r : Fin 512) (j : Fin 128) :
    k0_pay1 x0 y (ix2 r j) = val_main_v12 (F := Ideal) a0 a1 (ix2 (f r) j) := by
  pointwise [k0_pay1, val_main_v0, val_main_v1, val_main_v2, val_main_v3, val_main_v6, val_main_c, val_main_call0_v0, val_main_v12]
  simp only [h0, h1]
  by_cases h : j.val < 16
  · simp only [h, dif_pos]
  · simp only [h, dif_neg, not_false_eq_true, mul_zero, Finset.sum_const_zero]
    exact zero_fill'.symm

/-- The rows of the product with the weight's rows from row 0. -/
theorem block_3 (f : Fin 512 → Fin 4096) (a0 : FVec Ideal S4096x1024 .bf16) (a1 : FVec Ideal S4624x1024 .bf16)
    (x0 : Vec Ideal S512x1024 .bf16) (y : Vec Ideal S1024x1024 .bf16) (h0 : ∀ r k, x0 (ix2 r k) = a0 (ix2 (f r) k))
    (h1 : ∀ r k, y (ix2 r k) = a1 (ix2 ⟨0 + r.val, by omega⟩ k)) (r : Fin 512) (j : Fin 1024) :
    k0_pay2 x0 y (ix2 r j) = val_main_v10 (F := Ideal) a0 a1 (ix2 (f r) j) := by
  pointwise [k0_pay2, val_main_v0, val_main_v1, val_main_v2, val_main_v3, val_main_v4, val_main_v10]
  simp only [h0, h1, Nat.zero_add]

/-- The rows of the product with the weight's rows from row 1024. -/
theorem block_4 (f : Fin 512 → Fin 4096) (a0 : FVec Ideal S4096x1024 .bf16) (a1 : FVec Ideal S4624x1024 .bf16)
    (x0 : Vec Ideal S512x1024 .bf16) (y : Vec Ideal S1536x1024 .bf16) (h0 : ∀ r k, x0 (ix2 r k) = a0 (ix2 (f r) k))
    (h1 : ∀ r k, y (ix2 r k) = a1 (ix2 ⟨1024 + r.val, by omega⟩ k)) (r : Fin 512) (j : Fin 1536) :
    k0_pay3 x0 y (ix2 r j) = val_main_v11 (F := Ideal) a0 a1 (ix2 (f r) j) := by
  pointwise [k0_pay3, val_main_v0, val_main_v1, val_main_v2, val_main_v3, val_main_v5, val_main_v11]
  simp only [h0, h1]

/-- The rows of the product with the weight's rows from row 2576. -/
theorem block_6 (f : Fin 512 → Fin 4096) (a0 : FVec Ideal S4096x1024 .bf16) (a1 : FVec Ideal S4624x1024 .bf16)
    (x0 : Vec Ideal S512x1024 .bf16) (y : Vec Ideal S1024x1024 .bf16) (h0 : ∀ r k, x0 (ix2 r k) = a0 (ix2 (f r) k))
    (h1 : ∀ r k, y (ix2 r k) = a1 (ix2 ⟨2576 + r.val, by omega⟩ k)) (r : Fin 512) (j : Fin 1024) :
    k0_pay4 x0 y (ix2 r j) = val_main_v13 (F := Ideal) a0 a1 (ix2 (f r) j) := by
  pointwise [k0_pay4, val_main_v0, val_main_v1, val_main_v2, val_main_v3, val_main_v7, val_main_v8, val_main_v13]
  simp only [h0, h1]

/-- The rows of the product with the weight's rows from row 3600. -/
theorem block_7 (f : Fin 512 → Fin 4096) (a0 : FVec Ideal S4096x1024 .bf16) (a1 : FVec Ideal S4624x1024 .bf16)
    (x0 : Vec Ideal S512x1024 .bf16) (y : Vec Ideal S1024x1024 .bf16) (h0 : ∀ r k, x0 (ix2 r k) = a0 (ix2 (f r) k))
    (h1 : ∀ r k, y (ix2 r k) = a1 (ix2 ⟨3600 + r.val, by omega⟩ k)) (r : Fin 512) (j : Fin 1024) :
    k0_pay5 x0 y (ix2 r j) = val_main_v14 (F := Ideal) a0 a1 (ix2 (f r) j) := by
  pointwise [k0_pay5, val_main_v0, val_main_v1, val_main_v2, val_main_v3, val_main_v7, val_main_v9, val_main_v14]
  simp only [h0, h1, ← Nat.add_assoc, Nat.reduceAdd]

/-- A load of 1024 rows from row 0. -/
theorem ld_1 (x : Vec Ideal S4624x1024 .bf16) (r : Fin 1024) (k : Fin 1024) :
    View.ld x r0_1 (ix2 r k) = x (ix2 ⟨0 + r.val, by omega⟩ k) :=
  View.ld_unit_apply_of x _ _ _ _ _ fun a => match a with
    | ⟨0, _⟩ => rfl
    | ⟨1, _⟩ => (Nat.zero_add _).symm

/-- A load of 1536 rows from row 1024. -/
theorem ld_2 (x : Vec Ideal S4624x1024 .bf16) (r : Fin 1536) (k : Fin 1024) :
    View.ld x r0_2 (ix2 r k) = x (ix2 ⟨1024 + r.val, by omega⟩ k) :=
  View.ld_unit_apply_of x _ _ _ _ _ fun a => match a with
    | ⟨0, _⟩ => rfl
    | ⟨1, _⟩ => (Nat.zero_add _).symm

/-- A load of 1024 rows from row 2576. -/
theorem ld_4 (x : Vec Ideal S4624x1024 .bf16) (r : Fin 1024) (k : Fin 1024) :
    View.ld x r0_4 (ix2 r k) = x (ix2 ⟨2576 + r.val, by omega⟩ k) :=
  View.ld_unit_apply_of x _ _ _ _ _ fun a => match a with
    | ⟨0, _⟩ => rfl
    | ⟨1, _⟩ => (Nat.zero_add _).symm

/-- A load of 1024 rows from row 3600. -/
theorem ld_5 (x : Vec Ideal S4624x1024 .bf16) (r : Fin 1024) (k : Fin 1024) :
    View.ld x r0_5 (ix2 r k) = x (ix2 ⟨3600 + r.val, by omega⟩ k) :=
  View.ld_unit_apply_of x _ _ _ _ _ fun a => match a with
    | ⟨0, _⟩ => rfl
    | ⟨1, _⟩ => (Nat.zero_add _).symm

variable (m : (ℓ : Loc nD τ sig) → Buf (Elt Ideal) ℓ) (c : Dev nD)

/-- Argument 0 at launch. -/
abbrev a0 : FVec Ideal S4096x1024 .bf16 := m ((c : Thread nD τ).loc main_arg0)

/-- Argument 1 at launch. -/
abbrev a1 : FVec Ideal S4624x1024 .bf16 := m ((c : Thread nD τ).loc main_arg1)

/-- The host's padded weight, as the operations before the call leave it. -/
theorem V_pad : V m c main_v1 = pad S128x1024 ![0, 0] ![112, 0] ![0, 0] (extractStridedSlice S16x1024 ![2560, 0] (a1 m c)
    slices_S4624x1024_S16x1024_2560_0) (sitofp .bf16 (constantI S_ 32 0#32)) pads_S16x1024_S128x1024_01120_000 h_S_ := by
  simp only [V, List.flatten_cons, List.flatten_nil, List.append_nil, List.cons_append, List.nil_append]
  after_results
  rfl

/-- Its entries: the 16 rows of the weight from row 2560, and zero behind them. -/
theorem padded (k : Fin 128) (j : Fin 1024) :
    V m c main_v1 (ix2 k j) = if h : k.val < 16 then a1 m c (ix2 ⟨2560 + k.val, by omega⟩ j) else 0 := by
  rw [V_pad]
  pointwise
  rw [zero_fill]

/-- Row `r` of tile `t`. -/
def row (t : Fin cfg0.N) (r : Fin 512) : Fin 4096 := ⟨t.val * 512 + r.val, by
  have := t.isLt; have h : cfg0.N = 8 := N_0; omega⟩

/-- Which block each window reads or writes at a point. -/
theorem idx_at : ∀ t : Fin cfg0.N, (win0_0.index t 0 = t.val ∧ win0_0.index t 1 = 0) ∧ (win0_1.index t 0 = 0 ∧ win0_1.index t 1 = 0) ∧ (win0_2.index t 0 = 0 ∧ win0_2.index t 1 = 0) ∧ (win0_3.index t 0 = t.val ∧ win0_3.index t 1 = 0) ∧ (win0_4.index t 0 = t.val ∧ win0_4.index t 1 = 0) ∧ (win0_5.index t 0 = t.val ∧ win0_5.index t 1 = 0) ∧ (win0_6.index t 0 = t.val ∧ win0_6.index t 1 = 0) ∧ (win0_7.index t 0 = t.val ∧ win0_7.index t 1 = 0) :=
  (by decide +kernel : ∀ t : Fin grid0.N, _)

theorem iblk0 (t : Fin cfg0.N) (r : Fin 512) (j : Fin 1024) : iblk m c 0 t (ix2 r j) = a0 m c (ix2 (row t r) j) := by
  have hi := (idx_at t).1
  unfold iblk
  rw [View.read_apply]
  show V m c main_arg0 _ = m (c.tc.loc main_arg0) _
  rw [V_main_arg0]
  congr 1
  funext a
  apply Fin.ext
  match a with
  | ⟨0, _⟩ => show win0_0.index t 0 * 512 + 1 * r.val = t.val * 512 + r.val; rw [hi.1]; omega
  | ⟨1, _⟩ => show win0_0.index t 1 * 1024 + 1 * j.val = j.val; rw [hi.2]; omega

theorem iblk1 (t : Fin cfg0.N) (r : Fin 4624) (j : Fin 1024) : iblk m c 1 t (ix2 r j) = a1 m c (ix2 r j) := by
  have hi := (idx_at t).2.1
  unfold iblk
  rw [View.read_apply]
  show V m c main_arg1 _ = m (c.tc.loc main_arg1) _
  rw [V_main_arg1]
  congr 1
  funext a
  apply Fin.ext
  match a with
  | ⟨0, _⟩ => show win0_1.index t 0 * 4624 + 1 * r.val = r.val; rw [hi.1]; omega
  | ⟨1, _⟩ => show win0_1.index t 1 * 1024 + 1 * j.val = j.val; rw [hi.2]; omega

theorem iblk2 (t : Fin cfg0.N) (r : Fin 128) (j : Fin 1024) : iblk m c 2 t (ix2 r j) = V m c main_v1 (ix2 r j) := by
  have hi := (idx_at t).2.2.1
  unfold iblk
  rw [View.read_apply]
  show V m c main_v1 _ = V m c main_v1 _
  congr 1
  funext a
  apply Fin.ext
  match a with
  | ⟨0, _⟩ => show win0_2.index t 0 * 128 + 1 * r.val = r.val; rw [hi.1]; omega
  | ⟨1, _⟩ => show win0_2.index t 1 * 1024 + 1 * j.val = j.val; rw [hi.2]; omega

/-- What a point leaves in this window is the reference's rows of its tile. -/
theorem point_3 (t : Fin cfg0.N) (r : Fin 512) (j : Fin 1024) :
    out0_3 (iblk m c 0 t) (iblk m c 1 t) (iblk m c 2 t) (ix2 r j) = val_main_v10 (F := Ideal) (a0 m c) (a1 m c) (ix2 (row t r) j) := by
  unfold out0_3
  rw [View.canon_unit_zero hz]
  simp only [View.ld_unit_zero (S := S512x1024) hz, View.ld_unit_zero (S := S4624x1024) hz, View.ld_unit_zero (S := S128x1024) hz]
  exact block_3 (row t) (a0 m c) (a1 m c) (iblk m c 0 t) (View.ld (iblk m c 1 t) r0_1) (fun r k => iblk0 m c t r k) (fun r k => (ld_1 (iblk m c 1 t) r k).trans (iblk1 m c t _ k)) r j

/-- The array this window ends with. -/
theorem final_3 : (dats m 0 c).arrAt 3 cfg0.N = val_main_v10 (F := Ideal) (a0 m c) (a1 m c) := by
  have hN : cfg0.N = 8 := N_0
  refine (dats m 0 c).arrAt_eq_of_cover 3 _ (fun t _ => ?_) fun i => ?_
  · have hi := (idx_at t).2.2.2.1
    rw [Cert.Kernel5Ideal.Value.flushed3]
    funext j
    obtain ⟨r, x, rfl⟩ : ∃ r x, j = ix2 r x := ⟨j 0, j 1, by idx_vars j⟩
    rw [View.read_apply]
    refine (point_3 m c t r x).trans ?_
    congr 1
    funext a
    apply Fin.ext
    match a with
    | ⟨0, _⟩ => show t.val * 512 + r.val = win0_3.index t 0 * 512 + 1 * r.val; rw [hi.1]; omega
    | ⟨1, _⟩ => show x.val = win0_3.index t 1 * 1024 + 1 * x.val; rw [hi.2]; omega
  · have h0 : (i 0 : Nat) < 4096 := (i 0).isLt
    have h1 : (i 1 : Nat) < 1024 := (i 1).isLt
    obtain ⟨t, ht⟩ : ∃ t : Fin cfg0.N, t.val = (i 0 : Nat) / 512 := ⟨⟨(i 0 : Nat) / 512, by omega⟩, rfl⟩
    refine ⟨t, flush0_3 _, ?_⟩
    have hi := (idx_at t).2.2.2.1
    show i ∈ ((View.whole main_v2_0).slice (win0_3.rect t)).set
    rw [View.set_slice_whole, Rect.mem_set_unit]
    intro a
    match a with
    | ⟨0, _⟩ => exact Cert.Tile.mem 512 (i 0) hi.1 (by omega)
    | ⟨1, _⟩ => exact Cert.Tile.mem 1024 (i 1) hi.2 (by omega)

/-- What a point leaves in this window is the reference's rows of its tile. -/
theorem point_4 (t : Fin cfg0.N) (r : Fin 512) (j : Fin 1536) :
    out0_4 (iblk m c 0 t) (iblk m c 1 t) (iblk m c 2 t) (ix2 r j) = val_main_v11 (F := Ideal) (a0 m c) (a1 m c) (ix2 (row t r) j) := by
  unfold out0_4
  rw [View.canon_unit_zero hz]
  simp only [View.ld_unit_zero (S := S512x1024) hz, View.ld_unit_zero (S := S4624x1024) hz, View.ld_unit_zero (S := S128x1024) hz]
  exact block_4 (row t) (a0 m c) (a1 m c) (iblk m c 0 t) (View.ld (iblk m c 1 t) r0_2) (fun r k => iblk0 m c t r k) (fun r k => (ld_2 (iblk m c 1 t) r k).trans (iblk1 m c t _ k)) r j

/-- The array this window ends with. -/
theorem final_4 : (dats m 0 c).arrAt 4 cfg0.N = val_main_v11 (F := Ideal) (a0 m c) (a1 m c) := by
  have hN : cfg0.N = 8 := N_0
  refine (dats m 0 c).arrAt_eq_of_cover 4 _ (fun t _ => ?_) fun i => ?_
  · have hi := (idx_at t).2.2.2.2.1
    rw [Cert.Kernel5Ideal.Value.flushed4]
    funext j
    obtain ⟨r, x, rfl⟩ : ∃ r x, j = ix2 r x := ⟨j 0, j 1, by idx_vars j⟩
    rw [View.read_apply]
    refine (point_4 m c t r x).trans ?_
    congr 1
    funext a
    apply Fin.ext
    match a with
    | ⟨0, _⟩ => show t.val * 512 + r.val = win0_4.index t 0 * 512 + 1 * r.val; rw [hi.1]; omega
    | ⟨1, _⟩ => show x.val = win0_4.index t 1 * 1536 + 1 * x.val; rw [hi.2]; omega
  · have h0 : (i 0 : Nat) < 4096 := (i 0).isLt
    have h1 : (i 1 : Nat) < 1536 := (i 1).isLt
    obtain ⟨t, ht⟩ : ∃ t : Fin cfg0.N, t.val = (i 0 : Nat) / 512 := ⟨⟨(i 0 : Nat) / 512, by omega⟩, rfl⟩
    refine ⟨t, flush0_4 _, ?_⟩
    have hi := (idx_at t).2.2.2.2.1
    show i ∈ ((View.whole main_v2_1).slice (win0_4.rect t)).set
    rw [View.set_slice_whole, Rect.mem_set_unit]
    intro a
    match a with
    | ⟨0, _⟩ => exact Cert.Tile.mem 512 (i 0) hi.1 (by omega)
    | ⟨1, _⟩ => exact Cert.Tile.mem 1536 (i 1) hi.2 (by omega)

/-- What a point leaves in this window is the reference's rows of its tile. -/
theorem point_5 (t : Fin cfg0.N) (r : Fin 512) (j : Fin 128) :
    out0_5 (iblk m c 0 t) (iblk m c 1 t) (iblk m c 2 t) (ix2 r j) = val_main_v12 (F := Ideal) (a0 m c) (a1 m c) (ix2 (row t r) j) := by
  unfold out0_5
  rw [View.canon_unit_zero hz]
  simp only [View.ld_unit_zero (S := S512x1024) hz, View.ld_unit_zero (S := S4624x1024) hz, View.ld_unit_zero (S := S128x1024) hz]
  exact block_5 (row t) (a0 m c) (a1 m c) (iblk m c 0 t) (iblk m c 2 t) (fun r k => iblk0 m c t r k) (fun r k => (iblk2 m c t r k).trans (padded m c r k)) r j

/-- The array this window ends with. -/
theorem final_5 : (dats m 0 c).arrAt 5 cfg0.N = val_main_v12 (F := Ideal) (a0 m c) (a1 m c) := by
  have hN : cfg0.N = 8 := N_0
  refine (dats m 0 c).arrAt_eq_of_cover 5 _ (fun t _ => ?_) fun i => ?_
  · have hi := (idx_at t).2.2.2.2.2.1
    rw [Cert.Kernel5Ideal.Value.flushed5]
    funext j
    obtain ⟨r, x, rfl⟩ : ∃ r x, j = ix2 r x := ⟨j 0, j 1, by idx_vars j⟩
    rw [View.read_apply]
    refine (point_5 m c t r x).trans ?_
    congr 1
    funext a
    apply Fin.ext
    match a with
    | ⟨0, _⟩ => show t.val * 512 + r.val = win0_5.index t 0 * 512 + 1 * r.val; rw [hi.1]; omega
    | ⟨1, _⟩ => show x.val = win0_5.index t 1 * 128 + 1 * x.val; rw [hi.2]; omega
  · have h0 : (i 0 : Nat) < 4096 := (i 0).isLt
    have h1 : (i 1 : Nat) < 128 := (i 1).isLt
    obtain ⟨t, ht⟩ : ∃ t : Fin cfg0.N, t.val = (i 0 : Nat) / 512 := ⟨⟨(i 0 : Nat) / 512, by omega⟩, rfl⟩
    refine ⟨t, flush0_5 _, ?_⟩
    have hi := (idx_at t).2.2.2.2.2.1
    show i ∈ ((View.whole main_v2_2).slice (win0_5.rect t)).set
    rw [View.set_slice_whole, Rect.mem_set_unit]
    intro a
    match a with
    | ⟨0, _⟩ => exact Cert.Tile.mem 512 (i 0) hi.1 (by omega)
    | ⟨1, _⟩ => exact Cert.Tile.mem 128 (i 1) hi.2 (by omega)

/-- What a point leaves in this window is the reference's rows of its tile. -/
theorem point_6 (t : Fin cfg0.N) (r : Fin 512) (j : Fin 1024) :
    out0_6 (iblk m c 0 t) (iblk m c 1 t) (iblk m c 2 t) (ix2 r j) = val_main_v13 (F := Ideal) (a0 m c) (a1 m c) (ix2 (row t r) j) := by
  unfold out0_6
  rw [View.canon_unit_zero hz]
  simp only [View.ld_unit_zero (S := S512x1024) hz, View.ld_unit_zero (S := S4624x1024) hz, View.ld_unit_zero (S := S128x1024) hz]
  exact block_6 (row t) (a0 m c) (a1 m c) (iblk m c 0 t) (View.ld (iblk m c 1 t) r0_4) (fun r k => iblk0 m c t r k) (fun r k => (ld_4 (iblk m c 1 t) r k).trans (iblk1 m c t _ k)) r j

/-- The array this window ends with. -/
theorem final_6 : (dats m 0 c).arrAt 6 cfg0.N = val_main_v13 (F := Ideal) (a0 m c) (a1 m c) := by
  have hN : cfg0.N = 8 := N_0
  refine (dats m 0 c).arrAt_eq_of_cover 6 _ (fun t _ => ?_) fun i => ?_
  · have hi := (idx_at t).2.2.2.2.2.2.1
    rw [Cert.Kernel5Ideal.Value.flushed6]
    funext j
    obtain ⟨r, x, rfl⟩ : ∃ r x, j = ix2 r x := ⟨j 0, j 1, by idx_vars j⟩
    rw [View.read_apply]
    refine (point_6 m c t r x).trans ?_
    congr 1
    funext a
    apply Fin.ext
    match a with
    | ⟨0, _⟩ => show t.val * 512 + r.val = win0_6.index t 0 * 512 + 1 * r.val; rw [hi.1]; omega
    | ⟨1, _⟩ => show x.val = win0_6.index t 1 * 1024 + 1 * x.val; rw [hi.2]; omega
  · have h0 : (i 0 : Nat) < 4096 := (i 0).isLt
    have h1 : (i 1 : Nat) < 1024 := (i 1).isLt
    obtain ⟨t, ht⟩ : ∃ t : Fin cfg0.N, t.val = (i 0 : Nat) / 512 := ⟨⟨(i 0 : Nat) / 512, by omega⟩, rfl⟩
    refine ⟨t, flush0_6 _, ?_⟩
    have hi := (idx_at t).2.2.2.2.2.2.1
    show i ∈ ((View.whole main_v2_3).slice (win0_6.rect t)).set
    rw [View.set_slice_whole, Rect.mem_set_unit]
    intro a
    match a with
    | ⟨0, _⟩ => exact Cert.Tile.mem 512 (i 0) hi.1 (by omega)
    | ⟨1, _⟩ => exact Cert.Tile.mem 1024 (i 1) hi.2 (by omega)

/-- What a point leaves in this window is the reference's rows of its tile. -/
theorem point_7 (t : Fin cfg0.N) (r : Fin 512) (j : Fin 1024) :
    out0_7 (iblk m c 0 t) (iblk m c 1 t) (iblk m c 2 t) (ix2 r j) = val_main_v14 (F := Ideal) (a0 m c) (a1 m c) (ix2 (row t r) j) := by
  unfold out0_7
  rw [View.canon_unit_zero hz]
  simp only [View.ld_unit_zero (S := S512x1024) hz, View.ld_unit_zero (S := S4624x1024) hz, View.ld_unit_zero (S := S128x1024) hz]
  exact block_7 (row t) (a0 m c) (a1 m c) (iblk m c 0 t) (View.ld (iblk m c 1 t) r0_5) (fun r k => iblk0 m c t r k) (fun r k => (ld_5 (iblk m c 1 t) r k).trans (iblk1 m c t _ k)) r j

/-- The array this window ends with. -/
theorem final_7 : (dats m 0 c).arrAt 7 cfg0.N = val_main_v14 (F := Ideal) (a0 m c) (a1 m c) := by
  have hN : cfg0.N = 8 := N_0
  refine (dats m 0 c).arrAt_eq_of_cover 7 _ (fun t _ => ?_) fun i => ?_
  · have hi := (idx_at t).2.2.2.2.2.2.2
    rw [Cert.Kernel5Ideal.Value.flushed7]
    funext j
    obtain ⟨r, x, rfl⟩ : ∃ r x, j = ix2 r x := ⟨j 0, j 1, by idx_vars j⟩
    rw [View.read_apply]
    refine (point_7 m c t r x).trans ?_
    congr 1
    funext a
    apply Fin.ext
    match a with
    | ⟨0, _⟩ => show t.val * 512 + r.val = win0_7.index t 0 * 512 + 1 * r.val; rw [hi.1]; omega
    | ⟨1, _⟩ => show x.val = win0_7.index t 1 * 1024 + 1 * x.val; rw [hi.2]; omega
  · have h0 : (i 0 : Nat) < 4096 := (i 0).isLt
    have h1 : (i 1 : Nat) < 1024 := (i 1).isLt
    obtain ⟨t, ht⟩ : ∃ t : Fin cfg0.N, t.val = (i 0 : Nat) / 512 := ⟨⟨(i 0 : Nat) / 512, by omega⟩, rfl⟩
    refine ⟨t, flush0_7 _, ?_⟩
    have hi := (idx_at t).2.2.2.2.2.2.2
    show i ∈ ((View.whole main_v2_4).slice (win0_7.rect t)).set
    rw [View.set_slice_whole, Rect.mem_set_unit]
    intro a
    match a with
    | ⟨0, _⟩ => exact Cert.Tile.mem 512 (i 0) hi.1 (by omega)
    | ⟨1, _⟩ => exact Cert.Tile.mem 1024 (i 1) hi.2 (by omega)

/-- From memories that agree on the arguments, the kernel and the reference end with the same arrays. -/
theorem equal : Cert.algebraic_Kernel5Ideal_Reference5Ideal := by
  intro m g m' g' _ hargs
  refine ⟨fun c => val_main_v10 (F := Ideal) (a0 m c) (a1 m c), fun c => val_main_v11 (F := Ideal) (a0 m c) (a1 m c), fun c => val_main_v12 (F := Ideal) (a0 m c) (a1 m c), fun c => val_main_v13 (F := Ideal) (a0 m c) (a1 m c), fun c => val_main_v14 (F := Ideal) (a0 m c) (a1 m c), ?_, ?_⟩
  · refine (θ_run _ _ _).mono (fun r h c => ?_) (Cert.Kernel5Ideal.Value.run_blocks (F := Ideal) m g)
    obtain ⟨h0, h1, h2, h3, h4, h5⟩ := h c
    exact ⟨h0.trans (final_3 m c), h1.trans (final_4 m c), h2.trans (final_5 m c), h3.trans (final_6 m c), h4.trans (final_7 m c), h5⟩
  · refine (θ_run _ _ _).mono (fun r h c => ?_) (Cert.Reference5Ideal.Value.run (F := Ideal) m' g')
    obtain ⟨e0, e1⟩ := hargs c
    obtain ⟨h0, h1, h2, h3, h4, h5⟩ := h c
    rw [val_main_v10_eq] at h0
    rw [e0, e1] at h0
    rw [val_main_v11_eq] at h1
    rw [e0, e1] at h1
    rw [val_main_v12_eq] at h2
    rw [e0, e1] at h2
    rw [val_main_v13_eq] at h3
    rw [e0, e1] at h3
    rw [val_main_v14_eq] at h4
    rw [e0, e1] at h4
    exact ⟨h0, h1, h2, h3, h4, h5⟩

end Cert.Call5

end
-- ==== Proof.Call6.lean ====
/- Four weight gradients of the input projection in one pass, tile by tile over the rows -/
module

public import proofs.«01_k».proof.Defs
public import proofs.«01_k».proof.Proof.Gen.Kernel6Ideal.Value
public import proofs.«01_k».proof.Proof.Gen.Reference6Ideal.Read
public import Idealize.ShloMosaic.Lib.Pointwise
public import Idealize.ShloMosaic.Lib.Tactic
public import Idealize.ShloMosaic.PureOps.Ideal.Laws
public import proofs.«01_k».proof.Proof.Tile

@[expose] public section

noncomputable section

namespace Cert.Call6

open Idealize.ShloMosaic Idealize.ShloMosaic.TcCoe Idealize.SL.Sem Cert.Kernel6Ideal Cert.Kernel6Ideal.Gen
open Cert.Reference6Ideal.Read

theorem hz : (![0, 0] : Fin 2 → Nat) = fun _ => 0 := funext fun a => by fin_cases a <;> rfl

/-- A sum over the rows is the sum over the four quarters. -/
theorem sum_quarters (g : Fin 4096 → EReal) :
    ∑ k : Fin 4096, g k = (∑ k : Fin 1024, g ⟨k.val, by omega⟩) + (∑ k : Fin 1024, g ⟨1024 + k.val, by omega⟩)
      + (∑ k : Fin 1024, g ⟨2048 + k.val, by omega⟩) + ∑ k : Fin 1024, g ⟨3072 + k.val, by omega⟩ := by
  refine (Fin.sum_univ_add (a := 3072) (b := 1024) g).trans (congrArg₂ (· + ·) ?_ rfl)
  refine (Fin.sum_univ_add (a := 2048) (b := 1024) fun k => g ⟨k.val, by omega⟩).trans (congrArg₂ (· + ·) ?_ rfl)
  exact Fin.sum_univ_add (a := 1024) (b := 1024) fun k => g ⟨k.val, by omega⟩

section runs

variable (c : Dev nD) (i : grid0.Coords) (b1 : Memref sig .tc .vmem S1024x1024 .bf16) (w1 : b1.IsWhole) (b2 : Memref sig .tc .vmem S1024x128 .f32) (w2 : b2.IsWhole) (b3 : Memref sig .tc .vmem S1024x1024 .bf16) (w3 : b3.IsWhole) (b4 : Memref sig .tc .vmem S1024x1024 .bf16) (w4 : b4.IsWhole) (b5 : Memref sig .tc .vmem S1024x1024 .bf16) (w5 : b5.IsWhole) (b6 : Memref sig .tc .vmem S1024x1024 .bf16) (w6 : b6.IsWhole) (b7 : Memref sig .tc .vmem S128x1024 .bf16) (w7 : b7.IsWhole) (b8 : Memref sig .tc .vmem S1024x1024 .bf16) (w8 : b8.IsWhole) (b9 : Memref sig .tc .vmem S1024x1024 .bf16) (w9 : b9.IsWhole) (b10 : Memref sig .tc .vmem S1024x1024 .f32) (w10 : b10.IsWhole) (b11 : Memref sig .tc .vmem S128x1024 .f32) (w11 : b11.IsWhole) (b12 : Memref sig .tc .vmem S1024x1024 .f32) (w12 : b12.IsWhole) (b13 : Memref sig .tc .vmem S1024x1024 .f32) (w13 : b13.IsWhole)
  (x0 : Vec Ideal S1024x1024 .bf16) (x1 : Vec Ideal S1024x128 .f32) (x2 : Vec Ideal S1024x1024 .bf16) (x3 : Vec Ideal S1024x1024 .bf16) (x4 : Vec Ideal S1024x1024 .bf16)
  (xs0 : Vec Ideal S1024x1024 .f32) (xs1 : Vec Ideal S128x1024 .f32) (xs2 : Vec Ideal S1024x1024 .f32) (xs3 : Vec Ideal S1024x1024 .f32)

/-- One tile's product for result 0 sums over the tile's rows. -/
theorem tile_0 (y : Vec Ideal S1024x1024 .bf16) (x : Vec Ideal S1024x1024 .bf16) (r : Fin 1024) (j : Fin 1024) :
    k0_pay8 y x (ix2 r j) = ∑ k : Fin 1024, x (ix2 k r) * y (ix2 k j) := by
  pointwise [k0_pay8]

/-- The first tile leaves its product in accumulator 0. -/
theorem scr_A_0 (hc0 : cond0_0 i) (hc1 : ¬cond0_1 i) (hc2 : ¬cond0_2 i) (hc3 : cond0_3 i) (hc4 : ¬cond0_4 i) (hc5 : ¬cond0_5 i) (hc6 : cond0_6 i) (hc7 : ¬cond0_7 i) (hc8 : ¬cond0_8 i) (hc9 : cond0_9 i) (hc10 : ¬cond0_10 i) (hc11 : ¬cond0_11 i) :
    sout0_A_0 c i b1 w1 b2 w2 b3 w3 b4 w4 b5 w5 b6 w6 b7 w7 b8 w8 b9 w9 b10 w10 b11 w11 b12 w12 b13 w13 hc0 hc1 hc2 hc3 hc4 hc5 hc6 hc7 hc8 hc9 hc10 hc11 x0 x1 x2 x3 x4 = k0_pay8 x4 x0 := by
  unfold sout0_A_0
  rw [View.read_writes_eq_canon _ _ _ (scover0_A_0 c i b1 w1 b2 w2 b3 w3 b4 w4 b5 w5 b6 w6 b7 w7 b8 w8 b9 w9 b10 w10 b11 w11 b12 w12 b13 w13 hc0 hc1 hc2 hc3 hc4 hc5 hc6 hc7 hc8 hc9 hc10 hc11 x0 x1 x2 x3 x4)]
  unfold kernelRun0_A
  dsimp only
  sl_unfold_words
  rw [View.canon_unit_zero hz]
  simp only [View.readAt_eq_ld, w1.read_unread, w2.read_unread, w3.read_unread, w4.read_unread, w5.read_unread, w10.read_unread, w11.read_unread, w12.read_unread, w13.read_unread, View.ld_unit_zero (S := S1024x1024) hz, View.ld_unit_zero (S := S1024x128) hz, View.ld_unit_zero (S := S128x1024) hz]
  simp only [k0_pay9, shapeCast_self]

/-- A middle tile adds its product to accumulator 0. -/
theorem scr_B_0 (hc0 : ¬cond0_0 i) (hc1 : cond0_1 i) (hc2 : ¬cond0_2 i) (hc3 : ¬cond0_3 i) (hc4 : cond0_4 i) (hc5 : ¬cond0_5 i) (hc6 : ¬cond0_6 i) (hc7 : cond0_7 i) (hc8 : ¬cond0_8 i) (hc9 : ¬cond0_9 i) (hc10 : cond0_10 i) (hc11 : ¬cond0_11 i) :
    sout0_B_0 c i b1 w1 b2 w2 b3 w3 b4 w4 b5 w5 b6 w6 b7 w7 b8 w8 b9 w9 b10 w10 b11 w11 b12 w12 b13 w13 hc0 hc1 hc2 hc3 hc4 hc5 hc6 hc7 hc8 hc9 hc10 hc11 x0 x1 x2 x3 x4 xs0 xs1 xs2 xs3 = addf xs0 (k0_pay8 x4 x0) := by
  unfold sout0_B_0
  rw [View.read_writes_eq_canon _ _ _ (scover0_B_0 c i b1 w1 b2 w2 b3 w3 b4 w4 b5 w5 b6 w6 b7 w7 b8 w8 b9 w9 b10 w10 b11 w11 b12 w12 b13 w13 hc0 hc1 hc2 hc3 hc4 hc5 hc6 hc7 hc8 hc9 hc10 hc11 x0 x1 x2 x3 x4 xs0 xs1 xs2 xs3)]
  unfold kernelRun0_B
  dsimp only
  sl_unfold_words
  rw [View.canon_unit_zero hz]
  simp only [View.readAt_eq_ld, w1.read_unread, w2.read_unread, w3.read_unread, w4.read_unread, w5.read_unread, w10.read_unread, w11.read_unread, w12.read_unread, w13.read_unread, View.ld_unit_zero (S := S1024x1024) hz, View.ld_unit_zero (S := S1024x128) hz, View.ld_unit_zero (S := S128x1024) hz]
  simp only [k0_pay10, shapeCast_self]

/-- The last tile leaves the accumulator plus its product in result 0. -/
theorem out_C_0 (hc0 : ¬cond0_0 i) (hc1 : cond0_1 i) (hc2 : cond0_2 i) (hc3 : ¬cond0_3 i) (hc4 : cond0_4 i) (hc5 : cond0_5 i) (hc6 : ¬cond0_6 i) (hc7 : cond0_7 i) (hc8 : cond0_8 i) (hc9 : ¬cond0_9 i) (hc10 : cond0_10 i) (hc11 : cond0_11 i) :
    out0_C_5 c i b1 w1 b2 w2 b3 w3 b4 w4 b5 w5 b6 w6 b7 w7 b8 w8 b9 w9 b10 w10 b11 w11 b12 w12 b13 w13 hc0 hc1 hc2 hc3 hc4 hc5 hc6 hc7 hc8 hc9 hc10 hc11 x0 x1 x2 x3 x4 xs0 xs1 xs2 xs3 = addf xs0 (k0_pay8 x4 x0) := by
  unfold out0_C_5
  rw [View.read_writes_eq_canon _ _ _ (cover0_C_5 c i b1 w1 b2 w2 b3 w3 b4 w4 b5 w5 b6 w6 b7 w7 b8 w8 b9 w9 b10 w10 b11 w11 b12 w12 b13 w13 hc0 hc1 hc2 hc3 hc4 hc5 hc6 hc7 hc8 hc9 hc10 hc11 x0 x1 x2 x3 x4 xs0 xs1 xs2 xs3)]
  unfold kernelRun0_C
  dsimp only
  sl_unfold_words
  rw [View.canon_unit_zero hz, View.readCov_unit_zero (S := S1024x1024) _ hz]
  simp only [View.readAt_eq_ld, w1.read_unread, w2.read_unread, w3.read_unread, w4.read_unread, w5.read_unread, w10.read_unread, w11.read_unread, w12.read_unread, w13.read_unread, View.ld_unit_zero (S := S1024x1024) hz, View.ld_unit_zero (S := S1024x128) hz, View.ld_unit_zero (S := S128x1024) hz]
  simp only [k0_pay10, shapeCast_self]
  rfl

/-- One tile's product for result 1 sums over the tile's rows. -/
theorem tile_1 (y : Vec Ideal S1024x1024 .bf16) (x : Vec Ideal S1024x128 .f32) (r : Fin 128) (j : Fin 1024) :
    k0_pay12 y x (ix2 r j) = ∑ k : Fin 1024, x (ix2 k r) * y (ix2 k j) := by
  pointwise [k0_pay12]

/-- The first tile leaves its product in accumulator 1. -/
theorem scr_A_1 (hc0 : cond0_0 i) (hc1 : ¬cond0_1 i) (hc2 : ¬cond0_2 i) (hc3 : cond0_3 i) (hc4 : ¬cond0_4 i) (hc5 : ¬cond0_5 i) (hc6 : cond0_6 i) (hc7 : ¬cond0_7 i) (hc8 : ¬cond0_8 i) (hc9 : cond0_9 i) (hc10 : ¬cond0_10 i) (hc11 : ¬cond0_11 i) :
    sout0_A_1 c i b1 w1 b2 w2 b3 w3 b4 w4 b5 w5 b6 w6 b7 w7 b8 w8 b9 w9 b10 w10 b11 w11 b12 w12 b13 w13 hc0 hc1 hc2 hc3 hc4 hc5 hc6 hc7 hc8 hc9 hc10 hc11 x0 x1 x2 x3 x4 = k0_pay12 x4 x1 := by
  unfold sout0_A_1
  rw [View.read_writes_eq_canon _ _ _ (scover0_A_1 c i b1 w1 b2 w2 b3 w3 b4 w4 b5 w5 b6 w6 b7 w7 b8 w8 b9 w9 b10 w10 b11 w11 b12 w12 b13 w13 hc0 hc1 hc2 hc3 hc4 hc5 hc6 hc7 hc8 hc9 hc10 hc11 x0 x1 x2 x3 x4)]
  unfold kernelRun0_A
  dsimp only
  sl_unfold_words
  rw [View.canon_unit_zero hz]
  simp only [View.readAt_eq_ld, w1.read_unread, w2.read_unread, w3.read_unread, w4.read_unread, w5.read_unread, w10.read_unread, w11.read_unread, w12.read_unread, w13.read_unread, View.ld_unit_zero (S := S1024x1024) hz, View.ld_unit_zero (S := S1024x128) hz, View.ld_unit_zero (S := S128x1024) hz]
  simp only [k0_pay13, shapeCast_self]

/-- A middle tile adds its product to accumulator 1. -/
theorem scr_B_1 (hc0 : ¬cond0_0 i) (hc1 : cond0_1 i) (hc2 : ¬cond0_2 i) (hc3 : ¬cond0_3 i) (hc4 : cond0_4 i) (hc5 : ¬cond0_5 i) (hc6 : ¬cond0_6 i) (hc7 : cond0_7 i) (hc8 : ¬cond0_8 i) (hc9 : ¬cond0_9 i) (hc10 : cond0_10 i) (hc11 : ¬cond0_11 i) :
    sout0_B_1 c i b1 w1 b2 w2 b3 w3 b4 w4 b5 w5 b6 w6 b7 w7 b8 w8 b9 w9 b10 w10 b11 w11 b12 w12 b13 w13 hc0 hc1 hc2 hc3 hc4 hc5 hc6 hc7 hc8 hc9 hc10 hc11 x0 x1 x2 x3 x4 xs0 xs1 xs2 xs3 = addf xs1 (k0_pay12 x4 x1) := by
  unfold sout0_B_1
  rw [View.read_writes_eq_canon _ _ _ (scover0_B_1 c i b1 w1 b2 w2 b3 w3 b4 w4 b5 w5 b6 w6 b7 w7 b8 w8 b9 w9 b10 w10 b11 w11 b12 w12 b13 w13 hc0 hc1 hc2 hc3 hc4 hc5 hc6 hc7 hc8 hc9 hc10 hc11 x0 x1 x2 x3 x4 xs0 xs1 xs2 xs3)]
  unfold kernelRun0_B
  dsimp only
  sl_unfold_words
  rw [View.canon_unit_zero hz]
  simp only [View.readAt_eq_ld, w1.read_unread, w2.read_unread, w3.read_unread, w4.read_unread, w5.read_unread, w10.read_unread, w11.read_unread, w12.read_unread, w13.read_unread, View.ld_unit_zero (S := S1024x1024) hz, View.ld_unit_zero (S := S1024x128) hz, View.ld_unit_zero (S := S128x1024) hz]
  simp only [k0_pay14, shapeCast_self]

/-- The last tile leaves the accumulator plus its product in result 1. -/
theorem out_C_1 (hc0 : ¬cond0_0 i) (hc1 : cond0_1 i) (hc2 : cond0_2 i) (hc3 : ¬cond0_3 i) (hc4 : cond0_4 i) (hc5 : cond0_5 i) (hc6 : ¬cond0_6 i) (hc7 : cond0_7 i) (hc8 : cond0_8 i) (hc9 : ¬cond0_9 i) (hc10 : cond0_10 i) (hc11 : cond0_11 i) :
    out0_C_6 c i b1 w1 b2 w2 b3 w3 b4 w4 b5 w5 b6 w6 b7 w7 b8 w8 b9 w9 b10 w10 b11 w11 b12 w12 b13 w13 hc0 hc1 hc2 hc3 hc4 hc5 hc6 hc7 hc8 hc9 hc10 hc11 x0 x1 x2 x3 x4 xs0 xs1 xs2 xs3 = addf xs1 (k0_pay12 x4 x1) := by
  unfold out0_C_6
  rw [View.read_writes_eq_canon _ _ _ (cover0_C_6 c i b1 w1 b2 w2 b3 w3 b4 w4 b5 w5 b6 w6 b7 w7 b8 w8 b9 w9 b10 w10 b11 w11 b12 w12 b13 w13 hc0 hc1 hc2 hc3 hc4 hc5 hc6 hc7 hc8 hc9 hc10 hc11 x0 x1 x2 x3 x4 xs0 xs1 xs2 xs3)]
  unfold kernelRun0_C
  dsimp only
  sl_unfold_words
  rw [View.canon_unit_zero hz, View.readCov_unit_zero (S := S128x1024) _ hz]
  simp only [View.readAt_eq_ld, w1.read_unread, w2.read_unread, w3.read_unread, w4.read_unread, w5.read_unread, w10.read_unread, w11.read_unread, w12.read_unread, w13.read_unread, View.ld_unit_zero (S := S1024x1024) hz, View.ld_unit_zero (S := S1024x128) hz, View.ld_unit_zero (S := S128x1024) hz]
  simp only [k0_pay14, shapeCast_self]
  rfl

/-- One tile's product for result 2 sums over the tile's rows. -/
theorem tile_2 (y : Vec Ideal S1024x1024 .bf16) (x : Vec Ideal S1024x1024 .bf16) (r : Fin 1024) (j : Fin 1024) :
    k0_pay16 y x (ix2 r j) = ∑ k : Fin 1024, x (ix2 k r) * y (ix2 k j) := by
  pointwise [k0_pay16]

/-- The first tile leaves its product in accumulator 2. -/
theorem scr_A_2 (hc0 : cond0_0 i) (hc1 : ¬cond0_1 i) (hc2 : ¬cond0_2 i) (hc3 : cond0_3 i) (hc4 : ¬cond0_4 i) (hc5 : ¬cond0_5 i) (hc6 : cond0_6 i) (hc7 : ¬cond0_7 i) (hc8 : ¬cond0_8 i) (hc9 : cond0_9 i) (hc10 : ¬cond0_10 i) (hc11 : ¬cond0_11 i) :
    sout0_A_2 c i b1 w1 b2 w2 b3 w3 b4 w4 b5 w5 b6 w6 b7 w7 b8 w8 b9 w9 b10 w10 b11 w11 b12 w12 b13 w13 hc0 hc1 hc2 hc3 hc4 hc5 hc6 hc7 hc8 hc9 hc10 hc11 x0 x1 x2 x3 x4 = k0_pay16 x4 x2 := by
  unfold sout0_A_2
  rw [View.read_writes_eq_canon _ _ _ (scover0_A_2 c i b1 w1 b2 w2 b3 w3 b4 w4 b5 w5 b6 w6 b7 w7 b8 w8 b9 w9 b10 w10 b11 w11 b12 w12 b13 w13 hc0 hc1 hc2 hc3 hc4 hc5 hc6 hc7 hc8 hc9 hc10 hc11 x0 x1 x2 x3 x4)]
  unfold kernelRun0_A
  dsimp only
  sl_unfold_words
  rw [View.canon_unit_zero hz]
  simp only [View.readAt_eq_ld, w1.read_unread, w2.read_unread, w3.read_unread, w4.read_unread, w5.read_unread, w10.read_unread, w11.read_unread, w12.read_unread, w13.read_unread, View.ld_unit_zero (S := S1024x1024) hz, View.ld_unit_zero (S := S1024x128) hz, View.ld_unit_zero (S := S128x1024) hz]
  simp only [k0_pay1, shapeCast_self]

/-- A middle tile adds its product to accumulator 2. -/
theorem scr_B_2 (hc0 : ¬cond0_0 i) (hc1 : cond0_1 i) (hc2 : ¬cond0_2 i) (hc3 : ¬cond0_3 i) (hc4 : cond0_4 i) (hc5 : ¬cond0_5 i) (hc6 : ¬cond0_6 i) (hc7 : cond0_7 i) (hc8 : ¬cond0_8 i) (hc9 : ¬cond0_9 i) (hc10 : cond0_10 i) (hc11 : ¬cond0_11 i) :
    sout0_B_2 c i b1 w1 b2 w2 b3 w3 b4 w4 b5 w5 b6 w6 b7 w7 b8 w8 b9 w9 b10 w10 b11 w11 b12 w12 b13 w13 hc0 hc1 hc2 hc3 hc4 hc5 hc6 hc7 hc8 hc9 hc10 hc11 x0 x1 x2 x3 x4 xs0 xs1 xs2 xs3 = addf xs2 (k0_pay16 x4 x2) := by
  unfold sout0_B_2
  rw [View.read_writes_eq_canon _ _ _ (scover0_B_2 c i b1 w1 b2 w2 b3 w3 b4 w4 b5 w5 b6 w6 b7 w7 b8 w8 b9 w9 b10 w10 b11 w11 b12 w12 b13 w13 hc0 hc1 hc2 hc3 hc4 hc5 hc6 hc7 hc8 hc9 hc10 hc11 x0 x1 x2 x3 x4 xs0 xs1 xs2 xs3)]
  unfold kernelRun0_B
  dsimp only
  sl_unfold_words
  rw [View.canon_unit_zero hz]
  simp only [View.readAt_eq_ld, w1.read_unread, w2.read_unread, w3.read_unread, w4.read_unread, w5.read_unread, w10.read_unread, w11.read_unread, w12.read_unread, w13.read_unread, View.ld_unit_zero (S := S1024x1024) hz, View.ld_unit_zero (S := S1024x128) hz, View.ld_unit_zero (S := S128x1024) hz]
  simp only [k0_pay2, shapeCast_self]

/-- The last tile leaves the accumulator plus its product in result 2. -/
theorem out_C_2 (hc0 : ¬cond0_0 i) (hc1 : cond0_1 i) (hc2 : cond0_2 i) (hc3 : ¬cond0_3 i) (hc4 : cond0_4 i) (hc5 : cond0_5 i) (hc6 : ¬cond0_6 i) (hc7 : cond0_7 i) (hc8 : cond0_8 i) (hc9 : ¬cond0_9 i) (hc10 : cond0_10 i) (hc11 : cond0_11 i) :
    out0_C_7 c i b1 w1 b2 w2 b3 w3 b4 w4 b5 w5 b6 w6 b7 w7 b8 w8 b9 w9 b10 w10 b11 w11 b12 w12 b13 w13 hc0 hc1 hc2 hc3 hc4 hc5 hc6 hc7 hc8 hc9 hc10 hc11 x0 x1 x2 x3 x4 xs0 xs1 xs2 xs3 = addf xs2 (k0_pay16 x4 x2) := by
  unfold out0_C_7
  rw [View.read_writes_eq_canon _ _ _ (cover0_C_7 c i b1 w1 b2 w2 b3 w3 b4 w4 b5 w5 b6 w6 b7 w7 b8 w8 b9 w9 b10 w10 b11 w11 b12 w12 b13 w13 hc0 hc1 hc2 hc3 hc4 hc5 hc6 hc7 hc8 hc9 hc10 hc11 x0 x1 x2 x3 x4 xs0 xs1 xs2 xs3)]
  unfold kernelRun0_C
  dsimp only
  sl_unfold_words
  rw [View.canon_unit_zero hz, View.readCov_unit_zero (S := S1024x1024) _ hz]
  simp only [View.readAt_eq_ld, w1.read_unread, w2.read_unread, w3.read_unread, w4.read_unread, w5.read_unread, w10.read_unread, w11.read_unread, w12.read_unread, w13.read_unread, View.ld_unit_zero (S := S1024x1024) hz, View.ld_unit_zero (S := S1024x128) hz, View.ld_unit_zero (S := S128x1024) hz]
  simp only [k0_pay2, shapeCast_self]
  rfl

/-- One tile's product for result 3 sums over the tile's rows. -/
theorem tile_3 (y : Vec Ideal S1024x1024 .bf16) (x : Vec Ideal S1024x1024 .bf16) (r : Fin 1024) (j : Fin 1024) :
    k0_pay4 y x (ix2 r j) = ∑ k : Fin 1024, x (ix2 k r) * y (ix2 k j) := by
  pointwise [k0_pay4]

/-- The first tile leaves its product in accumulator 3. -/
theorem scr_A_3 (hc0 : cond0_0 i) (hc1 : ¬cond0_1 i) (hc2 : ¬cond0_2 i) (hc3 : cond0_3 i) (hc4 : ¬cond0_4 i) (hc5 : ¬cond0_5 i) (hc6 : cond0_6 i) (hc7 : ¬cond0_7 i) (hc8 : ¬cond0_8 i) (hc9 : cond0_9 i) (hc10 : ¬cond0_10 i) (hc11 : ¬cond0_11 i) :
    sout0_A_3 c i b1 w1 b2 w2 b3 w3 b4 w4 b5 w5 b6 w6 b7 w7 b8 w8 b9 w9 b10 w10 b11 w11 b12 w12 b13 w13 hc0 hc1 hc2 hc3 hc4 hc5 hc6 hc7 hc8 hc9 hc10 hc11 x0 x1 x2 x3 x4 = k0_pay4 x4 x3 := by
  unfold sout0_A_3
  rw [View.read_writes_eq_canon _ _ _ (scover0_A_3 c i b1 w1 b2 w2 b3 w3 b4 w4 b5 w5 b6 w6 b7 w7 b8 w8 b9 w9 b10 w10 b11 w11 b12 w12 b13 w13 hc0 hc1 hc2 hc3 hc4 hc5 hc6 hc7 hc8 hc9 hc10 hc11 x0 x1 x2 x3 x4)]
  unfold kernelRun0_A
  dsimp only
  sl_unfold_words
  rw [View.canon_unit_zero hz]
  simp only [View.readAt_eq_ld, w1.read_unread, w2.read_unread, w3.read_unread, w4.read_unread, w5.read_unread, w10.read_unread, w11.read_unread, w12.read_unread, w13.read_unread, View.ld_unit_zero (S := S1024x1024) hz, View.ld_unit_zero (S := S1024x128) hz, View.ld_unit_zero (S := S128x1024) hz]
  simp only [k0_pay5, shapeCast_self]

/-- A middle tile adds its product to accumulator 3. -/
theorem scr_B_3 (hc0 : ¬cond0_0 i) (hc1 : cond0_1 i) (hc2 : ¬cond0_2 i) (hc3 : ¬cond0_3 i) (hc4 : cond0_4 i) (hc5 : ¬cond0_5 i) (hc6 : ¬cond0_6 i) (hc7 : cond0_7 i) (hc8 : ¬cond0_8 i) (hc9 : ¬cond0_9 i) (hc10 : cond0_10 i) (hc11 : ¬cond0_11 i) :
    sout0_B_3 c i b1 w1 b2 w2 b3 w3 b4 w4 b5 w5 b6 w6 b7 w7 b8 w8 b9 w9 b10 w10 b11 w11 b12 w12 b13 w13 hc0 hc1 hc2 hc3 hc4 hc5 hc6 hc7 hc8 hc9 hc10 hc11 x0 x1 x2 x3 x4 xs0 xs1 xs2 xs3 = addf xs3 (k0_pay4 x4 x3) := by
  unfold sout0_B_3
  rw [View.read_writes_eq_canon _ _ _ (scover0_B_3 c i b1 w1 b2 w2 b3 w3 b4 w4 b5 w5 b6 w6 b7 w7 b8 w8 b9 w9 b10 w10 b11 w11 b12 w12 b13 w13 hc0 hc1 hc2 hc3 hc4 hc5 hc6 hc7 hc8 hc9 hc10 hc11 x0 x1 x2 x3 x4 xs0 xs1 xs2 xs3)]
  unfold kernelRun0_B
  dsimp only
  sl_unfold_words
  rw [View.canon_unit_zero hz]
  simp only [View.readAt_eq_ld, w1.read_unread, w2.read_unread, w3.read_unread, w4.read_unread, w5.read_unread, w10.read_unread, w11.read_unread, w12.read_unread, w13.read_unread, View.ld_unit_zero (S := S1024x1024) hz, View.ld_unit_zero (S := S1024x128) hz, View.ld_unit_zero (S := S128x1024) hz]
  simp only [k0_pay6, shapeCast_self]

/-- The last tile leaves the accumulator plus its product in result 3. -/
theorem out_C_3 (hc0 : ¬cond0_0 i) (hc1 : cond0_1 i) (hc2 : cond0_2 i) (hc3 : ¬cond0_3 i) (hc4 : cond0_4 i) (hc5 : cond0_5 i) (hc6 : ¬cond0_6 i) (hc7 : cond0_7 i) (hc8 : cond0_8 i) (hc9 : ¬cond0_9 i) (hc10 : cond0_10 i) (hc11 : cond0_11 i) :
    out0_C_8 c i b1 w1 b2 w2 b3 w3 b4 w4 b5 w5 b6 w6 b7 w7 b8 w8 b9 w9 b10 w10 b11 w11 b12 w12 b13 w13 hc0 hc1 hc2 hc3 hc4 hc5 hc6 hc7 hc8 hc9 hc10 hc11 x0 x1 x2 x3 x4 xs0 xs1 xs2 xs3 = addf xs3 (k0_pay4 x4 x3) := by
  unfold out0_C_8
  rw [View.read_writes_eq_canon _ _ _ (cover0_C_8 c i b1 w1 b2 w2 b3 w3 b4 w4 b5 w5 b6 w6 b7 w7 b8 w8 b9 w9 b10 w10 b11 w11 b12 w12 b13 w13 hc0 hc1 hc2 hc3 hc4 hc5 hc6 hc7 hc8 hc9 hc10 hc11 x0 x1 x2 x3 x4 xs0 xs1 xs2 xs3)]
  unfold kernelRun0_C
  dsimp only
  sl_unfold_words
  rw [View.canon_unit_zero hz, View.readCov_unit_zero (S := S1024x1024) _ hz]
  simp only [View.readAt_eq_ld, w1.read_unread, w2.read_unread, w3.read_unread, w4.read_unread, w5.read_unread, w10.read_unread, w11.read_unread, w12.read_unread, w13.read_unread, View.ld_unit_zero (S := S1024x1024) hz, View.ld_unit_zero (S := S1024x128) hz, View.ld_unit_zero (S := S128x1024) hz]
  simp only [k0_pay6, shapeCast_self]
  rfl

end runs

variable (m : (ℓ : Loc nD τ sig) → Buf (Elt Ideal) ℓ) (c : Dev nD)

/-- Argument 0 at launch. -/
abbrev a0 : FVec Ideal S4096x1024 .bf16 := m ((c : Thread nD τ).loc main_arg0)

/-- Argument 1 at launch. -/
abbrev a1 : FVec Ideal S4096x128 .f32 := m ((c : Thread nD τ).loc main_arg1)

/-- Argument 2 at launch. -/
abbrev a2 : FVec Ideal S4096x1024 .bf16 := m ((c : Thread nD τ).loc main_arg2)

/-- Argument 3 at launch. -/
abbrev a3 : FVec Ideal S4096x1024 .bf16 := m ((c : Thread nD τ).loc main_arg3)

/-- Argument 4 at launch. -/
abbrev a4 : FVec Ideal S4096x1024 .bf16 := m ((c : Thread nD τ).loc main_arg4)

/-- Row `r` of tile `t`. -/
def row (t : Fin cfg0.N) (r : Fin 1024) : Fin 4096 := ⟨t.val * 1024 + r.val, by
  have := t.isLt; have h : cfg0.N = 4 := N_0; omega⟩

/-- Which block each window reads or writes at a point. -/
theorem idx_at : ∀ t : Fin cfg0.N, (win0_0.index t 0 = t.val ∧ win0_0.index t 1 = 0) ∧ (win0_1.index t 0 = t.val ∧ win0_1.index t 1 = 0) ∧ (win0_2.index t 0 = t.val ∧ win0_2.index t 1 = 0) ∧ (win0_3.index t 0 = t.val ∧ win0_3.index t 1 = 0) ∧ (win0_4.index t 0 = t.val ∧ win0_4.index t 1 = 0) ∧ (win0_5.index t 0 = 0 ∧ win0_5.index t 1 = 0) ∧ (win0_6.index t 0 = 0 ∧ win0_6.index t 1 = 0) ∧ (win0_7.index t 0 = 0 ∧ win0_7.index t 1 = 0) ∧ (win0_8.index t 0 = 0 ∧ win0_8.index t 1 = 0) :=
  (by decide +kernel : ∀ t : Fin grid0.N, _)

theorem iblk0 (t : Fin cfg0.N) (r : Fin 1024) (j : Fin 1024) : iblk m c 0 t (ix2 r j) = a0 m c (ix2 (row t r) j) := by
  have hi := (idx_at t).1
  unfold iblk
  rw [View.read_apply]
  show V m c main_arg0 _ = m (c.tc.loc main_arg0) _
  unfold V
  congr 1
  funext a
  apply Fin.ext
  match a with
  | ⟨0, _⟩ => show win0_0.index t 0 * 1024 + 1 * r.val = t.val * 1024 + r.val; rw [hi.1]; omega
  | ⟨1, _⟩ => show win0_0.index t 1 * 1024 + 1 * j.val = j.val; rw [hi.2]; omega

theorem iblk1 (t : Fin cfg0.N) (r : Fin 1024) (j : Fin 128) : iblk m c 1 t (ix2 r j) = a1 m c (ix2 (row t r) j) := by
  have hi := (idx_at t).2.1
  unfold iblk
  rw [View.read_apply]
  show V m c main_arg1 _ = m (c.tc.loc main_arg1) _
  unfold V
  congr 1
  funext a
  apply Fin.ext
  match a with
  | ⟨0, _⟩ => show win0_1.index t 0 * 1024 + 1 * r.val = t.val * 1024 + r.val; rw [hi.1]; omega
  | ⟨1, _⟩ => show win0_1.index t 1 * 128 + 1 * j.val = j.val; rw [hi.2]; omega

theorem iblk2 (t : Fin cfg0.N) (r : Fin 1024) (j : Fin 1024) : iblk m c 2 t (ix2 r j) = a2 m c (ix2 (row t r) j) := by
  have hi := (idx_at t).2.2.1
  unfold iblk
  rw [View.read_apply]
  show V m c main_arg2 _ = m (c.tc.loc main_arg2) _
  unfold V
  congr 1
  funext a
  apply Fin.ext
  match a with
  | ⟨0, _⟩ => show win0_2.index t 0 * 1024 + 1 * r.val = t.val * 1024 + r.val; rw [hi.1]; omega
  | ⟨1, _⟩ => show win0_2.index t 1 * 1024 + 1 * j.val = j.val; rw [hi.2]; omega

theorem iblk3 (t : Fin cfg0.N) (r : Fin 1024) (j : Fin 1024) : iblk m c 3 t (ix2 r j) = a3 m c (ix2 (row t r) j) := by
  have hi := (idx_at t).2.2.2.1
  unfold iblk
  rw [View.read_apply]
  show V m c main_arg3 _ = m (c.tc.loc main_arg3) _
  unfold V
  congr 1
  funext a
  apply Fin.ext
  match a with
  | ⟨0, _⟩ => show win0_3.index t 0 * 1024 + 1 * r.val = t.val * 1024 + r.val; rw [hi.1]; omega
  | ⟨1, _⟩ => show win0_3.index t 1 * 1024 + 1 * j.val = j.val; rw [hi.2]; omega

theorem iblk4 (t : Fin cfg0.N) (r : Fin 1024) (j : Fin 1024) : iblk m c 4 t (ix2 r j) = a4 m c (ix2 (row t r) j) := by
  have hi := (idx_at t).2.2.2.2.1
  unfold iblk
  rw [View.read_apply]
  show V m c main_arg4 _ = m (c.tc.loc main_arg4) _
  unfold V
  congr 1
  funext a
  apply Fin.ext
  match a with
  | ⟨0, _⟩ => show win0_4.index t 0 * 1024 + 1 * r.val = t.val * 1024 + r.val; rw [hi.1]; omega
  | ⟨1, _⟩ => show win0_4.index t 1 * 1024 + 1 * j.val = j.val; rw [hi.2]; omega

/-- What the point before leaves, named by that point. -/
theorem before (t s : Fin cfg0.N) (hs : s.val + 1 = t.val) :
    outsAt0 m c (t.val - 1) (Nat.lt_of_le_of_lt (Nat.sub_le _ _) t.isLt) = outsAt0 m c s.val s.isLt := by
  congr 1
  omega

theorem first_0 (t : Fin cfg0.N) (h : t.val = 0) :
    (outsAt0 m c t.val t.isLt).2.2.2.2.1 = (k0_pay8 (iblk m c 4 t) (iblk m c 0 t)) := by
  rw [outsAt0_A m c t (by omega) (by omega) (by omega) (by omega) (by omega) (by omega) (by omega) (by omega) (by omega) (by omega) (by omega) (by omega), scr_A_0]

theorem middle_0 (t s : Fin cfg0.N) (hs : s.val + 1 = t.val) (h : t.val < 3) :
    (outsAt0 m c t.val t.isLt).2.2.2.2.1 = addf (F := Ideal) (outsAt0 m c s.val s.isLt).2.2.2.2.1 (k0_pay8 (iblk m c 4 t) (iblk m c 0 t)) := by
  rw [outsAt0_B m c t (by omega) (by omega) (by omega) (by omega) (by omega) (by omega) (by omega) (by omega) (by omega) (by omega) (by omega) (by omega), scr_B_0, before m c t s hs]

theorem last_0 (t s : Fin cfg0.N) (hs : s.val + 1 = t.val) (h : t.val = 3) :
    (outsAt0 m c t.val t.isLt).1 = addf (F := Ideal) (outsAt0 m c s.val s.isLt).2.2.2.2.1 (k0_pay8 (iblk m c 4 t) (iblk m c 0 t)) := by
  rw [outsAt0_C m c t (by omega) (by omega) (by omega) (by omega) (by omega) (by omega) (by omega) (by omega) (by omega) (by omega) (by omega) (by omega), out_C_0, before m c t s hs]

/-- After the last point result 0's buffer holds the reference's array. -/
theorem point_0 (t : Fin cfg0.N) (h3 : t.val = 3) (r : Fin 1024) (j : Fin 1024) :
    (outsAt0 m c t.val t.isLt).1 (ix2 r j) = val_main_v4 (F := Ideal) (a0 m c) (a4 m c) (ix2 r j) := by
  have hN : cfg0.N = 4 := N_0
  obtain ⟨s0, e0⟩ : ∃ s : Fin cfg0.N, s.val = 0 := ⟨⟨0, by omega⟩, rfl⟩
  obtain ⟨s1, e1⟩ : ∃ s : Fin cfg0.N, s.val = 1 := ⟨⟨1, by omega⟩, rfl⟩
  obtain ⟨s2, e2⟩ : ∃ s : Fin cfg0.N, s.val = 2 := ⟨⟨2, by omega⟩, rfl⟩
  rw [last_0 m c t s2 (by omega) h3, middle_0 m c s2 s1 (by omega) (by omega), middle_0 m c s1 s0 (by omega) (by omega), first_0 m c s0 e0]
  pointwise [val_main_v0, val_main_v1, val_main_v2, val_main_v3, val_main_v4]
  rw [tile_0, tile_0, tile_0, tile_0, sum_quarters]
  simp only [iblk0, iblk4]
  have g0 : ∀ k : Fin 1024, row s0 k = ⟨k.val, by omega⟩ := fun k => Fin.ext (by simp only [row]; omega)
  have g1 : ∀ k : Fin 1024, row s1 k = ⟨1024 + k.val, by omega⟩ := fun k => Fin.ext (by simp only [row]; omega)
  have g2 : ∀ k : Fin 1024, row s2 k = ⟨2048 + k.val, by omega⟩ := fun k => Fin.ext (by simp only [row]; omega)
  have g3 : ∀ k : Fin 1024, row t k = ⟨3072 + k.val, by omega⟩ := fun k => Fin.ext (by simp only [row]; omega)
  simp only [g0, g1, g2, g3]

/-- Result 0's array after the run is the reference's. -/
theorem final_5 : (dats m 0 c).arrAt 5 cfg0.N = val_main_v4 (F := Ideal) (a0 m c) (a4 m c) := by
  have hN : cfg0.N = 4 := N_0
  refine (dats m 0 c).arrAt_eq_of_cover 5 _ (fun t hf => ?_) fun i => ?_
  · have hi := (idx_at t).2.2.2.2.2.1
    rw [Cert.Kernel6Ideal.Value.flushed5]
    funext j
    obtain ⟨r, x, rfl⟩ : ∃ r x, j = ix2 r x := ⟨j 0, j 1, by idx_vars j⟩
    rw [View.read_apply]
    refine (point_0 m c t (by have := (flush0_5 t).mp hf; have := t.isLt; omega) r x).trans ?_
    congr 1
    funext a
    apply Fin.ext
    match a with
    | ⟨0, _⟩ => show r.val = win0_5.index t 0 * 1024 + 1 * r.val; rw [hi.1]; omega
    | ⟨1, _⟩ => show x.val = win0_5.index t 1 * 1024 + 1 * x.val; rw [hi.2]; omega
  · have h0 : (i 0 : Nat) < 1024 := (i 0).isLt
    have h1 : (i 1 : Nat) < 1024 := (i 1).isLt
    have ht : 3 < cfg0.N := by omega
    have hi := (idx_at ⟨3, ht⟩).2.2.2.2.2.1
    refine ⟨⟨3, ht⟩, (flush0_5 _).mpr rfl, ?_⟩
    show i ∈ ((View.whole main_v0_0).slice (win0_5.rect ⟨3, ht⟩)).set
    rw [View.set_slice_whole, Rect.mem_set_unit]
    intro a
    match a with
    | ⟨0, _⟩ => exact Cert.Tile.mem 1024 (i 0) hi.1 (by omega)
    | ⟨1, _⟩ => exact Cert.Tile.mem 1024 (i 1) hi.2 (by omega)

theorem first_1 (t : Fin cfg0.N) (h : t.val = 0) :
    (outsAt0 m c t.val t.isLt).2.2.2.2.2.1 = (k0_pay12 (iblk m c 4 t) (iblk m c 1 t)) := by
  rw [outsAt0_A m c t (by omega) (by omega) (by omega) (by omega) (by omega) (by omega) (by omega) (by omega) (by omega) (by omega) (by omega) (by omega), scr_A_1]

theorem middle_1 (t s : Fin cfg0.N) (hs : s.val + 1 = t.val) (h : t.val < 3) :
    (outsAt0 m c t.val t.isLt).2.2.2.2.2.1 = addf (F := Ideal) (outsAt0 m c s.val s.isLt).2.2.2.2.2.1 (k0_pay12 (iblk m c 4 t) (iblk m c 1 t)) := by
  rw [outsAt0_B m c t (by omega) (by omega) (by omega) (by omega) (by omega) (by omega) (by omega) (by omega) (by omega) (by omega) (by omega) (by omega), scr_B_1, before m c t s hs]

theorem last_1 (t s : Fin cfg0.N) (hs : s.val + 1 = t.val) (h : t.val = 3) :
    (outsAt0 m c t.val t.isLt).2.1 = addf (F := Ideal) (outsAt0 m c s.val s.isLt).2.2.2.2.2.1 (k0_pay12 (iblk m c 4 t) (iblk m c 1 t)) := by
  rw [outsAt0_C m c t (by omega) (by omega) (by omega) (by omega) (by omega) (by omega) (by omega) (by omega) (by omega) (by omega) (by omega) (by omega), out_C_1, before m c t s hs]

/-- After the last point result 1's buffer holds the reference's array. -/
theorem point_1 (t : Fin cfg0.N) (h3 : t.val = 3) (r : Fin 128) (j : Fin 1024) :
    (outsAt0 m c t.val t.isLt).2.1 (ix2 r j) = val_main_v7 (F := Ideal) (a1 m c) (a4 m c) (ix2 r j) := by
  have hN : cfg0.N = 4 := N_0
  obtain ⟨s0, e0⟩ : ∃ s : Fin cfg0.N, s.val = 0 := ⟨⟨0, by omega⟩, rfl⟩
  obtain ⟨s1, e1⟩ : ∃ s : Fin cfg0.N, s.val = 1 := ⟨⟨1, by omega⟩, rfl⟩
  obtain ⟨s2, e2⟩ : ∃ s : Fin cfg0.N, s.val = 2 := ⟨⟨2, by omega⟩, rfl⟩
  rw [last_1 m c t s2 (by omega) h3, middle_1 m c s2 s1 (by omega) (by omega), middle_1 m c s1 s0 (by omega) (by omega), first_1 m c s0 e0]
  pointwise [val_main_v0, val_main_v5, val_main_v6, val_main_v7]
  rw [tile_1, tile_1, tile_1, tile_1, sum_quarters]
  simp only [iblk1, iblk4]
  have g0 : ∀ k : Fin 1024, row s0 k = ⟨k.val, by omega⟩ := fun k => Fin.ext (by simp only [row]; omega)
  have g1 : ∀ k : Fin 1024, row s1 k = ⟨1024 + k.val, by omega⟩ := fun k => Fin.ext (by simp only [row]; omega)
  have g2 : ∀ k : Fin 1024, row s2 k = ⟨2048 + k.val, by omega⟩ := fun k => Fin.ext (by simp only [row]; omega)
  have g3 : ∀ k : Fin 1024, row t k = ⟨3072 + k.val, by omega⟩ := fun k => Fin.ext (by simp only [row]; omega)
  simp only [g0, g1, g2, g3]

/-- Result 1's array after the run is the reference's. -/
theorem final_6 : (dats m 0 c).arrAt 6 cfg0.N = val_main_v7 (F := Ideal) (a1 m c) (a4 m c) := by
  have hN : cfg0.N = 4 := N_0
  refine (dats m 0 c).arrAt_eq_of_cover 6 _ (fun t hf => ?_) fun i => ?_
  · have hi := (idx_at t).2.2.2.2.2.2.1
    rw [Cert.Kernel6Ideal.Value.flushed6]
    funext j
    obtain ⟨r, x, rfl⟩ : ∃ r x, j = ix2 r x := ⟨j 0, j 1, by idx_vars j⟩
    rw [View.read_apply]
    refine (point_1 m c t (by have := (flush0_6 t).mp hf; have := t.isLt; omega) r x).trans ?_
    congr 1
    funext a
    apply Fin.ext
    match a with
    | ⟨0, _⟩ => show r.val = win0_6.index t 0 * 128 + 1 * r.val; rw [hi.1]; omega
    | ⟨1, _⟩ => show x.val = win0_6.index t 1 * 1024 + 1 * x.val; rw [hi.2]; omega
  · have h0 : (i 0 : Nat) < 128 := (i 0).isLt
    have h1 : (i 1 : Nat) < 1024 := (i 1).isLt
    have ht : 3 < cfg0.N := by omega
    have hi := (idx_at ⟨3, ht⟩).2.2.2.2.2.2.1
    refine ⟨⟨3, ht⟩, (flush0_6 _).mpr rfl, ?_⟩
    show i ∈ ((View.whole main_v0_1).slice (win0_6.rect ⟨3, ht⟩)).set
    rw [View.set_slice_whole, Rect.mem_set_unit]
    intro a
    match a with
    | ⟨0, _⟩ => exact Cert.Tile.mem 128 (i 0) hi.1 (by omega)
    | ⟨1, _⟩ => exact Cert.Tile.mem 1024 (i 1) hi.2 (by omega)

theorem first_2 (t : Fin cfg0.N) (h : t.val = 0) :
    (outsAt0 m c t.val t.isLt).2.2.2.2.2.2.1 = (k0_pay16 (iblk m c 4 t) (iblk m c 2 t)) := by
  rw [outsAt0_A m c t (by omega) (by omega) (by omega) (by omega) (by omega) (by omega) (by omega) (by omega) (by omega) (by omega) (by omega) (by omega), scr_A_2]

theorem middle_2 (t s : Fin cfg0.N) (hs : s.val + 1 = t.val) (h : t.val < 3) :
    (outsAt0 m c t.val t.isLt).2.2.2.2.2.2.1 = addf (F := Ideal) (outsAt0 m c s.val s.isLt).2.2.2.2.2.2.1 (k0_pay16 (iblk m c 4 t) (iblk m c 2 t)) := by
  rw [outsAt0_B m c t (by omega) (by omega) (by omega) (by omega) (by omega) (by omega) (by omega) (by omega) (by omega) (by omega) (by omega) (by omega), scr_B_2, before m c t s hs]

theorem last_2 (t s : Fin cfg0.N) (hs : s.val + 1 = t.val) (h : t.val = 3) :
    (outsAt0 m c t.val t.isLt).2.2.1 = addf (F := Ideal) (outsAt0 m c s.val s.isLt).2.2.2.2.2.2.1 (k0_pay16 (iblk m c 4 t) (iblk m c 2 t)) := by
  rw [outsAt0_C m c t (by omega) (by omega) (by omega) (by omega) (by omega) (by omega) (by omega) (by omega) (by omega) (by omega) (by omega) (by omega), out_C_2, before m c t s hs]

/-- After the last point result 2's buffer holds the reference's array. -/
theorem point_2 (t : Fin cfg0.N) (h3 : t.val = 3) (r : Fin 1024) (j : Fin 1024) :
    (outsAt0 m c t.val t.isLt).2.2.1 (ix2 r j) = val_main_v11 (F := Ideal) (a2 m c) (a4 m c) (ix2 r j) := by
  have hN : cfg0.N = 4 := N_0
  obtain ⟨s0, e0⟩ : ∃ s : Fin cfg0.N, s.val = 0 := ⟨⟨0, by omega⟩, rfl⟩
  obtain ⟨s1, e1⟩ : ∃ s : Fin cfg0.N, s.val = 1 := ⟨⟨1, by omega⟩, rfl⟩
  obtain ⟨s2, e2⟩ : ∃ s : Fin cfg0.N, s.val = 2 := ⟨⟨2, by omega⟩, rfl⟩
  rw [last_2 m c t s2 (by omega) h3, middle_2 m c s2 s1 (by omega) (by omega), middle_2 m c s1 s0 (by omega) (by omega), first_2 m c s0 e0]
  pointwise [val_main_v0, val_main_v8, val_main_v9, val_main_v10, val_main_v11]
  rw [tile_2, tile_2, tile_2, tile_2, sum_quarters]
  simp only [iblk2, iblk4]
  have g0 : ∀ k : Fin 1024, row s0 k = ⟨k.val, by omega⟩ := fun k => Fin.ext (by simp only [row]; omega)
  have g1 : ∀ k : Fin 1024, row s1 k = ⟨1024 + k.val, by omega⟩ := fun k => Fin.ext (by simp only [row]; omega)
  have g2 : ∀ k : Fin 1024, row s2 k = ⟨2048 + k.val, by omega⟩ := fun k => Fin.ext (by simp only [row]; omega)
  have g3 : ∀ k : Fin 1024, row t k = ⟨3072 + k.val, by omega⟩ := fun k => Fin.ext (by simp only [row]; omega)
  simp only [g0, g1, g2, g3]

/-- Result 2's array after the run is the reference's. -/
theorem final_7 : (dats m 0 c).arrAt 7 cfg0.N = val_main_v11 (F := Ideal) (a2 m c) (a4 m c) := by
  have hN : cfg0.N = 4 := N_0
  refine (dats m 0 c).arrAt_eq_of_cover 7 _ (fun t hf => ?_) fun i => ?_
  · have hi := (idx_at t).2.2.2.2.2.2.2.1
    rw [Cert.Kernel6Ideal.Value.flushed7]
    funext j
    obtain ⟨r, x, rfl⟩ : ∃ r x, j = ix2 r x := ⟨j 0, j 1, by idx_vars j⟩
    rw [View.read_apply]
    refine (point_2 m c t (by have := (flush0_7 t).mp hf; have := t.isLt; omega) r x).trans ?_
    congr 1
    funext a
    apply Fin.ext
    match a with
    | ⟨0, _⟩ => show r.val = win0_7.index t 0 * 1024 + 1 * r.val; rw [hi.1]; omega
    | ⟨1, _⟩ => show x.val = win0_7.index t 1 * 1024 + 1 * x.val; rw [hi.2]; omega
  · have h0 : (i 0 : Nat) < 1024 := (i 0).isLt
    have h1 : (i 1 : Nat) < 1024 := (i 1).isLt
    have ht : 3 < cfg0.N := by omega
    have hi := (idx_at ⟨3, ht⟩).2.2.2.2.2.2.2.1
    refine ⟨⟨3, ht⟩, (flush0_7 _).mpr rfl, ?_⟩
    show i ∈ ((View.whole main_v0_2).slice (win0_7.rect ⟨3, ht⟩)).set
    rw [View.set_slice_whole, Rect.mem_set_unit]
    intro a
    match a with
    | ⟨0, _⟩ => exact Cert.Tile.mem 1024 (i 0) hi.1 (by omega)
    | ⟨1, _⟩ => exact Cert.Tile.mem 1024 (i 1) hi.2 (by omega)

theorem first_3 (t : Fin cfg0.N) (h : t.val = 0) :
    (outsAt0 m c t.val t.isLt).2.2.2.2.2.2.2 = (k0_pay4 (iblk m c 4 t) (iblk m c 3 t)) := by
  rw [outsAt0_A m c t (by omega) (by omega) (by omega) (by omega) (by omega) (by omega) (by omega) (by omega) (by omega) (by omega) (by omega) (by omega), scr_A_3]

theorem middle_3 (t s : Fin cfg0.N) (hs : s.val + 1 = t.val) (h : t.val < 3) :
    (outsAt0 m c t.val t.isLt).2.2.2.2.2.2.2 = addf (F := Ideal) (outsAt0 m c s.val s.isLt).2.2.2.2.2.2.2 (k0_pay4 (iblk m c 4 t) (iblk m c 3 t)) := by
  rw [outsAt0_B m c t (by omega) (by omega) (by omega) (by omega) (by omega) (by omega) (by omega) (by omega) (by omega) (by omega) (by omega) (by omega), scr_B_3, before m c t s hs]

theorem last_3 (t s : Fin cfg0.N) (hs : s.val + 1 = t.val) (h : t.val = 3) :
    (outsAt0 m c t.val t.isLt).2.2.2.1 = addf (F := Ideal) (outsAt0 m c s.val s.isLt).2.2.2.2.2.2.2 (k0_pay4 (iblk m c 4 t) (iblk m c 3 t)) := by
  rw [outsAt0_C m c t (by omega) (by omega) (by omega) (by omega) (by omega) (by omega) (by omega) (by omega) (by omega) (by omega) (by omega) (by omega), out_C_3, before m c t s hs]

/-- After the last point result 3's buffer holds the reference's array. -/
theorem point_3 (t : Fin cfg0.N) (h3 : t.val = 3) (r : Fin 1024) (j : Fin 1024) :
    (outsAt0 m c t.val t.isLt).2.2.2.1 (ix2 r j) = val_main_v15 (F := Ideal) (a3 m c) (a4 m c) (ix2 r j) := by
  have hN : cfg0.N = 4 := N_0
  obtain ⟨s0, e0⟩ : ∃ s : Fin cfg0.N, s.val = 0 := ⟨⟨0, by omega⟩, rfl⟩
  obtain ⟨s1, e1⟩ : ∃ s : Fin cfg0.N, s.val = 1 := ⟨⟨1, by omega⟩, rfl⟩
  obtain ⟨s2, e2⟩ : ∃ s : Fin cfg0.N, s.val = 2 := ⟨⟨2, by omega⟩, rfl⟩
  rw [last_3 m c t s2 (by omega) h3, middle_3 m c s2 s1 (by omega) (by omega), middle_3 m c s1 s0 (by omega) (by omega), first_3 m c s0 e0]
  pointwise [val_main_v0, val_main_v12, val_main_v13, val_main_v14, val_main_v15]
  rw [tile_3, tile_3, tile_3, tile_3, sum_quarters]
  simp only [iblk3, iblk4]
  have g0 : ∀ k : Fin 1024, row s0 k = ⟨k.val, by omega⟩ := fun k => Fin.ext (by simp only [row]; omega)
  have g1 : ∀ k : Fin 1024, row s1 k = ⟨1024 + k.val, by omega⟩ := fun k => Fin.ext (by simp only [row]; omega)
  have g2 : ∀ k : Fin 1024, row s2 k = ⟨2048 + k.val, by omega⟩ := fun k => Fin.ext (by simp only [row]; omega)
  have g3 : ∀ k : Fin 1024, row t k = ⟨3072 + k.val, by omega⟩ := fun k => Fin.ext (by simp only [row]; omega)
  simp only [g0, g1, g2, g3]

/-- Result 3's array after the run is the reference's. -/
theorem final_8 : (dats m 0 c).arrAt 8 cfg0.N = val_main_v15 (F := Ideal) (a3 m c) (a4 m c) := by
  have hN : cfg0.N = 4 := N_0
  refine (dats m 0 c).arrAt_eq_of_cover 8 _ (fun t hf => ?_) fun i => ?_
  · have hi := (idx_at t).2.2.2.2.2.2.2.2
    rw [Cert.Kernel6Ideal.Value.flushed8]
    funext j
    obtain ⟨r, x, rfl⟩ : ∃ r x, j = ix2 r x := ⟨j 0, j 1, by idx_vars j⟩
    rw [View.read_apply]
    refine (point_3 m c t (by have := (flush0_8 t).mp hf; have := t.isLt; omega) r x).trans ?_
    congr 1
    funext a
    apply Fin.ext
    match a with
    | ⟨0, _⟩ => show r.val = win0_8.index t 0 * 1024 + 1 * r.val; rw [hi.1]; omega
    | ⟨1, _⟩ => show x.val = win0_8.index t 1 * 1024 + 1 * x.val; rw [hi.2]; omega
  · have h0 : (i 0 : Nat) < 1024 := (i 0).isLt
    have h1 : (i 1 : Nat) < 1024 := (i 1).isLt
    have ht : 3 < cfg0.N := by omega
    have hi := (idx_at ⟨3, ht⟩).2.2.2.2.2.2.2.2
    refine ⟨⟨3, ht⟩, (flush0_8 _).mpr rfl, ?_⟩
    show i ∈ ((View.whole main_v0_3).slice (win0_8.rect ⟨3, ht⟩)).set
    rw [View.set_slice_whole, Rect.mem_set_unit]
    intro a
    match a with
    | ⟨0, _⟩ => exact Cert.Tile.mem 1024 (i 0) hi.1 (by omega)
    | ⟨1, _⟩ => exact Cert.Tile.mem 1024 (i 1) hi.2 (by omega)

/-- From memories that agree on the arguments, the kernel and the reference end with the same arrays. -/
theorem equal : Cert.algebraic_Kernel6Ideal_Reference6Ideal := by
  intro m g m' g' _ hargs
  refine ⟨fun c => val_main_v4 (F := Ideal) (a0 m c) (a4 m c), fun c => val_main_v7 (F := Ideal) (a1 m c) (a4 m c), fun c => val_main_v11 (F := Ideal) (a2 m c) (a4 m c), fun c => val_main_v15 (F := Ideal) (a3 m c) (a4 m c), ?_, ?_⟩
  · refine (θ_run _ _ _).mono (fun r h c => ?_) (Cert.Kernel6Ideal.Value.run_blocks (F := Ideal) m g)
    obtain ⟨h0, h1, h2, h3, h4⟩ := h c
    exact ⟨h0.trans (final_5 m c), h1.trans (final_6 m c), h2.trans (final_7 m c), h3.trans (final_8 m c), h4⟩
  · refine (θ_run _ _ _).mono (fun r h c => ?_) (Cert.Reference6Ideal.Value.run (F := Ideal) m' g')
    obtain ⟨e0, e1, e2, e3, e4⟩ := hargs c
    obtain ⟨h0, h1, h2, h3, h4⟩ := h c
    rw [val_main_v4_eq] at h0
    rw [e0, e4] at h0
    rw [val_main_v7_eq] at h1
    rw [e1, e4] at h1
    rw [val_main_v11_eq] at h2
    rw [e2, e4] at h2
    rw [val_main_v15_eq] at h3
    rw [e3, e4] at h3
    exact ⟨h0, h1, h2, h3, h4⟩

end Cert.Call6

end
-- ==== Proof.Call7.lean ====
/- The weight gradient of the gated products, tile by tile over the rows -/
module

public import proofs.«01_k».proof.Defs
public import proofs.«01_k».proof.Proof.Gen.Kernel7Ideal.Value
public import proofs.«01_k».proof.Proof.Gen.Reference7Ideal.Read
public import Idealize.ShloMosaic.Lib.Pointwise
public import Idealize.ShloMosaic.Lib.Tactic
public import Idealize.ShloMosaic.PureOps.Ideal.Laws
public import proofs.«01_k».proof.Proof.Tile

@[expose] public section

noncomputable section

namespace Cert.Call7

open Idealize.ShloMosaic Idealize.ShloMosaic.TcCoe Idealize.SL.Sem Cert.Kernel7Ideal Cert.Kernel7Ideal.Gen
open Cert.Reference7Ideal.Read

theorem hz : (![0, 0] : Fin 2 → Nat) = fun _ => 0 := funext fun a => by fin_cases a <;> rfl

/-- A sum over the rows is the sum over the first half's and the second half's. -/
theorem sum_halves (g : Fin 4096 → EReal) :
    ∑ k : Fin 4096, g k = (∑ k : Fin 2048, g ⟨k.val, by omega⟩) + ∑ k : Fin 2048, g ⟨2048 + k.val, by omega⟩ :=
  Fin.sum_univ_add (a := 2048) (b := 2048) g

/-- One tile's product sums over the tile's rows. -/
theorem tile (x0 : Vec Ideal S2048x1408 .bf16) (x1 : Vec Ideal S2048x1024 .bf16) (r : Fin 1408) (j : Fin 1024) :
    k0_pay1 x0 x1 (ix2 r j) = ∑ k : Fin 2048, x0 (ix2 k r) * x1 (ix2 k j) := by
  pointwise [k0_pay1]

/-- The first half of the rows leaves its product in the accumulator. -/
theorem scratch_A (c : Dev nD) (i : grid0.Coords) (a3 : Memref sig .tc .vmem S2048x1408 .bf16) (h3 : a3.IsWhole)
    (a4 : Memref sig .tc .vmem S2048x1024 .bf16) (h4 : a4.IsWhole) (a5 : Memref sig .tc .vmem S1408x1024 .bf16) (h5 : a5.IsWhole)
    (a6 : Memref sig .tc .vmem S1408x1024 .f32) (h6 : a6.IsWhole) (hc0 : cond0_0 i) (hc1 : ¬cond0_1 i) (hc2 : ¬cond0_2 i)
    (x0 : Vec Ideal S2048x1408 .bf16) (x1 : Vec Ideal S2048x1024 .bf16) :
    sout0_A_0 c i a3 h3 a4 h4 a5 h5 a6 h6 hc0 hc1 hc2 x0 x1 = k0_pay1 x0 x1 := by
  unfold sout0_A_0
  rw [View.read_writes_eq_canon _ _ _ (scover0_A_0 c i a3 h3 a4 h4 a5 h5 a6 h6 hc0 hc1 hc2 x0 x1)]
  unfold kernelRun0_A
  dsimp only
  sl_unfold_words
  rw [View.canon_unit_zero hz]
  simp only [View.readAt_eq_ld, h3.read_unread, h4.read_unread, View.ld_unit_zero (S := S2048x1408) hz, View.ld_unit_zero (S := S2048x1024) hz]
  simp only [k0_pay2, shapeCast_self]

/-- The second half of the rows leaves the accumulator plus its product in the output block. -/
theorem out_B (c : Dev nD) (i : grid0.Coords) (a3 : Memref sig .tc .vmem S2048x1408 .bf16) (h3 : a3.IsWhole)
    (a4 : Memref sig .tc .vmem S2048x1024 .bf16) (h4 : a4.IsWhole) (a5 : Memref sig .tc .vmem S1408x1024 .bf16) (h5 : a5.IsWhole)
    (a6 : Memref sig .tc .vmem S1408x1024 .f32) (h6 : a6.IsWhole) (hc0 : ¬cond0_0 i) (hc1 : ¬cond0_1 i) (hc2 : cond0_2 i)
    (x0 : Vec Ideal S2048x1408 .bf16) (x1 : Vec Ideal S2048x1024 .bf16) (xs : Vec Ideal S1408x1024 .f32) :
    out0_B_2 c i a3 h3 a4 h4 a5 h5 a6 h6 hc0 hc1 hc2 x0 x1 xs = addf xs (k0_pay1 x0 x1) := by
  unfold out0_B_2
  rw [View.read_writes_eq_canon _ _ _ (cover0_B_2 c i a3 h3 a4 h4 a5 h5 a6 h6 hc0 hc1 hc2 x0 x1 xs)]
  unfold kernelRun0_B
  dsimp only
  sl_unfold_words
  rw [View.canon_unit_zero hz]
  simp only [View.readAt_eq_ld, h3.read_unread, h4.read_unread, h6.read_unread, View.ld_unit_zero (S := S2048x1408) hz, View.ld_unit_zero (S := S2048x1024) hz, View.ld_unit_zero (S := S1408x1024) hz]
  rfl

variable (m : (ℓ : Loc nD τ sig) → Buf (Elt Ideal) ℓ) (c : Dev nD)

/-- Argument 0 at launch. -/
abbrev a0 : FVec Ideal S4096x2816 .bf16 := m ((c : Thread nD τ).loc main_arg0)

/-- Argument 1 at launch. -/
abbrev a1 : FVec Ideal S4096x1024 .bf16 := m ((c : Thread nD τ).loc main_arg1)

/-- Row `r` of the half that point `t` reads. -/
def row (t : Fin cfg0.N) (r : Fin 2048) : Fin 4096 := ⟨t.val % 2 * 2048 + r.val, by omega⟩

/-- Column `j` of the block that point `t` works on. -/
def col (t : Fin cfg0.N) (j : Fin 1408) : Fin 2816 := ⟨t.val / 2 * 1408 + j.val, by
  have := t.isLt; have h : cfg0.N = 4 := N_0; omega⟩

/-- Which block each window reads or writes at a point. -/
theorem idx_at : ∀ t : Fin cfg0.N, (win0_0.index t 0 = t.val % 2 ∧ win0_0.index t 1 = t.val / 2) ∧ (win0_1.index t 0 = t.val % 2 ∧ win0_1.index t 1 = 0) ∧ (win0_2.index t 0 = t.val / 2 ∧ win0_2.index t 1 = 0) :=
  (by decide +kernel : ∀ t : Fin grid0.N, _)

theorem iblk0 (t : Fin cfg0.N) (r : Fin 2048) (j : Fin 1408) : iblk m c 0 t (ix2 r j) = a0 m c (ix2 (row t r) (col t j)) := by
  have hi := (idx_at t).1
  unfold iblk
  rw [View.read_apply]
  show V m c main_arg0 _ = m (c.tc.loc main_arg0) _
  unfold V
  congr 1
  funext a
  apply Fin.ext
  match a with
  | ⟨0, _⟩ => show win0_0.index t 0 * 2048 + 1 * r.val = t.val % 2 * 2048 + r.val; rw [hi.1]; omega
  | ⟨1, _⟩ => show win0_0.index t 1 * 1408 + 1 * j.val = t.val / 2 * 1408 + j.val; rw [hi.2]; omega

theorem iblk1 (t : Fin cfg0.N) (r : Fin 2048) (j : Fin 1024) : iblk m c 1 t (ix2 r j) = a1 m c (ix2 (row t r) j) := by
  have hi := (idx_at t).2.1
  unfold iblk
  rw [View.read_apply]
  show V m c main_arg1 _ = m (c.tc.loc main_arg1) _
  unfold V
  congr 1
  funext a
  apply Fin.ext
  match a with
  | ⟨0, _⟩ => show win0_1.index t 0 * 2048 + 1 * r.val = t.val % 2 * 2048 + r.val; rw [hi.1]; omega
  | ⟨1, _⟩ => show win0_1.index t 1 * 1024 + 1 * j.val = j.val; rw [hi.2]; omega

/-- After a point that closes a block the output's buffer holds both halves' products, added. -/
theorem outs (t s : Fin cfg0.N) (ht : t.val % 2 = 1) (hs : s.val = t.val - 1) :
    (outsAt0 m c t.val t.isLt).1 = addf (F := Ideal) (k0_pay1 (iblk m c 0 s) (iblk m c 1 s)) (k0_pay1 (iblk m c 0 t) (iblk m c 1 t)) := by
  have e : (outsAt0 m c (t.val - 1) (Nat.lt_of_le_of_lt (Nat.sub_le _ _) t.isLt)).2 = k0_pay1 (iblk m c 0 s) (iblk m c 1 s) := by
    have e1 : outsAt0 m c (t.val - 1) (Nat.lt_of_le_of_lt (Nat.sub_le _ _) t.isLt) = outsAt0 m c s.val s.isLt := by congr 1; exact hs.symm
    rw [e1, outsAt0_A m c s (by omega) (by omega), scratch_A]
  rw [outsAt0_B m c t (by omega) ht, e, out_B]

/-- The block a closing point leaves is that block of the reference's array. -/
theorem point (t : Fin cfg0.N) (ht : t.val % 2 = 1) (r : Fin 1408) (j : Fin 1024) :
    (outsAt0 m c t.val t.isLt).1 (ix2 r j) = val_main_v4 (F := Ideal) (a0 m c) (a1 m c) (ix2 (col t r) j) := by
  have hlt : t.val - 1 < cfg0.N := Nat.lt_of_le_of_lt (Nat.sub_le _ _) t.isLt
  rw [outs m c t ⟨t.val - 1, hlt⟩ ht rfl]
  pointwise [val_main_v0, val_main_v1, val_main_v2, val_main_v3, val_main_v4]
  rw [tile, tile, sum_halves]
  simp only [iblk0, iblk1]
  have hc : col ⟨t.val - 1, hlt⟩ r = col t r := Fin.ext (by simp only [col]; omega)
  have h0 : ∀ k : Fin 2048, row ⟨t.val - 1, hlt⟩ k = ⟨k.val, by omega⟩ := fun k => Fin.ext (by simp only [row]; omega)
  have h1 : ∀ k : Fin 2048, row t k = ⟨2048 + k.val, by omega⟩ := fun k => Fin.ext (by simp only [row]; omega)
  simp only [hc, h0, h1]

/-- The result's array after the run is the reference's. -/
theorem final_2 : (dats m 0 c).arrAt 2 cfg0.N = val_main_v4 (F := Ideal) (a0 m c) (a1 m c) := by
  have hN : cfg0.N = 4 := N_0
  refine (dats m 0 c).arrAt_eq_of_cover 2 _ (fun t hf => ?_) fun i => ?_
  · have hi := (idx_at t).2.2
    rw [Cert.Kernel7Ideal.Value.flushed2]
    funext j
    obtain ⟨r, x, rfl⟩ : ∃ r x, j = ix2 r x := ⟨j 0, j 1, by idx_vars j⟩
    rw [View.read_apply]
    refine (point m c t ((flush0_2 t).mp hf) r x).trans ?_
    congr 1
    funext a
    apply Fin.ext
    match a with
    | ⟨0, _⟩ => show t.val / 2 * 1408 + r.val = win0_2.index t 0 * 1408 + 1 * r.val; rw [hi.1]; omega
    | ⟨1, _⟩ => show x.val = win0_2.index t 1 * 1024 + 1 * x.val; rw [hi.2]; omega
  · have h0 : (i 0 : Nat) < 2816 := (i 0).isLt
    have h1 : (i 1 : Nat) < 1024 := (i 1).isLt
    have ht : (i 0 : Nat) / 1408 * 2 + 1 < cfg0.N := by omega
    have hi := (idx_at ⟨(i 0 : Nat) / 1408 * 2 + 1, ht⟩).2.2
    refine ⟨⟨(i 0 : Nat) / 1408 * 2 + 1, ht⟩, (flush0_2 _).mpr (by dsimp only; omega), ?_⟩
    show i ∈ ((View.whole main_v0).slice (win0_2.rect ⟨(i 0 : Nat) / 1408 * 2 + 1, ht⟩)).set
    rw [View.set_slice_whole, Rect.mem_set_unit]
    intro a
    match a with
    | ⟨0, _⟩ => exact Cert.Tile.mem 1408 (i 0) hi.1 (by dsimp only; omega)
    | ⟨1, _⟩ => exact Cert.Tile.mem 1024 (i 1) hi.2 (by omega)

/-- From memories that agree on the arguments, the kernel and the reference end with the same arrays. -/
theorem equal : Cert.algebraic_Kernel7Ideal_Reference7Ideal := by
  intro m g m' g' _ hargs
  refine ⟨fun c => val_main_v4 (F := Ideal) (a0 m c) (a1 m c), ?_, ?_⟩
  · refine (θ_run _ _ _).mono (fun r h c => ?_) (Cert.Kernel7Ideal.Value.run_blocks (F := Ideal) m g)
    obtain ⟨h0, h1⟩ := h c
    exact ⟨h0.trans (final_2 m c), h1⟩
  · refine (θ_run _ _ _).mono (fun r h c => ?_) (Cert.Reference7Ideal.Value.run (F := Ideal) m' g')
    obtain ⟨e0, e1⟩ := hargs c
    obtain ⟨h0, h1⟩ := h c
    rw [val_main_v4_eq] at h0
    rw [e0, e1] at h0
    exact ⟨h0, h1⟩

end Cert.Call7

end
-- ==== Proof.Call8.lean ====
/- The gradient of the feed-forward's activation -/
module

public import proofs.«01_k».proof.Defs
public import proofs.«01_k».proof.Proof.Gen.Kernel8Ideal.Value
public import proofs.«01_k».proof.Proof.Gen.Reference8Ideal.Read
public import Idealize.ShloMosaic.Lib.Pointwise
public import Idealize.ShloMosaic.Lib.Tactic
public import Idealize.ShloMosaic.PureOps.Ideal.Laws
public import proofs.«01_k».proof.Proof.Tile

@[expose] public section

noncomputable section

namespace Cert.Call8

open Idealize.ShloMosaic Idealize.ShloMosaic.TcCoe Idealize.SL.Sem Cert.Kernel8Ideal Cert.Kernel8Ideal.Gen
open Cert.Reference8Ideal.Read

theorem hz : (![0, 0] : Fin 2 → Nat) = fun _ => 0 := funext fun a => by fin_cases a <;> rfl

/-- A block of rows' product is the reference's rows. -/
theorem block_eq (f : Fin 512 → Fin 4096) (a0 : FVec Ideal S4096x1024 .bf16) (a1 : FVec Ideal S2816x1024 .bf16) (x0 : Vec Ideal S512x1024 .bf16) (x1 : Vec Ideal S2816x1024 .bf16) (h0 : ∀ r k, x0 (ix2 r k) = a0 (ix2 (f r) k)) (h1 : ∀ r k, x1 (ix2 r k) = a1 (ix2 r k)) (r : Fin 512) (j : Fin 2816) :
    k0_pay1 x0 x1 (ix2 r j) = val_main_v4 (F := Ideal) a0 a1 (ix2 (f r) j) := by
  pointwise [k0_pay1, val_main_v0, val_main_v1, val_main_v2, val_main_v3, val_main_v4]
  simp only [h0, h1]

variable (m : (ℓ : Loc nD τ sig) → Buf (Elt Ideal) ℓ) (c : Dev nD)

/-- Argument 0 at launch. -/
abbrev a0 : FVec Ideal S4096x1024 .bf16 := m ((c : Thread nD τ).loc main_arg0)

/-- Argument 1 at launch. -/
abbrev a1 : FVec Ideal S2816x1024 .bf16 := m ((c : Thread nD τ).loc main_arg1)

/-- Row `r` of tile `t`. -/
def row (t : Fin cfg0.N) (r : Fin 512) : Fin 4096 := ⟨t.val * 512 + r.val, by
  have := t.isLt; have h : cfg0.N = 8 := N_0; omega⟩

/-- Which block each window reads or writes at a point. -/
theorem idx_at : ∀ t : Fin cfg0.N, (win0_0.index t 0 = t.val ∧ win0_0.index t 1 = 0) ∧ (win0_1.index t 0 = 0 ∧ win0_1.index t 1 = 0) ∧ (win0_2.index t 0 = t.val ∧ win0_2.index t 1 = 0) :=
  (by decide +kernel : ∀ t : Fin grid0.N, _)

theorem iblk0 (t : Fin cfg0.N) (r : Fin 512) (j : Fin 1024) : iblk m c 0 t (ix2 r j) = a0 m c (ix2 (row t r) j) := by
  have hi := (idx_at t).1
  unfold iblk
  rw [View.read_apply]
  show V m c main_arg0 _ = m (c.tc.loc main_arg0) _
  unfold V
  congr 1
  funext a
  apply Fin.ext
  match a with
  | ⟨0, _⟩ => show win0_0.index t 0 * 512 + 1 * r.val = t.val * 512 + r.val; rw [hi.1]; omega
  | ⟨1, _⟩ => show win0_0.index t 1 * 1024 + 1 * j.val = j.val; rw [hi.2]; omega

theorem iblk1 (t : Fin cfg0.N) (r : Fin 2816) (j : Fin 1024) : iblk m c 1 t (ix2 r j) = a1 m c (ix2 r j) := by
  have hi := (idx_at t).2.1
  unfold iblk
  rw [View.read_apply]
  show V m c main_arg1 _ = m (c.tc.loc main_arg1) _
  unfold V
  congr 1
  funext a
  apply Fin.ext
  match a with
  | ⟨0, _⟩ => show win0_1.index t 0 * 2816 + 1 * r.val = r.val; rw [hi.1]; omega
  | ⟨1, _⟩ => show win0_1.index t 1 * 1024 + 1 * j.val = j.val; rw [hi.2]; omega

/-- What a point leaves in this window is the reference's rows of its tile. -/
theorem point_2 (t : Fin cfg0.N) (r : Fin 512) (j : Fin 2816) :
    out0_2 (iblk m c 0 t) (iblk m c 1 t) (ix2 r j) = val_main_v4 (F := Ideal) (a0 m c) (a1 m c) (ix2 (row t r) j) := by
  unfold out0_2
  rw [View.canon_unit_zero hz]
  simp only [View.ld_unit_zero (S := S512x1024) hz, View.ld_unit_zero (S := S2816x1024) hz]
  exact block_eq (row t) (a0 m c) (a1 m c) (iblk m c 0 t) (iblk m c 1 t) (fun r k => iblk0 m c t r k) (fun r k => iblk1 m c t r k) r j

/-- The array this window ends with. -/
theorem final_2 : (dats m 0 c).arrAt 2 cfg0.N = val_main_v4 (F := Ideal) (a0 m c) (a1 m c) := by
  have hN : cfg0.N = 8 := N_0
  refine (dats m 0 c).arrAt_eq_of_cover 2 _ (fun t _ => ?_) fun i => ?_
  · have hi := (idx_at t).2.2
    rw [Cert.Kernel8Ideal.Value.flushed2]
    funext j
    obtain ⟨r, x, rfl⟩ : ∃ r x, j = ix2 r x := ⟨j 0, j 1, by idx_vars j⟩
    rw [View.read_apply]
    refine (point_2 m c t r x).trans ?_
    congr 1
    funext a
    apply Fin.ext
    match a with
    | ⟨0, _⟩ => show t.val * 512 + r.val = win0_2.index t 0 * 512 + 1 * r.val; rw [hi.1]; omega
    | ⟨1, _⟩ => show x.val = win0_2.index t 1 * 2816 + 1 * x.val; rw [hi.2]; omega
  · have h0 : (i 0 : Nat) < 4096 := (i 0).isLt
    have h1 : (i 1 : Nat) < 2816 := (i 1).isLt
    obtain ⟨t, ht⟩ : ∃ t : Fin cfg0.N, t.val = (i 0 : Nat) / 512 := ⟨⟨(i 0 : Nat) / 512, by omega⟩, rfl⟩
    refine ⟨t, flush0_2 _, ?_⟩
    have hi := (idx_at t).2.2
    show i ∈ ((View.whole main_v0).slice (win0_2.rect t)).set
    rw [View.set_slice_whole, Rect.mem_set_unit]
    intro a
    match a with
    | ⟨0, _⟩ => exact Cert.Tile.mem 512 (i 0) hi.1 (by omega)
    | ⟨1, _⟩ => exact Cert.Tile.mem 2816 (i 1) hi.2 (by omega)

/-- From memories that agree on the arguments, the kernel and the reference end with the same arrays. -/
theorem equal : Cert.algebraic_Kernel8Ideal_Reference8Ideal := by
  intro m g m' g' _ hargs
  refine ⟨fun c => val_main_v4 (F := Ideal) (a0 m c) (a1 m c), ?_, ?_⟩
  · refine (θ_run _ _ _).mono (fun r h c => ?_) (Cert.Kernel8Ideal.Value.run_blocks (F := Ideal) m g)
    obtain ⟨h0, h1⟩ := h c
    exact ⟨h0.trans (final_2 m c), h1⟩
  · refine (θ_run _ _ _).mono (fun r h c => ?_) (Cert.Reference8Ideal.Value.run (F := Ideal) m' g')
    obtain ⟨e0, e1⟩ := hargs c
    obtain ⟨h0, h1⟩ := h c
    rw [val_main_v4_eq] at h0
    rw [e0, e1] at h0
    exact ⟨h0, h1⟩

end Cert.Call8

end
-- ==== Proof.Call9.lean ====
/- The feed-forward's closing product and its residual sum -/
module

public import proofs.«01_k».proof.Defs
public import proofs.«01_k».proof.Proof.Gen.Kernel9Ideal.Value
public import proofs.«01_k».proof.Proof.Gen.Reference9Ideal.Read
public import Idealize.ShloMosaic.Lib.Pointwise
public import Idealize.ShloMosaic.Lib.Tactic
public import Idealize.ShloMosaic.PureOps.Ideal.Laws
public import proofs.«01_k».proof.Proof.Tile

@[expose] public section

noncomputable section

namespace Cert.Call9

open Idealize.ShloMosaic Idealize.ShloMosaic.TcCoe Idealize.SL.Sem Cert.Kernel9Ideal Cert.Kernel9Ideal.Gen
open Cert.Reference9Ideal.Read

theorem hz : (![0, 0] : Fin 2 → Nat) = fun _ => 0 := funext fun a => by fin_cases a <;> rfl

/-- A block of rows' product is the reference's rows. -/
theorem block_eq (f : Fin 512 → Fin 4096) (a0 : FVec Ideal S4096x2816 .bf16) (a1 : FVec Ideal S2816x1024 .bf16) (a2 : FVec Ideal S4096x1024 .bf16) (x0 : Vec Ideal S512x2816 .bf16) (x1 : Vec Ideal S2816x1024 .bf16) (x2 : Vec Ideal S512x1024 .bf16) (h0 : ∀ r k, x0 (ix2 r k) = a0 (ix2 (f r) k)) (h1 : ∀ r k, x1 (ix2 r k) = a1 (ix2 r k)) (h2 : ∀ r k, x2 (ix2 r k) = a2 (ix2 (f r) k)) (r : Fin 512) (j : Fin 1024) :
    k0_pay1 x0 x1 x2 (ix2 r j) = val_main_v5 (F := Ideal) a0 a1 a2 (ix2 (f r) j) := by
  pointwise [k0_pay1, val_main_v0, val_main_v1, val_main_v2, val_main_v3, val_main_v4, val_main_v5]
  simp only [h0, h1, h2]
  exact add_comm _ _

variable (m : (ℓ : Loc nD τ sig) → Buf (Elt Ideal) ℓ) (c : Dev nD)

/-- Argument 0 at launch. -/
abbrev a0 : FVec Ideal S4096x2816 .bf16 := m ((c : Thread nD τ).loc main_arg0)

/-- Argument 1 at launch. -/
abbrev a1 : FVec Ideal S2816x1024 .bf16 := m ((c : Thread nD τ).loc main_arg1)

/-- Argument 2 at launch. -/
abbrev a2 : FVec Ideal S4096x1024 .bf16 := m ((c : Thread nD τ).loc main_arg2)

/-- Row `r` of tile `t`. -/
def row (t : Fin cfg0.N) (r : Fin 512) : Fin 4096 := ⟨t.val * 512 + r.val, by
  have := t.isLt; have h : cfg0.N = 8 := N_0; omega⟩

/-- Which block each window reads or writes at a point. -/
theorem idx_at : ∀ t : Fin cfg0.N, (win0_0.index t 0 = t.val ∧ win0_0.index t 1 = 0) ∧ (win0_1.index t 0 = 0 ∧ win0_1.index t 1 = 0) ∧ (win0_2.index t 0 = t.val ∧ win0_2.index t 1 = 0) ∧ (win0_3.index t 0 = t.val ∧ win0_3.index t 1 = 0) :=
  (by decide +kernel : ∀ t : Fin grid0.N, _)

theorem iblk0 (t : Fin cfg0.N) (r : Fin 512) (j : Fin 2816) : iblk m c 0 t (ix2 r j) = a0 m c (ix2 (row t r) j) := by
  have hi := (idx_at t).1
  unfold iblk
  rw [View.read_apply]
  show V m c main_arg0 _ = m (c.tc.loc main_arg0) _
  unfold V
  congr 1
  funext a
  apply Fin.ext
  match a with
  | ⟨0, _⟩ => show win0_0.index t 0 * 512 + 1 * r.val = t.val * 512 + r.val; rw [hi.1]; omega
  | ⟨1, _⟩ => show win0_0.index t 1 * 2816 + 1 * j.val = j.val; rw [hi.2]; omega

theorem iblk1 (t : Fin cfg0.N) (r : Fin 2816) (j : Fin 1024) : iblk m c 1 t (ix2 r j) = a1 m c (ix2 r j) := by
  have hi := (idx_at t).2.1
  unfold iblk
  rw [View.read_apply]
  show V m c main_arg1 _ = m (c.tc.loc main_arg1) _
  unfold V
  congr 1
  funext a
  apply Fin.ext
  match a with
  | ⟨0, _⟩ => show win0_1.index t 0 * 2816 + 1 * r.val = r.val; rw [hi.1]; omega
  | ⟨1, _⟩ => show win0_1.index t 1 * 1024 + 1 * j.val = j.val; rw [hi.2]; omega

theorem iblk2 (t : Fin cfg0.N) (r : Fin 512) (j : Fin 1024) : iblk m c 2 t (ix2 r j) = a2 m c (ix2 (row t r) j) := by
  have hi := (idx_at t).2.2.1
  unfold iblk
  rw [View.read_apply]
  show V m c main_arg2 _ = m (c.tc.loc main_arg2) _
  unfold V
  congr 1
  funext a
  apply Fin.ext
  match a with
  | ⟨0, _⟩ => show win0_2.index t 0 * 512 + 1 * r.val = t.val * 512 + r.val; rw [hi.1]; omega
  | ⟨1, _⟩ => show win0_2.index t 1 * 1024 + 1 * j.val = j.val; rw [hi.2]; omega

/-- What a point leaves in this window is the reference's rows of its tile. -/
theorem point_3 (t : Fin cfg0.N) (r : Fin 512) (j : Fin 1024) :
    out0_3 (iblk m c 0 t) (iblk m c 1 t) (iblk m c 2 t) (ix2 r j) = val_main_v5 (F := Ideal) (a0 m c) (a1 m c) (a2 m c) (ix2 (row t r) j) := by
  unfold out0_3
  rw [View.canon_unit_zero hz]
  simp only [View.ld_unit_zero (S := S512x2816) hz, View.ld_unit_zero (S := S2816x1024) hz, View.ld_unit_zero (S := S512x1024) hz]
  exact block_eq (row t) (a0 m c) (a1 m c) (a2 m c) (iblk m c 0 t) (iblk m c 1 t) (iblk m c 2 t) (fun r k => iblk0 m c t r k) (fun r k => iblk1 m c t r k) (fun r k => iblk2 m c t r k) r j

/-- The array this window ends with. -/
theorem final_3 : (dats m 0 c).arrAt 3 cfg0.N = val_main_v5 (F := Ideal) (a0 m c) (a1 m c) (a2 m c) := by
  have hN : cfg0.N = 8 := N_0
  refine (dats m 0 c).arrAt_eq_of_cover 3 _ (fun t _ => ?_) fun i => ?_
  · have hi := (idx_at t).2.2.2
    rw [Cert.Kernel9Ideal.Value.flushed3]
    funext j
    obtain ⟨r, x, rfl⟩ : ∃ r x, j = ix2 r x := ⟨j 0, j 1, by idx_vars j⟩
    rw [View.read_apply]
    refine (point_3 m c t r x).trans ?_
    congr 1
    funext a
    apply Fin.ext
    match a with
    | ⟨0, _⟩ => show t.val * 512 + r.val = win0_3.index t 0 * 512 + 1 * r.val; rw [hi.1]; omega
    | ⟨1, _⟩ => show x.val = win0_3.index t 1 * 1024 + 1 * x.val; rw [hi.2]; omega
  · have h0 : (i 0 : Nat) < 4096 := (i 0).isLt
    have h1 : (i 1 : Nat) < 1024 := (i 1).isLt
    obtain ⟨t, ht⟩ : ∃ t : Fin cfg0.N, t.val = (i 0 : Nat) / 512 := ⟨⟨(i 0 : Nat) / 512, by omega⟩, rfl⟩
    refine ⟨t, flush0_3 _, ?_⟩
    have hi := (idx_at t).2.2.2
    show i ∈ ((View.whole main_v0).slice (win0_3.rect t)).set
    rw [View.set_slice_whole, Rect.mem_set_unit]
    intro a
    match a with
    | ⟨0, _⟩ => exact Cert.Tile.mem 512 (i 0) hi.1 (by omega)
    | ⟨1, _⟩ => exact Cert.Tile.mem 1024 (i 1) hi.2 (by omega)

/-- From memories that agree on the arguments, the kernel and the reference end with the same arrays. -/
theorem equal : Cert.algebraic_Kernel9Ideal_Reference9Ideal := by
  intro m g m' g' _ hargs
  refine ⟨fun c => val_main_v5 (F := Ideal) (a0 m c) (a1 m c) (a2 m c), ?_, ?_⟩
  · refine (θ_run _ _ _).mono (fun r h c => ?_) (Cert.Kernel9Ideal.Value.run_blocks (F := Ideal) m g)
    obtain ⟨h0, h1⟩ := h c
    exact ⟨h0.trans (final_3 m c), h1⟩
  · refine (θ_run _ _ _).mono (fun r h c => ?_) (Cert.Reference9Ideal.Value.run (F := Ideal) m' g')
    obtain ⟨e0, e1, e2⟩ := hargs c
    obtain ⟨h0, h1⟩ := h c
    rw [val_main_v5_eq] at h0
    rw [e0, e1, e2] at h0
    exact ⟨h0, h1⟩

end Cert.Call9

end
-- ==== Proof.Call10.lean ====
/- The output projection's input gradients, one product for each half of its weight -/
module

public import proofs.«01_k».proof.Defs
public import proofs.«01_k».proof.Proof.Gen.Kernel10Ideal.Value
public import proofs.«01_k».proof.Proof.Gen.Reference10Ideal.Read
public import Idealize.ShloMosaic.Lib.Pointwise
public import Idealize.ShloMosaic.Lib.Tactic
public import Idealize.ShloMosaic.Lib.Pipeline.ValueKit.Tiles
public import Idealize.ShloMosaic.PureOps.Ideal.Laws
public import proofs.«01_k».proof.Proof.Tile

@[expose] public section

noncomputable section

namespace Cert.Call10

open Idealize.ShloMosaic Idealize.ShloMosaic.TcCoe Idealize.SL.Sem Cert.Kernel10Ideal Cert.Kernel10Ideal.Gen
open Cert.Reference10Ideal.Read

theorem hz : (![0, 0] : Fin 2 → Nat) = fun _ => 0 := funext fun a => by fin_cases a <;> rfl

/-- The rows of the product with the weight's rows from row 0. -/
theorem block_2 (f : Fin 512 → Fin 4096) (a0 : FVec Ideal S4096x1024 .bf16) (a1 : FVec Ideal S2048x1024 .bf16)
    (x0 : Vec Ideal S512x1024 .bf16) (y : Vec Ideal S1024x1024 .bf16) (h0 : ∀ r k, x0 (ix2 r k) = a0 (ix2 (f r) k))
    (h1 : ∀ r k, y (ix2 r k) = a1 (ix2 ⟨0 + r.val, by omega⟩ k)) (r : Fin 512) (j : Fin 1024) :
    k0_pay1 x0 y (ix2 r j) = val_main_v6 (F := Ideal) a0 a1 (ix2 (f r) j) := by
  pointwise [k0_pay1, val_main_v0, val_main_v1, val_main_v2, val_main_v3, val_main_v4, val_main_v6]
  simp only [h0, h1, Nat.zero_add]

/-- The rows of the product with the weight's rows from row 1024. -/
theorem block_3 (f : Fin 512 → Fin 4096) (a0 : FVec Ideal S4096x1024 .bf16) (a1 : FVec Ideal S2048x1024 .bf16)
    (x0 : Vec Ideal S512x1024 .bf16) (y : Vec Ideal S1024x1024 .bf16) (h0 : ∀ r k, x0 (ix2 r k) = a0 (ix2 (f r) k))
    (h1 : ∀ r k, y (ix2 r k) = a1 (ix2 ⟨1024 + r.val, by omega⟩ k)) (r : Fin 512) (j : Fin 1024) :
    k0_pay2 x0 y (ix2 r j) = val_main_v7 (F := Ideal) a0 a1 (ix2 (f r) j) := by
  pointwise [k0_pay2, val_main_v0, val_main_v1, val_main_v2, val_main_v3, val_main_v5, val_main_v7]
  simp only [h0, h1]

/-- A load of 1024 rows from row 0. -/
theorem ld_1 (x : Vec Ideal S2048x1024 .bf16) (r : Fin 1024) (k : Fin 1024) :
    View.ld x r0_1 (ix2 r k) = x (ix2 ⟨0 + r.val, by omega⟩ k) :=
  View.ld_unit_apply_of x _ _ _ _ _ fun a => match a with
    | ⟨0, _⟩ => rfl
    | ⟨1, _⟩ => (Nat.zero_add _).symm

/-- A load of 1024 rows from row 1024. -/
theorem ld_2 (x : Vec Ideal S2048x1024 .bf16) (r : Fin 1024) (k : Fin 1024) :
    View.ld x r0_2 (ix2 r k) = x (ix2 ⟨1024 + r.val, by omega⟩ k) :=
  View.ld_unit_apply_of x _ _ _ _ _ fun a => match a with
    | ⟨0, _⟩ => rfl
    | ⟨1, _⟩ => (Nat.zero_add _).symm

variable (m : (ℓ : Loc nD τ sig) → Buf (Elt Ideal) ℓ) (c : Dev nD)

/-- Argument 0 at launch. -/
abbrev a0 : FVec Ideal S4096x1024 .bf16 := m ((c : Thread nD τ).loc main_arg0)

/-- Argument 1 at launch. -/
abbrev a1 : FVec Ideal S2048x1024 .bf16 := m ((c : Thread nD τ).loc main_arg1)

/-- Row `r` of tile `t`. -/
def row (t : Fin cfg0.N) (r : Fin 512) : Fin 4096 := ⟨t.val * 512 + r.val, by
  have := t.isLt; have h : cfg0.N = 8 := N_0; omega⟩

/-- Which block each window reads or writes at a point. -/
theorem idx_at : ∀ t : Fin cfg0.N, (win0_0.index t 0 = t.val ∧ win0_0.index t 1 = 0) ∧ (win0_1.index t 0 = 0 ∧ win0_1.index t 1 = 0) ∧ (win0_2.index t 0 = t.val ∧ win0_2.index t 1 = 0) ∧ (win0_3.index t 0 = t.val ∧ win0_3.index t 1 = 0) :=
  (by decide +kernel : ∀ t : Fin grid0.N, _)

theorem iblk0 (t : Fin cfg0.N) (r : Fin 512) (j : Fin 1024) : iblk m c 0 t (ix2 r j) = a0 m c (ix2 (row t r) j) := by
  have hi := (idx_at t).1
  unfold iblk
  rw [View.read_apply]
  show V m c main_arg0 _ = m (c.tc.loc main_arg0) _
  unfold V
  congr 1
  funext a
  apply Fin.ext
  match a with
  | ⟨0, _⟩ => show win0_0.index t 0 * 512 + 1 * r.val = t.val * 512 + r.val; rw [hi.1]; omega
  | ⟨1, _⟩ => show win0_0.index t 1 * 1024 + 1 * j.val = j.val; rw [hi.2]; omega

theorem iblk1 (t : Fin cfg0.N) (r : Fin 2048) (j : Fin 1024) : iblk m c 1 t (ix2 r j) = a1 m c (ix2 r j) := by
  have hi := (idx_at t).2.1
  unfold iblk
  rw [View.read_apply]
  show V m c main_arg1 _ = m (c.tc.loc main_arg1) _
  unfold V
  congr 1
  funext a
  apply Fin.ext
  match a with
  | ⟨0, _⟩ => show win0_1.index t 0 * 2048 + 1 * r.val = r.val; rw [hi.1]; omega
  | ⟨1, _⟩ => show win0_1.index t 1 * 1024 + 1 * j.val = j.val; rw [hi.2]; omega

/-- What a point leaves in this window is the reference's rows of its tile. -/
theorem point_2 (t : Fin cfg0.N) (r : Fin 512) (j : Fin 1024) :
    out0_2 (iblk m c 0 t) (iblk m c 1 t) (ix2 r j) = val_main_v6 (F := Ideal) (a0 m c) (a1 m c) (ix2 (row t r) j) := by
  unfold out0_2
  rw [View.canon_unit_zero hz]
  simp only [View.ld_unit_zero (S := S512x1024) hz, View.ld_unit_zero (S := S2048x1024) hz]
  exact block_2 (row t) (a0 m c) (a1 m c) (iblk m c 0 t) (View.ld (iblk m c 1 t) r0_1) (fun r k => iblk0 m c t r k) (fun r k => (ld_1 (iblk m c 1 t) r k).trans (iblk1 m c t _ k)) r j

/-- The array this window ends with. -/
theorem final_2 : (dats m 0 c).arrAt 2 cfg0.N = val_main_v6 (F := Ideal) (a0 m c) (a1 m c) := by
  have hN : cfg0.N = 8 := N_0
  refine (dats m 0 c).arrAt_eq_of_cover 2 _ (fun t _ => ?_) fun i => ?_
  · have hi := (idx_at t).2.2.1
    rw [Cert.Kernel10Ideal.Value.flushed2]
    funext j
    obtain ⟨r, x, rfl⟩ : ∃ r x, j = ix2 r x := ⟨j 0, j 1, by idx_vars j⟩
    rw [View.read_apply]
    refine (point_2 m c t r x).trans ?_
    congr 1
    funext a
    apply Fin.ext
    match a with
    | ⟨0, _⟩ => show t.val * 512 + r.val = win0_2.index t 0 * 512 + 1 * r.val; rw [hi.1]; omega
    | ⟨1, _⟩ => show x.val = win0_2.index t 1 * 1024 + 1 * x.val; rw [hi.2]; omega
  · have h0 : (i 0 : Nat) < 4096 := (i 0).isLt
    have h1 : (i 1 : Nat) < 1024 := (i 1).isLt
    obtain ⟨t, ht⟩ : ∃ t : Fin cfg0.N, t.val = (i 0 : Nat) / 512 := ⟨⟨(i 0 : Nat) / 512, by omega⟩, rfl⟩
    refine ⟨t, flush0_2 _, ?_⟩
    have hi := (idx_at t).2.2.1
    show i ∈ ((View.whole main_v0_0).slice (win0_2.rect t)).set
    rw [View.set_slice_whole, Rect.mem_set_unit]
    intro a
    match a with
    | ⟨0, _⟩ => exact Cert.Tile.mem 512 (i 0) hi.1 (by omega)
    | ⟨1, _⟩ => exact Cert.Tile.mem 1024 (i 1) hi.2 (by omega)

/-- What a point leaves in this window is the reference's rows of its tile. -/
theorem point_3 (t : Fin cfg0.N) (r : Fin 512) (j : Fin 1024) :
    out0_3 (iblk m c 0 t) (iblk m c 1 t) (ix2 r j) = val_main_v7 (F := Ideal) (a0 m c) (a1 m c) (ix2 (row t r) j) := by
  unfold out0_3
  rw [View.canon_unit_zero hz]
  simp only [View.ld_unit_zero (S := S512x1024) hz, View.ld_unit_zero (S := S2048x1024) hz]
  exact block_3 (row t) (a0 m c) (a1 m c) (iblk m c 0 t) (View.ld (iblk m c 1 t) r0_2) (fun r k => iblk0 m c t r k) (fun r k => (ld_2 (iblk m c 1 t) r k).trans (iblk1 m c t _ k)) r j

/-- The array this window ends with. -/
theorem final_3 : (dats m 0 c).arrAt 3 cfg0.N = val_main_v7 (F := Ideal) (a0 m c) (a1 m c) := by
  have hN : cfg0.N = 8 := N_0
  refine (dats m 0 c).arrAt_eq_of_cover 3 _ (fun t _ => ?_) fun i => ?_
  · have hi := (idx_at t).2.2.2
    rw [Cert.Kernel10Ideal.Value.flushed3]
    funext j
    obtain ⟨r, x, rfl⟩ : ∃ r x, j = ix2 r x := ⟨j 0, j 1, by idx_vars j⟩
    rw [View.read_apply]
    refine (point_3 m c t r x).trans ?_
    congr 1
    funext a
    apply Fin.ext
    match a with
    | ⟨0, _⟩ => show t.val * 512 + r.val = win0_3.index t 0 * 512 + 1 * r.val; rw [hi.1]; omega
    | ⟨1, _⟩ => show x.val = win0_3.index t 1 * 1024 + 1 * x.val; rw [hi.2]; omega
  · have h0 : (i 0 : Nat) < 4096 := (i 0).isLt
    have h1 : (i 1 : Nat) < 1024 := (i 1).isLt
    obtain ⟨t, ht⟩ : ∃ t : Fin cfg0.N, t.val = (i 0 : Nat) / 512 := ⟨⟨(i 0 : Nat) / 512, by omega⟩, rfl⟩
    refine ⟨t, flush0_3 _, ?_⟩
    have hi := (idx_at t).2.2.2
    show i ∈ ((View.whole main_v0_1).slice (win0_3.rect t)).set
    rw [View.set_slice_whole, Rect.mem_set_unit]
    intro a
    match a with
    | ⟨0, _⟩ => exact Cert.Tile.mem 512 (i 0) hi.1 (by omega)
    | ⟨1, _⟩ => exact Cert.Tile.mem 1024 (i 1) hi.2 (by omega)

/-- From memories that agree on the arguments, the kernel and the reference end with the same arrays. -/
theorem equal : Cert.algebraic_Kernel10Ideal_Reference10Ideal := by
  intro m g m' g' _ hargs
  refine ⟨fun c => val_main_v6 (F := Ideal) (a0 m c) (a1 m c), fun c => val_main_v7 (F := Ideal) (a0 m c) (a1 m c), ?_, ?_⟩
  · refine (θ_run _ _ _).mono (fun r h c => ?_) (Cert.Kernel10Ideal.Value.run_blocks (F := Ideal) m g)
    obtain ⟨h0, h1, h2⟩ := h c
    exact ⟨h0.trans (final_2 m c), h1.trans (final_3 m c), h2⟩
  · refine (θ_run _ _ _).mono (fun r h c => ?_) (Cert.Reference10Ideal.Value.run (F := Ideal) m' g')
    obtain ⟨e0, e1⟩ := hargs c
    obtain ⟨h0, h1, h2⟩ := h c
    rw [val_main_v6_eq] at h0
    rw [e0, e1] at h0
    rw [val_main_v7_eq] at h1
    rw [e0, e1] at h1
    exact ⟨h0, h1, h2⟩

end Cert.Call10

end
-- ==== Proof.Call11.lean ====
/- The output projection's weight gradients, one for each half of its input, tile by tile over the rows -/
module

public import proofs.«01_k».proof.Defs
public import proofs.«01_k».proof.Proof.Gen.Kernel11Ideal.Value
public import proofs.«01_k».proof.Proof.Gen.Reference11Ideal.Read
public import Idealize.ShloMosaic.Lib.Pointwise
public import Idealize.ShloMosaic.Lib.Tactic
public import Idealize.ShloMosaic.PureOps.Ideal.Laws
public import proofs.«01_k».proof.Proof.Tile

@[expose] public section

noncomputable section

namespace Cert.Call11

open Idealize.ShloMosaic Idealize.ShloMosaic.TcCoe Idealize.SL.Sem Cert.Kernel11Ideal Cert.Kernel11Ideal.Gen
open Cert.Reference11Ideal.Read

theorem hz : (![0, 0] : Fin 2 → Nat) = fun _ => 0 := funext fun a => by fin_cases a <;> rfl

/-- A sum over the rows is the sum over the four quarters. -/
theorem sum_quarters (g : Fin 4096 → EReal) :
    ∑ k : Fin 4096, g k = (∑ k : Fin 1024, g ⟨k.val, by omega⟩) + (∑ k : Fin 1024, g ⟨1024 + k.val, by omega⟩)
      + (∑ k : Fin 1024, g ⟨2048 + k.val, by omega⟩) + ∑ k : Fin 1024, g ⟨3072 + k.val, by omega⟩ := by
  refine (Fin.sum_univ_add (a := 3072) (b := 1024) g).trans (congrArg₂ (· + ·) ?_ rfl)
  refine (Fin.sum_univ_add (a := 2048) (b := 1024) fun k => g ⟨k.val, by omega⟩).trans (congrArg₂ (· + ·) ?_ rfl)
  exact Fin.sum_univ_add (a := 1024) (b := 1024) fun k => g ⟨k.val, by omega⟩

/-- One tile's product for result 0 sums over the tile's rows. -/
theorem tile_0 (y : Vec Ideal S1024x1024 .bf16) (x : Vec Ideal S1024x1024 .bf16) (r : Fin 1024) (j : Fin 1024) :
    k0_pay1 y x (ix2 r j) = ∑ k : Fin 1024, x (ix2 k r) * y (ix2 k j) := by
  pointwise [k0_pay1]

section runs

variable (c : Dev nD) (i : grid0.Coords) (b1 : Memref sig .tc .vmem S1024x1024 .bf16) (w1 : b1.IsWhole) (b2 : Memref sig .tc .vmem S1024x1024 .bf16) (w2 : b2.IsWhole) (b3 : Memref sig .tc .vmem S1024x1024 .bf16) (w3 : b3.IsWhole) (b4 : Memref sig .tc .vmem S1024x1024 .bf16) (w4 : b4.IsWhole) (b5 : Memref sig .tc .vmem S1024x1024 .bf16) (w5 : b5.IsWhole) (b6 : Memref sig .tc .vmem S1024x1024 .f32) (w6 : b6.IsWhole) (b7 : Memref sig .tc .vmem S1024x1024 .f32) (w7 : b7.IsWhole)

/-- The first tile leaves its product in accumulator 0. -/
theorem scr_A_0 (hc0 : cond0_0 i) (hc1 : ¬cond0_1 i) (hc2 : ¬cond0_2 i) (hc3 : cond0_3 i) (hc4 : ¬cond0_4 i) (hc5 : ¬cond0_5 i)
    (x0 : Vec Ideal S1024x1024 .bf16) (x1 : Vec Ideal S1024x1024 .bf16) (x2 : Vec Ideal S1024x1024 .bf16) :
    sout0_A_0 c i b1 w1 b2 w2 b3 w3 b4 w4 b5 w5 b6 w6 b7 w7 hc0 hc1 hc2 hc3 hc4 hc5 x0 x1 x2 = k0_pay1 x2 x0 := by
  unfold sout0_A_0
  rw [View.read_writes_eq_canon _ _ _ (scover0_A_0 c i b1 w1 b2 w2 b3 w3 b4 w4 b5 w5 b6 w6 b7 w7 hc0 hc1 hc2 hc3 hc4 hc5 x0 x1 x2)]
  unfold kernelRun0_A
  dsimp only
  sl_unfold_words
  rw [View.canon_unit_zero hz]
  simp only [View.readAt_eq_ld, w1.read_unread, w2.read_unread, w3.read_unread, w6.read_unread, w7.read_unread, View.ld_unit_zero (S := S1024x1024) hz]
  simp only [k0_pay2, shapeCast_self]

/-- A middle tile adds its product to accumulator 0. -/
theorem scr_B_0 (hc0 : ¬cond0_0 i) (hc1 : cond0_1 i) (hc2 : ¬cond0_2 i) (hc3 : ¬cond0_3 i) (hc4 : cond0_4 i) (hc5 : ¬cond0_5 i)
    (x0 : Vec Ideal S1024x1024 .bf16) (x1 : Vec Ideal S1024x1024 .bf16) (x2 : Vec Ideal S1024x1024 .bf16)
    (xs0 : Vec Ideal S1024x1024 .f32) (xs1 : Vec Ideal S1024x1024 .f32) :
    sout0_B_0 c i b1 w1 b2 w2 b3 w3 b4 w4 b5 w5 b6 w6 b7 w7 hc0 hc1 hc2 hc3 hc4 hc5 x0 x1 x2 xs0 xs1 = addf xs0 (k0_pay1 x2 x0) := by
  unfold sout0_B_0
  rw [View.read_writes_eq_canon _ _ _ (scover0_B_0 c i b1 w1 b2 w2 b3 w3 b4 w4 b5 w5 b6 w6 b7 w7 hc0 hc1 hc2 hc3 hc4 hc5 x0 x1 x2 xs0 xs1)]
  unfold kernelRun0_B
  dsimp only
  sl_unfold_words
  rw [View.canon_unit_zero hz]
  simp only [View.readAt_eq_ld, w1.read_unread, w2.read_unread, w3.read_unread, w6.read_unread, w7.read_unread, View.ld_unit_zero (S := S1024x1024) hz]
  simp only [k0_pay3, shapeCast_self]

/-- The last tile leaves the accumulator plus its product in result 0. -/
theorem out_C_0 (hc0 : ¬cond0_0 i) (hc1 : cond0_1 i) (hc2 : cond0_2 i) (hc3 : ¬cond0_3 i) (hc4 : cond0_4 i) (hc5 : cond0_5 i)
    (x0 : Vec Ideal S1024x1024 .bf16) (x1 : Vec Ideal S1024x1024 .bf16) (x2 : Vec Ideal S1024x1024 .bf16)
    (xs0 : Vec Ideal S1024x1024 .f32) (xs1 : Vec Ideal S1024x1024 .f32) :
    out0_C_3 c i b1 w1 b2 w2 b3 w3 b4 w4 b5 w5 b6 w6 b7 w7 hc0 hc1 hc2 hc3 hc4 hc5 x0 x1 x2 xs0 xs1 = addf xs0 (k0_pay1 x2 x0) := by
  unfold out0_C_3
  rw [View.read_writes_eq_canon _ _ _ (cover0_C_3 c i b1 w1 b2 w2 b3 w3 b4 w4 b5 w5 b6 w6 b7 w7 hc0 hc1 hc2 hc3 hc4 hc5 x0 x1 x2 xs0 xs1)]
  unfold kernelRun0_C
  dsimp only
  sl_unfold_words
  rw [View.canon_unit_zero hz, View.readCov_unit_zero (S := S1024x1024) _ hz]
  simp only [View.readAt_eq_ld, w1.read_unread, w2.read_unread, w3.read_unread, w6.read_unread, w7.read_unread, View.ld_unit_zero (S := S1024x1024) hz]
  simp only [k0_pay3, shapeCast_self]
  rfl

/-- One tile's product for result 1 sums over the tile's rows. -/
theorem tile_1 (y : Vec Ideal S1024x1024 .bf16) (x : Vec Ideal S1024x1024 .bf16) (r : Fin 1024) (j : Fin 1024) :
    k0_pay5 y x (ix2 r j) = ∑ k : Fin 1024, x (ix2 k r) * y (ix2 k j) := by
  pointwise [k0_pay5]

/-- The first tile leaves its product in accumulator 1. -/
theorem scr_A_1 (hc0 : cond0_0 i) (hc1 : ¬cond0_1 i) (hc2 : ¬cond0_2 i) (hc3 : cond0_3 i) (hc4 : ¬cond0_4 i) (hc5 : ¬cond0_5 i)
    (x0 : Vec Ideal S1024x1024 .bf16) (x1 : Vec Ideal S1024x1024 .bf16) (x2 : Vec Ideal S1024x1024 .bf16) :
    sout0_A_1 c i b1 w1 b2 w2 b3 w3 b4 w4 b5 w5 b6 w6 b7 w7 hc0 hc1 hc2 hc3 hc4 hc5 x0 x1 x2 = k0_pay5 x2 x1 := by
  unfold sout0_A_1
  rw [View.read_writes_eq_canon _ _ _ (scover0_A_1 c i b1 w1 b2 w2 b3 w3 b4 w4 b5 w5 b6 w6 b7 w7 hc0 hc1 hc2 hc3 hc4 hc5 x0 x1 x2)]
  unfold kernelRun0_A
  dsimp only
  sl_unfold_words
  rw [View.canon_unit_zero hz]
  simp only [View.readAt_eq_ld, w1.read_unread, w2.read_unread, w3.read_unread, w6.read_unread, w7.read_unread, View.ld_unit_zero (S := S1024x1024) hz]
  simp only [k0_pay6, shapeCast_self]

/-- A middle tile adds its product to accumulator 1. -/
theorem scr_B_1 (hc0 : ¬cond0_0 i) (hc1 : cond0_1 i) (hc2 : ¬cond0_2 i) (hc3 : ¬cond0_3 i) (hc4 : cond0_4 i) (hc5 : ¬cond0_5 i)
    (x0 : Vec Ideal S1024x1024 .bf16) (x1 : Vec Ideal S1024x1024 .bf16) (x2 : Vec Ideal S1024x1024 .bf16)
    (xs0 : Vec Ideal S1024x1024 .f32) (xs1 : Vec Ideal S1024x1024 .f32) :
    sout0_B_1 c i b1 w1 b2 w2 b3 w3 b4 w4 b5 w5 b6 w6 b7 w7 hc0 hc1 hc2 hc3 hc4 hc5 x0 x1 x2 xs0 xs1 = addf xs1 (k0_pay5 x2 x1) := by
  unfold sout0_B_1
  rw [View.read_writes_eq_canon _ _ _ (scover0_B_1 c i b1 w1 b2 w2 b3 w3 b4 w4 b5 w5 b6 w6 b7 w7 hc0 hc1 hc2 hc3 hc4 hc5 x0 x1 x2 xs0 xs1)]
  unfold kernelRun0_B
  dsimp only
  sl_unfold_words
  rw [View.canon_unit_zero hz]
  simp only [View.readAt_eq_ld, w1.read_unread, w2.read_unread, w3.read_unread, w6.read_unread, w7.read_unread, View.ld_unit_zero (S := S1024x1024) hz]
  simp only [k0_pay7, shapeCast_self]

/-- The last tile leaves the accumulator plus its product in result 1. -/
theorem out_C_1 (hc0 : ¬cond0_0 i) (hc1 : cond0_1 i) (hc2 : cond0_2 i) (hc3 : ¬cond0_3 i) (hc4 : cond0_4 i) (hc5 : cond0_5 i)
    (x0 : Vec Ideal S1024x1024 .bf16) (x1 : Vec Ideal S1024x1024 .bf16) (x2 : Vec Ideal S1024x1024 .bf16)
    (xs0 : Vec Ideal S1024x1024 .f32) (xs1 : Vec Ideal S1024x1024 .f32) :
    out0_C_4 c i b1 w1 b2 w2 b3 w3 b4 w4 b5 w5 b6 w6 b7 w7 hc0 hc1 hc2 hc3 hc4 hc5 x0 x1 x2 xs0 xs1 = addf xs1 (k0_pay5 x2 x1) := by
  unfold out0_C_4
  rw [View.read_writes_eq_canon _ _ _ (cover0_C_4 c i b1 w1 b2 w2 b3 w3 b4 w4 b5 w5 b6 w6 b7 w7 hc0 hc1 hc2 hc3 hc4 hc5 x0 x1 x2 xs0 xs1)]
  unfold kernelRun0_C
  dsimp only
  sl_unfold_words
  rw [View.canon_unit_zero hz, View.readCov_unit_zero (S := S1024x1024) _ hz]
  simp only [View.readAt_eq_ld, w1.read_unread, w2.read_unread, w3.read_unread, w6.read_unread, w7.read_unread, View.ld_unit_zero (S := S1024x1024) hz]
  simp only [k0_pay7, shapeCast_self]
  rfl

end runs

variable (m : (ℓ : Loc nD τ sig) → Buf (Elt Ideal) ℓ) (c : Dev nD)

/-- Argument 0 at launch. -/
abbrev a0 : FVec Ideal S4096x1024 .bf16 := m ((c : Thread nD τ).loc main_arg0)

/-- Argument 1 at launch. -/
abbrev a1 : FVec Ideal S4096x1024 .bf16 := m ((c : Thread nD τ).loc main_arg1)

/-- Argument 2 at launch. -/
abbrev a2 : FVec Ideal S4096x1024 .bf16 := m ((c : Thread nD τ).loc main_arg2)

/-- Row `r` of tile `t`. -/
def row (t : Fin cfg0.N) (r : Fin 1024) : Fin 4096 := ⟨t.val * 1024 + r.val, by
  have := t.isLt; have h : cfg0.N = 4 := N_0; omega⟩

/-- Which block each window reads or writes at a point. -/
theorem idx_at : ∀ t : Fin cfg0.N, (win0_0.index t 0 = t.val ∧ win0_0.index t 1 = 0) ∧ (win0_1.index t 0 = t.val ∧ win0_1.index t 1 = 0) ∧ (win0_2.index t 0 = t.val ∧ win0_2.index t 1 = 0) ∧ (win0_3.index t 0 = 0 ∧ win0_3.index t 1 = 0) ∧ (win0_4.index t 0 = 0 ∧ win0_4.index t 1 = 0) :=
  (by decide +kernel : ∀ t : Fin grid0.N, _)

theorem iblk0 (t : Fin cfg0.N) (r : Fin 1024) (j : Fin 1024) : iblk m c 0 t (ix2 r j) = a0 m c (ix2 (row t r) j) := by
  have hi := (idx_at t).1
  unfold iblk
  rw [View.read_apply]
  show V m c main_arg0 _ = m (c.tc.loc main_arg0) _
  unfold V
  congr 1
  funext a
  apply Fin.ext
  match a with
  | ⟨0, _⟩ => show win0_0.index t 0 * 1024 + 1 * r.val = t.val * 1024 + r.val; rw [hi.1]; omega
  | ⟨1, _⟩ => show win0_0.index t 1 * 1024 + 1 * j.val = j.val; rw [hi.2]; omega

theorem iblk1 (t : Fin cfg0.N) (r : Fin 1024) (j : Fin 1024) : iblk m c 1 t (ix2 r j) = a1 m c (ix2 (row t r) j) := by
  have hi := (idx_at t).2.1
  unfold iblk
  rw [View.read_apply]
  show V m c main_arg1 _ = m (c.tc.loc main_arg1) _
  unfold V
  congr 1
  funext a
  apply Fin.ext
  match a with
  | ⟨0, _⟩ => show win0_1.index t 0 * 1024 + 1 * r.val = t.val * 1024 + r.val; rw [hi.1]; omega
  | ⟨1, _⟩ => show win0_1.index t 1 * 1024 + 1 * j.val = j.val; rw [hi.2]; omega

theorem iblk2 (t : Fin cfg0.N) (r : Fin 1024) (j : Fin 1024) : iblk m c 2 t (ix2 r j) = a2 m c (ix2 (row t r) j) := by
  have hi := (idx_at t).2.2.1
  unfold iblk
  rw [View.read_apply]
  show V m c main_arg2 _ = m (c.tc.loc main_arg2) _
  unfold V
  congr 1
  funext a
  apply Fin.ext
  match a with
  | ⟨0, _⟩ => show win0_2.index t 0 * 1024 + 1 * r.val = t.val * 1024 + r.val; rw [hi.1]; omega
  | ⟨1, _⟩ => show win0_2.index t 1 * 1024 + 1 * j.val = j.val; rw [hi.2]; omega

/-- What the point before leaves, named by that point. -/
theorem before (t s : Fin cfg0.N) (hs : s.val + 1 = t.val) :
    outsAt0 m c (t.val - 1) (Nat.lt_of_le_of_lt (Nat.sub_le _ _) t.isLt) = outsAt0 m c s.val s.isLt := by
  congr 1
  omega

theorem first_0 (t : Fin cfg0.N) (h : t.val = 0) :
    (outsAt0 m c t.val t.isLt).2.2.1 = (k0_pay1 (iblk m c 2 t) (iblk m c 0 t)) := by
  rw [outsAt0_A m c t (by omega) (by omega) (by omega) (by omega) (by omega) (by omega), scr_A_0]

theorem middle_0 (t s : Fin cfg0.N) (hs : s.val + 1 = t.val) (h : t.val < 3) :
    (outsAt0 m c t.val t.isLt).2.2.1 = addf (F := Ideal) (outsAt0 m c s.val s.isLt).2.2.1 (k0_pay1 (iblk m c 2 t) (iblk m c 0 t)) := by
  rw [outsAt0_B m c t (by omega) (by omega) (by omega) (by omega) (by omega) (by omega), scr_B_0, before m c t s hs]

theorem last_0 (t s : Fin cfg0.N) (hs : s.val + 1 = t.val) (h : t.val = 3) :
    (outsAt0 m c t.val t.isLt).1 = addf (F := Ideal) (outsAt0 m c s.val s.isLt).2.2.1 (k0_pay1 (iblk m c 2 t) (iblk m c 0 t)) := by
  rw [outsAt0_C m c t (by omega) (by omega) (by omega) (by omega) (by omega) (by omega), out_C_0, before m c t s hs]

/-- After the last point result 0's buffer holds the reference's array. -/
theorem point_0 (t : Fin cfg0.N) (h3 : t.val = 3) (r : Fin 1024) (j : Fin 1024) :
    (outsAt0 m c t.val t.isLt).1 (ix2 r j) = val_main_v5 (F := Ideal) (a0 m c) (a2 m c) (ix2 r j) := by
  have hN : cfg0.N = 4 := N_0
  obtain ⟨s0, e0⟩ : ∃ s : Fin cfg0.N, s.val = 0 := ⟨⟨0, by omega⟩, rfl⟩
  obtain ⟨s1, e1⟩ : ∃ s : Fin cfg0.N, s.val = 1 := ⟨⟨1, by omega⟩, rfl⟩
  obtain ⟨s2, e2⟩ : ∃ s : Fin cfg0.N, s.val = 2 := ⟨⟨2, by omega⟩, rfl⟩
  rw [last_0 m c t s2 (by omega) h3, middle_0 m c s2 s1 (by omega) (by omega), middle_0 m c s1 s0 (by omega) (by omega), first_0 m c s0 e0]
  pointwise [val_main_v0, val_main_v2, val_main_v3, val_main_v4, val_main_v5]
  rw [tile_0, tile_0, tile_0, tile_0, sum_quarters]
  simp only [iblk0, iblk2]
  have g0 : ∀ k : Fin 1024, row s0 k = ⟨k.val, by omega⟩ := fun k => Fin.ext (by simp only [row]; omega)
  have g1 : ∀ k : Fin 1024, row s1 k = ⟨1024 + k.val, by omega⟩ := fun k => Fin.ext (by simp only [row]; omega)
  have g2 : ∀ k : Fin 1024, row s2 k = ⟨2048 + k.val, by omega⟩ := fun k => Fin.ext (by simp only [row]; omega)
  have g3 : ∀ k : Fin 1024, row t k = ⟨3072 + k.val, by omega⟩ := fun k => Fin.ext (by simp only [row]; omega)
  simp only [g0, g1, g2, g3]

/-- Result 0's array after the run is the reference's. -/
theorem final_3 : (dats m 0 c).arrAt 3 cfg0.N = val_main_v5 (F := Ideal) (a0 m c) (a2 m c) := by
  have hN : cfg0.N = 4 := N_0
  refine (dats m 0 c).arrAt_eq_of_cover 3 _ (fun t hf => ?_) fun i => ?_
  · have hi := (idx_at t).2.2.2.1
    rw [Cert.Kernel11Ideal.Value.flushed3]
    funext j
    obtain ⟨r, x, rfl⟩ : ∃ r x, j = ix2 r x := ⟨j 0, j 1, by idx_vars j⟩
    rw [View.read_apply]
    refine (point_0 m c t (by have := (flush0_3 t).mp hf; have := t.isLt; omega) r x).trans ?_
    congr 1
    funext a
    apply Fin.ext
    match a with
    | ⟨0, _⟩ => show r.val = win0_3.index t 0 * 1024 + 1 * r.val; rw [hi.1]; omega
    | ⟨1, _⟩ => show x.val = win0_3.index t 1 * 1024 + 1 * x.val; rw [hi.2]; omega
  · have h0 : (i 0 : Nat) < 1024 := (i 0).isLt
    have h1 : (i 1 : Nat) < 1024 := (i 1).isLt
    have ht : 3 < cfg0.N := by omega
    have hi := (idx_at ⟨3, ht⟩).2.2.2.1
    refine ⟨⟨3, ht⟩, (flush0_3 _).mpr rfl, ?_⟩
    show i ∈ ((View.whole main_v0_0).slice (win0_3.rect ⟨3, ht⟩)).set
    rw [View.set_slice_whole, Rect.mem_set_unit]
    intro a
    match a with
    | ⟨0, _⟩ => exact Cert.Tile.mem 1024 (i 0) hi.1 (by omega)
    | ⟨1, _⟩ => exact Cert.Tile.mem 1024 (i 1) hi.2 (by omega)

theorem first_1 (t : Fin cfg0.N) (h : t.val = 0) :
    (outsAt0 m c t.val t.isLt).2.2.2 = (k0_pay5 (iblk m c 2 t) (iblk m c 1 t)) := by
  rw [outsAt0_A m c t (by omega) (by omega) (by omega) (by omega) (by omega) (by omega), scr_A_1]

theorem middle_1 (t s : Fin cfg0.N) (hs : s.val + 1 = t.val) (h : t.val < 3) :
    (outsAt0 m c t.val t.isLt).2.2.2 = addf (F := Ideal) (outsAt0 m c s.val s.isLt).2.2.2 (k0_pay5 (iblk m c 2 t) (iblk m c 1 t)) := by
  rw [outsAt0_B m c t (by omega) (by omega) (by omega) (by omega) (by omega) (by omega), scr_B_1, before m c t s hs]

theorem last_1 (t s : Fin cfg0.N) (hs : s.val + 1 = t.val) (h : t.val = 3) :
    (outsAt0 m c t.val t.isLt).2.1 = addf (F := Ideal) (outsAt0 m c s.val s.isLt).2.2.2 (k0_pay5 (iblk m c 2 t) (iblk m c 1 t)) := by
  rw [outsAt0_C m c t (by omega) (by omega) (by omega) (by omega) (by omega) (by omega), out_C_1, before m c t s hs]

/-- After the last point result 1's buffer holds the reference's array. -/
theorem point_1 (t : Fin cfg0.N) (h3 : t.val = 3) (r : Fin 1024) (j : Fin 1024) :
    (outsAt0 m c t.val t.isLt).2.1 (ix2 r j) = val_main_v8 (F := Ideal) (a1 m c) (a2 m c) (ix2 r j) := by
  have hN : cfg0.N = 4 := N_0
  obtain ⟨s0, e0⟩ : ∃ s : Fin cfg0.N, s.val = 0 := ⟨⟨0, by omega⟩, rfl⟩
  obtain ⟨s1, e1⟩ : ∃ s : Fin cfg0.N, s.val = 1 := ⟨⟨1, by omega⟩, rfl⟩
  obtain ⟨s2, e2⟩ : ∃ s : Fin cfg0.N, s.val = 2 := ⟨⟨2, by omega⟩, rfl⟩
  rw [last_1 m c t s2 (by omega) h3, middle_1 m c s2 s1 (by omega) (by omega), middle_1 m c s1 s0 (by omega) (by omega), first_1 m c s0 e0]
  pointwise [val_main_v1, val_main_v2, val_main_v6, val_main_v7, val_main_v8]
  rw [tile_1, tile_1, tile_1, tile_1, sum_quarters]
  simp only [iblk1, iblk2]
  have g0 : ∀ k : Fin 1024, row s0 k = ⟨k.val, by omega⟩ := fun k => Fin.ext (by simp only [row]; omega)
  have g1 : ∀ k : Fin 1024, row s1 k = ⟨1024 + k.val, by omega⟩ := fun k => Fin.ext (by simp only [row]; omega)
  have g2 : ∀ k : Fin 1024, row s2 k = ⟨2048 + k.val, by omega⟩ := fun k => Fin.ext (by simp only [row]; omega)
  have g3 : ∀ k : Fin 1024, row t k = ⟨3072 + k.val, by omega⟩ := fun k => Fin.ext (by simp only [row]; omega)
  simp only [g0, g1, g2, g3]

/-- Result 1's array after the run is the reference's. -/
theorem final_4 : (dats m 0 c).arrAt 4 cfg0.N = val_main_v8 (F := Ideal) (a1 m c) (a2 m c) := by
  have hN : cfg0.N = 4 := N_0
  refine (dats m 0 c).arrAt_eq_of_cover 4 _ (fun t hf => ?_) fun i => ?_
  · have hi := (idx_at t).2.2.2.2
    rw [Cert.Kernel11Ideal.Value.flushed4]
    funext j
    obtain ⟨r, x, rfl⟩ : ∃ r x, j = ix2 r x := ⟨j 0, j 1, by idx_vars j⟩
    rw [View.read_apply]
    refine (point_1 m c t (by have := (flush0_4 t).mp hf; have := t.isLt; omega) r x).trans ?_
    congr 1
    funext a
    apply Fin.ext
    match a with
    | ⟨0, _⟩ => show r.val = win0_4.index t 0 * 1024 + 1 * r.val; rw [hi.1]; omega
    | ⟨1, _⟩ => show x.val = win0_4.index t 1 * 1024 + 1 * x.val; rw [hi.2]; omega
  · have h0 : (i 0 : Nat) < 1024 := (i 0).isLt
    have h1 : (i 1 : Nat) < 1024 := (i 1).isLt
    have ht : 3 < cfg0.N := by omega
    have hi := (idx_at ⟨3, ht⟩).2.2.2.2
    refine ⟨⟨3, ht⟩, (flush0_4 _).mpr rfl, ?_⟩
    show i ∈ ((View.whole main_v0_1).slice (win0_4.rect ⟨3, ht⟩)).set
    rw [View.set_slice_whole, Rect.mem_set_unit]
    intro a
    match a with
    | ⟨0, _⟩ => exact Cert.Tile.mem 1024 (i 0) hi.1 (by omega)
    | ⟨1, _⟩ => exact Cert.Tile.mem 1024 (i 1) hi.2 (by omega)

/-- From memories that agree on the arguments, the kernel and the reference end with the same arrays. -/
theorem equal : Cert.algebraic_Kernel11Ideal_Reference11Ideal := by
  intro m g m' g' _ hargs
  refine ⟨fun c => val_main_v5 (F := Ideal) (a0 m c) (a2 m c), fun c => val_main_v8 (F := Ideal) (a1 m c) (a2 m c), ?_, ?_⟩
  · refine (θ_run _ _ _).mono (fun r h c => ?_) (Cert.Kernel11Ideal.Value.run_blocks (F := Ideal) m g)
    obtain ⟨h0, h1, h2⟩ := h c
    exact ⟨h0.trans (final_3 m c), h1.trans (final_4 m c), h2⟩
  · refine (θ_run _ _ _).mono (fun r h c => ?_) (Cert.Reference11Ideal.Value.run (F := Ideal) m' g')
    obtain ⟨e0, e1, e2⟩ := hargs c
    obtain ⟨h0, h1, h2⟩ := h c
    rw [val_main_v5_eq] at h0
    rw [e0, e2] at h0
    rw [val_main_v8_eq] at h1
    rw [e1, e2] at h1
    exact ⟨h0, h1, h2⟩

end Cert.Call11

end
-- ==== Proof.Call12.lean ====
/- The scan inputs' weight gradient, tile by tile over the rows -/
module

public import proofs.«01_k».proof.Defs
public import proofs.«01_k».proof.Proof.Gen.Kernel12Ideal.Value
public import proofs.«01_k».proof.Proof.Gen.Reference12Ideal.Read
public import Idealize.ShloMosaic.Lib.Pointwise
public import Idealize.ShloMosaic.Lib.Tactic
public import Idealize.ShloMosaic.PureOps.Ideal.Laws
public import proofs.«01_k».proof.Proof.Tile

@[expose] public section

noncomputable section

namespace Cert.Call12

open Idealize.ShloMosaic Idealize.ShloMosaic.TcCoe Idealize.SL.Sem Cert.Kernel12Ideal Cert.Kernel12Ideal.Gen
open Cert.Reference12Ideal.Read

theorem hz : (![0, 0] : Fin 2 → Nat) = fun _ => 0 := funext fun a => by fin_cases a <;> rfl

/-- A sum over the rows is the sum over the first half's and the second half's. -/
theorem sum_halves (g : Fin 4096 → EReal) :
    ∑ k : Fin 4096, g k = (∑ k : Fin 2048, g ⟨k.val, by omega⟩) + ∑ k : Fin 2048, g ⟨2048 + k.val, by omega⟩ :=
  Fin.sum_univ_add (a := 2048) (b := 2048) g

/-- One tile's product sums over the tile's rows. -/
theorem tile (x0 : Vec Ideal S2048x512 .bf16) (x1 : Vec Ideal S2048x1024 .bf16) (r : Fin 512) (j : Fin 1024) :
    k0_pay1 x0 x1 (ix2 r j) = ∑ k : Fin 2048, x0 (ix2 k r) * x1 (ix2 k j) := by
  pointwise [k0_pay1]

/-- The first half of the rows leaves its product in the accumulator. -/
theorem scratch_A (c : Dev nD) (i : grid0.Coords) (a3 : Memref sig .tc .vmem S2048x512 .bf16) (h3 : a3.IsWhole)
    (a4 : Memref sig .tc .vmem S2048x1024 .bf16) (h4 : a4.IsWhole) (a5 : Memref sig .tc .vmem S512x1024 .bf16) (h5 : a5.IsWhole)
    (a6 : Memref sig .tc .vmem S512x1024 .f32) (h6 : a6.IsWhole) (hc0 : cond0_0 i) (hc1 : ¬cond0_1 i) (hc2 : ¬cond0_2 i)
    (x0 : Vec Ideal S2048x512 .bf16) (x1 : Vec Ideal S2048x1024 .bf16) :
    sout0_A_0 c i a3 h3 a4 h4 a5 h5 a6 h6 hc0 hc1 hc2 x0 x1 = k0_pay1 x0 x1 := by
  unfold sout0_A_0
  rw [View.read_writes_eq_canon _ _ _ (scover0_A_0 c i a3 h3 a4 h4 a5 h5 a6 h6 hc0 hc1 hc2 x0 x1)]
  unfold kernelRun0_A
  dsimp only
  sl_unfold_words
  rw [View.canon_unit_zero hz]
  simp only [View.readAt_eq_ld, h3.read_unread, h4.read_unread, View.ld_unit_zero (S := S2048x512) hz, View.ld_unit_zero (S := S2048x1024) hz]
  simp only [k0_pay2, shapeCast_self]

/-- The second half of the rows leaves the accumulator plus its product in the output block. -/
theorem out_B (c : Dev nD) (i : grid0.Coords) (a3 : Memref sig .tc .vmem S2048x512 .bf16) (h3 : a3.IsWhole)
    (a4 : Memref sig .tc .vmem S2048x1024 .bf16) (h4 : a4.IsWhole) (a5 : Memref sig .tc .vmem S512x1024 .bf16) (h5 : a5.IsWhole)
    (a6 : Memref sig .tc .vmem S512x1024 .f32) (h6 : a6.IsWhole) (hc0 : ¬cond0_0 i) (hc1 : ¬cond0_1 i) (hc2 : cond0_2 i)
    (x0 : Vec Ideal S2048x512 .bf16) (x1 : Vec Ideal S2048x1024 .bf16) (xs : Vec Ideal S512x1024 .f32) :
    out0_B_2 c i a3 h3 a4 h4 a5 h5 a6 h6 hc0 hc1 hc2 x0 x1 xs = addf xs (k0_pay1 x0 x1) := by
  unfold out0_B_2
  rw [View.read_writes_eq_canon _ _ _ (cover0_B_2 c i a3 h3 a4 h4 a5 h5 a6 h6 hc0 hc1 hc2 x0 x1 xs)]
  unfold kernelRun0_B
  dsimp only
  sl_unfold_words
  rw [View.canon_unit_zero hz]
  simp only [View.readAt_eq_ld, h3.read_unread, h4.read_unread, h6.read_unread, View.ld_unit_zero (S := S2048x512) hz, View.ld_unit_zero (S := S2048x1024) hz, View.ld_unit_zero (S := S512x1024) hz]
  rfl

variable (m : (ℓ : Loc nD τ sig) → Buf (Elt Ideal) ℓ) (c : Dev nD)

/-- Argument 0 at launch. -/
abbrev a0 : FVec Ideal S4096x1536 .bf16 := m ((c : Thread nD τ).loc main_arg0)

/-- Argument 1 at launch. -/
abbrev a1 : FVec Ideal S4096x1024 .bf16 := m ((c : Thread nD τ).loc main_arg1)

/-- Row `r` of the half that point `t` reads. -/
def row (t : Fin cfg0.N) (r : Fin 2048) : Fin 4096 := ⟨t.val % 2 * 2048 + r.val, by omega⟩

/-- Column `j` of the block that point `t` works on. -/
def col (t : Fin cfg0.N) (j : Fin 512) : Fin 1536 := ⟨t.val / 2 * 512 + j.val, by
  have := t.isLt; have h : cfg0.N = 6 := N_0; omega⟩

/-- Which block each window reads or writes at a point. -/
theorem idx_at : ∀ t : Fin cfg0.N, (win0_0.index t 0 = t.val % 2 ∧ win0_0.index t 1 = t.val / 2) ∧ (win0_1.index t 0 = t.val % 2 ∧ win0_1.index t 1 = 0) ∧ (win0_2.index t 0 = t.val / 2 ∧ win0_2.index t 1 = 0) :=
  (by decide +kernel : ∀ t : Fin grid0.N, _)

theorem iblk0 (t : Fin cfg0.N) (r : Fin 2048) (j : Fin 512) : iblk m c 0 t (ix2 r j) = a0 m c (ix2 (row t r) (col t j)) := by
  have hi := (idx_at t).1
  unfold iblk
  rw [View.read_apply]
  show V m c main_arg0 _ = m (c.tc.loc main_arg0) _
  unfold V
  congr 1
  funext a
  apply Fin.ext
  match a with
  | ⟨0, _⟩ => show win0_0.index t 0 * 2048 + 1 * r.val = t.val % 2 * 2048 + r.val; rw [hi.1]; omega
  | ⟨1, _⟩ => show win0_0.index t 1 * 512 + 1 * j.val = t.val / 2 * 512 + j.val; rw [hi.2]; omega

theorem iblk1 (t : Fin cfg0.N) (r : Fin 2048) (j : Fin 1024) : iblk m c 1 t (ix2 r j) = a1 m c (ix2 (row t r) j) := by
  have hi := (idx_at t).2.1
  unfold iblk
  rw [View.read_apply]
  show V m c main_arg1 _ = m (c.tc.loc main_arg1) _
  unfold V
  congr 1
  funext a
  apply Fin.ext
  match a with
  | ⟨0, _⟩ => show win0_1.index t 0 * 2048 + 1 * r.val = t.val % 2 * 2048 + r.val; rw [hi.1]; omega
  | ⟨1, _⟩ => show win0_1.index t 1 * 1024 + 1 * j.val = j.val; rw [hi.2]; omega

/-- After a point that closes a block the output's buffer holds both halves' products, added. -/
theorem outs (t s : Fin cfg0.N) (ht : t.val % 2 = 1) (hs : s.val = t.val - 1) :
    (outsAt0 m c t.val t.isLt).1 = addf (F := Ideal) (k0_pay1 (iblk m c 0 s) (iblk m c 1 s)) (k0_pay1 (iblk m c 0 t) (iblk m c 1 t)) := by
  have e : (outsAt0 m c (t.val - 1) (Nat.lt_of_le_of_lt (Nat.sub_le _ _) t.isLt)).2 = k0_pay1 (iblk m c 0 s) (iblk m c 1 s) := by
    have e1 : outsAt0 m c (t.val - 1) (Nat.lt_of_le_of_lt (Nat.sub_le _ _) t.isLt) = outsAt0 m c s.val s.isLt := by congr 1; exact hs.symm
    rw [e1, outsAt0_A m c s (by omega) (by omega), scratch_A]
  rw [outsAt0_B m c t (by omega) ht, e, out_B]

/-- The block a closing point leaves is that block of the reference's array. -/
theorem point (t : Fin cfg0.N) (ht : t.val % 2 = 1) (r : Fin 512) (j : Fin 1024) :
    (outsAt0 m c t.val t.isLt).1 (ix2 r j) = val_main_v4 (F := Ideal) (a0 m c) (a1 m c) (ix2 (col t r) j) := by
  have hlt : t.val - 1 < cfg0.N := Nat.lt_of_le_of_lt (Nat.sub_le _ _) t.isLt
  rw [outs m c t ⟨t.val - 1, hlt⟩ ht rfl]
  pointwise [val_main_v0, val_main_v1, val_main_v2, val_main_v3, val_main_v4]
  rw [tile, tile, sum_halves]
  simp only [iblk0, iblk1]
  have hc : col ⟨t.val - 1, hlt⟩ r = col t r := Fin.ext (by simp only [col]; omega)
  have h0 : ∀ k : Fin 2048, row ⟨t.val - 1, hlt⟩ k = ⟨k.val, by omega⟩ := fun k => Fin.ext (by simp only [row]; omega)
  have h1 : ∀ k : Fin 2048, row t k = ⟨2048 + k.val, by omega⟩ := fun k => Fin.ext (by simp only [row]; omega)
  simp only [hc, h0, h1]

/-- The result's array after the run is the reference's. -/
theorem final_2 : (dats m 0 c).arrAt 2 cfg0.N = val_main_v4 (F := Ideal) (a0 m c) (a1 m c) := by
  have hN : cfg0.N = 6 := N_0
  refine (dats m 0 c).arrAt_eq_of_cover 2 _ (fun t hf => ?_) fun i => ?_
  · have hi := (idx_at t).2.2
    rw [Cert.Kernel12Ideal.Value.flushed2]
    funext j
    obtain ⟨r, x, rfl⟩ : ∃ r x, j = ix2 r x := ⟨j 0, j 1, by idx_vars j⟩
    rw [View.read_apply]
    refine (point m c t ((flush0_2 t).mp hf) r x).trans ?_
    congr 1
    funext a
    apply Fin.ext
    match a with
    | ⟨0, _⟩ => show t.val / 2 * 512 + r.val = win0_2.index t 0 * 512 + 1 * r.val; rw [hi.1]; omega
    | ⟨1, _⟩ => show x.val = win0_2.index t 1 * 1024 + 1 * x.val; rw [hi.2]; omega
  · have h0 : (i 0 : Nat) < 1536 := (i 0).isLt
    have h1 : (i 1 : Nat) < 1024 := (i 1).isLt
    have ht : (i 0 : Nat) / 512 * 2 + 1 < cfg0.N := by omega
    have hi := (idx_at ⟨(i 0 : Nat) / 512 * 2 + 1, ht⟩).2.2
    refine ⟨⟨(i 0 : Nat) / 512 * 2 + 1, ht⟩, (flush0_2 _).mpr (by dsimp only; omega), ?_⟩
    show i ∈ ((View.whole main_v0).slice (win0_2.rect ⟨(i 0 : Nat) / 512 * 2 + 1, ht⟩)).set
    rw [View.set_slice_whole, Rect.mem_set_unit]
    intro a
    match a with
    | ⟨0, _⟩ => exact Cert.Tile.mem 512 (i 0) hi.1 (by dsimp only; omega)
    | ⟨1, _⟩ => exact Cert.Tile.mem 1024 (i 1) hi.2 (by omega)

/-- From memories that agree on the arguments, the kernel and the reference end with the same arrays. -/
theorem equal : Cert.algebraic_Kernel12Ideal_Reference12Ideal := by
  intro m g m' g' _ hargs
  refine ⟨fun c => val_main_v4 (F := Ideal) (a0 m c) (a1 m c), ?_, ?_⟩
  · refine (θ_run _ _ _).mono (fun r h c => ?_) (Cert.Kernel12Ideal.Value.run_blocks (F := Ideal) m g)
    obtain ⟨h0, h1⟩ := h c
    exact ⟨h0.trans (final_2 m c), h1⟩
  · refine (θ_run _ _ _).mono (fun r h c => ?_) (Cert.Reference12Ideal.Value.run (F := Ideal) m' g')
    obtain ⟨e0, e1⟩ := hargs c
    obtain ⟨h0, h1⟩ := h c
    rw [val_main_v4_eq] at h0
    rw [e0, e1] at h0
    exact ⟨h0, h1⟩

end Cert.Call12

end
-- ==== Proof.Call13.lean ====
/- The output projection of the mixed branches, its residual sum and the norm behind it -/
module

public import proofs.«01_k».proof.Defs
public import proofs.«01_k».proof.Proof.Gen.Kernel13Ideal.Value
public import proofs.«01_k».proof.Proof.Gen.Reference13Ideal.Read
public import Idealize.ShloMosaic.Lib.Pointwise
public import Idealize.ShloMosaic.Lib.Tactic
public import Idealize.ShloMosaic.Lib.Pipeline.ValueKit.Tiles
public import Idealize.ShloMosaic.PureOps.Ideal.Laws
public import proofs.«01_k».proof.Proof.Tile

@[expose] public section

noncomputable section

namespace Cert.Call13

open Idealize.ShloMosaic Idealize.ShloMosaic.TcCoe Idealize.SL.Sem Cert.Kernel13Ideal Cert.Kernel13Ideal.Gen
open Cert.Reference13Ideal.Read

theorem hz : (![0, 0] : Fin 2 → Nat) = fun _ => 0 := funext fun a => by fin_cases a <;> rfl

/-- A load of 1024 rows from row 0. -/
theorem ld_1 (x : Vec Ideal S2048x1024 .bf16) (r : Fin 1024) (k : Fin 1024) :
    View.ld x r0_1 (ix2 r k) = x (ix2 ⟨0 + r.val, by omega⟩ k) :=
  View.ld_unit_apply_of x _ _ _ _ _ fun a => match a with
    | ⟨0, _⟩ => rfl
    | ⟨1, _⟩ => (Nat.zero_add _).symm

/-- A load of 1024 rows from row 1024. -/
theorem ld_2 (x : Vec Ideal S2048x1024 .bf16) (r : Fin 1024) (k : Fin 1024) :
    View.ld x r0_2 (ix2 r k) = x (ix2 ⟨1024 + r.val, by omega⟩ k) :=
  View.ld_unit_apply_of x _ _ _ _ _ fun a => match a with
    | ⟨0, _⟩ => rfl
    | ⟨1, _⟩ => (Nat.zero_add _).symm

/-- The residual sum's rows. -/
theorem sum_eq (f : Fin 512 → Fin 4096) (a0 a1 : FVec Ideal S4096x1024 .bf16) (a2 : FVec Ideal S2048x1024 .bf16)
    (a3 : FVec Ideal S4096x1024 .f32) (x0 x1 : Vec Ideal S512x1024 .bf16) (y z : Vec Ideal S1024x1024 .bf16)
    (x3 : Vec Ideal S512x1024 .f32) (h0 : ∀ r k, x0 (ix2 r k) = a0 (ix2 (f r) k)) (h1 : ∀ r k, x1 (ix2 r k) = a1 (ix2 (f r) k))
    (hy : ∀ r k, y (ix2 r k) = a2 (ix2 ⟨0 + r.val, by omega⟩ k)) (hz : ∀ r k, z (ix2 r k) = a2 (ix2 ⟨1024 + r.val, by omega⟩ k))
    (h3 : ∀ r k, x3 (ix2 r k) = a3 (ix2 (f r) k)) (r : Fin 512) (j : Fin 1024) :
    k0_pay1 x0 x1 y z x3 (ix2 r j) = val_main_v5 (F := Ideal) a0 a1 a2 a3 (ix2 (f r) j) := by
  pointwise [k0_pay1, val_main_v0, val_main_v1, val_main_v2, val_main_v3, val_main_v4, val_main_v5]
  simp only [h0, h1, hy, hz, h3]
  exact add_comm _ _

theorem block_5 (f : Fin 512 → Fin 4096) (a0 a1 : FVec Ideal S4096x1024 .bf16) (a2 : FVec Ideal S2048x1024 .bf16)
    (a3 : FVec Ideal S4096x1024 .f32) (x0 x1 : Vec Ideal S512x1024 .bf16) (y z : Vec Ideal S1024x1024 .bf16)
    (x3 : Vec Ideal S512x1024 .f32) (h0 : ∀ r k, x0 (ix2 r k) = a0 (ix2 (f r) k)) (h1 : ∀ r k, x1 (ix2 r k) = a1 (ix2 (f r) k))
    (hy : ∀ r k, y (ix2 r k) = a2 (ix2 ⟨0 + r.val, by omega⟩ k)) (hz : ∀ r k, z (ix2 r k) = a2 (ix2 ⟨1024 + r.val, by omega⟩ k))
    (h3 : ∀ r k, x3 (ix2 r k) = a3 (ix2 (f r) k)) (r : Fin 512) (j : Fin 1024) :
    k0_pay2 x0 x1 y z x3 (ix2 r j) = val_main_v6 (F := Ideal) a0 a1 a2 a3 (ix2 (f r) j) :=
  sum_eq f a0 a1 a2 a3 x0 x1 y z x3 h0 h1 hy hz h3 r j

/-- The normalised rows. -/
theorem block_6 (f : Fin 512 → Fin 4096) (a0 a1 : FVec Ideal S4096x1024 .bf16) (a2 : FVec Ideal S2048x1024 .bf16)
    (a3 : FVec Ideal S4096x1024 .f32) (a4 : FVec Ideal S1x1024 .f32) (x0 x1 : Vec Ideal S512x1024 .bf16) (y z : Vec Ideal S1024x1024 .bf16)
    (x3 : Vec Ideal S512x1024 .f32) (x4 : Vec Ideal S1x1024 .f32) (h0 : ∀ r k, x0 (ix2 r k) = a0 (ix2 (f r) k)) (h1 : ∀ r k, x1 (ix2 r k) = a1 (ix2 (f r) k))
    (hy : ∀ r k, y (ix2 r k) = a2 (ix2 ⟨0 + r.val, by omega⟩ k)) (hz : ∀ r k, z (ix2 r k) = a2 (ix2 ⟨1024 + r.val, by omega⟩ k))
    (h3 : ∀ r k, x3 (ix2 r k) = a3 (ix2 (f r) k)) (h4 : ∀ r k, x4 (ix2 r k) = a4 (ix2 r k)) (r : Fin 512) (j : Fin 1024) :
    k0_pay3 x0 x1 y z x3 x4 (ix2 r j) = val_main_v19 (F := Ideal) a0 a1 a2 a3 a4 (ix2 (f r) j) := by
  pointwise [k0_pay3, val_main_v7, val_main_cst, val_main_v8, val_main_v9, val_main_cst_0, val_main_v10, val_main_v11, val_main_cst_1, val_main_v12, val_main_v13, val_main_v14, val_main_v15, val_main_v16, val_main_v17, val_main_v18, val_main_v19]
  simp only [sum_eq f a0 a1 a2 a3 x0 x1 y z x3 h0 h1 hy hz h3, h4]

variable (m : (ℓ : Loc nD τ sig) → Buf (Elt Ideal) ℓ) (c : Dev nD)

/-- Argument 0 at launch. -/
abbrev a0 : FVec Ideal S4096x1024 .bf16 := m ((c : Thread nD τ).loc main_arg0)

/-- Argument 1 at launch. -/
abbrev a1 : FVec Ideal S4096x1024 .bf16 := m ((c : Thread nD τ).loc main_arg1)

/-- Argument 2 at launch. -/
abbrev a2 : FVec Ideal S2048x1024 .bf16 := m ((c : Thread nD τ).loc main_arg2)

/-- Argument 3 at launch. -/
abbrev a3 : FVec Ideal S4096x1024 .f32 := m ((c : Thread nD τ).loc main_arg3)

/-- Argument 4 at launch. -/
abbrev a4 : FVec Ideal S1x1024 .f32 := m ((c : Thread nD τ).loc main_arg4)

/-- Row `r` of tile `t`. -/
def row (t : Fin cfg0.N) (r : Fin 512) : Fin 4096 := ⟨t.val * 512 + r.val, by
  have := t.isLt; have h : cfg0.N = 8 := N_0; omega⟩

/-- Which block each window reads or writes at a point. -/
theorem idx_at : ∀ t : Fin cfg0.N, (win0_0.index t 0 = t.val ∧ win0_0.index t 1 = 0) ∧ (win0_1.index t 0 = t.val ∧ win0_1.index t 1 = 0) ∧ (win0_2.index t 0 = 0 ∧ win0_2.index t 1 = 0) ∧ (win0_3.index t 0 = t.val ∧ win0_3.index t 1 = 0) ∧ (win0_4.index t 0 = 0 ∧ win0_4.index t 1 = 0) ∧ (win0_5.index t 0 = t.val ∧ win0_5.index t 1 = 0) ∧ (win0_6.index t 0 = t.val ∧ win0_6.index t 1 = 0) :=
  (by decide +kernel : ∀ t : Fin grid0.N, _)

theorem iblk0 (t : Fin cfg0.N) (r : Fin 512) (j : Fin 1024) : iblk m c 0 t (ix2 r j) = a0 m c (ix2 (row t r) j) := by
  have hi := (idx_at t).1
  unfold iblk
  rw [View.read_apply]
  show V m c main_arg0 _ = m (c.tc.loc main_arg0) _
  unfold V
  congr 1
  funext a
  apply Fin.ext
  match a with
  | ⟨0, _⟩ => show win0_0.index t 0 * 512 + 1 * r.val = t.val * 512 + r.val; rw [hi.1]; omega
  | ⟨1, _⟩ => show win0_0.index t 1 * 1024 + 1 * j.val = j.val; rw [hi.2]; omega

theorem iblk1 (t : Fin cfg0.N) (r : Fin 512) (j : Fin 1024) : iblk m c 1 t (ix2 r j) = a1 m c (ix2 (row t r) j) := by
  have hi := (idx_at t).2.1
  unfold iblk
  rw [View.read_apply]
  show V m c main_arg1 _ = m (c.tc.loc main_arg1) _
  unfold V
  congr 1
  funext a
  apply Fin.ext
  match a with
  | ⟨0, _⟩ => show win0_1.index t 0 * 512 + 1 * r.val = t.val * 512 + r.val; rw [hi.1]; omega
  | ⟨1, _⟩ => show win0_1.index t 1 * 1024 + 1 * j.val = j.val; rw [hi.2]; omega

theorem iblk2 (t : Fin cfg0.N) (r : Fin 2048) (j : Fin 1024) : iblk m c 2 t (ix2 r j) = a2 m c (ix2 r j) := by
  have hi := (idx_at t).2.2.1
  unfold iblk
  rw [View.read_apply]
  show V m c main_arg2 _ = m (c.tc.loc main_arg2) _
  unfold V
  congr 1
  funext a
  apply Fin.ext
  match a with
  | ⟨0, _⟩ => show win0_2.index t 0 * 2048 + 1 * r.val = r.val; rw [hi.1]; omega
  | ⟨1, _⟩ => show win0_2.index t 1 * 1024 + 1 * j.val = j.val; rw [hi.2]; omega

theorem iblk3 (t : Fin cfg0.N) (r : Fin 512) (j : Fin 1024) : iblk m c 3 t (ix2 r j) = a3 m c (ix2 (row t r) j) := by
  have hi := (idx_at t).2.2.2.1
  unfold iblk
  rw [View.read_apply]
  show V m c main_arg3 _ = m (c.tc.loc main_arg3) _
  unfold V
  congr 1
  funext a
  apply Fin.ext
  match a with
  | ⟨0, _⟩ => show win0_3.index t 0 * 512 + 1 * r.val = t.val * 512 + r.val; rw [hi.1]; omega
  | ⟨1, _⟩ => show win0_3.index t 1 * 1024 + 1 * j.val = j.val; rw [hi.2]; omega

theorem iblk4 (t : Fin cfg0.N) (r : Fin 1) (j : Fin 1024) : iblk m c 4 t (ix2 r j) = a4 m c (ix2 r j) := by
  have hi := (idx_at t).2.2.2.2.1
  unfold iblk
  rw [View.read_apply]
  show V m c main_arg4 _ = m (c.tc.loc main_arg4) _
  unfold V
  congr 1
  funext a
  apply Fin.ext
  match a with
  | ⟨0, _⟩ => show win0_4.index t 0 * 1 + 1 * r.val = r.val; rw [hi.1]; omega
  | ⟨1, _⟩ => show win0_4.index t 1 * 1024 + 1 * j.val = j.val; rw [hi.2]; omega

/-- What a point leaves in this window is the reference's rows of its tile. -/
theorem point_5 (t : Fin cfg0.N) (r : Fin 512) (j : Fin 1024) :
    out0_5 (iblk m c 0 t) (iblk m c 1 t) (iblk m c 2 t) (iblk m c 3 t) (iblk m c 4 t) (ix2 r j) = val_main_v6 (F := Ideal) (a0 m c) (a1 m c) (a2 m c) (a3 m c) (ix2 (row t r) j) := by
  unfold out0_5
  rw [View.canon_unit_zero hz]
  simp only [View.ld_unit_zero (S := S512x1024) hz, View.ld_unit_zero (S := S2048x1024) hz, View.ld_unit_zero (S := S1x1024) hz]
  exact block_5 (row t) (a0 m c) (a1 m c) (a2 m c) (a3 m c) (iblk m c 0 t) (iblk m c 1 t) (View.ld (iblk m c 2 t) r0_1) (View.ld (iblk m c 2 t) r0_2) (iblk m c 3 t) (fun r k => iblk0 m c t r k) (fun r k => iblk1 m c t r k) (fun r k => (ld_1 (iblk m c 2 t) r k).trans (iblk2 m c t _ k)) (fun r k => (ld_2 (iblk m c 2 t) r k).trans (iblk2 m c t _ k)) (fun r k => iblk3 m c t r k) r j

/-- The array this window ends with. -/
theorem final_5 : (dats m 0 c).arrAt 5 cfg0.N = val_main_v6 (F := Ideal) (a0 m c) (a1 m c) (a2 m c) (a3 m c) := by
  have hN : cfg0.N = 8 := N_0
  refine (dats m 0 c).arrAt_eq_of_cover 5 _ (fun t _ => ?_) fun i => ?_
  · have hi := (idx_at t).2.2.2.2.2.1
    rw [Cert.Kernel13Ideal.Value.flushed5]
    funext j
    obtain ⟨r, x, rfl⟩ : ∃ r x, j = ix2 r x := ⟨j 0, j 1, by idx_vars j⟩
    rw [View.read_apply]
    refine (point_5 m c t r x).trans ?_
    congr 1
    funext a
    apply Fin.ext
    match a with
    | ⟨0, _⟩ => show t.val * 512 + r.val = win0_5.index t 0 * 512 + 1 * r.val; rw [hi.1]; omega
    | ⟨1, _⟩ => show x.val = win0_5.index t 1 * 1024 + 1 * x.val; rw [hi.2]; omega
  · have h0 : (i 0 : Nat) < 4096 := (i 0).isLt
    have h1 : (i 1 : Nat) < 1024 := (i 1).isLt
    obtain ⟨t, ht⟩ : ∃ t : Fin cfg0.N, t.val = (i 0 : Nat) / 512 := ⟨⟨(i 0 : Nat) / 512, by omega⟩, rfl⟩
    refine ⟨t, flush0_5 _, ?_⟩
    have hi := (idx_at t).2.2.2.2.2.1
    show i ∈ ((View.whole main_v0_0).slice (win0_5.rect t)).set
    rw [View.set_slice_whole, Rect.mem_set_unit]
    intro a
    match a with
    | ⟨0, _⟩ => exact Cert.Tile.mem 512 (i 0) hi.1 (by omega)
    | ⟨1, _⟩ => exact Cert.Tile.mem 1024 (i 1) hi.2 (by omega)

/-- What a point leaves in this window is the reference's rows of its tile. -/
theorem point_6 (t : Fin cfg0.N) (r : Fin 512) (j : Fin 1024) :
    out0_6 (iblk m c 0 t) (iblk m c 1 t) (iblk m c 2 t) (iblk m c 3 t) (iblk m c 4 t) (ix2 r j) = val_main_v19 (F := Ideal) (a0 m c) (a1 m c) (a2 m c) (a3 m c) (a4 m c) (ix2 (row t r) j) := by
  unfold out0_6
  rw [View.canon_unit_zero hz]
  simp only [View.ld_unit_zero (S := S512x1024) hz, View.ld_unit_zero (S := S2048x1024) hz, View.ld_unit_zero (S := S1x1024) hz]
  exact block_6 (row t) (a0 m c) (a1 m c) (a2 m c) (a3 m c) (a4 m c) (iblk m c 0 t) (iblk m c 1 t) (View.ld (iblk m c 2 t) r0_1) (View.ld (iblk m c 2 t) r0_2) (iblk m c 3 t) (iblk m c 4 t) (fun r k => iblk0 m c t r k) (fun r k => iblk1 m c t r k) (fun r k => (ld_1 (iblk m c 2 t) r k).trans (iblk2 m c t _ k)) (fun r k => (ld_2 (iblk m c 2 t) r k).trans (iblk2 m c t _ k)) (fun r k => iblk3 m c t r k) (fun r k => iblk4 m c t r k) r j

/-- The array this window ends with. -/
theorem final_6 : (dats m 0 c).arrAt 6 cfg0.N = val_main_v19 (F := Ideal) (a0 m c) (a1 m c) (a2 m c) (a3 m c) (a4 m c) := by
  have hN : cfg0.N = 8 := N_0
  refine (dats m 0 c).arrAt_eq_of_cover 6 _ (fun t _ => ?_) fun i => ?_
  · have hi := (idx_at t).2.2.2.2.2.2
    rw [Cert.Kernel13Ideal.Value.flushed6]
    funext j
    obtain ⟨r, x, rfl⟩ : ∃ r x, j = ix2 r x := ⟨j 0, j 1, by idx_vars j⟩
    rw [View.read_apply]
    refine (point_6 m c t r x).trans ?_
    congr 1
    funext a
    apply Fin.ext
    match a with
    | ⟨0, _⟩ => show t.val * 512 + r.val = win0_6.index t 0 * 512 + 1 * r.val; rw [hi.1]; omega
    | ⟨1, _⟩ => show x.val = win0_6.index t 1 * 1024 + 1 * x.val; rw [hi.2]; omega
  · have h0 : (i 0 : Nat) < 4096 := (i 0).isLt
    have h1 : (i 1 : Nat) < 1024 := (i 1).isLt
    obtain ⟨t, ht⟩ : ∃ t : Fin cfg0.N, t.val = (i 0 : Nat) / 512 := ⟨⟨(i 0 : Nat) / 512, by omega⟩, rfl⟩
    refine ⟨t, flush0_6 _, ?_⟩
    have hi := (idx_at t).2.2.2.2.2.2
    show i ∈ ((View.whole main_v0_1).slice (win0_6.rect t)).set
    rw [View.set_slice_whole, Rect.mem_set_unit]
    intro a
    match a with
    | ⟨0, _⟩ => exact Cert.Tile.mem 512 (i 0) hi.1 (by omega)
    | ⟨1, _⟩ => exact Cert.Tile.mem 1024 (i 1) hi.2 (by omega)

/-- From memories that agree on the arguments, the kernel and the reference end with the same arrays. -/
theorem equal : Cert.algebraic_Kernel13Ideal_Reference13Ideal := by
  intro m g m' g' _ hargs
  refine ⟨fun c => val_main_v6 (F := Ideal) (a0 m c) (a1 m c) (a2 m c) (a3 m c), fun c => val_main_v19 (F := Ideal) (a0 m c) (a1 m c) (a2 m c) (a3 m c) (a4 m c), ?_, ?_⟩
  · refine (θ_run _ _ _).mono (fun r h c => ?_) (Cert.Kernel13Ideal.Value.run_blocks (F := Ideal) m g)
    obtain ⟨h0, h1, h2⟩ := h c
    exact ⟨h0.trans (final_5 m c), h1.trans (final_6 m c), h2⟩
  · refine (θ_run _ _ _).mono (fun r h c => ?_) (Cert.Reference13Ideal.Value.run (F := Ideal) m' g')
    obtain ⟨e0, e1, e2, e3, e4⟩ := hargs c
    obtain ⟨h0, h1, h2⟩ := h c
    rw [val_main_v6_eq] at h0
    rw [e0, e1, e2, e3] at h0
    rw [val_main_v19_eq] at h1
    rw [e0, e1, e2, e3, e4] at h1
    exact ⟨h0, h1, h2⟩

end Cert.Call13

end
-- ==== Proof.Call14.lean ====
/- The attention projections' weight gradient, tile by tile over the rows -/
module

public import proofs.«01_k».proof.Defs
public import proofs.«01_k».proof.Proof.Gen.Kernel14Ideal.Value
public import proofs.«01_k».proof.Proof.Gen.Reference14Ideal.Read
public import Idealize.ShloMosaic.Lib.Pointwise
public import Idealize.ShloMosaic.Lib.Tactic
public import Idealize.ShloMosaic.PureOps.Ideal.Laws
public import proofs.«01_k».proof.Proof.Tile

@[expose] public section

noncomputable section

namespace Cert.Call14

open Idealize.ShloMosaic Idealize.ShloMosaic.TcCoe Idealize.SL.Sem Cert.Kernel14Ideal Cert.Kernel14Ideal.Gen
open Cert.Reference14Ideal.Read

theorem hz : (![0, 0] : Fin 2 → Nat) = fun _ => 0 := funext fun a => by fin_cases a <;> rfl

/-- A sum over the rows is the sum over the first half's and the second half's. -/
theorem sum_halves (g : Fin 4096 → EReal) :
    ∑ k : Fin 4096, g k = (∑ k : Fin 2048, g ⟨k.val, by omega⟩) + ∑ k : Fin 2048, g ⟨2048 + k.val, by omega⟩ :=
  Fin.sum_univ_add (a := 2048) (b := 2048) g

/-- One tile's product sums over the tile's rows. -/
theorem tile (x0 : Vec Ideal S2048x1024 .bf16) (x1 : Vec Ideal S2048x1024 .bf16) (r : Fin 1024) (j : Fin 1024) :
    k0_pay1 x0 x1 (ix2 r j) = ∑ k : Fin 2048, x0 (ix2 k r) * x1 (ix2 k j) := by
  pointwise [k0_pay1]

/-- The first half of the rows leaves its product in the accumulator. -/
theorem scratch_A (c : Dev nD) (i : grid0.Coords) (a3 : Memref sig .tc .vmem S2048x1024 .bf16) (h3 : a3.IsWhole)
    (a4 : Memref sig .tc .vmem S2048x1024 .bf16) (h4 : a4.IsWhole) (a5 : Memref sig .tc .vmem S1024x1024 .bf16) (h5 : a5.IsWhole)
    (a6 : Memref sig .tc .vmem S1024x1024 .f32) (h6 : a6.IsWhole) (hc0 : cond0_0 i) (hc1 : ¬cond0_1 i) (hc2 : ¬cond0_2 i)
    (x0 : Vec Ideal S2048x1024 .bf16) (x1 : Vec Ideal S2048x1024 .bf16) :
    sout0_A_0 c i a3 h3 a4 h4 a5 h5 a6 h6 hc0 hc1 hc2 x0 x1 = k0_pay1 x0 x1 := by
  unfold sout0_A_0
  rw [View.read_writes_eq_canon _ _ _ (scover0_A_0 c i a3 h3 a4 h4 a5 h5 a6 h6 hc0 hc1 hc2 x0 x1)]
  unfold kernelRun0_A
  dsimp only
  sl_unfold_words
  rw [View.canon_unit_zero hz]
  simp only [View.readAt_eq_ld, h3.read_unread, h4.read_unread, View.ld_unit_zero (S := S2048x1024) hz, View.ld_unit_zero (S := S2048x1024) hz]
  simp only [k0_pay2, shapeCast_self]

/-- The second half of the rows leaves the accumulator plus its product in the output block. -/
theorem out_B (c : Dev nD) (i : grid0.Coords) (a3 : Memref sig .tc .vmem S2048x1024 .bf16) (h3 : a3.IsWhole)
    (a4 : Memref sig .tc .vmem S2048x1024 .bf16) (h4 : a4.IsWhole) (a5 : Memref sig .tc .vmem S1024x1024 .bf16) (h5 : a5.IsWhole)
    (a6 : Memref sig .tc .vmem S1024x1024 .f32) (h6 : a6.IsWhole) (hc0 : ¬cond0_0 i) (hc1 : ¬cond0_1 i) (hc2 : cond0_2 i)
    (x0 : Vec Ideal S2048x1024 .bf16) (x1 : Vec Ideal S2048x1024 .bf16) (xs : Vec Ideal S1024x1024 .f32) :
    out0_B_2 c i a3 h3 a4 h4 a5 h5 a6 h6 hc0 hc1 hc2 x0 x1 xs = addf xs (k0_pay1 x0 x1) := by
  unfold out0_B_2
  rw [View.read_writes_eq_canon _ _ _ (cover0_B_2 c i a3 h3 a4 h4 a5 h5 a6 h6 hc0 hc1 hc2 x0 x1 xs)]
  unfold kernelRun0_B
  dsimp only
  sl_unfold_words
  rw [View.canon_unit_zero hz]
  simp only [View.readAt_eq_ld, h3.read_unread, h4.read_unread, h6.read_unread, View.ld_unit_zero (S := S2048x1024) hz, View.ld_unit_zero (S := S2048x1024) hz, View.ld_unit_zero (S := S1024x1024) hz]
  rfl

variable (m : (ℓ : Loc nD τ sig) → Buf (Elt Ideal) ℓ) (c : Dev nD)

/-- Argument 0 at launch. -/
abbrev a0 : FVec Ideal S4096x1024 .bf16 := m ((c : Thread nD τ).loc main_arg0)

/-- Argument 1 at launch. -/
abbrev a1 : FVec Ideal S4096x1024 .bf16 := m ((c : Thread nD τ).loc main_arg1)

/-- Row `r` of the half that point `t` reads. -/
def row (t : Fin cfg0.N) (r : Fin 2048) : Fin 4096 := ⟨t.val % 2 * 2048 + r.val, by omega⟩

/-- Column `j` of the block that point `t` works on. -/
def col (t : Fin cfg0.N) (j : Fin 1024) : Fin 1024 := ⟨t.val / 2 * 1024 + j.val, by
  have := t.isLt; have h : cfg0.N = 2 := N_0; omega⟩

/-- Which block each window reads or writes at a point. -/
theorem idx_at : ∀ t : Fin cfg0.N, (win0_0.index t 0 = t.val % 2 ∧ win0_0.index t 1 = t.val / 2) ∧ (win0_1.index t 0 = t.val % 2 ∧ win0_1.index t 1 = 0) ∧ (win0_2.index t 0 = t.val / 2 ∧ win0_2.index t 1 = 0) :=
  (by decide +kernel : ∀ t : Fin grid0.N, _)

theorem iblk0 (t : Fin cfg0.N) (r : Fin 2048) (j : Fin 1024) : iblk m c 0 t (ix2 r j) = a0 m c (ix2 (row t r) (col t j)) := by
  have hi := (idx_at t).1
  unfold iblk
  rw [View.read_apply]
  show V m c main_arg0 _ = m (c.tc.loc main_arg0) _
  unfold V
  congr 1
  funext a
  apply Fin.ext
  match a with
  | ⟨0, _⟩ => show win0_0.index t 0 * 2048 + 1 * r.val = t.val % 2 * 2048 + r.val; rw [hi.1]; omega
  | ⟨1, _⟩ => show win0_0.index t 1 * 1024 + 1 * j.val = t.val / 2 * 1024 + j.val; rw [hi.2]; omega

theorem iblk1 (t : Fin cfg0.N) (r : Fin 2048) (j : Fin 1024) : iblk m c 1 t (ix2 r j) = a1 m c (ix2 (row t r) j) := by
  have hi := (idx_at t).2.1
  unfold iblk
  rw [View.read_apply]
  show V m c main_arg1 _ = m (c.tc.loc main_arg1) _
  unfold V
  congr 1
  funext a
  apply Fin.ext
  match a with
  | ⟨0, _⟩ => show win0_1.index t 0 * 2048 + 1 * r.val = t.val % 2 * 2048 + r.val; rw [hi.1]; omega
  | ⟨1, _⟩ => show win0_1.index t 1 * 1024 + 1 * j.val = j.val; rw [hi.2]; omega

/-- After a point that closes a block the output's buffer holds both halves' products, added. -/
theorem outs (t s : Fin cfg0.N) (ht : t.val % 2 = 1) (hs : s.val = t.val - 1) :
    (outsAt0 m c t.val t.isLt).1 = addf (F := Ideal) (k0_pay1 (iblk m c 0 s) (iblk m c 1 s)) (k0_pay1 (iblk m c 0 t) (iblk m c 1 t)) := by
  have e : (outsAt0 m c (t.val - 1) (Nat.lt_of_le_of_lt (Nat.sub_le _ _) t.isLt)).2 = k0_pay1 (iblk m c 0 s) (iblk m c 1 s) := by
    have e1 : outsAt0 m c (t.val - 1) (Nat.lt_of_le_of_lt (Nat.sub_le _ _) t.isLt) = outsAt0 m c s.val s.isLt := by congr 1; exact hs.symm
    rw [e1, outsAt0_A m c s (by omega) (by omega), scratch_A]
  rw [outsAt0_B m c t (by omega) ht, e, out_B]

/-- The block a closing point leaves is that block of the reference's array. -/
theorem point (t : Fin cfg0.N) (ht : t.val % 2 = 1) (r : Fin 1024) (j : Fin 1024) :
    (outsAt0 m c t.val t.isLt).1 (ix2 r j) = val_main_v4 (F := Ideal) (a0 m c) (a1 m c) (ix2 (col t r) j) := by
  have hlt : t.val - 1 < cfg0.N := Nat.lt_of_le_of_lt (Nat.sub_le _ _) t.isLt
  rw [outs m c t ⟨t.val - 1, hlt⟩ ht rfl]
  pointwise [val_main_v0, val_main_v1, val_main_v2, val_main_v3, val_main_v4]
  rw [tile, tile, sum_halves]
  simp only [iblk0, iblk1]
  have hc : col ⟨t.val - 1, hlt⟩ r = col t r := Fin.ext (by simp only [col]; omega)
  have h0 : ∀ k : Fin 2048, row ⟨t.val - 1, hlt⟩ k = ⟨k.val, by omega⟩ := fun k => Fin.ext (by simp only [row]; omega)
  have h1 : ∀ k : Fin 2048, row t k = ⟨2048 + k.val, by omega⟩ := fun k => Fin.ext (by simp only [row]; omega)
  simp only [hc, h0, h1]

/-- The result's array after the run is the reference's. -/
theorem final_2 : (dats m 0 c).arrAt 2 cfg0.N = val_main_v4 (F := Ideal) (a0 m c) (a1 m c) := by
  have hN : cfg0.N = 2 := N_0
  refine (dats m 0 c).arrAt_eq_of_cover 2 _ (fun t hf => ?_) fun i => ?_
  · have hi := (idx_at t).2.2
    rw [Cert.Kernel14Ideal.Value.flushed2]
    funext j
    obtain ⟨r, x, rfl⟩ : ∃ r x, j = ix2 r x := ⟨j 0, j 1, by idx_vars j⟩
    rw [View.read_apply]
    refine (point m c t ((flush0_2 t).mp hf) r x).trans ?_
    congr 1
    funext a
    apply Fin.ext
    match a with
    | ⟨0, _⟩ => show t.val / 2 * 1024 + r.val = win0_2.index t 0 * 1024 + 1 * r.val; rw [hi.1]; omega
    | ⟨1, _⟩ => show x.val = win0_2.index t 1 * 1024 + 1 * x.val; rw [hi.2]; omega
  · have h0 : (i 0 : Nat) < 1024 := (i 0).isLt
    have h1 : (i 1 : Nat) < 1024 := (i 1).isLt
    have ht : (i 0 : Nat) / 1024 * 2 + 1 < cfg0.N := by omega
    have hi := (idx_at ⟨(i 0 : Nat) / 1024 * 2 + 1, ht⟩).2.2
    refine ⟨⟨(i 0 : Nat) / 1024 * 2 + 1, ht⟩, (flush0_2 _).mpr (by dsimp only; omega), ?_⟩
    show i ∈ ((View.whole main_v0).slice (win0_2.rect ⟨(i 0 : Nat) / 1024 * 2 + 1, ht⟩)).set
    rw [View.set_slice_whole, Rect.mem_set_unit]
    intro a
    match a with
    | ⟨0, _⟩ => exact Cert.Tile.mem 1024 (i 0) hi.1 (by dsimp only; omega)
    | ⟨1, _⟩ => exact Cert.Tile.mem 1024 (i 1) hi.2 (by omega)

/-- From memories that agree on the arguments, the kernel and the reference end with the same arrays. -/
theorem equal : Cert.algebraic_Kernel14Ideal_Reference14Ideal := by
  intro m g m' g' _ hargs
  refine ⟨fun c => val_main_v4 (F := Ideal) (a0 m c) (a1 m c), ?_, ?_⟩
  · refine (θ_run _ _ _).mono (fun r h c => ?_) (Cert.Kernel14Ideal.Value.run_blocks (F := Ideal) m g)
    obtain ⟨h0, h1⟩ := h c
    exact ⟨h0.trans (final_2 m c), h1⟩
  · refine (θ_run _ _ _).mono (fun r h c => ?_) (Cert.Reference14Ideal.Value.run (F := Ideal) m' g')
    obtain ⟨e0, e1⟩ := hargs c
    obtain ⟨h0, h1⟩ := h c
    rw [val_main_v4_eq] at h0
    rw [e0, e1] at h0
    exact ⟨h0, h1⟩

end Cert.Call14

end
-- ==== Proof.Call15.lean ====
/- The gradient of the attention's output -/
module

public import proofs.«01_k».proof.Defs
public import proofs.«01_k».proof.Proof.Gen.Kernel15Ideal.Value
public import proofs.«01_k».proof.Proof.Gen.Reference15Ideal.Read
public import Idealize.ShloMosaic.Lib.Pointwise
public import Idealize.ShloMosaic.Lib.Tactic
public import Idealize.ShloMosaic.PureOps.Ideal.Laws
public import proofs.«01_k».proof.Proof.Tile

@[expose] public section

noncomputable section

namespace Cert.Call15

open Idealize.ShloMosaic Idealize.ShloMosaic.TcCoe Idealize.SL.Sem Cert.Kernel15Ideal Cert.Kernel15Ideal.Gen
open Cert.Reference15Ideal.Read

theorem hz : (![0, 0] : Fin 2 → Nat) = fun _ => 0 := funext fun a => by fin_cases a <;> rfl

/-- A block of rows' product is the reference's rows. -/
theorem block_eq (f : Fin 512 → Fin 4096) (a0 : FVec Ideal S4096x1024 .bf16) (a1 : FVec Ideal S1024x1024 .bf16) (x0 : Vec Ideal S512x1024 .bf16) (x1 : Vec Ideal S1024x1024 .bf16) (h0 : ∀ r k, x0 (ix2 r k) = a0 (ix2 (f r) k)) (h1 : ∀ r k, x1 (ix2 r k) = a1 (ix2 r k)) (r : Fin 512) (j : Fin 1024) :
    k0_pay1 x0 x1 (ix2 r j) = val_main_v4 (F := Ideal) a0 a1 (ix2 (f r) j) := by
  pointwise [k0_pay1, val_main_v0, val_main_v1, val_main_v2, val_main_v3, val_main_v4]
  simp only [h0, h1]

variable (m : (ℓ : Loc nD τ sig) → Buf (Elt Ideal) ℓ) (c : Dev nD)

/-- Argument 0 at launch. -/
abbrev a0 : FVec Ideal S4096x1024 .bf16 := m ((c : Thread nD τ).loc main_arg0)

/-- Argument 1 at launch. -/
abbrev a1 : FVec Ideal S1024x1024 .bf16 := m ((c : Thread nD τ).loc main_arg1)

/-- Row `r` of tile `t`. -/
def row (t : Fin cfg0.N) (r : Fin 512) : Fin 4096 := ⟨t.val * 512 + r.val, by
  have := t.isLt; have h : cfg0.N = 8 := N_0; omega⟩

/-- Which block each window reads or writes at a point. -/
theorem idx_at : ∀ t : Fin cfg0.N, (win0_0.index t 0 = t.val ∧ win0_0.index t 1 = 0) ∧ (win0_1.index t 0 = 0 ∧ win0_1.index t 1 = 0) ∧ (win0_2.index t 0 = t.val ∧ win0_2.index t 1 = 0) :=
  (by decide +kernel : ∀ t : Fin grid0.N, _)

theorem iblk0 (t : Fin cfg0.N) (r : Fin 512) (j : Fin 1024) : iblk m c 0 t (ix2 r j) = a0 m c (ix2 (row t r) j) := by
  have hi := (idx_at t).1
  unfold iblk
  rw [View.read_apply]
  show V m c main_arg0 _ = m (c.tc.loc main_arg0) _
  unfold V
  congr 1
  funext a
  apply Fin.ext
  match a with
  | ⟨0, _⟩ => show win0_0.index t 0 * 512 + 1 * r.val = t.val * 512 + r.val; rw [hi.1]; omega
  | ⟨1, _⟩ => show win0_0.index t 1 * 1024 + 1 * j.val = j.val; rw [hi.2]; omega

theorem iblk1 (t : Fin cfg0.N) (r : Fin 1024) (j : Fin 1024) : iblk m c 1 t (ix2 r j) = a1 m c (ix2 r j) := by
  have hi := (idx_at t).2.1
  unfold iblk
  rw [View.read_apply]
  show V m c main_arg1 _ = m (c.tc.loc main_arg1) _
  unfold V
  congr 1
  funext a
  apply Fin.ext
  match a with
  | ⟨0, _⟩ => show win0_1.index t 0 * 1024 + 1 * r.val = r.val; rw [hi.1]; omega
  | ⟨1, _⟩ => show win0_1.index t 1 * 1024 + 1 * j.val = j.val; rw [hi.2]; omega

/-- What a point leaves in this window is the reference's rows of its tile. -/
theorem point_2 (t : Fin cfg0.N) (r : Fin 512) (j : Fin 1024) :
    out0_2 (iblk m c 0 t) (iblk m c 1 t) (ix2 r j) = val_main_v4 (F := Ideal) (a0 m c) (a1 m c) (ix2 (row t r) j) := by
  unfold out0_2
  rw [View.canon_unit_zero hz]
  simp only [View.ld_unit_zero (S := S512x1024) hz, View.ld_unit_zero (S := S1024x1024) hz]
  exact block_eq (row t) (a0 m c) (a1 m c) (iblk m c 0 t) (iblk m c 1 t) (fun r k => iblk0 m c t r k) (fun r k => iblk1 m c t r k) r j

/-- The array this window ends with. -/
theorem final_2 : (dats m 0 c).arrAt 2 cfg0.N = val_main_v4 (F := Ideal) (a0 m c) (a1 m c) := by
  have hN : cfg0.N = 8 := N_0
  refine (dats m 0 c).arrAt_eq_of_cover 2 _ (fun t _ => ?_) fun i => ?_
  · have hi := (idx_at t).2.2
    rw [Cert.Kernel15Ideal.Value.flushed2]
    funext j
    obtain ⟨r, x, rfl⟩ : ∃ r x, j = ix2 r x := ⟨j 0, j 1, by idx_vars j⟩
    rw [View.read_apply]
    refine (point_2 m c t r x).trans ?_
    congr 1
    funext a
    apply Fin.ext
    match a with
    | ⟨0, _⟩ => show t.val * 512 + r.val = win0_2.index t 0 * 512 + 1 * r.val; rw [hi.1]; omega
    | ⟨1, _⟩ => show x.val = win0_2.index t 1 * 1024 + 1 * x.val; rw [hi.2]; omega
  · have h0 : (i 0 : Nat) < 4096 := (i 0).isLt
    have h1 : (i 1 : Nat) < 1024 := (i 1).isLt
    obtain ⟨t, ht⟩ : ∃ t : Fin cfg0.N, t.val = (i 0 : Nat) / 512 := ⟨⟨(i 0 : Nat) / 512, by omega⟩, rfl⟩
    refine ⟨t, flush0_2 _, ?_⟩
    have hi := (idx_at t).2.2
    show i ∈ ((View.whole main_v0).slice (win0_2.rect t)).set
    rw [View.set_slice_whole, Rect.mem_set_unit]
    intro a
    match a with
    | ⟨0, _⟩ => exact Cert.Tile.mem 512 (i 0) hi.1 (by omega)
    | ⟨1, _⟩ => exact Cert.Tile.mem 1024 (i 1) hi.2 (by omega)

/-- From memories that agree on the arguments, the kernel and the reference end with the same arrays. -/
theorem equal : Cert.algebraic_Kernel15Ideal_Reference15Ideal := by
  intro m g m' g' _ hargs
  refine ⟨fun c => val_main_v4 (F := Ideal) (a0 m c) (a1 m c), ?_, ?_⟩
  · refine (θ_run _ _ _).mono (fun r h c => ?_) (Cert.Kernel15Ideal.Value.run_blocks (F := Ideal) m g)
    obtain ⟨h0, h1⟩ := h c
    exact ⟨h0.trans (final_2 m c), h1⟩
  · refine (θ_run _ _ _).mono (fun r h c => ?_) (Cert.Reference15Ideal.Value.run (F := Ideal) m' g')
    obtain ⟨e0, e1⟩ := hargs c
    obtain ⟨h0, h1⟩ := h c
    rw [val_main_v4_eq] at h0
    rw [e0, e1] at h0
    exact ⟨h0, h1⟩

end Cert.Call15

end
-- ==== Proof.Call16.lean ====
/- The attention's projection -/
module

public import proofs.«01_k».proof.Defs
public import proofs.«01_k».proof.Proof.Gen.Kernel16Ideal.Value
public import proofs.«01_k».proof.Proof.Gen.Reference16Ideal.Read
public import Idealize.ShloMosaic.Lib.Pointwise
public import Idealize.ShloMosaic.Lib.Tactic
public import Idealize.ShloMosaic.PureOps.Ideal.Laws
public import proofs.«01_k».proof.Proof.Tile

@[expose] public section

noncomputable section

namespace Cert.Call16

open Idealize.ShloMosaic Idealize.ShloMosaic.TcCoe Idealize.SL.Sem Cert.Kernel16Ideal Cert.Kernel16Ideal.Gen
open Cert.Reference16Ideal.Read

theorem hz : (![0, 0] : Fin 2 → Nat) = fun _ => 0 := funext fun a => by fin_cases a <;> rfl

/-- A block of rows' product is the reference's rows. -/
theorem block_eq (f : Fin 512 → Fin 4096) (a0 : FVec Ideal S4096x1024 .bf16) (a1 : FVec Ideal S1024x1024 .bf16) (x0 : Vec Ideal S512x1024 .bf16) (x1 : Vec Ideal S1024x1024 .bf16) (h0 : ∀ r k, x0 (ix2 r k) = a0 (ix2 (f r) k)) (h1 : ∀ r k, x1 (ix2 r k) = a1 (ix2 r k)) (r : Fin 512) (j : Fin 1024) :
    k0_pay1 x0 x1 (ix2 r j) = val_main_v3 (F := Ideal) a0 a1 (ix2 (f r) j) := by
  pointwise [k0_pay1, val_main_v0, val_main_v1, val_main_v2, val_main_v3]
  simp only [h0, h1]

variable (m : (ℓ : Loc nD τ sig) → Buf (Elt Ideal) ℓ) (c : Dev nD)

/-- Argument 0 at launch. -/
abbrev a0 : FVec Ideal S4096x1024 .bf16 := m ((c : Thread nD τ).loc main_arg0)

/-- Argument 1 at launch. -/
abbrev a1 : FVec Ideal S1024x1024 .bf16 := m ((c : Thread nD τ).loc main_arg1)

/-- Row `r` of tile `t`. -/
def row (t : Fin cfg0.N) (r : Fin 512) : Fin 4096 := ⟨t.val * 512 + r.val, by
  have := t.isLt; have h : cfg0.N = 8 := N_0; omega⟩

/-- Which block each window reads or writes at a point. -/
theorem idx_at : ∀ t : Fin cfg0.N, (win0_0.index t 0 = t.val ∧ win0_0.index t 1 = 0) ∧ (win0_1.index t 0 = 0 ∧ win0_1.index t 1 = 0) ∧ (win0_2.index t 0 = t.val ∧ win0_2.index t 1 = 0) :=
  (by decide +kernel : ∀ t : Fin grid0.N, _)

theorem iblk0 (t : Fin cfg0.N) (r : Fin 512) (j : Fin 1024) : iblk m c 0 t (ix2 r j) = a0 m c (ix2 (row t r) j) := by
  have hi := (idx_at t).1
  unfold iblk
  rw [View.read_apply]
  show V m c main_arg0 _ = m (c.tc.loc main_arg0) _
  unfold V
  congr 1
  funext a
  apply Fin.ext
  match a with
  | ⟨0, _⟩ => show win0_0.index t 0 * 512 + 1 * r.val = t.val * 512 + r.val; rw [hi.1]; omega
  | ⟨1, _⟩ => show win0_0.index t 1 * 1024 + 1 * j.val = j.val; rw [hi.2]; omega

theorem iblk1 (t : Fin cfg0.N) (r : Fin 1024) (j : Fin 1024) : iblk m c 1 t (ix2 r j) = a1 m c (ix2 r j) := by
  have hi := (idx_at t).2.1
  unfold iblk
  rw [View.read_apply]
  show V m c main_arg1 _ = m (c.tc.loc main_arg1) _
  unfold V
  congr 1
  funext a
  apply Fin.ext
  match a with
  | ⟨0, _⟩ => show win0_1.index t 0 * 1024 + 1 * r.val = r.val; rw [hi.1]; omega
  | ⟨1, _⟩ => show win0_1.index t 1 * 1024 + 1 * j.val = j.val; rw [hi.2]; omega

/-- What a point leaves in this window is the reference's rows of its tile. -/
theorem point_2 (t : Fin cfg0.N) (r : Fin 512) (j : Fin 1024) :
    out0_2 (iblk m c 0 t) (iblk m c 1 t) (ix2 r j) = val_main_v3 (F := Ideal) (a0 m c) (a1 m c) (ix2 (row t r) j) := by
  unfold out0_2
  rw [View.canon_unit_zero hz]
  simp only [View.ld_unit_zero (S := S512x1024) hz, View.ld_unit_zero (S := S1024x1024) hz]
  exact block_eq (row t) (a0 m c) (a1 m c) (iblk m c 0 t) (iblk m c 1 t) (fun r k => iblk0 m c t r k) (fun r k => iblk1 m c t r k) r j

/-- The array this window ends with. -/
theorem final_2 : (dats m 0 c).arrAt 2 cfg0.N = val_main_v3 (F := Ideal) (a0 m c) (a1 m c) := by
  have hN : cfg0.N = 8 := N_0
  refine (dats m 0 c).arrAt_eq_of_cover 2 _ (fun t _ => ?_) fun i => ?_
  · have hi := (idx_at t).2.2
    rw [Cert.Kernel16Ideal.Value.flushed2]
    funext j
    obtain ⟨r, x, rfl⟩ : ∃ r x, j = ix2 r x := ⟨j 0, j 1, by idx_vars j⟩
    rw [View.read_apply]
    refine (point_2 m c t r x).trans ?_
    congr 1
    funext a
    apply Fin.ext
    match a with
    | ⟨0, _⟩ => show t.val * 512 + r.val = win0_2.index t 0 * 512 + 1 * r.val; rw [hi.1]; omega
    | ⟨1, _⟩ => show x.val = win0_2.index t 1 * 1024 + 1 * x.val; rw [hi.2]; omega
  · have h0 : (i 0 : Nat) < 4096 := (i 0).isLt
    have h1 : (i 1 : Nat) < 1024 := (i 1).isLt
    obtain ⟨t, ht⟩ : ∃ t : Fin cfg0.N, t.val = (i 0 : Nat) / 512 := ⟨⟨(i 0 : Nat) / 512, by omega⟩, rfl⟩
    refine ⟨t, flush0_2 _, ?_⟩
    have hi := (idx_at t).2.2
    show i ∈ ((View.whole main_v0).slice (win0_2.rect t)).set
    rw [View.set_slice_whole, Rect.mem_set_unit]
    intro a
    match a with
    | ⟨0, _⟩ => exact Cert.Tile.mem 512 (i 0) hi.1 (by omega)
    | ⟨1, _⟩ => exact Cert.Tile.mem 1024 (i 1) hi.2 (by omega)

/-- From memories that agree on the arguments, the kernel and the reference end with the same arrays. -/
theorem equal : Cert.algebraic_Kernel16Ideal_Reference16Ideal := by
  intro m g m' g' _ hargs
  refine ⟨fun c => val_main_v3 (F := Ideal) (a0 m c) (a1 m c), ?_, ?_⟩
  · refine (θ_run _ _ _).mono (fun r h c => ?_) (Cert.Kernel16Ideal.Value.run_blocks (F := Ideal) m g)
    obtain ⟨h0, h1⟩ := h c
    exact ⟨h0.trans (final_2 m c), h1⟩
  · refine (θ_run _ _ _).mono (fun r h c => ?_) (Cert.Reference16Ideal.Value.run (F := Ideal) m' g')
    obtain ⟨e0, e1⟩ := hargs c
    obtain ⟨h0, h1⟩ := h c
    rw [val_main_v3_eq] at h0
    rw [e0, e1] at h0
    exact ⟨h0, h1⟩

end Cert.Call16

end
-- ==== Proof.Call17.lean ====
/- The attention's output product, its residual sum and the norm behind it -/
module

public import proofs.«01_k».proof.Defs
public import proofs.«01_k».proof.Proof.Gen.Kernel17Ideal.Value
public import proofs.«01_k».proof.Proof.Gen.Reference17Ideal.Read
public import Idealize.ShloMosaic.Lib.Pointwise
public import Idealize.ShloMosaic.Lib.Tactic
public import Idealize.ShloMosaic.PureOps.Ideal.Laws
public import proofs.«01_k».proof.Proof.Tile

@[expose] public section

noncomputable section

namespace Cert.Call17

open Idealize.ShloMosaic Idealize.ShloMosaic.TcCoe Idealize.SL.Sem Cert.Kernel17Ideal Cert.Kernel17Ideal.Gen
open Cert.Reference17Ideal.Read

theorem hz : (![0, 0] : Fin 2 → Nat) = fun _ => 0 := funext fun a => by fin_cases a <;> rfl

/-- The residual sum's rows. -/
theorem sum_eq (f : Fin 512 → Fin 4096) (a0 : FVec Ideal S4096x1024 .bf16) (a1 : FVec Ideal S1024x1024 .bf16) (a2 : FVec Ideal S4096x1024 .bf16) (x0 : Vec Ideal S512x1024 .bf16) (x1 : Vec Ideal S1024x1024 .bf16) (x2 : Vec Ideal S512x1024 .bf16) (h0 : ∀ r k, x0 (ix2 r k) = a0 (ix2 (f r) k)) (h1 : ∀ r k, x1 (ix2 r k) = a1 (ix2 r k)) (h2 : ∀ r k, x2 (ix2 r k) = a2 (ix2 (f r) k)) (r : Fin 512) (j : Fin 1024) :
    k0_pay1 x0 x1 x2 (ix2 r j) = val_main_v4 (F := Ideal) a0 a1 a2 (ix2 (f r) j) := by
  pointwise [k0_pay1, val_main_v0, val_main_v1, val_main_v2, val_main_v3, val_main_v4]
  simp only [h0, h1, h2]
  exact add_comm _ _

theorem block_4 (f : Fin 512 → Fin 4096) (a0 : FVec Ideal S4096x1024 .bf16) (a1 : FVec Ideal S1024x1024 .bf16) (a2 : FVec Ideal S4096x1024 .bf16) (x0 : Vec Ideal S512x1024 .bf16) (x1 : Vec Ideal S1024x1024 .bf16) (x2 : Vec Ideal S512x1024 .bf16) (h0 : ∀ r k, x0 (ix2 r k) = a0 (ix2 (f r) k)) (h1 : ∀ r k, x1 (ix2 r k) = a1 (ix2 r k)) (h2 : ∀ r k, x2 (ix2 r k) = a2 (ix2 (f r) k)) (r : Fin 512) (j : Fin 1024) :
    k0_pay2 x0 x1 x2 (ix2 r j) = val_main_v5 (F := Ideal) a0 a1 a2 (ix2 (f r) j) := sum_eq f a0 a1 a2 x0 x1 x2 h0 h1 h2 r j

/-- The normalised rows. -/
theorem block_5 (f : Fin 512 → Fin 4096) (a0 : FVec Ideal S4096x1024 .bf16) (a1 : FVec Ideal S1024x1024 .bf16) (a2 : FVec Ideal S4096x1024 .bf16) (a3 : FVec Ideal S1x1024 .f32) (x0 : Vec Ideal S512x1024 .bf16) (x1 : Vec Ideal S1024x1024 .bf16) (x2 : Vec Ideal S512x1024 .bf16) (x3 : Vec Ideal S1x1024 .f32) (h0 : ∀ r k, x0 (ix2 r k) = a0 (ix2 (f r) k)) (h1 : ∀ r k, x1 (ix2 r k) = a1 (ix2 r k)) (h2 : ∀ r k, x2 (ix2 r k) = a2 (ix2 (f r) k)) (h3 : ∀ r k, x3 (ix2 r k) = a3 (ix2 r k)) (r : Fin 512) (j : Fin 1024) :
    k0_pay3 x0 x1 x2 x3 (ix2 r j) = val_main_v18 (F := Ideal) a0 a1 a2 a3 (ix2 (f r) j) := by
  pointwise [k0_pay3, val_main_v6, val_main_cst, val_main_v7, val_main_v8, val_main_cst_0, val_main_v9, val_main_v10, val_main_cst_1, val_main_v11, val_main_v12, val_main_v13, val_main_v14, val_main_v15, val_main_v16, val_main_v17, val_main_v18]
  simp only [sum_eq f a0 a1 a2 x0 x1 x2 h0 h1 h2, h3]

variable (m : (ℓ : Loc nD τ sig) → Buf (Elt Ideal) ℓ) (c : Dev nD)

/-- Argument 0 at launch. -/
abbrev a0 : FVec Ideal S4096x1024 .bf16 := m ((c : Thread nD τ).loc main_arg0)

/-- Argument 1 at launch. -/
abbrev a1 : FVec Ideal S1024x1024 .bf16 := m ((c : Thread nD τ).loc main_arg1)

/-- Argument 2 at launch. -/
abbrev a2 : FVec Ideal S4096x1024 .bf16 := m ((c : Thread nD τ).loc main_arg2)

/-- Argument 3 at launch. -/
abbrev a3 : FVec Ideal S1x1024 .f32 := m ((c : Thread nD τ).loc main_arg3)

/-- Row `r` of tile `t`. -/
def row (t : Fin cfg0.N) (r : Fin 512) : Fin 4096 := ⟨t.val * 512 + r.val, by
  have := t.isLt; have h : cfg0.N = 8 := N_0; omega⟩

/-- Which block each window reads or writes at a point. -/
theorem idx_at : ∀ t : Fin cfg0.N, (win0_0.index t 0 = t.val ∧ win0_0.index t 1 = 0) ∧ (win0_1.index t 0 = 0 ∧ win0_1.index t 1 = 0) ∧ (win0_2.index t 0 = t.val ∧ win0_2.index t 1 = 0) ∧ (win0_3.index t 0 = 0 ∧ win0_3.index t 1 = 0) ∧ (win0_4.index t 0 = t.val ∧ win0_4.index t 1 = 0) ∧ (win0_5.index t 0 = t.val ∧ win0_5.index t 1 = 0) :=
  (by decide +kernel : ∀ t : Fin grid0.N, _)

theorem iblk0 (t : Fin cfg0.N) (r : Fin 512) (j : Fin 1024) : iblk m c 0 t (ix2 r j) = a0 m c (ix2 (row t r) j) := by
  have hi := (idx_at t).1
  unfold iblk
  rw [View.read_apply]
  show V m c main_arg0 _ = m (c.tc.loc main_arg0) _
  unfold V
  congr 1
  funext a
  apply Fin.ext
  match a with
  | ⟨0, _⟩ => show win0_0.index t 0 * 512 + 1 * r.val = t.val * 512 + r.val; rw [hi.1]; omega
  | ⟨1, _⟩ => show win0_0.index t 1 * 1024 + 1 * j.val = j.val; rw [hi.2]; omega

theorem iblk1 (t : Fin cfg0.N) (r : Fin 1024) (j : Fin 1024) : iblk m c 1 t (ix2 r j) = a1 m c (ix2 r j) := by
  have hi := (idx_at t).2.1
  unfold iblk
  rw [View.read_apply]
  show V m c main_arg1 _ = m (c.tc.loc main_arg1) _
  unfold V
  congr 1
  funext a
  apply Fin.ext
  match a with
  | ⟨0, _⟩ => show win0_1.index t 0 * 1024 + 1 * r.val = r.val; rw [hi.1]; omega
  | ⟨1, _⟩ => show win0_1.index t 1 * 1024 + 1 * j.val = j.val; rw [hi.2]; omega

theorem iblk2 (t : Fin cfg0.N) (r : Fin 512) (j : Fin 1024) : iblk m c 2 t (ix2 r j) = a2 m c (ix2 (row t r) j) := by
  have hi := (idx_at t).2.2.1
  unfold iblk
  rw [View.read_apply]
  show V m c main_arg2 _ = m (c.tc.loc main_arg2) _
  unfold V
  congr 1
  funext a
  apply Fin.ext
  match a with
  | ⟨0, _⟩ => show win0_2.index t 0 * 512 + 1 * r.val = t.val * 512 + r.val; rw [hi.1]; omega
  | ⟨1, _⟩ => show win0_2.index t 1 * 1024 + 1 * j.val = j.val; rw [hi.2]; omega

theorem iblk3 (t : Fin cfg0.N) (r : Fin 1) (j : Fin 1024) : iblk m c 3 t (ix2 r j) = a3 m c (ix2 r j) := by
  have hi := (idx_at t).2.2.2.1
  unfold iblk
  rw [View.read_apply]
  show V m c main_arg3 _ = m (c.tc.loc main_arg3) _
  unfold V
  congr 1
  funext a
  apply Fin.ext
  match a with
  | ⟨0, _⟩ => show win0_3.index t 0 * 1 + 1 * r.val = r.val; rw [hi.1]; omega
  | ⟨1, _⟩ => show win0_3.index t 1 * 1024 + 1 * j.val = j.val; rw [hi.2]; omega

/-- What a point leaves in this window is the reference's rows of its tile. -/
theorem point_4 (t : Fin cfg0.N) (r : Fin 512) (j : Fin 1024) :
    out0_4 (iblk m c 0 t) (iblk m c 1 t) (iblk m c 2 t) (iblk m c 3 t) (ix2 r j) = val_main_v5 (F := Ideal) (a0 m c) (a1 m c) (a2 m c) (ix2 (row t r) j) := by
  unfold out0_4
  rw [View.canon_unit_zero hz]
  simp only [View.ld_unit_zero (S := S512x1024) hz, View.ld_unit_zero (S := S1024x1024) hz, View.ld_unit_zero (S := S1x1024) hz]
  exact block_4 (row t) (a0 m c) (a1 m c) (a2 m c) (iblk m c 0 t) (iblk m c 1 t) (iblk m c 2 t) (fun r k => iblk0 m c t r k) (fun r k => iblk1 m c t r k) (fun r k => iblk2 m c t r k) r j

/-- The array this window ends with. -/
theorem final_4 : (dats m 0 c).arrAt 4 cfg0.N = val_main_v5 (F := Ideal) (a0 m c) (a1 m c) (a2 m c) := by
  have hN : cfg0.N = 8 := N_0
  refine (dats m 0 c).arrAt_eq_of_cover 4 _ (fun t _ => ?_) fun i => ?_
  · have hi := (idx_at t).2.2.2.2.1
    rw [Cert.Kernel17Ideal.Value.flushed4]
    funext j
    obtain ⟨r, x, rfl⟩ : ∃ r x, j = ix2 r x := ⟨j 0, j 1, by idx_vars j⟩
    rw [View.read_apply]
    refine (point_4 m c t r x).trans ?_
    congr 1
    funext a
    apply Fin.ext
    match a with
    | ⟨0, _⟩ => show t.val * 512 + r.val = win0_4.index t 0 * 512 + 1 * r.val; rw [hi.1]; omega
    | ⟨1, _⟩ => show x.val = win0_4.index t 1 * 1024 + 1 * x.val; rw [hi.2]; omega
  · have h0 : (i 0 : Nat) < 4096 := (i 0).isLt
    have h1 : (i 1 : Nat) < 1024 := (i 1).isLt
    obtain ⟨t, ht⟩ : ∃ t : Fin cfg0.N, t.val = (i 0 : Nat) / 512 := ⟨⟨(i 0 : Nat) / 512, by omega⟩, rfl⟩
    refine ⟨t, flush0_4 _, ?_⟩
    have hi := (idx_at t).2.2.2.2.1
    show i ∈ ((View.whole main_v0_0).slice (win0_4.rect t)).set
    rw [View.set_slice_whole, Rect.mem_set_unit]
    intro a
    match a with
    | ⟨0, _⟩ => exact Cert.Tile.mem 512 (i 0) hi.1 (by omega)
    | ⟨1, _⟩ => exact Cert.Tile.mem 1024 (i 1) hi.2 (by omega)

/-- What a point leaves in this window is the reference's rows of its tile. -/
theorem point_5 (t : Fin cfg0.N) (r : Fin 512) (j : Fin 1024) :
    out0_5 (iblk m c 0 t) (iblk m c 1 t) (iblk m c 2 t) (iblk m c 3 t) (ix2 r j) = val_main_v18 (F := Ideal) (a0 m c) (a1 m c) (a2 m c) (a3 m c) (ix2 (row t r) j) := by
  unfold out0_5
  rw [View.canon_unit_zero hz]
  simp only [View.ld_unit_zero (S := S512x1024) hz, View.ld_unit_zero (S := S1024x1024) hz, View.ld_unit_zero (S := S1x1024) hz]
  exact block_5 (row t) (a0 m c) (a1 m c) (a2 m c) (a3 m c) (iblk m c 0 t) (iblk m c 1 t) (iblk m c 2 t) (iblk m c 3 t) (fun r k => iblk0 m c t r k) (fun r k => iblk1 m c t r k) (fun r k => iblk2 m c t r k) (fun r k => iblk3 m c t r k) r j

/-- The array this window ends with. -/
theorem final_5 : (dats m 0 c).arrAt 5 cfg0.N = val_main_v18 (F := Ideal) (a0 m c) (a1 m c) (a2 m c) (a3 m c) := by
  have hN : cfg0.N = 8 := N_0
  refine (dats m 0 c).arrAt_eq_of_cover 5 _ (fun t _ => ?_) fun i => ?_
  · have hi := (idx_at t).2.2.2.2.2
    rw [Cert.Kernel17Ideal.Value.flushed5]
    funext j
    obtain ⟨r, x, rfl⟩ : ∃ r x, j = ix2 r x := ⟨j 0, j 1, by idx_vars j⟩
    rw [View.read_apply]
    refine (point_5 m c t r x).trans ?_
    congr 1
    funext a
    apply Fin.ext
    match a with
    | ⟨0, _⟩ => show t.val * 512 + r.val = win0_5.index t 0 * 512 + 1 * r.val; rw [hi.1]; omega
    | ⟨1, _⟩ => show x.val = win0_5.index t 1 * 1024 + 1 * x.val; rw [hi.2]; omega
  · have h0 : (i 0 : Nat) < 4096 := (i 0).isLt
    have h1 : (i 1 : Nat) < 1024 := (i 1).isLt
    obtain ⟨t, ht⟩ : ∃ t : Fin cfg0.N, t.val = (i 0 : Nat) / 512 := ⟨⟨(i 0 : Nat) / 512, by omega⟩, rfl⟩
    refine ⟨t, flush0_5 _, ?_⟩
    have hi := (idx_at t).2.2.2.2.2
    show i ∈ ((View.whole main_v0_1).slice (win0_5.rect t)).set
    rw [View.set_slice_whole, Rect.mem_set_unit]
    intro a
    match a with
    | ⟨0, _⟩ => exact Cert.Tile.mem 512 (i 0) hi.1 (by omega)
    | ⟨1, _⟩ => exact Cert.Tile.mem 1024 (i 1) hi.2 (by omega)

/-- From memories that agree on the arguments, the kernel and the reference end with the same arrays. -/
theorem equal : Cert.algebraic_Kernel17Ideal_Reference17Ideal := by
  intro m g m' g' _ hargs
  refine ⟨fun c => val_main_v5 (F := Ideal) (a0 m c) (a1 m c) (a2 m c), fun c => val_main_v18 (F := Ideal) (a0 m c) (a1 m c) (a2 m c) (a3 m c), ?_, ?_⟩
  · refine (θ_run _ _ _).mono (fun r h c => ?_) (Cert.Kernel17Ideal.Value.run_blocks (F := Ideal) m g)
    obtain ⟨h0, h1, h2⟩ := h c
    exact ⟨h0.trans (final_4 m c), h1.trans (final_5 m c), h2⟩
  · refine (θ_run _ _ _).mono (fun r h c => ?_) (Cert.Reference17Ideal.Value.run (F := Ideal) m' g')
    obtain ⟨e0, e1, e2, e3⟩ := hargs c
    obtain ⟨h0, h1, h2⟩ := h c
    rw [val_main_v5_eq] at h0
    rw [e0, e1, e2] at h0
    rw [val_main_v18_eq] at h1
    rw [e0, e1, e2, e3] at h1
    exact ⟨h0, h1, h2⟩

end Cert.Call17

end
-- ==== Proof.Call18.lean ====
/- The sum of the devices' small gradients: the call's one block is the reference's sum over the parts. -/
module

public import proofs.«01_k».proof.Defs
public import proofs.«01_k».proof.Proof.Gen.Kernel18Ideal.Value
public import proofs.«01_k».proof.Proof.Gen.Reference18Ideal.Read
public import Idealize.ShloMosaic.Lib.Pointwise
public import Idealize.ShloMosaic.Lib.Tactic
public import Idealize.ShloMosaic.Lib.Pipeline.ValueKit.Tiles
public import Idealize.ShloMosaic.PureOps.Ideal.Laws

@[expose] public section

noncomputable section

namespace Cert.Call18

open Idealize.ShloMosaic Idealize.ShloMosaic.TcCoe Idealize.SL.Sem Cert.Kernel18Ideal Cert.Kernel18Ideal.Gen
open Cert.Kernel18Ideal.Value Cert.Reference18Ideal.Read

/-- Adding the parts one after another is the sum over the parts. -/
theorem sum_eq (a : Vec Ideal S8x384x128 .f32) : G1 a = val_main_v0 (F := Ideal) a := by
  funext i
  obtain ⟨r, j, rfl⟩ : ∃ r j, i = ix2 r j := ⟨i 0, i 1, by idx_vars i⟩
  rw [val_main_v0_apply]
  have e : ∀ k : Fin 8, idx_main_v0 (ix2 r j) k = ix3 k r j := fun k => by
    funext x; match x with
    | ⟨0, _⟩ => rfl
    | ⟨1, _⟩ => rfl
    | ⟨2, _⟩ => rfl
  pointwise [k0_pay1, val_main_cst]
  simp only [e, Fin.sum_univ_eight]

/-- From memories that agree on the arguments, the kernel and the reference end with the same array. -/
theorem equal : Cert.algebraic_Kernel18Ideal_Reference18Ideal := by
  intro m g m' g' _ hargs
  refine ⟨fun c => val_main_v0 (F := Ideal) (m ((c : Thread nD τ).loc main_arg0)), ?_, ?_⟩
  · refine (θ_run _ _ _).mono (fun r h c => ?_) (Cert.Kernel18Ideal.Value.run (F := Ideal) m g)
    obtain ⟨h0, h1⟩ := h c
    exact ⟨h0.trans (sum_eq _), h1⟩
  · refine (θ_run _ _ _).mono (fun r h c => ?_) (Cert.Reference18Ideal.Value.run (F := Ideal) m' g')
    have e0 := hargs c
    obtain ⟨h0, h1⟩ := h c
    rw [val_main_v0_eq, e0] at h0
    exact ⟨h0, h1⟩

end Cert.Call18

end
-- ==== Proof.Call19.lean ====
/- The gradient of the mixing norm with the residual's gradient added: the kernel's eight row tiles against the reference's gradient of the norm. -/
module

public import proofs.«01_k».proof.Defs
public import proofs.«01_k».proof.Proof.Chain
public import proofs.«01_k».proof.Proof.Gen.Kernel19Ideal.Value
public import proofs.«01_k».proof.Proof.Gen.Reference19Ideal.Read
public import Idealize.ShloMosaic.Lib.Pointwise
public import Idealize.ShloMosaic.Lib.Tactic
public import Idealize.ShloMosaic.PureOps.Ideal.Laws
public import proofs.«01_k».proof.Proof.Tile

@[expose] public section

noncomputable section

namespace Cert.Call19

open Idealize.ShloMosaic Idealize.ShloMosaic.TcCoe Idealize.SL.Sem Cert.Kernel19Ideal Cert.Kernel19Ideal.Gen
open Cert.Reference19Ideal.Read

theorem hz : (![0, 0] : Fin 2 → Nat) = fun _ => 0 := funext fun a => by fin_cases a <;> rfl

/-- The mean square of a row plus the small constant. -/
theorem ms_eq (f : Fin 512 → Fin 4096) (a1 : FVec Ideal S4096x1024 .f32) (x0 : Vec Ideal S512x1024 .f32)
    (h0 : ∀ r k, x0 (ix2 r k) = a1 (ix2 (f r) k)) (r : Fin 512) :
    k0_pay3 x0 (ix2 r 0) = val_main_v6 (F := Ideal) a1 (ix2 (f r) 0) := by
  pointwise [k0_pay3, val_main_v0, val_main_cst, val_main_v1, val_main_v2, val_main_cst_0, val_main_v3, val_main_v4, val_main_cst_1, val_main_v5, val_main_v6]
  simp only [h0]

/-- The reciprocal root of a row's mean square. -/
theorem rs_eq (f : Fin 512 → Fin 4096) (a1 : FVec Ideal S4096x1024 .f32) (x0 : Vec Ideal S512x1024 .f32)
    (h0 : ∀ r k, x0 (ix2 r k) = a1 (ix2 (f r) k)) (r : Fin 512) :
    k0_pay4 x0 (ix2 r 0) = val_main_v7 (F := Ideal) a1 (ix2 (f r) 0) := by
  have h := ms_eq f a1 x0 h0 r
  unfold k0_pay4 val_main_v7
  generalize k0_pay3 x0 = p at h ⊢
  generalize val_main_v6 (F := Ideal) a1 = q at h ⊢
  pointwise []
  rw [h]

/-- The reference's parameter row, entry by entry. -/
theorem dg_eq (a0 : FVec Ideal S4096x1024 .bf16) (a1 : FVec Ideal S4096x1024 .f32) (j : Fin 1024) :
    val_main_v18 (F := Ideal) a0 a1 (ix2 0 j) = ∑ r : Fin 4096, a1 (ix2 r j) * val_main_v7 (F := Ideal) a1 (ix2 r 0) * a0 (ix2 r j) := by
  unfold val_main_v18 val_main_v17 val_main_v16 val_main_v12 val_main_v11
  generalize val_main_v7 (F := Ideal) a1 = q
  pointwise [val_main_v15, val_main_cst_3]

/-- One tile's addend to the parameter row. -/
theorem tile_dg (f : Fin 512 → Fin 4096) (a0 : FVec Ideal S4096x1024 .bf16) (a1 : FVec Ideal S4096x1024 .f32) (x0 : Vec Ideal S512x1024 .f32) (x2 : Vec Ideal S512x1024 .bf16)
    (h0 : ∀ r k, x0 (ix2 r k) = a1 (ix2 (f r) k)) (h2 : ∀ r k, x2 (ix2 r k) = a0 (ix2 (f r) k)) (j : Fin 1024) :
    k0_pay6 x0 x2 (ix2 0 j) = ∑ r : Fin 512, a1 (ix2 (f r) j) * val_main_v7 (F := Ideal) a1 (ix2 (f r) 0) * a0 (ix2 (f r) j) := by
  have h := rs_eq f a1 x0 h0
  unfold k0_pay6
  generalize k0_pay4 x0 = p at h ⊢
  pointwise [k0_pay5]
  simp only [h0, h2, h]

/-- One tile's rows of the gradient. -/
theorem tile_dx (f : Fin 512 → Fin 4096) (a0 : FVec Ideal S4096x1024 .bf16) (a1 : FVec Ideal S4096x1024 .f32) (a2 : FVec Ideal S4096x1024 .bf16) (a3 : FVec Ideal S1x1024 .f32)
    (x0 : Vec Ideal S512x1024 .f32) (x1 : Vec Ideal S1x1024 .f32) (x2 x3 : Vec Ideal S512x1024 .bf16)
    (h0 : ∀ r k, x0 (ix2 r k) = a1 (ix2 (f r) k)) (h1 : ∀ r k, x1 (ix2 r k) = a3 (ix2 r k))
    (h2 : ∀ r k, x2 (ix2 r k) = a0 (ix2 (f r) k)) (h3 : ∀ r k, x3 (ix2 r k) = a2 (ix2 (f r) k)) (r : Fin 512) (j : Fin 1024) :
    k0_pay7 x0 x1 x2 x3 (ix2 r j) = val_main_v36 (F := Ideal) a0 a1 a2 a3 (ix2 (f r) j) := by
  have h6 := ms_eq f a1 x0 h0
  have h7 := rs_eq f a1 x0 h0
  unfold k0_pay7 val_main_v36 val_main_v34 val_main_v33 val_main_v32 val_main_v31 val_main_v30 val_main_v29 val_main_v28 val_main_v26 val_main_v10 val_main_v8 val_main_v25 val_main_v24
  generalize k0_pay3 x0 = p at h6 ⊢
  generalize val_main_v6 (F := Ideal) a1 = q at h6 ⊢
  generalize k0_pay4 x0 = p' at h7 ⊢
  generalize val_main_v7 (F := Ideal) a1 = q' at h7 ⊢
  pointwise [k0_pay5, val_main_cst_2, val_main_v9, val_main_v15, val_main_v19, val_main_v20, val_main_v21, val_main_cst_4, val_main_v22, val_main_v23, val_main_cst_5, val_main_v27, val_main_cst_6, val_main_v35]
  simp only [h0, h1, h2, h3, Fin.sum_univ_one, h6, h7]

section runs

variable (c : Dev nD) (i : grid0.Coords) (p1 : Memref sig .tc .vmem S512x1024 .f32) (h1 : p1.IsWhole) (p2 : Memref sig .tc .vmem S1x1024 .f32) (h2 : p2.IsWhole) (p3 : Memref sig .tc .vmem S512x1024 .bf16) (h3 : p3.IsWhole) (p4 : Memref sig .tc .vmem S512x1024 .bf16) (h4 : p4.IsWhole) (p5 : Memref sig .tc .vmem S512x1024 .f32) (h5 : p5.IsWhole) (p6 : Memref sig .tc .vmem S1x1024 .f32) (h6 : p6.IsWhole)

/-- The first point leaves its rows of the gradient. -/
theorem row_A
    (hc : cond0_0 i) (x0 : Vec Ideal S512x1024 .f32) (x1 : Vec Ideal S1x1024 .f32) (x2 : Vec Ideal S512x1024 .bf16) (x3 : Vec Ideal S512x1024 .bf16) :
    out0_A_4 c i p1 h1 p2 h2 p3 h3 p4 h4 p5 h5 p6 h6 hc x0 x1 x2 x3 = k0_pay7 x0 x1 x2 x3 := by
  unfold out0_A_4
  rw [View.read_writes_eq_canon _ _ _ (cover0_A_4 c i p1 h1 p2 h2 p3 h3 p4 h4 p5 h5 p6 h6 hc x0 x1 x2 x3)]
  unfold kernelRun0_A
  dsimp only
  sl_unfold_words
  rw [View.canon_unit_zero hz]
  simp only [View.readAt_eq_ld, h1.read_unread, h2.read_unread, h3.read_unread, h4.read_unread, View.ld_unit_zero (S := S512x1024) hz, View.ld_unit_zero (S := S1x1024) hz]

/-- The first point starts the parameter row from zero. -/
theorem col_A
    (hc : cond0_0 i) (x0 : Vec Ideal S512x1024 .f32) (x1 : Vec Ideal S1x1024 .f32) (x2 : Vec Ideal S512x1024 .bf16) (x3 : Vec Ideal S512x1024 .bf16) :
    out0_A_5 c i p1 h1 p2 h2 p3 h3 p4 h4 p5 h5 p6 h6 hc x0 x1 x2 x3 = addf (broadcast S1x1024 (Scalar.ofBits .f32 0x00000000#32)) (k0_pay6 x0 x2) := by
  unfold out0_A_5
  rw [View.read_writes_eq_canon _ _ _ (cover0_A_5 c i p1 h1 p2 h2 p3 h3 p4 h4 p5 h5 p6 h6 hc x0 x1 x2 x3)]
  unfold kernelRun0_A
  dsimp only
  sl_unfold_words
  rw [View.canon_cons_unit_zero (S := S1x1024) hz, View.readCov_unit_zero (S := S1x1024) _ hz]
  simp only [View.readAt_eq_ld, h1.read_unread, h2.read_unread, h3.read_unread, h4.read_unread, View.ld_unit_zero (S := S512x1024) hz, View.ld_unit_zero (S := S1x1024) hz]
  simp only [k0_pay2, k0_pay1, shapeCast_self]

/-- A later point leaves its rows of the gradient. -/
theorem row_B
    (hc : ¬cond0_0 i) (x0 : Vec Ideal S512x1024 .f32) (x1 : Vec Ideal S1x1024 .f32) (x2 : Vec Ideal S512x1024 .bf16) (x3 : Vec Ideal S512x1024 .bf16) (xo : Vec Ideal S1x1024 .f32) :
    out0_B_4 c i p1 h1 p2 h2 p3 h3 p4 h4 p5 h5 p6 h6 hc x0 x1 x2 x3 xo = k0_pay7 x0 x1 x2 x3 := by
  unfold out0_B_4
  rw [View.read_writes_eq_canon _ _ _ (cover0_B_4 c i p1 h1 p2 h2 p3 h3 p4 h4 p5 h5 p6 h6 hc x0 x1 x2 x3 xo)]
  unfold kernelRun0_B
  dsimp only
  sl_unfold_words
  rw [View.canon_unit_zero hz]
  simp only [View.readAt_eq_ld, h1.read_unread, h2.read_unread, h3.read_unread, h4.read_unread, h6.read_unread, View.ld_unit_zero (S := S512x1024) hz, View.ld_unit_zero (S := S1x1024) hz]

/-- A later point adds to the parameter row. -/
theorem col_B
    (hc : ¬cond0_0 i) (x0 : Vec Ideal S512x1024 .f32) (x1 : Vec Ideal S1x1024 .f32) (x2 : Vec Ideal S512x1024 .bf16) (x3 : Vec Ideal S512x1024 .bf16) (xo : Vec Ideal S1x1024 .f32) :
    out0_B_5 c i p1 h1 p2 h2 p3 h3 p4 h4 p5 h5 p6 h6 hc x0 x1 x2 x3 xo = addf xo (k0_pay6 x0 x2) := by
  unfold out0_B_5
  rw [View.read_writes_eq_canon _ _ _ (cover0_B_5 c i p1 h1 p2 h2 p3 h3 p4 h4 p5 h5 p6 h6 hc x0 x1 x2 x3 xo)]
  unfold kernelRun0_B
  dsimp only
  sl_unfold_words
  rw [View.canon_unit_zero hz]
  simp only [View.readAt_eq_ld, h1.read_unread, h2.read_unread, h3.read_unread, h4.read_unread, h6.read_unread, View.ld_unit_zero (S := S512x1024) hz, View.ld_unit_zero (S := S1x1024) hz]
  simp only [k0_pay2, shapeCast_self]

end runs

variable (m : (ℓ : Loc nD τ sig) → Buf (Elt Ideal) ℓ) (c : Dev nD)

/-- Argument 0 at launch. -/
abbrev a0 : FVec Ideal S4096x1024 .bf16 := m ((c : Thread nD τ).loc main_arg0)

/-- Argument 1 at launch. -/
abbrev a1 : FVec Ideal S4096x1024 .f32 := m ((c : Thread nD τ).loc main_arg1)

/-- Argument 2 at launch. -/
abbrev a2 : FVec Ideal S4096x1024 .bf16 := m ((c : Thread nD τ).loc main_arg2)

/-- Argument 3 at launch. -/
abbrev a3 : FVec Ideal S1x1024 .f32 := m ((c : Thread nD τ).loc main_arg3)

/-- Row `r` of tile `t`. -/
def row (t : Fin cfg0.N) (r : Fin 512) : Fin 4096 := ⟨t.val * 512 + r.val, by
  have := t.isLt; have h : cfg0.N = 8 := N_0; omega⟩

/-- Which block each window reads or writes at a point. -/
theorem idx_at : ∀ t : Fin cfg0.N, (win0_0.index t 0 = t.val ∧ win0_0.index t 1 = 0) ∧ (win0_1.index t 0 = 0 ∧ win0_1.index t 1 = 0) ∧ (win0_2.index t 0 = t.val ∧ win0_2.index t 1 = 0) ∧ (win0_3.index t 0 = t.val ∧ win0_3.index t 1 = 0) ∧ (win0_4.index t 0 = t.val ∧ win0_4.index t 1 = 0) ∧ (win0_5.index t 0 = 0 ∧ win0_5.index t 1 = 0) :=
  (by decide +kernel : ∀ t : Fin grid0.N, _)

theorem iblk0 (t : Fin cfg0.N) (r : Fin 512) (j : Fin 1024) : iblk m c 0 t (ix2 r j) = a1 m c (ix2 (row t r) j) := by
  have hi := (idx_at t).1
  unfold iblk
  rw [View.read_apply]
  show V m c main_arg1 _ = m (c.tc.loc main_arg1) _
  unfold V
  congr 1
  funext a
  apply Fin.ext
  match a with
  | ⟨0, _⟩ => show win0_0.index t 0 * 512 + 1 * r.val = t.val * 512 + r.val; rw [hi.1]; omega
  | ⟨1, _⟩ => show win0_0.index t 1 * 1024 + 1 * j.val = j.val; rw [hi.2]; omega

theorem iblk1 (t : Fin cfg0.N) (r : Fin 1) (j : Fin 1024) : iblk m c 1 t (ix2 r j) = a3 m c (ix2 r j) := by
  have hi := (idx_at t).2.1
  unfold iblk
  rw [View.read_apply]
  show V m c main_arg3 _ = m (c.tc.loc main_arg3) _
  unfold V
  congr 1
  funext a
  apply Fin.ext
  match a with
  | ⟨0, _⟩ => show win0_1.index t 0 * 1 + 1 * r.val = r.val; rw [hi.1]; omega
  | ⟨1, _⟩ => show win0_1.index t 1 * 1024 + 1 * j.val = j.val; rw [hi.2]; omega

theorem iblk2 (t : Fin cfg0.N) (r : Fin 512) (j : Fin 1024) : iblk m c 2 t (ix2 r j) = a0 m c (ix2 (row t r) j) := by
  have hi := (idx_at t).2.2.1
  unfold iblk
  rw [View.read_apply]
  show V m c main_arg0 _ = m (c.tc.loc main_arg0) _
  unfold V
  congr 1
  funext a
  apply Fin.ext
  match a with
  | ⟨0, _⟩ => show win0_2.index t 0 * 512 + 1 * r.val = t.val * 512 + r.val; rw [hi.1]; omega
  | ⟨1, _⟩ => show win0_2.index t 1 * 1024 + 1 * j.val = j.val; rw [hi.2]; omega

theorem iblk3 (t : Fin cfg0.N) (r : Fin 512) (j : Fin 1024) : iblk m c 3 t (ix2 r j) = a2 m c (ix2 (row t r) j) := by
  have hi := (idx_at t).2.2.2.1
  unfold iblk
  rw [View.read_apply]
  show V m c main_arg2 _ = m (c.tc.loc main_arg2) _
  unfold V
  congr 1
  funext a
  apply Fin.ext
  match a with
  | ⟨0, _⟩ => show win0_3.index t 0 * 512 + 1 * r.val = t.val * 512 + r.val; rw [hi.1]; omega
  | ⟨1, _⟩ => show win0_3.index t 1 * 1024 + 1 * j.val = j.val; rw [hi.2]; omega

/-- A point leaves its rows of the gradient. -/
theorem outs_row (t : Fin cfg0.N) : (outsAt0 m c t.val t.isLt).1 = k0_pay7 (iblk m c 0 t) (iblk m c 1 t) (iblk m c 2 t) (iblk m c 3 t) := by
  by_cases h0 : t.val % 8 = 0
  · rw [outsAt0_A m c t h0, row_A]
  · rw [outsAt0_B m c t h0, row_B]

/-- A point's rows of the gradient are the reference's rows. -/
theorem row_iblk (t : Fin cfg0.N) (r : Fin 512) (j : Fin 1024) :
    (k0_pay7 (iblk m c 0 t) (iblk m c 1 t) (iblk m c 2 t) (iblk m c 3 t)) (ix2 r j) = val_main_v36 (F := Ideal) (a0 m c) (a1 m c) (a2 m c) (a3 m c) (ix2 (row t r) j) :=
  tile_dx (row t) _ _ _ _ _ _ _ _ (iblk0 m c t) (iblk1 m c t) (iblk2 m c t) (iblk3 m c t) r j

/-- A point's addend to the parameter row sums over the rows of its tile. -/
theorem col_iblk (t : Fin cfg0.N) (j : Fin 1024) :
    (k0_pay6 (iblk m c 0 t) (iblk m c 2 t)) (ix2 0 j) = ∑ r : Fin 512, a1 m c (ix2 (row t r) j) * val_main_v7 (F := Ideal) (a1 m c) (ix2 (row t r) 0) * a0 m c (ix2 (row t r) j) :=
  tile_dg (row t) _ _ _ _ (iblk0 m c t) (iblk2 m c t) j

/-- The first point leaves its addend. -/
theorem outs_first (t : Fin cfg0.N) (h0 : t.val % 8 = 0) (i : S1x1024.Idx) :
    (outsAt0 m c t.val t.isLt).2 i = (k0_pay6 (iblk m c 0 t) (iblk m c 2 t)) i := by
  rw [outsAt0_A m c t h0, col_A]
  dsimp only
  rw [addf_apply]
  simp only [broadcast, Ideal.addf_def, Ideal.ofBits_def, Ideal.ofBits_zero_f32, zero_add]

/-- A later point adds its addend to what the point before left. -/
theorem outs_succ (n : ℕ) (h : n + 1 < cfg0.N) (i : S1x1024.Idx) :
    (outsAt0 m c (n + 1) h).2 i = (outsAt0 m c n (by omega)).2 i + (k0_pay6 (iblk m c 0 ⟨n + 1, h⟩) (iblk m c 2 ⟨n + 1, h⟩)) i := by
  have hN : cfg0.N = 8 := N_0
  have hB : ¬(⟨n + 1, h⟩ : Fin cfg0.N).val % 8 = 0 := by dsimp only; omega
  have e := outsAt0_B m c ⟨n + 1, h⟩ hB
  rw [row_B, col_B] at e
  exact congrFun (congrArg (fun p => p.2) e) i

/-- After the last point the parameter row's buffer holds the whole sum. -/
theorem outs_last (h : 7 < cfg0.N) : (outsAt0 m c 7 h).2 = val_main_v18 (F := Ideal) (a0 m c) (a1 m c) := by
  have hN : cfg0.N = 8 := N_0
  funext i
  obtain ⟨r, j, rfl⟩ : ∃ r j, i = ix2 r j := ⟨i 0, i 1, by idx_vars i⟩
  obtain rfl : r = 0 := Fin.ext (by have := r.isLt; omega)
  rw [dg_eq]
  refine Cert.Att.chain_sum (N := 4096) (B := 512) rfl
    (fun x => a1 m c (ix2 x j) * val_main_v7 (F := Ideal) (a1 m c) (ix2 x 0) * a0 m c (ix2 x j)) (fun n h => (outsAt0 m c n (by omega)).2 (ix2 0 j)) ?_ ?_
  · refine (outs_first m c ⟨0, by omega⟩ (Nat.zero_mod 8) _).trans ?_
    rw [col_iblk]
    exact Finset.sum_congr rfl fun x _ => by simp only [row, zero_mul, zero_add]
  · intro n h
    rw [outs_succ m c n, col_iblk]
    rfl

/-- The gradient's array after the run. -/
theorem final_4 : (dats m 0 c).arrAt 4 cfg0.N = val_main_v36 (F := Ideal) (a0 m c) (a1 m c) (a2 m c) (a3 m c) := by
  have hN : cfg0.N = 8 := N_0
  refine (dats m 0 c).arrAt_eq_of_cover 4 _ (fun t _ => ?_) fun i => ?_
  · have hi := (idx_at t).2.2.2.2.1
    rw [Cert.Kernel19Ideal.Value.flushed4, outs_row]
    funext j
    obtain ⟨r, x, rfl⟩ : ∃ r x, j = ix2 r x := ⟨j 0, j 1, by idx_vars j⟩
    rw [View.read_apply]
    refine (row_iblk m c t r x).trans ?_
    congr 1
    funext a
    apply Fin.ext
    match a with
    | ⟨0, _⟩ => show t.val * 512 + r.val = win0_4.index t 0 * 512 + 1 * r.val; rw [hi.1]; omega
    | ⟨1, _⟩ => show x.val = win0_4.index t 1 * 1024 + 1 * x.val; rw [hi.2]; omega
  · have h0 : (i 0 : Nat) < 4096 := (i 0).isLt
    have h1 : (i 1 : Nat) < 1024 := (i 1).isLt
    obtain ⟨t, ht⟩ : ∃ t : Fin cfg0.N, t.val = (i 0 : Nat) / 512 := ⟨⟨(i 0 : Nat) / 512, by omega⟩, rfl⟩
    refine ⟨t, flush0_4 _, ?_⟩
    have hi := (idx_at t).2.2.2.2.1
    show i ∈ ((View.whole main_v0_0).slice (win0_4.rect t)).set
    rw [View.set_slice_whole, Rect.mem_set_unit]
    intro a
    match a with
    | ⟨0, _⟩ => exact Cert.Tile.mem 512 (i 0) hi.1 (by omega)
    | ⟨1, _⟩ => exact Cert.Tile.mem 1024 (i 1) hi.2 (by omega)

/-- The point that writes the parameter row back is the last. -/
theorem last_eq (t : Fin cfg0.N) (h : t.val % 8 = 7) : t = t0_7 := by
  have hN : cfg0.N = 8 := N_0
  have := t.isLt
  exact Fin.ext (show t.val = 7 by omega)

/-- The parameter row's array after the run. -/
theorem final_5 : (dats m 0 c).arrAt 5 cfg0.N = val_main_v18 (F := Ideal) (a0 m c) (a1 m c) := by
  have hN : cfg0.N = 8 := N_0
  refine (dats m 0 c).arrAt_eq_of_cover 5 _ (fun t hf => ?_) fun i => ?_
  · obtain rfl := last_eq t ((flush0_5 t).mp hf)
    have hi := (idx_at t0_7).2.2.2.2.2
    rw [Cert.Kernel19Ideal.Value.flushed5, show (outsAt0 m c t0_7.val t0_7.isLt).2 = _ from outs_last m c _]
    funext j
    obtain ⟨r, x, rfl⟩ : ∃ r x, j = ix2 r x := ⟨j 0, j 1, by idx_vars j⟩
    rw [View.read_apply]
    show (val_main_v18 (F := Ideal) (a0 m c) (a1 m c)) (ix2 r x) = _
    congr 1
    funext a
    apply Fin.ext
    match a with
    | ⟨0, _⟩ => show r.val = win0_5.index t0_7 0 * 1 + 1 * r.val; rw [hi.1]; omega
    | ⟨1, _⟩ => show x.val = win0_5.index t0_7 1 * 1024 + 1 * x.val; rw [hi.2]; omega
  · have h0 : (i 0 : Nat) < 1 := (i 0).isLt
    have h1 : (i 1 : Nat) < 1024 := (i 1).isLt
    refine ⟨t0_7, (flush0_5 _).mpr rfl, ?_⟩
    have hi := (idx_at t0_7).2.2.2.2.2
    show i ∈ ((View.whole main_v0_1).slice (win0_5.rect t0_7)).set
    rw [View.set_slice_whole, Rect.mem_set_unit]
    intro a
    match a with
    | ⟨0, _⟩ => exact Cert.Tile.mem 1 (i 0) hi.1 (by omega)
    | ⟨1, _⟩ => exact Cert.Tile.mem 1024 (i 1) hi.2 (by omega)

/-- From memories that agree on the arguments, the kernel and the reference end with the same arrays. -/
theorem equal : Cert.algebraic_Kernel19Ideal_Reference19Ideal := by
  intro m g m' g' _ hargs
  refine ⟨fun c => val_main_v36 (F := Ideal) (a0 m c) (a1 m c) (a2 m c) (a3 m c), fun c => val_main_v18 (F := Ideal) (a0 m c) (a1 m c), ?_, ?_⟩
  · refine (θ_run _ _ _).mono (fun r h c => ?_) (Cert.Kernel19Ideal.Value.run_blocks (F := Ideal) m g)
    obtain ⟨h0, h1, h2⟩ := h c
    exact ⟨h0.trans (final_4 m c), h1.trans (final_5 m c), h2⟩
  · refine (θ_run _ _ _).mono (fun r h c => ?_) (Cert.Reference19Ideal.Value.run (F := Ideal) m' g')
    obtain ⟨e0, e1, e2, e3⟩ := hargs c
    obtain ⟨h0, h1, h2⟩ := h c
    rw [val_main_v36_eq, e0, e1, e2, e3] at h0
    rw [val_main_v18_eq, e0, e1] at h1
    exact ⟨h0, h1, h2⟩

end Cert.Call19

end
-- ==== Proof.Call20.lean ====
/- The optimiser on the recurrence’s convolution weight: the one-block call computes the reference’s four arrays. -/
module

public import proofs.«01_k».proof.Defs
public import proofs.«01_k».proof.Proof.Gen.Kernel20Ideal.Value
public import proofs.«01_k».proof.Proof.Gen.Reference20Ideal.Read
public import Idealize.ShloMosaic.Lib.Pointwise
public import Idealize.ShloMosaic.Lib.Tactic
public import Idealize.ShloMosaic.PureOps.Ideal.Laws
public import proofs.«01_k».proof.Proof.Tile

@[expose] public section

noncomputable section

namespace Cert.Call20

open Idealize.ShloMosaic Idealize.ShloMosaic.TcCoe Idealize.SL.Sem Cert.Kernel20Ideal Cert.Kernel20Ideal.Gen
open Cert.Reference20Ideal.Read

theorem hz : (![0, 0] : Fin 2 → Nat) = fun _ => 0 := funext fun a => by fin_cases a <;> rfl

theorem hz3 : (![0, 0, 0] : Fin 3 → Nat) = fun _ => 0 := funext fun a => by fin_cases a <;> rfl

/-- The one part of the gradient, read as a matrix. -/
theorem grad_eq (g : Vec Ideal S1x4x192 .f32) (a : FVec Ideal S4x192 .f32) (h : ∀ r j, g (ix3 0 r j) = a (ix2 r j))
    (r : Fin 4) (j : Fin 192) : k0_pay1 g (ix2 r j) = a (ix2 r j) := by
  pointwise [k0_pay1]
  exact h r j

/-- The first moment after the step. -/
theorem first_eq (g : Vec Ideal S1x4x192 .f32) (a u : FVec Ideal S4x192 .f32) (h : ∀ r j, g (ix3 0 r j) = a (ix2 r j))
    (r : Fin 4) (j : Fin 192) : k0_pay2 g u (ix2 r j) = val_main_v4 (F := Ideal) a u (ix2 r j) := by
  pointwise [k0_pay2, k0_pay1, val_main_cst, val_main_v0, val_main_v1, val_main_cst_0, val_main_v2, val_main_v3, val_main_v4]
  simp only [h]

/-- The second moment after the step. -/
theorem second_eq (g : Vec Ideal S1x4x192 .f32) (a v : FVec Ideal S4x192 .f32) (h : ∀ r j, g (ix3 0 r j) = a (ix2 r j))
    (r : Fin 4) (j : Fin 192) : k0_pay3 g v (ix2 r j) = val_main_v10 (F := Ideal) a v (ix2 r j) := by
  pointwise [k0_pay3, k0_pay1, val_main_cst_1, val_main_v5, val_main_v6, val_main_v7, val_main_cst_2, val_main_v8, val_main_v9, val_main_v10]
  simp only [h]

/-- The step taken by the weight. -/
theorem delta_eq (g : Vec Ideal S1x4x192 .f32) (a w u v : FVec Ideal S4x192 .f32) (h : ∀ r j, g (ix3 0 r j) = a (ix2 r j))
    (r : Fin 4) (j : Fin 192) : k0_pay4 g w u v (ix2 r j) = val_main_v23 (F := Ideal) a w u v (ix2 r j) := by
  have h4 := first_eq g a u h r j
  have h10 := second_eq g a v h r j
  unfold k0_pay4 val_main_v23 val_main_v21 val_main_v18 val_main_v12 val_main_v17 val_main_v15 val_main_v14
  generalize k0_pay2 g u = p at h4 ⊢
  generalize k0_pay3 g v = q at h10 ⊢
  generalize val_main_v4 (F := Ideal) a u = p' at h4 ⊢
  generalize val_main_v10 (F := Ideal) a v = q' at h10 ⊢
  pointwise [val_main_cst_3, val_main_v11, val_main_cst_4, val_main_v13, val_main_cst_5, val_main_v16, val_main_cst_6, val_main_v19, val_main_v20, val_main_cst_7, val_main_v22]
  rw [h4, h10]

variable (m : (ℓ : Loc nD τ sig) → Buf (Elt Ideal) ℓ) (c : Dev nD)

/-- The gradient at launch. -/
abbrev a0 : FVec Ideal S4x192 .f32 := m ((c : Thread nD τ).loc main_arg0)

/-- The weight at launch. -/
abbrev a1 : FVec Ideal S4x192 .f32 := m ((c : Thread nD τ).loc main_arg1)

/-- The first moment at launch. -/
abbrev a2 : FVec Ideal S4x192 .f32 := m ((c : Thread nD τ).loc main_arg2)

/-- The second moment at launch. -/
abbrev a3 : FVec Ideal S4x192 .f32 := m ((c : Thread nD τ).loc main_arg3)

/-- The array the host hands over holds the gradient. -/
theorem host_grad (r : Fin 4) (j : Fin 192) : V m c main_v0 (ix3 0 r j) = a0 m c (ix2 r j) := by
  have h : V m c main_v0 = broadcastInDim S1x4x192 ![1, 2] bcast_S4x192_S1x4x192_1_2 (a0 m c) := by
    simp only [V, List.flatten_cons, List.flatten_nil, List.append_nil, List.cons_append, List.nil_append]
    after_results
  rw [h]
  pointwise []

/-- Each window's block is its array. -/
theorem idx_at : ∀ t : Fin cfg0.N, (win0_0.index t 0 = 0 ∧ win0_0.index t 1 = 0 ∧ win0_0.index t 2 = 0)  ∧ (win0_1.index t 0 = 0 ∧ win0_1.index t 1 = 0) ∧ (win0_2.index t 0 = 0 ∧ win0_2.index t 1 = 0) ∧ (win0_3.index t 0 = 0 ∧ win0_3.index t 1 = 0) ∧ (win0_4.index t 0 = 0 ∧ win0_4.index t 1 = 0) ∧ (win0_5.index t 0 = 0 ∧ win0_5.index t 1 = 0) ∧ (win0_6.index t 0 = 0 ∧ win0_6.index t 1 = 0) ∧ (win0_7.index t 0 = 0 ∧ win0_7.index t 1 = 0) :=
  (by decide +kernel : ∀ t : Fin grid0.N, _)

theorem iblk0 (t : Fin cfg0.N) (r : Fin 4) (j : Fin 192) : iblk m c 0 t (ix3 0 r j) = a0 m c (ix2 r j) := by
  have hi := (idx_at t).1
  rw [← host_grad]
  unfold iblk
  rw [View.read_apply]
  show V m c main_v0 _ = V m c main_v0 _
  congr 1
  funext a
  apply Fin.ext
  match a with
  | ⟨0, _⟩ => show win0_0.index t 0 * 1 + 1 * 0 = 0; rw [hi.1]
  | ⟨1, _⟩ => show win0_0.index t 1 * 4 + 1 * r.val = r.val; rw [hi.2.1]; omega
  | ⟨2, _⟩ => show win0_0.index t 2 * 192 + 1 * j.val = j.val; rw [hi.2.2]; omega

theorem iblk1 (t : Fin cfg0.N) : iblk m c 1 t = a1 m c := by
  have hi := (idx_at t).2.1
  funext i
  unfold iblk
  rw [View.read_apply]
  show V m c main_arg1 _ = m (c.tc.loc main_arg1) _
  rw [V_main_arg1]
  congr 1
  funext a
  apply Fin.ext
  match a with
  | ⟨0, _⟩ => show win0_1.index t 0 * 4 + 1 * (i 0).val = (i 0).val; rw [hi.1]; omega
  | ⟨1, _⟩ => show win0_1.index t 1 * 192 + 1 * (i 1).val = (i 1).val; rw [hi.2]; omega

theorem iblk2 (t : Fin cfg0.N) : iblk m c 2 t = a2 m c := by
  have hi := (idx_at t).2.2.1
  funext i
  unfold iblk
  rw [View.read_apply]
  show V m c main_arg2 _ = m (c.tc.loc main_arg2) _
  rw [V_main_arg2]
  congr 1
  funext a
  apply Fin.ext
  match a with
  | ⟨0, _⟩ => show win0_2.index t 0 * 4 + 1 * (i 0).val = (i 0).val; rw [hi.1]; omega
  | ⟨1, _⟩ => show win0_2.index t 1 * 192 + 1 * (i 1).val = (i 1).val; rw [hi.2]; omega

theorem iblk3 (t : Fin cfg0.N) : iblk m c 3 t = a3 m c := by
  have hi := (idx_at t).2.2.2.1
  funext i
  unfold iblk
  rw [View.read_apply]
  show V m c main_arg3 _ = m (c.tc.loc main_arg3) _
  rw [V_main_arg3]
  congr 1
  funext a
  apply Fin.ext
  match a with
  | ⟨0, _⟩ => show win0_3.index t 0 * 4 + 1 * (i 0).val = (i 0).val; rw [hi.1]; omega
  | ⟨1, _⟩ => show win0_3.index t 1 * 192 + 1 * (i 1).val = (i 1).val; rw [hi.2]; omega

/-- What the one point leaves in this window. -/
theorem point_4 (t : Fin cfg0.N) (r : Fin 4) (j : Fin 192) :
    out0_4 (iblk m c 0 t) (iblk m c 1 t) (iblk m c 2 t) (iblk m c 3 t) (ix2 r j) = (a0 m c) (ix2 r j) := by
  unfold out0_4
  rw [View.canon_unit_zero hz]
  simp only [View.ld_unit_zero (S := S1x4x192) hz3, View.ld_unit_zero (S := S4x192) hz]
  exact grad_eq _ (a0 m c) (iblk0 m c t) r j

/-- The array this window ends with. -/
theorem final_4 : (dats m 0 c).arrAt 4 cfg0.N = a0 m c := by
  refine (dats m 0 c).arrAt_eq_of_cover 4 _ (fun t _ => ?_) fun i => ?_
  · have hi := (idx_at t).2.2.2.2.1
    rw [Cert.Kernel20Ideal.Value.flushed4]
    funext j
    obtain ⟨r, x, rfl⟩ : ∃ r x, j = ix2 r x := ⟨j 0, j 1, by idx_vars j⟩
    rw [View.read_apply]
    refine (point_4 m c t r x).trans ?_
    congr 1
    funext a
    apply Fin.ext
    match a with
    | ⟨0, _⟩ => show r.val = win0_4.index t 0 * 4 + 1 * r.val; rw [hi.1]; omega
    | ⟨1, _⟩ => show x.val = win0_4.index t 1 * 192 + 1 * x.val; rw [hi.2]; omega
  · have h0 : (i 0 : Nat) < 4 := (i 0).isLt
    have h1 : (i 1 : Nat) < 192 := (i 1).isLt
    have ht : 0 < cfg0.N := by decide
    refine ⟨⟨0, ht⟩, flush0_4 _, ?_⟩
    have hi := (idx_at ⟨0, ht⟩).2.2.2.2.1
    show i ∈ ((View.whole main_v1_0).slice (win0_4.rect ⟨0, ht⟩)).set
    rw [View.set_slice_whole, Rect.mem_set_unit]
    intro a
    match a with
    | ⟨0, _⟩ => exact Cert.Tile.mem 4 (i 0) hi.1 (by omega)
    | ⟨1, _⟩ => exact Cert.Tile.mem 192 (i 1) hi.2 (by omega)

/-- What the one point leaves in this window. -/
theorem point_5 (t : Fin cfg0.N) (r : Fin 4) (j : Fin 192) :
    out0_5 (iblk m c 0 t) (iblk m c 1 t) (iblk m c 2 t) (iblk m c 3 t) (ix2 r j) = val_main_v23 (F := Ideal) (a0 m c) (a1 m c) (a2 m c) (a3 m c) (ix2 r j) := by
  unfold out0_5
  rw [View.canon_unit_zero hz, iblk1, iblk2, iblk3]
  simp only [View.ld_unit_zero (S := S1x4x192) hz3, View.ld_unit_zero (S := S4x192) hz]
  exact delta_eq _ (a0 m c) (a1 m c) (a2 m c) (a3 m c) (iblk0 m c t) r j

/-- The array this window ends with. -/
theorem final_5 : (dats m 0 c).arrAt 5 cfg0.N = val_main_v23 (F := Ideal) (a0 m c) (a1 m c) (a2 m c) (a3 m c) := by
  refine (dats m 0 c).arrAt_eq_of_cover 5 _ (fun t _ => ?_) fun i => ?_
  · have hi := (idx_at t).2.2.2.2.2.1
    rw [Cert.Kernel20Ideal.Value.flushed5]
    funext j
    obtain ⟨r, x, rfl⟩ : ∃ r x, j = ix2 r x := ⟨j 0, j 1, by idx_vars j⟩
    rw [View.read_apply]
    refine (point_5 m c t r x).trans ?_
    congr 1
    funext a
    apply Fin.ext
    match a with
    | ⟨0, _⟩ => show r.val = win0_5.index t 0 * 4 + 1 * r.val; rw [hi.1]; omega
    | ⟨1, _⟩ => show x.val = win0_5.index t 1 * 192 + 1 * x.val; rw [hi.2]; omega
  · have h0 : (i 0 : Nat) < 4 := (i 0).isLt
    have h1 : (i 1 : Nat) < 192 := (i 1).isLt
    have ht : 0 < cfg0.N := by decide
    refine ⟨⟨0, ht⟩, flush0_5 _, ?_⟩
    have hi := (idx_at ⟨0, ht⟩).2.2.2.2.2.1
    show i ∈ ((View.whole main_v1_1).slice (win0_5.rect ⟨0, ht⟩)).set
    rw [View.set_slice_whole, Rect.mem_set_unit]
    intro a
    match a with
    | ⟨0, _⟩ => exact Cert.Tile.mem 4 (i 0) hi.1 (by omega)
    | ⟨1, _⟩ => exact Cert.Tile.mem 192 (i 1) hi.2 (by omega)

/-- What the one point leaves in this window. -/
theorem point_6 (t : Fin cfg0.N) (r : Fin 4) (j : Fin 192) :
    out0_6 (iblk m c 0 t) (iblk m c 1 t) (iblk m c 2 t) (iblk m c 3 t) (ix2 r j) = val_main_v4 (F := Ideal) (a0 m c) (a2 m c) (ix2 r j) := by
  unfold out0_6
  rw [View.canon_unit_zero hz, iblk2]
  simp only [View.ld_unit_zero (S := S1x4x192) hz3, View.ld_unit_zero (S := S4x192) hz]
  exact first_eq _ (a0 m c) (a2 m c) (iblk0 m c t) r j

/-- The array this window ends with. -/
theorem final_6 : (dats m 0 c).arrAt 6 cfg0.N = val_main_v4 (F := Ideal) (a0 m c) (a2 m c) := by
  refine (dats m 0 c).arrAt_eq_of_cover 6 _ (fun t _ => ?_) fun i => ?_
  · have hi := (idx_at t).2.2.2.2.2.2.1
    rw [Cert.Kernel20Ideal.Value.flushed6]
    funext j
    obtain ⟨r, x, rfl⟩ : ∃ r x, j = ix2 r x := ⟨j 0, j 1, by idx_vars j⟩
    rw [View.read_apply]
    refine (point_6 m c t r x).trans ?_
    congr 1
    funext a
    apply Fin.ext
    match a with
    | ⟨0, _⟩ => show r.val = win0_6.index t 0 * 4 + 1 * r.val; rw [hi.1]; omega
    | ⟨1, _⟩ => show x.val = win0_6.index t 1 * 192 + 1 * x.val; rw [hi.2]; omega
  · have h0 : (i 0 : Nat) < 4 := (i 0).isLt
    have h1 : (i 1 : Nat) < 192 := (i 1).isLt
    have ht : 0 < cfg0.N := by decide
    refine ⟨⟨0, ht⟩, flush0_6 _, ?_⟩
    have hi := (idx_at ⟨0, ht⟩).2.2.2.2.2.2.1
    show i ∈ ((View.whole main_v1_2).slice (win0_6.rect ⟨0, ht⟩)).set
    rw [View.set_slice_whole, Rect.mem_set_unit]
    intro a
    match a with
    | ⟨0, _⟩ => exact Cert.Tile.mem 4 (i 0) hi.1 (by omega)
    | ⟨1, _⟩ => exact Cert.Tile.mem 192 (i 1) hi.2 (by omega)

/-- What the one point leaves in this window. -/
theorem point_7 (t : Fin cfg0.N) (r : Fin 4) (j : Fin 192) :
    out0_7 (iblk m c 0 t) (iblk m c 1 t) (iblk m c 2 t) (iblk m c 3 t) (ix2 r j) = val_main_v10 (F := Ideal) (a0 m c) (a3 m c) (ix2 r j) := by
  unfold out0_7
  rw [View.canon_unit_zero hz, iblk3]
  simp only [View.ld_unit_zero (S := S1x4x192) hz3, View.ld_unit_zero (S := S4x192) hz]
  exact second_eq _ (a0 m c) (a3 m c) (iblk0 m c t) r j

/-- The array this window ends with. -/
theorem final_7 : (dats m 0 c).arrAt 7 cfg0.N = val_main_v10 (F := Ideal) (a0 m c) (a3 m c) := by
  refine (dats m 0 c).arrAt_eq_of_cover 7 _ (fun t _ => ?_) fun i => ?_
  · have hi := (idx_at t).2.2.2.2.2.2.2
    rw [Cert.Kernel20Ideal.Value.flushed7]
    funext j
    obtain ⟨r, x, rfl⟩ : ∃ r x, j = ix2 r x := ⟨j 0, j 1, by idx_vars j⟩
    rw [View.read_apply]
    refine (point_7 m c t r x).trans ?_
    congr 1
    funext a
    apply Fin.ext
    match a with
    | ⟨0, _⟩ => show r.val = win0_7.index t 0 * 4 + 1 * r.val; rw [hi.1]; omega
    | ⟨1, _⟩ => show x.val = win0_7.index t 1 * 192 + 1 * x.val; rw [hi.2]; omega
  · have h0 : (i 0 : Nat) < 4 := (i 0).isLt
    have h1 : (i 1 : Nat) < 192 := (i 1).isLt
    have ht : 0 < cfg0.N := by decide
    refine ⟨⟨0, ht⟩, flush0_7 _, ?_⟩
    have hi := (idx_at ⟨0, ht⟩).2.2.2.2.2.2.2
    show i ∈ ((View.whole main_v1_3).slice (win0_7.rect ⟨0, ht⟩)).set
    rw [View.set_slice_whole, Rect.mem_set_unit]
    intro a
    match a with
    | ⟨0, _⟩ => exact Cert.Tile.mem 4 (i 0) hi.1 (by omega)
    | ⟨1, _⟩ => exact Cert.Tile.mem 192 (i 1) hi.2 (by omega)

/-- From memories that agree on the arguments, the kernel and the reference end with the same arrays. -/
theorem equal : Cert.algebraic_Kernel20Ideal_Reference20Ideal := by
  intro m g m' g' _ hargs
  refine ⟨fun c => a0 m c, fun c => val_main_v23 (F := Ideal) (a0 m c) (a1 m c) (a2 m c) (a3 m c), fun c => val_main_v4 (F := Ideal) (a0 m c) (a2 m c), fun c => val_main_v10 (F := Ideal) (a0 m c) (a3 m c), ?_, ?_⟩
  · refine (θ_run _ _ _).mono (fun r h c => ?_) (Cert.Kernel20Ideal.Value.run_blocks (F := Ideal) m g)
    obtain ⟨h0, h1, h2, h3, h4⟩ := h c
    exact ⟨h0.trans (final_4 m c), h1.trans (final_5 m c), h2.trans (final_6 m c), h3.trans (final_7 m c), h4⟩
  · refine (θ_run _ _ _).mono (fun r h c => ?_) (Cert.Reference20Ideal.Value.run (F := Ideal) m' g')
    obtain ⟨e0, e1, e2, e3⟩ := hargs c
    obtain ⟨h0, h1, h2, h3, h4⟩ := h c
    rw [e0] at h0
    rw [val_main_v23_eq, e0, e1, e2, e3] at h1
    rw [val_main_v4_eq, e0, e2] at h2
    rw [val_main_v10_eq, e0, e3] at h3
    exact ⟨h0, h1, h2, h3, h4⟩

end Cert.Call20

end
-- ==== Proof.Call21.lean ====
/- The optimiser on the local convolution’s weight: the one-block call computes the reference’s four arrays. -/
module

public import proofs.«01_k».proof.Defs
public import proofs.«01_k».proof.Proof.Gen.Kernel21Ideal.Value
public import proofs.«01_k».proof.Proof.Gen.Reference21Ideal.Read
public import Idealize.ShloMosaic.Lib.Pointwise
public import Idealize.ShloMosaic.Lib.Tactic
public import Idealize.ShloMosaic.PureOps.Ideal.Laws
public import proofs.«01_k».proof.Proof.Tile

@[expose] public section

noncomputable section

namespace Cert.Call21

open Idealize.ShloMosaic Idealize.ShloMosaic.TcCoe Idealize.SL.Sem Cert.Kernel21Ideal Cert.Kernel21Ideal.Gen
open Cert.Reference21Ideal.Read

theorem hz : (![0, 0] : Fin 2 → Nat) = fun _ => 0 := funext fun a => by fin_cases a <;> rfl

theorem hz3 : (![0, 0, 0] : Fin 3 → Nat) = fun _ => 0 := funext fun a => by fin_cases a <;> rfl

/-- The one part of the gradient, read as a matrix. -/
theorem grad_eq (g : Vec Ideal S1x31x128 .f32) (a : FVec Ideal S31x128 .f32) (h : ∀ r j, g (ix3 0 r j) = a (ix2 r j))
    (r : Fin 31) (j : Fin 128) : k0_pay1 g (ix2 r j) = a (ix2 r j) := by
  pointwise [k0_pay1]
  exact h r j

/-- The first moment after the step. -/
theorem first_eq (g : Vec Ideal S1x31x128 .f32) (a u : FVec Ideal S31x128 .f32) (h : ∀ r j, g (ix3 0 r j) = a (ix2 r j))
    (r : Fin 31) (j : Fin 128) : k0_pay2 g u (ix2 r j) = val_main_v4 (F := Ideal) a u (ix2 r j) := by
  pointwise [k0_pay2, k0_pay1, val_main_cst, val_main_v0, val_main_v1, val_main_cst_0, val_main_v2, val_main_v3, val_main_v4]
  simp only [h]

/-- The second moment after the step. -/
theorem second_eq (g : Vec Ideal S1x31x128 .f32) (a v : FVec Ideal S31x128 .f32) (h : ∀ r j, g (ix3 0 r j) = a (ix2 r j))
    (r : Fin 31) (j : Fin 128) : k0_pay3 g v (ix2 r j) = val_main_v10 (F := Ideal) a v (ix2 r j) := by
  pointwise [k0_pay3, k0_pay1, val_main_cst_1, val_main_v5, val_main_v6, val_main_v7, val_main_cst_2, val_main_v8, val_main_v9, val_main_v10]
  simp only [h]

/-- The step taken by the weight. -/
theorem delta_eq (g : Vec Ideal S1x31x128 .f32) (a w u v : FVec Ideal S31x128 .f32) (h : ∀ r j, g (ix3 0 r j) = a (ix2 r j))
    (r : Fin 31) (j : Fin 128) : k0_pay4 g w u v (ix2 r j) = val_main_v23 (F := Ideal) a w u v (ix2 r j) := by
  have h4 := first_eq g a u h r j
  have h10 := second_eq g a v h r j
  unfold k0_pay4 val_main_v23 val_main_v21 val_main_v18 val_main_v12 val_main_v17 val_main_v15 val_main_v14
  generalize k0_pay2 g u = p at h4 ⊢
  generalize k0_pay3 g v = q at h10 ⊢
  generalize val_main_v4 (F := Ideal) a u = p' at h4 ⊢
  generalize val_main_v10 (F := Ideal) a v = q' at h10 ⊢
  pointwise [val_main_cst_3, val_main_v11, val_main_cst_4, val_main_v13, val_main_cst_5, val_main_v16, val_main_cst_6, val_main_v19, val_main_v20, val_main_cst_7, val_main_v22]
  rw [h4, h10]

variable (m : (ℓ : Loc nD τ sig) → Buf (Elt Ideal) ℓ) (c : Dev nD)

/-- The gradient at launch. -/
abbrev a0 : FVec Ideal S31x128 .f32 := m ((c : Thread nD τ).loc main_arg0)

/-- The weight at launch. -/
abbrev a1 : FVec Ideal S31x128 .f32 := m ((c : Thread nD τ).loc main_arg1)

/-- The first moment at launch. -/
abbrev a2 : FVec Ideal S31x128 .f32 := m ((c : Thread nD τ).loc main_arg2)

/-- The second moment at launch. -/
abbrev a3 : FVec Ideal S31x128 .f32 := m ((c : Thread nD τ).loc main_arg3)

/-- The array the host hands over holds the gradient. -/
theorem host_grad (r : Fin 31) (j : Fin 128) : V m c main_v0 (ix3 0 r j) = a0 m c (ix2 r j) := by
  have h : V m c main_v0 = broadcastInDim S1x31x128 ![1, 2] bcast_S31x128_S1x31x128_1_2 (a0 m c) := by
    simp only [V, List.flatten_cons, List.flatten_nil, List.append_nil, List.cons_append, List.nil_append]
    after_results
  rw [h]
  pointwise []

/-- Each window's block is its array. -/
theorem idx_at : ∀ t : Fin cfg0.N, (win0_0.index t 0 = 0 ∧ win0_0.index t 1 = 0 ∧ win0_0.index t 2 = 0)  ∧ (win0_1.index t 0 = 0 ∧ win0_1.index t 1 = 0) ∧ (win0_2.index t 0 = 0 ∧ win0_2.index t 1 = 0) ∧ (win0_3.index t 0 = 0 ∧ win0_3.index t 1 = 0) ∧ (win0_4.index t 0 = 0 ∧ win0_4.index t 1 = 0) ∧ (win0_5.index t 0 = 0 ∧ win0_5.index t 1 = 0) ∧ (win0_6.index t 0 = 0 ∧ win0_6.index t 1 = 0) ∧ (win0_7.index t 0 = 0 ∧ win0_7.index t 1 = 0) :=
  (by decide +kernel : ∀ t : Fin grid0.N, _)

theorem iblk0 (t : Fin cfg0.N) (r : Fin 31) (j : Fin 128) : iblk m c 0 t (ix3 0 r j) = a0 m c (ix2 r j) := by
  have hi := (idx_at t).1
  rw [← host_grad]
  unfold iblk
  rw [View.read_apply]
  show V m c main_v0 _ = V m c main_v0 _
  congr 1
  funext a
  apply Fin.ext
  match a with
  | ⟨0, _⟩ => show win0_0.index t 0 * 1 + 1 * 0 = 0; rw [hi.1]
  | ⟨1, _⟩ => show win0_0.index t 1 * 31 + 1 * r.val = r.val; rw [hi.2.1]; omega
  | ⟨2, _⟩ => show win0_0.index t 2 * 128 + 1 * j.val = j.val; rw [hi.2.2]; omega

theorem iblk1 (t : Fin cfg0.N) : iblk m c 1 t = a1 m c := by
  have hi := (idx_at t).2.1
  funext i
  unfold iblk
  rw [View.read_apply]
  show V m c main_arg1 _ = m (c.tc.loc main_arg1) _
  rw [V_main_arg1]
  congr 1
  funext a
  apply Fin.ext
  match a with
  | ⟨0, _⟩ => show win0_1.index t 0 * 31 + 1 * (i 0).val = (i 0).val; rw [hi.1]; omega
  | ⟨1, _⟩ => show win0_1.index t 1 * 128 + 1 * (i 1).val = (i 1).val; rw [hi.2]; omega

theorem iblk2 (t : Fin cfg0.N) : iblk m c 2 t = a2 m c := by
  have hi := (idx_at t).2.2.1
  funext i
  unfold iblk
  rw [View.read_apply]
  show V m c main_arg2 _ = m (c.tc.loc main_arg2) _
  rw [V_main_arg2]
  congr 1
  funext a
  apply Fin.ext
  match a with
  | ⟨0, _⟩ => show win0_2.index t 0 * 31 + 1 * (i 0).val = (i 0).val; rw [hi.1]; omega
  | ⟨1, _⟩ => show win0_2.index t 1 * 128 + 1 * (i 1).val = (i 1).val; rw [hi.2]; omega

theorem iblk3 (t : Fin cfg0.N) : iblk m c 3 t = a3 m c := by
  have hi := (idx_at t).2.2.2.1
  funext i
  unfold iblk
  rw [View.read_apply]
  show V m c main_arg3 _ = m (c.tc.loc main_arg3) _
  rw [V_main_arg3]
  congr 1
  funext a
  apply Fin.ext
  match a with
  | ⟨0, _⟩ => show win0_3.index t 0 * 31 + 1 * (i 0).val = (i 0).val; rw [hi.1]; omega
  | ⟨1, _⟩ => show win0_3.index t 1 * 128 + 1 * (i 1).val = (i 1).val; rw [hi.2]; omega

/-- What the one point leaves in this window. -/
theorem point_4 (t : Fin cfg0.N) (r : Fin 31) (j : Fin 128) :
    out0_4 (iblk m c 0 t) (iblk m c 1 t) (iblk m c 2 t) (iblk m c 3 t) (ix2 r j) = (a0 m c) (ix2 r j) := by
  unfold out0_4
  rw [View.canon_unit_zero hz]
  simp only [View.ld_unit_zero (S := S1x31x128) hz3, View.ld_unit_zero (S := S31x128) hz]
  exact grad_eq _ (a0 m c) (iblk0 m c t) r j

/-- The array this window ends with. -/
theorem final_4 : (dats m 0 c).arrAt 4 cfg0.N = a0 m c := by
  refine (dats m 0 c).arrAt_eq_of_cover 4 _ (fun t _ => ?_) fun i => ?_
  · have hi := (idx_at t).2.2.2.2.1
    rw [Cert.Kernel21Ideal.Value.flushed4]
    funext j
    obtain ⟨r, x, rfl⟩ : ∃ r x, j = ix2 r x := ⟨j 0, j 1, by idx_vars j⟩
    rw [View.read_apply]
    refine (point_4 m c t r x).trans ?_
    congr 1
    funext a
    apply Fin.ext
    match a with
    | ⟨0, _⟩ => show r.val = win0_4.index t 0 * 31 + 1 * r.val; rw [hi.1]; omega
    | ⟨1, _⟩ => show x.val = win0_4.index t 1 * 128 + 1 * x.val; rw [hi.2]; omega
  · have h0 : (i 0 : Nat) < 31 := (i 0).isLt
    have h1 : (i 1 : Nat) < 128 := (i 1).isLt
    have ht : 0 < cfg0.N := by decide
    refine ⟨⟨0, ht⟩, flush0_4 _, ?_⟩
    have hi := (idx_at ⟨0, ht⟩).2.2.2.2.1
    show i ∈ ((View.whole main_v1_0).slice (win0_4.rect ⟨0, ht⟩)).set
    rw [View.set_slice_whole, Rect.mem_set_unit]
    intro a
    match a with
    | ⟨0, _⟩ => exact Cert.Tile.mem 31 (i 0) hi.1 (by omega)
    | ⟨1, _⟩ => exact Cert.Tile.mem 128 (i 1) hi.2 (by omega)

/-- What the one point leaves in this window. -/
theorem point_5 (t : Fin cfg0.N) (r : Fin 31) (j : Fin 128) :
    out0_5 (iblk m c 0 t) (iblk m c 1 t) (iblk m c 2 t) (iblk m c 3 t) (ix2 r j) = val_main_v23 (F := Ideal) (a0 m c) (a1 m c) (a2 m c) (a3 m c) (ix2 r j) := by
  unfold out0_5
  rw [View.canon_unit_zero hz, iblk1, iblk2, iblk3]
  simp only [View.ld_unit_zero (S := S1x31x128) hz3, View.ld_unit_zero (S := S31x128) hz]
  exact delta_eq _ (a0 m c) (a1 m c) (a2 m c) (a3 m c) (iblk0 m c t) r j

/-- The array this window ends with. -/
theorem final_5 : (dats m 0 c).arrAt 5 cfg0.N = val_main_v23 (F := Ideal) (a0 m c) (a1 m c) (a2 m c) (a3 m c) := by
  refine (dats m 0 c).arrAt_eq_of_cover 5 _ (fun t _ => ?_) fun i => ?_
  · have hi := (idx_at t).2.2.2.2.2.1
    rw [Cert.Kernel21Ideal.Value.flushed5]
    funext j
    obtain ⟨r, x, rfl⟩ : ∃ r x, j = ix2 r x := ⟨j 0, j 1, by idx_vars j⟩
    rw [View.read_apply]
    refine (point_5 m c t r x).trans ?_
    congr 1
    funext a
    apply Fin.ext
    match a with
    | ⟨0, _⟩ => show r.val = win0_5.index t 0 * 31 + 1 * r.val; rw [hi.1]; omega
    | ⟨1, _⟩ => show x.val = win0_5.index t 1 * 128 + 1 * x.val; rw [hi.2]; omega
  · have h0 : (i 0 : Nat) < 31 := (i 0).isLt
    have h1 : (i 1 : Nat) < 128 := (i 1).isLt
    have ht : 0 < cfg0.N := by decide
    refine ⟨⟨0, ht⟩, flush0_5 _, ?_⟩
    have hi := (idx_at ⟨0, ht⟩).2.2.2.2.2.1
    show i ∈ ((View.whole main_v1_1).slice (win0_5.rect ⟨0, ht⟩)).set
    rw [View.set_slice_whole, Rect.mem_set_unit]
    intro a
    match a with
    | ⟨0, _⟩ => exact Cert.Tile.mem 31 (i 0) hi.1 (by omega)
    | ⟨1, _⟩ => exact Cert.Tile.mem 128 (i 1) hi.2 (by omega)

/-- What the one point leaves in this window. -/
theorem point_6 (t : Fin cfg0.N) (r : Fin 31) (j : Fin 128) :
    out0_6 (iblk m c 0 t) (iblk m c 1 t) (iblk m c 2 t) (iblk m c 3 t) (ix2 r j) = val_main_v4 (F := Ideal) (a0 m c) (a2 m c) (ix2 r j) := by
  unfold out0_6
  rw [View.canon_unit_zero hz, iblk2]
  simp only [View.ld_unit_zero (S := S1x31x128) hz3, View.ld_unit_zero (S := S31x128) hz]
  exact first_eq _ (a0 m c) (a2 m c) (iblk0 m c t) r j

/-- The array this window ends with. -/
theorem final_6 : (dats m 0 c).arrAt 6 cfg0.N = val_main_v4 (F := Ideal) (a0 m c) (a2 m c) := by
  refine (dats m 0 c).arrAt_eq_of_cover 6 _ (fun t _ => ?_) fun i => ?_
  · have hi := (idx_at t).2.2.2.2.2.2.1
    rw [Cert.Kernel21Ideal.Value.flushed6]
    funext j
    obtain ⟨r, x, rfl⟩ : ∃ r x, j = ix2 r x := ⟨j 0, j 1, by idx_vars j⟩
    rw [View.read_apply]
    refine (point_6 m c t r x).trans ?_
    congr 1
    funext a
    apply Fin.ext
    match a with
    | ⟨0, _⟩ => show r.val = win0_6.index t 0 * 31 + 1 * r.val; rw [hi.1]; omega
    | ⟨1, _⟩ => show x.val = win0_6.index t 1 * 128 + 1 * x.val; rw [hi.2]; omega
  · have h0 : (i 0 : Nat) < 31 := (i 0).isLt
    have h1 : (i 1 : Nat) < 128 := (i 1).isLt
    have ht : 0 < cfg0.N := by decide
    refine ⟨⟨0, ht⟩, flush0_6 _, ?_⟩
    have hi := (idx_at ⟨0, ht⟩).2.2.2.2.2.2.1
    show i ∈ ((View.whole main_v1_2).slice (win0_6.rect ⟨0, ht⟩)).set
    rw [View.set_slice_whole, Rect.mem_set_unit]
    intro a
    match a with
    | ⟨0, _⟩ => exact Cert.Tile.mem 31 (i 0) hi.1 (by omega)
    | ⟨1, _⟩ => exact Cert.Tile.mem 128 (i 1) hi.2 (by omega)

/-- What the one point leaves in this window. -/
theorem point_7 (t : Fin cfg0.N) (r : Fin 31) (j : Fin 128) :
    out0_7 (iblk m c 0 t) (iblk m c 1 t) (iblk m c 2 t) (iblk m c 3 t) (ix2 r j) = val_main_v10 (F := Ideal) (a0 m c) (a3 m c) (ix2 r j) := by
  unfold out0_7
  rw [View.canon_unit_zero hz, iblk3]
  simp only [View.ld_unit_zero (S := S1x31x128) hz3, View.ld_unit_zero (S := S31x128) hz]
  exact second_eq _ (a0 m c) (a3 m c) (iblk0 m c t) r j

/-- The array this window ends with. -/
theorem final_7 : (dats m 0 c).arrAt 7 cfg0.N = val_main_v10 (F := Ideal) (a0 m c) (a3 m c) := by
  refine (dats m 0 c).arrAt_eq_of_cover 7 _ (fun t _ => ?_) fun i => ?_
  · have hi := (idx_at t).2.2.2.2.2.2.2
    rw [Cert.Kernel21Ideal.Value.flushed7]
    funext j
    obtain ⟨r, x, rfl⟩ : ∃ r x, j = ix2 r x := ⟨j 0, j 1, by idx_vars j⟩
    rw [View.read_apply]
    refine (point_7 m c t r x).trans ?_
    congr 1
    funext a
    apply Fin.ext
    match a with
    | ⟨0, _⟩ => show r.val = win0_7.index t 0 * 31 + 1 * r.val; rw [hi.1]; omega
    | ⟨1, _⟩ => show x.val = win0_7.index t 1 * 128 + 1 * x.val; rw [hi.2]; omega
  · have h0 : (i 0 : Nat) < 31 := (i 0).isLt
    have h1 : (i 1 : Nat) < 128 := (i 1).isLt
    have ht : 0 < cfg0.N := by decide
    refine ⟨⟨0, ht⟩, flush0_7 _, ?_⟩
    have hi := (idx_at ⟨0, ht⟩).2.2.2.2.2.2.2
    show i ∈ ((View.whole main_v1_3).slice (win0_7.rect ⟨0, ht⟩)).set
    rw [View.set_slice_whole, Rect.mem_set_unit]
    intro a
    match a with
    | ⟨0, _⟩ => exact Cert.Tile.mem 31 (i 0) hi.1 (by omega)
    | ⟨1, _⟩ => exact Cert.Tile.mem 128 (i 1) hi.2 (by omega)

/-- From memories that agree on the arguments, the kernel and the reference end with the same arrays. -/
theorem equal : Cert.algebraic_Kernel21Ideal_Reference21Ideal := by
  intro m g m' g' _ hargs
  refine ⟨fun c => a0 m c, fun c => val_main_v23 (F := Ideal) (a0 m c) (a1 m c) (a2 m c) (a3 m c), fun c => val_main_v4 (F := Ideal) (a0 m c) (a2 m c), fun c => val_main_v10 (F := Ideal) (a0 m c) (a3 m c), ?_, ?_⟩
  · refine (θ_run _ _ _).mono (fun r h c => ?_) (Cert.Kernel21Ideal.Value.run_blocks (F := Ideal) m g)
    obtain ⟨h0, h1, h2, h3, h4⟩ := h c
    exact ⟨h0.trans (final_4 m c), h1.trans (final_5 m c), h2.trans (final_6 m c), h3.trans (final_7 m c), h4⟩
  · refine (θ_run _ _ _).mono (fun r h c => ?_) (Cert.Reference21Ideal.Value.run (F := Ideal) m' g')
    obtain ⟨e0, e1, e2, e3⟩ := hargs c
    obtain ⟨h0, h1, h2, h3, h4⟩ := h c
    rw [e0] at h0
    rw [val_main_v23_eq, e0, e1, e2, e3] at h1
    rw [val_main_v4_eq, e0, e2] at h2
    rw [val_main_v10_eq, e0, e3] at h3
    exact ⟨h0, h1, h2, h3, h4⟩

end Cert.Call21

end
-- ==== Proof.Owner.lean ====
/- What the optimiser's calls share: zero offsets, a choice on a comparison, and the bound on the owner's number. -/
module

public import Idealize.ShloMosaic.Lib.Pointwise
public import Idealize.ShloMosaic.PureOps.Ideal.Laws

@[expose] public section

namespace Cert.Owner

open Idealize.ShloMosaic

theorem hz : (![0, 0] : Fin 2 → Nat) = fun _ => 0 := funext fun a => by fin_cases a <;> rfl

theorem hz3 : (![0, 0, 0] : Fin 3 → Nat) = fun _ => 0 := funext fun a => by fin_cases a <;> rfl

/-- A choice on a comparison is a choice on the equation. -/
theorem choose_eq {α : Type} (x y : BitVec 32) (a b : α) :
    Scalar.select (IntOp.cmpi .eq x y) a b = if x = y then a else b := by
  unfold Scalar.select IntOp.cmpi
  by_cases h : x = y
  · subst h; simp
  · have hb : (x == y) = false := by simpa using h
    simp [h, hb]

/-- The precondition bounds the owner's number. -/
theorem owner_lt (x : BitVec 32) (h : IntOp.andi (IntOp.cmpi .sge x 0#32) (IntOp.cmpi .slt x 8#32) = 1#1) : x.toNat < 8 := by
  unfold IntOp.andi IntOp.cmpi at h
  have h1 : ((0#32).sle x && x.slt 8#32) = true := by
    revert h
    cases (0#32).sle x <;> cases x.slt 8#32 <;> simp
  simp only [Bool.and_eq_true, BitVec.sle_eq_decide, BitVec.slt_eq_decide, decide_eq_true_eq] at h1
  obtain ⟨h2, h3⟩ := h1
  have hx := x.isLt
  simp only [BitVec.toInt_eq_toNat_cond] at h2 h3
  simp at h2 h3
  split at h2 <;> omega

end Cert.Owner

end
-- ==== Proof.Call26.lean ====
/- The optimiser on the output projection: each block of the call's four arrays is the reference's, the owner's own part read through the prefetched number. -/
module

public import proofs.«01_k».proof.Defs
public import proofs.«01_k».proof.Proof.Owner
public import proofs.«01_k».proof.Proof.Gen.Kernel26.Frame
public import proofs.«01_k».proof.Proof.Gen.Kernel26Ideal.Frame
public import proofs.«01_k».proof.Proof.Gen.Reference26Ideal.Read
public import Idealize.ShloMosaic.Lib.Pointwise
public import Idealize.ShloMosaic.Lib.Tactic
public import Idealize.ShloMosaic.Lib.Pipeline.Value
public import Idealize.ShloMosaic.Lib.Pipeline.ValueKit.Tiles
public import Idealize.ShloMosaic.PureOps.Ideal.Laws
public import proofs.«01_k».proof.Proof.Tile

@[expose] public section

noncomputable section

namespace Cert.Call26

open Idealize.ShloMosaic Idealize.ShloMosaic.TcCoe Idealize.SL.Sem Cert.Owner

namespace Exact

open Cert.Kernel26 Cert.Kernel26.Gen

section
variable {F : FTy → Type} [FloatOps F] (m : (ℓ : Loc nD τ sig) → Buf (Elt F) ℓ)

/-- The owner's number. -/
abbrev me (c : Dev nD) : BitVec 32 := m ((c : Thread nD τ).loc main_arg0) ix0

/-- The prefetched table holds the owner's number. -/
theorem table (c : Dev nD) (i : S1.Idx) : V m c main_v0 i = me m c := by
  have h : V m c main_v0 = shapeCast S1 (m ((c : Thread nD τ).loc main_arg0)) shapeCasts_S_S1 := by
    simp only [V, List.flatten_cons, List.flatten_nil, List.append_nil, List.cons_append, List.nil_append]
    after_results
    rfl
  rw [h]
  unfold shapeCast
  exact congrArg _ (funext fun a => a.elim0)

/-- Where the owner's window stands: at the owner's part and the point's block. -/
theorem owner_at (i : grid0.Coords) : cc0_transform_1 inb_S1_S1_0 numel1_S1 (tbl m) i = ![(me m 0).toNat, (i 0).val, (i 1).val] := by
  have h0 : (i 0).val < 4 := (i 0).isLt
  have h1 : (i 1).val < 1 := (i 1).isLt
  have e0 : (BitVec.ofNat 32 (i 0).val).toNat = (i 0).val := by rw [BitVec.toNat_ofNat]; omega
  have e1 : (BitVec.ofNat 32 (i 1).val).toNat = (i 1).val := by rw [BitVec.toNat_ofNat]; omega
  have hv : (tbl m).at 0 (Rect.unit (s := S1) ![0] S1.size inb_S1_S1_0) numel1_S1 = me m 0 := table m 0 _
  unfold cc0_transform_1
  dsimp only
  rw [hv, e0, e1]

/-- With the owner a device of the eight, the owner's window stays inside its array. -/
theorem ok_of (h : (me m 0).toNat < 8) : Ok m := by
  intro i
  have h0 : (i 0).val < 4 := (i 0).isLt
  have h1 : (i 1).val < 1 := (i 1).isLt
  refine ⟨fun a => ?_, .inr (Affine.block_words_dvd (of_decide_eq_true rfl) (by decide))⟩
  rw [owner_at]
  match a with
  | ⟨0, _⟩ => show ((me m 0).toNat + 1) * 1 ≤ 8; omega
  | ⟨1, _⟩ => show ((i 0).val + 1) * 64 ≤ 256; omega
  | ⟨2, _⟩ => show ((i 1).val + 1) * 1024 ≤ 1024; omega

end

/-- The precondition gives the pipeline's side condition. -/
theorem ok_of_pre [Cert.Pre_owner_is_a_device26.Facts] (m : (ℓ : Loc nD τ sig) → Buf (Elt Bits) ℓ) (h : Cert.Pre_Kernel26 m) : Ok m :=
  ok_of m (owner_lt _ (congrFun (h 0) ix0))

end Exact

namespace Real

open Cert.Kernel26Ideal Cert.Kernel26Ideal.Gen

section
variable {F : FTy → Type} [FloatOps F] (m : (ℓ : Loc nD τ sig) → Buf (Elt F) ℓ)

/-- The owner's number. -/
abbrev me (c : Dev nD) : BitVec 32 := m ((c : Thread nD τ).loc main_arg0) ix0

/-- The prefetched table holds the owner's number. -/
theorem table (c : Dev nD) (i : S1.Idx) : V m c main_v0 i = me m c := by
  have h : V m c main_v0 = shapeCast S1 (m ((c : Thread nD τ).loc main_arg0)) shapeCasts_S_S1 := by
    simp only [V, List.flatten_cons, List.flatten_nil, List.append_nil, List.cons_append, List.nil_append]
    after_results
    rfl
  rw [h]
  unfold shapeCast
  exact congrArg _ (funext fun a => a.elim0)

/-- Where the owner's window stands: at the owner's part and the point's block. -/
theorem owner_at (i : grid0.Coords) : cc0_transform_1 inb_S1_S1_0 numel1_S1 (tbl m) i = ![(me m 0).toNat, (i 0).val, (i 1).val] := by
  have h0 : (i 0).val < 4 := (i 0).isLt
  have h1 : (i 1).val < 1 := (i 1).isLt
  have e0 : (BitVec.ofNat 32 (i 0).val).toNat = (i 0).val := by rw [BitVec.toNat_ofNat]; omega
  have e1 : (BitVec.ofNat 32 (i 1).val).toNat = (i 1).val := by rw [BitVec.toNat_ofNat]; omega
  have hv : (tbl m).at 0 (Rect.unit (s := S1) ![0] S1.size inb_S1_S1_0) numel1_S1 = me m 0 := table m 0 _
  unfold cc0_transform_1
  dsimp only
  rw [hv, e0, e1]

/-- With the owner a device of the eight, the owner's window stays inside its array. -/
theorem ok_of (h : (me m 0).toNat < 8) : Ok m := by
  intro i
  have h0 : (i 0).val < 4 := (i 0).isLt
  have h1 : (i 1).val < 1 := (i 1).isLt
  refine ⟨fun a => ?_, .inr (Affine.block_words_dvd (of_decide_eq_true rfl) (by decide))⟩
  rw [owner_at]
  match a with
  | ⟨0, _⟩ => show ((me m 0).toNat + 1) * 1 ≤ 8; omega
  | ⟨1, _⟩ => show ((i 0).val + 1) * 64 ≤ 256; omega
  | ⟨2, _⟩ => show ((i 1).val + 1) * 1024 ≤ 1024; omega

end

/-- The precondition gives the pipeline's side condition. -/
theorem ok_of_pre [Cert.Pre_owner_is_a_device26.Facts] (m : (ℓ : Loc nD τ sig) → Buf (Elt Ideal) ℓ) (h : Cert.Pre_Kernel26Ideal m) : Ok m :=
  ok_of m (owner_lt _ (congrFun (h 0) ix0))

/-- The precondition bounds the owner's number. -/
theorem lt_of_pre [Cert.Pre_owner_is_a_device26.Facts] (m : (ℓ : Loc nD τ sig) → Buf (Elt Ideal) ℓ) (h : Cert.Pre_Kernel26Ideal m) (c : Dev nD) :
    (me m c).toNat < 8 := owner_lt _ (congrFun (h c) ix0)

end Real

open Cert.Kernel26Ideal Cert.Kernel26Ideal.Gen Cert.Call26.Real
open Cert.Reference26Ideal.Read

/-- One part of the block of parts, as the body loads it. -/
abbrev part (x : Vec Ideal S8x64x1024 .bf16) (k : Fin 8) : Vec Ideal S1x64x1024 .bf16 :=
  View.ld x (Rect.unit ![k.val, 0, 0] ![1, 64, 1024] fun a => match a with
    | ⟨0, _⟩ => by show k.val + 1 ≤ 8; omega
    | ⟨1, _⟩ => by show 0 + 64 ≤ 64; omega
    | ⟨2, _⟩ => by show 0 + 1024 ≤ 1024; omega)

theorem part_eq (x : Vec Ideal S8x64x1024 .bf16) (k : Fin 8) (r : Fin 64) (j : Fin 1024) : part x k (ix3 0 r j) = x (ix3 k r j) := by
  refine View.ld_unit_apply_of x _ _ _ _ _ fun a => ?_
  match a with
  | ⟨0, _⟩ => show k.val = k.val + 0; omega
  | ⟨1, _⟩ => show r.val = 0 + r.val; omega
  | ⟨2, _⟩ => show j.val = 0 + j.val; omega

/-- The gradient: the sum over the devices of their parts, the owner's taken from its own copy. -/
theorem grad_eq (o : Vec Ideal S1x64x1024 .bf16) (v : Fin 8 → Vec Ideal S1x64x1024 .bf16) (u : BitVec 32)
    (x0 : IVec Cert.Reference26Ideal.S_ 32) (O P : FVec Ideal S8x256x1024 .bf16) (r : Fin 64) (R : Fin 256) (j : Fin 1024) (J : Fin 1024)
    (hu : x0 ix0 = u) (hl : u.toNat < 8) (ho : o (ix3 0 r j) = O (ix3 ⟨u.toNat, hl⟩ R J)) (hv : ∀ k, v k (ix3 0 r j) = P (ix3 k R J)) :
    k0_pay5 (k0_pay3 o) (k0_pay4 o u (v 0) u (v 1) u (v 2) u (v 3)) (Scalar.cmpi .eq u 4#32) (v 4) u (v 5) u (v 6) u (v 7) (ix2 r j)
      = val_main_v7 (F := Ideal) x0 O P (ix2 R J) := by
  have key : ∀ k : Fin 8, Scalar.select (IntOp.cmpi .eq (BitVec.ofNat 32 k.val) u) (O (ix3 k R J)) (P (ix3 k R J))
      = Scalar.select (IntOp.cmpi .eq u (BitVec.ofNat 32 k.val)) (o (ix3 0 r j)) (P (ix3 k R J)) := by
    intro k
    rw [choose_eq, choose_eq, ho]
    by_cases h : u = BitVec.ofNat 32 k.val
    · have hk : (⟨u.toNat, hl⟩ : Fin 8) = k := by
        apply Fin.ext
        show u.toNat = k.val
        rw [h, BitVec.toNat_ofNat]
        have := k.isLt
        omega
      rw [if_pos h.symm, if_pos h, hk]
    · rw [if_neg (Ne.symm h), if_neg h]
  unfold k0_pay5 k0_pay4
  pointwise [k0_pay3, val_main_v0, val_main_v1, val_main_v2, val_main_v3, val_main_v4, val_main_v5, val_main_call0_v0, val_main_v6, val_main_cst, val_main_v7]
  rw [hu, Fin.sum_univ_eight]
  simp only [hv]
  rw [key, key, key, key, key, key, key, key]
  rfl

/-- The first moment after the step. -/
theorem first_eq (g : FVec Ideal S64x1024 .f32) (q : Vec Ideal S64x1024 .f32) (v2 v29 : FVec Ideal S64x1024 .f32) (v31 : BitVec 1) (v32 : Vec Ideal S1x64x1024 .bf16) (v37 : Elt Ideal .i32)
    (v39 : Vec Ideal S1x64x1024 .bf16) (v44 : Elt Ideal .i32) (v46 : Vec Ideal S1x64x1024 .bf16) (v51 : Elt Ideal .i32) (v53 : Vec Ideal S1x64x1024 .bf16)
    (x0 : IVec Cert.Reference26Ideal.S_ 32) (O P : FVec Ideal S8x256x1024 .bf16) (U : FVec Ideal S256x1024 .f32) (r : Fin 64) (R : Fin 256) (j : Fin 1024) (J : Fin 1024)
    (hg : k0_pay5 v2 v29 v31 v32 v37 v39 v44 v46 v51 v53 (ix2 r j) = val_main_v7 (F := Ideal) x0 O P (ix2 R J))
    (hq : q (ix2 r j) = U (ix2 R J)) :
    k0_pay6 v2 v29 v31 v32 v37 v39 v44 v46 v51 v53 q (ix2 r j) = val_main_v12 (F := Ideal) x0 O P U (ix2 R J) := by
  unfold k0_pay6 val_main_v12 val_main_v11
  generalize k0_pay5 v2 v29 v31 v32 v37 v39 v44 v46 v51 v53 = p at hg ⊢
  generalize val_main_v7 (F := Ideal) x0 O P = p' at hg ⊢
  pointwise [val_main_cst_0, val_main_v8, val_main_v9, val_main_cst_1, val_main_v10]
  rw [hg, hq]

/-- The second moment after the step. -/
theorem second_eq (g : FVec Ideal S64x1024 .f32) (q : Vec Ideal S64x1024 .f32)
    (x0 : IVec Cert.Reference26Ideal.S_ 32) (O P : FVec Ideal S8x256x1024 .bf16) (U : FVec Ideal S256x1024 .f32) (r : Fin 64) (R : Fin 256) (j : Fin 1024) (J : Fin 1024)
    (hg : g (ix2 r j) = val_main_v7 (F := Ideal) x0 O P (ix2 R J)) (hq : q (ix2 r j) = U (ix2 R J)) :
    k0_pay1 g q (Scalar.ofBits .f32 0x3F7FBE77#32) (ix2 r j) = val_main_v18 (F := Ideal) x0 O P U (ix2 R J) := by
  unfold val_main_v18 val_main_v17 val_main_v15
  generalize val_main_v7 (F := Ideal) x0 O P = p' at hg ⊢
  pointwise [k0_pay1, val_main_cst_2, val_main_v13, val_main_v14, val_main_cst_3, val_main_v16]
  rw [hg, hq]

/-- The step taken by the weight. -/
theorem delta_eq (g u : FVec Ideal S64x1024 .f32) (a q : Vec Ideal S64x1024 .f32)
    (x0 : IVec Cert.Reference26Ideal.S_ 32) (O P : FVec Ideal S8x256x1024 .bf16) (W U Q : FVec Ideal S256x1024 .f32) (r : Fin 64) (R : Fin 256) (j : Fin 1024) (J : Fin 1024)
    (hu : u (ix2 r j) = val_main_v12 (F := Ideal) x0 O P U (ix2 R J))
    (hg : k0_pay1 g q (Scalar.ofBits .f32 0x3F7FBE77#32) (ix2 r j) = val_main_v18 (F := Ideal) x0 O P Q (ix2 R J))
    (ha : a (ix2 r j) = W (ix2 R J)) :
    k0_pay2 g a u q (Scalar.ofBits .f32 0x3F7FBE77#32) (ix2 r j) = val_main_v31 (F := Ideal) x0 O P W U Q (ix2 R J) := by
  unfold k0_pay2 val_main_v31 val_main_v29 val_main_v26 val_main_v20 val_main_v25 val_main_v23 val_main_v22
  generalize k0_pay1 g q (Scalar.ofBits .f32 0x3F7FBE77#32) = p at hg ⊢
  generalize val_main_v12 (F := Ideal) x0 O P U = u' at hu ⊢
  generalize val_main_v18 (F := Ideal) x0 O P Q = p' at hg ⊢
  pointwise [val_main_cst_4, val_main_v19, val_main_cst_5, val_main_v21, val_main_cst_6, val_main_v24, val_main_cst_7, val_main_v27, val_main_v28, val_main_cst_8, val_main_v30]
  rw [hg, hu, ha]

section
variable (c : Dev nD) (i : grid0.Coords) (a3 : Memref sig .tc .vmem S8x64x1024 .bf16) (h3 : a3.IsWhole) (a4 : Memref sig .tc .vmem S1x64x1024 .bf16) (h4 : a4.IsWhole) (a5 : Memref sig .tc .vmem S64x1024 .f32) (h5 : a5.IsWhole) (a6 : Memref sig .tc .vmem S64x1024 .f32) (h6 : a6.IsWhole) (a7 : Memref sig .tc .vmem S64x1024 .f32) (h7 : a7.IsWhole) (a8 : Memref sig .tc .vmem S64x1024 .f32) (h8 : a8.IsWhole) (a9 : Memref sig .tc .vmem S64x1024 .f32) (h9 : a9.IsWhole) (a10 : Memref sig .tc .vmem S64x1024 .f32) (h10 : a10.IsWhole) (a11 : Memref sig .tc .vmem S64x1024 .f32) (h11 : a11.IsWhole)
    (x0 : Vec Ideal S8x64x1024 .bf16) (x1 : Vec Ideal S1x64x1024 .bf16) (x2 x3 x4 : Vec Ideal S64x1024 .f32) (xt : TbBuf0 (F := Ideal) c tbM0_0) (u : BitVec 32) (hx : ∀ i, View.read (Elt Ideal) (View.whole main_v0) xt i = u)
    (y0 : IVec Cert.Reference26Ideal.S_ 32) (O P : FVec Ideal S8x256x1024 .bf16) (W U Q : FVec Ideal S256x1024 .f32) (r : Fin 64) (R : Fin 256) (j : Fin 1024) (J : Fin 1024)
    (hu : y0 ix0 = u) (hl : u.toNat < 8) (ho : x1 (ix3 0 r j) = O (ix3 ⟨u.toNat, hl⟩ R J)) (hp : ∀ k, x0 (ix3 k r j) = P (ix3 k R J))
    (hw : x2 (ix2 r j) = W (ix2 R J)) (hm : x3 (ix2 r j) = U (ix2 R J)) (hv : x4 (ix2 r j) = Q (ix2 R J))
include hx hu hl ho hp hw hm hv

/-- What the body leaves in the windows of the gradient and of the first moment, from blocks that are the arrays' at the point. -/
theorem out_5 : out0_A_5 c i a3 h3 a4 h4 a5 h5 a6 h6 a7 h7 a8 h8 a9 h9 a10 h10 a11 h11 x0 x1 x2 x3 x4 xt (ix2 r j) = val_main_v7 (F := Ideal) y0 O P (ix2 R J) ∧ out0_A_7 c i a3 h3 a4 h4 a5 h5 a6 h6 a7 h7 a8 h8 a9 h9 a10 h10 a11 h11 x0 x1 x2 x3 x4 xt (ix2 r j) = val_main_v12 (F := Ideal) y0 O P U (ix2 R J) := by
  have hg := grad_eq x1 (part x0) u y0 O P r R j J hu hl ho fun k => (part_eq x0 k r j).trans (hp k)
  have h1 := first_eq x2 x3 _ _ _ _ _ _ _ _ _ _ y0 O P U r R j J hg hm
  unfold out0_A_5 out0_A_7
  rw [View.read_writes_eq_canon _ _ _ (cover0_A_5 c i a3 h3 a4 h4 a5 h5 a6 h6 a7 h7 a8 h8 a9 h9 a10 h10 a11 h11 x0 x1 x2 x3 x4 xt), View.read_writes_eq_canon _ _ _ (cover0_A_7 c i a3 h3 a4 h4 a5 h5 a6 h6 a7 h7 a8 h8 a9 h9 a10 h10 a11 h11 x0 x1 x2 x3 x4 xt)]
  unfold kernelRun0_A
  dsimp only
  sl_unfold_words
  constructor
  all_goals
    rw [View.canon_unit_zero hz]
    simp only [View.readAt_eq_ld, h3.read_unread, h4.read_unread, h5.read_unread, h6.read_unread, h7.read_unread, View.ld_unit_zero (S := S1x64x1024) hz3, View.ld_unit_zero (S := S64x1024) hz]
    simp only [View.ld, hx]
  exacts [hg, h1]

/-- What the body leaves in the windows of the step and of the second moment, from blocks that are the arrays' at the point. -/
theorem out_6 : out0_A_6 c i a3 h3 a4 h4 a5 h5 a6 h6 a7 h7 a8 h8 a9 h9 a10 h10 a11 h11 x0 x1 x2 x3 x4 xt (ix2 r j) = val_main_v31 (F := Ideal) y0 O P W U Q (ix2 R J) ∧ out0_A_8 c i a3 h3 a4 h4 a5 h5 a6 h6 a7 h7 a8 h8 a9 h9 a10 h10 a11 h11 x0 x1 x2 x3 x4 xt (ix2 r j) = val_main_v18 (F := Ideal) y0 O P Q (ix2 R J) := by
  have hg := grad_eq x1 (part x0) u y0 O P r R j J hu hl ho fun k => (part_eq x0 k r j).trans (hp k)
  have h1 := first_eq x2 x3 _ _ _ _ _ _ _ _ _ _ y0 O P U r R j J hg hm
  have h2 := second_eq _ x4 y0 O P Q r R j J hg hv
  unfold out0_A_6 out0_A_8
  rw [View.read_writes_eq_canon _ _ _ (cover0_A_6 c i a3 h3 a4 h4 a5 h5 a6 h6 a7 h7 a8 h8 a9 h9 a10 h10 a11 h11 x0 x1 x2 x3 x4 xt), View.read_writes_eq_canon _ _ _ (cover0_A_8 c i a3 h3 a4 h4 a5 h5 a6 h6 a7 h7 a8 h8 a9 h9 a10 h10 a11 h11 x0 x1 x2 x3 x4 xt)]
  unfold kernelRun0_A
  dsimp only
  sl_unfold_words
  constructor
  all_goals
    rw [View.canon_unit_zero hz]
    simp only [View.readAt_eq_ld, h3.read_unread, h4.read_unread, h5.read_unread, h6.read_unread, h7.read_unread, View.ld_unit_zero (S := S1x64x1024) hz3, View.ld_unit_zero (S := S64x1024) hz]
    simp only [View.ld, hx]
  exacts [delta_eq _ _ x2 x4 y0 O P W U Q r R j J h1 h2 hw, h2]

end

variable (m : (ℓ : Loc nD τ sig) → Buf (Elt Ideal) ℓ) (hO : Ok m) (c : Dev nD)

/-- The owner's number at launch. -/
abbrev b0 : IVec S_ 32 := m ((c : Thread nD τ).loc main_arg0)

/-- The owner's own parts at launch. -/
abbrev b1 : FVec Ideal S8x256x1024 .bf16 := m ((c : Thread nD τ).loc main_arg1)

/-- The parts received at launch. -/
abbrev b2 : FVec Ideal S8x256x1024 .bf16 := m ((c : Thread nD τ).loc main_arg2)

/-- The weight at launch. -/
abbrev b3 : FVec Ideal S256x1024 .f32 := m ((c : Thread nD τ).loc main_arg3)

/-- The first moment at launch. -/
abbrev b4 : FVec Ideal S256x1024 .f32 := m ((c : Thread nD τ).loc main_arg4)

/-- The second moment at launch. -/
abbrev b5 : FVec Ideal S256x1024 .f32 := m ((c : Thread nD τ).loc main_arg5)

theorem tlt (t : Fin grid0.N) : t.val < 4 := t.isLt

/-- The row of the array that row `r` of point `t`'s block is. -/
abbrev rowOf (t : Fin grid0.N) (r : Fin 64) : Fin 256 := ⟨t.val * 64 + r.val, by have := tlt t; have := r.isLt; omega⟩

/-- The column of the array that column `j` of point `t`'s block is. -/
abbrev colOf (t : Fin grid0.N) (j : Fin 1024) : Fin 1024 := j

/-- The points' coordinates. -/
theorem coords_at : ∀ t : Fin grid0.N, (grid0.coords t 0).val = t.val ∧ (grid0.coords t 1).val = 0 := by decide +kernel

/-- Where the windows that read no table stand at each point. -/
theorem parts_at : ∀ t : Fin grid0.N, cc0_transform_0 (grid0.coords t) 0 = 0 ∧ cc0_transform_0 (grid0.coords t) 1 = t.val ∧ cc0_transform_0 (grid0.coords t) 2 = 0 := by decide +kernel

theorem idx_at : ∀ t : Fin grid0.N, (cc0_transform_2 (grid0.coords t) 0 = t.val ∧ cc0_transform_2 (grid0.coords t) 1 = 0) ∧ (cc0_transform_3 (grid0.coords t) 0 = t.val ∧ cc0_transform_3 (grid0.coords t) 1 = 0) ∧ (cc0_transform_4 (grid0.coords t) 0 = t.val ∧ cc0_transform_4 (grid0.coords t) 1 = 0) ∧ (cc0_transform_5 (grid0.coords t) 0 = t.val ∧ cc0_transform_5 (grid0.coords t) 1 = 0) ∧ (cc0_transform_6 (grid0.coords t) 0 = t.val ∧ cc0_transform_6 (grid0.coords t) 1 = 0) ∧ (cc0_transform_7 (grid0.coords t) 0 = t.val ∧ cc0_transform_7 (grid0.coords t) 1 = 0) ∧ (cc0_transform_8 (grid0.coords t) 0 = t.val ∧ cc0_transform_8 (grid0.coords t) 1 = 0) := by decide +kernel

/-- The block of the parts received at a point. -/
theorem blk0 (t : Fin grid0.N) (k : Fin 8) (r : Fin 64) (j : Fin 1024) : iblk m hO c 0 t (ix3 k r j) = b2 m c (ix3 k (rowOf t r) (colOf t j)) := by
  have hi := parts_at t
  refine (congrFun (V_main_arg2 m c) _).trans (congrArg (b2 m c) (funext fun a => Fin.ext ?_))
  match a with
  | ⟨0, _⟩ => show cc0_transform_0 (grid0.coords t) 0 * 8 + 1 * k.val = k.val; rw [hi.1]; omega
  | ⟨1, _⟩ => show cc0_transform_0 (grid0.coords t) 1 * 64 + 1 * r.val = t.val * 64 + r.val; rw [hi.2.1]; omega
  | ⟨2, _⟩ => show cc0_transform_0 (grid0.coords t) 2 * 1024 + 1 * j.val = j.val; rw [hi.2.2]; omega

/-- The block of the owner's own part at a point. -/
theorem blk1 (hl : (me m c).toNat < 8) (t : Fin grid0.N) (r : Fin 64) (j : Fin 1024) :
    iblk m hO c 1 t (ix3 0 r j) = b1 m c (ix3 ⟨(me m c).toNat, hl⟩ (rowOf t r) (colOf t j)) := by
  obtain rfl : c = 0 := Subsingleton.elim _ _
  have hi := coords_at t
  have e := owner_at m (grid0.coords t)
  refine (congrFun (V_main_arg1 m 0) _).trans (congrArg (b1 m 0) (funext fun a => Fin.ext ?_))
  match a with
  | ⟨0, _⟩ => show cc0_transform_1 inb_S1_S1_0 numel1_S1 (tbl m) (grid0.coords t) 0 * 1 + 1 * 0 = (me m 0).toNat; rw [e]; show (me m 0).toNat * 1 + 1 * 0 = _; omega
  | ⟨1, _⟩ => show cc0_transform_1 inb_S1_S1_0 numel1_S1 (tbl m) (grid0.coords t) 1 * 64 + 1 * r.val = t.val * 64 + r.val; rw [e]; show (grid0.coords t 0).val * 64 + 1 * r.val = _; rw [hi.1]; omega
  | ⟨2, _⟩ => show cc0_transform_1 inb_S1_S1_0 numel1_S1 (tbl m) (grid0.coords t) 2 * 1024 + 1 * j.val = j.val; rw [e]; show (grid0.coords t 1).val * 1024 + 1 * j.val = _; rw [hi.2]; omega

theorem blk2 (t : Fin grid0.N) (r : Fin 64) (j : Fin 1024) : iblk m hO c 2 t (ix2 r j) = b3 m c (ix2 (rowOf t r) (colOf t j)) := by
  have hi := (idx_at t).1
  refine (congrFun (V_main_arg3 m c) _).trans (congrArg (b3 m c) (funext fun a => Fin.ext ?_))
  match a with
  | ⟨0, _⟩ => show cc0_transform_2 (grid0.coords t) 0 * 64 + 1 * r.val = t.val * 64 + r.val; rw [hi.1]; omega
  | ⟨1, _⟩ => show cc0_transform_2 (grid0.coords t) 1 * 1024 + 1 * j.val = j.val; rw [hi.2]; omega

theorem blk3 (t : Fin grid0.N) (r : Fin 64) (j : Fin 1024) : iblk m hO c 3 t (ix2 r j) = b4 m c (ix2 (rowOf t r) (colOf t j)) := by
  have hi := (idx_at t).2.1
  refine (congrFun (V_main_arg4 m c) _).trans (congrArg (b4 m c) (funext fun a => Fin.ext ?_))
  match a with
  | ⟨0, _⟩ => show cc0_transform_3 (grid0.coords t) 0 * 64 + 1 * r.val = t.val * 64 + r.val; rw [hi.1]; omega
  | ⟨1, _⟩ => show cc0_transform_3 (grid0.coords t) 1 * 1024 + 1 * j.val = j.val; rw [hi.2]; omega

theorem blk4 (t : Fin grid0.N) (r : Fin 64) (j : Fin 1024) : iblk m hO c 4 t (ix2 r j) = b5 m c (ix2 (rowOf t r) (colOf t j)) := by
  have hi := (idx_at t).2.2.1
  refine (congrFun (V_main_arg5 m c) _).trans (congrArg (b5 m c) (funext fun a => Fin.ext ?_))
  match a with
  | ⟨0, _⟩ => show cc0_transform_4 (grid0.coords t) 0 * 64 + 1 * r.val = t.val * 64 + r.val; rw [hi.1]; omega
  | ⟨1, _⟩ => show cc0_transform_4 (grid0.coords t) 1 * 1024 + 1 * j.val = j.val; rw [hi.2]; omega

/-- What point `t` leaves in the windows of the gradient and of the first moment. -/
theorem point_5 (hl : (me m c).toNat < 8) (t : Fin grid0.N) (r : Fin 64) (j : Fin 1024) :
    (outsAt0 m hO c t).1 (ix2 r j) = val_main_v7 (F := Ideal) (b0 m c) (b1 m c) (b2 m c) (ix2 (rowOf t r) (colOf t j)) ∧ (outsAt0 m hO c t).2.2.1 (ix2 r j) = val_main_v12 (F := Ideal) (b0 m c) (b1 m c) (b2 m c) (b4 m c) (ix2 (rowOf t r) (colOf t j)) := by
  unfold outsAt0
  dsimp only
  exact out_5 c (grid0.coords t) _ _ _ _ _ _ _ _ _ _ _ _ _ _ _ _ _ _ _ _ _ _ _ _ (me m c) (fun i => by obtain rfl : c = 0 := Subsingleton.elim _ _; exact table m 0 i)
    (b0 m c) (b1 m c) (b2 m c) (b3 m c) (b4 m c) (b5 m c) r (rowOf t r) j (colOf t j) rfl hl (blk1 m hO c hl t r j) (fun k => blk0 m hO c t k r j)
    (blk2 m hO c t r j) (blk3 m hO c t r j) (blk4 m hO c t r j)

/-- What point `t` leaves in the windows of the step and of the second moment. -/
theorem point_6 (hl : (me m c).toNat < 8) (t : Fin grid0.N) (r : Fin 64) (j : Fin 1024) :
    (outsAt0 m hO c t).2.1 (ix2 r j) = val_main_v31 (F := Ideal) (b0 m c) (b1 m c) (b2 m c) (b3 m c) (b4 m c) (b5 m c) (ix2 (rowOf t r) (colOf t j)) ∧ (outsAt0 m hO c t).2.2.2 (ix2 r j) = val_main_v18 (F := Ideal) (b0 m c) (b1 m c) (b2 m c) (b5 m c) (ix2 (rowOf t r) (colOf t j)) := by
  unfold outsAt0
  dsimp only
  exact out_6 c (grid0.coords t) _ _ _ _ _ _ _ _ _ _ _ _ _ _ _ _ _ _ _ _ _ _ _ _ (me m c) (fun i => by obtain rfl : c = 0 := Subsingleton.elim _ _; exact table m 0 i)
    (b0 m c) (b1 m c) (b2 m c) (b3 m c) (b4 m c) (b5 m c) r (rowOf t r) j (colOf t j) rfl hl (blk1 m hO c hl t r j) (fun k => blk0 m hO c t k r j)
    (blk2 m hO c t r j) (blk3 m hO c t r j) (blk4 m hO c t r j)

/-- The array that ends holding the gradient. -/
theorem final_5 (hl : (me m c).toNat < 8) : (dats m hO 0 c).arrAt 5 (cfgM m hO).N = val_main_v7 (F := Ideal) (b0 m c) (b1 m c) (b2 m c) := by
  refine (dats m hO 0 c).arrAt_eq_of_cover 5 _ (fun t _ => ?_) fun (i : Shape.Idx S256x1024) => ?_
  · have hi := (idx_at t).2.2.2.1
    show ((cfgM m hO).win 5).cut (grid0.coords t) ((dats m hO 0 c).after 5 t) = _
    rw [after0_5]
    refine funext fun (i : Shape.Idx S64x1024) => ?_
    obtain ⟨r, j, rfl⟩ : ∃ r j, i = ix2 r j := ⟨i 0, i 1, by idx_vars i⟩
    refine (point_5 m hO c hl t r j).1.trans ?_
    show _ = val_main_v7 (F := Ideal) (b0 m c) (b1 m c) (b2 m c) ((((cfgM m hO).win 5).blk t).view.emb (ix2 r j))
    congr 1
    funext a
    apply Fin.ext
    match a with
    | ⟨0, _⟩ => show t.val * 64 + r.val = cc0_transform_5 (grid0.coords t) 0 * 64 + 1 * r.val; rw [hi.1]; omega
    | ⟨1, _⟩ => show j.val = cc0_transform_5 (grid0.coords t) 1 * 1024 + 1 * j.val; rw [hi.2]; omega
  · have h0 : (i 0 : Nat) < 256 := (i 0).isLt
    have h1 : (i 1 : Nat) < 1024 := (i 1).isLt
    obtain ⟨t, ht⟩ : ∃ t : Fin grid0.N, t.val = (i 0).val / 64 := ⟨⟨(i 0).val / 64, by show _ < 4; omega⟩, rfl⟩
    refine ⟨t, flush0_5 _ _, ?_⟩
    have hi := (idx_at t).2.2.2.1
    refine (Finset.ext_iff.mp (View.set_slice_whole main_v1_0 (((cfgM m hO).win 5).rect t)) i).mpr (Rect.mem_set_unit.mpr fun a => ?_)
    match a with
    | ⟨0, _⟩ => exact Cert.Tile.mem 64 (i 0) hi.1 (by omega)
    | ⟨1, _⟩ => exact Cert.Tile.mem 1024 (i 1) hi.2 (by omega)

/-- The array that ends holding the step. -/
theorem final_6 (hl : (me m c).toNat < 8) : (dats m hO 0 c).arrAt 6 (cfgM m hO).N = val_main_v31 (F := Ideal) (b0 m c) (b1 m c) (b2 m c) (b3 m c) (b4 m c) (b5 m c) := by
  refine (dats m hO 0 c).arrAt_eq_of_cover 6 _ (fun t _ => ?_) fun (i : Shape.Idx S256x1024) => ?_
  · have hi := (idx_at t).2.2.2.2.1
    show ((cfgM m hO).win 6).cut (grid0.coords t) ((dats m hO 0 c).after 6 t) = _
    rw [after0_6]
    refine funext fun (i : Shape.Idx S64x1024) => ?_
    obtain ⟨r, j, rfl⟩ : ∃ r j, i = ix2 r j := ⟨i 0, i 1, by idx_vars i⟩
    refine (point_6 m hO c hl t r j).1.trans ?_
    show _ = val_main_v31 (F := Ideal) (b0 m c) (b1 m c) (b2 m c) (b3 m c) (b4 m c) (b5 m c) ((((cfgM m hO).win 6).blk t).view.emb (ix2 r j))
    congr 1
    funext a
    apply Fin.ext
    match a with
    | ⟨0, _⟩ => show t.val * 64 + r.val = cc0_transform_6 (grid0.coords t) 0 * 64 + 1 * r.val; rw [hi.1]; omega
    | ⟨1, _⟩ => show j.val = cc0_transform_6 (grid0.coords t) 1 * 1024 + 1 * j.val; rw [hi.2]; omega
  · have h0 : (i 0 : Nat) < 256 := (i 0).isLt
    have h1 : (i 1 : Nat) < 1024 := (i 1).isLt
    obtain ⟨t, ht⟩ : ∃ t : Fin grid0.N, t.val = (i 0).val / 64 := ⟨⟨(i 0).val / 64, by show _ < 4; omega⟩, rfl⟩
    refine ⟨t, flush0_6 _ _, ?_⟩
    have hi := (idx_at t).2.2.2.2.1
    refine (Finset.ext_iff.mp (View.set_slice_whole main_v1_1 (((cfgM m hO).win 6).rect t)) i).mpr (Rect.mem_set_unit.mpr fun a => ?_)
    match a with
    | ⟨0, _⟩ => exact Cert.Tile.mem 64 (i 0) hi.1 (by omega)
    | ⟨1, _⟩ => exact Cert.Tile.mem 1024 (i 1) hi.2 (by omega)

/-- The array that ends holding the first moment. -/
theorem final_7 (hl : (me m c).toNat < 8) : (dats m hO 0 c).arrAt 7 (cfgM m hO).N = val_main_v12 (F := Ideal) (b0 m c) (b1 m c) (b2 m c) (b4 m c) := by
  refine (dats m hO 0 c).arrAt_eq_of_cover 7 _ (fun t _ => ?_) fun (i : Shape.Idx S256x1024) => ?_
  · have hi := (idx_at t).2.2.2.2.2.1
    show ((cfgM m hO).win 7).cut (grid0.coords t) ((dats m hO 0 c).after 7 t) = _
    rw [after0_7]
    refine funext fun (i : Shape.Idx S64x1024) => ?_
    obtain ⟨r, j, rfl⟩ : ∃ r j, i = ix2 r j := ⟨i 0, i 1, by idx_vars i⟩
    refine (point_5 m hO c hl t r j).2.trans ?_
    show _ = val_main_v12 (F := Ideal) (b0 m c) (b1 m c) (b2 m c) (b4 m c) ((((cfgM m hO).win 7).blk t).view.emb (ix2 r j))
    congr 1
    funext a
    apply Fin.ext
    match a with
    | ⟨0, _⟩ => show t.val * 64 + r.val = cc0_transform_7 (grid0.coords t) 0 * 64 + 1 * r.val; rw [hi.1]; omega
    | ⟨1, _⟩ => show j.val = cc0_transform_7 (grid0.coords t) 1 * 1024 + 1 * j.val; rw [hi.2]; omega
  · have h0 : (i 0 : Nat) < 256 := (i 0).isLt
    have h1 : (i 1 : Nat) < 1024 := (i 1).isLt
    obtain ⟨t, ht⟩ : ∃ t : Fin grid0.N, t.val = (i 0).val / 64 := ⟨⟨(i 0).val / 64, by show _ < 4; omega⟩, rfl⟩
    refine ⟨t, flush0_7 _ _, ?_⟩
    have hi := (idx_at t).2.2.2.2.2.1
    refine (Finset.ext_iff.mp (View.set_slice_whole main_v1_2 (((cfgM m hO).win 7).rect t)) i).mpr (Rect.mem_set_unit.mpr fun a => ?_)
    match a with
    | ⟨0, _⟩ => exact Cert.Tile.mem 64 (i 0) hi.1 (by omega)
    | ⟨1, _⟩ => exact Cert.Tile.mem 1024 (i 1) hi.2 (by omega)

/-- The array that ends holding the second moment. -/
theorem final_8 (hl : (me m c).toNat < 8) : (dats m hO 0 c).arrAt 8 (cfgM m hO).N = val_main_v18 (F := Ideal) (b0 m c) (b1 m c) (b2 m c) (b5 m c) := by
  refine (dats m hO 0 c).arrAt_eq_of_cover 8 _ (fun t _ => ?_) fun (i : Shape.Idx S256x1024) => ?_
  · have hi := (idx_at t).2.2.2.2.2.2
    show ((cfgM m hO).win 8).cut (grid0.coords t) ((dats m hO 0 c).after 8 t) = _
    rw [after0_8]
    refine funext fun (i : Shape.Idx S64x1024) => ?_
    obtain ⟨r, j, rfl⟩ : ∃ r j, i = ix2 r j := ⟨i 0, i 1, by idx_vars i⟩
    refine (point_6 m hO c hl t r j).2.trans ?_
    show _ = val_main_v18 (F := Ideal) (b0 m c) (b1 m c) (b2 m c) (b5 m c) ((((cfgM m hO).win 8).blk t).view.emb (ix2 r j))
    congr 1
    funext a
    apply Fin.ext
    match a with
    | ⟨0, _⟩ => show t.val * 64 + r.val = cc0_transform_8 (grid0.coords t) 0 * 64 + 1 * r.val; rw [hi.1]; omega
    | ⟨1, _⟩ => show j.val = cc0_transform_8 (grid0.coords t) 1 * 1024 + 1 * j.val; rw [hi.2]; omega
  · have h0 : (i 0 : Nat) < 256 := (i 0).isLt
    have h1 : (i 1 : Nat) < 1024 := (i 1).isLt
    obtain ⟨t, ht⟩ : ∃ t : Fin grid0.N, t.val = (i 0).val / 64 := ⟨⟨(i 0).val / 64, by show _ < 4; omega⟩, rfl⟩
    refine ⟨t, flush0_8 _ _, ?_⟩
    have hi := (idx_at t).2.2.2.2.2.2
    refine (Finset.ext_iff.mp (View.set_slice_whole main_v1_3 (((cfgM m hO).win 8).rect t)) i).mpr (Rect.mem_set_unit.mpr fun a => ?_)
    match a with
    | ⟨0, _⟩ => exact Cert.Tile.mem 64 (i 0) hi.1 (by omega)
    | ⟨1, _⟩ => exact Cert.Tile.mem 1024 (i 1) hi.2 (by omega)

/-- From memories that agree on the arguments, the owner a device of the eight, the kernel and the reference end with the same arrays. -/
theorem equal [Cert.Pre_owner_is_a_device26.Facts] : Cert.algebraic_Kernel26Ideal_Reference26Ideal := by
  intro m g m' g' hpre hargs
  have hO := Real.ok_of_pre m hpre
  have hl := Real.lt_of_pre m hpre
  refine ⟨fun c => val_main_v7 (F := Ideal) (b0 m c) (b1 m c) (b2 m c), fun c => val_main_v31 (F := Ideal) (b0 m c) (b1 m c) (b2 m c) (b3 m c) (b4 m c) (b5 m c), fun c => val_main_v12 (F := Ideal) (b0 m c) (b1 m c) (b2 m c) (b4 m c), fun c => val_main_v18 (F := Ideal) (b0 m c) (b1 m c) (b2 m c) (b5 m c), ?_, ?_⟩
  · refine (θ_run _ _ _).mono (fun r h c => ?_) (θ_run_and (Gen.unchanged (F := Ideal) m g hO) (Gen.run_main (F := Ideal) m g hO))
    exact ⟨((h.2 c).1 5).trans (final_5 m hO c (hl c)), ((h.2 c).1 6).trans (final_6 m hO c (hl c)), ((h.2 c).1 7).trans (final_7 m hO c (hl c)), ((h.2 c).1 8).trans (final_8 m hO c (hl c)), h.1 c⟩
  · refine (θ_run _ _ _).mono (fun r h c => ?_) (Cert.Reference26Ideal.Value.run (F := Ideal) m' g')
    obtain ⟨e0, e1, e2, e3, e4, e5⟩ := hargs c
    obtain ⟨h0, h1, h2, h3, h4⟩ := h c
    rw [val_main_v7_eq, e0, e1, e2] at h0
    rw [val_main_v31_eq, e0, e1, e2, e3, e4, e5] at h1
    rw [val_main_v12_eq, e0, e1, e2, e4] at h2
    rw [val_main_v18_eq, e0, e1, e2, e5] at h3
    exact ⟨h0, h1, h2, h3, h4⟩

end Cert.Call26

end
-- ==== Proof.Call27.lean ====
/- The optimiser on the input projection: each block of the call's four arrays is the reference's, the owner's own part read through the prefetched number. -/
module

public import proofs.«01_k».proof.Defs
public import proofs.«01_k».proof.Proof.Owner
public import proofs.«01_k».proof.Proof.Gen.Kernel27.Frame
public import proofs.«01_k».proof.Proof.Gen.Kernel27Ideal.Frame
public import proofs.«01_k».proof.Proof.Gen.Reference27Ideal.Read
public import Idealize.ShloMosaic.Lib.Pointwise
public import Idealize.ShloMosaic.Lib.Tactic
public import Idealize.ShloMosaic.Lib.Pipeline.Value
public import Idealize.ShloMosaic.Lib.Pipeline.ValueKit.Tiles
public import Idealize.ShloMosaic.PureOps.Ideal.Laws
public import proofs.«01_k».proof.Proof.Tile

@[expose] public section

noncomputable section

namespace Cert.Call27

open Idealize.ShloMosaic Idealize.ShloMosaic.TcCoe Idealize.SL.Sem Cert.Owner

namespace Exact

open Cert.Kernel27 Cert.Kernel27.Gen

section
variable {F : FTy → Type} [FloatOps F] (m : (ℓ : Loc nD τ sig) → Buf (Elt F) ℓ)

/-- The owner's number. -/
abbrev me (c : Dev nD) : BitVec 32 := m ((c : Thread nD τ).loc main_arg0) ix0

/-- The prefetched table holds the owner's number. -/
theorem table (c : Dev nD) (i : S1.Idx) : V m c main_v0 i = me m c := by
  have h : V m c main_v0 = shapeCast S1 (m ((c : Thread nD τ).loc main_arg0)) shapeCasts_S_S1 := by
    simp only [V, List.flatten_cons, List.flatten_nil, List.append_nil, List.cons_append, List.nil_append]
    after_results
    rfl
  rw [h]
  unfold shapeCast
  exact congrArg _ (funext fun a => a.elim0)

/-- Where the owner's window stands: at the owner's part and the point's block. -/
theorem owner_at (i : grid0.Coords) : cc0_transform_1 inb_S1_S1_0 numel1_S1 (tbl m) i = ![(me m 0).toNat, (i 0).val, (i 1).val] := by
  have h0 : (i 0).val < 1 := (i 0).isLt
  have h1 : (i 1).val < 4 := (i 1).isLt
  have e0 : (BitVec.ofNat 32 (i 0).val).toNat = (i 0).val := by rw [BitVec.toNat_ofNat]; omega
  have e1 : (BitVec.ofNat 32 (i 1).val).toNat = (i 1).val := by rw [BitVec.toNat_ofNat]; omega
  have hv : (tbl m).at 0 (Rect.unit (s := S1) ![0] S1.size inb_S1_S1_0) numel1_S1 = me m 0 := table m 0 _
  unfold cc0_transform_1
  dsimp only
  rw [hv, e0, e1]

/-- With the owner a device of the eight, the owner's window stays inside its array. -/
theorem ok_of (h : (me m 0).toNat < 8) : Ok m := by
  intro i
  have h0 : (i 0).val < 1 := (i 0).isLt
  have h1 : (i 1).val < 4 := (i 1).isLt
  refine ⟨fun a => ?_, .inr (Affine.block_words_dvd (of_decide_eq_true rfl) (by decide))⟩
  rw [owner_at]
  match a with
  | ⟨0, _⟩ => show ((me m 0).toNat + 1) * 1 ≤ 8; omega
  | ⟨1, _⟩ => show ((i 0).val + 1) * 578 ≤ 578; omega
  | ⟨2, _⟩ => show ((i 1).val + 1) * 256 ≤ 1024; omega

end

/-- The precondition gives the pipeline's side condition. -/
theorem ok_of_pre [Cert.Pre_owner_is_a_device27.Facts] (m : (ℓ : Loc nD τ sig) → Buf (Elt Bits) ℓ) (h : Cert.Pre_Kernel27 m) : Ok m :=
  ok_of m (owner_lt _ (congrFun (h 0) ix0))

end Exact

namespace Real

open Cert.Kernel27Ideal Cert.Kernel27Ideal.Gen

section
variable {F : FTy → Type} [FloatOps F] (m : (ℓ : Loc nD τ sig) → Buf (Elt F) ℓ)

/-- The owner's number. -/
abbrev me (c : Dev nD) : BitVec 32 := m ((c : Thread nD τ).loc main_arg0) ix0

/-- The prefetched table holds the owner's number. -/
theorem table (c : Dev nD) (i : S1.Idx) : V m c main_v0 i = me m c := by
  have h : V m c main_v0 = shapeCast S1 (m ((c : Thread nD τ).loc main_arg0)) shapeCasts_S_S1 := by
    simp only [V, List.flatten_cons, List.flatten_nil, List.append_nil, List.cons_append, List.nil_append]
    after_results
    rfl
  rw [h]
  unfold shapeCast
  exact congrArg _ (funext fun a => a.elim0)

/-- Where the owner's window stands: at the owner's part and the point's block. -/
theorem owner_at (i : grid0.Coords) : cc0_transform_1 inb_S1_S1_0 numel1_S1 (tbl m) i = ![(me m 0).toNat, (i 0).val, (i 1).val] := by
  have h0 : (i 0).val < 1 := (i 0).isLt
  have h1 : (i 1).val < 4 := (i 1).isLt
  have e0 : (BitVec.ofNat 32 (i 0).val).toNat = (i 0).val := by rw [BitVec.toNat_ofNat]; omega
  have e1 : (BitVec.ofNat 32 (i 1).val).toNat = (i 1).val := by rw [BitVec.toNat_ofNat]; omega
  have hv : (tbl m).at 0 (Rect.unit (s := S1) ![0] S1.size inb_S1_S1_0) numel1_S1 = me m 0 := table m 0 _
  unfold cc0_transform_1
  dsimp only
  rw [hv, e0, e1]

/-- With the owner a device of the eight, the owner's window stays inside its array. -/
theorem ok_of (h : (me m 0).toNat < 8) : Ok m := by
  intro i
  have h0 : (i 0).val < 1 := (i 0).isLt
  have h1 : (i 1).val < 4 := (i 1).isLt
  refine ⟨fun a => ?_, .inr (Affine.block_words_dvd (of_decide_eq_true rfl) (by decide))⟩
  rw [owner_at]
  match a with
  | ⟨0, _⟩ => show ((me m 0).toNat + 1) * 1 ≤ 8; omega
  | ⟨1, _⟩ => show ((i 0).val + 1) * 578 ≤ 578; omega
  | ⟨2, _⟩ => show ((i 1).val + 1) * 256 ≤ 1024; omega

end

/-- The precondition gives the pipeline's side condition. -/
theorem ok_of_pre [Cert.Pre_owner_is_a_device27.Facts] (m : (ℓ : Loc nD τ sig) → Buf (Elt Ideal) ℓ) (h : Cert.Pre_Kernel27Ideal m) : Ok m :=
  ok_of m (owner_lt _ (congrFun (h 0) ix0))

/-- The precondition bounds the owner's number. -/
theorem lt_of_pre [Cert.Pre_owner_is_a_device27.Facts] (m : (ℓ : Loc nD τ sig) → Buf (Elt Ideal) ℓ) (h : Cert.Pre_Kernel27Ideal m) (c : Dev nD) :
    (me m c).toNat < 8 := owner_lt _ (congrFun (h c) ix0)

end Real

open Cert.Kernel27Ideal Cert.Kernel27Ideal.Gen Cert.Call27.Real
open Cert.Reference27Ideal.Read

/-- One part of the block of parts, as the body loads it. -/
abbrev part (x : Vec Ideal S8x578x256 .bf16) (k : Fin 8) : Vec Ideal S1x578x256 .bf16 :=
  View.ld x (Rect.unit ![k.val, 0, 0] ![1, 578, 256] fun a => match a with
    | ⟨0, _⟩ => by show k.val + 1 ≤ 8; omega
    | ⟨1, _⟩ => by show 0 + 578 ≤ 578; omega
    | ⟨2, _⟩ => by show 0 + 256 ≤ 256; omega)

theorem part_eq (x : Vec Ideal S8x578x256 .bf16) (k : Fin 8) (r : Fin 578) (j : Fin 256) : part x k (ix3 0 r j) = x (ix3 k r j) := by
  refine View.ld_unit_apply_of x _ _ _ _ _ fun a => ?_
  match a with
  | ⟨0, _⟩ => show k.val = k.val + 0; omega
  | ⟨1, _⟩ => show r.val = 0 + r.val; omega
  | ⟨2, _⟩ => show j.val = 0 + j.val; omega

/-- The gradient: the sum over the devices of their parts, the owner's taken from its own copy. -/
theorem grad_eq (o : Vec Ideal S1x578x256 .bf16) (v : Fin 8 → Vec Ideal S1x578x256 .bf16) (u : BitVec 32)
    (x0 : IVec Cert.Reference27Ideal.S_ 32) (O P : FVec Ideal S8x578x1024 .bf16) (r : Fin 578) (R : Fin 578) (j : Fin 256) (J : Fin 1024)
    (hu : x0 ix0 = u) (hl : u.toNat < 8) (ho : o (ix3 0 r j) = O (ix3 ⟨u.toNat, hl⟩ R J)) (hv : ∀ k, v k (ix3 0 r j) = P (ix3 k R J)) :
    k0_pay5 (k0_pay3 o) (k0_pay4 o u (v 0) u (v 1) u (v 2) u (v 3)) (Scalar.cmpi .eq u 4#32) (v 4) u (v 5) u (v 6) u (v 7) (ix2 r j)
      = val_main_v7 (F := Ideal) x0 O P (ix2 R J) := by
  have key : ∀ k : Fin 8, Scalar.select (IntOp.cmpi .eq (BitVec.ofNat 32 k.val) u) (O (ix3 k R J)) (P (ix3 k R J))
      = Scalar.select (IntOp.cmpi .eq u (BitVec.ofNat 32 k.val)) (o (ix3 0 r j)) (P (ix3 k R J)) := by
    intro k
    rw [choose_eq, choose_eq, ho]
    by_cases h : u = BitVec.ofNat 32 k.val
    · have hk : (⟨u.toNat, hl⟩ : Fin 8) = k := by
        apply Fin.ext
        show u.toNat = k.val
        rw [h, BitVec.toNat_ofNat]
        have := k.isLt
        omega
      rw [if_pos h.symm, if_pos h, hk]
    · rw [if_neg (Ne.symm h), if_neg h]
  unfold k0_pay5 k0_pay4
  pointwise [k0_pay3, val_main_v0, val_main_v1, val_main_v2, val_main_v3, val_main_v4, val_main_v5, val_main_call0_v0, val_main_v6, val_main_cst, val_main_v7]
  rw [hu, Fin.sum_univ_eight]
  simp only [hv]
  rw [key, key, key, key, key, key, key, key]
  rfl

/-- The first moment after the step. -/
theorem first_eq (g : FVec Ideal S578x256 .f32) (q : Vec Ideal S578x256 .f32) (v2 v29 : FVec Ideal S578x256 .f32) (v31 : BitVec 1) (v32 : Vec Ideal S1x578x256 .bf16) (v37 : Elt Ideal .i32)
    (v39 : Vec Ideal S1x578x256 .bf16) (v44 : Elt Ideal .i32) (v46 : Vec Ideal S1x578x256 .bf16) (v51 : Elt Ideal .i32) (v53 : Vec Ideal S1x578x256 .bf16)
    (x0 : IVec Cert.Reference27Ideal.S_ 32) (O P : FVec Ideal S8x578x1024 .bf16) (U : FVec Ideal S578x1024 .f32) (r : Fin 578) (R : Fin 578) (j : Fin 256) (J : Fin 1024)
    (hg : k0_pay5 v2 v29 v31 v32 v37 v39 v44 v46 v51 v53 (ix2 r j) = val_main_v7 (F := Ideal) x0 O P (ix2 R J))
    (hq : q (ix2 r j) = U (ix2 R J)) :
    k0_pay6 v2 v29 v31 v32 v37 v39 v44 v46 v51 v53 q (ix2 r j) = val_main_v12 (F := Ideal) x0 O P U (ix2 R J) := by
  unfold k0_pay6 val_main_v12 val_main_v11
  generalize k0_pay5 v2 v29 v31 v32 v37 v39 v44 v46 v51 v53 = p at hg ⊢
  generalize val_main_v7 (F := Ideal) x0 O P = p' at hg ⊢
  pointwise [val_main_cst_0, val_main_v8, val_main_v9, val_main_cst_1, val_main_v10]
  rw [hg, hq]

/-- The second moment after the step. -/
theorem second_eq (g : FVec Ideal S578x256 .f32) (q : Vec Ideal S578x256 .f32)
    (x0 : IVec Cert.Reference27Ideal.S_ 32) (O P : FVec Ideal S8x578x1024 .bf16) (U : FVec Ideal S578x1024 .f32) (r : Fin 578) (R : Fin 578) (j : Fin 256) (J : Fin 1024)
    (hg : g (ix2 r j) = val_main_v7 (F := Ideal) x0 O P (ix2 R J)) (hq : q (ix2 r j) = U (ix2 R J)) :
    k0_pay1 g q (Scalar.ofBits .f32 0x3F7FBE77#32) (ix2 r j) = val_main_v18 (F := Ideal) x0 O P U (ix2 R J) := by
  unfold val_main_v18 val_main_v17 val_main_v15
  generalize val_main_v7 (F := Ideal) x0 O P = p' at hg ⊢
  pointwise [k0_pay1, val_main_cst_2, val_main_v13, val_main_v14, val_main_cst_3, val_main_v16]
  rw [hg, hq]

/-- The step taken by the weight. -/
theorem delta_eq (g u : FVec Ideal S578x256 .f32) (a q : Vec Ideal S578x256 .f32)
    (x0 : IVec Cert.Reference27Ideal.S_ 32) (O P : FVec Ideal S8x578x1024 .bf16) (W U Q : FVec Ideal S578x1024 .f32) (r : Fin 578) (R : Fin 578) (j : Fin 256) (J : Fin 1024)
    (hu : u (ix2 r j) = val_main_v12 (F := Ideal) x0 O P U (ix2 R J))
    (hg : k0_pay1 g q (Scalar.ofBits .f32 0x3F7FBE77#32) (ix2 r j) = val_main_v18 (F := Ideal) x0 O P Q (ix2 R J))
    (ha : a (ix2 r j) = W (ix2 R J)) :
    k0_pay2 g a u q (Scalar.ofBits .f32 0x3F7FBE77#32) (ix2 r j) = val_main_v31 (F := Ideal) x0 O P W U Q (ix2 R J) := by
  unfold k0_pay2 val_main_v31 val_main_v29 val_main_v26 val_main_v20 val_main_v25 val_main_v23 val_main_v22
  generalize k0_pay1 g q (Scalar.ofBits .f32 0x3F7FBE77#32) = p at hg ⊢
  generalize val_main_v12 (F := Ideal) x0 O P U = u' at hu ⊢
  generalize val_main_v18 (F := Ideal) x0 O P Q = p' at hg ⊢
  pointwise [val_main_cst_4, val_main_v19, val_main_cst_5, val_main_v21, val_main_cst_6, val_main_v24, val_main_cst_7, val_main_v27, val_main_v28, val_main_cst_8, val_main_v30]
  rw [hg, hu, ha]

section
variable (c : Dev nD) (i : grid0.Coords) (a3 : Memref sig .tc .vmem S8x578x256 .bf16) (h3 : a3.IsWhole) (a4 : Memref sig .tc .vmem S1x578x256 .bf16) (h4 : a4.IsWhole) (a5 : Memref sig .tc .vmem S578x256 .f32) (h5 : a5.IsWhole) (a6 : Memref sig .tc .vmem S578x256 .f32) (h6 : a6.IsWhole) (a7 : Memref sig .tc .vmem S578x256 .f32) (h7 : a7.IsWhole) (a8 : Memref sig .tc .vmem S578x256 .f32) (h8 : a8.IsWhole) (a9 : Memref sig .tc .vmem S578x256 .f32) (h9 : a9.IsWhole) (a10 : Memref sig .tc .vmem S578x256 .f32) (h10 : a10.IsWhole) (a11 : Memref sig .tc .vmem S578x256 .f32) (h11 : a11.IsWhole)
    (x0 : Vec Ideal S8x578x256 .bf16) (x1 : Vec Ideal S1x578x256 .bf16) (x2 x3 x4 : Vec Ideal S578x256 .f32) (xt : TbBuf0 (F := Ideal) c tbM0_0) (u : BitVec 32) (hx : ∀ i, View.read (Elt Ideal) (View.whole main_v0) xt i = u)
    (y0 : IVec Cert.Reference27Ideal.S_ 32) (O P : FVec Ideal S8x578x1024 .bf16) (W U Q : FVec Ideal S578x1024 .f32) (r : Fin 578) (R : Fin 578) (j : Fin 256) (J : Fin 1024)
    (hu : y0 ix0 = u) (hl : u.toNat < 8) (ho : x1 (ix3 0 r j) = O (ix3 ⟨u.toNat, hl⟩ R J)) (hp : ∀ k, x0 (ix3 k r j) = P (ix3 k R J))
    (hw : x2 (ix2 r j) = W (ix2 R J)) (hm : x3 (ix2 r j) = U (ix2 R J)) (hv : x4 (ix2 r j) = Q (ix2 R J))
include hx hu hl ho hp hw hm hv

/-- What the body leaves in the windows of the gradient and of the first moment, from blocks that are the arrays' at the point. -/
theorem out_5 : out0_A_5 c i a3 h3 a4 h4 a5 h5 a6 h6 a7 h7 a8 h8 a9 h9 a10 h10 a11 h11 x0 x1 x2 x3 x4 xt (ix2 r j) = val_main_v7 (F := Ideal) y0 O P (ix2 R J) ∧ out0_A_7 c i a3 h3 a4 h4 a5 h5 a6 h6 a7 h7 a8 h8 a9 h9 a10 h10 a11 h11 x0 x1 x2 x3 x4 xt (ix2 r j) = val_main_v12 (F := Ideal) y0 O P U (ix2 R J) := by
  have hg := grad_eq x1 (part x0) u y0 O P r R j J hu hl ho fun k => (part_eq x0 k r j).trans (hp k)
  have h1 := first_eq x2 x3 _ _ _ _ _ _ _ _ _ _ y0 O P U r R j J hg hm
  unfold out0_A_5 out0_A_7
  rw [View.read_writes_eq_canon _ _ _ (cover0_A_5 c i a3 h3 a4 h4 a5 h5 a6 h6 a7 h7 a8 h8 a9 h9 a10 h10 a11 h11 x0 x1 x2 x3 x4 xt), View.read_writes_eq_canon _ _ _ (cover0_A_7 c i a3 h3 a4 h4 a5 h5 a6 h6 a7 h7 a8 h8 a9 h9 a10 h10 a11 h11 x0 x1 x2 x3 x4 xt)]
  unfold kernelRun0_A
  dsimp only
  sl_unfold_words
  constructor
  all_goals
    rw [View.canon_unit_zero hz]
    simp only [View.readAt_eq_ld, h3.read_unread, h4.read_unread, h5.read_unread, h6.read_unread, h7.read_unread, View.ld_unit_zero (S := S1x578x256) hz3, View.ld_unit_zero (S := S578x256) hz]
    simp only [View.ld, hx]
  exacts [hg, h1]

/-- What the body leaves in the windows of the step and of the second moment, from blocks that are the arrays' at the point. -/
theorem out_6 : out0_A_6 c i a3 h3 a4 h4 a5 h5 a6 h6 a7 h7 a8 h8 a9 h9 a10 h10 a11 h11 x0 x1 x2 x3 x4 xt (ix2 r j) = val_main_v31 (F := Ideal) y0 O P W U Q (ix2 R J) ∧ out0_A_8 c i a3 h3 a4 h4 a5 h5 a6 h6 a7 h7 a8 h8 a9 h9 a10 h10 a11 h11 x0 x1 x2 x3 x4 xt (ix2 r j) = val_main_v18 (F := Ideal) y0 O P Q (ix2 R J) := by
  have hg := grad_eq x1 (part x0) u y0 O P r R j J hu hl ho fun k => (part_eq x0 k r j).trans (hp k)
  have h1 := first_eq x2 x3 _ _ _ _ _ _ _ _ _ _ y0 O P U r R j J hg hm
  have h2 := second_eq _ x4 y0 O P Q r R j J hg hv
  unfold out0_A_6 out0_A_8
  rw [View.read_writes_eq_canon _ _ _ (cover0_A_6 c i a3 h3 a4 h4 a5 h5 a6 h6 a7 h7 a8 h8 a9 h9 a10 h10 a11 h11 x0 x1 x2 x3 x4 xt), View.read_writes_eq_canon _ _ _ (cover0_A_8 c i a3 h3 a4 h4 a5 h5 a6 h6 a7 h7 a8 h8 a9 h9 a10 h10 a11 h11 x0 x1 x2 x3 x4 xt)]
  unfold kernelRun0_A
  dsimp only
  sl_unfold_words
  constructor
  all_goals
    rw [View.canon_unit_zero hz]
    simp only [View.readAt_eq_ld, h3.read_unread, h4.read_unread, h5.read_unread, h6.read_unread, h7.read_unread, View.ld_unit_zero (S := S1x578x256) hz3, View.ld_unit_zero (S := S578x256) hz]
    simp only [View.ld, hx]
  exacts [delta_eq _ _ x2 x4 y0 O P W U Q r R j J h1 h2 hw, h2]

end

variable (m : (ℓ : Loc nD τ sig) → Buf (Elt Ideal) ℓ) (hO : Ok m) (c : Dev nD)

/-- The owner's number at launch. -/
abbrev b0 : IVec S_ 32 := m ((c : Thread nD τ).loc main_arg0)

/-- The owner's own parts at launch. -/
abbrev b1 : FVec Ideal S8x578x1024 .bf16 := m ((c : Thread nD τ).loc main_arg1)

/-- The parts received at launch. -/
abbrev b2 : FVec Ideal S8x578x1024 .bf16 := m ((c : Thread nD τ).loc main_arg2)

/-- The weight at launch. -/
abbrev b3 : FVec Ideal S578x1024 .f32 := m ((c : Thread nD τ).loc main_arg3)

/-- The first moment at launch. -/
abbrev b4 : FVec Ideal S578x1024 .f32 := m ((c : Thread nD τ).loc main_arg4)

/-- The second moment at launch. -/
abbrev b5 : FVec Ideal S578x1024 .f32 := m ((c : Thread nD τ).loc main_arg5)

theorem tlt (t : Fin grid0.N) : t.val < 4 := t.isLt

/-- The row of the array that row `r` of point `t`'s block is. -/
abbrev rowOf (t : Fin grid0.N) (r : Fin 578) : Fin 578 := r

/-- The column of the array that column `j` of point `t`'s block is. -/
abbrev colOf (t : Fin grid0.N) (j : Fin 256) : Fin 1024 := ⟨t.val * 256 + j.val, by have := tlt t; have := j.isLt; omega⟩

/-- The points' coordinates. -/
theorem coords_at : ∀ t : Fin grid0.N, (grid0.coords t 0).val = 0 ∧ (grid0.coords t 1).val = t.val := by decide +kernel

/-- Where the windows that read no table stand at each point. -/
theorem parts_at : ∀ t : Fin grid0.N, cc0_transform_0 (grid0.coords t) 0 = 0 ∧ cc0_transform_0 (grid0.coords t) 1 = 0 ∧ cc0_transform_0 (grid0.coords t) 2 = t.val := by decide +kernel

theorem idx_at : ∀ t : Fin grid0.N, (cc0_transform_2 (grid0.coords t) 0 = 0 ∧ cc0_transform_2 (grid0.coords t) 1 = t.val) ∧ (cc0_transform_3 (grid0.coords t) 0 = 0 ∧ cc0_transform_3 (grid0.coords t) 1 = t.val) ∧ (cc0_transform_4 (grid0.coords t) 0 = 0 ∧ cc0_transform_4 (grid0.coords t) 1 = t.val) ∧ (cc0_transform_5 (grid0.coords t) 0 = 0 ∧ cc0_transform_5 (grid0.coords t) 1 = t.val) ∧ (cc0_transform_6 (grid0.coords t) 0 = 0 ∧ cc0_transform_6 (grid0.coords t) 1 = t.val) ∧ (cc0_transform_7 (grid0.coords t) 0 = 0 ∧ cc0_transform_7 (grid0.coords t) 1 = t.val) ∧ (cc0_transform_8 (grid0.coords t) 0 = 0 ∧ cc0_transform_8 (grid0.coords t) 1 = t.val) := by decide +kernel

/-- The block of the parts received at a point. -/
theorem blk0 (t : Fin grid0.N) (k : Fin 8) (r : Fin 578) (j : Fin 256) : iblk m hO c 0 t (ix3 k r j) = b2 m c (ix3 k (rowOf t r) (colOf t j)) := by
  have hi := parts_at t
  refine (congrFun (V_main_arg2 m c) _).trans (congrArg (b2 m c) (funext fun a => Fin.ext ?_))
  match a with
  | ⟨0, _⟩ => show cc0_transform_0 (grid0.coords t) 0 * 8 + 1 * k.val = k.val; rw [hi.1]; omega
  | ⟨1, _⟩ => show cc0_transform_0 (grid0.coords t) 1 * 578 + 1 * r.val = r.val; rw [hi.2.1]; omega
  | ⟨2, _⟩ => show cc0_transform_0 (grid0.coords t) 2 * 256 + 1 * j.val = t.val * 256 + j.val; rw [hi.2.2]; omega

/-- The block of the owner's own part at a point. -/
theorem blk1 (hl : (me m c).toNat < 8) (t : Fin grid0.N) (r : Fin 578) (j : Fin 256) :
    iblk m hO c 1 t (ix3 0 r j) = b1 m c (ix3 ⟨(me m c).toNat, hl⟩ (rowOf t r) (colOf t j)) := by
  obtain rfl : c = 0 := Subsingleton.elim _ _
  have hi := coords_at t
  have e := owner_at m (grid0.coords t)
  refine (congrFun (V_main_arg1 m 0) _).trans (congrArg (b1 m 0) (funext fun a => Fin.ext ?_))
  match a with
  | ⟨0, _⟩ => show cc0_transform_1 inb_S1_S1_0 numel1_S1 (tbl m) (grid0.coords t) 0 * 1 + 1 * 0 = (me m 0).toNat; rw [e]; show (me m 0).toNat * 1 + 1 * 0 = _; omega
  | ⟨1, _⟩ => show cc0_transform_1 inb_S1_S1_0 numel1_S1 (tbl m) (grid0.coords t) 1 * 578 + 1 * r.val = r.val; rw [e]; show (grid0.coords t 0).val * 578 + 1 * r.val = _; rw [hi.1]; omega
  | ⟨2, _⟩ => show cc0_transform_1 inb_S1_S1_0 numel1_S1 (tbl m) (grid0.coords t) 2 * 256 + 1 * j.val = t.val * 256 + j.val; rw [e]; show (grid0.coords t 1).val * 256 + 1 * j.val = _; rw [hi.2]; omega

theorem blk2 (t : Fin grid0.N) (r : Fin 578) (j : Fin 256) : iblk m hO c 2 t (ix2 r j) = b3 m c (ix2 (rowOf t r) (colOf t j)) := by
  have hi := (idx_at t).1
  refine (congrFun (V_main_arg3 m c) _).trans (congrArg (b3 m c) (funext fun a => Fin.ext ?_))
  match a with
  | ⟨0, _⟩ => show cc0_transform_2 (grid0.coords t) 0 * 578 + 1 * r.val = r.val; rw [hi.1]; omega
  | ⟨1, _⟩ => show cc0_transform_2 (grid0.coords t) 1 * 256 + 1 * j.val = t.val * 256 + j.val; rw [hi.2]; omega

theorem blk3 (t : Fin grid0.N) (r : Fin 578) (j : Fin 256) : iblk m hO c 3 t (ix2 r j) = b4 m c (ix2 (rowOf t r) (colOf t j)) := by
  have hi := (idx_at t).2.1
  refine (congrFun (V_main_arg4 m c) _).trans (congrArg (b4 m c) (funext fun a => Fin.ext ?_))
  match a with
  | ⟨0, _⟩ => show cc0_transform_3 (grid0.coords t) 0 * 578 + 1 * r.val = r.val; rw [hi.1]; omega
  | ⟨1, _⟩ => show cc0_transform_3 (grid0.coords t) 1 * 256 + 1 * j.val = t.val * 256 + j.val; rw [hi.2]; omega

theorem blk4 (t : Fin grid0.N) (r : Fin 578) (j : Fin 256) : iblk m hO c 4 t (ix2 r j) = b5 m c (ix2 (rowOf t r) (colOf t j)) := by
  have hi := (idx_at t).2.2.1
  refine (congrFun (V_main_arg5 m c) _).trans (congrArg (b5 m c) (funext fun a => Fin.ext ?_))
  match a with
  | ⟨0, _⟩ => show cc0_transform_4 (grid0.coords t) 0 * 578 + 1 * r.val = r.val; rw [hi.1]; omega
  | ⟨1, _⟩ => show cc0_transform_4 (grid0.coords t) 1 * 256 + 1 * j.val = t.val * 256 + j.val; rw [hi.2]; omega

/-- What point `t` leaves in the windows of the gradient and of the first moment. -/
theorem point_5 (hl : (me m c).toNat < 8) (t : Fin grid0.N) (r : Fin 578) (j : Fin 256) :
    (outsAt0 m hO c t).1 (ix2 r j) = val_main_v7 (F := Ideal) (b0 m c) (b1 m c) (b2 m c) (ix2 (rowOf t r) (colOf t j)) ∧ (outsAt0 m hO c t).2.2.1 (ix2 r j) = val_main_v12 (F := Ideal) (b0 m c) (b1 m c) (b2 m c) (b4 m c) (ix2 (rowOf t r) (colOf t j)) := by
  unfold outsAt0
  dsimp only
  exact out_5 c (grid0.coords t) _ _ _ _ _ _ _ _ _ _ _ _ _ _ _ _ _ _ _ _ _ _ _ _ (me m c) (fun i => by obtain rfl : c = 0 := Subsingleton.elim _ _; exact table m 0 i)
    (b0 m c) (b1 m c) (b2 m c) (b3 m c) (b4 m c) (b5 m c) r (rowOf t r) j (colOf t j) rfl hl (blk1 m hO c hl t r j) (fun k => blk0 m hO c t k r j)
    (blk2 m hO c t r j) (blk3 m hO c t r j) (blk4 m hO c t r j)

/-- What point `t` leaves in the windows of the step and of the second moment. -/
theorem point_6 (hl : (me m c).toNat < 8) (t : Fin grid0.N) (r : Fin 578) (j : Fin 256) :
    (outsAt0 m hO c t).2.1 (ix2 r j) = val_main_v31 (F := Ideal) (b0 m c) (b1 m c) (b2 m c) (b3 m c) (b4 m c) (b5 m c) (ix2 (rowOf t r) (colOf t j)) ∧ (outsAt0 m hO c t).2.2.2 (ix2 r j) = val_main_v18 (F := Ideal) (b0 m c) (b1 m c) (b2 m c) (b5 m c) (ix2 (rowOf t r) (colOf t j)) := by
  unfold outsAt0
  dsimp only
  exact out_6 c (grid0.coords t) _ _ _ _ _ _ _ _ _ _ _ _ _ _ _ _ _ _ _ _ _ _ _ _ (me m c) (fun i => by obtain rfl : c = 0 := Subsingleton.elim _ _; exact table m 0 i)
    (b0 m c) (b1 m c) (b2 m c) (b3 m c) (b4 m c) (b5 m c) r (rowOf t r) j (colOf t j) rfl hl (blk1 m hO c hl t r j) (fun k => blk0 m hO c t k r j)
    (blk2 m hO c t r j) (blk3 m hO c t r j) (blk4 m hO c t r j)

/-- The array that ends holding the gradient. -/
theorem final_5 (hl : (me m c).toNat < 8) : (dats m hO 0 c).arrAt 5 (cfgM m hO).N = val_main_v7 (F := Ideal) (b0 m c) (b1 m c) (b2 m c) := by
  refine (dats m hO 0 c).arrAt_eq_of_cover 5 _ (fun t _ => ?_) fun (i : Shape.Idx S578x1024) => ?_
  · have hi := (idx_at t).2.2.2.1
    show ((cfgM m hO).win 5).cut (grid0.coords t) ((dats m hO 0 c).after 5 t) = _
    rw [after0_5]
    refine funext fun (i : Shape.Idx S578x256) => ?_
    obtain ⟨r, j, rfl⟩ : ∃ r j, i = ix2 r j := ⟨i 0, i 1, by idx_vars i⟩
    refine (point_5 m hO c hl t r j).1.trans ?_
    show _ = val_main_v7 (F := Ideal) (b0 m c) (b1 m c) (b2 m c) ((((cfgM m hO).win 5).blk t).view.emb (ix2 r j))
    congr 1
    funext a
    apply Fin.ext
    match a with
    | ⟨0, _⟩ => show r.val = cc0_transform_5 (grid0.coords t) 0 * 578 + 1 * r.val; rw [hi.1]; omega
    | ⟨1, _⟩ => show t.val * 256 + j.val = cc0_transform_5 (grid0.coords t) 1 * 256 + 1 * j.val; rw [hi.2]; omega
  · have h0 : (i 0 : Nat) < 578 := (i 0).isLt
    have h1 : (i 1 : Nat) < 1024 := (i 1).isLt
    obtain ⟨t, ht⟩ : ∃ t : Fin grid0.N, t.val = (i 1).val / 256 := ⟨⟨(i 1).val / 256, by show _ < 4; omega⟩, rfl⟩
    refine ⟨t, flush0_5 _ _, ?_⟩
    have hi := (idx_at t).2.2.2.1
    refine (Finset.ext_iff.mp (View.set_slice_whole main_v1_0 (((cfgM m hO).win 5).rect t)) i).mpr (Rect.mem_set_unit.mpr fun a => ?_)
    match a with
    | ⟨0, _⟩ => exact Cert.Tile.mem 578 (i 0) hi.1 (by omega)
    | ⟨1, _⟩ => exact Cert.Tile.mem 256 (i 1) hi.2 (by omega)

/-- The array that ends holding the step. -/
theorem final_6 (hl : (me m c).toNat < 8) : (dats m hO 0 c).arrAt 6 (cfgM m hO).N = val_main_v31 (F := Ideal) (b0 m c) (b1 m c) (b2 m c) (b3 m c) (b4 m c) (b5 m c) := by
  refine (dats m hO 0 c).arrAt_eq_of_cover 6 _ (fun t _ => ?_) fun (i : Shape.Idx S578x1024) => ?_
  · have hi := (idx_at t).2.2.2.2.1
    show ((cfgM m hO).win 6).cut (grid0.coords t) ((dats m hO 0 c).after 6 t) = _
    rw [after0_6]
    refine funext fun (i : Shape.Idx S578x256) => ?_
    obtain ⟨r, j, rfl⟩ : ∃ r j, i = ix2 r j := ⟨i 0, i 1, by idx_vars i⟩
    refine (point_6 m hO c hl t r j).1.trans ?_
    show _ = val_main_v31 (F := Ideal) (b0 m c) (b1 m c) (b2 m c) (b3 m c) (b4 m c) (b5 m c) ((((cfgM m hO).win 6).blk t).view.emb (ix2 r j))
    congr 1
    funext a
    apply Fin.ext
    match a with
    | ⟨0, _⟩ => show r.val = cc0_transform_6 (grid0.coords t) 0 * 578 + 1 * r.val; rw [hi.1]; omega
    | ⟨1, _⟩ => show t.val * 256 + j.val = cc0_transform_6 (grid0.coords t) 1 * 256 + 1 * j.val; rw [hi.2]; omega
  · have h0 : (i 0 : Nat) < 578 := (i 0).isLt
    have h1 : (i 1 : Nat) < 1024 := (i 1).isLt
    obtain ⟨t, ht⟩ : ∃ t : Fin grid0.N, t.val = (i 1).val / 256 := ⟨⟨(i 1).val / 256, by show _ < 4; omega⟩, rfl⟩
    refine ⟨t, flush0_6 _ _, ?_⟩
    have hi := (idx_at t).2.2.2.2.1
    refine (Finset.ext_iff.mp (View.set_slice_whole main_v1_1 (((cfgM m hO).win 6).rect t)) i).mpr (Rect.mem_set_unit.mpr fun a => ?_)
    match a with
    | ⟨0, _⟩ => exact Cert.Tile.mem 578 (i 0) hi.1 (by omega)
    | ⟨1, _⟩ => exact Cert.Tile.mem 256 (i 1) hi.2 (by omega)

/-- The array that ends holding the first moment. -/
theorem final_7 (hl : (me m c).toNat < 8) : (dats m hO 0 c).arrAt 7 (cfgM m hO).N = val_main_v12 (F := Ideal) (b0 m c) (b1 m c) (b2 m c) (b4 m c) := by
  refine (dats m hO 0 c).arrAt_eq_of_cover 7 _ (fun t _ => ?_) fun (i : Shape.Idx S578x1024) => ?_
  · have hi := (idx_at t).2.2.2.2.2.1
    show ((cfgM m hO).win 7).cut (grid0.coords t) ((dats m hO 0 c).after 7 t) = _
    rw [after0_7]
    refine funext fun (i : Shape.Idx S578x256) => ?_
    obtain ⟨r, j, rfl⟩ : ∃ r j, i = ix2 r j := ⟨i 0, i 1, by idx_vars i⟩
    refine (point_5 m hO c hl t r j).2.trans ?_
    show _ = val_main_v12 (F := Ideal) (b0 m c) (b1 m c) (b2 m c) (b4 m c) ((((cfgM m hO).win 7).blk t).view.emb (ix2 r j))
    congr 1
    funext a
    apply Fin.ext
    match a with
    | ⟨0, _⟩ => show r.val = cc0_transform_7 (grid0.coords t) 0 * 578 + 1 * r.val; rw [hi.1]; omega
    | ⟨1, _⟩ => show t.val * 256 + j.val = cc0_transform_7 (grid0.coords t) 1 * 256 + 1 * j.val; rw [hi.2]; omega
  · have h0 : (i 0 : Nat) < 578 := (i 0).isLt
    have h1 : (i 1 : Nat) < 1024 := (i 1).isLt
    obtain ⟨t, ht⟩ : ∃ t : Fin grid0.N, t.val = (i 1).val / 256 := ⟨⟨(i 1).val / 256, by show _ < 4; omega⟩, rfl⟩
    refine ⟨t, flush0_7 _ _, ?_⟩
    have hi := (idx_at t).2.2.2.2.2.1
    refine (Finset.ext_iff.mp (View.set_slice_whole main_v1_2 (((cfgM m hO).win 7).rect t)) i).mpr (Rect.mem_set_unit.mpr fun a => ?_)
    match a with
    | ⟨0, _⟩ => exact Cert.Tile.mem 578 (i 0) hi.1 (by omega)
    | ⟨1, _⟩ => exact Cert.Tile.mem 256 (i 1) hi.2 (by omega)

/-- The array that ends holding the second moment. -/
theorem final_8 (hl : (me m c).toNat < 8) : (dats m hO 0 c).arrAt 8 (cfgM m hO).N = val_main_v18 (F := Ideal) (b0 m c) (b1 m c) (b2 m c) (b5 m c) := by
  refine (dats m hO 0 c).arrAt_eq_of_cover 8 _ (fun t _ => ?_) fun (i : Shape.Idx S578x1024) => ?_
  · have hi := (idx_at t).2.2.2.2.2.2
    show ((cfgM m hO).win 8).cut (grid0.coords t) ((dats m hO 0 c).after 8 t) = _
    rw [after0_8]
    refine funext fun (i : Shape.Idx S578x256) => ?_
    obtain ⟨r, j, rfl⟩ : ∃ r j, i = ix2 r j := ⟨i 0, i 1, by idx_vars i⟩
    refine (point_6 m hO c hl t r j).2.trans ?_
    show _ = val_main_v18 (F := Ideal) (b0 m c) (b1 m c) (b2 m c) (b5 m c) ((((cfgM m hO).win 8).blk t).view.emb (ix2 r j))
    congr 1
    funext a
    apply Fin.ext
    match a with
    | ⟨0, _⟩ => show r.val = cc0_transform_8 (grid0.coords t) 0 * 578 + 1 * r.val; rw [hi.1]; omega
    | ⟨1, _⟩ => show t.val * 256 + j.val = cc0_transform_8 (grid0.coords t) 1 * 256 + 1 * j.val; rw [hi.2]; omega
  · have h0 : (i 0 : Nat) < 578 := (i 0).isLt
    have h1 : (i 1 : Nat) < 1024 := (i 1).isLt
    obtain ⟨t, ht⟩ : ∃ t : Fin grid0.N, t.val = (i 1).val / 256 := ⟨⟨(i 1).val / 256, by show _ < 4; omega⟩, rfl⟩
    refine ⟨t, flush0_8 _ _, ?_⟩
    have hi := (idx_at t).2.2.2.2.2.2
    refine (Finset.ext_iff.mp (View.set_slice_whole main_v1_3 (((cfgM m hO).win 8).rect t)) i).mpr (Rect.mem_set_unit.mpr fun a => ?_)
    match a with
    | ⟨0, _⟩ => exact Cert.Tile.mem 578 (i 0) hi.1 (by omega)
    | ⟨1, _⟩ => exact Cert.Tile.mem 256 (i 1) hi.2 (by omega)

/-- From memories that agree on the arguments, the owner a device of the eight, the kernel and the reference end with the same arrays. -/
theorem equal [Cert.Pre_owner_is_a_device27.Facts] : Cert.algebraic_Kernel27Ideal_Reference27Ideal := by
  intro m g m' g' hpre hargs
  have hO := Real.ok_of_pre m hpre
  have hl := Real.lt_of_pre m hpre
  refine ⟨fun c => val_main_v7 (F := Ideal) (b0 m c) (b1 m c) (b2 m c), fun c => val_main_v31 (F := Ideal) (b0 m c) (b1 m c) (b2 m c) (b3 m c) (b4 m c) (b5 m c), fun c => val_main_v12 (F := Ideal) (b0 m c) (b1 m c) (b2 m c) (b4 m c), fun c => val_main_v18 (F := Ideal) (b0 m c) (b1 m c) (b2 m c) (b5 m c), ?_, ?_⟩
  · refine (θ_run _ _ _).mono (fun r h c => ?_) (θ_run_and (Gen.unchanged (F := Ideal) m g hO) (Gen.run_main (F := Ideal) m g hO))
    exact ⟨((h.2 c).1 5).trans (final_5 m hO c (hl c)), ((h.2 c).1 6).trans (final_6 m hO c (hl c)), ((h.2 c).1 7).trans (final_7 m hO c (hl c)), ((h.2 c).1 8).trans (final_8 m hO c (hl c)), h.1 c⟩
  · refine (θ_run _ _ _).mono (fun r h c => ?_) (Cert.Reference27Ideal.Value.run (F := Ideal) m' g')
    obtain ⟨e0, e1, e2, e3, e4, e5⟩ := hargs c
    obtain ⟨h0, h1, h2, h3, h4⟩ := h c
    rw [val_main_v7_eq, e0, e1, e2] at h0
    rw [val_main_v31_eq, e0, e1, e2, e3, e4, e5] at h1
    rw [val_main_v12_eq, e0, e1, e2, e4] at h2
    rw [val_main_v18_eq, e0, e1, e2, e5] at h3
    exact ⟨h0, h1, h2, h3, h4⟩

end Cert.Call27

end
-- ==== Proof.Call28.lean ====
/- The optimiser on the query projection: each block of the call's four arrays is the reference's, the owner's own part read through the prefetched number. -/
module

public import proofs.«01_k».proof.Defs
public import proofs.«01_k».proof.Proof.Owner
public import proofs.«01_k».proof.Proof.Gen.Kernel28.Frame
public import proofs.«01_k».proof.Proof.Gen.Kernel28Ideal.Frame
public import proofs.«01_k».proof.Proof.Gen.Reference28Ideal.Read
public import Idealize.ShloMosaic.Lib.Pointwise
public import Idealize.ShloMosaic.Lib.Tactic
public import Idealize.ShloMosaic.Lib.Pipeline.Value
public import Idealize.ShloMosaic.Lib.Pipeline.ValueKit.Tiles
public import Idealize.ShloMosaic.PureOps.Ideal.Laws
public import proofs.«01_k».proof.Proof.Tile

@[expose] public section

noncomputable section

namespace Cert.Call28

open Idealize.ShloMosaic Idealize.ShloMosaic.TcCoe Idealize.SL.Sem Cert.Owner

namespace Exact

open Cert.Kernel28 Cert.Kernel28.Gen

section
variable {F : FTy → Type} [FloatOps F] (m : (ℓ : Loc nD τ sig) → Buf (Elt F) ℓ)

/-- The owner's number. -/
abbrev me (c : Dev nD) : BitVec 32 := m ((c : Thread nD τ).loc main_arg0) ix0

/-- The prefetched table holds the owner's number. -/
theorem table (c : Dev nD) (i : S1.Idx) : V m c main_v0 i = me m c := by
  have h : V m c main_v0 = shapeCast S1 (m ((c : Thread nD τ).loc main_arg0)) shapeCasts_S_S1 := by
    simp only [V, List.flatten_cons, List.flatten_nil, List.append_nil, List.cons_append, List.nil_append]
    after_results
    rfl
  rw [h]
  unfold shapeCast
  exact congrArg _ (funext fun a => a.elim0)

/-- Where the owner's window stands: at the owner's part and the point's block. -/
theorem owner_at (i : grid0.Coords) : cc0_transform_1 inb_S1_S1_0 numel1_S1 (tbl m) i = ![(me m 0).toNat, (i 0).val, (i 1).val] := by
  have h0 : (i 0).val < 4 := (i 0).isLt
  have h1 : (i 1).val < 1 := (i 1).isLt
  have e0 : (BitVec.ofNat 32 (i 0).val).toNat = (i 0).val := by rw [BitVec.toNat_ofNat]; omega
  have e1 : (BitVec.ofNat 32 (i 1).val).toNat = (i 1).val := by rw [BitVec.toNat_ofNat]; omega
  have hv : (tbl m).at 0 (Rect.unit (s := S1) ![0] S1.size inb_S1_S1_0) numel1_S1 = me m 0 := table m 0 _
  unfold cc0_transform_1
  dsimp only
  rw [hv, e0, e1]

/-- With the owner a device of the eight, the owner's window stays inside its array. -/
theorem ok_of (h : (me m 0).toNat < 8) : Ok m := by
  intro i
  have h0 : (i 0).val < 4 := (i 0).isLt
  have h1 : (i 1).val < 1 := (i 1).isLt
  refine ⟨fun a => ?_, .inr (Affine.block_words_dvd (of_decide_eq_true rfl) (by decide))⟩
  rw [owner_at]
  match a with
  | ⟨0, _⟩ => show ((me m 0).toNat + 1) * 1 ≤ 8; omega
  | ⟨1, _⟩ => show ((i 0).val + 1) * 32 ≤ 128; omega
  | ⟨2, _⟩ => show ((i 1).val + 1) * 1024 ≤ 1024; omega

end

/-- The precondition gives the pipeline's side condition. -/
theorem ok_of_pre [Cert.Pre_owner_is_a_device28.Facts] (m : (ℓ : Loc nD τ sig) → Buf (Elt Bits) ℓ) (h : Cert.Pre_Kernel28 m) : Ok m :=
  ok_of m (owner_lt _ (congrFun (h 0) ix0))

end Exact

namespace Real

open Cert.Kernel28Ideal Cert.Kernel28Ideal.Gen

section
variable {F : FTy → Type} [FloatOps F] (m : (ℓ : Loc nD τ sig) → Buf (Elt F) ℓ)

/-- The owner's number. -/
abbrev me (c : Dev nD) : BitVec 32 := m ((c : Thread nD τ).loc main_arg0) ix0

/-- The prefetched table holds the owner's number. -/
theorem table (c : Dev nD) (i : S1.Idx) : V m c main_v0 i = me m c := by
  have h : V m c main_v0 = shapeCast S1 (m ((c : Thread nD τ).loc main_arg0)) shapeCasts_S_S1 := by
    simp only [V, List.flatten_cons, List.flatten_nil, List.append_nil, List.cons_append, List.nil_append]
    after_results
    rfl
  rw [h]
  unfold shapeCast
  exact congrArg _ (funext fun a => a.elim0)

/-- Where the owner's window stands: at the owner's part and the point's block. -/
theorem owner_at (i : grid0.Coords) : cc0_transform_1 inb_S1_S1_0 numel1_S1 (tbl m) i = ![(me m 0).toNat, (i 0).val, (i 1).val] := by
  have h0 : (i 0).val < 4 := (i 0).isLt
  have h1 : (i 1).val < 1 := (i 1).isLt
  have e0 : (BitVec.ofNat 32 (i 0).val).toNat = (i 0).val := by rw [BitVec.toNat_ofNat]; omega
  have e1 : (BitVec.ofNat 32 (i 1).val).toNat = (i 1).val := by rw [BitVec.toNat_ofNat]; omega
  have hv : (tbl m).at 0 (Rect.unit (s := S1) ![0] S1.size inb_S1_S1_0) numel1_S1 = me m 0 := table m 0 _
  unfold cc0_transform_1
  dsimp only
  rw [hv, e0, e1]

/-- With the owner a device of the eight, the owner's window stays inside its array. -/
theorem ok_of (h : (me m 0).toNat < 8) : Ok m := by
  intro i
  have h0 : (i 0).val < 4 := (i 0).isLt
  have h1 : (i 1).val < 1 := (i 1).isLt
  refine ⟨fun a => ?_, .inr (Affine.block_words_dvd (of_decide_eq_true rfl) (by decide))⟩
  rw [owner_at]
  match a with
  | ⟨0, _⟩ => show ((me m 0).toNat + 1) * 1 ≤ 8; omega
  | ⟨1, _⟩ => show ((i 0).val + 1) * 32 ≤ 128; omega
  | ⟨2, _⟩ => show ((i 1).val + 1) * 1024 ≤ 1024; omega

end

/-- The precondition gives the pipeline's side condition. -/
theorem ok_of_pre [Cert.Pre_owner_is_a_device28.Facts] (m : (ℓ : Loc nD τ sig) → Buf (Elt Ideal) ℓ) (h : Cert.Pre_Kernel28Ideal m) : Ok m :=
  ok_of m (owner_lt _ (congrFun (h 0) ix0))

/-- The precondition bounds the owner's number. -/
theorem lt_of_pre [Cert.Pre_owner_is_a_device28.Facts] (m : (ℓ : Loc nD τ sig) → Buf (Elt Ideal) ℓ) (h : Cert.Pre_Kernel28Ideal m) (c : Dev nD) :
    (me m c).toNat < 8 := owner_lt _ (congrFun (h c) ix0)

end Real

open Cert.Kernel28Ideal Cert.Kernel28Ideal.Gen Cert.Call28.Real
open Cert.Reference28Ideal.Read

/-- One part of the block of parts, as the body loads it. -/
abbrev part (x : Vec Ideal S8x32x1024 .bf16) (k : Fin 8) : Vec Ideal S1x32x1024 .bf16 :=
  View.ld x (Rect.unit ![k.val, 0, 0] ![1, 32, 1024] fun a => match a with
    | ⟨0, _⟩ => by show k.val + 1 ≤ 8; omega
    | ⟨1, _⟩ => by show 0 + 32 ≤ 32; omega
    | ⟨2, _⟩ => by show 0 + 1024 ≤ 1024; omega)

theorem part_eq (x : Vec Ideal S8x32x1024 .bf16) (k : Fin 8) (r : Fin 32) (j : Fin 1024) : part x k (ix3 0 r j) = x (ix3 k r j) := by
  refine View.ld_unit_apply_of x _ _ _ _ _ fun a => ?_
  match a with
  | ⟨0, _⟩ => show k.val = k.val + 0; omega
  | ⟨1, _⟩ => show r.val = 0 + r.val; omega
  | ⟨2, _⟩ => show j.val = 0 + j.val; omega

/-- The gradient: the sum over the devices of their parts, the owner's taken from its own copy. -/
theorem grad_eq (o : Vec Ideal S1x32x1024 .bf16) (v : Fin 8 → Vec Ideal S1x32x1024 .bf16) (u : BitVec 32)
    (x0 : IVec Cert.Reference28Ideal.S_ 32) (O P : FVec Ideal S8x128x1024 .bf16) (r : Fin 32) (R : Fin 128) (j : Fin 1024) (J : Fin 1024)
    (hu : x0 ix0 = u) (hl : u.toNat < 8) (ho : o (ix3 0 r j) = O (ix3 ⟨u.toNat, hl⟩ R J)) (hv : ∀ k, v k (ix3 0 r j) = P (ix3 k R J)) :
    k0_pay5 (k0_pay3 o) (k0_pay4 o u (v 0) u (v 1) u (v 2) u (v 3)) (Scalar.cmpi .eq u 4#32) (v 4) u (v 5) u (v 6) u (v 7) (ix2 r j)
      = val_main_v7 (F := Ideal) x0 O P (ix2 R J) := by
  have key : ∀ k : Fin 8, Scalar.select (IntOp.cmpi .eq (BitVec.ofNat 32 k.val) u) (O (ix3 k R J)) (P (ix3 k R J))
      = Scalar.select (IntOp.cmpi .eq u (BitVec.ofNat 32 k.val)) (o (ix3 0 r j)) (P (ix3 k R J)) := by
    intro k
    rw [choose_eq, choose_eq, ho]
    by_cases h : u = BitVec.ofNat 32 k.val
    · have hk : (⟨u.toNat, hl⟩ : Fin 8) = k := by
        apply Fin.ext
        show u.toNat = k.val
        rw [h, BitVec.toNat_ofNat]
        have := k.isLt
        omega
      rw [if_pos h.symm, if_pos h, hk]
    · rw [if_neg (Ne.symm h), if_neg h]
  unfold k0_pay5 k0_pay4
  pointwise [k0_pay3, val_main_v0, val_main_v1, val_main_v2, val_main_v3, val_main_v4, val_main_v5, val_main_call0_v0, val_main_v6, val_main_cst, val_main_v7]
  rw [hu, Fin.sum_univ_eight]
  simp only [hv]
  rw [key, key, key, key, key, key, key, key]
  rfl

/-- The first moment after the step. -/
theorem first_eq (g : FVec Ideal S32x1024 .f32) (q : Vec Ideal S32x1024 .f32) (v2 v29 : FVec Ideal S32x1024 .f32) (v31 : BitVec 1) (v32 : Vec Ideal S1x32x1024 .bf16) (v37 : Elt Ideal .i32)
    (v39 : Vec Ideal S1x32x1024 .bf16) (v44 : Elt Ideal .i32) (v46 : Vec Ideal S1x32x1024 .bf16) (v51 : Elt Ideal .i32) (v53 : Vec Ideal S1x32x1024 .bf16)
    (x0 : IVec Cert.Reference28Ideal.S_ 32) (O P : FVec Ideal S8x128x1024 .bf16) (U : FVec Ideal S128x1024 .f32) (r : Fin 32) (R : Fin 128) (j : Fin 1024) (J : Fin 1024)
    (hg : k0_pay5 v2 v29 v31 v32 v37 v39 v44 v46 v51 v53 (ix2 r j) = val_main_v7 (F := Ideal) x0 O P (ix2 R J))
    (hq : q (ix2 r j) = U (ix2 R J)) :
    k0_pay6 v2 v29 v31 v32 v37 v39 v44 v46 v51 v53 q (ix2 r j) = val_main_v12 (F := Ideal) x0 O P U (ix2 R J) := by
  unfold k0_pay6 val_main_v12 val_main_v11
  generalize k0_pay5 v2 v29 v31 v32 v37 v39 v44 v46 v51 v53 = p at hg ⊢
  generalize val_main_v7 (F := Ideal) x0 O P = p' at hg ⊢
  pointwise [val_main_cst_0, val_main_v8, val_main_v9, val_main_cst_1, val_main_v10]
  rw [hg, hq]

/-- The second moment after the step. -/
theorem second_eq (g : FVec Ideal S32x1024 .f32) (q : Vec Ideal S32x1024 .f32)
    (x0 : IVec Cert.Reference28Ideal.S_ 32) (O P : FVec Ideal S8x128x1024 .bf16) (U : FVec Ideal S128x1024 .f32) (r : Fin 32) (R : Fin 128) (j : Fin 1024) (J : Fin 1024)
    (hg : g (ix2 r j) = val_main_v7 (F := Ideal) x0 O P (ix2 R J)) (hq : q (ix2 r j) = U (ix2 R J)) :
    k0_pay1 g q (Scalar.ofBits .f32 0x3F7FBE77#32) (ix2 r j) = val_main_v18 (F := Ideal) x0 O P U (ix2 R J) := by
  unfold val_main_v18 val_main_v17 val_main_v15
  generalize val_main_v7 (F := Ideal) x0 O P = p' at hg ⊢
  pointwise [k0_pay1, val_main_cst_2, val_main_v13, val_main_v14, val_main_cst_3, val_main_v16]
  rw [hg, hq]

/-- The step taken by the weight. -/
theorem delta_eq (g u : FVec Ideal S32x1024 .f32) (a q : Vec Ideal S32x1024 .f32)
    (x0 : IVec Cert.Reference28Ideal.S_ 32) (O P : FVec Ideal S8x128x1024 .bf16) (W U Q : FVec Ideal S128x1024 .f32) (r : Fin 32) (R : Fin 128) (j : Fin 1024) (J : Fin 1024)
    (hu : u (ix2 r j) = val_main_v12 (F := Ideal) x0 O P U (ix2 R J))
    (hg : k0_pay1 g q (Scalar.ofBits .f32 0x3F7FBE77#32) (ix2 r j) = val_main_v18 (F := Ideal) x0 O P Q (ix2 R J))
    (ha : a (ix2 r j) = W (ix2 R J)) :
    k0_pay2 g a u q (Scalar.ofBits .f32 0x3F7FBE77#32) (ix2 r j) = val_main_v31 (F := Ideal) x0 O P W U Q (ix2 R J) := by
  unfold k0_pay2 val_main_v31 val_main_v29 val_main_v26 val_main_v20 val_main_v25 val_main_v23 val_main_v22
  generalize k0_pay1 g q (Scalar.ofBits .f32 0x3F7FBE77#32) = p at hg ⊢
  generalize val_main_v12 (F := Ideal) x0 O P U = u' at hu ⊢
  generalize val_main_v18 (F := Ideal) x0 O P Q = p' at hg ⊢
  pointwise [val_main_cst_4, val_main_v19, val_main_cst_5, val_main_v21, val_main_cst_6, val_main_v24, val_main_cst_7, val_main_v27, val_main_v28, val_main_cst_8, val_main_v30]
  rw [hg, hu, ha]

section
variable (c : Dev nD) (i : grid0.Coords) (a3 : Memref sig .tc .vmem S8x32x1024 .bf16) (h3 : a3.IsWhole) (a4 : Memref sig .tc .vmem S1x32x1024 .bf16) (h4 : a4.IsWhole) (a5 : Memref sig .tc .vmem S32x1024 .f32) (h5 : a5.IsWhole) (a6 : Memref sig .tc .vmem S32x1024 .f32) (h6 : a6.IsWhole) (a7 : Memref sig .tc .vmem S32x1024 .f32) (h7 : a7.IsWhole) (a8 : Memref sig .tc .vmem S32x1024 .f32) (h8 : a8.IsWhole) (a9 : Memref sig .tc .vmem S32x1024 .f32) (h9 : a9.IsWhole) (a10 : Memref sig .tc .vmem S32x1024 .f32) (h10 : a10.IsWhole) (a11 : Memref sig .tc .vmem S32x1024 .f32) (h11 : a11.IsWhole)
    (x0 : Vec Ideal S8x32x1024 .bf16) (x1 : Vec Ideal S1x32x1024 .bf16) (x2 x3 x4 : Vec Ideal S32x1024 .f32) (xt : TbBuf0 (F := Ideal) c tbM0_0) (u : BitVec 32) (hx : ∀ i, View.read (Elt Ideal) (View.whole main_v0) xt i = u)
    (y0 : IVec Cert.Reference28Ideal.S_ 32) (O P : FVec Ideal S8x128x1024 .bf16) (W U Q : FVec Ideal S128x1024 .f32) (r : Fin 32) (R : Fin 128) (j : Fin 1024) (J : Fin 1024)
    (hu : y0 ix0 = u) (hl : u.toNat < 8) (ho : x1 (ix3 0 r j) = O (ix3 ⟨u.toNat, hl⟩ R J)) (hp : ∀ k, x0 (ix3 k r j) = P (ix3 k R J))
    (hw : x2 (ix2 r j) = W (ix2 R J)) (hm : x3 (ix2 r j) = U (ix2 R J)) (hv : x4 (ix2 r j) = Q (ix2 R J))
include hx hu hl ho hp hw hm hv

/-- What the body leaves in the windows of the gradient and of the first moment, from blocks that are the arrays' at the point. -/
theorem out_5 : out0_A_5 c i a3 h3 a4 h4 a5 h5 a6 h6 a7 h7 a8 h8 a9 h9 a10 h10 a11 h11 x0 x1 x2 x3 x4 xt (ix2 r j) = val_main_v7 (F := Ideal) y0 O P (ix2 R J) ∧ out0_A_7 c i a3 h3 a4 h4 a5 h5 a6 h6 a7 h7 a8 h8 a9 h9 a10 h10 a11 h11 x0 x1 x2 x3 x4 xt (ix2 r j) = val_main_v12 (F := Ideal) y0 O P U (ix2 R J) := by
  have hg := grad_eq x1 (part x0) u y0 O P r R j J hu hl ho fun k => (part_eq x0 k r j).trans (hp k)
  have h1 := first_eq x2 x3 _ _ _ _ _ _ _ _ _ _ y0 O P U r R j J hg hm
  unfold out0_A_5 out0_A_7
  rw [View.read_writes_eq_canon _ _ _ (cover0_A_5 c i a3 h3 a4 h4 a5 h5 a6 h6 a7 h7 a8 h8 a9 h9 a10 h10 a11 h11 x0 x1 x2 x3 x4 xt), View.read_writes_eq_canon _ _ _ (cover0_A_7 c i a3 h3 a4 h4 a5 h5 a6 h6 a7 h7 a8 h8 a9 h9 a10 h10 a11 h11 x0 x1 x2 x3 x4 xt)]
  unfold kernelRun0_A
  dsimp only
  sl_unfold_words
  constructor
  all_goals
    rw [View.canon_unit_zero hz]
    simp only [View.readAt_eq_ld, h3.read_unread, h4.read_unread, h5.read_unread, h6.read_unread, h7.read_unread, View.ld_unit_zero (S := S1x32x1024) hz3, View.ld_unit_zero (S := S32x1024) hz]
    simp only [View.ld, hx]
  exacts [hg, h1]

/-- What the body leaves in the windows of the step and of the second moment, from blocks that are the arrays' at the point. -/
theorem out_6 : out0_A_6 c i a3 h3 a4 h4 a5 h5 a6 h6 a7 h7 a8 h8 a9 h9 a10 h10 a11 h11 x0 x1 x2 x3 x4 xt (ix2 r j) = val_main_v31 (F := Ideal) y0 O P W U Q (ix2 R J) ∧ out0_A_8 c i a3 h3 a4 h4 a5 h5 a6 h6 a7 h7 a8 h8 a9 h9 a10 h10 a11 h11 x0 x1 x2 x3 x4 xt (ix2 r j) = val_main_v18 (F := Ideal) y0 O P Q (ix2 R J) := by
  have hg := grad_eq x1 (part x0) u y0 O P r R j J hu hl ho fun k => (part_eq x0 k r j).trans (hp k)
  have h1 := first_eq x2 x3 _ _ _ _ _ _ _ _ _ _ y0 O P U r R j J hg hm
  have h2 := second_eq _ x4 y0 O P Q r R j J hg hv
  unfold out0_A_6 out0_A_8
  rw [View.read_writes_eq_canon _ _ _ (cover0_A_6 c i a3 h3 a4 h4 a5 h5 a6 h6 a7 h7 a8 h8 a9 h9 a10 h10 a11 h11 x0 x1 x2 x3 x4 xt), View.read_writes_eq_canon _ _ _ (cover0_A_8 c i a3 h3 a4 h4 a5 h5 a6 h6 a7 h7 a8 h8 a9 h9 a10 h10 a11 h11 x0 x1 x2 x3 x4 xt)]
  unfold kernelRun0_A
  dsimp only
  sl_unfold_words
  constructor
  all_goals
    rw [View.canon_unit_zero hz]
    simp only [View.readAt_eq_ld, h3.read_unread, h4.read_unread, h5.read_unread, h6.read_unread, h7.read_unread, View.ld_unit_zero (S := S1x32x1024) hz3, View.ld_unit_zero (S := S32x1024) hz]
    simp only [View.ld, hx]
  exacts [delta_eq _ _ x2 x4 y0 O P W U Q r R j J h1 h2 hw, h2]

end

variable (m : (ℓ : Loc nD τ sig) → Buf (Elt Ideal) ℓ) (hO : Ok m) (c : Dev nD)

/-- The owner's number at launch. -/
abbrev b0 : IVec S_ 32 := m ((c : Thread nD τ).loc main_arg0)

/-- The owner's own parts at launch. -/
abbrev b1 : FVec Ideal S8x128x1024 .bf16 := m ((c : Thread nD τ).loc main_arg1)

/-- The parts received at launch. -/
abbrev b2 : FVec Ideal S8x128x1024 .bf16 := m ((c : Thread nD τ).loc main_arg2)

/-- The weight at launch. -/
abbrev b3 : FVec Ideal S128x1024 .f32 := m ((c : Thread nD τ).loc main_arg3)

/-- The first moment at launch. -/
abbrev b4 : FVec Ideal S128x1024 .f32 := m ((c : Thread nD τ).loc main_arg4)

/-- The second moment at launch. -/
abbrev b5 : FVec Ideal S128x1024 .f32 := m ((c : Thread nD τ).loc main_arg5)

theorem tlt (t : Fin grid0.N) : t.val < 4 := t.isLt

/-- The row of the array that row `r` of point `t`'s block is. -/
abbrev rowOf (t : Fin grid0.N) (r : Fin 32) : Fin 128 := ⟨t.val * 32 + r.val, by have := tlt t; have := r.isLt; omega⟩

/-- The column of the array that column `j` of point `t`'s block is. -/
abbrev colOf (t : Fin grid0.N) (j : Fin 1024) : Fin 1024 := j

/-- The points' coordinates. -/
theorem coords_at : ∀ t : Fin grid0.N, (grid0.coords t 0).val = t.val ∧ (grid0.coords t 1).val = 0 := by decide +kernel

/-- Where the windows that read no table stand at each point. -/
theorem parts_at : ∀ t : Fin grid0.N, cc0_transform_0 (grid0.coords t) 0 = 0 ∧ cc0_transform_0 (grid0.coords t) 1 = t.val ∧ cc0_transform_0 (grid0.coords t) 2 = 0 := by decide +kernel

theorem idx_at : ∀ t : Fin grid0.N, (cc0_transform_2 (grid0.coords t) 0 = t.val ∧ cc0_transform_2 (grid0.coords t) 1 = 0) ∧ (cc0_transform_3 (grid0.coords t) 0 = t.val ∧ cc0_transform_3 (grid0.coords t) 1 = 0) ∧ (cc0_transform_4 (grid0.coords t) 0 = t.val ∧ cc0_transform_4 (grid0.coords t) 1 = 0) ∧ (cc0_transform_5 (grid0.coords t) 0 = t.val ∧ cc0_transform_5 (grid0.coords t) 1 = 0) ∧ (cc0_transform_6 (grid0.coords t) 0 = t.val ∧ cc0_transform_6 (grid0.coords t) 1 = 0) ∧ (cc0_transform_7 (grid0.coords t) 0 = t.val ∧ cc0_transform_7 (grid0.coords t) 1 = 0) ∧ (cc0_transform_8 (grid0.coords t) 0 = t.val ∧ cc0_transform_8 (grid0.coords t) 1 = 0) := by decide +kernel

/-- The block of the parts received at a point. -/
theorem blk0 (t : Fin grid0.N) (k : Fin 8) (r : Fin 32) (j : Fin 1024) : iblk m hO c 0 t (ix3 k r j) = b2 m c (ix3 k (rowOf t r) (colOf t j)) := by
  have hi := parts_at t
  refine (congrFun (V_main_arg2 m c) _).trans (congrArg (b2 m c) (funext fun a => Fin.ext ?_))
  match a with
  | ⟨0, _⟩ => show cc0_transform_0 (grid0.coords t) 0 * 8 + 1 * k.val = k.val; rw [hi.1]; omega
  | ⟨1, _⟩ => show cc0_transform_0 (grid0.coords t) 1 * 32 + 1 * r.val = t.val * 32 + r.val; rw [hi.2.1]; omega
  | ⟨2, _⟩ => show cc0_transform_0 (grid0.coords t) 2 * 1024 + 1 * j.val = j.val; rw [hi.2.2]; omega

/-- The block of the owner's own part at a point. -/
theorem blk1 (hl : (me m c).toNat < 8) (t : Fin grid0.N) (r : Fin 32) (j : Fin 1024) :
    iblk m hO c 1 t (ix3 0 r j) = b1 m c (ix3 ⟨(me m c).toNat, hl⟩ (rowOf t r) (colOf t j)) := by
  obtain rfl : c = 0 := Subsingleton.elim _ _
  have hi := coords_at t
  have e := owner_at m (grid0.coords t)
  refine (congrFun (V_main_arg1 m 0) _).trans (congrArg (b1 m 0) (funext fun a => Fin.ext ?_))
  match a with
  | ⟨0, _⟩ => show cc0_transform_1 inb_S1_S1_0 numel1_S1 (tbl m) (grid0.coords t) 0 * 1 + 1 * 0 = (me m 0).toNat; rw [e]; show (me m 0).toNat * 1 + 1 * 0 = _; omega
  | ⟨1, _⟩ => show cc0_transform_1 inb_S1_S1_0 numel1_S1 (tbl m) (grid0.coords t) 1 * 32 + 1 * r.val = t.val * 32 + r.val; rw [e]; show (grid0.coords t 0).val * 32 + 1 * r.val = _; rw [hi.1]; omega
  | ⟨2, _⟩ => show cc0_transform_1 inb_S1_S1_0 numel1_S1 (tbl m) (grid0.coords t) 2 * 1024 + 1 * j.val = j.val; rw [e]; show (grid0.coords t 1).val * 1024 + 1 * j.val = _; rw [hi.2]; omega

theorem blk2 (t : Fin grid0.N) (r : Fin 32) (j : Fin 1024) : iblk m hO c 2 t (ix2 r j) = b3 m c (ix2 (rowOf t r) (colOf t j)) := by
  have hi := (idx_at t).1
  refine (congrFun (V_main_arg3 m c) _).trans (congrArg (b3 m c) (funext fun a => Fin.ext ?_))
  match a with
  | ⟨0, _⟩ => show cc0_transform_2 (grid0.coords t) 0 * 32 + 1 * r.val = t.val * 32 + r.val; rw [hi.1]; omega
  | ⟨1, _⟩ => show cc0_transform_2 (grid0.coords t) 1 * 1024 + 1 * j.val = j.val; rw [hi.2]; omega

theorem blk3 (t : Fin grid0.N) (r : Fin 32) (j : Fin 1024) : iblk m hO c 3 t (ix2 r j) = b4 m c (ix2 (rowOf t r) (colOf t j)) := by
  have hi := (idx_at t).2.1
  refine (congrFun (V_main_arg4 m c) _).trans (congrArg (b4 m c) (funext fun a => Fin.ext ?_))
  match a with
  | ⟨0, _⟩ => show cc0_transform_3 (grid0.coords t) 0 * 32 + 1 * r.val = t.val * 32 + r.val; rw [hi.1]; omega
  | ⟨1, _⟩ => show cc0_transform_3 (grid0.coords t) 1 * 1024 + 1 * j.val = j.val; rw [hi.2]; omega

theorem blk4 (t : Fin grid0.N) (r : Fin 32) (j : Fin 1024) : iblk m hO c 4 t (ix2 r j) = b5 m c (ix2 (rowOf t r) (colOf t j)) := by
  have hi := (idx_at t).2.2.1
  refine (congrFun (V_main_arg5 m c) _).trans (congrArg (b5 m c) (funext fun a => Fin.ext ?_))
  match a with
  | ⟨0, _⟩ => show cc0_transform_4 (grid0.coords t) 0 * 32 + 1 * r.val = t.val * 32 + r.val; rw [hi.1]; omega
  | ⟨1, _⟩ => show cc0_transform_4 (grid0.coords t) 1 * 1024 + 1 * j.val = j.val; rw [hi.2]; omega

/-- What point `t` leaves in the windows of the gradient and of the first moment. -/
theorem point_5 (hl : (me m c).toNat < 8) (t : Fin grid0.N) (r : Fin 32) (j : Fin 1024) :
    (outsAt0 m hO c t).1 (ix2 r j) = val_main_v7 (F := Ideal) (b0 m c) (b1 m c) (b2 m c) (ix2 (rowOf t r) (colOf t j)) ∧ (outsAt0 m hO c t).2.2.1 (ix2 r j) = val_main_v12 (F := Ideal) (b0 m c) (b1 m c) (b2 m c) (b4 m c) (ix2 (rowOf t r) (colOf t j)) := by
  unfold outsAt0
  dsimp only
  exact out_5 c (grid0.coords t) _ _ _ _ _ _ _ _ _ _ _ _ _ _ _ _ _ _ _ _ _ _ _ _ (me m c) (fun i => by obtain rfl : c = 0 := Subsingleton.elim _ _; exact table m 0 i)
    (b0 m c) (b1 m c) (b2 m c) (b3 m c) (b4 m c) (b5 m c) r (rowOf t r) j (colOf t j) rfl hl (blk1 m hO c hl t r j) (fun k => blk0 m hO c t k r j)
    (blk2 m hO c t r j) (blk3 m hO c t r j) (blk4 m hO c t r j)

/-- What point `t` leaves in the windows of the step and of the second moment. -/
theorem point_6 (hl : (me m c).toNat < 8) (t : Fin grid0.N) (r : Fin 32) (j : Fin 1024) :
    (outsAt0 m hO c t).2.1 (ix2 r j) = val_main_v31 (F := Ideal) (b0 m c) (b1 m c) (b2 m c) (b3 m c) (b4 m c) (b5 m c) (ix2 (rowOf t r) (colOf t j)) ∧ (outsAt0 m hO c t).2.2.2 (ix2 r j) = val_main_v18 (F := Ideal) (b0 m c) (b1 m c) (b2 m c) (b5 m c) (ix2 (rowOf t r) (colOf t j)) := by
  unfold outsAt0
  dsimp only
  exact out_6 c (grid0.coords t) _ _ _ _ _ _ _ _ _ _ _ _ _ _ _ _ _ _ _ _ _ _ _ _ (me m c) (fun i => by obtain rfl : c = 0 := Subsingleton.elim _ _; exact table m 0 i)
    (b0 m c) (b1 m c) (b2 m c) (b3 m c) (b4 m c) (b5 m c) r (rowOf t r) j (colOf t j) rfl hl (blk1 m hO c hl t r j) (fun k => blk0 m hO c t k r j)
    (blk2 m hO c t r j) (blk3 m hO c t r j) (blk4 m hO c t r j)

/-- The array that ends holding the gradient. -/
theorem final_5 (hl : (me m c).toNat < 8) : (dats m hO 0 c).arrAt 5 (cfgM m hO).N = val_main_v7 (F := Ideal) (b0 m c) (b1 m c) (b2 m c) := by
  refine (dats m hO 0 c).arrAt_eq_of_cover 5 _ (fun t _ => ?_) fun (i : Shape.Idx S128x1024) => ?_
  · have hi := (idx_at t).2.2.2.1
    show ((cfgM m hO).win 5).cut (grid0.coords t) ((dats m hO 0 c).after 5 t) = _
    rw [after0_5]
    refine funext fun (i : Shape.Idx S32x1024) => ?_
    obtain ⟨r, j, rfl⟩ : ∃ r j, i = ix2 r j := ⟨i 0, i 1, by idx_vars i⟩
    refine (point_5 m hO c hl t r j).1.trans ?_
    show _ = val_main_v7 (F := Ideal) (b0 m c) (b1 m c) (b2 m c) ((((cfgM m hO).win 5).blk t).view.emb (ix2 r j))
    congr 1
    funext a
    apply Fin.ext
    match a with
    | ⟨0, _⟩ => show t.val * 32 + r.val = cc0_transform_5 (grid0.coords t) 0 * 32 + 1 * r.val; rw [hi.1]; omega
    | ⟨1, _⟩ => show j.val = cc0_transform_5 (grid0.coords t) 1 * 1024 + 1 * j.val; rw [hi.2]; omega
  · have h0 : (i 0 : Nat) < 128 := (i 0).isLt
    have h1 : (i 1 : Nat) < 1024 := (i 1).isLt
    obtain ⟨t, ht⟩ : ∃ t : Fin grid0.N, t.val = (i 0).val / 32 := ⟨⟨(i 0).val / 32, by show _ < 4; omega⟩, rfl⟩
    refine ⟨t, flush0_5 _ _, ?_⟩
    have hi := (idx_at t).2.2.2.1
    refine (Finset.ext_iff.mp (View.set_slice_whole main_v1_0 (((cfgM m hO).win 5).rect t)) i).mpr (Rect.mem_set_unit.mpr fun a => ?_)
    match a with
    | ⟨0, _⟩ => exact Cert.Tile.mem 32 (i 0) hi.1 (by omega)
    | ⟨1, _⟩ => exact Cert.Tile.mem 1024 (i 1) hi.2 (by omega)

/-- The array that ends holding the step. -/
theorem final_6 (hl : (me m c).toNat < 8) : (dats m hO 0 c).arrAt 6 (cfgM m hO).N = val_main_v31 (F := Ideal) (b0 m c) (b1 m c) (b2 m c) (b3 m c) (b4 m c) (b5 m c) := by
  refine (dats m hO 0 c).arrAt_eq_of_cover 6 _ (fun t _ => ?_) fun (i : Shape.Idx S128x1024) => ?_
  · have hi := (idx_at t).2.2.2.2.1
    show ((cfgM m hO).win 6).cut (grid0.coords t) ((dats m hO 0 c).after 6 t) = _
    rw [after0_6]
    refine funext fun (i : Shape.Idx S32x1024) => ?_
    obtain ⟨r, j, rfl⟩ : ∃ r j, i = ix2 r j := ⟨i 0, i 1, by idx_vars i⟩
    refine (point_6 m hO c hl t r j).1.trans ?_
    show _ = val_main_v31 (F := Ideal) (b0 m c) (b1 m c) (b2 m c) (b3 m c) (b4 m c) (b5 m c) ((((cfgM m hO).win 6).blk t).view.emb (ix2 r j))
    congr 1
    funext a
    apply Fin.ext
    match a with
    | ⟨0, _⟩ => show t.val * 32 + r.val = cc0_transform_6 (grid0.coords t) 0 * 32 + 1 * r.val; rw [hi.1]; omega
    | ⟨1, _⟩ => show j.val = cc0_transform_6 (grid0.coords t) 1 * 1024 + 1 * j.val; rw [hi.2]; omega
  · have h0 : (i 0 : Nat) < 128 := (i 0).isLt
    have h1 : (i 1 : Nat) < 1024 := (i 1).isLt
    obtain ⟨t, ht⟩ : ∃ t : Fin grid0.N, t.val = (i 0).val / 32 := ⟨⟨(i 0).val / 32, by show _ < 4; omega⟩, rfl⟩
    refine ⟨t, flush0_6 _ _, ?_⟩
    have hi := (idx_at t).2.2.2.2.1
    refine (Finset.ext_iff.mp (View.set_slice_whole main_v1_1 (((cfgM m hO).win 6).rect t)) i).mpr (Rect.mem_set_unit.mpr fun a => ?_)
    match a with
    | ⟨0, _⟩ => exact Cert.Tile.mem 32 (i 0) hi.1 (by omega)
    | ⟨1, _⟩ => exact Cert.Tile.mem 1024 (i 1) hi.2 (by omega)

/-- The array that ends holding the first moment. -/
theorem final_7 (hl : (me m c).toNat < 8) : (dats m hO 0 c).arrAt 7 (cfgM m hO).N = val_main_v12 (F := Ideal) (b0 m c) (b1 m c) (b2 m c) (b4 m c) := by
  refine (dats m hO 0 c).arrAt_eq_of_cover 7 _ (fun t _ => ?_) fun (i : Shape.Idx S128x1024) => ?_
  · have hi := (idx_at t).2.2.2.2.2.1
    show ((cfgM m hO).win 7).cut (grid0.coords t) ((dats m hO 0 c).after 7 t) = _
    rw [after0_7]
    refine funext fun (i : Shape.Idx S32x1024) => ?_
    obtain ⟨r, j, rfl⟩ : ∃ r j, i = ix2 r j := ⟨i 0, i 1, by idx_vars i⟩
    refine (point_5 m hO c hl t r j).2.trans ?_
    show _ = val_main_v12 (F := Ideal) (b0 m c) (b1 m c) (b2 m c) (b4 m c) ((((cfgM m hO).win 7).blk t).view.emb (ix2 r j))
    congr 1
    funext a
    apply Fin.ext
    match a with
    | ⟨0, _⟩ => show t.val * 32 + r.val = cc0_transform_7 (grid0.coords t) 0 * 32 + 1 * r.val; rw [hi.1]; omega
    | ⟨1, _⟩ => show j.val = cc0_transform_7 (grid0.coords t) 1 * 1024 + 1 * j.val; rw [hi.2]; omega
  · have h0 : (i 0 : Nat) < 128 := (i 0).isLt
    have h1 : (i 1 : Nat) < 1024 := (i 1).isLt
    obtain ⟨t, ht⟩ : ∃ t : Fin grid0.N, t.val = (i 0).val / 32 := ⟨⟨(i 0).val / 32, by show _ < 4; omega⟩, rfl⟩
    refine ⟨t, flush0_7 _ _, ?_⟩
    have hi := (idx_at t).2.2.2.2.2.1
    refine (Finset.ext_iff.mp (View.set_slice_whole main_v1_2 (((cfgM m hO).win 7).rect t)) i).mpr (Rect.mem_set_unit.mpr fun a => ?_)
    match a with
    | ⟨0, _⟩ => exact Cert.Tile.mem 32 (i 0) hi.1 (by omega)
    | ⟨1, _⟩ => exact Cert.Tile.mem 1024 (i 1) hi.2 (by omega)

/-- The array that ends holding the second moment. -/
theorem final_8 (hl : (me m c).toNat < 8) : (dats m hO 0 c).arrAt 8 (cfgM m hO).N = val_main_v18 (F := Ideal) (b0 m c) (b1 m c) (b2 m c) (b5 m c) := by
  refine (dats m hO 0 c).arrAt_eq_of_cover 8 _ (fun t _ => ?_) fun (i : Shape.Idx S128x1024) => ?_
  · have hi := (idx_at t).2.2.2.2.2.2
    show ((cfgM m hO).win 8).cut (grid0.coords t) ((dats m hO 0 c).after 8 t) = _
    rw [after0_8]
    refine funext fun (i : Shape.Idx S32x1024) => ?_
    obtain ⟨r, j, rfl⟩ : ∃ r j, i = ix2 r j := ⟨i 0, i 1, by idx_vars i⟩
    refine (point_6 m hO c hl t r j).2.trans ?_
    show _ = val_main_v18 (F := Ideal) (b0 m c) (b1 m c) (b2 m c) (b5 m c) ((((cfgM m hO).win 8).blk t).view.emb (ix2 r j))
    congr 1
    funext a
    apply Fin.ext
    match a with
    | ⟨0, _⟩ => show t.val * 32 + r.val = cc0_transform_8 (grid0.coords t) 0 * 32 + 1 * r.val; rw [hi.1]; omega
    | ⟨1, _⟩ => show j.val = cc0_transform_8 (grid0.coords t) 1 * 1024 + 1 * j.val; rw [hi.2]; omega
  · have h0 : (i 0 : Nat) < 128 := (i 0).isLt
    have h1 : (i 1 : Nat) < 1024 := (i 1).isLt
    obtain ⟨t, ht⟩ : ∃ t : Fin grid0.N, t.val = (i 0).val / 32 := ⟨⟨(i 0).val / 32, by show _ < 4; omega⟩, rfl⟩
    refine ⟨t, flush0_8 _ _, ?_⟩
    have hi := (idx_at t).2.2.2.2.2.2
    refine (Finset.ext_iff.mp (View.set_slice_whole main_v1_3 (((cfgM m hO).win 8).rect t)) i).mpr (Rect.mem_set_unit.mpr fun a => ?_)
    match a with
    | ⟨0, _⟩ => exact Cert.Tile.mem 32 (i 0) hi.1 (by omega)
    | ⟨1, _⟩ => exact Cert.Tile.mem 1024 (i 1) hi.2 (by omega)

/-- From memories that agree on the arguments, the owner a device of the eight, the kernel and the reference end with the same arrays. -/
theorem equal [Cert.Pre_owner_is_a_device28.Facts] : Cert.algebraic_Kernel28Ideal_Reference28Ideal := by
  intro m g m' g' hpre hargs
  have hO := Real.ok_of_pre m hpre
  have hl := Real.lt_of_pre m hpre
  refine ⟨fun c => val_main_v7 (F := Ideal) (b0 m c) (b1 m c) (b2 m c), fun c => val_main_v31 (F := Ideal) (b0 m c) (b1 m c) (b2 m c) (b3 m c) (b4 m c) (b5 m c), fun c => val_main_v12 (F := Ideal) (b0 m c) (b1 m c) (b2 m c) (b4 m c), fun c => val_main_v18 (F := Ideal) (b0 m c) (b1 m c) (b2 m c) (b5 m c), ?_, ?_⟩
  · refine (θ_run _ _ _).mono (fun r h c => ?_) (θ_run_and (Gen.unchanged (F := Ideal) m g hO) (Gen.run_main (F := Ideal) m g hO))
    exact ⟨((h.2 c).1 5).trans (final_5 m hO c (hl c)), ((h.2 c).1 6).trans (final_6 m hO c (hl c)), ((h.2 c).1 7).trans (final_7 m hO c (hl c)), ((h.2 c).1 8).trans (final_8 m hO c (hl c)), h.1 c⟩
  · refine (θ_run _ _ _).mono (fun r h c => ?_) (Cert.Reference28Ideal.Value.run (F := Ideal) m' g')
    obtain ⟨e0, e1, e2, e3, e4, e5⟩ := hargs c
    obtain ⟨h0, h1, h2, h3, h4⟩ := h c
    rw [val_main_v7_eq, e0, e1, e2] at h0
    rw [val_main_v31_eq, e0, e1, e2, e3, e4, e5] at h1
    rw [val_main_v12_eq, e0, e1, e2, e4] at h2
    rw [val_main_v18_eq, e0, e1, e2, e5] at h3
    exact ⟨h0, h1, h2, h3, h4⟩

end Cert.Call28

end
-- ==== Proof.Call29.lean ====
/- The optimiser on the key and value projection: each block of the call's four arrays is the reference's, the owner's own part read through the prefetched number. -/
module

public import proofs.«01_k».proof.Defs
public import proofs.«01_k».proof.Proof.Owner
public import proofs.«01_k».proof.Proof.Gen.Kernel29.Frame
public import proofs.«01_k».proof.Proof.Gen.Kernel29Ideal.Frame
public import proofs.«01_k».proof.Proof.Gen.Reference29Ideal.Read
public import Idealize.ShloMosaic.Lib.Pointwise
public import Idealize.ShloMosaic.Lib.Tactic
public import Idealize.ShloMosaic.Lib.Pipeline.Value
public import Idealize.ShloMosaic.Lib.Pipeline.ValueKit.Tiles
public import Idealize.ShloMosaic.PureOps.Ideal.Laws
public import proofs.«01_k».proof.Proof.Tile

@[expose] public section

noncomputable section

namespace Cert.Call29

open Idealize.ShloMosaic Idealize.ShloMosaic.TcCoe Idealize.SL.Sem Cert.Owner

namespace Exact

open Cert.Kernel29 Cert.Kernel29.Gen

section
variable {F : FTy → Type} [FloatOps F] (m : (ℓ : Loc nD τ sig) → Buf (Elt F) ℓ)

/-- The owner's number. -/
abbrev me (c : Dev nD) : BitVec 32 := m ((c : Thread nD τ).loc main_arg0) ix0

/-- The prefetched table holds the owner's number. -/
theorem table (c : Dev nD) (i : S1.Idx) : V m c main_v0 i = me m c := by
  have h : V m c main_v0 = shapeCast S1 (m ((c : Thread nD τ).loc main_arg0)) shapeCasts_S_S1 := by
    simp only [V, List.flatten_cons, List.flatten_nil, List.append_nil, List.cons_append, List.nil_append]
    after_results
    rfl
  rw [h]
  unfold shapeCast
  exact congrArg _ (funext fun a => a.elim0)

/-- Where the owner's window stands: at the owner's part and the point's block. -/
theorem owner_at (i : grid0.Coords) : cc0_transform_1 inb_S1_S1_0 numel1_S1 (tbl m) i = ![(me m 0).toNat, (i 0).val, (i 1).val] := by
  have h0 : (i 0).val < 4 := (i 0).isLt
  have h1 : (i 1).val < 1 := (i 1).isLt
  have e0 : (BitVec.ofNat 32 (i 0).val).toNat = (i 0).val := by rw [BitVec.toNat_ofNat]; omega
  have e1 : (BitVec.ofNat 32 (i 1).val).toNat = (i 1).val := by rw [BitVec.toNat_ofNat]; omega
  have hv : (tbl m).at 0 (Rect.unit (s := S1) ![0] S1.size inb_S1_S1_0) numel1_S1 = me m 0 := table m 0 _
  unfold cc0_transform_1
  dsimp only
  rw [hv, e0, e1]

/-- With the owner a device of the eight, the owner's window stays inside its array. -/
theorem ok_of (h : (me m 0).toNat < 8) : Ok m := by
  intro i
  have h0 : (i 0).val < 4 := (i 0).isLt
  have h1 : (i 1).val < 1 := (i 1).isLt
  refine ⟨fun a => ?_, .inr (Affine.block_words_dvd (of_decide_eq_true rfl) (by decide))⟩
  rw [owner_at]
  match a with
  | ⟨0, _⟩ => show ((me m 0).toNat + 1) * 1 ≤ 8; omega
  | ⟨1, _⟩ => show ((i 0).val + 1) * 256 ≤ 1024; omega
  | ⟨2, _⟩ => show ((i 1).val + 1) * 256 ≤ 256; omega

end

/-- The precondition gives the pipeline's side condition. -/
theorem ok_of_pre [Cert.Pre_owner_is_a_device29.Facts] (m : (ℓ : Loc nD τ sig) → Buf (Elt Bits) ℓ) (h : Cert.Pre_Kernel29 m) : Ok m :=
  ok_of m (owner_lt _ (congrFun (h 0) ix0))

end Exact

namespace Real

open Cert.Kernel29Ideal Cert.Kernel29Ideal.Gen

section
variable {F : FTy → Type} [FloatOps F] (m : (ℓ : Loc nD τ sig) → Buf (Elt F) ℓ)

/-- The owner's number. -/
abbrev me (c : Dev nD) : BitVec 32 := m ((c : Thread nD τ).loc main_arg0) ix0

/-- The prefetched table holds the owner's number. -/
theorem table (c : Dev nD) (i : S1.Idx) : V m c main_v0 i = me m c := by
  have h : V m c main_v0 = shapeCast S1 (m ((c : Thread nD τ).loc main_arg0)) shapeCasts_S_S1 := by
    simp only [V, List.flatten_cons, List.flatten_nil, List.append_nil, List.cons_append, List.nil_append]
    after_results
    rfl
  rw [h]
  unfold shapeCast
  exact congrArg _ (funext fun a => a.elim0)

/-- Where the owner's window stands: at the owner's part and the point's block. -/
theorem owner_at (i : grid0.Coords) : cc0_transform_1 inb_S1_S1_0 numel1_S1 (tbl m) i = ![(me m 0).toNat, (i 0).val, (i 1).val] := by
  have h0 : (i 0).val < 4 := (i 0).isLt
  have h1 : (i 1).val < 1 := (i 1).isLt
  have e0 : (BitVec.ofNat 32 (i 0).val).toNat = (i 0).val := by rw [BitVec.toNat_ofNat]; omega
  have e1 : (BitVec.ofNat 32 (i 1).val).toNat = (i 1).val := by rw [BitVec.toNat_ofNat]; omega
  have hv : (tbl m).at 0 (Rect.unit (s := S1) ![0] S1.size inb_S1_S1_0) numel1_S1 = me m 0 := table m 0 _
  unfold cc0_transform_1
  dsimp only
  rw [hv, e0, e1]

/-- With the owner a device of the eight, the owner's window stays inside its array. -/
theorem ok_of (h : (me m 0).toNat < 8) : Ok m := by
  intro i
  have h0 : (i 0).val < 4 := (i 0).isLt
  have h1 : (i 1).val < 1 := (i 1).isLt
  refine ⟨fun a => ?_, .inr (Affine.block_words_dvd (of_decide_eq_true rfl) (by decide))⟩
  rw [owner_at]
  match a with
  | ⟨0, _⟩ => show ((me m 0).toNat + 1) * 1 ≤ 8; omega
  | ⟨1, _⟩ => show ((i 0).val + 1) * 256 ≤ 1024; omega
  | ⟨2, _⟩ => show ((i 1).val + 1) * 256 ≤ 256; omega

end

/-- The precondition gives the pipeline's side condition. -/
theorem ok_of_pre [Cert.Pre_owner_is_a_device29.Facts] (m : (ℓ : Loc nD τ sig) → Buf (Elt Ideal) ℓ) (h : Cert.Pre_Kernel29Ideal m) : Ok m :=
  ok_of m (owner_lt _ (congrFun (h 0) ix0))

/-- The precondition bounds the owner's number. -/
theorem lt_of_pre [Cert.Pre_owner_is_a_device29.Facts] (m : (ℓ : Loc nD τ sig) → Buf (Elt Ideal) ℓ) (h : Cert.Pre_Kernel29Ideal m) (c : Dev nD) :
    (me m c).toNat < 8 := owner_lt _ (congrFun (h c) ix0)

end Real

open Cert.Kernel29Ideal Cert.Kernel29Ideal.Gen Cert.Call29.Real
open Cert.Reference29Ideal.Read

/-- One part of the block of parts, as the body loads it. -/
abbrev part (x : Vec Ideal S8x256x256 .bf16) (k : Fin 8) : Vec Ideal S1x256x256 .bf16 :=
  View.ld x (Rect.unit ![k.val, 0, 0] ![1, 256, 256] fun a => match a with
    | ⟨0, _⟩ => by show k.val + 1 ≤ 8; omega
    | ⟨1, _⟩ => by show 0 + 256 ≤ 256; omega
    | ⟨2, _⟩ => by show 0 + 256 ≤ 256; omega)

theorem part_eq (x : Vec Ideal S8x256x256 .bf16) (k : Fin 8) (r : Fin 256) (j : Fin 256) : part x k (ix3 0 r j) = x (ix3 k r j) := by
  refine View.ld_unit_apply_of x _ _ _ _ _ fun a => ?_
  match a with
  | ⟨0, _⟩ => show k.val = k.val + 0; omega
  | ⟨1, _⟩ => show r.val = 0 + r.val; omega
  | ⟨2, _⟩ => show j.val = 0 + j.val; omega

/-- The gradient: the sum over the devices of their parts, the owner's taken from its own copy. -/
theorem grad_eq (o : Vec Ideal S1x256x256 .bf16) (v : Fin 8 → Vec Ideal S1x256x256 .bf16) (u : BitVec 32)
    (x0 : IVec Cert.Reference29Ideal.S_ 32) (O P : FVec Ideal S8x1024x256 .bf16) (r : Fin 256) (R : Fin 1024) (j : Fin 256) (J : Fin 256)
    (hu : x0 ix0 = u) (hl : u.toNat < 8) (ho : o (ix3 0 r j) = O (ix3 ⟨u.toNat, hl⟩ R J)) (hv : ∀ k, v k (ix3 0 r j) = P (ix3 k R J)) :
    k0_pay5 (k0_pay3 o) (k0_pay4 o u (v 0) u (v 1) u (v 2) u (v 3)) (Scalar.cmpi .eq u 4#32) (v 4) u (v 5) u (v 6) u (v 7) (ix2 r j)
      = val_main_v7 (F := Ideal) x0 O P (ix2 R J) := by
  have key : ∀ k : Fin 8, Scalar.select (IntOp.cmpi .eq (BitVec.ofNat 32 k.val) u) (O (ix3 k R J)) (P (ix3 k R J))
      = Scalar.select (IntOp.cmpi .eq u (BitVec.ofNat 32 k.val)) (o (ix3 0 r j)) (P (ix3 k R J)) := by
    intro k
    rw [choose_eq, choose_eq, ho]
    by_cases h : u = BitVec.ofNat 32 k.val
    · have hk : (⟨u.toNat, hl⟩ : Fin 8) = k := by
        apply Fin.ext
        show u.toNat = k.val
        rw [h, BitVec.toNat_ofNat]
        have := k.isLt
        omega
      rw [if_pos h.symm, if_pos h, hk]
    · rw [if_neg (Ne.symm h), if_neg h]
  unfold k0_pay5 k0_pay4
  pointwise [k0_pay3, val_main_v0, val_main_v1, val_main_v2, val_main_v3, val_main_v4, val_main_v5, val_main_call0_v0, val_main_v6, val_main_cst, val_main_v7]
  rw [hu, Fin.sum_univ_eight]
  simp only [hv]
  rw [key, key, key, key, key, key, key, key]
  rfl

/-- The first moment after the step. -/
theorem first_eq (g : FVec Ideal S256x256 .f32) (q : Vec Ideal S256x256 .f32) (v2 v29 : FVec Ideal S256x256 .f32) (v31 : BitVec 1) (v32 : Vec Ideal S1x256x256 .bf16) (v37 : Elt Ideal .i32)
    (v39 : Vec Ideal S1x256x256 .bf16) (v44 : Elt Ideal .i32) (v46 : Vec Ideal S1x256x256 .bf16) (v51 : Elt Ideal .i32) (v53 : Vec Ideal S1x256x256 .bf16)
    (x0 : IVec Cert.Reference29Ideal.S_ 32) (O P : FVec Ideal S8x1024x256 .bf16) (U : FVec Ideal S1024x256 .f32) (r : Fin 256) (R : Fin 1024) (j : Fin 256) (J : Fin 256)
    (hg : k0_pay5 v2 v29 v31 v32 v37 v39 v44 v46 v51 v53 (ix2 r j) = val_main_v7 (F := Ideal) x0 O P (ix2 R J))
    (hq : q (ix2 r j) = U (ix2 R J)) :
    k0_pay6 v2 v29 v31 v32 v37 v39 v44 v46 v51 v53 q (ix2 r j) = val_main_v12 (F := Ideal) x0 O P U (ix2 R J) := by
  unfold k0_pay6 val_main_v12 val_main_v11
  generalize k0_pay5 v2 v29 v31 v32 v37 v39 v44 v46 v51 v53 = p at hg ⊢
  generalize val_main_v7 (F := Ideal) x0 O P = p' at hg ⊢
  pointwise [val_main_cst_0, val_main_v8, val_main_v9, val_main_cst_1, val_main_v10]
  rw [hg, hq]

/-- The second moment after the step. -/
theorem second_eq (g : FVec Ideal S256x256 .f32) (q : Vec Ideal S256x256 .f32)
    (x0 : IVec Cert.Reference29Ideal.S_ 32) (O P : FVec Ideal S8x1024x256 .bf16) (U : FVec Ideal S1024x256 .f32) (r : Fin 256) (R : Fin 1024) (j : Fin 256) (J : Fin 256)
    (hg : g (ix2 r j) = val_main_v7 (F := Ideal) x0 O P (ix2 R J)) (hq : q (ix2 r j) = U (ix2 R J)) :
    k0_pay1 g q (Scalar.ofBits .f32 0x3F7FBE77#32) (ix2 r j) = val_main_v18 (F := Ideal) x0 O P U (ix2 R J) := by
  unfold val_main_v18 val_main_v17 val_main_v15
  generalize val_main_v7 (F := Ideal) x0 O P = p' at hg ⊢
  pointwise [k0_pay1, val_main_cst_2, val_main_v13, val_main_v14, val_main_cst_3, val_main_v16]
  rw [hg, hq]

/-- The step taken by the weight. -/
theorem delta_eq (g u : FVec Ideal S256x256 .f32) (a q : Vec Ideal S256x256 .f32)
    (x0 : IVec Cert.Reference29Ideal.S_ 32) (O P : FVec Ideal S8x1024x256 .bf16) (W U Q : FVec Ideal S1024x256 .f32) (r : Fin 256) (R : Fin 1024) (j : Fin 256) (J : Fin 256)
    (hu : u (ix2 r j) = val_main_v12 (F := Ideal) x0 O P U (ix2 R J))
    (hg : k0_pay1 g q (Scalar.ofBits .f32 0x3F7FBE77#32) (ix2 r j) = val_main_v18 (F := Ideal) x0 O P Q (ix2 R J))
    (ha : a (ix2 r j) = W (ix2 R J)) :
    k0_pay2 g a u q (Scalar.ofBits .f32 0x3F7FBE77#32) (ix2 r j) = val_main_v31 (F := Ideal) x0 O P W U Q (ix2 R J) := by
  unfold k0_pay2 val_main_v31 val_main_v29 val_main_v26 val_main_v20 val_main_v25 val_main_v23 val_main_v22
  generalize k0_pay1 g q (Scalar.ofBits .f32 0x3F7FBE77#32) = p at hg ⊢
  generalize val_main_v12 (F := Ideal) x0 O P U = u' at hu ⊢
  generalize val_main_v18 (F := Ideal) x0 O P Q = p' at hg ⊢
  pointwise [val_main_cst_4, val_main_v19, val_main_cst_5, val_main_v21, val_main_cst_6, val_main_v24, val_main_cst_7, val_main_v27, val_main_v28, val_main_cst_8, val_main_v30]
  rw [hg, hu, ha]

section
variable (c : Dev nD) (i : grid0.Coords) (a3 : Memref sig .tc .vmem S8x256x256 .bf16) (h3 : a3.IsWhole) (a4 : Memref sig .tc .vmem S1x256x256 .bf16) (h4 : a4.IsWhole) (a5 : Memref sig .tc .vmem S256x256 .f32) (h5 : a5.IsWhole) (a6 : Memref sig .tc .vmem S256x256 .f32) (h6 : a6.IsWhole) (a7 : Memref sig .tc .vmem S256x256 .f32) (h7 : a7.IsWhole) (a8 : Memref sig .tc .vmem S256x256 .f32) (h8 : a8.IsWhole) (a9 : Memref sig .tc .vmem S256x256 .f32) (h9 : a9.IsWhole) (a10 : Memref sig .tc .vmem S256x256 .f32) (h10 : a10.IsWhole) (a11 : Memref sig .tc .vmem S256x256 .f32) (h11 : a11.IsWhole)
    (x0 : Vec Ideal S8x256x256 .bf16) (x1 : Vec Ideal S1x256x256 .bf16) (x2 x3 x4 : Vec Ideal S256x256 .f32) (xt : TbBuf0 (F := Ideal) c tbM0_0) (u : BitVec 32) (hx : ∀ i, View.read (Elt Ideal) (View.whole main_v0) xt i = u)
    (y0 : IVec Cert.Reference29Ideal.S_ 32) (O P : FVec Ideal S8x1024x256 .bf16) (W U Q : FVec Ideal S1024x256 .f32) (r : Fin 256) (R : Fin 1024) (j : Fin 256) (J : Fin 256)
    (hu : y0 ix0 = u) (hl : u.toNat < 8) (ho : x1 (ix3 0 r j) = O (ix3 ⟨u.toNat, hl⟩ R J)) (hp : ∀ k, x0 (ix3 k r j) = P (ix3 k R J))
    (hw : x2 (ix2 r j) = W (ix2 R J)) (hm : x3 (ix2 r j) = U (ix2 R J)) (hv : x4 (ix2 r j) = Q (ix2 R J))
include hx hu hl ho hp hw hm hv

/-- What the body leaves in the windows of the gradient and of the first moment, from blocks that are the arrays' at the point. -/
theorem out_5 : out0_A_5 c i a3 h3 a4 h4 a5 h5 a6 h6 a7 h7 a8 h8 a9 h9 a10 h10 a11 h11 x0 x1 x2 x3 x4 xt (ix2 r j) = val_main_v7 (F := Ideal) y0 O P (ix2 R J) ∧ out0_A_7 c i a3 h3 a4 h4 a5 h5 a6 h6 a7 h7 a8 h8 a9 h9 a10 h10 a11 h11 x0 x1 x2 x3 x4 xt (ix2 r j) = val_main_v12 (F := Ideal) y0 O P U (ix2 R J) := by
  have hg := grad_eq x1 (part x0) u y0 O P r R j J hu hl ho fun k => (part_eq x0 k r j).trans (hp k)
  have h1 := first_eq x2 x3 _ _ _ _ _ _ _ _ _ _ y0 O P U r R j J hg hm
  unfold out0_A_5 out0_A_7
  rw [View.read_writes_eq_canon _ _ _ (cover0_A_5 c i a3 h3 a4 h4 a5 h5 a6 h6 a7 h7 a8 h8 a9 h9 a10 h10 a11 h11 x0 x1 x2 x3 x4 xt), View.read_writes_eq_canon _ _ _ (cover0_A_7 c i a3 h3 a4 h4 a5 h5 a6 h6 a7 h7 a8 h8 a9 h9 a10 h10 a11 h11 x0 x1 x2 x3 x4 xt)]
  unfold kernelRun0_A
  dsimp only
  sl_unfold_words
  constructor
  all_goals
    rw [View.canon_unit_zero hz]
    simp only [View.readAt_eq_ld, h3.read_unread, h4.read_unread, h5.read_unread, h6.read_unread, h7.read_unread, View.ld_unit_zero (S := S1x256x256) hz3, View.ld_unit_zero (S := S256x256) hz]
    simp only [View.ld, hx]
  exacts [hg, h1]

/-- What the body leaves in the windows of the step and of the second moment, from blocks that are the arrays' at the point. -/
theorem out_6 : out0_A_6 c i a3 h3 a4 h4 a5 h5 a6 h6 a7 h7 a8 h8 a9 h9 a10 h10 a11 h11 x0 x1 x2 x3 x4 xt (ix2 r j) = val_main_v31 (F := Ideal) y0 O P W U Q (ix2 R J) ∧ out0_A_8 c i a3 h3 a4 h4 a5 h5 a6 h6 a7 h7 a8 h8 a9 h9 a10 h10 a11 h11 x0 x1 x2 x3 x4 xt (ix2 r j) = val_main_v18 (F := Ideal) y0 O P Q (ix2 R J) := by
  have hg := grad_eq x1 (part x0) u y0 O P r R j J hu hl ho fun k => (part_eq x0 k r j).trans (hp k)
  have h1 := first_eq x2 x3 _ _ _ _ _ _ _ _ _ _ y0 O P U r R j J hg hm
  have h2 := second_eq _ x4 y0 O P Q r R j J hg hv
  unfold out0_A_6 out0_A_8
  rw [View.read_writes_eq_canon _ _ _ (cover0_A_6 c i a3 h3 a4 h4 a5 h5 a6 h6 a7 h7 a8 h8 a9 h9 a10 h10 a11 h11 x0 x1 x2 x3 x4 xt), View.read_writes_eq_canon _ _ _ (cover0_A_8 c i a3 h3 a4 h4 a5 h5 a6 h6 a7 h7 a8 h8 a9 h9 a10 h10 a11 h11 x0 x1 x2 x3 x4 xt)]
  unfold kernelRun0_A
  dsimp only
  sl_unfold_words
  constructor
  all_goals
    rw [View.canon_unit_zero hz]
    simp only [View.readAt_eq_ld, h3.read_unread, h4.read_unread, h5.read_unread, h6.read_unread, h7.read_unread, View.ld_unit_zero (S := S1x256x256) hz3, View.ld_unit_zero (S := S256x256) hz]
    simp only [View.ld, hx]
  exacts [delta_eq _ _ x2 x4 y0 O P W U Q r R j J h1 h2 hw, h2]

end

variable (m : (ℓ : Loc nD τ sig) → Buf (Elt Ideal) ℓ) (hO : Ok m) (c : Dev nD)

/-- The owner's number at launch. -/
abbrev b0 : IVec S_ 32 := m ((c : Thread nD τ).loc main_arg0)

/-- The owner's own parts at launch. -/
abbrev b1 : FVec Ideal S8x1024x256 .bf16 := m ((c : Thread nD τ).loc main_arg1)

/-- The parts received at launch. -/
abbrev b2 : FVec Ideal S8x1024x256 .bf16 := m ((c : Thread nD τ).loc main_arg2)

/-- The weight at launch. -/
abbrev b3 : FVec Ideal S1024x256 .f32 := m ((c : Thread nD τ).loc main_arg3)

/-- The first moment at launch. -/
abbrev b4 : FVec Ideal S1024x256 .f32 := m ((c : Thread nD τ).loc main_arg4)

/-- The second moment at launch. -/
abbrev b5 : FVec Ideal S1024x256 .f32 := m ((c : Thread nD τ).loc main_arg5)

theorem tlt (t : Fin grid0.N) : t.val < 4 := t.isLt

/-- The row of the array that row `r` of point `t`'s block is. -/
abbrev rowOf (t : Fin grid0.N) (r : Fin 256) : Fin 1024 := ⟨t.val * 256 + r.val, by have := tlt t; have := r.isLt; omega⟩

/-- The column of the array that column `j` of point `t`'s block is. -/
abbrev colOf (t : Fin grid0.N) (j : Fin 256) : Fin 256 := j

/-- The points' coordinates. -/
theorem coords_at : ∀ t : Fin grid0.N, (grid0.coords t 0).val = t.val ∧ (grid0.coords t 1).val = 0 := by decide +kernel

/-- Where the windows that read no table stand at each point. -/
theorem parts_at : ∀ t : Fin grid0.N, cc0_transform_0 (grid0.coords t) 0 = 0 ∧ cc0_transform_0 (grid0.coords t) 1 = t.val ∧ cc0_transform_0 (grid0.coords t) 2 = 0 := by decide +kernel

theorem idx_at : ∀ t : Fin grid0.N, (cc0_transform_2 (grid0.coords t) 0 = t.val ∧ cc0_transform_2 (grid0.coords t) 1 = 0) ∧ (cc0_transform_3 (grid0.coords t) 0 = t.val ∧ cc0_transform_3 (grid0.coords t) 1 = 0) ∧ (cc0_transform_4 (grid0.coords t) 0 = t.val ∧ cc0_transform_4 (grid0.coords t) 1 = 0) ∧ (cc0_transform_5 (grid0.coords t) 0 = t.val ∧ cc0_transform_5 (grid0.coords t) 1 = 0) ∧ (cc0_transform_6 (grid0.coords t) 0 = t.val ∧ cc0_transform_6 (grid0.coords t) 1 = 0) ∧ (cc0_transform_7 (grid0.coords t) 0 = t.val ∧ cc0_transform_7 (grid0.coords t) 1 = 0) ∧ (cc0_transform_8 (grid0.coords t) 0 = t.val ∧ cc0_transform_8 (grid0.coords t) 1 = 0) := by decide +kernel

/-- The block of the parts received at a point. -/
theorem blk0 (t : Fin grid0.N) (k : Fin 8) (r : Fin 256) (j : Fin 256) : iblk m hO c 0 t (ix3 k r j) = b2 m c (ix3 k (rowOf t r) (colOf t j)) := by
  have hi := parts_at t
  refine (congrFun (V_main_arg2 m c) _).trans (congrArg (b2 m c) (funext fun a => Fin.ext ?_))
  match a with
  | ⟨0, _⟩ => show cc0_transform_0 (grid0.coords t) 0 * 8 + 1 * k.val = k.val; rw [hi.1]; omega
  | ⟨1, _⟩ => show cc0_transform_0 (grid0.coords t) 1 * 256 + 1 * r.val = t.val * 256 + r.val; rw [hi.2.1]; omega
  | ⟨2, _⟩ => show cc0_transform_0 (grid0.coords t) 2 * 256 + 1 * j.val = j.val; rw [hi.2.2]; omega

/-- The block of the owner's own part at a point. -/
theorem blk1 (hl : (me m c).toNat < 8) (t : Fin grid0.N) (r : Fin 256) (j : Fin 256) :
    iblk m hO c 1 t (ix3 0 r j) = b1 m c (ix3 ⟨(me m c).toNat, hl⟩ (rowOf t r) (colOf t j)) := by
  obtain rfl : c = 0 := Subsingleton.elim _ _
  have hi := coords_at t
  have e := owner_at m (grid0.coords t)
  refine (congrFun (V_main_arg1 m 0) _).trans (congrArg (b1 m 0) (funext fun a => Fin.ext ?_))
  match a with
  | ⟨0, _⟩ => show cc0_transform_1 inb_S1_S1_0 numel1_S1 (tbl m) (grid0.coords t) 0 * 1 + 1 * 0 = (me m 0).toNat; rw [e]; show (me m 0).toNat * 1 + 1 * 0 = _; omega
  | ⟨1, _⟩ => show cc0_transform_1 inb_S1_S1_0 numel1_S1 (tbl m) (grid0.coords t) 1 * 256 + 1 * r.val = t.val * 256 + r.val; rw [e]; show (grid0.coords t 0).val * 256 + 1 * r.val = _; rw [hi.1]; omega
  | ⟨2, _⟩ => show cc0_transform_1 inb_S1_S1_0 numel1_S1 (tbl m) (grid0.coords t) 2 * 256 + 1 * j.val = j.val; rw [e]; show (grid0.coords t 1).val * 256 + 1 * j.val = _; rw [hi.2]; omega

theorem blk2 (t : Fin grid0.N) (r : Fin 256) (j : Fin 256) : iblk m hO c 2 t (ix2 r j) = b3 m c (ix2 (rowOf t r) (colOf t j)) := by
  have hi := (idx_at t).1
  refine (congrFun (V_main_arg3 m c) _).trans (congrArg (b3 m c) (funext fun a => Fin.ext ?_))
  match a with
  | ⟨0, _⟩ => show cc0_transform_2 (grid0.coords t) 0 * 256 + 1 * r.val = t.val * 256 + r.val; rw [hi.1]; omega
  | ⟨1, _⟩ => show cc0_transform_2 (grid0.coords t) 1 * 256 + 1 * j.val = j.val; rw [hi.2]; omega

theorem blk3 (t : Fin grid0.N) (r : Fin 256) (j : Fin 256) : iblk m hO c 3 t (ix2 r j) = b4 m c (ix2 (rowOf t r) (colOf t j)) := by
  have hi := (idx_at t).2.1
  refine (congrFun (V_main_arg4 m c) _).trans (congrArg (b4 m c) (funext fun a => Fin.ext ?_))
  match a with
  | ⟨0, _⟩ => show cc0_transform_3 (grid0.coords t) 0 * 256 + 1 * r.val = t.val * 256 + r.val; rw [hi.1]; omega
  | ⟨1, _⟩ => show cc0_transform_3 (grid0.coords t) 1 * 256 + 1 * j.val = j.val; rw [hi.2]; omega

theorem blk4 (t : Fin grid0.N) (r : Fin 256) (j : Fin 256) : iblk m hO c 4 t (ix2 r j) = b5 m c (ix2 (rowOf t r) (colOf t j)) := by
  have hi := (idx_at t).2.2.1
  refine (congrFun (V_main_arg5 m c) _).trans (congrArg (b5 m c) (funext fun a => Fin.ext ?_))
  match a with
  | ⟨0, _⟩ => show cc0_transform_4 (grid0.coords t) 0 * 256 + 1 * r.val = t.val * 256 + r.val; rw [hi.1]; omega
  | ⟨1, _⟩ => show cc0_transform_4 (grid0.coords t) 1 * 256 + 1 * j.val = j.val; rw [hi.2]; omega

/-- What point `t` leaves in the windows of the gradient and of the first moment. -/
theorem point_5 (hl : (me m c).toNat < 8) (t : Fin grid0.N) (r : Fin 256) (j : Fin 256) :
    (outsAt0 m hO c t).1 (ix2 r j) = val_main_v7 (F := Ideal) (b0 m c) (b1 m c) (b2 m c) (ix2 (rowOf t r) (colOf t j)) ∧ (outsAt0 m hO c t).2.2.1 (ix2 r j) = val_main_v12 (F := Ideal) (b0 m c) (b1 m c) (b2 m c) (b4 m c) (ix2 (rowOf t r) (colOf t j)) := by
  unfold outsAt0
  dsimp only
  exact out_5 c (grid0.coords t) _ _ _ _ _ _ _ _ _ _ _ _ _ _ _ _ _ _ _ _ _ _ _ _ (me m c) (fun i => by obtain rfl : c = 0 := Subsingleton.elim _ _; exact table m 0 i)
    (b0 m c) (b1 m c) (b2 m c) (b3 m c) (b4 m c) (b5 m c) r (rowOf t r) j (colOf t j) rfl hl (blk1 m hO c hl t r j) (fun k => blk0 m hO c t k r j)
    (blk2 m hO c t r j) (blk3 m hO c t r j) (blk4 m hO c t r j)

/-- What point `t` leaves in the windows of the step and of the second moment. -/
theorem point_6 (hl : (me m c).toNat < 8) (t : Fin grid0.N) (r : Fin 256) (j : Fin 256) :
    (outsAt0 m hO c t).2.1 (ix2 r j) = val_main_v31 (F := Ideal) (b0 m c) (b1 m c) (b2 m c) (b3 m c) (b4 m c) (b5 m c) (ix2 (rowOf t r) (colOf t j)) ∧ (outsAt0 m hO c t).2.2.2 (ix2 r j) = val_main_v18 (F := Ideal) (b0 m c) (b1 m c) (b2 m c) (b5 m c) (ix2 (rowOf t r) (colOf t j)) := by
  unfold outsAt0
  dsimp only
  exact out_6 c (grid0.coords t) _ _ _ _ _ _ _ _ _ _ _ _ _ _ _ _ _ _ _ _ _ _ _ _ (me m c) (fun i => by obtain rfl : c = 0 := Subsingleton.elim _ _; exact table m 0 i)
    (b0 m c) (b1 m c) (b2 m c) (b3 m c) (b4 m c) (b5 m c) r (rowOf t r) j (colOf t j) rfl hl (blk1 m hO c hl t r j) (fun k => blk0 m hO c t k r j)
    (blk2 m hO c t r j) (blk3 m hO c t r j) (blk4 m hO c t r j)

/-- The array that ends holding the gradient. -/
theorem final_5 (hl : (me m c).toNat < 8) : (dats m hO 0 c).arrAt 5 (cfgM m hO).N = val_main_v7 (F := Ideal) (b0 m c) (b1 m c) (b2 m c) := by
  refine (dats m hO 0 c).arrAt_eq_of_cover 5 _ (fun t _ => ?_) fun (i : Shape.Idx S1024x256) => ?_
  · have hi := (idx_at t).2.2.2.1
    show ((cfgM m hO).win 5).cut (grid0.coords t) ((dats m hO 0 c).after 5 t) = _
    rw [after0_5]
    refine funext fun (i : Shape.Idx S256x256) => ?_
    obtain ⟨r, j, rfl⟩ : ∃ r j, i = ix2 r j := ⟨i 0, i 1, by idx_vars i⟩
    refine (point_5 m hO c hl t r j).1.trans ?_
    show _ = val_main_v7 (F := Ideal) (b0 m c) (b1 m c) (b2 m c) ((((cfgM m hO).win 5).blk t).view.emb (ix2 r j))
    congr 1
    funext a
    apply Fin.ext
    match a with
    | ⟨0, _⟩ => show t.val * 256 + r.val = cc0_transform_5 (grid0.coords t) 0 * 256 + 1 * r.val; rw [hi.1]; omega
    | ⟨1, _⟩ => show j.val = cc0_transform_5 (grid0.coords t) 1 * 256 + 1 * j.val; rw [hi.2]; omega
  · have h0 : (i 0 : Nat) < 1024 := (i 0).isLt
    have h1 : (i 1 : Nat) < 256 := (i 1).isLt
    obtain ⟨t, ht⟩ : ∃ t : Fin grid0.N, t.val = (i 0).val / 256 := ⟨⟨(i 0).val / 256, by show _ < 4; omega⟩, rfl⟩
    refine ⟨t, flush0_5 _ _, ?_⟩
    have hi := (idx_at t).2.2.2.1
    refine (Finset.ext_iff.mp (View.set_slice_whole main_v1_0 (((cfgM m hO).win 5).rect t)) i).mpr (Rect.mem_set_unit.mpr fun a => ?_)
    match a with
    | ⟨0, _⟩ => exact Cert.Tile.mem 256 (i 0) hi.1 (by omega)
    | ⟨1, _⟩ => exact Cert.Tile.mem 256 (i 1) hi.2 (by omega)

/-- The array that ends holding the step. -/
theorem final_6 (hl : (me m c).toNat < 8) : (dats m hO 0 c).arrAt 6 (cfgM m hO).N = val_main_v31 (F := Ideal) (b0 m c) (b1 m c) (b2 m c) (b3 m c) (b4 m c) (b5 m c) := by
  refine (dats m hO 0 c).arrAt_eq_of_cover 6 _ (fun t _ => ?_) fun (i : Shape.Idx S1024x256) => ?_
  · have hi := (idx_at t).2.2.2.2.1
    show ((cfgM m hO).win 6).cut (grid0.coords t) ((dats m hO 0 c).after 6 t) = _
    rw [after0_6]
    refine funext fun (i : Shape.Idx S256x256) => ?_
    obtain ⟨r, j, rfl⟩ : ∃ r j, i = ix2 r j := ⟨i 0, i 1, by idx_vars i⟩
    refine (point_6 m hO c hl t r j).1.trans ?_
    show _ = val_main_v31 (F := Ideal) (b0 m c) (b1 m c) (b2 m c) (b3 m c) (b4 m c) (b5 m c) ((((cfgM m hO).win 6).blk t).view.emb (ix2 r j))
    congr 1
    funext a
    apply Fin.ext
    match a with
    | ⟨0, _⟩ => show t.val * 256 + r.val = cc0_transform_6 (grid0.coords t) 0 * 256 + 1 * r.val; rw [hi.1]; omega
    | ⟨1, _⟩ => show j.val = cc0_transform_6 (grid0.coords t) 1 * 256 + 1 * j.val; rw [hi.2]; omega
  · have h0 : (i 0 : Nat) < 1024 := (i 0).isLt
    have h1 : (i 1 : Nat) < 256 := (i 1).isLt
    obtain ⟨t, ht⟩ : ∃ t : Fin grid0.N, t.val = (i 0).val / 256 := ⟨⟨(i 0).val / 256, by show _ < 4; omega⟩, rfl⟩
    refine ⟨t, flush0_6 _ _, ?_⟩
    have hi := (idx_at t).2.2.2.2.1
    refine (Finset.ext_iff.mp (View.set_slice_whole main_v1_1 (((cfgM m hO).win 6).rect t)) i).mpr (Rect.mem_set_unit.mpr fun a => ?_)
    match a with
    | ⟨0, _⟩ => exact Cert.Tile.mem 256 (i 0) hi.1 (by omega)
    | ⟨1, _⟩ => exact Cert.Tile.mem 256 (i 1) hi.2 (by omega)

/-- The array that ends holding the first moment. -/
theorem final_7 (hl : (me m c).toNat < 8) : (dats m hO 0 c).arrAt 7 (cfgM m hO).N = val_main_v12 (F := Ideal) (b0 m c) (b1 m c) (b2 m c) (b4 m c) := by
  refine (dats m hO 0 c).arrAt_eq_of_cover 7 _ (fun t _ => ?_) fun (i : Shape.Idx S1024x256) => ?_
  · have hi := (idx_at t).2.2.2.2.2.1
    show ((cfgM m hO).win 7).cut (grid0.coords t) ((dats m hO 0 c).after 7 t) = _
    rw [after0_7]
    refine funext fun (i : Shape.Idx S256x256) => ?_
    obtain ⟨r, j, rfl⟩ : ∃ r j, i = ix2 r j := ⟨i 0, i 1, by idx_vars i⟩
    refine (point_5 m hO c hl t r j).2.trans ?_
    show _ = val_main_v12 (F := Ideal) (b0 m c) (b1 m c) (b2 m c) (b4 m c) ((((cfgM m hO).win 7).blk t).view.emb (ix2 r j))
    congr 1
    funext a
    apply Fin.ext
    match a with
    | ⟨0, _⟩ => show t.val * 256 + r.val = cc0_transform_7 (grid0.coords t) 0 * 256 + 1 * r.val; rw [hi.1]; omega
    | ⟨1, _⟩ => show j.val = cc0_transform_7 (grid0.coords t) 1 * 256 + 1 * j.val; rw [hi.2]; omega
  · have h0 : (i 0 : Nat) < 1024 := (i 0).isLt
    have h1 : (i 1 : Nat) < 256 := (i 1).isLt
    obtain ⟨t, ht⟩ : ∃ t : Fin grid0.N, t.val = (i 0).val / 256 := ⟨⟨(i 0).val / 256, by show _ < 4; omega⟩, rfl⟩
    refine ⟨t, flush0_7 _ _, ?_⟩
    have hi := (idx_at t).2.2.2.2.2.1
    refine (Finset.ext_iff.mp (View.set_slice_whole main_v1_2 (((cfgM m hO).win 7).rect t)) i).mpr (Rect.mem_set_unit.mpr fun a => ?_)
    match a with
    | ⟨0, _⟩ => exact Cert.Tile.mem 256 (i 0) hi.1 (by omega)
    | ⟨1, _⟩ => exact Cert.Tile.mem 256 (i 1) hi.2 (by omega)

/-- The array that ends holding the second moment. -/
theorem final_8 (hl : (me m c).toNat < 8) : (dats m hO 0 c).arrAt 8 (cfgM m hO).N = val_main_v18 (F := Ideal) (b0 m c) (b1 m c) (b2 m c) (b5 m c) := by
  refine (dats m hO 0 c).arrAt_eq_of_cover 8 _ (fun t _ => ?_) fun (i : Shape.Idx S1024x256) => ?_
  · have hi := (idx_at t).2.2.2.2.2.2
    show ((cfgM m hO).win 8).cut (grid0.coords t) ((dats m hO 0 c).after 8 t) = _
    rw [after0_8]
    refine funext fun (i : Shape.Idx S256x256) => ?_
    obtain ⟨r, j, rfl⟩ : ∃ r j, i = ix2 r j := ⟨i 0, i 1, by idx_vars i⟩
    refine (point_6 m hO c hl t r j).2.trans ?_
    show _ = val_main_v18 (F := Ideal) (b0 m c) (b1 m c) (b2 m c) (b5 m c) ((((cfgM m hO).win 8).blk t).view.emb (ix2 r j))
    congr 1
    funext a
    apply Fin.ext
    match a with
    | ⟨0, _⟩ => show t.val * 256 + r.val = cc0_transform_8 (grid0.coords t) 0 * 256 + 1 * r.val; rw [hi.1]; omega
    | ⟨1, _⟩ => show j.val = cc0_transform_8 (grid0.coords t) 1 * 256 + 1 * j.val; rw [hi.2]; omega
  · have h0 : (i 0 : Nat) < 1024 := (i 0).isLt
    have h1 : (i 1 : Nat) < 256 := (i 1).isLt
    obtain ⟨t, ht⟩ : ∃ t : Fin grid0.N, t.val = (i 0).val / 256 := ⟨⟨(i 0).val / 256, by show _ < 4; omega⟩, rfl⟩
    refine ⟨t, flush0_8 _ _, ?_⟩
    have hi := (idx_at t).2.2.2.2.2.2
    refine (Finset.ext_iff.mp (View.set_slice_whole main_v1_3 (((cfgM m hO).win 8).rect t)) i).mpr (Rect.mem_set_unit.mpr fun a => ?_)
    match a with
    | ⟨0, _⟩ => exact Cert.Tile.mem 256 (i 0) hi.1 (by omega)
    | ⟨1, _⟩ => exact Cert.Tile.mem 256 (i 1) hi.2 (by omega)

/-- From memories that agree on the arguments, the owner a device of the eight, the kernel and the reference end with the same arrays. -/
theorem equal [Cert.Pre_owner_is_a_device29.Facts] : Cert.algebraic_Kernel29Ideal_Reference29Ideal := by
  intro m g m' g' hpre hargs
  have hO := Real.ok_of_pre m hpre
  have hl := Real.lt_of_pre m hpre
  refine ⟨fun c => val_main_v7 (F := Ideal) (b0 m c) (b1 m c) (b2 m c), fun c => val_main_v31 (F := Ideal) (b0 m c) (b1 m c) (b2 m c) (b3 m c) (b4 m c) (b5 m c), fun c => val_main_v12 (F := Ideal) (b0 m c) (b1 m c) (b2 m c) (b4 m c), fun c => val_main_v18 (F := Ideal) (b0 m c) (b1 m c) (b2 m c) (b5 m c), ?_, ?_⟩
  · refine (θ_run _ _ _).mono (fun r h c => ?_) (θ_run_and (Gen.unchanged (F := Ideal) m g hO) (Gen.run_main (F := Ideal) m g hO))
    exact ⟨((h.2 c).1 5).trans (final_5 m hO c (hl c)), ((h.2 c).1 6).trans (final_6 m hO c (hl c)), ((h.2 c).1 7).trans (final_7 m hO c (hl c)), ((h.2 c).1 8).trans (final_8 m hO c (hl c)), h.1 c⟩
  · refine (θ_run _ _ _).mono (fun r h c => ?_) (Cert.Reference29Ideal.Value.run (F := Ideal) m' g')
    obtain ⟨e0, e1, e2, e3, e4, e5⟩ := hargs c
    obtain ⟨h0, h1, h2, h3, h4⟩ := h c
    rw [val_main_v7_eq, e0, e1, e2] at h0
    rw [val_main_v31_eq, e0, e1, e2, e3, e4, e5] at h1
    rw [val_main_v12_eq, e0, e1, e2, e4] at h2
    rw [val_main_v18_eq, e0, e1, e2, e5] at h3
    exact ⟨h0, h1, h2, h3, h4⟩

end Cert.Call29

end
-- ==== Proof.Call30.lean ====
/- The optimiser on the gate projection: each block of the call's four arrays is the reference's, the owner's own part read through the prefetched number. -/
module

public import proofs.«01_k».proof.Defs
public import proofs.«01_k».proof.Proof.Owner
public import proofs.«01_k».proof.Proof.Gen.Kernel30.Frame
public import proofs.«01_k».proof.Proof.Gen.Kernel30Ideal.Frame
public import proofs.«01_k».proof.Proof.Gen.Reference30Ideal.Read
public import Idealize.ShloMosaic.Lib.Pointwise
public import Idealize.ShloMosaic.Lib.Tactic
public import Idealize.ShloMosaic.Lib.Pipeline.Value
public import Idealize.ShloMosaic.Lib.Pipeline.ValueKit.Tiles
public import Idealize.ShloMosaic.PureOps.Ideal.Laws
public import proofs.«01_k».proof.Proof.Tile

@[expose] public section

noncomputable section

namespace Cert.Call30

open Idealize.ShloMosaic Idealize.ShloMosaic.TcCoe Idealize.SL.Sem Cert.Owner

namespace Exact

open Cert.Kernel30 Cert.Kernel30.Gen

section
variable {F : FTy → Type} [FloatOps F] (m : (ℓ : Loc nD τ sig) → Buf (Elt F) ℓ)

/-- The owner's number. -/
abbrev me (c : Dev nD) : BitVec 32 := m ((c : Thread nD τ).loc main_arg0) ix0

/-- The prefetched table holds the owner's number. -/
theorem table (c : Dev nD) (i : S1.Idx) : V m c main_v0 i = me m c := by
  have h : V m c main_v0 = shapeCast S1 (m ((c : Thread nD τ).loc main_arg0)) shapeCasts_S_S1 := by
    simp only [V, List.flatten_cons, List.flatten_nil, List.append_nil, List.cons_append, List.nil_append]
    after_results
    rfl
  rw [h]
  unfold shapeCast
  exact congrArg _ (funext fun a => a.elim0)

/-- Where the owner's window stands: at the owner's part and the point's block. -/
theorem owner_at (i : grid0.Coords) : cc0_transform_1 inb_S1_S1_0 numel1_S1 (tbl m) i = ![(me m 0).toNat, (i 0).val, (i 1).val] := by
  have h0 : (i 0).val < 11 := (i 0).isLt
  have h1 : (i 1).val < 1 := (i 1).isLt
  have e0 : (BitVec.ofNat 32 (i 0).val).toNat = (i 0).val := by rw [BitVec.toNat_ofNat]; omega
  have e1 : (BitVec.ofNat 32 (i 1).val).toNat = (i 1).val := by rw [BitVec.toNat_ofNat]; omega
  have hv : (tbl m).at 0 (Rect.unit (s := S1) ![0] S1.size inb_S1_S1_0) numel1_S1 = me m 0 := table m 0 _
  unfold cc0_transform_1
  dsimp only
  rw [hv, e0, e1]

/-- With the owner a device of the eight, the owner's window stays inside its array. -/
theorem ok_of (h : (me m 0).toNat < 8) : Ok m := by
  intro i
  have h0 : (i 0).val < 11 := (i 0).isLt
  have h1 : (i 1).val < 1 := (i 1).isLt
  refine ⟨fun a => ?_, .inr (Affine.block_words_dvd (of_decide_eq_true rfl) (by decide))⟩
  rw [owner_at]
  match a with
  | ⟨0, _⟩ => show ((me m 0).toNat + 1) * 1 ≤ 8; omega
  | ⟨1, _⟩ => show ((i 0).val + 1) * 32 ≤ 352; omega
  | ⟨2, _⟩ => show ((i 1).val + 1) * 1024 ≤ 1024; omega

end

/-- The precondition gives the pipeline's side condition. -/
theorem ok_of_pre [Cert.Pre_owner_is_a_device30.Facts] (m : (ℓ : Loc nD τ sig) → Buf (Elt Bits) ℓ) (h : Cert.Pre_Kernel30 m) : Ok m :=
  ok_of m (owner_lt _ (congrFun (h 0) ix0))

end Exact

namespace Real

open Cert.Kernel30Ideal Cert.Kernel30Ideal.Gen

section
variable {F : FTy → Type} [FloatOps F] (m : (ℓ : Loc nD τ sig) → Buf (Elt F) ℓ)

/-- The owner's number. -/
abbrev me (c : Dev nD) : BitVec 32 := m ((c : Thread nD τ).loc main_arg0) ix0

/-- The prefetched table holds the owner's number. -/
theorem table (c : Dev nD) (i : S1.Idx) : V m c main_v0 i = me m c := by
  have h : V m c main_v0 = shapeCast S1 (m ((c : Thread nD τ).loc main_arg0)) shapeCasts_S_S1 := by
    simp only [V, List.flatten_cons, List.flatten_nil, List.append_nil, List.cons_append, List.nil_append]
    after_results
    rfl
  rw [h]
  unfold shapeCast
  exact congrArg _ (funext fun a => a.elim0)

/-- Where the owner's window stands: at the owner's part and the point's block. -/
theorem owner_at (i : grid0.Coords) : cc0_transform_1 inb_S1_S1_0 numel1_S1 (tbl m) i = ![(me m 0).toNat, (i 0).val, (i 1).val] := by
  have h0 : (i 0).val < 11 := (i 0).isLt
  have h1 : (i 1).val < 1 := (i 1).isLt
  have e0 : (BitVec.ofNat 32 (i 0).val).toNat = (i 0).val := by rw [BitVec.toNat_ofNat]; omega
  have e1 : (BitVec.ofNat 32 (i 1).val).toNat = (i 1).val := by rw [BitVec.toNat_ofNat]; omega
  have hv : (tbl m).at 0 (Rect.unit (s := S1) ![0] S1.size inb_S1_S1_0) numel1_S1 = me m 0 := table m 0 _
  unfold cc0_transform_1
  dsimp only
  rw [hv, e0, e1]

/-- With the owner a device of the eight, the owner's window stays inside its array. -/
theorem ok_of (h : (me m 0).toNat < 8) : Ok m := by
  intro i
  have h0 : (i 0).val < 11 := (i 0).isLt
  have h1 : (i 1).val < 1 := (i 1).isLt
  refine ⟨fun a => ?_, .inr (Affine.block_words_dvd (of_decide_eq_true rfl) (by decide))⟩
  rw [owner_at]
  match a with
  | ⟨0, _⟩ => show ((me m 0).toNat + 1) * 1 ≤ 8; omega
  | ⟨1, _⟩ => show ((i 0).val + 1) * 32 ≤ 352; omega
  | ⟨2, _⟩ => show ((i 1).val + 1) * 1024 ≤ 1024; omega

end

/-- The precondition gives the pipeline's side condition. -/
theorem ok_of_pre [Cert.Pre_owner_is_a_device30.Facts] (m : (ℓ : Loc nD τ sig) → Buf (Elt Ideal) ℓ) (h : Cert.Pre_Kernel30Ideal m) : Ok m :=
  ok_of m (owner_lt _ (congrFun (h 0) ix0))

/-- The precondition bounds the owner's number. -/
theorem lt_of_pre [Cert.Pre_owner_is_a_device30.Facts] (m : (ℓ : Loc nD τ sig) → Buf (Elt Ideal) ℓ) (h : Cert.Pre_Kernel30Ideal m) (c : Dev nD) :
    (me m c).toNat < 8 := owner_lt _ (congrFun (h c) ix0)

end Real

open Cert.Kernel30Ideal Cert.Kernel30Ideal.Gen Cert.Call30.Real
open Cert.Reference30Ideal.Read

/-- One part of the block of parts, as the body loads it. -/
abbrev part (x : Vec Ideal S8x32x1024 .bf16) (k : Fin 8) : Vec Ideal S1x32x1024 .bf16 :=
  View.ld x (Rect.unit ![k.val, 0, 0] ![1, 32, 1024] fun a => match a with
    | ⟨0, _⟩ => by show k.val + 1 ≤ 8; omega
    | ⟨1, _⟩ => by show 0 + 32 ≤ 32; omega
    | ⟨2, _⟩ => by show 0 + 1024 ≤ 1024; omega)

theorem part_eq (x : Vec Ideal S8x32x1024 .bf16) (k : Fin 8) (r : Fin 32) (j : Fin 1024) : part x k (ix3 0 r j) = x (ix3 k r j) := by
  refine View.ld_unit_apply_of x _ _ _ _ _ fun a => ?_
  match a with
  | ⟨0, _⟩ => show k.val = k.val + 0; omega
  | ⟨1, _⟩ => show r.val = 0 + r.val; omega
  | ⟨2, _⟩ => show j.val = 0 + j.val; omega

/-- The gradient: the sum over the devices of their parts, the owner's taken from its own copy. -/
theorem grad_eq (o : Vec Ideal S1x32x1024 .bf16) (v : Fin 8 → Vec Ideal S1x32x1024 .bf16) (u : BitVec 32)
    (x0 : IVec Cert.Reference30Ideal.S_ 32) (O P : FVec Ideal S8x352x1024 .bf16) (r : Fin 32) (R : Fin 352) (j : Fin 1024) (J : Fin 1024)
    (hu : x0 ix0 = u) (hl : u.toNat < 8) (ho : o (ix3 0 r j) = O (ix3 ⟨u.toNat, hl⟩ R J)) (hv : ∀ k, v k (ix3 0 r j) = P (ix3 k R J)) :
    k0_pay5 (k0_pay3 o) (k0_pay4 o u (v 0) u (v 1) u (v 2) u (v 3)) (Scalar.cmpi .eq u 4#32) (v 4) u (v 5) u (v 6) u (v 7) (ix2 r j)
      = val_main_v7 (F := Ideal) x0 O P (ix2 R J) := by
  have key : ∀ k : Fin 8, Scalar.select (IntOp.cmpi .eq (BitVec.ofNat 32 k.val) u) (O (ix3 k R J)) (P (ix3 k R J))
      = Scalar.select (IntOp.cmpi .eq u (BitVec.ofNat 32 k.val)) (o (ix3 0 r j)) (P (ix3 k R J)) := by
    intro k
    rw [choose_eq, choose_eq, ho]
    by_cases h : u = BitVec.ofNat 32 k.val
    · have hk : (⟨u.toNat, hl⟩ : Fin 8) = k := by
        apply Fin.ext
        show u.toNat = k.val
        rw [h, BitVec.toNat_ofNat]
        have := k.isLt
        omega
      rw [if_pos h.symm, if_pos h, hk]
    · rw [if_neg (Ne.symm h), if_neg h]
  unfold k0_pay5 k0_pay4
  pointwise [k0_pay3, val_main_v0, val_main_v1, val_main_v2, val_main_v3, val_main_v4, val_main_v5, val_main_call0_v0, val_main_v6, val_main_cst, val_main_v7]
  rw [hu, Fin.sum_univ_eight]
  simp only [hv]
  rw [key, key, key, key, key, key, key, key]
  rfl

/-- The first moment after the step. -/
theorem first_eq (g : FVec Ideal S32x1024 .f32) (q : Vec Ideal S32x1024 .f32) (v2 v29 : FVec Ideal S32x1024 .f32) (v31 : BitVec 1) (v32 : Vec Ideal S1x32x1024 .bf16) (v37 : Elt Ideal .i32)
    (v39 : Vec Ideal S1x32x1024 .bf16) (v44 : Elt Ideal .i32) (v46 : Vec Ideal S1x32x1024 .bf16) (v51 : Elt Ideal .i32) (v53 : Vec Ideal S1x32x1024 .bf16)
    (x0 : IVec Cert.Reference30Ideal.S_ 32) (O P : FVec Ideal S8x352x1024 .bf16) (U : FVec Ideal S352x1024 .f32) (r : Fin 32) (R : Fin 352) (j : Fin 1024) (J : Fin 1024)
    (hg : k0_pay5 v2 v29 v31 v32 v37 v39 v44 v46 v51 v53 (ix2 r j) = val_main_v7 (F := Ideal) x0 O P (ix2 R J))
    (hq : q (ix2 r j) = U (ix2 R J)) :
    k0_pay6 v2 v29 v31 v32 v37 v39 v44 v46 v51 v53 q (ix2 r j) = val_main_v12 (F := Ideal) x0 O P U (ix2 R J) := by
  unfold k0_pay6 val_main_v12 val_main_v11
  generalize k0_pay5 v2 v29 v31 v32 v37 v39 v44 v46 v51 v53 = p at hg ⊢
  generalize val_main_v7 (F := Ideal) x0 O P = p' at hg ⊢
  pointwise [val_main_cst_0, val_main_v8, val_main_v9, val_main_cst_1, val_main_v10]
  rw [hg, hq]

/-- The second moment after the step. -/
theorem second_eq (g : FVec Ideal S32x1024 .f32) (q : Vec Ideal S32x1024 .f32)
    (x0 : IVec Cert.Reference30Ideal.S_ 32) (O P : FVec Ideal S8x352x1024 .bf16) (U : FVec Ideal S352x1024 .f32) (r : Fin 32) (R : Fin 352) (j : Fin 1024) (J : Fin 1024)
    (hg : g (ix2 r j) = val_main_v7 (F := Ideal) x0 O P (ix2 R J)) (hq : q (ix2 r j) = U (ix2 R J)) :
    k0_pay1 g q (Scalar.ofBits .f32 0x3F7FBE77#32) (ix2 r j) = val_main_v18 (F := Ideal) x0 O P U (ix2 R J) := by
  unfold val_main_v18 val_main_v17 val_main_v15
  generalize val_main_v7 (F := Ideal) x0 O P = p' at hg ⊢
  pointwise [k0_pay1, val_main_cst_2, val_main_v13, val_main_v14, val_main_cst_3, val_main_v16]
  rw [hg, hq]

/-- The step taken by the weight. -/
theorem delta_eq (g u : FVec Ideal S32x1024 .f32) (a q : Vec Ideal S32x1024 .f32)
    (x0 : IVec Cert.Reference30Ideal.S_ 32) (O P : FVec Ideal S8x352x1024 .bf16) (W U Q : FVec Ideal S352x1024 .f32) (r : Fin 32) (R : Fin 352) (j : Fin 1024) (J : Fin 1024)
    (hu : u (ix2 r j) = val_main_v12 (F := Ideal) x0 O P U (ix2 R J))
    (hg : k0_pay1 g q (Scalar.ofBits .f32 0x3F7FBE77#32) (ix2 r j) = val_main_v18 (F := Ideal) x0 O P Q (ix2 R J))
    (ha : a (ix2 r j) = W (ix2 R J)) :
    k0_pay2 g a u q (Scalar.ofBits .f32 0x3F7FBE77#32) (ix2 r j) = val_main_v31 (F := Ideal) x0 O P W U Q (ix2 R J) := by
  unfold k0_pay2 val_main_v31 val_main_v29 val_main_v26 val_main_v20 val_main_v25 val_main_v23 val_main_v22
  generalize k0_pay1 g q (Scalar.ofBits .f32 0x3F7FBE77#32) = p at hg ⊢
  generalize val_main_v12 (F := Ideal) x0 O P U = u' at hu ⊢
  generalize val_main_v18 (F := Ideal) x0 O P Q = p' at hg ⊢
  pointwise [val_main_cst_4, val_main_v19, val_main_cst_5, val_main_v21, val_main_cst_6, val_main_v24, val_main_cst_7, val_main_v27, val_main_v28, val_main_cst_8, val_main_v30]
  rw [hg, hu, ha]

section
variable (c : Dev nD) (i : grid0.Coords) (a3 : Memref sig .tc .vmem S8x32x1024 .bf16) (h3 : a3.IsWhole) (a4 : Memref sig .tc .vmem S1x32x1024 .bf16) (h4 : a4.IsWhole) (a5 : Memref sig .tc .vmem S32x1024 .f32) (h5 : a5.IsWhole) (a6 : Memref sig .tc .vmem S32x1024 .f32) (h6 : a6.IsWhole) (a7 : Memref sig .tc .vmem S32x1024 .f32) (h7 : a7.IsWhole) (a8 : Memref sig .tc .vmem S32x1024 .f32) (h8 : a8.IsWhole) (a9 : Memref sig .tc .vmem S32x1024 .f32) (h9 : a9.IsWhole) (a10 : Memref sig .tc .vmem S32x1024 .f32) (h10 : a10.IsWhole) (a11 : Memref sig .tc .vmem S32x1024 .f32) (h11 : a11.IsWhole)
    (x0 : Vec Ideal S8x32x1024 .bf16) (x1 : Vec Ideal S1x32x1024 .bf16) (x2 x3 x4 : Vec Ideal S32x1024 .f32) (xt : TbBuf0 (F := Ideal) c tbM0_0) (u : BitVec 32) (hx : ∀ i, View.read (Elt Ideal) (View.whole main_v0) xt i = u)
    (y0 : IVec Cert.Reference30Ideal.S_ 32) (O P : FVec Ideal S8x352x1024 .bf16) (W U Q : FVec Ideal S352x1024 .f32) (r : Fin 32) (R : Fin 352) (j : Fin 1024) (J : Fin 1024)
    (hu : y0 ix0 = u) (hl : u.toNat < 8) (ho : x1 (ix3 0 r j) = O (ix3 ⟨u.toNat, hl⟩ R J)) (hp : ∀ k, x0 (ix3 k r j) = P (ix3 k R J))
    (hw : x2 (ix2 r j) = W (ix2 R J)) (hm : x3 (ix2 r j) = U (ix2 R J)) (hv : x4 (ix2 r j) = Q (ix2 R J))
include hx hu hl ho hp hw hm hv

/-- What the body leaves in the windows of the gradient and of the first moment, from blocks that are the arrays' at the point. -/
theorem out_5 : out0_A_5 c i a3 h3 a4 h4 a5 h5 a6 h6 a7 h7 a8 h8 a9 h9 a10 h10 a11 h11 x0 x1 x2 x3 x4 xt (ix2 r j) = val_main_v7 (F := Ideal) y0 O P (ix2 R J) ∧ out0_A_7 c i a3 h3 a4 h4 a5 h5 a6 h6 a7 h7 a8 h8 a9 h9 a10 h10 a11 h11 x0 x1 x2 x3 x4 xt (ix2 r j) = val_main_v12 (F := Ideal) y0 O P U (ix2 R J) := by
  have hg := grad_eq x1 (part x0) u y0 O P r R j J hu hl ho fun k => (part_eq x0 k r j).trans (hp k)
  have h1 := first_eq x2 x3 _ _ _ _ _ _ _ _ _ _ y0 O P U r R j J hg hm
  unfold out0_A_5 out0_A_7
  rw [View.read_writes_eq_canon _ _ _ (cover0_A_5 c i a3 h3 a4 h4 a5 h5 a6 h6 a7 h7 a8 h8 a9 h9 a10 h10 a11 h11 x0 x1 x2 x3 x4 xt), View.read_writes_eq_canon _ _ _ (cover0_A_7 c i a3 h3 a4 h4 a5 h5 a6 h6 a7 h7 a8 h8 a9 h9 a10 h10 a11 h11 x0 x1 x2 x3 x4 xt)]
  unfold kernelRun0_A
  dsimp only
  sl_unfold_words
  constructor
  all_goals
    rw [View.canon_unit_zero hz]
    simp only [View.readAt_eq_ld, h3.read_unread, h4.read_unread, h5.read_unread, h6.read_unread, h7.read_unread, View.ld_unit_zero (S := S1x32x1024) hz3, View.ld_unit_zero (S := S32x1024) hz]
    simp only [View.ld, hx]
  exacts [hg, h1]

/-- What the body leaves in the windows of the step and of the second moment, from blocks that are the arrays' at the point. -/
theorem out_6 : out0_A_6 c i a3 h3 a4 h4 a5 h5 a6 h6 a7 h7 a8 h8 a9 h9 a10 h10 a11 h11 x0 x1 x2 x3 x4 xt (ix2 r j) = val_main_v31 (F := Ideal) y0 O P W U Q (ix2 R J) ∧ out0_A_8 c i a3 h3 a4 h4 a5 h5 a6 h6 a7 h7 a8 h8 a9 h9 a10 h10 a11 h11 x0 x1 x2 x3 x4 xt (ix2 r j) = val_main_v18 (F := Ideal) y0 O P Q (ix2 R J) := by
  have hg := grad_eq x1 (part x0) u y0 O P r R j J hu hl ho fun k => (part_eq x0 k r j).trans (hp k)
  have h1 := first_eq x2 x3 _ _ _ _ _ _ _ _ _ _ y0 O P U r R j J hg hm
  have h2 := second_eq _ x4 y0 O P Q r R j J hg hv
  unfold out0_A_6 out0_A_8
  rw [View.read_writes_eq_canon _ _ _ (cover0_A_6 c i a3 h3 a4 h4 a5 h5 a6 h6 a7 h7 a8 h8 a9 h9 a10 h10 a11 h11 x0 x1 x2 x3 x4 xt), View.read_writes_eq_canon _ _ _ (cover0_A_8 c i a3 h3 a4 h4 a5 h5 a6 h6 a7 h7 a8 h8 a9 h9 a10 h10 a11 h11 x0 x1 x2 x3 x4 xt)]
  unfold kernelRun0_A
  dsimp only
  sl_unfold_words
  constructor
  all_goals
    rw [View.canon_unit_zero hz]
    simp only [View.readAt_eq_ld, h3.read_unread, h4.read_unread, h5.read_unread, h6.read_unread, h7.read_unread, View.ld_unit_zero (S := S1x32x1024) hz3, View.ld_unit_zero (S := S32x1024) hz]
    simp only [View.ld, hx]
  exacts [delta_eq _ _ x2 x4 y0 O P W U Q r R j J h1 h2 hw, h2]

end

variable (m : (ℓ : Loc nD τ sig) → Buf (Elt Ideal) ℓ) (hO : Ok m) (c : Dev nD)

/-- The owner's number at launch. -/
abbrev b0 : IVec S_ 32 := m ((c : Thread nD τ).loc main_arg0)

/-- The owner's own parts at launch. -/
abbrev b1 : FVec Ideal S8x352x1024 .bf16 := m ((c : Thread nD τ).loc main_arg1)

/-- The parts received at launch. -/
abbrev b2 : FVec Ideal S8x352x1024 .bf16 := m ((c : Thread nD τ).loc main_arg2)

/-- The weight at launch. -/
abbrev b3 : FVec Ideal S352x1024 .f32 := m ((c : Thread nD τ).loc main_arg3)

/-- The first moment at launch. -/
abbrev b4 : FVec Ideal S352x1024 .f32 := m ((c : Thread nD τ).loc main_arg4)

/-- The second moment at launch. -/
abbrev b5 : FVec Ideal S352x1024 .f32 := m ((c : Thread nD τ).loc main_arg5)

theorem tlt (t : Fin grid0.N) : t.val < 11 := t.isLt

/-- The row of the array that row `r` of point `t`'s block is. -/
abbrev rowOf (t : Fin grid0.N) (r : Fin 32) : Fin 352 := ⟨t.val * 32 + r.val, by have := tlt t; have := r.isLt; omega⟩

/-- The column of the array that column `j` of point `t`'s block is. -/
abbrev colOf (t : Fin grid0.N) (j : Fin 1024) : Fin 1024 := j

/-- The points' coordinates. -/
theorem coords_at : ∀ t : Fin grid0.N, (grid0.coords t 0).val = t.val ∧ (grid0.coords t 1).val = 0 := by decide +kernel

/-- Where the windows that read no table stand at each point. -/
theorem parts_at : ∀ t : Fin grid0.N, cc0_transform_0 (grid0.coords t) 0 = 0 ∧ cc0_transform_0 (grid0.coords t) 1 = t.val ∧ cc0_transform_0 (grid0.coords t) 2 = 0 := by decide +kernel

theorem idx_at : ∀ t : Fin grid0.N, (cc0_transform_2 (grid0.coords t) 0 = t.val ∧ cc0_transform_2 (grid0.coords t) 1 = 0) ∧ (cc0_transform_3 (grid0.coords t) 0 = t.val ∧ cc0_transform_3 (grid0.coords t) 1 = 0) ∧ (cc0_transform_4 (grid0.coords t) 0 = t.val ∧ cc0_transform_4 (grid0.coords t) 1 = 0) ∧ (cc0_transform_5 (grid0.coords t) 0 = t.val ∧ cc0_transform_5 (grid0.coords t) 1 = 0) ∧ (cc0_transform_6 (grid0.coords t) 0 = t.val ∧ cc0_transform_6 (grid0.coords t) 1 = 0) ∧ (cc0_transform_7 (grid0.coords t) 0 = t.val ∧ cc0_transform_7 (grid0.coords t) 1 = 0) ∧ (cc0_transform_8 (grid0.coords t) 0 = t.val ∧ cc0_transform_8 (grid0.coords t) 1 = 0) := by decide +kernel

/-- The block of the parts received at a point. -/
theorem blk0 (t : Fin grid0.N) (k : Fin 8) (r : Fin 32) (j : Fin 1024) : iblk m hO c 0 t (ix3 k r j) = b2 m c (ix3 k (rowOf t r) (colOf t j)) := by
  have hi := parts_at t
  refine (congrFun (V_main_arg2 m c) _).trans (congrArg (b2 m c) (funext fun a => Fin.ext ?_))
  match a with
  | ⟨0, _⟩ => show cc0_transform_0 (grid0.coords t) 0 * 8 + 1 * k.val = k.val; rw [hi.1]; omega
  | ⟨1, _⟩ => show cc0_transform_0 (grid0.coords t) 1 * 32 + 1 * r.val = t.val * 32 + r.val; rw [hi.2.1]; omega
  | ⟨2, _⟩ => show cc0_transform_0 (grid0.coords t) 2 * 1024 + 1 * j.val = j.val; rw [hi.2.2]; omega

/-- The block of the owner's own part at a point. -/
theorem blk1 (hl : (me m c).toNat < 8) (t : Fin grid0.N) (r : Fin 32) (j : Fin 1024) :
    iblk m hO c 1 t (ix3 0 r j) = b1 m c (ix3 ⟨(me m c).toNat, hl⟩ (rowOf t r) (colOf t j)) := by
  obtain rfl : c = 0 := Subsingleton.elim _ _
  have hi := coords_at t
  have e := owner_at m (grid0.coords t)
  refine (congrFun (V_main_arg1 m 0) _).trans (congrArg (b1 m 0) (funext fun a => Fin.ext ?_))
  match a with
  | ⟨0, _⟩ => show cc0_transform_1 inb_S1_S1_0 numel1_S1 (tbl m) (grid0.coords t) 0 * 1 + 1 * 0 = (me m 0).toNat; rw [e]; show (me m 0).toNat * 1 + 1 * 0 = _; omega
  | ⟨1, _⟩ => show cc0_transform_1 inb_S1_S1_0 numel1_S1 (tbl m) (grid0.coords t) 1 * 32 + 1 * r.val = t.val * 32 + r.val; rw [e]; show (grid0.coords t 0).val * 32 + 1 * r.val = _; rw [hi.1]; omega
  | ⟨2, _⟩ => show cc0_transform_1 inb_S1_S1_0 numel1_S1 (tbl m) (grid0.coords t) 2 * 1024 + 1 * j.val = j.val; rw [e]; show (grid0.coords t 1).val * 1024 + 1 * j.val = _; rw [hi.2]; omega

theorem blk2 (t : Fin grid0.N) (r : Fin 32) (j : Fin 1024) : iblk m hO c 2 t (ix2 r j) = b3 m c (ix2 (rowOf t r) (colOf t j)) := by
  have hi := (idx_at t).1
  refine (congrFun (V_main_arg3 m c) _).trans (congrArg (b3 m c) (funext fun a => Fin.ext ?_))
  match a with
  | ⟨0, _⟩ => show cc0_transform_2 (grid0.coords t) 0 * 32 + 1 * r.val = t.val * 32 + r.val; rw [hi.1]; omega
  | ⟨1, _⟩ => show cc0_transform_2 (grid0.coords t) 1 * 1024 + 1 * j.val = j.val; rw [hi.2]; omega

theorem blk3 (t : Fin grid0.N) (r : Fin 32) (j : Fin 1024) : iblk m hO c 3 t (ix2 r j) = b4 m c (ix2 (rowOf t r) (colOf t j)) := by
  have hi := (idx_at t).2.1
  refine (congrFun (V_main_arg4 m c) _).trans (congrArg (b4 m c) (funext fun a => Fin.ext ?_))
  match a with
  | ⟨0, _⟩ => show cc0_transform_3 (grid0.coords t) 0 * 32 + 1 * r.val = t.val * 32 + r.val; rw [hi.1]; omega
  | ⟨1, _⟩ => show cc0_transform_3 (grid0.coords t) 1 * 1024 + 1 * j.val = j.val; rw [hi.2]; omega

theorem blk4 (t : Fin grid0.N) (r : Fin 32) (j : Fin 1024) : iblk m hO c 4 t (ix2 r j) = b5 m c (ix2 (rowOf t r) (colOf t j)) := by
  have hi := (idx_at t).2.2.1
  refine (congrFun (V_main_arg5 m c) _).trans (congrArg (b5 m c) (funext fun a => Fin.ext ?_))
  match a with
  | ⟨0, _⟩ => show cc0_transform_4 (grid0.coords t) 0 * 32 + 1 * r.val = t.val * 32 + r.val; rw [hi.1]; omega
  | ⟨1, _⟩ => show cc0_transform_4 (grid0.coords t) 1 * 1024 + 1 * j.val = j.val; rw [hi.2]; omega

/-- What point `t` leaves in the windows of the gradient and of the first moment. -/
theorem point_5 (hl : (me m c).toNat < 8) (t : Fin grid0.N) (r : Fin 32) (j : Fin 1024) :
    (outsAt0 m hO c t).1 (ix2 r j) = val_main_v7 (F := Ideal) (b0 m c) (b1 m c) (b2 m c) (ix2 (rowOf t r) (colOf t j)) ∧ (outsAt0 m hO c t).2.2.1 (ix2 r j) = val_main_v12 (F := Ideal) (b0 m c) (b1 m c) (b2 m c) (b4 m c) (ix2 (rowOf t r) (colOf t j)) := by
  unfold outsAt0
  dsimp only
  exact out_5 c (grid0.coords t) _ _ _ _ _ _ _ _ _ _ _ _ _ _ _ _ _ _ _ _ _ _ _ _ (me m c) (fun i => by obtain rfl : c = 0 := Subsingleton.elim _ _; exact table m 0 i)
    (b0 m c) (b1 m c) (b2 m c) (b3 m c) (b4 m c) (b5 m c) r (rowOf t r) j (colOf t j) rfl hl (blk1 m hO c hl t r j) (fun k => blk0 m hO c t k r j)
    (blk2 m hO c t r j) (blk3 m hO c t r j) (blk4 m hO c t r j)

/-- What point `t` leaves in the windows of the step and of the second moment. -/
theorem point_6 (hl : (me m c).toNat < 8) (t : Fin grid0.N) (r : Fin 32) (j : Fin 1024) :
    (outsAt0 m hO c t).2.1 (ix2 r j) = val_main_v31 (F := Ideal) (b0 m c) (b1 m c) (b2 m c) (b3 m c) (b4 m c) (b5 m c) (ix2 (rowOf t r) (colOf t j)) ∧ (outsAt0 m hO c t).2.2.2 (ix2 r j) = val_main_v18 (F := Ideal) (b0 m c) (b1 m c) (b2 m c) (b5 m c) (ix2 (rowOf t r) (colOf t j)) := by
  unfold outsAt0
  dsimp only
  exact out_6 c (grid0.coords t) _ _ _ _ _ _ _ _ _ _ _ _ _ _ _ _ _ _ _ _ _ _ _ _ (me m c) (fun i => by obtain rfl : c = 0 := Subsingleton.elim _ _; exact table m 0 i)
    (b0 m c) (b1 m c) (b2 m c) (b3 m c) (b4 m c) (b5 m c) r (rowOf t r) j (colOf t j) rfl hl (blk1 m hO c hl t r j) (fun k => blk0 m hO c t k r j)
    (blk2 m hO c t r j) (blk3 m hO c t r j) (blk4 m hO c t r j)

/-- The array that ends holding the gradient. -/
theorem final_5 (hl : (me m c).toNat < 8) : (dats m hO 0 c).arrAt 5 (cfgM m hO).N = val_main_v7 (F := Ideal) (b0 m c) (b1 m c) (b2 m c) := by
  refine (dats m hO 0 c).arrAt_eq_of_cover 5 _ (fun t _ => ?_) fun (i : Shape.Idx S352x1024) => ?_
  · have hi := (idx_at t).2.2.2.1
    show ((cfgM m hO).win 5).cut (grid0.coords t) ((dats m hO 0 c).after 5 t) = _
    rw [after0_5]
    refine funext fun (i : Shape.Idx S32x1024) => ?_
    obtain ⟨r, j, rfl⟩ : ∃ r j, i = ix2 r j := ⟨i 0, i 1, by idx_vars i⟩
    refine (point_5 m hO c hl t r j).1.trans ?_
    show _ = val_main_v7 (F := Ideal) (b0 m c) (b1 m c) (b2 m c) ((((cfgM m hO).win 5).blk t).view.emb (ix2 r j))
    congr 1
    funext a
    apply Fin.ext
    match a with
    | ⟨0, _⟩ => show t.val * 32 + r.val = cc0_transform_5 (grid0.coords t) 0 * 32 + 1 * r.val; rw [hi.1]; omega
    | ⟨1, _⟩ => show j.val = cc0_transform_5 (grid0.coords t) 1 * 1024 + 1 * j.val; rw [hi.2]; omega
  · have h0 : (i 0 : Nat) < 352 := (i 0).isLt
    have h1 : (i 1 : Nat) < 1024 := (i 1).isLt
    obtain ⟨t, ht⟩ : ∃ t : Fin grid0.N, t.val = (i 0).val / 32 := ⟨⟨(i 0).val / 32, by show _ < 11; omega⟩, rfl⟩
    refine ⟨t, flush0_5 _ _, ?_⟩
    have hi := (idx_at t).2.2.2.1
    refine (Finset.ext_iff.mp (View.set_slice_whole main_v1_0 (((cfgM m hO).win 5).rect t)) i).mpr (Rect.mem_set_unit.mpr fun a => ?_)
    match a with
    | ⟨0, _⟩ => exact Cert.Tile.mem 32 (i 0) hi.1 (by omega)
    | ⟨1, _⟩ => exact Cert.Tile.mem 1024 (i 1) hi.2 (by omega)

/-- The array that ends holding the step. -/
theorem final_6 (hl : (me m c).toNat < 8) : (dats m hO 0 c).arrAt 6 (cfgM m hO).N = val_main_v31 (F := Ideal) (b0 m c) (b1 m c) (b2 m c) (b3 m c) (b4 m c) (b5 m c) := by
  refine (dats m hO 0 c).arrAt_eq_of_cover 6 _ (fun t _ => ?_) fun (i : Shape.Idx S352x1024) => ?_
  · have hi := (idx_at t).2.2.2.2.1
    show ((cfgM m hO).win 6).cut (grid0.coords t) ((dats m hO 0 c).after 6 t) = _
    rw [after0_6]
    refine funext fun (i : Shape.Idx S32x1024) => ?_
    obtain ⟨r, j, rfl⟩ : ∃ r j, i = ix2 r j := ⟨i 0, i 1, by idx_vars i⟩
    refine (point_6 m hO c hl t r j).1.trans ?_
    show _ = val_main_v31 (F := Ideal) (b0 m c) (b1 m c) (b2 m c) (b3 m c) (b4 m c) (b5 m c) ((((cfgM m hO).win 6).blk t).view.emb (ix2 r j))
    congr 1
    funext a
    apply Fin.ext
    match a with
    | ⟨0, _⟩ => show t.val * 32 + r.val = cc0_transform_6 (grid0.coords t) 0 * 32 + 1 * r.val; rw [hi.1]; omega
    | ⟨1, _⟩ => show j.val = cc0_transform_6 (grid0.coords t) 1 * 1024 + 1 * j.val; rw [hi.2]; omega
  · have h0 : (i 0 : Nat) < 352 := (i 0).isLt
    have h1 : (i 1 : Nat) < 1024 := (i 1).isLt
    obtain ⟨t, ht⟩ : ∃ t : Fin grid0.N, t.val = (i 0).val / 32 := ⟨⟨(i 0).val / 32, by show _ < 11; omega⟩, rfl⟩
    refine ⟨t, flush0_6 _ _, ?_⟩
    have hi := (idx_at t).2.2.2.2.1
    refine (Finset.ext_iff.mp (View.set_slice_whole main_v1_1 (((cfgM m hO).win 6).rect t)) i).mpr (Rect.mem_set_unit.mpr fun a => ?_)
    match a with
    | ⟨0, _⟩ => exact Cert.Tile.mem 32 (i 0) hi.1 (by omega)
    | ⟨1, _⟩ => exact Cert.Tile.mem 1024 (i 1) hi.2 (by omega)

/-- The array that ends holding the first moment. -/
theorem final_7 (hl : (me m c).toNat < 8) : (dats m hO 0 c).arrAt 7 (cfgM m hO).N = val_main_v12 (F := Ideal) (b0 m c) (b1 m c) (b2 m c) (b4 m c) := by
  refine (dats m hO 0 c).arrAt_eq_of_cover 7 _ (fun t _ => ?_) fun (i : Shape.Idx S352x1024) => ?_
  · have hi := (idx_at t).2.2.2.2.2.1
    show ((cfgM m hO).win 7).cut (grid0.coords t) ((dats m hO 0 c).after 7 t) = _
    rw [after0_7]
    refine funext fun (i : Shape.Idx S32x1024) => ?_
    obtain ⟨r, j, rfl⟩ : ∃ r j, i = ix2 r j := ⟨i 0, i 1, by idx_vars i⟩
    refine (point_5 m hO c hl t r j).2.trans ?_
    show _ = val_main_v12 (F := Ideal) (b0 m c) (b1 m c) (b2 m c) (b4 m c) ((((cfgM m hO).win 7).blk t).view.emb (ix2 r j))
    congr 1
    funext a
    apply Fin.ext
    match a with
    | ⟨0, _⟩ => show t.val * 32 + r.val = cc0_transform_7 (grid0.coords t) 0 * 32 + 1 * r.val; rw [hi.1]; omega
    | ⟨1, _⟩ => show j.val = cc0_transform_7 (grid0.coords t) 1 * 1024 + 1 * j.val; rw [hi.2]; omega
  · have h0 : (i 0 : Nat) < 352 := (i 0).isLt
    have h1 : (i 1 : Nat) < 1024 := (i 1).isLt
    obtain ⟨t, ht⟩ : ∃ t : Fin grid0.N, t.val = (i 0).val / 32 := ⟨⟨(i 0).val / 32, by show _ < 11; omega⟩, rfl⟩
    refine ⟨t, flush0_7 _ _, ?_⟩
    have hi := (idx_at t).2.2.2.2.2.1
    refine (Finset.ext_iff.mp (View.set_slice_whole main_v1_2 (((cfgM m hO).win 7).rect t)) i).mpr (Rect.mem_set_unit.mpr fun a => ?_)
    match a with
    | ⟨0, _⟩ => exact Cert.Tile.mem 32 (i 0) hi.1 (by omega)
    | ⟨1, _⟩ => exact Cert.Tile.mem 1024 (i 1) hi.2 (by omega)

/-- The array that ends holding the second moment. -/
theorem final_8 (hl : (me m c).toNat < 8) : (dats m hO 0 c).arrAt 8 (cfgM m hO).N = val_main_v18 (F := Ideal) (b0 m c) (b1 m c) (b2 m c) (b5 m c) := by
  refine (dats m hO 0 c).arrAt_eq_of_cover 8 _ (fun t _ => ?_) fun (i : Shape.Idx S352x1024) => ?_
  · have hi := (idx_at t).2.2.2.2.2.2
    show ((cfgM m hO).win 8).cut (grid0.coords t) ((dats m hO 0 c).after 8 t) = _
    rw [after0_8]
    refine funext fun (i : Shape.Idx S32x1024) => ?_
    obtain ⟨r, j, rfl⟩ : ∃ r j, i = ix2 r j := ⟨i 0, i 1, by idx_vars i⟩
    refine (point_6 m hO c hl t r j).2.trans ?_
    show _ = val_main_v18 (F := Ideal) (b0 m c) (b1 m c) (b2 m c) (b5 m c) ((((cfgM m hO).win 8).blk t).view.emb (ix2 r j))
    congr 1
    funext a
    apply Fin.ext
    match a with
    | ⟨0, _⟩ => show t.val * 32 + r.val = cc0_transform_8 (grid0.coords t) 0 * 32 + 1 * r.val; rw [hi.1]; omega
    | ⟨1, _⟩ => show j.val = cc0_transform_8 (grid0.coords t) 1 * 1024 + 1 * j.val; rw [hi.2]; omega
  · have h0 : (i 0 : Nat) < 352 := (i 0).isLt
    have h1 : (i 1 : Nat) < 1024 := (i 1).isLt
    obtain ⟨t, ht⟩ : ∃ t : Fin grid0.N, t.val = (i 0).val / 32 := ⟨⟨(i 0).val / 32, by show _ < 11; omega⟩, rfl⟩
    refine ⟨t, flush0_8 _ _, ?_⟩
    have hi := (idx_at t).2.2.2.2.2.2
    refine (Finset.ext_iff.mp (View.set_slice_whole main_v1_3 (((cfgM m hO).win 8).rect t)) i).mpr (Rect.mem_set_unit.mpr fun a => ?_)
    match a with
    | ⟨0, _⟩ => exact Cert.Tile.mem 32 (i 0) hi.1 (by omega)
    | ⟨1, _⟩ => exact Cert.Tile.mem 1024 (i 1) hi.2 (by omega)

/-- From memories that agree on the arguments, the owner a device of the eight, the kernel and the reference end with the same arrays. -/
theorem equal [Cert.Pre_owner_is_a_device30.Facts] : Cert.algebraic_Kernel30Ideal_Reference30Ideal := by
  intro m g m' g' hpre hargs
  have hO := Real.ok_of_pre m hpre
  have hl := Real.lt_of_pre m hpre
  refine ⟨fun c => val_main_v7 (F := Ideal) (b0 m c) (b1 m c) (b2 m c), fun c => val_main_v31 (F := Ideal) (b0 m c) (b1 m c) (b2 m c) (b3 m c) (b4 m c) (b5 m c), fun c => val_main_v12 (F := Ideal) (b0 m c) (b1 m c) (b2 m c) (b4 m c), fun c => val_main_v18 (F := Ideal) (b0 m c) (b1 m c) (b2 m c) (b5 m c), ?_, ?_⟩
  · refine (θ_run _ _ _).mono (fun r h c => ?_) (θ_run_and (Gen.unchanged (F := Ideal) m g hO) (Gen.run_main (F := Ideal) m g hO))
    exact ⟨((h.2 c).1 5).trans (final_5 m hO c (hl c)), ((h.2 c).1 6).trans (final_6 m hO c (hl c)), ((h.2 c).1 7).trans (final_7 m hO c (hl c)), ((h.2 c).1 8).trans (final_8 m hO c (hl c)), h.1 c⟩
  · refine (θ_run _ _ _).mono (fun r h c => ?_) (Cert.Reference30Ideal.Value.run (F := Ideal) m' g')
    obtain ⟨e0, e1, e2, e3, e4, e5⟩ := hargs c
    obtain ⟨h0, h1, h2, h3, h4⟩ := h c
    rw [val_main_v7_eq, e0, e1, e2] at h0
    rw [val_main_v31_eq, e0, e1, e2, e3, e4, e5] at h1
    rw [val_main_v12_eq, e0, e1, e2, e4] at h2
    rw [val_main_v18_eq, e0, e1, e2, e5] at h3
    exact ⟨h0, h1, h2, h3, h4⟩

end Cert.Call30

end
-- ==== Proof.Call34.lean ====
/- The gradient of the feed-forward's norm with the residual's gradient added: the kernel's eight row tiles against the reference's gradient of the norm. -/
module

public import proofs.«01_k».proof.Defs
public import proofs.«01_k».proof.Proof.Chain
public import proofs.«01_k».proof.Proof.Gen.Kernel34Ideal.Value
public import proofs.«01_k».proof.Proof.Gen.Reference34Ideal.Read
public import Idealize.ShloMosaic.Lib.Pointwise
public import Idealize.ShloMosaic.Lib.Tactic
public import Idealize.ShloMosaic.PureOps.Ideal.Laws
public import proofs.«01_k».proof.Proof.Tile

@[expose] public section

noncomputable section

namespace Cert.Call34

open Idealize.ShloMosaic Idealize.ShloMosaic.TcCoe Idealize.SL.Sem Cert.Kernel34Ideal Cert.Kernel34Ideal.Gen
open Cert.Reference34Ideal.Read

theorem hz : (![0, 0] : Fin 2 → Nat) = fun _ => 0 := funext fun a => by fin_cases a <;> rfl

/-- The mean square of a row plus the small constant. -/
theorem ms_eq (f : Fin 512 → Fin 4096) (a1 : FVec Ideal S4096x1024 .bf16) (x0 : Vec Ideal S512x1024 .bf16)
    (h0 : ∀ r k, x0 (ix2 r k) = a1 (ix2 (f r) k)) (r : Fin 512) :
    k0_pay4 x0 (ix2 r 0) = val_main_v7 (F := Ideal) a1 (ix2 (f r) 0) := by
  pointwise [k0_pay4, k0_pay3, val_main_v0, val_main_v1, val_main_cst, val_main_v2, val_main_v3, val_main_cst_0, val_main_v4, val_main_v5, val_main_cst_1, val_main_v6, val_main_v7]
  simp only [h0]

/-- The reciprocal root of a row's mean square. -/
theorem rs_eq (f : Fin 512 → Fin 4096) (a1 : FVec Ideal S4096x1024 .bf16) (x0 : Vec Ideal S512x1024 .bf16)
    (h0 : ∀ r k, x0 (ix2 r k) = a1 (ix2 (f r) k)) (r : Fin 512) :
    k0_pay5 x0 (ix2 r 0) = val_main_v8 (F := Ideal) a1 (ix2 (f r) 0) := by
  have h := ms_eq f a1 x0 h0 r
  unfold k0_pay5 val_main_v8
  generalize k0_pay4 x0 = p at h ⊢
  generalize val_main_v7 (F := Ideal) a1 = q at h ⊢
  pointwise []
  rw [h]

/-- The reference's parameter row, entry by entry. -/
theorem dg_eq (a0 : FVec Ideal S4096x1024 .bf16) (a1 : FVec Ideal S4096x1024 .bf16) (j : Fin 1024) :
    val_main_v19 (F := Ideal) a0 a1 (ix2 0 j) = ∑ r : Fin 4096, a1 (ix2 r j) * val_main_v8 (F := Ideal) a1 (ix2 r 0) * a0 (ix2 r j) := by
  unfold val_main_v19 val_main_v18 val_main_v17 val_main_v13 val_main_v12
  generalize val_main_v8 (F := Ideal) a1 = q
  pointwise [val_main_v0, val_main_v16, val_main_cst_3]

/-- One tile's addend to the parameter row. -/
theorem tile_dg (f : Fin 512 → Fin 4096) (a0 : FVec Ideal S4096x1024 .bf16) (a1 : FVec Ideal S4096x1024 .bf16) (x0 : Vec Ideal S512x1024 .bf16) (x2 : Vec Ideal S512x1024 .bf16)
    (h0 : ∀ r k, x0 (ix2 r k) = a1 (ix2 (f r) k)) (h2 : ∀ r k, x2 (ix2 r k) = a0 (ix2 (f r) k)) (j : Fin 1024) :
    k0_pay7 x0 x2 (ix2 0 j) = ∑ r : Fin 512, a1 (ix2 (f r) j) * val_main_v8 (F := Ideal) a1 (ix2 (f r) 0) * a0 (ix2 (f r) j) := by
  have h := rs_eq f a1 x0 h0
  unfold k0_pay7
  generalize k0_pay5 x0 = p at h ⊢
  pointwise [k0_pay3, k0_pay6]
  simp only [h0, h2, h]

/-- One tile's rows of the gradient. -/
theorem tile_dx (f : Fin 512 → Fin 4096) (a0 : FVec Ideal S4096x1024 .bf16) (a1 : FVec Ideal S4096x1024 .bf16) (a2 : FVec Ideal S4096x1024 .bf16) (a3 : FVec Ideal S1x1024 .f32)
    (x0 : Vec Ideal S512x1024 .bf16) (x1 : Vec Ideal S1x1024 .f32) (x2 x3 : Vec Ideal S512x1024 .bf16)
    (h0 : ∀ r k, x0 (ix2 r k) = a1 (ix2 (f r) k)) (h1 : ∀ r k, x1 (ix2 r k) = a3 (ix2 r k))
    (h2 : ∀ r k, x2 (ix2 r k) = a0 (ix2 (f r) k)) (h3 : ∀ r k, x3 (ix2 r k) = a2 (ix2 (f r) k)) (r : Fin 512) (j : Fin 1024) :
    k0_pay8 x0 x1 x2 x3 (ix2 r j) = val_main_v38 (F := Ideal) a0 a1 a2 a3 (ix2 (f r) j) := by
  have h6 := ms_eq f a1 x0 h0
  have h7 := rs_eq f a1 x0 h0
  unfold k0_pay8 val_main_v38 val_main_v37 val_main_v35 val_main_v34 val_main_v33 val_main_v32 val_main_v31 val_main_v30 val_main_v29 val_main_v27 val_main_v11 val_main_v9 val_main_v26 val_main_v25
  generalize k0_pay4 x0 = p at h6 ⊢
  generalize val_main_v7 (F := Ideal) a1 = q at h6 ⊢
  generalize k0_pay5 x0 = p' at h7 ⊢
  generalize val_main_v8 (F := Ideal) a1 = q' at h7 ⊢
  pointwise [k0_pay3, k0_pay6, val_main_v0, val_main_cst_2, val_main_v10, val_main_v16, val_main_v20, val_main_v21, val_main_v22, val_main_cst_4, val_main_v23, val_main_v24, val_main_cst_5, val_main_v28, val_main_cst_6, val_main_v36]
  simp only [h0, h1, h2, h3, Fin.sum_univ_one, h6, h7]

section runs

variable (c : Dev nD) (i : grid0.Coords) (p1 : Memref sig .tc .vmem S512x1024 .bf16) (h1 : p1.IsWhole) (p2 : Memref sig .tc .vmem S1x1024 .f32) (h2 : p2.IsWhole) (p3 : Memref sig .tc .vmem S512x1024 .bf16) (h3 : p3.IsWhole) (p4 : Memref sig .tc .vmem S512x1024 .bf16) (h4 : p4.IsWhole) (p5 : Memref sig .tc .vmem S512x1024 .bf16) (h5 : p5.IsWhole) (p6 : Memref sig .tc .vmem S1x1024 .f32) (h6 : p6.IsWhole)

/-- The first point leaves its rows of the gradient. -/
theorem row_A
    (hc : cond0_0 i) (x0 : Vec Ideal S512x1024 .bf16) (x1 : Vec Ideal S1x1024 .f32) (x2 : Vec Ideal S512x1024 .bf16) (x3 : Vec Ideal S512x1024 .bf16) :
    out0_A_4 c i p1 h1 p2 h2 p3 h3 p4 h4 p5 h5 p6 h6 hc x0 x1 x2 x3 = k0_pay8 x0 x1 x2 x3 := by
  unfold out0_A_4
  rw [View.read_writes_eq_canon _ _ _ (cover0_A_4 c i p1 h1 p2 h2 p3 h3 p4 h4 p5 h5 p6 h6 hc x0 x1 x2 x3)]
  unfold kernelRun0_A
  dsimp only
  sl_unfold_words
  rw [View.canon_unit_zero hz]
  simp only [View.readAt_eq_ld, h1.read_unread, h2.read_unread, h3.read_unread, h4.read_unread, View.ld_unit_zero (S := S512x1024) hz, View.ld_unit_zero (S := S1x1024) hz]

/-- The first point starts the parameter row from zero. -/
theorem col_A
    (hc : cond0_0 i) (x0 : Vec Ideal S512x1024 .bf16) (x1 : Vec Ideal S1x1024 .f32) (x2 : Vec Ideal S512x1024 .bf16) (x3 : Vec Ideal S512x1024 .bf16) :
    out0_A_5 c i p1 h1 p2 h2 p3 h3 p4 h4 p5 h5 p6 h6 hc x0 x1 x2 x3 = addf (broadcast S1x1024 (Scalar.ofBits .f32 0x00000000#32)) (k0_pay7 x0 x2) := by
  unfold out0_A_5
  rw [View.read_writes_eq_canon _ _ _ (cover0_A_5 c i p1 h1 p2 h2 p3 h3 p4 h4 p5 h5 p6 h6 hc x0 x1 x2 x3)]
  unfold kernelRun0_A
  dsimp only
  sl_unfold_words
  rw [View.canon_cons_unit_zero (S := S1x1024) hz, View.readCov_unit_zero (S := S1x1024) _ hz]
  simp only [View.readAt_eq_ld, h1.read_unread, h2.read_unread, h3.read_unread, h4.read_unread, View.ld_unit_zero (S := S512x1024) hz, View.ld_unit_zero (S := S1x1024) hz]
  simp only [k0_pay2, k0_pay1, shapeCast_self]

/-- A later point leaves its rows of the gradient. -/
theorem row_B
    (hc : ¬cond0_0 i) (x0 : Vec Ideal S512x1024 .bf16) (x1 : Vec Ideal S1x1024 .f32) (x2 : Vec Ideal S512x1024 .bf16) (x3 : Vec Ideal S512x1024 .bf16) (xo : Vec Ideal S1x1024 .f32) :
    out0_B_4 c i p1 h1 p2 h2 p3 h3 p4 h4 p5 h5 p6 h6 hc x0 x1 x2 x3 xo = k0_pay8 x0 x1 x2 x3 := by
  unfold out0_B_4
  rw [View.read_writes_eq_canon _ _ _ (cover0_B_4 c i p1 h1 p2 h2 p3 h3 p4 h4 p5 h5 p6 h6 hc x0 x1 x2 x3 xo)]
  unfold kernelRun0_B
  dsimp only
  sl_unfold_words
  rw [View.canon_unit_zero hz]
  simp only [View.readAt_eq_ld, h1.read_unread, h2.read_unread, h3.read_unread, h4.read_unread, h6.read_unread, View.ld_unit_zero (S := S512x1024) hz, View.ld_unit_zero (S := S1x1024) hz]

/-- A later point adds to the parameter row. -/
theorem col_B
    (hc : ¬cond0_0 i) (x0 : Vec Ideal S512x1024 .bf16) (x1 : Vec Ideal S1x1024 .f32) (x2 : Vec Ideal S512x1024 .bf16) (x3 : Vec Ideal S512x1024 .bf16) (xo : Vec Ideal S1x1024 .f32) :
    out0_B_5 c i p1 h1 p2 h2 p3 h3 p4 h4 p5 h5 p6 h6 hc x0 x1 x2 x3 xo = addf xo (k0_pay7 x0 x2) := by
  unfold out0_B_5
  rw [View.read_writes_eq_canon _ _ _ (cover0_B_5 c i p1 h1 p2 h2 p3 h3 p4 h4 p5 h5 p6 h6 hc x0 x1 x2 x3 xo)]
  unfold kernelRun0_B
  dsimp only
  sl_unfold_words
  rw [View.canon_unit_zero hz]
  simp only [View.readAt_eq_ld, h1.read_unread, h2.read_unread, h3.read_unread, h4.read_unread, h6.read_unread, View.ld_unit_zero (S := S512x1024) hz, View.ld_unit_zero (S := S1x1024) hz]
  simp only [k0_pay2, shapeCast_self]

end runs

variable (m : (ℓ : Loc nD τ sig) → Buf (Elt Ideal) ℓ) (c : Dev nD)

/-- Argument 0 at launch. -/
abbrev a0 : FVec Ideal S4096x1024 .bf16 := m ((c : Thread nD τ).loc main_arg0)

/-- Argument 1 at launch. -/
abbrev a1 : FVec Ideal S4096x1024 .bf16 := m ((c : Thread nD τ).loc main_arg1)

/-- Argument 2 at launch. -/
abbrev a2 : FVec Ideal S4096x1024 .bf16 := m ((c : Thread nD τ).loc main_arg2)

/-- Argument 3 at launch. -/
abbrev a3 : FVec Ideal S1x1024 .f32 := m ((c : Thread nD τ).loc main_arg3)

/-- Row `r` of tile `t`. -/
def row (t : Fin cfg0.N) (r : Fin 512) : Fin 4096 := ⟨t.val * 512 + r.val, by
  have := t.isLt; have h : cfg0.N = 8 := N_0; omega⟩

/-- Which block each window reads or writes at a point. -/
theorem idx_at : ∀ t : Fin cfg0.N, (win0_0.index t 0 = t.val ∧ win0_0.index t 1 = 0) ∧ (win0_1.index t 0 = 0 ∧ win0_1.index t 1 = 0) ∧ (win0_2.index t 0 = t.val ∧ win0_2.index t 1 = 0) ∧ (win0_3.index t 0 = t.val ∧ win0_3.index t 1 = 0) ∧ (win0_4.index t 0 = t.val ∧ win0_4.index t 1 = 0) ∧ (win0_5.index t 0 = 0 ∧ win0_5.index t 1 = 0) :=
  (by decide +kernel : ∀ t : Fin grid0.N, _)

theorem iblk0 (t : Fin cfg0.N) (r : Fin 512) (j : Fin 1024) : iblk m c 0 t (ix2 r j) = a1 m c (ix2 (row t r) j) := by
  have hi := (idx_at t).1
  unfold iblk
  rw [View.read_apply]
  show V m c main_arg1 _ = m (c.tc.loc main_arg1) _
  unfold V
  congr 1
  funext a
  apply Fin.ext
  match a with
  | ⟨0, _⟩ => show win0_0.index t 0 * 512 + 1 * r.val = t.val * 512 + r.val; rw [hi.1]; omega
  | ⟨1, _⟩ => show win0_0.index t 1 * 1024 + 1 * j.val = j.val; rw [hi.2]; omega

theorem iblk1 (t : Fin cfg0.N) (r : Fin 1) (j : Fin 1024) : iblk m c 1 t (ix2 r j) = a3 m c (ix2 r j) := by
  have hi := (idx_at t).2.1
  unfold iblk
  rw [View.read_apply]
  show V m c main_arg3 _ = m (c.tc.loc main_arg3) _
  unfold V
  congr 1
  funext a
  apply Fin.ext
  match a with
  | ⟨0, _⟩ => show win0_1.index t 0 * 1 + 1 * r.val = r.val; rw [hi.1]; omega
  | ⟨1, _⟩ => show win0_1.index t 1 * 1024 + 1 * j.val = j.val; rw [hi.2]; omega

theorem iblk2 (t : Fin cfg0.N) (r : Fin 512) (j : Fin 1024) : iblk m c 2 t (ix2 r j) = a0 m c (ix2 (row t r) j) := by
  have hi := (idx_at t).2.2.1
  unfold iblk
  rw [View.read_apply]
  show V m c main_arg0 _ = m (c.tc.loc main_arg0) _
  unfold V
  congr 1
  funext a
  apply Fin.ext
  match a with
  | ⟨0, _⟩ => show win0_2.index t 0 * 512 + 1 * r.val = t.val * 512 + r.val; rw [hi.1]; omega
  | ⟨1, _⟩ => show win0_2.index t 1 * 1024 + 1 * j.val = j.val; rw [hi.2]; omega

theorem iblk3 (t : Fin cfg0.N) (r : Fin 512) (j : Fin 1024) : iblk m c 3 t (ix2 r j) = a2 m c (ix2 (row t r) j) := by
  have hi := (idx_at t).2.2.2.1
  unfold iblk
  rw [View.read_apply]
  show V m c main_arg2 _ = m (c.tc.loc main_arg2) _
  unfold V
  congr 1
  funext a
  apply Fin.ext
  match a with
  | ⟨0, _⟩ => show win0_3.index t 0 * 512 + 1 * r.val = t.val * 512 + r.val; rw [hi.1]; omega
  | ⟨1, _⟩ => show win0_3.index t 1 * 1024 + 1 * j.val = j.val; rw [hi.2]; omega

/-- A point leaves its rows of the gradient. -/
theorem outs_row (t : Fin cfg0.N) : (outsAt0 m c t.val t.isLt).1 = k0_pay8 (iblk m c 0 t) (iblk m c 1 t) (iblk m c 2 t) (iblk m c 3 t) := by
  by_cases h0 : t.val % 8 = 0
  · rw [outsAt0_A m c t h0, row_A]
  · rw [outsAt0_B m c t h0, row_B]

/-- A point's rows of the gradient are the reference's rows. -/
theorem row_iblk (t : Fin cfg0.N) (r : Fin 512) (j : Fin 1024) :
    (k0_pay8 (iblk m c 0 t) (iblk m c 1 t) (iblk m c 2 t) (iblk m c 3 t)) (ix2 r j) = val_main_v38 (F := Ideal) (a0 m c) (a1 m c) (a2 m c) (a3 m c) (ix2 (row t r) j) :=
  tile_dx (row t) _ _ _ _ _ _ _ _ (iblk0 m c t) (iblk1 m c t) (iblk2 m c t) (iblk3 m c t) r j

/-- A point's addend to the parameter row sums over the rows of its tile. -/
theorem col_iblk (t : Fin cfg0.N) (j : Fin 1024) :
    (k0_pay7 (iblk m c 0 t) (iblk m c 2 t)) (ix2 0 j) = ∑ r : Fin 512, a1 m c (ix2 (row t r) j) * val_main_v8 (F := Ideal) (a1 m c) (ix2 (row t r) 0) * a0 m c (ix2 (row t r) j) :=
  tile_dg (row t) _ _ _ _ (iblk0 m c t) (iblk2 m c t) j

/-- The first point leaves its addend. -/
theorem outs_first (t : Fin cfg0.N) (h0 : t.val % 8 = 0) (i : S1x1024.Idx) :
    (outsAt0 m c t.val t.isLt).2 i = (k0_pay7 (iblk m c 0 t) (iblk m c 2 t)) i := by
  rw [outsAt0_A m c t h0, col_A]
  dsimp only
  rw [addf_apply]
  simp only [broadcast, Ideal.addf_def, Ideal.ofBits_def, Ideal.ofBits_zero_f32, zero_add]

/-- A later point adds its addend to what the point before left. -/
theorem outs_succ (n : ℕ) (h : n + 1 < cfg0.N) (i : S1x1024.Idx) :
    (outsAt0 m c (n + 1) h).2 i = (outsAt0 m c n (by omega)).2 i + (k0_pay7 (iblk m c 0 ⟨n + 1, h⟩) (iblk m c 2 ⟨n + 1, h⟩)) i := by
  have hN : cfg0.N = 8 := N_0
  have hB : ¬(⟨n + 1, h⟩ : Fin cfg0.N).val % 8 = 0 := by dsimp only; omega
  have e := outsAt0_B m c ⟨n + 1, h⟩ hB
  rw [row_B, col_B] at e
  exact congrFun (congrArg (fun p => p.2) e) i

/-- After the last point the parameter row's buffer holds the whole sum. -/
theorem outs_last (h : 7 < cfg0.N) : (outsAt0 m c 7 h).2 = val_main_v19 (F := Ideal) (a0 m c) (a1 m c) := by
  have hN : cfg0.N = 8 := N_0
  funext i
  obtain ⟨r, j, rfl⟩ : ∃ r j, i = ix2 r j := ⟨i 0, i 1, by idx_vars i⟩
  obtain rfl : r = 0 := Fin.ext (by have := r.isLt; omega)
  rw [dg_eq]
  refine Cert.Att.chain_sum (N := 4096) (B := 512) rfl
    (fun x => a1 m c (ix2 x j) * val_main_v8 (F := Ideal) (a1 m c) (ix2 x 0) * a0 m c (ix2 x j)) (fun n h => (outsAt0 m c n (by omega)).2 (ix2 0 j)) ?_ ?_
  · refine (outs_first m c ⟨0, by omega⟩ (Nat.zero_mod 8) _).trans ?_
    rw [col_iblk]
    exact Finset.sum_congr rfl fun x _ => by simp only [row, zero_mul, zero_add]
  · intro n h
    rw [outs_succ m c n, col_iblk]
    rfl

/-- The gradient's array after the run. -/
theorem final_4 : (dats m 0 c).arrAt 4 cfg0.N = val_main_v38 (F := Ideal) (a0 m c) (a1 m c) (a2 m c) (a3 m c) := by
  have hN : cfg0.N = 8 := N_0
  refine (dats m 0 c).arrAt_eq_of_cover 4 _ (fun t _ => ?_) fun i => ?_
  · have hi := (idx_at t).2.2.2.2.1
    rw [Cert.Kernel34Ideal.Value.flushed4, outs_row]
    funext j
    obtain ⟨r, x, rfl⟩ : ∃ r x, j = ix2 r x := ⟨j 0, j 1, by idx_vars j⟩
    rw [View.read_apply]
    refine (row_iblk m c t r x).trans ?_
    congr 1
    funext a
    apply Fin.ext
    match a with
    | ⟨0, _⟩ => show t.val * 512 + r.val = win0_4.index t 0 * 512 + 1 * r.val; rw [hi.1]; omega
    | ⟨1, _⟩ => show x.val = win0_4.index t 1 * 1024 + 1 * x.val; rw [hi.2]; omega
  · have h0 : (i 0 : Nat) < 4096 := (i 0).isLt
    have h1 : (i 1 : Nat) < 1024 := (i 1).isLt
    obtain ⟨t, ht⟩ : ∃ t : Fin cfg0.N, t.val = (i 0 : Nat) / 512 := ⟨⟨(i 0 : Nat) / 512, by omega⟩, rfl⟩
    refine ⟨t, flush0_4 _, ?_⟩
    have hi := (idx_at t).2.2.2.2.1
    show i ∈ ((View.whole main_v0_0).slice (win0_4.rect t)).set
    rw [View.set_slice_whole, Rect.mem_set_unit]
    intro a
    match a with
    | ⟨0, _⟩ => exact Cert.Tile.mem 512 (i 0) hi.1 (by omega)
    | ⟨1, _⟩ => exact Cert.Tile.mem 1024 (i 1) hi.2 (by omega)

/-- The point that writes the parameter row back is the last. -/
theorem last_eq (t : Fin cfg0.N) (h : t.val % 8 = 7) : t = t0_7 := by
  have hN : cfg0.N = 8 := N_0
  have := t.isLt
  exact Fin.ext (show t.val = 7 by omega)

/-- The parameter row's array after the run. -/
theorem final_5 : (dats m 0 c).arrAt 5 cfg0.N = val_main_v19 (F := Ideal) (a0 m c) (a1 m c) := by
  have hN : cfg0.N = 8 := N_0
  refine (dats m 0 c).arrAt_eq_of_cover 5 _ (fun t hf => ?_) fun i => ?_
  · obtain rfl := last_eq t ((flush0_5 t).mp hf)
    have hi := (idx_at t0_7).2.2.2.2.2
    rw [Cert.Kernel34Ideal.Value.flushed5, show (outsAt0 m c t0_7.val t0_7.isLt).2 = _ from outs_last m c _]
    funext j
    obtain ⟨r, x, rfl⟩ : ∃ r x, j = ix2 r x := ⟨j 0, j 1, by idx_vars j⟩
    rw [View.read_apply]
    show (val_main_v19 (F := Ideal) (a0 m c) (a1 m c)) (ix2 r x) = _
    congr 1
    funext a
    apply Fin.ext
    match a with
    | ⟨0, _⟩ => show r.val = win0_5.index t0_7 0 * 1 + 1 * r.val; rw [hi.1]; omega
    | ⟨1, _⟩ => show x.val = win0_5.index t0_7 1 * 1024 + 1 * x.val; rw [hi.2]; omega
  · have h0 : (i 0 : Nat) < 1 := (i 0).isLt
    have h1 : (i 1 : Nat) < 1024 := (i 1).isLt
    refine ⟨t0_7, (flush0_5 _).mpr rfl, ?_⟩
    have hi := (idx_at t0_7).2.2.2.2.2
    show i ∈ ((View.whole main_v0_1).slice (win0_5.rect t0_7)).set
    rw [View.set_slice_whole, Rect.mem_set_unit]
    intro a
    match a with
    | ⟨0, _⟩ => exact Cert.Tile.mem 1 (i 0) hi.1 (by omega)
    | ⟨1, _⟩ => exact Cert.Tile.mem 1024 (i 1) hi.2 (by omega)

/-- From memories that agree on the arguments, the kernel and the reference end with the same arrays. -/
theorem equal : Cert.algebraic_Kernel34Ideal_Reference34Ideal := by
  intro m g m' g' _ hargs
  refine ⟨fun c => val_main_v38 (F := Ideal) (a0 m c) (a1 m c) (a2 m c) (a3 m c), fun c => val_main_v19 (F := Ideal) (a0 m c) (a1 m c), ?_, ?_⟩
  · refine (θ_run _ _ _).mono (fun r h c => ?_) (Cert.Kernel34Ideal.Value.run_blocks (F := Ideal) m g)
    obtain ⟨h0, h1, h2⟩ := h c
    exact ⟨h0.trans (final_4 m c), h1.trans (final_5 m c), h2⟩
  · refine (θ_run _ _ _).mono (fun r h c => ?_) (Cert.Reference34Ideal.Value.run (F := Ideal) m' g')
    obtain ⟨e0, e1, e2, e3⟩ := hargs c
    obtain ⟨h0, h1, h2⟩ := h c
    rw [val_main_v38_eq, e0, e1, e2, e3] at h0
    rw [val_main_v19_eq, e0, e1] at h1
    exact ⟨h0, h1, h2⟩

end Cert.Call34

end
-- ==== Proof.Call36.lean ====
/- The weight's gradient of the memory's RMS norm: the kernel's one block against the reference's gradient. -/
module

public import proofs.«01_k».proof.Defs
public import proofs.«01_k».proof.Proof.Gen.Kernel36Ideal.Value
public import proofs.«01_k».proof.Proof.Gen.Reference36Ideal.Read
public import Idealize.ShloMosaic.Lib.Pointwise
public import Idealize.ShloMosaic.Lib.Tactic
public import Idealize.ShloMosaic.PureOps.Ideal.Laws
public import proofs.«01_k».proof.Proof.Tile

@[expose] public section

noncomputable section

namespace Cert.Call36

open Idealize.ShloMosaic Idealize.ShloMosaic.TcCoe Idealize.SL.Sem Cert.Kernel36Ideal Cert.Kernel36Ideal.Gen
open Cert.Reference36Ideal.Read

theorem hz : (![0, 0] : Fin 2 → Nat) = fun _ => 0 := funext fun a => by fin_cases a <;> rfl

/-- The block's sum is the reference's gradient. -/
theorem block_eq (a0 a1 : FVec Ideal S256x1024 .f32) (x0 x2 : Vec Ideal S256x1024 .f32)
    (h0 : ∀ r k, x0 (ix2 r k) = a1 (ix2 r k)) (h2 : ∀ r k, x2 (ix2 r k) = a0 (ix2 r k)) (r : Fin 1) (j : Fin 1024) :
    k0_pay2 x0 x2 (k0_pay1 (F := Ideal)) (ix2 r j) = val_main_v14 (F := Ideal) a0 a1 (ix2 r j) := by
  obtain rfl : r = 0 := Fin.ext (by have := r.isLt; omega)
  pointwise [k0_pay1, k0_pay2, val_main_v0, val_main_v1, val_main_v2, val_main_v3, val_main_v4, val_main_v5, val_main_v6, val_main_v7, val_main_v8, val_main_v9, val_main_v10, val_main_v11, val_main_v12, val_main_v13, val_main_v14, val_main_cst, val_main_cst_0, val_main_cst_1, val_main_cst_2]
  simp only [h0, h2]

/-- The point starts the sum from zero and adds the block's sum. -/
theorem out_A (c : Dev nD) (i : grid0.Coords) (p1 : Memref sig .tc .vmem S256x1024 .f32) (h1 : p1.IsWhole) (p2 : Memref sig .tc .vmem S1x1024 .f32) (h2 : p2.IsWhole) (p3 : Memref sig .tc .vmem S256x1024 .f32) (h3 : p3.IsWhole) (p4 : Memref sig .tc .vmem S1x1024 .f32) (h4 : p4.IsWhole)
    (hc : cond0_0 i) (x0 : Vec Ideal S256x1024 .f32) (x1 : Vec Ideal S1x1024 .f32) (x2 : Vec Ideal S256x1024 .f32) :
    out0_A_3 c i p1 h1 p2 h2 p3 h3 p4 h4 hc x0 x1 x2 = k0_pay2 x0 x2 (k0_pay1 (F := Ideal)) := by
  unfold out0_A_3
  rw [View.read_writes_eq_canon _ _ _ (cover0_A_3 c i p1 h1 p2 h2 p3 h3 p4 h4 hc x0 x1 x2)]
  unfold kernelRun0_A
  dsimp only
  sl_unfold_words
  rw [View.canon_cons_unit_zero (S := S1x1024) hz, View.readCov_unit_zero (S := S1x1024) _ hz]
  simp only [View.readAt_eq_ld, h1.read_unread, h2.read_unread, h3.read_unread, View.ld_unit_zero (S := S256x1024) hz, View.ld_unit_zero (S := S1x1024) hz]

variable (m : (ℓ : Loc nD τ sig) → Buf (Elt Ideal) ℓ) (c : Dev nD)

/-- Argument 0 at launch. -/
abbrev a0 : FVec Ideal S256x1024 .f32 := m ((c : Thread nD τ).loc main_arg0)

/-- Argument 1 at launch. -/
abbrev a1 : FVec Ideal S256x1024 .f32 := m ((c : Thread nD τ).loc main_arg1)

/-- The windows stand at the start of their arrays. -/
theorem idx_at : ∀ t : Fin cfg0.N, (win0_0.index t 0 = 0 ∧ win0_0.index t 1 = 0) ∧ (win0_2.index t 0 = 0 ∧ win0_2.index t 1 = 0) ∧ (win0_3.index t 0 = 0 ∧ win0_3.index t 1 = 0) :=
  (by decide +kernel : ∀ t : Fin grid0.N, _)

theorem iblk0 (t : Fin cfg0.N) (r : Fin 256) (j : Fin 1024) : iblk m c 0 t (ix2 r j) = a1 m c (ix2 r j) := by
  have hi := (idx_at t).1
  unfold iblk
  rw [View.read_apply]
  show V m c main_arg1 _ = m (c.tc.loc main_arg1) _
  unfold V
  congr 1
  funext a
  apply Fin.ext
  match a with
  | ⟨0, _⟩ => show win0_0.index t 0 * 256 + 1 * r.val = r.val; rw [hi.1]; omega
  | ⟨1, _⟩ => show win0_0.index t 1 * 1024 + 1 * j.val = j.val; rw [hi.2]; omega

theorem iblk2 (t : Fin cfg0.N) (r : Fin 256) (j : Fin 1024) : iblk m c 2 t (ix2 r j) = a0 m c (ix2 r j) := by
  have hi := (idx_at t).2.1
  unfold iblk
  rw [View.read_apply]
  show V m c main_arg0 _ = m (c.tc.loc main_arg0) _
  unfold V
  congr 1
  funext a
  apply Fin.ext
  match a with
  | ⟨0, _⟩ => show win0_2.index t 0 * 256 + 1 * r.val = r.val; rw [hi.1]; omega
  | ⟨1, _⟩ => show win0_2.index t 1 * 1024 + 1 * j.val = j.val; rw [hi.2]; omega

/-- What the point leaves in the result's window. -/
theorem point (t : Fin cfg0.N) (r : Fin 1) (j : Fin 1024) : outsAt0 m c t (ix2 r j) = val_main_v14 (F := Ideal) (a0 m c) (a1 m c) (ix2 r j) := by
  unfold outsAt0
  rw [out_A]
  exact block_eq _ _ _ _ (iblk0 m c t) (iblk2 m c t) r j

/-- The result's array after the run. -/
theorem final : (dats m 0 c).arrAt 3 cfg0.N = val_main_v14 (F := Ideal) (a0 m c) (a1 m c) := by
  have hN : cfg0.N = 1 := N_0
  obtain ⟨s, hs⟩ : ∃ s : Fin cfg0.N, s.val = 0 := ⟨⟨0, by omega⟩, rfl⟩
  refine (dats m 0 c).arrAt_eq_of_cover 3 _ (fun t _ => ?_) fun i => ⟨s, flush0_3 _, ?_⟩
  · have hi := (idx_at t).2.2
    rw [Cert.Kernel36Ideal.Value.flushed3]
    funext j
    obtain ⟨r, x, rfl⟩ : ∃ r x, j = ix2 r x := ⟨j 0, j 1, by idx_vars j⟩
    rw [View.read_apply]
    refine (point m c t r x).trans ?_
    congr 1
    funext a
    apply Fin.ext
    match a with
    | ⟨0, _⟩ => show r.val = win0_3.index t 0 * 1 + 1 * r.val; rw [hi.1]; omega
    | ⟨1, _⟩ => show x.val = win0_3.index t 1 * 1024 + 1 * x.val; rw [hi.2]; omega
  · have hi := (idx_at s).2.2
    have h0 : (i 0 : Nat) < 1 := (i 0).isLt
    have h1 : (i 1 : Nat) < 1024 := (i 1).isLt
    show i ∈ ((View.whole main_v0).slice (win0_3.rect s)).set
    rw [View.set_slice_whole, Rect.mem_set_unit]
    intro a
    match a with
    | ⟨0, _⟩ => exact Cert.Tile.mem 1 (i 0) hi.1 (by omega)
    | ⟨1, _⟩ => exact Cert.Tile.mem 1024 (i 1) hi.2 (by omega)

/-- From memories that agree on the arguments, the kernel and the reference end with the same array. -/
theorem equal : Cert.algebraic_Kernel36Ideal_Reference36Ideal := by
  intro m g m' g' _ hargs
  refine ⟨fun c => val_main_v14 (F := Ideal) (a0 m c) (a1 m c), ?_, ?_⟩
  · refine (θ_run _ _ _).mono (fun r h c => ?_) (Cert.Kernel36Ideal.Value.run_blocks (F := Ideal) m g)
    obtain ⟨h0, h1⟩ := h c
    exact ⟨h0.trans (final m c), h1⟩
  · refine (θ_run _ _ _).mono (fun r h c => ?_) (Cert.Reference36Ideal.Value.run (F := Ideal) m' g')
    obtain ⟨e0, e1, e2⟩ := hargs c
    obtain ⟨h0, h1⟩ := h c
    rw [val_main_v14_eq, e0, e1] at h0
    exact ⟨h0, h1⟩

end Cert.Call36

end
-- ==== Proof.Call37.lean ====
/- The projection of the memory to keys and values: the one-block product is the reference's product. -/
module

public import proofs.«01_k».proof.Defs
public import proofs.«01_k».proof.Proof.Gen.Kernel37Ideal.Value
public import proofs.«01_k».proof.Proof.Gen.Reference37Ideal.Read
public import Idealize.ShloMosaic.Lib.Pointwise
public import Idealize.ShloMosaic.Lib.Tactic
public import Idealize.ShloMosaic.PureOps.Ideal.Laws

@[expose] public section

noncomputable section

namespace Cert.Call37

open Idealize.ShloMosaic Idealize.ShloMosaic.TcCoe Idealize.SL.Sem Cert.Kernel37Ideal Cert.Kernel37Ideal.Gen
open Cert.Kernel37Ideal.Value Cert.Reference37Ideal.Read

/-- The block's product is the reference's product. -/
theorem value_eq (a0 : Vec Ideal S256x1024 .bf16) (a1 : Vec Ideal S1024x2048 .bf16) : G2 a0 a1 = val_main_v2 (F := Ideal) a0 a1 := by
  funext i
  obtain ⟨r, j, rfl⟩ : ∃ r j, i = ix2 r j := ⟨i 0, i 1, by idx_vars i⟩
  pointwise [k0_pay1, val_main_v0, val_main_v1, val_main_v2]

/-- From memories that agree on the arguments, the kernel and the reference end with the same array. -/
theorem equal : Cert.algebraic_Kernel37Ideal_Reference37Ideal := by
  intro m g m' g' _ hargs
  refine ⟨fun c => val_main_v2 (F := Ideal) (m ((c : Thread nD τ).loc main_arg0)) (m ((c : Thread nD τ).loc main_arg1)), ?_, ?_⟩
  · refine (θ_run _ _ _).mono (fun r h c => ?_) (Cert.Kernel37Ideal.Value.run (F := Ideal) m g)
    obtain ⟨h0, h1⟩ := h c
    exact ⟨h0.trans (value_eq _ _), h1⟩
  · refine (θ_run _ _ _).mono (fun r h c => ?_) (Cert.Reference37Ideal.Value.run (F := Ideal) m' g')
    obtain ⟨e0, e1⟩ := hargs c
    obtain ⟨h0, h1⟩ := h c
    rw [val_main_v2_eq, e0, e1] at h0
    exact ⟨h0, h1⟩

end Cert.Call37

end
-- ==== Proof.Call38.lean ====
/- The gradient of the normed memory: the one-block product is the reference's product with the transposed weight. -/
module

public import proofs.«01_k».proof.Defs
public import proofs.«01_k».proof.Proof.Gen.Kernel38Ideal.Value
public import proofs.«01_k».proof.Proof.Gen.Reference38Ideal.Read
public import Idealize.ShloMosaic.Lib.Pointwise
public import Idealize.ShloMosaic.Lib.Tactic
public import Idealize.ShloMosaic.PureOps.Ideal.Laws

@[expose] public section

noncomputable section

namespace Cert.Call38

open Idealize.ShloMosaic Idealize.ShloMosaic.TcCoe Idealize.SL.Sem Cert.Kernel38Ideal Cert.Kernel38Ideal.Gen
open Cert.Kernel38Ideal.Value Cert.Reference38Ideal.Read

/-- The block's product is the reference's product. -/
theorem value_eq (a0 : Vec Ideal S256x2048 .f32) (a1 : Vec Ideal S1024x2048 .bf16) : G2 a0 a1 = val_main_v2 (F := Ideal) a0 a1 := by
  funext i
  obtain ⟨r, j, rfl⟩ : ∃ r j, i = ix2 r j := ⟨i 0, i 1, by idx_vars i⟩
  pointwise [k0_pay1, val_main_v0, val_main_v1, val_main_v2]

/-- From memories that agree on the arguments, the kernel and the reference end with the same array. -/
theorem equal : Cert.algebraic_Kernel38Ideal_Reference38Ideal := by
  intro m g m' g' _ hargs
  refine ⟨fun c => val_main_v2 (F := Ideal) (m ((c : Thread nD τ).loc main_arg0)) (m ((c : Thread nD τ).loc main_arg1)), ?_, ?_⟩
  · refine (θ_run _ _ _).mono (fun r h c => ?_) (Cert.Kernel38Ideal.Value.run (F := Ideal) m g)
    obtain ⟨h0, h1⟩ := h c
    exact ⟨h0.trans (value_eq _ _), h1⟩
  · refine (θ_run _ _ _).mono (fun r h c => ?_) (Cert.Reference38Ideal.Value.run (F := Ideal) m' g')
    obtain ⟨e0, e1⟩ := hargs c
    obtain ⟨h0, h1⟩ := h c
    rw [val_main_v2_eq, e0, e1] at h0
    exact ⟨h0, h1⟩

end Cert.Call38

end
-- ==== Proof.Call39.lean ====
/- The gradient of the key and value projection's weight: the kernel's column blocks, one for each device, against the reference's product. -/
module

public import proofs.«01_k».proof.Defs
public import proofs.«01_k».proof.Proof.Gen.Kernel39Ideal.Value
public import proofs.«01_k».proof.Proof.Gen.Reference39Ideal.Read
public import Idealize.ShloMosaic.Lib.Pointwise
public import Idealize.ShloMosaic.Lib.Tactic
public import Idealize.ShloMosaic.Lib.Pipeline.ValueKit.Tiles
public import Idealize.ShloMosaic.PureOps.Ideal.Laws
public import proofs.«01_k».proof.Proof.Tile

@[expose] public section

noncomputable section

namespace Cert.Call39

open Idealize.ShloMosaic Idealize.ShloMosaic.TcCoe Idealize.SL.Sem Cert.Kernel39Ideal Cert.Kernel39Ideal.Gen
open Cert.Reference39Ideal.Read

theorem hz : (![0, 0] : Fin 2 → Nat) = fun _ => 0 := funext fun a => by fin_cases a <;> rfl

theorem hz3 : (![0, 0, 0] : Fin 3 → Nat) = fun _ => 0 := funext fun a => by fin_cases a <;> rfl

/-- Column `j` of block `t`. -/
def col (t : Fin 8) (j : Fin 256) : Fin 2048 := ⟨t.val * 256 + j.val, by omega⟩

/-- The reference's blocked result, entry by entry. -/
theorem ref_eq (a0 : FVec Ideal S256x1024 .bf16) (a1 : FVec Ideal S256x2048 .f32) (t : Fin 8) (r : Fin 1024) (j : Fin 256) :
    val_main_v5 (F := Ideal) a0 a1 (ix3 t r j) = ∑ k : Fin 256, a0 (ix2 k r) * a1 (ix2 k (col t j)) := by
  have e : idx_main_v3 (idx_main_v4 (ix3 t r j)) = ix2 r (col t j) := by
    funext a
    apply Fin.ext
    match a with
    | ⟨0, _⟩ => show ((r.val * 8 + t.val) * 256 + j.val) / 2048 = r.val; omega
    | ⟨1, _⟩ => show ((r.val * 8 + t.val) * 256 + j.val) % 2048 = t.val * 256 + j.val; omega
  rw [val_main_v5_apply, val_main_v4_apply, val_main_v3_apply, e]
  pointwise [val_main_v0, val_main_v1, val_main_v2]

/-- One block's product is the reference's block. -/
theorem block_eq (t : Fin 8) (a0 : FVec Ideal S256x1024 .bf16) (a1 : FVec Ideal S256x2048 .f32) (x0 : Vec Ideal S256x1024 .bf16) (x1 : Vec Ideal S256x256 .f32)
    (h0 : ∀ r k, x0 (ix2 r k) = a0 (ix2 r k)) (h1 : ∀ r k, x1 (ix2 r k) = a1 (ix2 r (col t k))) (r : Fin 1024) (j : Fin 256) :
    k0_pay1 x0 x1 (ix3 0 r j) = val_main_v5 (F := Ideal) a0 a1 (ix3 t r j) := by
  rw [ref_eq]
  pointwise [k0_pay1]
  simp only [h0, h1]

variable (m : (ℓ : Loc nD τ sig) → Buf (Elt Ideal) ℓ) (c : Dev nD)

/-- Argument 0 at launch. -/
abbrev a0 : FVec Ideal S256x1024 .bf16 := m ((c : Thread nD τ).loc main_arg0)

/-- Argument 1 at launch. -/
abbrev a1 : FVec Ideal S256x2048 .f32 := m ((c : Thread nD τ).loc main_arg1)

/-- The block a point writes. -/
def blk (t : Fin cfg0.N) : Fin 8 := ⟨t.val, by have := t.isLt; have h : cfg0.N = 8 := N_0; omega⟩

/-- Which block each window reads or writes at a point. -/
theorem idx_at : ∀ t : Fin cfg0.N, (win0_0.index t 0 = 0 ∧ win0_0.index t 1 = 0) ∧ (win0_1.index t 0 = 0 ∧ win0_1.index t 1 = t.val) ∧
    (win0_2.index t 0 = t.val ∧ win0_2.index t 1 = 0 ∧ win0_2.index t 2 = 0) :=
  (by decide +kernel : ∀ t : Fin grid0.N, (win0_0.index t 0 = 0 ∧ win0_0.index t 1 = 0) ∧ (win0_1.index t 0 = 0 ∧ win0_1.index t 1 = t.val) ∧
    (win0_2.index t 0 = t.val ∧ win0_2.index t 1 = 0 ∧ win0_2.index t 2 = 0))

theorem iblk0 (t : Fin cfg0.N) (r : Fin 256) (j : Fin 1024) : iblk m c 0 t (ix2 r j) = a0 m c (ix2 r j) := by
  have hi := (idx_at t).1
  unfold iblk
  rw [View.read_apply]
  show V m c main_arg0 _ = m (c.tc.loc main_arg0) _
  unfold V
  congr 1
  funext a
  apply Fin.ext
  match a with
  | ⟨0, _⟩ => show win0_0.index t 0 * 256 + 1 * r.val = r.val; rw [hi.1]; omega
  | ⟨1, _⟩ => show win0_0.index t 1 * 1024 + 1 * j.val = j.val; rw [hi.2]; omega

theorem iblk1 (t : Fin cfg0.N) (r : Fin 256) (j : Fin 256) : iblk m c 1 t (ix2 r j) = a1 m c (ix2 r (col (blk t) j)) := by
  have hi := (idx_at t).2.1
  unfold iblk
  rw [View.read_apply]
  show V m c main_arg1 _ = m (c.tc.loc main_arg1) _
  unfold V
  congr 1
  funext a
  apply Fin.ext
  match a with
  | ⟨0, _⟩ => show win0_1.index t 0 * 256 + 1 * r.val = r.val; rw [hi.1]; omega
  | ⟨1, _⟩ => show win0_1.index t 1 * 256 + 1 * j.val = t.val * 256 + j.val; rw [hi.2]; omega

/-- What a point leaves is the reference's block. -/
theorem point (t : Fin cfg0.N) (r : Fin 1024) (j : Fin 256) :
    out0_2 (iblk m c 0 t) (iblk m c 1 t) (ix3 0 r j) = val_main_v5 (F := Ideal) (a0 m c) (a1 m c) (ix3 (blk t) r j) := by
  unfold out0_2
  rw [View.canon_unit_zero hz3]
  simp only [View.ld_unit_zero (S := S256x1024) hz, View.ld_unit_zero (S := S256x256) hz]
  exact block_eq (blk t) _ _ _ _ (iblk0 m c t) (iblk1 m c t) r j

/-- The array the kernel ends with. -/
theorem final : (dats m 0 c).arrAt 2 cfg0.N = val_main_v5 (F := Ideal) (a0 m c) (a1 m c) := by
  have hN : cfg0.N = 8 := N_0
  refine (dats m 0 c).arrAt_eq_of_cover 2 _ (fun t _ => ?_) fun i => ?_
  · have hi := (idx_at t).2.2
    rw [Cert.Kernel39Ideal.Value.flushed2]
    funext j
    obtain ⟨q, r, x, rfl⟩ : ∃ q r x, j = ix3 q r x := ⟨j 0, j 1, j 2, by idx_vars j⟩
    obtain rfl : q = 0 := Fin.ext (by have := q.isLt; omega)
    rw [View.read_apply]
    refine (point m c t r x).trans ?_
    congr 1
    funext a
    apply Fin.ext
    match a with
    | ⟨0, _⟩ => show t.val = win0_2.index t 0 * 1 + 1 * 0; rw [hi.1]; omega
    | ⟨1, _⟩ => show r.val = win0_2.index t 1 * 1024 + 1 * r.val; rw [hi.2.1]; omega
    | ⟨2, _⟩ => show x.val = win0_2.index t 2 * 256 + 1 * x.val; rw [hi.2.2]; omega
  · have h0 : (i 0 : Nat) < 8 := (i 0).isLt
    have h1 : (i 1 : Nat) < 1024 := (i 1).isLt
    have h2 : (i 2 : Nat) < 256 := (i 2).isLt
    have ht : (i 0 : Nat) < cfg0.N := by omega
    refine ⟨⟨(i 0 : Nat), ht⟩, flush0_2 _, ?_⟩
    have hi := (idx_at ⟨(i 0 : Nat), ht⟩).2.2
    show i ∈ ((View.whole main_v0).slice (win0_2.rect ⟨(i 0 : Nat), ht⟩)).set
    rw [View.set_slice_whole, Rect.mem_set_unit]
    intro a
    match a with
    | ⟨0, _⟩ => exact Cert.Tile.mem 1 (i 0) hi.1 (by dsimp only; omega)
    | ⟨1, _⟩ => exact Cert.Tile.mem 1024 (i 1) hi.2.1 (by omega)
    | ⟨2, _⟩ => exact Cert.Tile.mem 256 (i 2) hi.2.2 (by omega)

/-- From memories that agree on the arguments, the kernel and the reference end with the same array. -/
theorem equal : Cert.algebraic_Kernel39Ideal_Reference39Ideal := by
  intro m g m' g' _ hargs
  refine ⟨fun c => val_main_v5 (F := Ideal) (a0 m c) (a1 m c), ?_, ?_⟩
  · refine (θ_run _ _ _).mono (fun r h c => ?_) (Cert.Kernel39Ideal.Value.run_blocks (F := Ideal) m g)
    obtain ⟨h0, h1⟩ := h c
    exact ⟨h0.trans (final m c), h1⟩
  · refine (θ_run _ _ _).mono (fun r h c => ?_) (Cert.Reference39Ideal.Value.run (F := Ideal) m' g')
    obtain ⟨e0, e1⟩ := hargs c
    obtain ⟨h0, h1⟩ := h c
    rw [val_main_v5_eq, e0, e1] at h0
    exact ⟨h0, h1⟩

end Cert.Call39

end
-- ==== Proof.Call40.lean ====
/- The gradient of the layer norm and its activation: the kernel's eight row tiles against the reference's gradient. -/
module

public import proofs.«01_k».proof.Defs
public import proofs.«01_k».proof.Proof.Chain
public import proofs.«01_k».proof.Proof.Sig
public import proofs.«01_k».proof.Proof.Gen.Kernel40Ideal.Value
public import proofs.«01_k».proof.Proof.Gen.Reference40Ideal.Read
public import Idealize.ShloMosaic.Lib.Pointwise
public import Idealize.ShloMosaic.Lib.Tactic
public import Idealize.ShloMosaic.PureOps.Ideal.Laws
public import proofs.«01_k».proof.Proof.Tile

@[expose] public section

noncomputable section

namespace Cert.Call40

open Idealize.ShloMosaic Idealize.ShloMosaic.TcCoe Idealize.SL.Sem Cert.Kernel40Ideal Cert.Kernel40Ideal.Gen
open Cert.Reference40Ideal.Read

theorem hz : (![0, 0] : Fin 2 → Nat) = fun _ => 0 := funext fun a => by fin_cases a <;> rfl

section math

variable (f : Fin 512 → Fin 4096) (a0 a1 : FVec Ideal S4096x1024 .bf16) (a2 a3 : FVec Ideal S1x1024 .f32) (x0 : Vec Ideal S512x1024 .bf16) (x1 x2 : Vec Ideal S1x1024 .f32) (x3 : Vec Ideal S512x1024 .bf16)
  (h0 : ∀ r k, x0 (ix2 r k) = a1 (ix2 (f r) k)) (h1 : ∀ r k, x1 (ix2 r k) = a2 (ix2 r k)) (h2 : ∀ r k, x2 (ix2 r k) = a3 (ix2 r k)) (h3 : ∀ r k, x3 (ix2 r k) = a0 (ix2 (f r) k))

include h0 in
/-- The centred rows. -/
theorem cen_eq (r : Fin 512) (k : Fin 1024) : k0_pay8 x0 (ix2 r k) = val_main_v6 (F := Ideal) a1 (ix2 (f r) k) := by
  pointwise [k0_pay8, k0_pay7, k0_pay6, val_main_v0, val_main_cst, val_main_v1, val_main_v2, val_main_cst_0, val_main_v3, val_main_v4, val_main_v5, val_main_v6]
  simp only [h0]

include h0 in
/-- The variance plus the small constant. -/
theorem var_eq (r : Fin 512) : k0_pay11 x0 (ix2 r 0) = val_main_v17 (F := Ideal) a1 (ix2 (f r) 0) := by
  have h := cen_eq f a1 x0 h0
  unfold k0_pay11 val_main_v17 val_main_v13 val_main_v11 val_main_v10 val_main_v7
  generalize k0_pay8 x0 = p at h ⊢
  generalize val_main_v6 (F := Ideal) a1 = q at h ⊢
  pointwise [val_main_cst_2, val_main_cst_3, val_main_v12, val_main_cst_4, val_main_v16]
  simp only [h]

include h0 in
/-- The reciprocal root of the variance. -/
theorem rs_eq (r : Fin 512) : k0_pay12 x0 (ix2 r 0) = val_main_v18 (F := Ideal) a1 (ix2 (f r) 0) := by
  have h := var_eq f a1 x0 h0 r
  unfold k0_pay12 val_main_v18
  generalize k0_pay11 x0 = p at h ⊢
  generalize val_main_v17 (F := Ideal) a1 = q at h ⊢
  pointwise []
  rw [h]

include h0 in
/-- The normed rows. -/
theorem nrm_eq (r : Fin 512) (k : Fin 1024) : k0_pay14 x0 (ix2 r k) = val_main_v23 (F := Ideal) a1 (ix2 (f r) k) := by
  have h : ∀ r k, k0_pay10 x0 (ix2 r k) = val_main_v15 (F := Ideal) a1 (ix2 (f r) k) := cen_eq f a1 x0 h0
  have h' := rs_eq f a1 x0 h0
  unfold k0_pay14 val_main_v23 val_main_v22
  generalize k0_pay10 x0 = p at h ⊢
  generalize val_main_v15 (F := Ideal) a1 = q at h ⊢
  generalize k0_pay12 x0 = p' at h' ⊢
  generalize val_main_v18 (F := Ideal) a1 = q' at h' ⊢
  pointwise []
  rw [h, h']

include h0 h1 h2 in
/-- The layer norm's output. -/
theorem ln_eq (r : Fin 512) (k : Fin 1024) : k0_pay15 x0 x1 x2 (ix2 r k) = val_main_v27 (F := Ideal) a1 a2 a3 (ix2 (f r) k) := by
  have h := nrm_eq f a1 x0 h0
  unfold k0_pay15 val_main_v27 val_main_v25
  generalize k0_pay14 x0 = p at h ⊢
  generalize val_main_v23 (F := Ideal) a1 = q at h ⊢
  pointwise [val_main_v24, val_main_v26]
  rw [h, h1, h2]

include h0 h1 h2 h3 in
/-- The cotangent behind the activation. -/
theorem ct_eq (r : Fin 512) (k : Fin 1024) :
    k0_pay20 (k0_pay15 x0 x1 x2) (k0_pay16 x0 x1 x2) (k0_pay18 x0 x1 x2) (k0_pay19 x0 x1 x2) x3 (ix2 r k) = val_main_v30 (F := Ideal) a0 a1 a2 a3 (ix2 (f r) k) := by
  have h := ln_eq f a1 a2 a3 x0 x1 x2 h0 h1 h2
  unfold k0_pay20 k0_pay19 k0_pay18 k0_pay17 k0_pay16 val_main_v30 val_main_call1_v2 val_main_call1_v1 val_main_call1_v0 val_main_v28_1 val_main_call0_v7 val_main_v28_2 val_main_call0_v3 val_main_call0_v1 val_main_call0_v0
  generalize k0_pay15 x0 x1 x2 = p at h ⊢
  generalize val_main_v27 (F := Ideal) a1 a2 a3 = q at h ⊢
  pointwise [val_main_call0_v0, val_main_call0_v1, val_main_call0_cst, val_main_call0_v2, val_main_call0_v3, val_main_call0_cst_0, val_main_call0_v4, val_main_v28_2, val_main_call0_cst_1, val_main_call0_v6, val_main_call0_v7, val_main_v28_1, val_main_v29, val_main_call1_v0, val_main_call1_v1, val_main_call1_v2]
  simp only [h, h3, zero_sub, mul_one]
  exact Cert.Sig.dsilu _ _

include h0 h1 h2 h3 in
/-- One tile's step of the scale's gradient. -/
theorem dg_step (xo : Vec Ideal S1x1024 .f32) (r : Fin 1) (j : Fin 1024) :
    k0_pay4 (k0_pay22 (k0_pay14 x0) (k0_pay15 x0 x1 x2) (k0_pay16 x0 x1 x2) (k0_pay18 x0 x1 x2) (k0_pay19 x0 x1 x2) x3) xo (ix2 r j)
      = xo (ix2 r j) + ∑ x : Fin 512, val_main_v23 (F := Ideal) a1 (ix2 (f x) j) * val_main_v30 (F := Ideal) a0 a1 a2 a3 (ix2 (f x) j) := by
  have h := nrm_eq f a1 x0 h0
  have h' := ct_eq f a0 a1 a2 a3 x0 x1 x2 x3 h0 h1 h2 h3
  obtain rfl : r = 0 := Fin.ext (by have := r.isLt; omega)
  unfold k0_pay4 k0_pay22
  rw [shapeCast_self]
  generalize k0_pay20 (k0_pay15 x0 x1 x2) (k0_pay16 x0 x1 x2) (k0_pay18 x0 x1 x2) (k0_pay19 x0 x1 x2) x3 = p' at h' ⊢
  generalize k0_pay14 x0 = p at h ⊢
  pointwise []
  simp only [h, h']

include h0 h1 h2 h3 in
/-- One tile's step of the shift's gradient. -/
theorem db_step (xo : Vec Ideal S1x1024 .f32) (r : Fin 1) (j : Fin 1024) :
    k0_pay5 (k0_pay21 (k0_pay15 x0 x1 x2) (k0_pay16 x0 x1 x2) (k0_pay18 x0 x1 x2) (k0_pay19 x0 x1 x2) x3) xo (ix2 r j)
      = xo (ix2 r j) + ∑ x : Fin 512, val_main_v30 (F := Ideal) a0 a1 a2 a3 (ix2 (f x) j) := by
  have h' := ct_eq f a0 a1 a2 a3 x0 x1 x2 x3 h0 h1 h2 h3
  obtain rfl : r = 0 := Fin.ext (by have := r.isLt; omega)
  unfold k0_pay5 k0_pay21
  rw [shapeCast_self]
  generalize k0_pay20 (k0_pay15 x0 x1 x2) (k0_pay16 x0 x1 x2) (k0_pay18 x0 x1 x2) (k0_pay19 x0 x1 x2) x3 = p' at h' ⊢
  pointwise []
  simp only [h']

include h0 h1 h2 h3 in
/-- One tile's rows of the gradient. -/
theorem dx_eq (r : Fin 512) (j : Fin 1024) :
    k0_pay1 (k0_pay26 x1 (k0_pay9 x0) (k0_pay10 x0) (k0_pay12 x0) (k0_pay13 x0) (k0_pay15 x0 x1 x2) (k0_pay16 x0 x1 x2) (k0_pay18 x0 x1 x2) (k0_pay19 x0 x1 x2) x3) (k0_pay27 x1 (k0_pay9 x0) (k0_pay10 x0) (k0_pay12 x0) (k0_pay13 x0) (k0_pay15 x0 x1 x2) (k0_pay16 x0 x1 x2) (k0_pay18 x0 x1 x2) (k0_pay19 x0 x1 x2) x3) (ix2 r j)
      = val_main_v62 (F := Ideal) a0 a1 a2 a3 (ix2 (f r) j) := by
  have hc := cen_eq f a1 x0 h0
  have hv := var_eq f a1 x0 h0
  have hr := rs_eq f a1 x0 h0
  have h' := ct_eq f a0 a1 a2 a3 x0 x1 x2 x3 h0 h1 h2 h3
  have e : k0_pay10 x0 = k0_pay8 x0 := rfl
  have e' : val_main_v15 (F := Ideal) a1 = val_main_v6 (F := Ideal) a1 := rfl
  unfold k0_pay26 k0_pay27 k0_pay25 k0_pay24 k0_pay23 k0_pay13 k0_pay9
  unfold val_main_v62 val_main_v61 val_main_v60 val_main_v59 val_main_v58 val_main_v56 val_main_v55 val_main_v54 val_main_v53 val_main_v52 val_main_v51 val_main_v50 val_main_v49 val_main_v48 val_main_v46 val_main_v45 val_main_v44 val_main_v43 val_main_v42 val_main_v41 val_main_v40 val_main_v39 val_main_v38 val_main_v37 val_main_v21 val_main_v19 val_main_v9
  rw [e, e']
  generalize k0_pay20 (k0_pay15 x0 x1 x2) (k0_pay16 x0 x1 x2) (k0_pay18 x0 x1 x2) (k0_pay19 x0 x1 x2) x3 = p1 at h' ⊢
  generalize val_main_v30 (F := Ideal) a0 a1 a2 a3 = q1 at h' ⊢
  generalize k0_pay8 x0 = p2 at hc ⊢
  generalize val_main_v6 (F := Ideal) a1 = q2 at hc ⊢
  generalize k0_pay11 x0 = p3 at hv ⊢
  generalize val_main_v17 (F := Ideal) a1 = q3 at hv ⊢
  generalize k0_pay12 x0 = p4 at hr ⊢
  generalize val_main_v18 (F := Ideal) a1 = q4 at hr ⊢
  pointwise [k0_pay1, val_main_cst_1, val_main_v8, val_main_cst_5, val_main_v20, val_main_v36, val_main_cst_8, val_main_cst_9, val_main_cst_10, val_main_v47, val_main_cst_11, val_main_cst_12, val_main_cst_13, val_main_v57, val_main_cst_14]
  simp only [h', hc, hv, hr, h1, Fin.sum_univ_one, zero_sub]

end math

/-- The reference's gradient of the scale, entry by entry. -/
theorem dg_val (a0 a1 : FVec Ideal S4096x1024 .bf16) (a2 a3 : FVec Ideal S1x1024 .f32) (r : Fin 1) (j : Fin 1024) :
    val_main_v35 (F := Ideal) a0 a1 a2 a3 (ix2 r j) = ∑ x : Fin 4096, val_main_v23 (F := Ideal) a1 (ix2 x j) * val_main_v30 (F := Ideal) a0 a1 a2 a3 (ix2 x j) := by
  obtain rfl : r = 0 := Fin.ext (by have := r.isLt; omega)
  unfold val_main_v35 val_main_v34 val_main_v33
  generalize val_main_v23 (F := Ideal) a1 = p
  generalize val_main_v30 (F := Ideal) a0 a1 a2 a3 = q
  pointwise [val_main_cst_7]

/-- The reference's gradient of the shift, entry by entry. -/
theorem db_val (a0 a1 : FVec Ideal S4096x1024 .bf16) (a2 a3 : FVec Ideal S1x1024 .f32) (r : Fin 1) (j : Fin 1024) :
    val_main_v32 (F := Ideal) a0 a1 a2 a3 (ix2 r j) = ∑ x : Fin 4096, val_main_v30 (F := Ideal) a0 a1 a2 a3 (ix2 x j) := by
  obtain rfl : r = 0 := Fin.ext (by have := r.isLt; omega)
  unfold val_main_v32 val_main_v31
  generalize val_main_v30 (F := Ideal) a0 a1 a2 a3 = q
  pointwise [val_main_cst_6]

section runs

variable (c : Dev nD) (i : grid0.Coords) (p1 : Memref sig .tc .vmem S512x1024 .bf16) (h1 : p1.IsWhole) (p2 : Memref sig .tc .vmem S1x1024 .f32) (h2 : p2.IsWhole) (p3 : Memref sig .tc .vmem S1x1024 .f32) (h3 : p3.IsWhole) (p4 : Memref sig .tc .vmem S512x1024 .bf16) (h4 : p4.IsWhole) (p5 : Memref sig .tc .vmem S512x1024 .bf16) (h5 : p5.IsWhole) (p6 : Memref sig .tc .vmem S1x1024 .f32) (h6 : p6.IsWhole) (p7 : Memref sig .tc .vmem S1x1024 .f32) (h7 : p7.IsWhole)
  (x0 : Vec Ideal S512x1024 .bf16) (x1 : Vec Ideal S1x1024 .f32) (x2 : Vec Ideal S1x1024 .f32) (x3 : Vec Ideal S512x1024 .bf16) (y0 : Vec Ideal S1x1024 .f32) (y1 : Vec Ideal S1x1024 .f32)

/-- A point leaves its rows of the gradient. -/
theorem out_A4 (hc : cond0_0 i) : out0_A_4 c i p1 h1 p2 h2 p3 h3 p4 h4 p5 h5 p6 h6 p7 h7 hc x0 x1 x2 x3 = k0_pay1 (k0_pay26 x1 (k0_pay9 x0) (k0_pay10 x0) (k0_pay12 x0) (k0_pay13 x0) (k0_pay15 x0 x1 x2) (k0_pay16 x0 x1 x2) (k0_pay18 x0 x1 x2) (k0_pay19 x0 x1 x2) x3) (k0_pay27 x1 (k0_pay9 x0) (k0_pay10 x0) (k0_pay12 x0) (k0_pay13 x0) (k0_pay15 x0 x1 x2) (k0_pay16 x0 x1 x2) (k0_pay18 x0 x1 x2) (k0_pay19 x0 x1 x2) x3) := by
  unfold out0_A_4
  rw [View.read_writes_eq_canon _ _ _ (cover0_A_4 c i p1 h1 p2 h2 p3 h3 p4 h4 p5 h5 p6 h6 p7 h7 hc x0 x1 x2 x3)]
  unfold kernelRun0_A
  dsimp only
  sl_unfold_words
  rw [View.canon_unit_zero hz]
  simp only [View.readAt_eq_ld, h1.read_unread, h2.read_unread, h3.read_unread, h4.read_unread, h6.read_unread, h7.read_unread, View.ld_unit_zero (S := S512x1024) hz, View.ld_unit_zero (S := S1x1024) hz]

/-- The first point starts the sum from zero. -/
theorem out_A5 (hc : cond0_0 i) : out0_A_5 c i p1 h1 p2 h2 p3 h3 p4 h4 p5 h5 p6 h6 p7 h7 hc x0 x1 x2 x3 = k0_pay4 (k0_pay22 (k0_pay14 x0) (k0_pay15 x0 x1 x2) (k0_pay16 x0 x1 x2) (k0_pay18 x0 x1 x2) (k0_pay19 x0 x1 x2) x3) (k0_pay2 (F := Ideal)) := by
  unfold out0_A_5
  rw [View.read_writes_eq_canon _ _ _ (cover0_A_5 c i p1 h1 p2 h2 p3 h3 p4 h4 p5 h5 p6 h6 p7 h7 hc x0 x1 x2 x3)]
  unfold kernelRun0_A
  dsimp only
  sl_unfold_words
  rw [View.canon_cons_unit_zero (S := S1x1024) hz, View.readCov_unit_zero (S := S1x1024) _ hz]
  simp only [View.readAt_eq_ld, h1.read_unread, h2.read_unread, h3.read_unread, h4.read_unread, h6.read_unread, h7.read_unread, View.ld_unit_zero (S := S512x1024) hz, View.ld_unit_zero (S := S1x1024) hz]

/-- The first point starts the sum from zero. -/
theorem out_A6 (hc : cond0_0 i) : out0_A_6 c i p1 h1 p2 h2 p3 h3 p4 h4 p5 h5 p6 h6 p7 h7 hc x0 x1 x2 x3 = k0_pay5 (k0_pay21 (k0_pay15 x0 x1 x2) (k0_pay16 x0 x1 x2) (k0_pay18 x0 x1 x2) (k0_pay19 x0 x1 x2) x3) (k0_pay3 (F := Ideal)) := by
  unfold out0_A_6
  rw [View.read_writes_eq_canon _ _ _ (cover0_A_6 c i p1 h1 p2 h2 p3 h3 p4 h4 p5 h5 p6 h6 p7 h7 hc x0 x1 x2 x3)]
  unfold kernelRun0_A
  dsimp only
  sl_unfold_words
  rw [View.canon_cons_unit_zero (S := S1x1024) hz, View.readCov_unit_zero (S := S1x1024) _ hz]
  simp only [View.readAt_eq_ld, h1.read_unread, h2.read_unread, h3.read_unread, h4.read_unread, h6.read_unread, h7.read_unread, View.ld_unit_zero (S := S512x1024) hz, View.ld_unit_zero (S := S1x1024) hz]

/-- A point leaves its rows of the gradient. -/
theorem out_B4 (hc : ¬cond0_0 i) : out0_B_4 c i p1 h1 p2 h2 p3 h3 p4 h4 p5 h5 p6 h6 p7 h7 hc x0 x1 x2 x3 y0 y1 = k0_pay1 (k0_pay26 x1 (k0_pay9 x0) (k0_pay10 x0) (k0_pay12 x0) (k0_pay13 x0) (k0_pay15 x0 x1 x2) (k0_pay16 x0 x1 x2) (k0_pay18 x0 x1 x2) (k0_pay19 x0 x1 x2) x3) (k0_pay27 x1 (k0_pay9 x0) (k0_pay10 x0) (k0_pay12 x0) (k0_pay13 x0) (k0_pay15 x0 x1 x2) (k0_pay16 x0 x1 x2) (k0_pay18 x0 x1 x2) (k0_pay19 x0 x1 x2) x3) := by
  unfold out0_B_4
  rw [View.read_writes_eq_canon _ _ _ (cover0_B_4 c i p1 h1 p2 h2 p3 h3 p4 h4 p5 h5 p6 h6 p7 h7 hc x0 x1 x2 x3 y0 y1)]
  unfold kernelRun0_B
  dsimp only
  sl_unfold_words
  rw [View.canon_unit_zero hz]
  simp only [View.readAt_eq_ld, h1.read_unread, h2.read_unread, h3.read_unread, h4.read_unread, h6.read_unread, h7.read_unread, View.ld_unit_zero (S := S512x1024) hz, View.ld_unit_zero (S := S1x1024) hz]

/-- A later point adds to the sum. -/
theorem out_B5 (hc : ¬cond0_0 i) : out0_B_5 c i p1 h1 p2 h2 p3 h3 p4 h4 p5 h5 p6 h6 p7 h7 hc x0 x1 x2 x3 y0 y1 = k0_pay4 (k0_pay22 (k0_pay14 x0) (k0_pay15 x0 x1 x2) (k0_pay16 x0 x1 x2) (k0_pay18 x0 x1 x2) (k0_pay19 x0 x1 x2) x3) y0 := by
  unfold out0_B_5
  rw [View.read_writes_eq_canon _ _ _ (cover0_B_5 c i p1 h1 p2 h2 p3 h3 p4 h4 p5 h5 p6 h6 p7 h7 hc x0 x1 x2 x3 y0 y1)]
  unfold kernelRun0_B
  dsimp only
  sl_unfold_words
  rw [View.canon_unit_zero hz]
  simp only [View.readAt_eq_ld, h1.read_unread, h2.read_unread, h3.read_unread, h4.read_unread, h6.read_unread, h7.read_unread, View.ld_unit_zero (S := S512x1024) hz, View.ld_unit_zero (S := S1x1024) hz]

/-- A later point adds to the sum. -/
theorem out_B6 (hc : ¬cond0_0 i) : out0_B_6 c i p1 h1 p2 h2 p3 h3 p4 h4 p5 h5 p6 h6 p7 h7 hc x0 x1 x2 x3 y0 y1 = k0_pay5 (k0_pay21 (k0_pay15 x0 x1 x2) (k0_pay16 x0 x1 x2) (k0_pay18 x0 x1 x2) (k0_pay19 x0 x1 x2) x3) y1 := by
  unfold out0_B_6
  rw [View.read_writes_eq_canon _ _ _ (cover0_B_6 c i p1 h1 p2 h2 p3 h3 p4 h4 p5 h5 p6 h6 p7 h7 hc x0 x1 x2 x3 y0 y1)]
  unfold kernelRun0_B
  dsimp only
  sl_unfold_words
  rw [View.canon_unit_zero hz]
  simp only [View.readAt_eq_ld, h1.read_unread, h2.read_unread, h3.read_unread, h4.read_unread, h6.read_unread, h7.read_unread, View.ld_unit_zero (S := S512x1024) hz, View.ld_unit_zero (S := S1x1024) hz]

end runs

variable (m : (ℓ : Loc nD τ sig) → Buf (Elt Ideal) ℓ) (c : Dev nD)

/-- Argument 0 at launch. -/
abbrev a0 : FVec Ideal S4096x1024 .bf16 := m ((c : Thread nD τ).loc main_arg0)

/-- Argument 1 at launch. -/
abbrev a1 : FVec Ideal S4096x1024 .bf16 := m ((c : Thread nD τ).loc main_arg1)

/-- Argument 2 at launch. -/
abbrev a2 : FVec Ideal S1x1024 .f32 := m ((c : Thread nD τ).loc main_arg2)

/-- Argument 3 at launch. -/
abbrev a3 : FVec Ideal S1x1024 .f32 := m ((c : Thread nD τ).loc main_arg3)

/-- Row `r` of tile `t`. -/
def row (t : Fin cfg0.N) (r : Fin 512) : Fin 4096 := ⟨t.val * 512 + r.val, by
  have := t.isLt; have h : cfg0.N = 8 := N_0; omega⟩

/-- Which block each window reads or writes at a point. -/
theorem idx_at : ∀ t : Fin cfg0.N, (win0_0.index t 0 = t.val ∧ win0_0.index t 1 = 0) ∧ (win0_1.index t 0 = 0 ∧ win0_1.index t 1 = 0) ∧ (win0_2.index t 0 = 0 ∧ win0_2.index t 1 = 0) ∧ (win0_3.index t 0 = t.val ∧ win0_3.index t 1 = 0) ∧ (win0_4.index t 0 = t.val ∧ win0_4.index t 1 = 0) ∧ (win0_5.index t 0 = 0 ∧ win0_5.index t 1 = 0) ∧ (win0_6.index t 0 = 0 ∧ win0_6.index t 1 = 0) :=
  (by decide +kernel : ∀ t : Fin grid0.N, _)

theorem iblk0 (t : Fin cfg0.N) (r : Fin 512) (j : Fin 1024) : iblk m c 0 t (ix2 r j) = a1 m c (ix2 (row t r) j) := by
  have hi := (idx_at t).1
  unfold iblk
  rw [View.read_apply]
  show V m c main_arg1 _ = m (c.tc.loc main_arg1) _
  unfold V
  congr 1
  funext a
  apply Fin.ext
  match a with
  | ⟨0, _⟩ => show win0_0.index t 0 * 512 + 1 * r.val = t.val * 512 + r.val; rw [hi.1]; omega
  | ⟨1, _⟩ => show win0_0.index t 1 * 1024 + 1 * j.val = j.val; rw [hi.2]; omega

theorem iblk1 (t : Fin cfg0.N) (r : Fin 1) (j : Fin 1024) : iblk m c 1 t (ix2 r j) = a2 m c (ix2 r j) := by
  have hi := (idx_at t).2.1
  unfold iblk
  rw [View.read_apply]
  show V m c main_arg2 _ = m (c.tc.loc main_arg2) _
  unfold V
  congr 1
  funext a
  apply Fin.ext
  match a with
  | ⟨0, _⟩ => show win0_1.index t 0 * 1 + 1 * r.val = r.val; rw [hi.1]; omega
  | ⟨1, _⟩ => show win0_1.index t 1 * 1024 + 1 * j.val = j.val; rw [hi.2]; omega

theorem iblk2 (t : Fin cfg0.N) (r : Fin 1) (j : Fin 1024) : iblk m c 2 t (ix2 r j) = a3 m c (ix2 r j) := by
  have hi := (idx_at t).2.2.1
  unfold iblk
  rw [View.read_apply]
  show V m c main_arg3 _ = m (c.tc.loc main_arg3) _
  unfold V
  congr 1
  funext a
  apply Fin.ext
  match a with
  | ⟨0, _⟩ => show win0_2.index t 0 * 1 + 1 * r.val = r.val; rw [hi.1]; omega
  | ⟨1, _⟩ => show win0_2.index t 1 * 1024 + 1 * j.val = j.val; rw [hi.2]; omega

theorem iblk3 (t : Fin cfg0.N) (r : Fin 512) (j : Fin 1024) : iblk m c 3 t (ix2 r j) = a0 m c (ix2 (row t r) j) := by
  have hi := (idx_at t).2.2.2.1
  unfold iblk
  rw [View.read_apply]
  show V m c main_arg0 _ = m (c.tc.loc main_arg0) _
  unfold V
  congr 1
  funext a
  apply Fin.ext
  match a with
  | ⟨0, _⟩ => show win0_3.index t 0 * 512 + 1 * r.val = t.val * 512 + r.val; rw [hi.1]; omega
  | ⟨1, _⟩ => show win0_3.index t 1 * 1024 + 1 * j.val = j.val; rw [hi.2]; omega

/-- A point's rows of the gradient are the reference's rows. -/
theorem outs_row (t : Fin cfg0.N) (r : Fin 512) (j : Fin 1024) :
    (outsAt0 m c t.val t.isLt).1 (ix2 r j) = val_main_v62 (F := Ideal) (a0 m c) (a1 m c) (a2 m c) (a3 m c) (ix2 (row t r) j) := by
  by_cases h0 : t.val % 8 = 0
  · rw [outsAt0_A m c t h0, out_A4]
    exact dx_eq (row t) _ _ _ _ _ _ _ _ (iblk0 m c t) (iblk1 m c t) (iblk2 m c t) (iblk3 m c t) r j
  · rw [outsAt0_B m c t h0, out_B4]
    exact dx_eq (row t) _ _ _ _ _ _ _ _ (iblk0 m c t) (iblk1 m c t) (iblk2 m c t) (iblk3 m c t) r j

/-- After the last point the buffer holds the whole sum. -/
theorem outs_last5 (h : 7 < cfg0.N) : (outsAt0 m c 7 h).2.1 = val_main_v35 (F := Ideal) (a0 m c) (a1 m c) (a2 m c) (a3 m c) := by
  have hN : cfg0.N = 8 := N_0
  funext i
  obtain ⟨r, j, rfl⟩ : ∃ r j, i = ix2 r j := ⟨i 0, i 1, by idx_vars i⟩
  rw [dg_val]
  refine Cert.Att.chain_sum (N := 4096) (B := 512) rfl (fun x => val_main_v23 (F := Ideal) (a1 m c) (ix2 x j) * val_main_v30 (F := Ideal) (a0 m c) (a1 m c) (a2 m c) (a3 m c) (ix2 x j))
    (fun n h => (outsAt0 m c n (by omega)).2.1 (ix2 r j)) ?_ ?_
  · have e := outsAt0_A m c ⟨0, by omega⟩ (Nat.zero_mod 8)
    rw [out_A4, out_A5, out_A6] at e
    refine (congrFun (congrArg (fun p => p.2.1) e) (ix2 r j)).trans ((dg_step (row ⟨0, by omega⟩) _ _ _ _ _ _ _ _ (iblk0 m c ⟨0, by omega⟩) (iblk1 m c ⟨0, by omega⟩) (iblk2 m c ⟨0, by omega⟩) (iblk3 m c ⟨0, by omega⟩) _ r j).trans ?_)
    rw [show k0_pay2 (F := Ideal) (ix2 r j) = 0 by simp only [k0_pay2, broadcast, Ideal.ofBits_def, Ideal.ofBits_zero_f32], zero_add]
    exact Finset.sum_congr rfl fun x _ => by simp only [row, zero_mul, zero_add]
  · intro n h
    have hB : ¬(⟨n + 1, by omega⟩ : Fin cfg0.N).val % 8 = 0 := by dsimp only; omega
    have e := outsAt0_B m c ⟨n + 1, by omega⟩ hB
    rw [out_B4, out_B5, out_B6] at e
    exact (congrFun (congrArg (fun p => p.2.1) e) (ix2 r j)).trans (dg_step (row ⟨n + 1, by omega⟩) _ _ _ _ _ _ _ _ (iblk0 m c ⟨n + 1, by omega⟩) (iblk1 m c ⟨n + 1, by omega⟩) (iblk2 m c ⟨n + 1, by omega⟩) (iblk3 m c ⟨n + 1, by omega⟩) _ r j)

/-- After the last point the buffer holds the whole sum. -/
theorem outs_last6 (h : 7 < cfg0.N) : (outsAt0 m c 7 h).2.2 = val_main_v32 (F := Ideal) (a0 m c) (a1 m c) (a2 m c) (a3 m c) := by
  have hN : cfg0.N = 8 := N_0
  funext i
  obtain ⟨r, j, rfl⟩ : ∃ r j, i = ix2 r j := ⟨i 0, i 1, by idx_vars i⟩
  rw [db_val]
  refine Cert.Att.chain_sum (N := 4096) (B := 512) rfl (fun x => val_main_v30 (F := Ideal) (a0 m c) (a1 m c) (a2 m c) (a3 m c) (ix2 x j))
    (fun n h => (outsAt0 m c n (by omega)).2.2 (ix2 r j)) ?_ ?_
  · have e := outsAt0_A m c ⟨0, by omega⟩ (Nat.zero_mod 8)
    rw [out_A4, out_A5, out_A6] at e
    refine (congrFun (congrArg (fun p => p.2.2) e) (ix2 r j)).trans ((db_step (row ⟨0, by omega⟩) _ _ _ _ _ _ _ _ (iblk0 m c ⟨0, by omega⟩) (iblk1 m c ⟨0, by omega⟩) (iblk2 m c ⟨0, by omega⟩) (iblk3 m c ⟨0, by omega⟩) _ r j).trans ?_)
    rw [show k0_pay3 (F := Ideal) (ix2 r j) = 0 by simp only [k0_pay3, broadcast, Ideal.ofBits_def, Ideal.ofBits_zero_f32], zero_add]
    exact Finset.sum_congr rfl fun x _ => by simp only [row, zero_mul, zero_add]
  · intro n h
    have hB : ¬(⟨n + 1, by omega⟩ : Fin cfg0.N).val % 8 = 0 := by dsimp only; omega
    have e := outsAt0_B m c ⟨n + 1, by omega⟩ hB
    rw [out_B4, out_B5, out_B6] at e
    exact (congrFun (congrArg (fun p => p.2.2) e) (ix2 r j)).trans (db_step (row ⟨n + 1, by omega⟩) _ _ _ _ _ _ _ _ (iblk0 m c ⟨n + 1, by omega⟩) (iblk1 m c ⟨n + 1, by omega⟩) (iblk2 m c ⟨n + 1, by omega⟩) (iblk3 m c ⟨n + 1, by omega⟩) _ r j)

/-- The gradient's array after the run. -/
theorem final_4 : (dats m 0 c).arrAt 4 cfg0.N = val_main_v62 (F := Ideal) (a0 m c) (a1 m c) (a2 m c) (a3 m c) := by
  have hN : cfg0.N = 8 := N_0
  refine (dats m 0 c).arrAt_eq_of_cover 4 _ (fun t _ => ?_) fun i => ?_
  · have hi := (idx_at t).2.2.2.2.1
    rw [Cert.Kernel40Ideal.Value.flushed4]
    funext j
    obtain ⟨r, x, rfl⟩ : ∃ r x, j = ix2 r x := ⟨j 0, j 1, by idx_vars j⟩
    rw [View.read_apply]
    refine (outs_row m c t r x).trans ?_
    congr 1
    funext a
    apply Fin.ext
    match a with
    | ⟨0, _⟩ => show t.val * 512 + r.val = win0_4.index t 0 * 512 + 1 * r.val; rw [hi.1]; omega
    | ⟨1, _⟩ => show x.val = win0_4.index t 1 * 1024 + 1 * x.val; rw [hi.2]; omega
  · have h0 : (i 0 : Nat) < 4096 := (i 0).isLt
    have h1 : (i 1 : Nat) < 1024 := (i 1).isLt
    obtain ⟨t, ht⟩ : ∃ t : Fin cfg0.N, t.val = (i 0 : Nat) / 512 := ⟨⟨(i 0 : Nat) / 512, by omega⟩, rfl⟩
    refine ⟨t, flush0_4 _, ?_⟩
    have hi := (idx_at t).2.2.2.2.1
    show i ∈ ((View.whole main_v0_0).slice (win0_4.rect t)).set
    rw [View.set_slice_whole, Rect.mem_set_unit]
    intro a
    match a with
    | ⟨0, _⟩ => exact Cert.Tile.mem 512 (i 0) hi.1 (by omega)
    | ⟨1, _⟩ => exact Cert.Tile.mem 1024 (i 1) hi.2 (by omega)

/-- The point that writes a sum back is the last. -/
theorem last_eq (t : Fin cfg0.N) (h : t.val % 8 = 7) : t = t0_7 := by
  have hN : cfg0.N = 8 := N_0
  have := t.isLt
  exact Fin.ext (show t.val = 7 by omega)

/-- The sum's array after the run. -/
theorem final_5 : (dats m 0 c).arrAt 5 cfg0.N = val_main_v35 (F := Ideal) (a0 m c) (a1 m c) (a2 m c) (a3 m c) := by
  have hi := (idx_at t0_7).2.2.2.2.2.1
  refine (dats m 0 c).arrAt_eq_of_cover 5 _ (fun t hf => ?_) fun i => ⟨t0_7, (flush0_5 _).mpr rfl, ?_⟩
  · obtain rfl := last_eq t ((flush0_5 t).mp hf)
    rw [Cert.Kernel40Ideal.Value.flushed5, show (outsAt0 m c t0_7.val t0_7.isLt).2.1 = _ from outs_last5 m c _]
    funext j
    obtain ⟨r, x, rfl⟩ : ∃ r x, j = ix2 r x := ⟨j 0, j 1, by idx_vars j⟩
    rw [View.read_apply]
    show (val_main_v35 (F := Ideal) (a0 m c) (a1 m c) (a2 m c) (a3 m c)) (ix2 r x) = _
    congr 1
    funext a
    apply Fin.ext
    match a with
    | ⟨0, _⟩ => show r.val = win0_5.index t0_7 0 * 1 + 1 * r.val; rw [hi.1]; omega
    | ⟨1, _⟩ => show x.val = win0_5.index t0_7 1 * 1024 + 1 * x.val; rw [hi.2]; omega
  · have h0 : (i 0 : Nat) < 1 := (i 0).isLt
    have h1 : (i 1 : Nat) < 1024 := (i 1).isLt
    show i ∈ ((View.whole main_v0_1).slice (win0_5.rect t0_7)).set
    rw [View.set_slice_whole, Rect.mem_set_unit]
    intro a
    match a with
    | ⟨0, _⟩ => exact Cert.Tile.mem 1 (i 0) hi.1 (by omega)
    | ⟨1, _⟩ => exact Cert.Tile.mem 1024 (i 1) hi.2 (by omega)

/-- The sum's array after the run. -/
theorem final_6 : (dats m 0 c).arrAt 6 cfg0.N = val_main_v32 (F := Ideal) (a0 m c) (a1 m c) (a2 m c) (a3 m c) := by
  have hi := (idx_at t0_7).2.2.2.2.2.2
  refine (dats m 0 c).arrAt_eq_of_cover 6 _ (fun t hf => ?_) fun i => ⟨t0_7, (flush0_6 _).mpr rfl, ?_⟩
  · obtain rfl := last_eq t ((flush0_6 t).mp hf)
    rw [Cert.Kernel40Ideal.Value.flushed6, show (outsAt0 m c t0_7.val t0_7.isLt).2.2 = _ from outs_last6 m c _]
    funext j
    obtain ⟨r, x, rfl⟩ : ∃ r x, j = ix2 r x := ⟨j 0, j 1, by idx_vars j⟩
    rw [View.read_apply]
    show (val_main_v32 (F := Ideal) (a0 m c) (a1 m c) (a2 m c) (a3 m c)) (ix2 r x) = _
    congr 1
    funext a
    apply Fin.ext
    match a with
    | ⟨0, _⟩ => show r.val = win0_6.index t0_7 0 * 1 + 1 * r.val; rw [hi.1]; omega
    | ⟨1, _⟩ => show x.val = win0_6.index t0_7 1 * 1024 + 1 * x.val; rw [hi.2]; omega
  · have h0 : (i 0 : Nat) < 1 := (i 0).isLt
    have h1 : (i 1 : Nat) < 1024 := (i 1).isLt
    show i ∈ ((View.whole main_v0_2).slice (win0_6.rect t0_7)).set
    rw [View.set_slice_whole, Rect.mem_set_unit]
    intro a
    match a with
    | ⟨0, _⟩ => exact Cert.Tile.mem 1 (i 0) hi.1 (by omega)
    | ⟨1, _⟩ => exact Cert.Tile.mem 1024 (i 1) hi.2 (by omega)

/-- From memories that agree on the arguments, the kernel and the reference end with the same arrays. -/
theorem equal : Cert.algebraic_Kernel40Ideal_Reference40Ideal := by
  intro m g m' g' _ hargs
  refine ⟨fun c => val_main_v62 (F := Ideal) (a0 m c) (a1 m c) (a2 m c) (a3 m c), fun c => val_main_v35 (F := Ideal) (a0 m c) (a1 m c) (a2 m c) (a3 m c), fun c => val_main_v32 (F := Ideal) (a0 m c) (a1 m c) (a2 m c) (a3 m c), ?_, ?_⟩
  · refine (θ_run _ _ _).mono (fun r h c => ?_) (Cert.Kernel40Ideal.Value.run_blocks (F := Ideal) m g)
    obtain ⟨h0, h1, h2, h3⟩ := h c
    exact ⟨h0.trans (final_4 m c), h1.trans (final_5 m c), h2.trans (final_6 m c), h3⟩
  · refine (θ_run _ _ _).mono (fun r h c => ?_) (Cert.Reference40Ideal.Value.run (F := Ideal) m' g')
    obtain ⟨e0, e1, e2, e3⟩ := hargs c
    obtain ⟨h0, h1, h2, h3⟩ := h c
    rw [val_main_v62_eq, e0, e1, e2, e3] at h0
    rw [val_main_v35_eq, e0, e1, e2, e3] at h1
    rw [val_main_v32_eq, e0, e1, e2, e3] at h2
    exact ⟨h0, h1, h2, h3⟩

end Cert.Call40

end
-- ==== Proof.Call41.lean ====
/- The first RMS norm: the kernel's eight row tiles against the reference's norm. -/
module

public import proofs.«01_k».proof.Defs
public import proofs.«01_k».proof.Proof.Gen.Kernel41Ideal.Value
public import proofs.«01_k».proof.Proof.Gen.Reference41Ideal.Read
public import Idealize.ShloMosaic.Lib.Pointwise
public import Idealize.ShloMosaic.Lib.Tactic
public import Idealize.ShloMosaic.Lib.Pipeline.ValueKit.Tiles
public import Idealize.ShloMosaic.PureOps.Ideal.Laws
public import proofs.«01_k».proof.Proof.Tile

@[expose] public section

noncomputable section

namespace Cert.Call41

open Idealize.ShloMosaic Idealize.ShloMosaic.TcCoe Idealize.SL.Sem Cert.Kernel41Ideal Cert.Kernel41Ideal.Gen
open Cert.Reference41Ideal.Read

theorem hz : (![0, 0] : Fin 2 → Nat) = fun _ => 0 := funext fun a => by fin_cases a <;> rfl

/-- A block of rows is normed as the reference norms these rows. -/
theorem block_eq (f : Fin 512 → Fin 4096) (a0 : FVec Ideal S4096x1024 .f32) (a1 : FVec Ideal S1x1024 .f32) (x0 : Vec Ideal S512x1024 .f32) (x1 : Vec Ideal S1x1024 .f32) (h0 : ∀ r k, x0 (ix2 r k) = a0 (ix2 (f r) k)) (h1 : ∀ r k, x1 (ix2 r k) = a1 (ix2 r k)) (r : Fin 512) (j : Fin 1024) :
    k0_pay1 x0 x1 (ix2 r j) = val_main_v12 (F := Ideal) a0 a1 (ix2 (f r) j) := by
  pointwise [k0_pay1, val_main_v0, val_main_v1, val_main_v2, val_main_v3, val_main_v4, val_main_v5, val_main_v6, val_main_v7, val_main_v8, val_main_v9, val_main_v10, val_main_v11, val_main_v12, val_main_cst, val_main_cst_0, val_main_cst_1]
  simp only [h0, h1]

variable (m : (ℓ : Loc nD τ sig) → Buf (Elt Ideal) ℓ) (c : Dev nD)

/-- Argument 0 at launch. -/
abbrev a0 : FVec Ideal S4096x1024 .f32 := m ((c : Thread nD τ).loc main_arg0)

/-- Argument 1 at launch. -/
abbrev a1 : FVec Ideal S1x1024 .f32 := m ((c : Thread nD τ).loc main_arg1)

/-- Row `r` of tile `t`. -/
def row (t : Fin cfg0.N) (r : Fin 512) : Fin 4096 := ⟨t.val * 512 + r.val, by
  have := t.isLt; have h : cfg0.N = 8 := N_0; omega⟩

/-- Which block each window reads or writes at a point. -/
theorem idx_at : ∀ t : Fin cfg0.N, (win0_0.index t 0 = t.val ∧ win0_0.index t 1 = 0) ∧ (win0_1.index t 0 = 0 ∧ win0_1.index t 1 = 0) ∧ (win0_2.index t 0 = t.val ∧ win0_2.index t 1 = 0) :=
  (by decide +kernel : ∀ t : Fin grid0.N, _)

theorem iblk0 (t : Fin cfg0.N) (r : Fin 512) (j : Fin 1024) : iblk m c 0 t (ix2 r j) = a0 m c (ix2 (row t r) j) := by
  have hi := (idx_at t).1
  unfold iblk
  rw [View.read_apply]
  show V m c main_arg0 _ = m (c.tc.loc main_arg0) _
  unfold V
  congr 1
  funext a
  apply Fin.ext
  match a with
  | ⟨0, _⟩ => show win0_0.index t 0 * 512 + 1 * r.val = t.val * 512 + r.val; rw [hi.1]; omega
  | ⟨1, _⟩ => show win0_0.index t 1 * 1024 + 1 * j.val = j.val; rw [hi.2]; omega

theorem iblk1 (t : Fin cfg0.N) (r : Fin 1) (j : Fin 1024) : iblk m c 1 t (ix2 r j) = a1 m c (ix2 r j) := by
  have hi := (idx_at t).2.1
  unfold iblk
  rw [View.read_apply]
  show V m c main_arg1 _ = m (c.tc.loc main_arg1) _
  unfold V
  congr 1
  funext a
  apply Fin.ext
  match a with
  | ⟨0, _⟩ => show win0_1.index t 0 * 1 + 1 * r.val = r.val; rw [hi.1]; omega
  | ⟨1, _⟩ => show win0_1.index t 1 * 1024 + 1 * j.val = j.val; rw [hi.2]; omega

/-- What a point leaves in this window is the reference's rows of its tile. -/
theorem point_2 (t : Fin cfg0.N) (r : Fin 512) (j : Fin 1024) :
    out0_2 (iblk m c 0 t) (iblk m c 1 t) (ix2 r j) = val_main_v12 (F := Ideal) (a0 m c) (a1 m c) (ix2 (row t r) j) := by
  unfold out0_2
  rw [View.canon_unit_zero hz]
  simp only [View.ld_unit_zero (S := S512x1024) hz, View.ld_unit_zero (S := S1x1024) hz]
  exact block_eq (row t) (a0 m c) (a1 m c) (iblk m c 0 t) (iblk m c 1 t) (fun r k => iblk0 m c t r k) (fun r k => iblk1 m c t r k) r j

/-- The array this window ends with. -/
theorem final_2 : (dats m 0 c).arrAt 2 cfg0.N = val_main_v12 (F := Ideal) (a0 m c) (a1 m c) := by
  have hN : cfg0.N = 8 := N_0
  refine (dats m 0 c).arrAt_eq_of_cover 2 _ (fun t _ => ?_) fun i => ?_
  · have hi := (idx_at t).2.2
    rw [Cert.Kernel41Ideal.Value.flushed2]
    funext j
    obtain ⟨r, x, rfl⟩ : ∃ r x, j = ix2 r x := ⟨j 0, j 1, by idx_vars j⟩
    rw [View.read_apply]
    refine (point_2 m c t r x).trans ?_
    congr 1
    funext a
    apply Fin.ext
    match a with
    | ⟨0, _⟩ => show t.val * 512 + r.val = win0_2.index t 0 * 512 + 1 * r.val; rw [hi.1]; omega
    | ⟨1, _⟩ => show x.val = win0_2.index t 1 * 1024 + 1 * x.val; rw [hi.2]; omega
  · have h0 : (i 0 : Nat) < 4096 := (i 0).isLt
    have h1 : (i 1 : Nat) < 1024 := (i 1).isLt
    obtain ⟨t, ht⟩ : ∃ t : Fin cfg0.N, t.val = (i 0 : Nat) / 512 := ⟨⟨(i 0 : Nat) / 512, by omega⟩, rfl⟩
    refine ⟨t, flush0_2 _, ?_⟩
    have hi := (idx_at t).2.2
    show i ∈ ((View.whole main_v0).slice (win0_2.rect t)).set
    rw [View.set_slice_whole, Rect.mem_set_unit]
    intro a
    match a with
    | ⟨0, _⟩ => exact Cert.Tile.mem 512 (i 0) hi.1 (by omega)
    | ⟨1, _⟩ => exact Cert.Tile.mem 1024 (i 1) hi.2 (by omega)

/-- From memories that agree on the arguments, the kernel and the reference end with the same arrays. -/
theorem equal : Cert.algebraic_Kernel41Ideal_Reference41Ideal := by
  intro m g m' g' _ hargs
  refine ⟨fun c => val_main_v12 (F := Ideal) (a0 m c) (a1 m c), ?_, ?_⟩
  · refine (θ_run _ _ _).mono (fun r h c => ?_) (Cert.Kernel41Ideal.Value.run_blocks (F := Ideal) m g)
    obtain ⟨h0, h1⟩ := h c
    exact ⟨h0.trans (final_2 m c), h1⟩
  · refine (θ_run _ _ _).mono (fun r h c => ?_) (Cert.Reference41Ideal.Value.run (F := Ideal) m' g')
    obtain ⟨e0, e1⟩ := hargs c
    obtain ⟨h0, h1⟩ := h c
    rw [val_main_v12_eq] at h0
    rw [e0, e1] at h0
    exact ⟨h0, h1⟩

end Cert.Call41

end
-- ==== Proof.Call42.lean ====
/- The layer norm and its activation: the kernel's eight row tiles against the reference's. -/
module

public import proofs.«01_k».proof.Defs
public import proofs.«01_k».proof.Proof.Gen.Kernel42Ideal.Value
public import proofs.«01_k».proof.Proof.Gen.Reference42Ideal.Read
public import Idealize.ShloMosaic.Lib.Pointwise
public import Idealize.ShloMosaic.Lib.Tactic
public import Idealize.ShloMosaic.Lib.Pipeline.ValueKit.Tiles
public import Idealize.ShloMosaic.PureOps.Ideal.Laws
public import proofs.«01_k».proof.Proof.Tile

@[expose] public section

noncomputable section

namespace Cert.Call42

open Idealize.ShloMosaic Idealize.ShloMosaic.TcCoe Idealize.SL.Sem Cert.Kernel42Ideal Cert.Kernel42Ideal.Gen
open Cert.Reference42Ideal.Read

theorem hz : (![0, 0] : Fin 2 → Nat) = fun _ => 0 := funext fun a => by fin_cases a <;> rfl

/-- A block of rows is normed and activated as the reference does with these rows. -/
theorem block_eq (f : Fin 512 → Fin 4096) (a0 : FVec Ideal S4096x1024 .bf16) (a1 : FVec Ideal S1x1024 .f32) (a2 : FVec Ideal S1x1024 .f32) (x0 : Vec Ideal S512x1024 .bf16) (x1 : Vec Ideal S1x1024 .f32) (x2 : Vec Ideal S1x1024 .f32) (h0 : ∀ r k, x0 (ix2 r k) = a0 (ix2 (f r) k)) (h1 : ∀ r k, x1 (ix2 r k) = a1 (ix2 r k)) (h2 : ∀ r k, x2 (ix2 r k) = a2 (ix2 r k)) (r : Fin 512) (j : Fin 1024) :
    k0_pay1 x0 x1 x2 (ix2 r j) = val_main_v24 (F := Ideal) a0 a1 a2 (ix2 (f r) j) := by
  pointwise [k0_pay1, val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_cst, val_main_cst_0, val_main_cst_1, val_main_cst_2, val_main_cst_3, val_main_call0_v0, val_main_call0_v1, val_main_call0_v2, val_main_call0_v3, val_main_call0_v4, val_main_call0_v5, val_main_call0_cst, val_main_call0_cst_0]
  simp only [h0, h1, h2, zero_sub]

variable (m : (ℓ : Loc nD τ sig) → Buf (Elt Ideal) ℓ) (c : Dev nD)

/-- Argument 0 at launch. -/
abbrev a0 : FVec Ideal S4096x1024 .bf16 := m ((c : Thread nD τ).loc main_arg0)

/-- Argument 1 at launch. -/
abbrev a1 : FVec Ideal S1x1024 .f32 := m ((c : Thread nD τ).loc main_arg1)

/-- Argument 2 at launch. -/
abbrev a2 : FVec Ideal S1x1024 .f32 := m ((c : Thread nD τ).loc main_arg2)

/-- Row `r` of tile `t`. -/
def row (t : Fin cfg0.N) (r : Fin 512) : Fin 4096 := ⟨t.val * 512 + r.val, by
  have := t.isLt; have h : cfg0.N = 8 := N_0; omega⟩

/-- Which block each window reads or writes at a point. -/
theorem idx_at : ∀ t : Fin cfg0.N, (win0_0.index t 0 = t.val ∧ win0_0.index t 1 = 0) ∧ (win0_1.index t 0 = 0 ∧ win0_1.index t 1 = 0) ∧ (win0_2.index t 0 = 0 ∧ win0_2.index t 1 = 0) ∧ (win0_3.index t 0 = t.val ∧ win0_3.index t 1 = 0) :=
  (by decide +kernel : ∀ t : Fin grid0.N, _)

theorem iblk0 (t : Fin cfg0.N) (r : Fin 512) (j : Fin 1024) : iblk m c 0 t (ix2 r j) = a0 m c (ix2 (row t r) j) := by
  have hi := (idx_at t).1
  unfold iblk
  rw [View.read_apply]
  show V m c main_arg0 _ = m (c.tc.loc main_arg0) _
  unfold V
  congr 1
  funext a
  apply Fin.ext
  match a with
  | ⟨0, _⟩ => show win0_0.index t 0 * 512 + 1 * r.val = t.val * 512 + r.val; rw [hi.1]; omega
  | ⟨1, _⟩ => show win0_0.index t 1 * 1024 + 1 * j.val = j.val; rw [hi.2]; omega

theorem iblk1 (t : Fin cfg0.N) (r : Fin 1) (j : Fin 1024) : iblk m c 1 t (ix2 r j) = a1 m c (ix2 r j) := by
  have hi := (idx_at t).2.1
  unfold iblk
  rw [View.read_apply]
  show V m c main_arg1 _ = m (c.tc.loc main_arg1) _
  unfold V
  congr 1
  funext a
  apply Fin.ext
  match a with
  | ⟨0, _⟩ => show win0_1.index t 0 * 1 + 1 * r.val = r.val; rw [hi.1]; omega
  | ⟨1, _⟩ => show win0_1.index t 1 * 1024 + 1 * j.val = j.val; rw [hi.2]; omega

theorem iblk2 (t : Fin cfg0.N) (r : Fin 1) (j : Fin 1024) : iblk m c 2 t (ix2 r j) = a2 m c (ix2 r j) := by
  have hi := (idx_at t).2.2.1
  unfold iblk
  rw [View.read_apply]
  show V m c main_arg2 _ = m (c.tc.loc main_arg2) _
  unfold V
  congr 1
  funext a
  apply Fin.ext
  match a with
  | ⟨0, _⟩ => show win0_2.index t 0 * 1 + 1 * r.val = r.val; rw [hi.1]; omega
  | ⟨1, _⟩ => show win0_2.index t 1 * 1024 + 1 * j.val = j.val; rw [hi.2]; omega

/-- What a point leaves in this window is the reference's rows of its tile. -/
theorem point_3 (t : Fin cfg0.N) (r : Fin 512) (j : Fin 1024) :
    out0_3 (iblk m c 0 t) (iblk m c 1 t) (iblk m c 2 t) (ix2 r j) = val_main_v24 (F := Ideal) (a0 m c) (a1 m c) (a2 m c) (ix2 (row t r) j) := by
  unfold out0_3
  rw [View.canon_unit_zero hz]
  simp only [View.ld_unit_zero (S := S512x1024) hz, View.ld_unit_zero (S := S1x1024) hz]
  exact block_eq (row t) (a0 m c) (a1 m c) (a2 m c) (iblk m c 0 t) (iblk m c 1 t) (iblk m c 2 t) (fun r k => iblk0 m c t r k) (fun r k => iblk1 m c t r k) (fun r k => iblk2 m c t r k) r j

/-- The array this window ends with. -/
theorem final_3 : (dats m 0 c).arrAt 3 cfg0.N = val_main_v24 (F := Ideal) (a0 m c) (a1 m c) (a2 m c) := by
  have hN : cfg0.N = 8 := N_0
  refine (dats m 0 c).arrAt_eq_of_cover 3 _ (fun t _ => ?_) fun i => ?_
  · have hi := (idx_at t).2.2.2
    rw [Cert.Kernel42Ideal.Value.flushed3]
    funext j
    obtain ⟨r, x, rfl⟩ : ∃ r x, j = ix2 r x := ⟨j 0, j 1, by idx_vars j⟩
    rw [View.read_apply]
    refine (point_3 m c t r x).trans ?_
    congr 1
    funext a
    apply Fin.ext
    match a with
    | ⟨0, _⟩ => show t.val * 512 + r.val = win0_3.index t 0 * 512 + 1 * r.val; rw [hi.1]; omega
    | ⟨1, _⟩ => show x.val = win0_3.index t 1 * 1024 + 1 * x.val; rw [hi.2]; omega
  · have h0 : (i 0 : Nat) < 4096 := (i 0).isLt
    have h1 : (i 1 : Nat) < 1024 := (i 1).isLt
    obtain ⟨t, ht⟩ : ∃ t : Fin cfg0.N, t.val = (i 0 : Nat) / 512 := ⟨⟨(i 0 : Nat) / 512, by omega⟩, rfl⟩
    refine ⟨t, flush0_3 _, ?_⟩
    have hi := (idx_at t).2.2.2
    show i ∈ ((View.whole main_v0).slice (win0_3.rect t)).set
    rw [View.set_slice_whole, Rect.mem_set_unit]
    intro a
    match a with
    | ⟨0, _⟩ => exact Cert.Tile.mem 512 (i 0) hi.1 (by omega)
    | ⟨1, _⟩ => exact Cert.Tile.mem 1024 (i 1) hi.2 (by omega)

/-- From memories that agree on the arguments, the kernel and the reference end with the same arrays. -/
theorem equal : Cert.algebraic_Kernel42Ideal_Reference42Ideal := by
  intro m g m' g' _ hargs
  refine ⟨fun c => val_main_v24 (F := Ideal) (a0 m c) (a1 m c) (a2 m c), ?_, ?_⟩
  · refine (θ_run _ _ _).mono (fun r h c => ?_) (Cert.Kernel42Ideal.Value.run_blocks (F := Ideal) m g)
    obtain ⟨h0, h1⟩ := h c
    exact ⟨h0.trans (final_3 m c), h1⟩
  · refine (θ_run _ _ _).mono (fun r h c => ?_) (Cert.Reference42Ideal.Value.run (F := Ideal) m' g')
    obtain ⟨e0, e1, e2⟩ := hargs c
    obtain ⟨h0, h1⟩ := h c
    rw [val_main_v24_eq] at h0
    rw [e0, e1, e2] at h0
    exact ⟨h0, h1⟩

end Cert.Call42

end
-- ==== Proof.Call43.lean ====
/- The loss head: the kernel's eight row tiles against the loss and its gradients. -/
module

public import proofs.«01_k».proof.Defs
public import proofs.«01_k».proof.Proof.Chain
public import proofs.«01_k».proof.Proof.Gen.Kernel43Ideal.Value
public import proofs.«01_k».proof.Proof.Gen.Reference43Ideal.Read
public import Idealize.ShloMosaic.Lib.Pointwise
public import Idealize.ShloMosaic.Lib.Tactic
public import Idealize.ShloMosaic.PureOps.Ideal.Laws
public import proofs.«01_k».proof.Proof.Tile

@[expose] public section

noncomputable section

namespace Cert.Call43

open Idealize.ShloMosaic Idealize.ShloMosaic.TcCoe Idealize.SL.Sem Cert.Kernel43Ideal Cert.Kernel43Ideal.Gen
open Cert.Reference43Ideal.Read

theorem hz : (![0, 0] : Fin 2 → Nat) = fun _ => 0 := funext fun a => by fin_cases a <;> rfl

/-- A factor goes into a sum of terms that are not negative. -/
theorem mul_sum {N : ℕ} (c : EReal) (g : Fin N → EReal) (hg : ∀ x, 0 ≤ g x) : c * ∑ x, g x = ∑ x, c * g x := by
  have key : ∀ s : Finset (Fin N), c * ∑ x ∈ s, g x = ∑ x ∈ s, c * g x := by
    intro s
    induction s using Finset.induction_on with
    | empty => simp only [Finset.sum_empty, mul_zero]
    | insert a s ha ih =>
      rw [Finset.sum_insert ha, Finset.sum_insert ha, EReal.left_distrib_of_nonneg (hg a) (Finset.sum_nonneg fun x _ => hg x), ih]
  exact key Finset.univ

section math

variable (f : Fin 512 → Fin 4096) (a0 : FVec Ideal S4096x1024 .bf16) (a1 : FVec Ideal S4096x1024 .f32) (a2 : FVec Ideal S1x1024 .f32)
  (x0 : Vec Ideal S512x1024 .bf16) (x1 : Vec Ideal S512x1024 .f32) (x2 : Vec Ideal S1x1024 .f32)
  (h0 : ∀ r k, x0 (ix2 r k) = a0 (ix2 (f r) k)) (h1 : ∀ r k, x1 (ix2 r k) = a1 (ix2 (f r) k)) (h2 : ∀ r k, x2 (ix2 r k) = a2 (ix2 r k))

include h0 in
/-- The mean square plus the small constant. -/
theorem ms_eq (r : Fin 512) : k0_pay8 x0 (ix2 r 0) = val_main_v7 (F := Ideal) a0 (ix2 (f r) 0) := by
  pointwise [k0_pay8, k0_pay7, val_main_v0, val_main_v1, val_main_cst, val_main_v2, val_main_v3, val_main_cst_0, val_main_v4, val_main_v5, val_main_cst_1, val_main_v6, val_main_v7]
  simp only [h0]

include h0 in
/-- The reciprocal root of the mean square. -/
theorem rs_eq (r : Fin 512) : k0_pay9 x0 (ix2 r 0) = val_main_v8 (F := Ideal) a0 (ix2 (f r) 0) := by
  have h := ms_eq f a0 x0 h0 r
  unfold k0_pay9 val_main_v8
  generalize k0_pay8 x0 = p at h ⊢
  generalize val_main_v7 (F := Ideal) a0 = q at h ⊢
  pointwise []
  rw [h]

include h0 in
/-- The normed rows. -/
theorem nrm_eq (r : Fin 512) (k : Fin 1024) : k0_pay11 x0 (ix2 r k) = val_main_v13 (F := Ideal) a0 (ix2 (f r) k) := by
  have h := rs_eq f a0 x0 h0
  unfold k0_pay11 val_main_v13 val_main_v12
  generalize k0_pay9 x0 = p at h ⊢
  generalize val_main_v8 (F := Ideal) a0 = q at h ⊢
  pointwise [k0_pay7, val_main_v0]
  rw [h, h0]

include h0 h1 h2 in
/-- The distance from the target. -/
theorem err_eq (r : Fin 512) (k : Fin 1024) : k0_pay12 x0 x1 x2 (ix2 r k) = val_main_v16 (F := Ideal) a0 a1 a2 (ix2 (f r) k) := by
  have h := nrm_eq f a0 x0 h0
  unfold k0_pay12 val_main_v16 val_main_v15
  generalize k0_pay11 x0 = p at h ⊢
  generalize val_main_v13 (F := Ideal) a0 = q at h ⊢
  pointwise [val_main_v14]
  rw [h, h1, h2]

include h0 h1 h2 in
/-- The cotangent of the norm's output. -/
theorem ct_eq (r : Fin 512) (k : Fin 1024) : k0_pay1 (k0_pay13 x0 x1 x2) k0_pay15 (ix2 r k) = val_main_v30 (F := Ideal) a0 a1 a2 (ix2 (f r) k) := by
  have h := err_eq f a0 a1 a2 x0 x1 x2 h0 h1 h2
  unfold k0_pay1 k0_pay13 val_main_v30 val_main_v19
  generalize k0_pay12 x0 x1 x2 = p at h ⊢
  generalize val_main_v16 (F := Ideal) a0 a1 a2 = q at h ⊢
  pointwise [k0_pay15, val_main_cst_3, val_main_v18, val_main_cst_8, val_main_cst_9, val_main_v25, val_main_v26, val_main_cst_10, val_main_v27, val_main_v28, val_main_v29]
  rw [h]

include h0 h1 h2 in
/-- One tile's step of the scale's gradient. -/
theorem dg_step (xo : Vec Ideal S1x1024 .f32) (r : Fin 1) (j : Fin 1024) :
    k0_pay3 (k0_pay11 x0) (k0_pay13 x0 x1 x2) k0_pay15 xo (ix2 r j)
      = xo (ix2 r j) + ∑ x : Fin 512, val_main_v13 (F := Ideal) a0 (ix2 (f x) j) * val_main_v30 (F := Ideal) a0 a1 a2 (ix2 (f x) j) := by
  have h := nrm_eq f a0 x0 h0
  have h' := ct_eq f a0 a1 a2 x0 x1 x2 h0 h1 h2
  obtain rfl : r = 0 := Fin.ext (by have := r.isLt; omega)
  unfold k0_pay3
  rw [shapeCast_self]
  generalize k0_pay1 (k0_pay13 x0 x1 x2) k0_pay15 = p' at h' ⊢
  generalize k0_pay11 x0 = p at h ⊢
  pointwise []
  simp only [h, h']

/-- A row's mean squared distance is not negative. -/
theorem sq_nonneg (x : Fin 4096) : 0 ≤ val_main_v22 (F := Ideal) a0 a1 a2 (ix1 x) := by
  unfold val_main_v22 val_main_v20 val_main_v17
  generalize val_main_v16 (F := Ideal) a0 a1 a2 = q
  pointwise [val_main_cst_4, val_main_cst_5, val_main_v21]
  have hs : ∀ y : EReal, 0 ≤ y * y := fun y => by
    induction y with
    | bot => exact le_of_lt (by simp)
    | top => exact le_of_lt (by simp)
    | coe y => exact_mod_cast mul_self_nonneg y
  have e : Ideal.ofBits .f32 0x44800000#32 = ((1024 : ℝ) : EReal) := by simp [Ideal.ofBits, Ideal.ieee]; rw [← EReal.coe_mul]; norm_num
  rw [e, Ideal.div_coe (by norm_num)]
  exact mul_nonneg (Finset.sum_nonneg fun _ _ => hs _) (EReal.coe_nonneg.mpr (by norm_num))

include h0 h1 h2 in
/-- One tile's step of the loss. -/
theorem loss_step (xo : Vec Ideal S8x128 .f32) (r : Fin 8) (j : Fin 128) :
    k0_pay4 (k0_pay14 x0 x1 x2) xo (ix2 r j)
      = xo (ix2 r j) + ∑ x : Fin 512, val_main_cst_7 (F := Ideal) (fun a => a.elim0) * val_main_v22 (F := Ideal) a0 a1 a2 (ix1 (f x)) := by
  have h := err_eq f a0 a1 a2 x0 x1 x2 h0 h1 h2
  rw [← mul_sum _ _ fun x => sq_nonneg a0 a1 a2 (f x)]
  unfold k0_pay4
  rw [shapeCast_self]
  unfold k0_pay14 val_main_v22 val_main_v20 val_main_v17
  generalize k0_pay12 x0 x1 x2 = p at h ⊢
  generalize val_main_v16 (F := Ideal) a0 a1 a2 = q at h ⊢
  pointwise [val_main_cst_4, val_main_cst_5, val_main_v21, val_main_cst_7]
  simp only [h]

include h0 h1 h2 in
/-- One tile's rows of the gradient. -/
theorem dx_eq (r : Fin 512) (j : Fin 1024) :
    k0_pay2 (k0_pay7 x0) x2 (k0_pay9 x0) (k0_pay10 x0) (k0_pay13 x0 x1 x2) k0_pay15 (ix2 r j)
      = val_main_v50 (F := Ideal) a0 a1 a2 (ix2 (f r) j) := by
  have hm := ms_eq f a0 x0 h0
  have hr := rs_eq f a0 x0 h0
  have h' := ct_eq f a0 a1 a2 x0 x1 x2 h0 h1 h2
  unfold k0_pay2 k0_pay10
  unfold val_main_v50 val_main_v49 val_main_v48 val_main_v47 val_main_v46 val_main_v45 val_main_v44 val_main_v43 val_main_v41 val_main_v40 val_main_v39 val_main_v38 val_main_v37 val_main_v36 val_main_v35 val_main_v11 val_main_v9
  generalize k0_pay1 (k0_pay13 x0 x1 x2) k0_pay15 = p1 at h' ⊢
  generalize val_main_v30 (F := Ideal) a0 a1 a2 = q1 at h' ⊢
  generalize k0_pay8 x0 = p3 at hm ⊢
  generalize val_main_v7 (F := Ideal) a0 = q3 at hm ⊢
  generalize k0_pay9 x0 = p4 at hr ⊢
  generalize val_main_v8 (F := Ideal) a0 = q4 at hr ⊢
  pointwise [k0_pay7, val_main_v0, val_main_cst_2, val_main_v10, val_main_v34, val_main_cst_12, val_main_cst_13, val_main_v42, val_main_cst_14]
  simp only [h', hm, hr, h0, h2, Fin.sum_univ_one]

end math

/-- The reference's gradient of the scale, entry by entry. -/
theorem dg_val (a0 : FVec Ideal S4096x1024 .bf16) (a1 : FVec Ideal S4096x1024 .f32) (a2 : FVec Ideal S1x1024 .f32) (r : Fin 1) (j : Fin 1024) :
    val_main_v33 (F := Ideal) a0 a1 a2 (ix2 r j) = ∑ x : Fin 4096, val_main_v13 (F := Ideal) a0 (ix2 x j) * val_main_v30 (F := Ideal) a0 a1 a2 (ix2 x j) := by
  obtain rfl : r = 0 := Fin.ext (by have := r.isLt; omega)
  unfold val_main_v33 val_main_v32 val_main_v31
  generalize val_main_v13 (F := Ideal) a0 = p
  generalize val_main_v30 (F := Ideal) a0 a1 a2 = q
  pointwise [val_main_cst_11]

/-- The reference's loss, as a sum over the rows. -/
theorem loss_val (a0 : FVec Ideal S4096x1024 .bf16) (a1 : FVec Ideal S4096x1024 .f32) (a2 : FVec Ideal S1x1024 .f32) (r : Fin 8) (j : Fin 128) :
    val_main_v51 (F := Ideal) a0 a1 a2 (ix2 r j) = ∑ x : Fin 4096, val_main_cst_7 (F := Ideal) (fun a => a.elim0) * val_main_v22 (F := Ideal) a0 a1 a2 (ix1 x) := by
  rw [← mul_sum _ _ fun x => sq_nonneg a0 a1 a2 x]
  unfold val_main_v51 val_main_v24 val_main_v23
  generalize val_main_v22 (F := Ideal) a0 a1 a2 = q
  pointwise [val_main_cst_6, val_main_cst_7]

section runs

variable (c : Dev nD) (i : grid0.Coords) (p1 : Memref sig .tc .vmem S512x1024 .bf16) (h1 : p1.IsWhole) (p2 : Memref sig .tc .vmem S512x1024 .f32) (h2 : p2.IsWhole) (p3 : Memref sig .tc .vmem S1x1024 .f32) (h3 : p3.IsWhole) (p4 : Memref sig .tc .vmem S512x1024 .bf16) (h4 : p4.IsWhole) (p5 : Memref sig .tc .vmem S1x1024 .f32) (h5 : p5.IsWhole) (p6 : Memref sig .tc .vmem S8x128 .f32) (h6 : p6.IsWhole)
  (x0 : Vec Ideal S512x1024 .bf16) (x1 : Vec Ideal S512x1024 .f32) (x2 : Vec Ideal S1x1024 .f32) (y0 : Vec Ideal S1x1024 .f32) (y1 : Vec Ideal S8x128 .f32)

/-- A point leaves its rows of the gradient. -/
theorem out_A3 (hc : cond0_0 i) : out0_A_3 c i p1 h1 p2 h2 p3 h3 p4 h4 p5 h5 p6 h6 hc x0 x1 x2 = k0_pay2 (k0_pay7 x0) x2 (k0_pay9 x0) (k0_pay10 x0) (k0_pay13 x0 x1 x2) k0_pay15 := by
  unfold out0_A_3
  rw [View.read_writes_eq_canon _ _ _ (cover0_A_3 c i p1 h1 p2 h2 p3 h3 p4 h4 p5 h5 p6 h6 hc x0 x1 x2)]
  unfold kernelRun0_A
  dsimp only
  sl_unfold_words
  rw [View.canon_unit_zero hz]
  simp only [View.readAt_eq_ld, h1.read_unread, h2.read_unread, h3.read_unread, h5.read_unread, h6.read_unread, View.ld_unit_zero (S := S512x1024) hz, View.ld_unit_zero (S := S1x1024) hz, View.ld_unit_zero (S := S8x128) hz]

/-- The first point starts the sum from zero. -/
theorem out_A4 (hc : cond0_0 i) : out0_A_4 c i p1 h1 p2 h2 p3 h3 p4 h4 p5 h5 p6 h6 hc x0 x1 x2 = k0_pay3 (k0_pay11 x0) (k0_pay13 x0 x1 x2) k0_pay15 (k0_pay5 (F := Ideal)) := by
  unfold out0_A_4
  rw [View.read_writes_eq_canon _ _ _ (cover0_A_4 c i p1 h1 p2 h2 p3 h3 p4 h4 p5 h5 p6 h6 hc x0 x1 x2)]
  unfold kernelRun0_A
  dsimp only
  sl_unfold_words
  rw [View.canon_cons_unit_zero (S := S1x1024) hz, View.readCov_unit_zero (S := S1x1024) _ hz]
  simp only [View.readAt_eq_ld, h1.read_unread, h2.read_unread, h3.read_unread, h5.read_unread, h6.read_unread, View.ld_unit_zero (S := S512x1024) hz, View.ld_unit_zero (S := S1x1024) hz, View.ld_unit_zero (S := S8x128) hz]

/-- The first point starts the sum from zero. -/
theorem out_A5 (hc : cond0_0 i) : out0_A_5 c i p1 h1 p2 h2 p3 h3 p4 h4 p5 h5 p6 h6 hc x0 x1 x2 = k0_pay4 (k0_pay14 x0 x1 x2) (k0_pay6 (F := Ideal)) := by
  unfold out0_A_5
  rw [View.read_writes_eq_canon _ _ _ (cover0_A_5 c i p1 h1 p2 h2 p3 h3 p4 h4 p5 h5 p6 h6 hc x0 x1 x2)]
  unfold kernelRun0_A
  dsimp only
  sl_unfold_words
  rw [View.canon_cons_unit_zero (S := S8x128) hz, View.readCov_unit_zero (S := S8x128) _ hz]
  simp only [View.readAt_eq_ld, h1.read_unread, h2.read_unread, h3.read_unread, h5.read_unread, h6.read_unread, View.ld_unit_zero (S := S512x1024) hz, View.ld_unit_zero (S := S1x1024) hz, View.ld_unit_zero (S := S8x128) hz]

/-- A point leaves its rows of the gradient. -/
theorem out_B3 (hc : ¬cond0_0 i) : out0_B_3 c i p1 h1 p2 h2 p3 h3 p4 h4 p5 h5 p6 h6 hc x0 x1 x2 y0 y1 = k0_pay2 (k0_pay7 x0) x2 (k0_pay9 x0) (k0_pay10 x0) (k0_pay13 x0 x1 x2) k0_pay15 := by
  unfold out0_B_3
  rw [View.read_writes_eq_canon _ _ _ (cover0_B_3 c i p1 h1 p2 h2 p3 h3 p4 h4 p5 h5 p6 h6 hc x0 x1 x2 y0 y1)]
  unfold kernelRun0_B
  dsimp only
  sl_unfold_words
  rw [View.canon_unit_zero hz]
  simp only [View.readAt_eq_ld, h1.read_unread, h2.read_unread, h3.read_unread, h5.read_unread, h6.read_unread, View.ld_unit_zero (S := S512x1024) hz, View.ld_unit_zero (S := S1x1024) hz, View.ld_unit_zero (S := S8x128) hz]

/-- A later point adds to the sum. -/
theorem out_B4 (hc : ¬cond0_0 i) : out0_B_4 c i p1 h1 p2 h2 p3 h3 p4 h4 p5 h5 p6 h6 hc x0 x1 x2 y0 y1 = k0_pay3 (k0_pay11 x0) (k0_pay13 x0 x1 x2) k0_pay15 y0 := by
  unfold out0_B_4
  rw [View.read_writes_eq_canon _ _ _ (cover0_B_4 c i p1 h1 p2 h2 p3 h3 p4 h4 p5 h5 p6 h6 hc x0 x1 x2 y0 y1)]
  unfold kernelRun0_B
  dsimp only
  sl_unfold_words
  rw [View.canon_unit_zero hz]
  simp only [View.readAt_eq_ld, h1.read_unread, h2.read_unread, h3.read_unread, h5.read_unread, h6.read_unread, View.ld_unit_zero (S := S512x1024) hz, View.ld_unit_zero (S := S1x1024) hz, View.ld_unit_zero (S := S8x128) hz]

/-- A later point adds to the sum. -/
theorem out_B5 (hc : ¬cond0_0 i) : out0_B_5 c i p1 h1 p2 h2 p3 h3 p4 h4 p5 h5 p6 h6 hc x0 x1 x2 y0 y1 = k0_pay4 (k0_pay14 x0 x1 x2) y1 := by
  unfold out0_B_5
  rw [View.read_writes_eq_canon _ _ _ (cover0_B_5 c i p1 h1 p2 h2 p3 h3 p4 h4 p5 h5 p6 h6 hc x0 x1 x2 y0 y1)]
  unfold kernelRun0_B
  dsimp only
  sl_unfold_words
  rw [View.canon_unit_zero hz]
  simp only [View.readAt_eq_ld, h1.read_unread, h2.read_unread, h3.read_unread, h5.read_unread, h6.read_unread, View.ld_unit_zero (S := S512x1024) hz, View.ld_unit_zero (S := S1x1024) hz, View.ld_unit_zero (S := S8x128) hz]

end runs

variable (m : (ℓ : Loc nD τ sig) → Buf (Elt Ideal) ℓ) (c : Dev nD)

/-- Argument 0 at launch. -/
abbrev a0 : FVec Ideal S4096x1024 .bf16 := m ((c : Thread nD τ).loc main_arg0)

/-- Argument 1 at launch. -/
abbrev a1 : FVec Ideal S4096x1024 .f32 := m ((c : Thread nD τ).loc main_arg1)

/-- Argument 2 at launch. -/
abbrev a2 : FVec Ideal S1x1024 .f32 := m ((c : Thread nD τ).loc main_arg2)

/-- Row `r` of tile `t`. -/
def row (t : Fin cfg0.N) (r : Fin 512) : Fin 4096 := ⟨t.val * 512 + r.val, by
  have := t.isLt; have h : cfg0.N = 8 := N_0; omega⟩

/-- Which block each window reads or writes at a point. -/
theorem idx_at : ∀ t : Fin cfg0.N, (win0_0.index t 0 = t.val ∧ win0_0.index t 1 = 0) ∧ (win0_1.index t 0 = t.val ∧ win0_1.index t 1 = 0) ∧ (win0_2.index t 0 = 0 ∧ win0_2.index t 1 = 0) ∧ (win0_3.index t 0 = t.val ∧ win0_3.index t 1 = 0) ∧ (win0_4.index t 0 = 0 ∧ win0_4.index t 1 = 0) ∧ (win0_5.index t 0 = 0 ∧ win0_5.index t 1 = 0) :=
  (by decide +kernel : ∀ t : Fin grid0.N, _)

theorem iblk0 (t : Fin cfg0.N) (r : Fin 512) (j : Fin 1024) : iblk m c 0 t (ix2 r j) = a0 m c (ix2 (row t r) j) := by
  have hi := (idx_at t).1
  unfold iblk
  rw [View.read_apply]
  show V m c main_arg0 _ = m (c.tc.loc main_arg0) _
  unfold V
  congr 1
  funext a
  apply Fin.ext
  match a with
  | ⟨0, _⟩ => show win0_0.index t 0 * 512 + 1 * r.val = t.val * 512 + r.val; rw [hi.1]; omega
  | ⟨1, _⟩ => show win0_0.index t 1 * 1024 + 1 * j.val = j.val; rw [hi.2]; omega

theorem iblk1 (t : Fin cfg0.N) (r : Fin 512) (j : Fin 1024) : iblk m c 1 t (ix2 r j) = a1 m c (ix2 (row t r) j) := by
  have hi := (idx_at t).2.1
  unfold iblk
  rw [View.read_apply]
  show V m c main_arg1 _ = m (c.tc.loc main_arg1) _
  unfold V
  congr 1
  funext a
  apply Fin.ext
  match a with
  | ⟨0, _⟩ => show win0_1.index t 0 * 512 + 1 * r.val = t.val * 512 + r.val; rw [hi.1]; omega
  | ⟨1, _⟩ => show win0_1.index t 1 * 1024 + 1 * j.val = j.val; rw [hi.2]; omega

theorem iblk2 (t : Fin cfg0.N) (r : Fin 1) (j : Fin 1024) : iblk m c 2 t (ix2 r j) = a2 m c (ix2 r j) := by
  have hi := (idx_at t).2.2.1
  unfold iblk
  rw [View.read_apply]
  show V m c main_arg2 _ = m (c.tc.loc main_arg2) _
  unfold V
  congr 1
  funext a
  apply Fin.ext
  match a with
  | ⟨0, _⟩ => show win0_2.index t 0 * 1 + 1 * r.val = r.val; rw [hi.1]; omega
  | ⟨1, _⟩ => show win0_2.index t 1 * 1024 + 1 * j.val = j.val; rw [hi.2]; omega

/-- A point's rows of the gradient are the reference's rows. -/
theorem outs_row (t : Fin cfg0.N) (r : Fin 512) (j : Fin 1024) :
    (outsAt0 m c t.val t.isLt).1 (ix2 r j) = val_main_v50 (F := Ideal) (a0 m c) (a1 m c) (a2 m c) (ix2 (row t r) j) := by
  by_cases h0 : t.val % 8 = 0
  · rw [outsAt0_A m c t h0, out_A3]
    exact dx_eq (row t) _ _ _ _ _ _ (iblk0 m c t) (iblk1 m c t) (iblk2 m c t) r j
  · rw [outsAt0_B m c t h0, out_B3]
    exact dx_eq (row t) _ _ _ _ _ _ (iblk0 m c t) (iblk1 m c t) (iblk2 m c t) r j

/-- After the last point the buffer holds the whole sum. -/
theorem outs_last4 (h : 7 < cfg0.N) : (outsAt0 m c 7 h).2.1 = val_main_v33 (F := Ideal) (a0 m c) (a1 m c) (a2 m c) := by
  have hN : cfg0.N = 8 := N_0
  funext i
  obtain ⟨r, j, rfl⟩ : ∃ r j, i = ix2 r j := ⟨i 0, i 1, by idx_vars i⟩
  rw [dg_val]
  refine Cert.Att.chain_sum (N := 4096) (B := 512) rfl (fun x => val_main_v13 (F := Ideal) (a0 m c) (ix2 x j) * val_main_v30 (F := Ideal) (a0 m c) (a1 m c) (a2 m c) (ix2 x j))
    (fun n h => (outsAt0 m c n (by omega)).2.1 (ix2 r j)) ?_ ?_
  · have e := outsAt0_A m c ⟨0, by omega⟩ (Nat.zero_mod 8)
    rw [out_A3, out_A4, out_A5] at e
    refine (congrFun (congrArg (fun p => p.2.1) e) (ix2 r j)).trans ((dg_step (row ⟨0, by omega⟩) _ _ _ _ _ _ (iblk0 m c ⟨0, by omega⟩) (iblk1 m c ⟨0, by omega⟩) (iblk2 m c ⟨0, by omega⟩) _ r j).trans ?_)
    rw [show k0_pay5 (F := Ideal) (ix2 r j) = 0 by simp only [k0_pay5, broadcast, Ideal.ofBits_def, Ideal.ofBits_zero_f32], zero_add]
    exact Finset.sum_congr rfl fun x _ => by simp only [row, zero_mul, zero_add]
  · intro n h
    have hB : ¬(⟨n + 1, by omega⟩ : Fin cfg0.N).val % 8 = 0 := by dsimp only; omega
    have e := outsAt0_B m c ⟨n + 1, by omega⟩ hB
    rw [out_B3, out_B4, out_B5] at e
    exact (congrFun (congrArg (fun p => p.2.1) e) (ix2 r j)).trans (dg_step (row ⟨n + 1, by omega⟩) _ _ _ _ _ _ (iblk0 m c ⟨n + 1, by omega⟩) (iblk1 m c ⟨n + 1, by omega⟩) (iblk2 m c ⟨n + 1, by omega⟩) _ r j)

/-- After the last point the buffer holds the whole sum. -/
theorem outs_last5 (h : 7 < cfg0.N) : (outsAt0 m c 7 h).2.2 = val_main_v51 (F := Ideal) (a0 m c) (a1 m c) (a2 m c) := by
  have hN : cfg0.N = 8 := N_0
  funext i
  obtain ⟨r, j, rfl⟩ : ∃ r j, i = ix2 r j := ⟨i 0, i 1, by idx_vars i⟩
  rw [loss_val]
  refine Cert.Att.chain_sum (N := 4096) (B := 512) rfl (fun x => val_main_cst_7 (F := Ideal) (fun a => a.elim0) * val_main_v22 (F := Ideal) (a0 m c) (a1 m c) (a2 m c) (ix1 x))
    (fun n h => (outsAt0 m c n (by omega)).2.2 (ix2 r j)) ?_ ?_
  · have e := outsAt0_A m c ⟨0, by omega⟩ (Nat.zero_mod 8)
    rw [out_A3, out_A4, out_A5] at e
    refine (congrFun (congrArg (fun p => p.2.2) e) (ix2 r j)).trans ((loss_step (row ⟨0, by omega⟩) _ _ _ _ _ _ (iblk0 m c ⟨0, by omega⟩) (iblk1 m c ⟨0, by omega⟩) (iblk2 m c ⟨0, by omega⟩) _ r j).trans ?_)
    rw [show k0_pay6 (F := Ideal) (ix2 r j) = 0 by simp only [k0_pay6, broadcast, Ideal.ofBits_def, Ideal.ofBits_zero_f32], zero_add]
    exact Finset.sum_congr rfl fun x _ => by simp only [row, zero_mul, zero_add]
  · intro n h
    have hB : ¬(⟨n + 1, by omega⟩ : Fin cfg0.N).val % 8 = 0 := by dsimp only; omega
    have e := outsAt0_B m c ⟨n + 1, by omega⟩ hB
    rw [out_B3, out_B4, out_B5] at e
    exact (congrFun (congrArg (fun p => p.2.2) e) (ix2 r j)).trans (loss_step (row ⟨n + 1, by omega⟩) _ _ _ _ _ _ (iblk0 m c ⟨n + 1, by omega⟩) (iblk1 m c ⟨n + 1, by omega⟩) (iblk2 m c ⟨n + 1, by omega⟩) _ r j)

/-- The gradient's array after the run. -/
theorem final_3 : (dats m 0 c).arrAt 3 cfg0.N = val_main_v50 (F := Ideal) (a0 m c) (a1 m c) (a2 m c) := by
  have hN : cfg0.N = 8 := N_0
  refine (dats m 0 c).arrAt_eq_of_cover 3 _ (fun t _ => ?_) fun i => ?_
  · have hi := (idx_at t).2.2.2.1
    rw [Cert.Kernel43Ideal.Value.flushed3]
    funext j
    obtain ⟨r, x, rfl⟩ : ∃ r x, j = ix2 r x := ⟨j 0, j 1, by idx_vars j⟩
    rw [View.read_apply]
    refine (outs_row m c t r x).trans ?_
    congr 1
    funext a
    apply Fin.ext
    match a with
    | ⟨0, _⟩ => show t.val * 512 + r.val = win0_3.index t 0 * 512 + 1 * r.val; rw [hi.1]; omega
    | ⟨1, _⟩ => show x.val = win0_3.index t 1 * 1024 + 1 * x.val; rw [hi.2]; omega
  · have h0 : (i 0 : Nat) < 4096 := (i 0).isLt
    have h1 : (i 1 : Nat) < 1024 := (i 1).isLt
    obtain ⟨t, ht⟩ : ∃ t : Fin cfg0.N, t.val = (i 0 : Nat) / 512 := ⟨⟨(i 0 : Nat) / 512, by omega⟩, rfl⟩
    refine ⟨t, flush0_3 _, ?_⟩
    have hi := (idx_at t).2.2.2.1
    show i ∈ ((View.whole main_v0_0).slice (win0_3.rect t)).set
    rw [View.set_slice_whole, Rect.mem_set_unit]
    intro a
    match a with
    | ⟨0, _⟩ => exact Cert.Tile.mem 512 (i 0) hi.1 (by omega)
    | ⟨1, _⟩ => exact Cert.Tile.mem 1024 (i 1) hi.2 (by omega)

/-- The point that writes a sum back is the last. -/
theorem last_eq (t : Fin cfg0.N) (h : t.val % 8 = 7) : t = t0_7 := by
  have hN : cfg0.N = 8 := N_0
  have := t.isLt
  exact Fin.ext (show t.val = 7 by omega)

/-- The sum's array after the run. -/
theorem final_4 : (dats m 0 c).arrAt 4 cfg0.N = val_main_v33 (F := Ideal) (a0 m c) (a1 m c) (a2 m c) := by
  have hi := (idx_at t0_7).2.2.2.2.1
  refine (dats m 0 c).arrAt_eq_of_cover 4 _ (fun t hf => ?_) fun i => ⟨t0_7, (flush0_4 _).mpr rfl, ?_⟩
  · obtain rfl := last_eq t ((flush0_4 t).mp hf)
    rw [Cert.Kernel43Ideal.Value.flushed4, show (outsAt0 m c t0_7.val t0_7.isLt).2.1 = _ from outs_last4 m c _]
    funext j
    obtain ⟨r, x, rfl⟩ : ∃ r x, j = ix2 r x := ⟨j 0, j 1, by idx_vars j⟩
    rw [View.read_apply]
    show (val_main_v33 (F := Ideal) (a0 m c) (a1 m c) (a2 m c)) (ix2 r x) = _
    congr 1
    funext a
    apply Fin.ext
    match a with
    | ⟨0, _⟩ => show r.val = win0_4.index t0_7 0 * 1 + 1 * r.val; rw [hi.1]; omega
    | ⟨1, _⟩ => show x.val = win0_4.index t0_7 1 * 1024 + 1 * x.val; rw [hi.2]; omega
  · have h0 : (i 0 : Nat) < 1 := (i 0).isLt
    have h1 : (i 1 : Nat) < 1024 := (i 1).isLt
    show i ∈ ((View.whole main_v0_1).slice (win0_4.rect t0_7)).set
    rw [View.set_slice_whole, Rect.mem_set_unit]
    intro a
    match a with
    | ⟨0, _⟩ => exact Cert.Tile.mem 1 (i 0) hi.1 (by omega)
    | ⟨1, _⟩ => exact Cert.Tile.mem 1024 (i 1) hi.2 (by omega)

/-- The sum's array after the run. -/
theorem final_5 : (dats m 0 c).arrAt 5 cfg0.N = val_main_v51 (F := Ideal) (a0 m c) (a1 m c) (a2 m c) := by
  have hi := (idx_at t0_7).2.2.2.2.2
  refine (dats m 0 c).arrAt_eq_of_cover 5 _ (fun t hf => ?_) fun i => ⟨t0_7, (flush0_5 _).mpr rfl, ?_⟩
  · obtain rfl := last_eq t ((flush0_5 t).mp hf)
    rw [Cert.Kernel43Ideal.Value.flushed5, show (outsAt0 m c t0_7.val t0_7.isLt).2.2 = _ from outs_last5 m c _]
    funext j
    obtain ⟨r, x, rfl⟩ : ∃ r x, j = ix2 r x := ⟨j 0, j 1, by idx_vars j⟩
    rw [View.read_apply]
    show (val_main_v51 (F := Ideal) (a0 m c) (a1 m c) (a2 m c)) (ix2 r x) = _
    congr 1
    funext a
    apply Fin.ext
    match a with
    | ⟨0, _⟩ => show r.val = win0_5.index t0_7 0 * 8 + 1 * r.val; rw [hi.1]; omega
    | ⟨1, _⟩ => show x.val = win0_5.index t0_7 1 * 128 + 1 * x.val; rw [hi.2]; omega
  · have h0 : (i 0 : Nat) < 8 := (i 0).isLt
    have h1 : (i 1 : Nat) < 128 := (i 1).isLt
    show i ∈ ((View.whole main_v0_2).slice (win0_5.rect t0_7)).set
    rw [View.set_slice_whole, Rect.mem_set_unit]
    intro a
    match a with
    | ⟨0, _⟩ => exact Cert.Tile.mem 8 (i 0) hi.1 (by omega)
    | ⟨1, _⟩ => exact Cert.Tile.mem 128 (i 1) hi.2 (by omega)

/-- From memories that agree on the arguments, the kernel and the reference end with the same arrays. -/
theorem equal : Cert.algebraic_Kernel43Ideal_Reference43Ideal := by
  intro m g m' g' _ hargs
  refine ⟨fun c => val_main_v50 (F := Ideal) (a0 m c) (a1 m c) (a2 m c), fun c => val_main_v33 (F := Ideal) (a0 m c) (a1 m c) (a2 m c), fun c => val_main_v51 (F := Ideal) (a0 m c) (a1 m c) (a2 m c), ?_, ?_⟩
  · refine (θ_run _ _ _).mono (fun r h c => ?_) (Cert.Kernel43Ideal.Value.run_blocks (F := Ideal) m g)
    obtain ⟨h0, h1, h2, h3⟩ := h c
    exact ⟨h0.trans (final_3 m c), h1.trans (final_4 m c), h2.trans (final_5 m c), h3⟩
  · refine (θ_run _ _ _).mono (fun r h c => ?_) (Cert.Reference43Ideal.Value.run (F := Ideal) m' g')
    obtain ⟨e0, e1, e2⟩ := hargs c
    obtain ⟨h0, h1, h2, h3⟩ := h c
    rw [val_main_v50_eq, e0, e1, e2] at h0
    rw [val_main_v33_eq, e0, e1, e2] at h1
    rw [val_main_v51_eq, e0, e1, e2] at h2
    exact ⟨h0, h1, h2, h3⟩

end Cert.Call43

end
-- ==== Proof.Call44.lean ====
/- The RMS norm of the memory: the one-block norm is the reference's norm. -/
module

public import proofs.«01_k».proof.Defs
public import proofs.«01_k».proof.Proof.Gen.Kernel44Ideal.Value
public import proofs.«01_k».proof.Proof.Gen.Reference44Ideal.Read
public import Idealize.ShloMosaic.Lib.Pointwise
public import Idealize.ShloMosaic.Lib.Tactic
public import Idealize.ShloMosaic.PureOps.Ideal.Laws

@[expose] public section

noncomputable section

namespace Cert.Call44

open Idealize.ShloMosaic Idealize.ShloMosaic.TcCoe Idealize.SL.Sem Cert.Kernel44Ideal Cert.Kernel44Ideal.Gen
open Cert.Kernel44Ideal.Value Cert.Reference44Ideal.Read

/-- The block is normed as the reference norms it. -/
theorem value_eq (a0 : Vec Ideal S256x1024 .f32) (a1 : Vec Ideal S1x1024 .f32) : G2 a0 a1 = val_main_v12 (F := Ideal) a0 a1 := by
  funext i
  obtain ⟨r, j, rfl⟩ : ∃ r j, i = ix2 r j := ⟨i 0, i 1, by idx_vars i⟩
  pointwise [k0_pay1, val_main_v0, val_main_v1, val_main_v2, val_main_v3, val_main_v4, val_main_v5, val_main_v6, val_main_v7, val_main_v8, val_main_v9, val_main_v10, val_main_v11, val_main_v12, val_main_cst, val_main_cst_0, val_main_cst_1]

/-- From memories that agree on the arguments, the kernel and the reference end with the same array. -/
theorem equal : Cert.algebraic_Kernel44Ideal_Reference44Ideal := by
  intro m g m' g' _ hargs
  refine ⟨fun c => val_main_v12 (F := Ideal) (m ((c : Thread nD τ).loc main_arg0)) (m ((c : Thread nD τ).loc main_arg1)), ?_, ?_⟩
  · refine (θ_run _ _ _).mono (fun r h c => ?_) (Cert.Kernel44Ideal.Value.run (F := Ideal) m g)
    obtain ⟨h0, h1⟩ := h c
    exact ⟨h0.trans (value_eq _ _), h1⟩
  · refine (θ_run _ _ _).mono (fun r h c => ?_) (Cert.Reference44Ideal.Value.run (F := Ideal) m' g')
    obtain ⟨e0, e1⟩ := hargs c
    obtain ⟨h0, h1⟩ := h c
    rw [val_main_v12_eq, e0, e1] at h0
    exact ⟨h0, h1⟩

end Cert.Call44

end
-- ==== Proof.Call45.lean ====
/- The cross-attention's forward call: the kernel's eight row tiles, head by head, against the reference's attention. -/
module

public import proofs.«01_k».proof.Defs
public import proofs.«01_k».proof.Proof.Gen.Kernel45Ideal.Value
public import proofs.«01_k».proof.Proof.Gen.Reference45Ideal.Read
public import Idealize.ShloMosaic.Lib.Pointwise
public import Idealize.ShloMosaic.Lib.Tactic
public import Idealize.ShloMosaic.Lib.Pipeline.ValueKit.Tiles
public import Idealize.ShloMosaic.PureOps.Ideal.Laws
public import proofs.«01_k».proof.Proof.AttRef
public import proofs.«01_k».proof.Proof.Tile

@[expose] public section

noncomputable section

namespace Cert.Call45

open Idealize.ShloMosaic Idealize.ShloMosaic.TcCoe Idealize.SL.Sem Cert.Kernel45Ideal Cert.Kernel45Ideal.Gen
open Cert.Reference45Ideal.Read
open Cert.Att

theorem hz : (![0, 0] : Fin 2 → Nat) = fun _ => 0 := funext fun a => by fin_cases a <;> rfl

/-- A head's output block. -/
def headO (x0 : FVec Ideal S512x1024 .bf16) (x1 x2 : FVec Ideal S256x1024 .f32) (h : Fin 4) : FVec Ideal S512x256 .f32 :=
  rowsB (pB (headQ h x0) (headK h x1)) (headK h x2)

/-- Four blocks side by side. -/
def cat (b0 b1 b2 b3 : FVec Ideal S512x256 .f32) : FVec Ideal S512x1024 .f32 :=
  concatenate S512x1024 1 [⟨S512x256, b0⟩, ⟨S512x256, b1⟩, ⟨S512x256, b2⟩, ⟨S512x256, b3⟩] concatenates_S512x256_S512x256_S512x256_S512x256_S512x1024_d1

theorem side (b : Fin 4 → FVec Ideal S512x256 .f32) (r : Fin 512) (h : Fin 4) (d : Fin 256) :
    cat (b 0) (b 1) (b 2) (b 3) (ix2 r (col h d)) = b h (ix2 r d) := by
  have hd := d.isLt
  pointwise [cat, col]
  fin_vals h with hk
  all_goals
    simp only [hk]
    repeat' split
    all_goals first | omega | exact congr (congrArg b (Fin.ext hk.symm)) (congrArg (ix2 r) (Fin.ext (by dsimp only; omega)))

theorem q0 (x : FVec Ideal S512x1024 .bf16) : extractStridedSlice S512x256 ![0, 0] (extf .f32 x bitsLt_bf16_f32) slices_S512x1024_o0_0_S512x256 = headQ 0 x := by
  funext i; idx_vars i; pointwise [headQ, col]
theorem k0 (x : FVec Ideal S256x1024 .f32) : extractStridedSlice S256x256 ![0, 0] x slices_S256x1024_o0_0_S256x256 = headK 0 x := by
  funext i; idx_vars i; pointwise [headK, col]
theorem q1 (x : FVec Ideal S512x1024 .bf16) : extractStridedSlice S512x256 ![0, 256] (extf .f32 x bitsLt_bf16_f32) slices_S512x1024_o0_256_S512x256 = headQ 1 x := by
  funext i; idx_vars i; pointwise [headQ, col]
theorem k1 (x : FVec Ideal S256x1024 .f32) : extractStridedSlice S256x256 ![0, 256] x slices_S256x1024_o0_256_S256x256 = headK 1 x := by
  funext i; idx_vars i; pointwise [headK, col]
theorem q2 (x : FVec Ideal S512x1024 .bf16) : extractStridedSlice S512x256 ![0, 512] (extf .f32 x bitsLt_bf16_f32) slices_S512x1024_o0_512_S512x256 = headQ 2 x := by
  funext i; idx_vars i; pointwise [headQ, col]
theorem k2 (x : FVec Ideal S256x1024 .f32) : extractStridedSlice S256x256 ![0, 512] x slices_S256x1024_o0_512_S256x256 = headK 2 x := by
  funext i; idx_vars i; pointwise [headK, col]
theorem q3 (x : FVec Ideal S512x1024 .bf16) : extractStridedSlice S512x256 ![0, 768] (extf .f32 x bitsLt_bf16_f32) slices_S512x1024_o0_768_S512x256 = headQ 3 x := by
  funext i; idx_vars i; pointwise [headQ, col]
theorem k3 (x : FVec Ideal S256x1024 .f32) : extractStridedSlice S256x256 ![0, 768] x slices_S256x1024_o0_768_S256x256 = headK 3 x := by
  funext i; idx_vars i; pointwise [headK, col]

/-- The stored block is the four heads' output blocks side by side. -/
theorem block_form (x0 : FVec Ideal S512x1024 .bf16) (x1 x2 : FVec Ideal S256x1024 .f32) :
    k0_pay1 (k0_pay2 x0) x1 x2 (k0_pay3 x0 x1 x2) (k0_pay4 x0 x1) (k0_pay5 x2) (constant S512x256 .f32 0x00000000#32)
      = truncf .bf16 (cat (headO x0 x1 x2 0) (headO x0 x1 x2 1) (headO x0 x1 x2 2) (headO x0 x1 x2 3)) bitsLt_bf16_f32 := by
  refine Eq.trans (b := truncf .bf16 (cat (rowsB (pB (extractStridedSlice S512x256 ![0, 0] (extf .f32 x0 bitsLt_bf16_f32) slices_S512x1024_o0_0_S512x256) (extractStridedSlice S256x256 ![0, 0] x1 slices_S256x1024_o0_0_S256x256)) (extractStridedSlice S256x256 ![0, 0] x2 slices_S256x1024_o0_0_S256x256)) (rowsB (pB (extractStridedSlice S512x256 ![0, 256] (extf .f32 x0 bitsLt_bf16_f32) slices_S512x1024_o0_256_S512x256) (extractStridedSlice S256x256 ![0, 256] x1 slices_S256x1024_o0_256_S256x256)) (extractStridedSlice S256x256 ![0, 256] x2 slices_S256x1024_o0_256_S256x256)) (rowsB (pB (extractStridedSlice S512x256 ![0, 512] (extf .f32 x0 bitsLt_bf16_f32) slices_S512x1024_o0_512_S512x256) (extractStridedSlice S256x256 ![0, 512] x1 slices_S256x1024_o0_512_S256x256)) (extractStridedSlice S256x256 ![0, 512] x2 slices_S256x1024_o0_512_S256x256)) (rowsB (pB (extractStridedSlice S512x256 ![0, 768] (extf .f32 x0 bitsLt_bf16_f32) slices_S512x1024_o0_768_S512x256) (extractStridedSlice S256x256 ![0, 768] x1 slices_S256x1024_o0_768_S256x256)) (extractStridedSlice S256x256 ![0, 768] x2 slices_S256x1024_o0_768_S256x256))) bitsLt_bf16_f32) (by unfold k0_pay1 k0_pay2 k0_pay3 k0_pay4 k0_pay5; rfl) ?_
  simp only [q0, q1, q2, q3, k0, k1, k2, k3]
  rfl

variable (q : FVec Ideal S4096x1024 .bf16) (k v : FVec Ideal S256x1024 .f32)

/-- The reference's scaled scores. -/
theorem ref_score (z : Fin 1) (h : Fin 4) (r : Fin 4096) (m : Fin 256) :
    val_main_v6 (F := Ideal) q k (ix4 z h r m) = score (fun d => q (ix2 r (col h d))) (fun m d => k (ix2 m (col h d))) m := by
  pointwise [val_main_v6, val_main_v5, val_main_cst, val_main_v4, val_main_v2, val_main_v1, val_main_v0]
  rfl

theorem ref_top (z : Fin 1) (h : Fin 4) (r : Fin 4096) :
    val_main_v9 (F := Ideal) q k (ix3 z h r) = top (fun d => q (ix2 r (col h d))) (fun m d => k (ix2 m (col h d))) := by
  have e : val_main_v7 (F := Ideal) q k (ix3 z h r) = top (fun d => q (ix2 r (col h d))) (fun m d => k (ix2 m (col h d))) := by
    unfold val_main_v7
    rw [Host.reduce_eq_fold_single FloatOps.maximumf _ _ _ reduces_mem]
    have e : (val_main_v6 (F := Ideal) q k ∘ reduces_mem.lift (ix3 z h r))
        = fun m : Fin 256 => score (fun d => q (ix2 r (col h d))) (fun m d => k (ix2 m (col h d))) m :=
      funext fun m => (congrArg _ (lift_mem z h r m)).trans (ref_score q k z h r m)
    rw [e]
    rfl
  rw [val_main_v9_apply, e, val_main_v8_apply, val_main_cst_1_apply]
  simp [Ideal.ofBits, Ideal.ieee]

theorem ref_ex (z : Fin 1) (h : Fin 4) (r : Fin 4096) (m : Fin 256) :
    val_main_v13 (F := Ideal) q k (ix4 z h r m) = ex (fun d => q (ix2 r (col h d))) (fun m d => k (ix2 m (col h d))) m := by
  pointwise [val_main_v13, val_main_v12, val_main_v11, val_main_v10]
  rw [ref_score, ref_top]
  rfl

theorem ref_weight (z : Fin 1) (h : Fin 4) (r : Fin 4096) (m : Fin 256) :
    val_main_v17 (F := Ideal) q k (ix4 z h r m) = weight (fun d => q (ix2 r (col h d))) (fun m d => k (ix2 m (col h d))) m := by
  pointwise [val_main_v17, val_main_v16, val_main_v15, val_main_v14, val_main_cst_2]
  simp only [ref_ex]
  rfl

theorem ref_out (r : Fin 4096) (j : Fin 1024) : val_main_v21 (F := Ideal) q k v (ix2 r j)
    = ∑ m : Fin 256, weight (fun d => q (ix2 r (col (hd j) d))) (fun m d => k (ix2 m (col (hd j) d))) m * v (ix2 m j) := by
  pointwise [val_main_v21, val_main_v20, val_main_v19, val_main_v18, val_main_v3]
  simp only [ref_weight]
  exact Finset.sum_congr rfl fun x _ => mul_comm _ _

/-- A block of rows attends as the reference does with these rows. -/
theorem block_eq (f : Fin 512 → Fin 4096) (x0 : Vec Ideal S512x1024 .bf16) (x1 x2 : Vec Ideal S256x1024 .f32) (h0 : ∀ r j, x0 (ix2 r j) = q (ix2 (f r) j))
    (h1 : ∀ r j, x1 (ix2 r j) = k (ix2 r j)) (h2 : ∀ r j, x2 (ix2 r j) = v (ix2 r j)) (r : Fin 512) (j : Fin 1024) :
    k0_pay1 (k0_pay2 x0) x1 x2 (k0_pay3 x0 x1 x2) (k0_pay4 x0 x1) (k0_pay5 x2) (constant S512x256 .f32 0x00000000#32) (ix2 r j)
      = val_main_v21 (F := Ideal) q k v (ix2 (f r) j) := by
  rw [block_form, ref_out]
  conv_lhs => rw [← col_hd_dd j]
  refine (side (headO x0 x1 x2) r _ _).trans ?_
  rw [headO, rowsB_apply]
  simp only [pB_apply, headQ, headK]
  show ∑ m : Fin 256, weight (fun d => x0 (ix2 r (col (hd j) d))) (fun m d => x1 (ix2 m (col (hd j) d))) m * x2 (ix2 m (col (hd j) (dd j))) = _
  simp only [h0, h1, h2, col_hd_dd]

variable (m : (ℓ : Loc nD τ sig) → Buf (Elt Ideal) ℓ) (c : Dev nD)

/-- Argument 0 at launch. -/
abbrev a0 : FVec Ideal S4096x1024 .bf16 := m ((c : Thread nD τ).loc main_arg0)

/-- Argument 1 at launch. -/
abbrev a1 : FVec Ideal S256x1024 .f32 := m ((c : Thread nD τ).loc main_arg1)

/-- Argument 2 at launch. -/
abbrev a2 : FVec Ideal S256x1024 .f32 := m ((c : Thread nD τ).loc main_arg2)

/-- Row `r` of tile `t`. -/
def row (t : Fin cfg0.N) (r : Fin 512) : Fin 4096 := ⟨t.val * 512 + r.val, by
  have := t.isLt; have h : cfg0.N = 8 := N_0; omega⟩

/-- Which block each window reads or writes at a point. -/
theorem idx_at : ∀ t : Fin cfg0.N, (win0_0.index t 0 = t.val ∧ win0_0.index t 1 = 0) ∧ (win0_1.index t 0 = 0 ∧ win0_1.index t 1 = 0) ∧ (win0_2.index t 0 = 0 ∧ win0_2.index t 1 = 0) ∧ (win0_3.index t 0 = t.val ∧ win0_3.index t 1 = 0) :=
  (by decide +kernel : ∀ t : Fin grid0.N, (win0_0.index t 0 = t.val ∧ win0_0.index t 1 = 0) ∧ (win0_1.index t 0 = 0 ∧ win0_1.index t 1 = 0) ∧ (win0_2.index t 0 = 0 ∧ win0_2.index t 1 = 0) ∧ (win0_3.index t 0 = t.val ∧ win0_3.index t 1 = 0))

theorem iblk0 (t : Fin cfg0.N) (r : Fin 512) (j : Fin 1024) : iblk m c 0 t (ix2 r j) = a0 m c (ix2 (row t r) j) := by
  have hi := (idx_at t).1
  unfold iblk
  rw [View.read_apply]
  show V m c main_arg0 _ = m (c.tc.loc main_arg0) _
  unfold V
  congr 1
  funext a
  apply Fin.ext
  match a with
  | ⟨0, _⟩ => show win0_0.index t 0 * 512 + 1 * r.val = t.val * 512 + r.val; rw [hi.1]; omega
  | ⟨1, _⟩ => show win0_0.index t 1 * 1024 + 1 * j.val = j.val; rw [hi.2]; omega

theorem iblk1 (t : Fin cfg0.N) (r : Fin 256) (j : Fin 1024) : iblk m c 1 t (ix2 r j) = a1 m c (ix2 r j) := by
  have hi := (idx_at t).2.1
  unfold iblk
  rw [View.read_apply]
  show V m c main_arg1 _ = m (c.tc.loc main_arg1) _
  unfold V
  congr 1
  funext a
  apply Fin.ext
  match a with
  | ⟨0, _⟩ => show win0_1.index t 0 * 256 + 1 * r.val = r.val; rw [hi.1]; omega
  | ⟨1, _⟩ => show win0_1.index t 1 * 1024 + 1 * j.val = j.val; rw [hi.2]; omega

theorem iblk2 (t : Fin cfg0.N) (r : Fin 256) (j : Fin 1024) : iblk m c 2 t (ix2 r j) = a2 m c (ix2 r j) := by
  have hi := (idx_at t).2.2.1
  unfold iblk
  rw [View.read_apply]
  show V m c main_arg2 _ = m (c.tc.loc main_arg2) _
  unfold V
  congr 1
  funext a
  apply Fin.ext
  match a with
  | ⟨0, _⟩ => show win0_2.index t 0 * 256 + 1 * r.val = r.val; rw [hi.1]; omega
  | ⟨1, _⟩ => show win0_2.index t 1 * 1024 + 1 * j.val = j.val; rw [hi.2]; omega

/-- What a point leaves in this window is the reference's rows of its tile. -/
theorem point_3 (t : Fin cfg0.N) (r : Fin 512) (j : Fin 1024) :
    out0_3 (iblk m c 0 t) (iblk m c 1 t) (iblk m c 2 t) (ix2 r j) = val_main_v21 (F := Ideal) (a0 m c) (a1 m c) (a2 m c) (ix2 (row t r) j) := by
  unfold out0_3
  rw [View.canon_unit_zero hz]
  simp only [View.ld_unit_zero (S := S512x1024) hz, View.ld_unit_zero (S := S256x1024) hz]
  exact block_eq (a0 m c) (a1 m c) (a2 m c) (row t) _ _ _ (iblk0 m c t) (iblk1 m c t) (iblk2 m c t) r j

/-- The array this window ends with. -/
theorem final_3 : (dats m 0 c).arrAt 3 cfg0.N = val_main_v21 (F := Ideal) (a0 m c) (a1 m c) (a2 m c) := by
  have hN : cfg0.N = 8 := N_0
  refine (dats m 0 c).arrAt_eq_of_cover 3 _ (fun t _ => ?_) fun i => ?_
  · have hi := (idx_at t).2.2.2
    rw [Cert.Kernel45Ideal.Value.flushed3]
    funext j
    obtain ⟨r, x, rfl⟩ : ∃ r x, j = ix2 r x := ⟨j 0, j 1, by idx_vars j⟩
    rw [View.read_apply]
    refine (point_3 m c t r x).trans ?_
    congr 1
    funext a
    apply Fin.ext
    match a with
    | ⟨0, _⟩ => show t.val * 512 + r.val = win0_3.index t 0 * 512 + 1 * r.val; rw [hi.1]; omega
    | ⟨1, _⟩ => show x.val = win0_3.index t 1 * 1024 + 1 * x.val; rw [hi.2]; omega
  · have h0 : (i 0 : Nat) < 4096 := (i 0).isLt
    have h1 : (i 1 : Nat) < 1024 := (i 1).isLt
    have ht : (i 0 : Nat) / 512 < cfg0.N := by omega
    refine ⟨⟨(i 0 : Nat) / 512, ht⟩, flush0_3 _, ?_⟩
    have hi := (idx_at ⟨(i 0 : Nat) / 512, ht⟩).2.2.2
    show i ∈ ((View.whole main_v0).slice (win0_3.rect ⟨(i 0 : Nat) / 512, ht⟩)).set
    rw [View.set_slice_whole, Rect.mem_set_unit]
    intro a
    match a with
    | ⟨0, _⟩ => exact Cert.Tile.mem 512 (i 0) hi.1 (by dsimp only; omega)
    | ⟨1, _⟩ => exact Cert.Tile.mem 1024 (i 1) hi.2 (by omega)

/-- From memories that agree on the arguments, the kernel and the reference end with the same arrays. -/
theorem equal : Cert.algebraic_Kernel45Ideal_Reference45Ideal := by
  intro m g m' g' _ hargs
  refine ⟨fun c => val_main_v21 (F := Ideal) (a0 m c) (a1 m c) (a2 m c), ?_, ?_⟩
  · refine (θ_run _ _ _).mono (fun r h c => ?_) (Cert.Kernel45Ideal.Value.run_blocks (F := Ideal) m g)
    obtain ⟨h0, h1⟩ := h c
    exact ⟨h0.trans (final_3 m c), h1⟩
  · refine (θ_run _ _ _).mono (fun r h c => ?_) (Cert.Reference45Ideal.Value.run (F := Ideal) m' g')
    obtain ⟨e0, e1, e2⟩ := hargs c
    obtain ⟨h0, h1⟩ := h c
    rw [val_main_v21_eq] at h0
    rw [e0, e1, e2] at h0
    exact ⟨h0, h1⟩

end Cert.Call45

end
-- ==== Proof.lean ====
module

public import proofs.«01_k».proof.Defs
public import proofs.«01_k».proof.Proof.Gen.Kernel.Frame
public import proofs.«01_k».proof.Proof.AttMain
public import proofs.«01_k».proof.Proof.Gen.Kernel2.Frame
public import proofs.«01_k».proof.Proof.Call2
public import proofs.«01_k».proof.Proof.Gen.Kernel3.Frame
public import proofs.«01_k».proof.Proof.Call3
public import proofs.«01_k».proof.Proof.Gen.Kernel4.Frame
public import proofs.«01_k».proof.Proof.Call4
public import proofs.«01_k».proof.Proof.Gen.Kernel5.Frame
public import proofs.«01_k».proof.Proof.Call5
public import proofs.«01_k».proof.Proof.Gen.Kernel6.Frame
public import proofs.«01_k».proof.Proof.Call6
public import proofs.«01_k».proof.Proof.Gen.Kernel7.Frame
public import proofs.«01_k».proof.Proof.Call7
public import proofs.«01_k».proof.Proof.Gen.Kernel8.Frame
public import proofs.«01_k».proof.Proof.Call8
public import proofs.«01_k».proof.Proof.Gen.Kernel9.Frame
public import proofs.«01_k».proof.Proof.Call9
public import proofs.«01_k».proof.Proof.Gen.Kernel10.Frame
public import proofs.«01_k».proof.Proof.Call10
public import proofs.«01_k».proof.Proof.Gen.Kernel11.Frame
public import proofs.«01_k».proof.Proof.Call11
public import proofs.«01_k».proof.Proof.Gen.Kernel12.Frame
public import proofs.«01_k».proof.Proof.Call12
public import proofs.«01_k».proof.Proof.Gen.Kernel13.Frame
public import proofs.«01_k».proof.Proof.Call13
public import proofs.«01_k».proof.Proof.Gen.Kernel14.Frame
public import proofs.«01_k».proof.Proof.Call14
public import proofs.«01_k».proof.Proof.Gen.Kernel15.Frame
public import proofs.«01_k».proof.Proof.Call15
public import proofs.«01_k».proof.Proof.Gen.Kernel16.Frame
public import proofs.«01_k».proof.Proof.Call16
public import proofs.«01_k».proof.Proof.Gen.Kernel17.Frame
public import proofs.«01_k».proof.Proof.Call17
public import proofs.«01_k».proof.Proof.Gen.Kernel18.Frame
public import proofs.«01_k».proof.Proof.Call18
public import proofs.«01_k».proof.Proof.Gen.Kernel19.Frame
public import proofs.«01_k».proof.Proof.Call19
public import proofs.«01_k».proof.Proof.Gen.Kernel20.Frame
public import proofs.«01_k».proof.Proof.Call20
public import proofs.«01_k».proof.Proof.Gen.Kernel21.Frame
public import proofs.«01_k».proof.Proof.Call21
public import proofs.«01_k».proof.Proof.Gen.Kernel26.Frame
public import proofs.«01_k».proof.Proof.Call26
public import proofs.«01_k».proof.Proof.Gen.Kernel27.Frame
public import proofs.«01_k».proof.Proof.Call27
public import proofs.«01_k».proof.Proof.Gen.Kernel28.Frame
public import proofs.«01_k».proof.Proof.Call28
public import proofs.«01_k».proof.Proof.Gen.Kernel29.Frame
public import proofs.«01_k».proof.Proof.Call29
public import proofs.«01_k».proof.Proof.Gen.Kernel30.Frame
public import proofs.«01_k».proof.Proof.Call30
public import proofs.«01_k».proof.Proof.Gen.Kernel34.Frame
public import proofs.«01_k».proof.Proof.Call34
public import proofs.«01_k».proof.Proof.Gen.Kernel36.Frame
public import proofs.«01_k».proof.Proof.Call36
public import proofs.«01_k».proof.Proof.Gen.Kernel37.Frame
public import proofs.«01_k».proof.Proof.Call37
public import proofs.«01_k».proof.Proof.Gen.Kernel38.Frame
public import proofs.«01_k».proof.Proof.Call38
public import proofs.«01_k».proof.Proof.Gen.Kernel39.Frame
public import proofs.«01_k».proof.Proof.Call39
public import proofs.«01_k».proof.Proof.Gen.Kernel40.Frame
public import proofs.«01_k».proof.Proof.Call40
public import proofs.«01_k».proof.Proof.Gen.Kernel41.Frame
public import proofs.«01_k».proof.Proof.Call41
public import proofs.«01_k».proof.Proof.Gen.Kernel42.Frame
public import proofs.«01_k».proof.Proof.Call42
public import proofs.«01_k».proof.Proof.Gen.Kernel43.Frame
public import proofs.«01_k».proof.Proof.Call43
public import proofs.«01_k».proof.Proof.Gen.Kernel44.Frame
public import proofs.«01_k».proof.Proof.Call44
public import proofs.«01_k».proof.Proof.Gen.Kernel45.Frame
public import proofs.«01_k».proof.Proof.Call45
public import Idealize.ShloMosaic.Adequacy
public import Idealize.ShloMosaic.Init

@[expose] public section

noncomputable section

namespace Cert.Proof

open Idealize.ShloMosaic Idealize.SL.Sem

/-- The reference of the attention runs, leaves its arguments as they were and has no counter to leave nonzero. -/
theorem frame_reference : Cert.quiescent_ReferenceIdeal := fun m ρ _ =>
  (θ_run Cert.ReferenceIdeal.defs _ _).mono
    (fun r h => ⟨fun c => (h c).2.2.2, Idealize.ShloMosaic.sem_eq_zero_of_no_sems (by decide) r.2⟩)
    (Cert.ReferenceIdeal.Value.run (F := Ideal) m ρ)

/-- The reference of the feed-forward input's gradients runs, leaves its arguments as they were and has no counter to leave nonzero. -/
theorem frame_reference2 : Cert.quiescent_Reference2Ideal := fun m ρ _ =>
  (θ_run Cert.Reference2Ideal.defs _ _).mono
    (fun r h => ⟨fun c => (h c).2.2.2, Idealize.ShloMosaic.sem_eq_zero_of_no_sems (by decide) r.2⟩)
    (Cert.Reference2Ideal.Value.run (F := Ideal) m ρ)

/-- The reference of the feed-forward input runs, leaves its arguments as they were and has no counter to leave nonzero. -/
theorem frame_reference3 : Cert.quiescent_Reference3Ideal := fun m ρ _ =>
  (θ_run Cert.Reference3Ideal.defs _ _).mono
    (fun r h => ⟨fun c => (h c).2.2.2, Idealize.ShloMosaic.sem_eq_zero_of_no_sems (by decide) r.2⟩)
    (Cert.Reference3Ideal.Value.run (F := Ideal) m ρ)

/-- The reference of the input projection's input gradient runs, leaves its arguments as they were and has no counter to leave nonzero. -/
theorem frame_reference4 : Cert.quiescent_Reference4Ideal := fun m ρ _ =>
  (θ_run Cert.Reference4Ideal.defs _ _).mono
    (fun r h => ⟨fun c => (h c).2, Idealize.ShloMosaic.sem_eq_zero_of_no_sems (by decide) r.2⟩)
    (Cert.Reference4Ideal.Value.run (F := Ideal) m ρ)

/-- The reference of the input projection runs, leaves its arguments as they were and has no counter to leave nonzero. -/
theorem frame_reference5 : Cert.quiescent_Reference5Ideal := fun m ρ _ =>
  (θ_run Cert.Reference5Ideal.defs _ _).mono
    (fun r h => ⟨fun c => (h c).2.2.2.2.2, Idealize.ShloMosaic.sem_eq_zero_of_no_sems (by decide) r.2⟩)
    (Cert.Reference5Ideal.Value.run (F := Ideal) m ρ)

/-- The reference of the input projection's weight gradients runs, leaves its arguments as they were and has no counter to leave nonzero. -/
theorem frame_reference6 : Cert.quiescent_Reference6Ideal := fun m ρ _ =>
  (θ_run Cert.Reference6Ideal.defs _ _).mono
    (fun r h => ⟨fun c => (h c).2.2.2.2, Idealize.ShloMosaic.sem_eq_zero_of_no_sems (by decide) r.2⟩)
    (Cert.Reference6Ideal.Value.run (F := Ideal) m ρ)

/-- The reference of the feed-forward output's weight gradient runs, leaves its arguments as they were and has no counter to leave nonzero. -/
theorem frame_reference7 : Cert.quiescent_Reference7Ideal := fun m ρ _ =>
  (θ_run Cert.Reference7Ideal.defs _ _).mono
    (fun r h => ⟨fun c => (h c).2, Idealize.ShloMosaic.sem_eq_zero_of_no_sems (by decide) r.2⟩)
    (Cert.Reference7Ideal.Value.run (F := Ideal) m ρ)

/-- The reference of the feed-forward output's input gradient runs, leaves its arguments as they were and has no counter to leave nonzero. -/
theorem frame_reference8 : Cert.quiescent_Reference8Ideal := fun m ρ _ =>
  (θ_run Cert.Reference8Ideal.defs _ _).mono
    (fun r h => ⟨fun c => (h c).2, Idealize.ShloMosaic.sem_eq_zero_of_no_sems (by decide) r.2⟩)
    (Cert.Reference8Ideal.Value.run (F := Ideal) m ρ)

/-- The reference of the feed-forward output runs, leaves its arguments as they were and has no counter to leave nonzero. -/
theorem frame_reference9 : Cert.quiescent_Reference9Ideal := fun m ρ _ =>
  (θ_run Cert.Reference9Ideal.defs _ _).mono
    (fun r h => ⟨fun c => (h c).2, Idealize.ShloMosaic.sem_eq_zero_of_no_sems (by decide) r.2⟩)
    (Cert.Reference9Ideal.Value.run (F := Ideal) m ρ)

/-- The reference of the output projection's input gradients runs, leaves its arguments as they were and has no counter to leave nonzero. -/
theorem frame_reference10 : Cert.quiescent_Reference10Ideal := fun m ρ _ =>
  (θ_run Cert.Reference10Ideal.defs _ _).mono
    (fun r h => ⟨fun c => (h c).2.2, Idealize.ShloMosaic.sem_eq_zero_of_no_sems (by decide) r.2⟩)
    (Cert.Reference10Ideal.Value.run (F := Ideal) m ρ)

/-- The reference of the output projection's weight gradients runs, leaves its arguments as they were and has no counter to leave nonzero. -/
theorem frame_reference11 : Cert.quiescent_Reference11Ideal := fun m ρ _ =>
  (θ_run Cert.Reference11Ideal.defs _ _).mono
    (fun r h => ⟨fun c => (h c).2.2, Idealize.ShloMosaic.sem_eq_zero_of_no_sems (by decide) r.2⟩)
    (Cert.Reference11Ideal.Value.run (F := Ideal) m ρ)

/-- The reference of the scan inputs' weight gradient runs, leaves its arguments as they were and has no counter to leave nonzero. -/
theorem frame_reference12 : Cert.quiescent_Reference12Ideal := fun m ρ _ =>
  (θ_run Cert.Reference12Ideal.defs _ _).mono
    (fun r h => ⟨fun c => (h c).2, Idealize.ShloMosaic.sem_eq_zero_of_no_sems (by decide) r.2⟩)
    (Cert.Reference12Ideal.Value.run (F := Ideal) m ρ)

/-- The reference of the output projection runs, leaves its arguments as they were and has no counter to leave nonzero. -/
theorem frame_reference13 : Cert.quiescent_Reference13Ideal := fun m ρ _ =>
  (θ_run Cert.Reference13Ideal.defs _ _).mono
    (fun r h => ⟨fun c => (h c).2.2, Idealize.ShloMosaic.sem_eq_zero_of_no_sems (by decide) r.2⟩)
    (Cert.Reference13Ideal.Value.run (F := Ideal) m ρ)

/-- The reference of the attention projections' weight gradient runs, leaves its arguments as they were and has no counter to leave nonzero. -/
theorem frame_reference14 : Cert.quiescent_Reference14Ideal := fun m ρ _ =>
  (θ_run Cert.Reference14Ideal.defs _ _).mono
    (fun r h => ⟨fun c => (h c).2, Idealize.ShloMosaic.sem_eq_zero_of_no_sems (by decide) r.2⟩)
    (Cert.Reference14Ideal.Value.run (F := Ideal) m ρ)

/-- The reference of the attention projections' input gradient runs, leaves its arguments as they were and has no counter to leave nonzero. -/
theorem frame_reference15 : Cert.quiescent_Reference15Ideal := fun m ρ _ =>
  (θ_run Cert.Reference15Ideal.defs _ _).mono
    (fun r h => ⟨fun c => (h c).2, Idealize.ShloMosaic.sem_eq_zero_of_no_sems (by decide) r.2⟩)
    (Cert.Reference15Ideal.Value.run (F := Ideal) m ρ)

/-- The reference of the query projection runs, leaves its arguments as they were and has no counter to leave nonzero. -/
theorem frame_reference16 : Cert.quiescent_Reference16Ideal := fun m ρ _ =>
  (θ_run Cert.Reference16Ideal.defs _ _).mono
    (fun r h => ⟨fun c => (h c).2, Idealize.ShloMosaic.sem_eq_zero_of_no_sems (by decide) r.2⟩)
    (Cert.Reference16Ideal.Value.run (F := Ideal) m ρ)

/-- The reference of the attention's output projection runs, leaves its arguments as they were and has no counter to leave nonzero. -/
theorem frame_reference17 : Cert.quiescent_Reference17Ideal := fun m ρ _ =>
  (θ_run Cert.Reference17Ideal.defs _ _).mono
    (fun r h => ⟨fun c => (h c).2.2, Idealize.ShloMosaic.sem_eq_zero_of_no_sems (by decide) r.2⟩)
    (Cert.Reference17Ideal.Value.run (F := Ideal) m ρ)

/-- The reference of the sum of the small gradients runs, leaves its arguments as they were and has no counter to leave nonzero. -/
theorem frame_reference18 : Cert.quiescent_Reference18Ideal := fun m ρ _ =>
  (θ_run Cert.Reference18Ideal.defs _ _).mono
    (fun r h => ⟨fun c => (h c).2, Idealize.ShloMosaic.sem_eq_zero_of_no_sems (by decide) r.2⟩)
    (Cert.Reference18Ideal.Value.run (F := Ideal) m ρ)

/-- The reference of the first norm's input gradient runs, leaves its arguments as they were and has no counter to leave nonzero. -/
theorem frame_reference19 : Cert.quiescent_Reference19Ideal := fun m ρ _ =>
  (θ_run Cert.Reference19Ideal.defs _ _).mono
    (fun r h => ⟨fun c => (h c).2.2, Idealize.ShloMosaic.sem_eq_zero_of_no_sems (by decide) r.2⟩)
    (Cert.Reference19Ideal.Value.run (F := Ideal) m ρ)

/-- The reference of the optimiser on the scan convolution runs, leaves its arguments as they were and has no counter to leave nonzero. -/
theorem frame_reference20 : Cert.quiescent_Reference20Ideal := fun m ρ _ =>
  (θ_run Cert.Reference20Ideal.defs _ _).mono
    (fun r h => ⟨fun c => (h c).2.2.2.2, Idealize.ShloMosaic.sem_eq_zero_of_no_sems (by decide) r.2⟩)
    (Cert.Reference20Ideal.Value.run (F := Ideal) m ρ)

/-- The reference of the optimiser on the other convolution runs, leaves its arguments as they were and has no counter to leave nonzero. -/
theorem frame_reference21 : Cert.quiescent_Reference21Ideal := fun m ρ _ =>
  (θ_run Cert.Reference21Ideal.defs _ _).mono
    (fun r h => ⟨fun c => (h c).2.2.2.2, Idealize.ShloMosaic.sem_eq_zero_of_no_sems (by decide) r.2⟩)
    (Cert.Reference21Ideal.Value.run (F := Ideal) m ρ)

/-- The reference of the optimiser on the output projection runs, leaves its arguments as they were and has no counter to leave nonzero. -/
theorem frame_reference26 : Cert.quiescent_Reference26Ideal := fun m ρ _ =>
  (θ_run Cert.Reference26Ideal.defs _ _).mono
    (fun r h => ⟨fun c => (h c).2.2.2.2, Idealize.ShloMosaic.sem_eq_zero_of_no_sems (by decide) r.2⟩)
    (Cert.Reference26Ideal.Value.run (F := Ideal) m ρ)

/-- The reference of the optimiser on the input projection runs, leaves its arguments as they were and has no counter to leave nonzero. -/
theorem frame_reference27 : Cert.quiescent_Reference27Ideal := fun m ρ _ =>
  (θ_run Cert.Reference27Ideal.defs _ _).mono
    (fun r h => ⟨fun c => (h c).2.2.2.2, Idealize.ShloMosaic.sem_eq_zero_of_no_sems (by decide) r.2⟩)
    (Cert.Reference27Ideal.Value.run (F := Ideal) m ρ)

/-- The reference of the optimiser on the query projection runs, leaves its arguments as they were and has no counter to leave nonzero. -/
theorem frame_reference28 : Cert.quiescent_Reference28Ideal := fun m ρ _ =>
  (θ_run Cert.Reference28Ideal.defs _ _).mono
    (fun r h => ⟨fun c => (h c).2.2.2.2, Idealize.ShloMosaic.sem_eq_zero_of_no_sems (by decide) r.2⟩)
    (Cert.Reference28Ideal.Value.run (F := Ideal) m ρ)

/-- The reference of the optimiser on the key and value projection runs, leaves its arguments as they were and has no counter to leave nonzero. -/
theorem frame_reference29 : Cert.quiescent_Reference29Ideal := fun m ρ _ =>
  (θ_run Cert.Reference29Ideal.defs _ _).mono
    (fun r h => ⟨fun c => (h c).2.2.2.2, Idealize.ShloMosaic.sem_eq_zero_of_no_sems (by decide) r.2⟩)
    (Cert.Reference29Ideal.Value.run (F := Ideal) m ρ)

/-- The reference of the optimiser on the gate projection runs, leaves its arguments as they were and has no counter to leave nonzero. -/
theorem frame_reference30 : Cert.quiescent_Reference30Ideal := fun m ρ _ =>
  (θ_run Cert.Reference30Ideal.defs _ _).mono
    (fun r h => ⟨fun c => (h c).2.2.2.2, Idealize.ShloMosaic.sem_eq_zero_of_no_sems (by decide) r.2⟩)
    (Cert.Reference30Ideal.Value.run (F := Ideal) m ρ)

/-- The reference of the feed-forward norm's input gradient runs, leaves its arguments as they were and has no counter to leave nonzero. -/
theorem frame_reference34 : Cert.quiescent_Reference34Ideal := fun m ρ _ =>
  (θ_run Cert.Reference34Ideal.defs _ _).mono
    (fun r h => ⟨fun c => (h c).2.2, Idealize.ShloMosaic.sem_eq_zero_of_no_sems (by decide) r.2⟩)
    (Cert.Reference34Ideal.Value.run (F := Ideal) m ρ)

/-- The reference of the memory norm's weight gradient runs, leaves its arguments as they were and has no counter to leave nonzero. -/
theorem frame_reference36 : Cert.quiescent_Reference36Ideal := fun m ρ _ =>
  (θ_run Cert.Reference36Ideal.defs _ _).mono
    (fun r h => ⟨fun c => (h c).2, Idealize.ShloMosaic.sem_eq_zero_of_no_sems (by decide) r.2⟩)
    (Cert.Reference36Ideal.Value.run (F := Ideal) m ρ)

/-- The reference of the key and value projection runs, leaves its arguments as they were and has no counter to leave nonzero. -/
theorem frame_reference37 : Cert.quiescent_Reference37Ideal := fun m ρ _ =>
  (θ_run Cert.Reference37Ideal.defs _ _).mono
    (fun r h => ⟨fun c => (h c).2, Idealize.ShloMosaic.sem_eq_zero_of_no_sems (by decide) r.2⟩)
    (Cert.Reference37Ideal.Value.run (F := Ideal) m ρ)

/-- The reference of the key and value projection's input gradient runs, leaves its arguments as they were and has no counter to leave nonzero. -/
theorem frame_reference38 : Cert.quiescent_Reference38Ideal := fun m ρ _ =>
  (θ_run Cert.Reference38Ideal.defs _ _).mono
    (fun r h => ⟨fun c => (h c).2, Idealize.ShloMosaic.sem_eq_zero_of_no_sems (by decide) r.2⟩)
    (Cert.Reference38Ideal.Value.run (F := Ideal) m ρ)

/-- The reference of the key and value projection's weight gradient runs, leaves its arguments as they were and has no counter to leave nonzero. -/
theorem frame_reference39 : Cert.quiescent_Reference39Ideal := fun m ρ _ =>
  (θ_run Cert.Reference39Ideal.defs _ _).mono
    (fun r h => ⟨fun c => (h c).2, Idealize.ShloMosaic.sem_eq_zero_of_no_sems (by decide) r.2⟩)
    (Cert.Reference39Ideal.Value.run (F := Ideal) m ρ)

/-- The reference of the layer norm's gradients runs, leaves its arguments as they were and has no counter to leave nonzero. -/
theorem frame_reference40 : Cert.quiescent_Reference40Ideal := fun m ρ _ =>
  (θ_run Cert.Reference40Ideal.defs _ _).mono
    (fun r h => ⟨fun c => (h c).2.2.2, Idealize.ShloMosaic.sem_eq_zero_of_no_sems (by decide) r.2⟩)
    (Cert.Reference40Ideal.Value.run (F := Ideal) m ρ)

/-- The reference of the first norm runs, leaves its arguments as they were and has no counter to leave nonzero. -/
theorem frame_reference41 : Cert.quiescent_Reference41Ideal := fun m ρ _ =>
  (θ_run Cert.Reference41Ideal.defs _ _).mono
    (fun r h => ⟨fun c => (h c).2, Idealize.ShloMosaic.sem_eq_zero_of_no_sems (by decide) r.2⟩)
    (Cert.Reference41Ideal.Value.run (F := Ideal) m ρ)

/-- The reference of the layer norm runs, leaves its arguments as they were and has no counter to leave nonzero. -/
theorem frame_reference42 : Cert.quiescent_Reference42Ideal := fun m ρ _ =>
  (θ_run Cert.Reference42Ideal.defs _ _).mono
    (fun r h => ⟨fun c => (h c).2, Idealize.ShloMosaic.sem_eq_zero_of_no_sems (by decide) r.2⟩)
    (Cert.Reference42Ideal.Value.run (F := Ideal) m ρ)

/-- The reference of the loss head runs, leaves its arguments as they were and has no counter to leave nonzero. -/
theorem frame_reference43 : Cert.quiescent_Reference43Ideal := fun m ρ _ =>
  (θ_run Cert.Reference43Ideal.defs _ _).mono
    (fun r h => ⟨fun c => (h c).2.2.2, Idealize.ShloMosaic.sem_eq_zero_of_no_sems (by decide) r.2⟩)
    (Cert.Reference43Ideal.Value.run (F := Ideal) m ρ)

/-- The reference of the memory's norm runs, leaves its arguments as they were and has no counter to leave nonzero. -/
theorem frame_reference44 : Cert.quiescent_Reference44Ideal := fun m ρ _ =>
  (θ_run Cert.Reference44Ideal.defs _ _).mono
    (fun r h => ⟨fun c => (h c).2, Idealize.ShloMosaic.sem_eq_zero_of_no_sems (by decide) r.2⟩)
    (Cert.Reference44Ideal.Value.run (F := Ideal) m ρ)

/-- The reference of the attention's forward call runs, leaves its arguments as they were and has no counter to leave nonzero. -/
theorem frame_reference45 : Cert.quiescent_Reference45Ideal := fun m ρ _ =>
  (θ_run Cert.Reference45Ideal.defs _ _).mono
    (fun r h => ⟨fun c => (h c).2, Idealize.ShloMosaic.sem_eq_zero_of_no_sems (by decide) r.2⟩)
    (Cert.Reference45Ideal.Value.run (F := Ideal) m ρ)

/-- The precondition has no side conditions. -/
instance facts_owner26 : Cert.Pre_owner_is_a_device26.Facts := ⟨⟩

/-- The precondition has no side conditions. -/
instance facts_owner27 : Cert.Pre_owner_is_a_device27.Facts := ⟨⟩

/-- The precondition has no side conditions. -/
instance facts_owner28 : Cert.Pre_owner_is_a_device28.Facts := ⟨⟩

/-- The precondition has no side conditions. -/
instance facts_owner29 : Cert.Pre_owner_is_a_device29.Facts := ⟨⟩

/-- The precondition has no side conditions. -/
instance facts_owner30 : Cert.Pre_owner_is_a_device30.Facts := ⟨⟩

/-- Everything claimed of the calls. -/
theorem claim : Cert.Claim := ⟨
  Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Kernel15.Gen.facts, Cert.Kernel15Ideal.Gen.facts, Cert.Reference15Ideal.Gen.facts, Cert.Kernel16.Gen.facts, Cert.Kernel16Ideal.Gen.facts, Cert.Reference16Ideal.Gen.facts, Cert.Kernel17.Gen.facts, Cert.Kernel17Ideal.Gen.facts, Cert.Reference17Ideal.Gen.facts, Cert.Kernel18.Gen.facts, Cert.Kernel18Ideal.Gen.facts, Cert.Reference18Ideal.Gen.facts, Cert.Kernel19.Gen.facts, Cert.Kernel19Ideal.Gen.facts, Cert.Reference19Ideal.Gen.facts, Cert.Kernel20.Gen.facts, Cert.Kernel20Ideal.Gen.facts, Cert.Reference20Ideal.Gen.facts, Cert.Kernel21.Gen.facts, Cert.Kernel21Ideal.Gen.facts, Cert.Reference21Ideal.Gen.facts, Cert.Kernel26.Gen.facts, Cert.Kernel26Ideal.Gen.facts, Cert.Reference26Ideal.Gen.facts, Cert.Kernel27.Gen.facts, Cert.Kernel27Ideal.Gen.facts, Cert.Reference27Ideal.Gen.facts, Cert.Kernel28.Gen.facts, Cert.Kernel28Ideal.Gen.facts, Cert.Reference28Ideal.Gen.facts, Cert.Kernel29.Gen.facts, Cert.Kernel29Ideal.Gen.facts, Cert.Reference29Ideal.Gen.facts, Cert.Kernel30.Gen.facts, Cert.Kernel30Ideal.Gen.facts, Cert.Reference30Ideal.Gen.facts, Cert.Kernel34.Gen.facts, Cert.Kernel34Ideal.Gen.facts, Cert.Reference34Ideal.Gen.facts, Cert.Kernel36.Gen.facts, Cert.Kernel36Ideal.Gen.facts, Cert.Reference36Ideal.Gen.facts, Cert.Kernel37.Gen.facts, Cert.Kernel37Ideal.Gen.facts, Cert.Reference37Ideal.Gen.facts, Cert.Kernel38.Gen.facts, Cert.Kernel38Ideal.Gen.facts, Cert.Reference38Ideal.Gen.facts, Cert.Kernel39.Gen.facts, Cert.Kernel39Ideal.Gen.facts, Cert.Reference39Ideal.Gen.facts, Cert.Kernel40.Gen.facts, Cert.Kernel40Ideal.Gen.facts, Cert.Reference40Ideal.Gen.facts, Cert.Kernel41.Gen.facts, Cert.Kernel41Ideal.Gen.facts, Cert.Reference41Ideal.Gen.facts, Cert.Kernel42.Gen.facts, Cert.Kernel42Ideal.Gen.facts, Cert.Reference42Ideal.Gen.facts, Cert.Kernel43.Gen.facts, Cert.Kernel43Ideal.Gen.facts, Cert.Reference43Ideal.Gen.facts, Cert.Kernel44.Gen.facts, Cert.Kernel44Ideal.Gen.facts, Cert.Reference44Ideal.Gen.facts, Cert.Kernel45.Gen.facts, Cert.Kernel45Ideal.Gen.facts, Cert.Reference45Ideal.Gen.facts, ⟨⟩, ⟨⟩, ⟨⟩, ⟨⟩, ⟨⟩,
  fun m ρ _ => Cert.Kernel.Gen.frame m ρ, fun m ρ _ => Cert.KernelIdeal.Gen.frame m ρ, frame_reference,
  fun m ρ _ => Cert.Kernel2.Gen.frame m ρ, fun m ρ _ => Cert.Kernel2Ideal.Gen.frame m ρ, frame_reference2,
  fun m ρ _ => Cert.Kernel3.Gen.frame m ρ, fun m ρ _ => Cert.Kernel3Ideal.Gen.frame m ρ, frame_reference3,
  fun m ρ _ => Cert.Kernel4.Gen.frame m ρ, fun m ρ _ => Cert.Kernel4Ideal.Gen.frame m ρ, frame_reference4,
  fun m ρ _ => Cert.Kernel5.Gen.frame m ρ, fun m ρ _ => Cert.Kernel5Ideal.Gen.frame m ρ, frame_reference5,
  fun m ρ _ => Cert.Kernel6.Gen.frame m ρ, fun m ρ _ => Cert.Kernel6Ideal.Gen.frame m ρ, frame_reference6,
  fun m ρ _ => Cert.Kernel7.Gen.frame m ρ, fun m ρ _ => Cert.Kernel7Ideal.Gen.frame m ρ, frame_reference7,
  fun m ρ _ => Cert.Kernel8.Gen.frame m ρ, fun m ρ _ => Cert.Kernel8Ideal.Gen.frame m ρ, frame_reference8,
  fun m ρ _ => Cert.Kernel9.Gen.frame m ρ, fun m ρ _ => Cert.Kernel9Ideal.Gen.frame m ρ, frame_reference9,
  fun m ρ _ => Cert.Kernel10.Gen.frame m ρ, fun m ρ _ => Cert.Kernel10Ideal.Gen.frame m ρ, frame_reference10,
  fun m ρ _ => Cert.Kernel11.Gen.frame m ρ, fun m ρ _ => Cert.Kernel11Ideal.Gen.frame m ρ, frame_reference11,
  fun m ρ _ => Cert.Kernel12.Gen.frame m ρ, fun m ρ _ => Cert.Kernel12Ideal.Gen.frame m ρ, frame_reference12,
  fun m ρ _ => Cert.Kernel13.Gen.frame m ρ, fun m ρ _ => Cert.Kernel13Ideal.Gen.frame m ρ, frame_reference13,
  fun m ρ _ => Cert.Kernel14.Gen.frame m ρ, fun m ρ _ => Cert.Kernel14Ideal.Gen.frame m ρ, frame_reference14,
  fun m ρ _ => Cert.Kernel15.Gen.frame m ρ, fun m ρ _ => Cert.Kernel15Ideal.Gen.frame m ρ, frame_reference15,
  fun m ρ _ => Cert.Kernel16.Gen.frame m ρ, fun m ρ _ => Cert.Kernel16Ideal.Gen.frame m ρ, frame_reference16,
  fun m ρ _ => Cert.Kernel17.Gen.frame m ρ, fun m ρ _ => Cert.Kernel17Ideal.Gen.frame m ρ, frame_reference17,
  fun m ρ _ => Cert.Kernel18.Gen.frame m ρ, fun m ρ _ => Cert.Kernel18Ideal.Gen.frame m ρ, frame_reference18,
  fun m ρ _ => Cert.Kernel19.Gen.frame m ρ, fun m ρ _ => Cert.Kernel19Ideal.Gen.frame m ρ, frame_reference19,
  fun m ρ _ => Cert.Kernel20.Gen.frame m ρ, fun m ρ _ => Cert.Kernel20Ideal.Gen.frame m ρ, frame_reference20,
  fun m ρ _ => Cert.Kernel21.Gen.frame m ρ, fun m ρ _ => Cert.Kernel21Ideal.Gen.frame m ρ, frame_reference21,
  fun m ρ h => Cert.Kernel26.Gen.frame m ρ (Cert.Call26.Exact.ok_of_pre m h), fun m ρ h => Cert.Kernel26Ideal.Gen.frame m ρ (Cert.Call26.Real.ok_of_pre m h), frame_reference26, fun m ρ _ => frame_reference26 m ρ trivial,
  fun m ρ h => Cert.Kernel27.Gen.frame m ρ (Cert.Call27.Exact.ok_of_pre m h), fun m ρ h => Cert.Kernel27Ideal.Gen.frame m ρ (Cert.Call27.Real.ok_of_pre m h), frame_reference27, fun m ρ _ => frame_reference27 m ρ trivial,
  fun m ρ h => Cert.Kernel28.Gen.frame m ρ (Cert.Call28.Exact.ok_of_pre m h), fun m ρ h => Cert.Kernel28Ideal.Gen.frame m ρ (Cert.Call28.Real.ok_of_pre m h), frame_reference28, fun m ρ _ => frame_reference28 m ρ trivial,
  fun m ρ h => Cert.Kernel29.Gen.frame m ρ (Cert.Call29.Exact.ok_of_pre m h), fun m ρ h => Cert.Kernel29Ideal.Gen.frame m ρ (Cert.Call29.Real.ok_of_pre m h), frame_reference29, fun m ρ _ => frame_reference29 m ρ trivial,
  fun m ρ h => Cert.Kernel30.Gen.frame m ρ (Cert.Call30.Exact.ok_of_pre m h), fun m ρ h => Cert.Kernel30Ideal.Gen.frame m ρ (Cert.Call30.Real.ok_of_pre m h), frame_reference30, fun m ρ _ => frame_reference30 m ρ trivial,
  fun m ρ _ => Cert.Kernel34.Gen.frame m ρ, fun m ρ _ => Cert.Kernel34Ideal.Gen.frame m ρ, frame_reference34,
  fun m ρ _ => Cert.Kernel36.Gen.frame m ρ, fun m ρ _ => Cert.Kernel36Ideal.Gen.frame m ρ, frame_reference36,
  fun m ρ _ => Cert.Kernel37.Gen.frame m ρ, fun m ρ _ => Cert.Kernel37Ideal.Gen.frame m ρ, frame_reference37,
  fun m ρ _ => Cert.Kernel38.Gen.frame m ρ, fun m ρ _ => Cert.Kernel38Ideal.Gen.frame m ρ, frame_reference38,
  fun m ρ _ => Cert.Kernel39.Gen.frame m ρ, fun m ρ _ => Cert.Kernel39Ideal.Gen.frame m ρ, frame_reference39,
  fun m ρ _ => Cert.Kernel40.Gen.frame m ρ, fun m ρ _ => Cert.Kernel40Ideal.Gen.frame m ρ, frame_reference40,
  fun m ρ _ => Cert.Kernel41.Gen.frame m ρ, fun m ρ _ => Cert.Kernel41Ideal.Gen.frame m ρ, frame_reference41,
  fun m ρ _ => Cert.Kernel42.Gen.frame m ρ, fun m ρ _ => Cert.Kernel42Ideal.Gen.frame m ρ, frame_reference42,
  fun m ρ _ => Cert.Kernel43.Gen.frame m ρ, fun m ρ _ => Cert.Kernel43Ideal.Gen.frame m ρ, frame_reference43,
  fun m ρ _ => Cert.Kernel44.Gen.frame m ρ, fun m ρ _ => Cert.Kernel44Ideal.Gen.frame m ρ, frame_reference44,
  fun m ρ _ => Cert.Kernel45.Gen.frame m ρ, fun m ρ _ => Cert.Kernel45Ideal.Gen.frame m ρ, frame_reference45,
  trivial, Cert.Att.equal,
  trivial, Cert.Call2.equal,
  trivial, Cert.Call3.equal,
  trivial, Cert.Call4.equal,
  trivial, Cert.Call5.equal,
  trivial, Cert.Call6.equal,
  trivial, Cert.Call7.equal,
  trivial, Cert.Call8.equal,
  trivial, Cert.Call9.equal,
  trivial, Cert.Call10.equal,
  trivial, Cert.Call11.equal,
  trivial, Cert.Call12.equal,
  trivial, Cert.Call13.equal,
  trivial, Cert.Call14.equal,
  trivial, Cert.Call15.equal,
  trivial, Cert.Call16.equal,
  trivial, Cert.Call17.equal,
  trivial, Cert.Call18.equal,
  trivial, Cert.Call19.equal,
  trivial, Cert.Call20.equal,
  trivial, Cert.Call21.equal,
  trivial, Cert.Call26.equal,
  trivial, Cert.Call27.equal,
  trivial, Cert.Call28.equal,
  trivial, Cert.Call29.equal,
  trivial, Cert.Call30.equal,
  trivial, Cert.Call34.equal,
  trivial, Cert.Call36.equal,
  trivial, Cert.Call37.equal,
  trivial, Cert.Call38.equal,
  trivial, Cert.Call39.equal,
  trivial, Cert.Call40.equal,
  trivial, Cert.Call41.equal,
  trivial, Cert.Call42.equal,
  trivial, Cert.Call43.equal,
  trivial, Cert.Call44.equal,
  trivial, Cert.Call45.equal⟩

end Cert.Proof

end
